-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v457) = v0 c
          ∧ r.2.mem ((c.tc : Thread Cert.ReferenceIdeal.nD Cert.ReferenceIdeal.τ).loc Cert.ReferenceIdeal.main_v455) = v1 c
          ∧ r.2.mem ((c.tc : Thread Cert.ReferenceIdeal.nD Cert.ReferenceIdeal.τ).loc Cert.ReferenceIdeal.main_v436) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x32x32 : Shape := ⟨4, ![32, 64, 32, 32]⟩
abbrev S64x256 : Shape := ⟨2, ![64, 256]⟩
abbrev S32x64x1024 : Shape := ⟨3, ![32, 64, 1024]⟩
abbrev S32x4x1024 : Shape := ⟨3, ![32, 4, 1024]⟩
abbrev S1x1 : Shape := ⟨2, ![1, 1]⟩
abbrev S1x64x1024 : Shape := ⟨3, ![1, 64, 1024]⟩
abbrev S1x4x1024 : Shape := ⟨3, ![1, 4, 1024]⟩
abbrev S256x64 : Shape := ⟨2, ![256, 64]⟩
abbrev S256x256 : Shape := ⟨2, ![256, 256]⟩
abbrev S256 : Shape := ⟨1, ![256]⟩
abbrev S1x256 : Shape := ⟨2, ![1, 256]⟩
abbrev S64x1024 : Shape := ⟨2, ![64, 1024]⟩
abbrev S256x1024 : Shape := ⟨2, ![256, 1024]⟩
abbrev S1024 : Shape := ⟨1, ![1024]⟩
abbrev S1x1024 : Shape := ⟨2, ![1, 1024]⟩
abbrev S4x1024 : Shape := ⟨2, ![4, 1024]⟩
abbrev S1 : Shape := ⟨1, ![1]⟩
abbrev S1x1x1 : Shape := ⟨3, ![1, 1, 1]⟩
abbrev S32x1024x4 : Shape := ⟨3, ![32, 1024, 4]⟩
abbrev S32x32x32x4 : Shape := ⟨4, ![32, 32, 32, 4]⟩
abbrev S_ : Shape := ⟨0, ![]⟩

abbrev nBuf : Space → Nat
  | .hbm => 15
  | .vmem => 11
  | .smem => 0
  | _ => 0

abbrev bufTy : (tb : Table) → Fin (tcTables nBuf tb) → BufTy
  | .hbm, ⟨0, _⟩ => ⟨S32x64x32x32, .f32⟩
  | .hbm, ⟨1, _⟩ => ⟨S64x256, .f32⟩
  | .hbm, ⟨2, _⟩ => ⟨S32x64x1024, .f32⟩
  | .hbm, ⟨3, _⟩ => ⟨S32x64x1024, .f32⟩
  | .hbm, ⟨4, _⟩ => ⟨S32x4x1024, .i32⟩
  | .hbm, ⟨5, _⟩ => ⟨S1x1, .f32⟩
  | .hbm, ⟨6, _⟩ => ⟨S32x64x32x32, .f32⟩
  | .hbm, ⟨7, _⟩ => ⟨S32x1024x4, .i32⟩
  | .hbm, ⟨8, _⟩ => ⟨S32x32x32x4, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x64x1024, .f32⟩
  | .local _ .vmem, ⟨1, _⟩ => ⟨S1x64x1024, .f32⟩
  | .local _ .vmem, ⟨2, _⟩ => ⟨S64x256, .f32⟩
  | .local _ .vmem, ⟨3, _⟩ => ⟨S1x64x1024, .f32⟩
  | .local _ .vmem, ⟨4, _⟩ => ⟨S1x64x1024, .f32⟩
  | .local _ .vmem, ⟨5, _⟩ => ⟨S1x4x1024, .i32⟩
  | .local _ .vmem, ⟨6, _⟩ => ⟨S1x4x1024, .i32⟩
  | .local _ .vmem, ⟨7, _⟩ => ⟨S1x1, .f32⟩
  | .local _ .vmem, ⟨8, _⟩ => ⟨S64x256, .bf16⟩
  | .local _ .vmem, ⟨9, _⟩ => ⟨S256x64, .bf16⟩
  | .local _ .vmem, ⟨10, _⟩ => ⟨S256x256, .f32⟩
  | _, _ => ⟨S32x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_90 : BitVec 32 := 0#32
  let v362 : BitVec 1 := Scalar.cmpi .eq arg0 c0_i32_90
  let v363 : BitVec 32 := Scalar.extui v362
  let c0_i32_91 : BitVec 32 := 0#32
  let v364 : BitVec 1 := Scalar.cmpi .ne v363 c0_i32_91
  v364

def k0_cond3 (i : grid0.Coords) : BitVec 1 :=
  let arg0 : BitVec 32 := BitVec.ofNat 32 (i 0).val
  let c0_i32_92 : BitVec 32 := 0#32
  let v365 : BitVec 1 := Scalar.cmpi .sgt arg0 c0_i32_92
  let v366 : BitVec 32 := Scalar.extui v365
  let c0_i32_93 : BitVec 32 := 0#32
  let v367 : BitVec 1 := Scalar.cmpi .ne v366 c0_i32_93
  v367

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x64x32x32 : Shape := ⟨4, ![32, 64, 32, 32]⟩
abbrev S64x256 : Shape := ⟨2, ![64, 256]⟩
abbrev S32x32x32x64 : Shape := ⟨4, ![32, 32, 32, 64]⟩
abbrev S32768x64 : Shape := ⟨2, ![32768, 64]⟩
abbrev S64x32768 : Shape := ⟨2, ![64, 32768]⟩
abbrev S_ : Shape := ⟨0, ![]⟩
abbrev S256 : Shape := ⟨1, ![256]⟩
abbrev S1x256 : Shape := ⟨2, ![1, 256]⟩
abbrev S256x64 : Shape := ⟨2, ![256, 64]⟩
abbrev S256x256 : Shape := ⟨2, ![256, 256]⟩
abbrev S256x32768 : Shape := ⟨2, ![256, 32768]⟩
abbrev S32768x256 : Shape := ⟨2, ![32768, 256]⟩
abbrev S32768 : Shape := ⟨1, ![32768]⟩
abbrev S32768x1 : Shape := ⟨2, ![32768, 1]⟩
abbrev S32768x1x1 : Shape := ⟨3, ![32768, 1, 1]⟩
abbrev S32768x1x2 : Shape := ⟨3, ![32768, 1, 2]⟩
abbrev S32768x1x256 : Shape := ⟨3, ![32768, 1, 256]⟩
abbrev S32768x2 : Shape := ⟨2, ![32768, 2]⟩
abbrev S32768x2x2 : Shape := ⟨3, ![32768, 2, 2]⟩
abbrev S32768x2x1 : Shape := ⟨3, ![32768, 2, 1]⟩
abbrev S32768x2x256 : Shape := ⟨3, ![32768, 2, 256]⟩
abbrev S32768x2x3 : Shape := ⟨3, ![32768, 2, 3]⟩
abbrev S32768x3 : Shape := ⟨2, ![32768, 3]⟩
abbrev S32768x1x3 : Shape := ⟨3, ![32768, 1, 3]⟩
abbrev S32768x3x3 : Shape := ⟨3, ![32768, 3, 3]⟩
abbrev S32768x3x1 : Shape := ⟨3, ![32768, 3, 1]⟩
abbrev S32768x3x2 : Shape := ⟨3, ![32768, 3, 2]⟩
abbrev S32768x3x256 : Shape := ⟨3, ![32768, 3, 256]⟩
abbrev S32768x3x4 : Shape := ⟨3, ![32768, 3, 4]⟩
abbrev S32768x4 : Shape := ⟨2, ![32768, 4]⟩
abbrev S32768x1x4 : Shape := ⟨3, ![32768, 1, 4]⟩
abbrev S32768x4x4 : Shape := ⟨3, ![32768, 4, 4]⟩
abbrev S32768x4x1 : Shape := ⟨3, ![32768, 4, 1]⟩
abbrev S32768x4x2 : Shape := ⟨3, ![32768, 4, 2]⟩
abbrev S32 : Shape := ⟨1, ![32]⟩
abbrev S1 : Shape := ⟨1, ![1]⟩
abbrev S33 : Shape := ⟨1, ![33]⟩
abbrev S32x32x32x4 : Shape := ⟨4, ![32, 32, 32, 4]⟩
abbrev S32768x4x64 : Shape := ⟨3, ![32768, 4, 64]⟩

abbrev nBuf : Space → Nat
  | .hbm => 538
  | .vmem => 0
  | .smem => 0
  | _ => 0

abbrev hbmTy0_0 (i : Nat) : BufTy := match i % 128 with
  | 0 => ⟨S32x64x32x32, .f32⟩
  | 1 => ⟨S64x256, .f32⟩
  | 2 => ⟨S32x32x32x64, .f32⟩
  | 3 => ⟨S32768x64, .f32⟩
  | 4 => ⟨S64x32768, .f32⟩
  | 5 => ⟨S64x256, .f32⟩
  | 6 => ⟨S_, .f32⟩
  | 7 => ⟨S256, .f32⟩
  | 8 => ⟨S1x256, .f32⟩
  | 9 => ⟨S1x256, .f32⟩
  | 10 => ⟨S_, .f32⟩
  | 11 => ⟨S1x256, .f32⟩
  | 12 => ⟨S1x256, .f32⟩
  | 13 => ⟨S64x256, .f32⟩
  | 14 => ⟨S64x256, .f32⟩
  | 15 => ⟨S256x64, .f32⟩
  | 16 => ⟨S256x256, .f32⟩
  | 17 => ⟨S256x64, .f32⟩
  | 18 => ⟨S256x32768, .f32⟩
  | 19 => ⟨S32768x256, .f32⟩
  | 20 => ⟨S32768, .i32⟩
  | 21 => ⟨S256, .i32⟩
  | 22 => ⟨S_, .i1⟩
  | 23 => ⟨S32768x256, .i1⟩
  | 24 => ⟨S32768x256, .i1⟩
  | 25 => ⟨S32768x256, .f32⟩
  | 26 => ⟨S32768x256, .f32⟩
  | 27 => ⟨S32768x256, .f32⟩
  | 28 => ⟨S32768x256, .i32⟩
  | 29 => ⟨S_, .f32⟩
  | 30 => ⟨S_, .i32⟩
  | 31 => ⟨S32768, .f32⟩
  | 32 => ⟨S32768, .i32⟩
  | 33 => ⟨S1x256, .i32⟩
  | 34 => ⟨S32768x1, .i32⟩
  | 35 => ⟨S32768x256, .i32⟩
  | 36 => ⟨S32768x256, .i32⟩
  | 37 => ⟨S32768x256, .i1⟩
  | 38 => ⟨S32768x256, .i1⟩
  | 39 => ⟨S32768x1, .i32⟩
  | 40 => ⟨S_, .f32⟩
  | 41 => ⟨S32768x1x1, .f32⟩
  | 42 => ⟨S32768x1, .i32⟩
  | 43 => ⟨S32768x1x1, .i32⟩
  | 44 => ⟨S32768x1x1, .i32⟩
  | 45 => ⟨S32768x1x2, .i32⟩
  | 46 => ⟨S32768x1, .f32⟩
  | 47 => ⟨S32768, .f32⟩
  | 48 => ⟨S32768, .f32⟩
  | 49 => ⟨S32768, .f32⟩
  | 50 => ⟨S32768x1, .f32⟩
  | 51 => ⟨S32768x1x1, .f32⟩
  | 52 => ⟨S32768, .f32⟩
  | 53 => ⟨S32768, .f32⟩
  | 54 => ⟨S32768, .f32⟩
  | 55 => ⟨S32768x1, .f32⟩
  | 56 => ⟨S32768x1x1, .i32⟩
  | 57 => ⟨S32768x1x256, .f32⟩
  | 58 => ⟨S32768x256, .f32⟩
  | 59 => ⟨S32768x256, .f32⟩
  | 60 => ⟨S32768x256, .i1⟩
  | 61 => ⟨S32768x256, .f32⟩
  | 62 => ⟨S32768x256, .f32⟩
  | 63 => ⟨S32768x256, .f32⟩
  | 64 => ⟨S32768x256, .i32⟩
  | 65 => ⟨S_, .f32⟩
  | 66 => ⟨S_, .i32⟩
  | 67 => ⟨S32768, .f32⟩
  | 68 => ⟨S32768, .i32⟩
  | 69 => ⟨S1x256, .i32⟩
  | 70 => ⟨S32768x1, .i32⟩
  | 71 => ⟨S32768x256, .i32⟩
  | 72 => ⟨S32768x256, .i32⟩
  | 73 => ⟨S32768x256, .i1⟩
  | 74 => ⟨S32768x256, .i1⟩
  | 75 => ⟨S32768x1, .i32⟩
  | 76 => ⟨S32768x1x1, .i32⟩
  | 77 => ⟨S32768x1x1, .i32⟩
  | 78 => ⟨S32768x1x2, .i32⟩
  | 79 => ⟨S32768x1, .f32⟩
  | 80 => ⟨S32768, .f32⟩
  | 81 => ⟨S32768, .f32⟩
  | 82 => ⟨S32768, .f32⟩
  | 83 => ⟨S32768x1, .f32⟩
  | 84 => ⟨S32768x1, .f32⟩
  | 85 => ⟨S_, .f32⟩
  | 86 => ⟨S32768, .f32⟩
  | 87 => ⟨S32768x1, .f32⟩
  | 88 => ⟨S_, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S32768x1, .f32⟩
  | 95 => ⟨S_, .f32⟩
  | 96 => ⟨S32768x1x1, .f32⟩
  | 97 => ⟨S32768x1x2, .f32⟩
  | 98 => ⟨S32768x2, .f32⟩
  | 99 => ⟨S32768x1x2, .f32⟩
  | 100 => ⟨S32768x2x2, .f32⟩
  | 101 => ⟨S32768x1, .i32⟩
  | 102 => ⟨S32768x2, .i32⟩
  | 103 => ⟨S32768x1, .i32⟩
  | 104 => ⟨S32768x2, .i32⟩
  | 105 => ⟨S32768x2x1, .i32⟩
  | 106 => ⟨S32768x2x1, .i32⟩
  | 107 => ⟨S32768x2x2, .i32⟩
  | 108 => ⟨S32768x2, .f32⟩
  | 109 => ⟨S32768x1, .f32⟩
  | 110 => ⟨S32768, .f32⟩
  | 111 => ⟨S32768x1x1, .f32⟩
  | 112 => ⟨S32768, .f32⟩
  | 113 => ⟨S32768, .f32⟩
  | 114 => ⟨S32768x1, .f32⟩
  | 115 => ⟨S32768, .f32⟩
  | 116 => ⟨S32768x1x1, .f32⟩
  | 117 => ⟨S32768, .f32⟩
  | 118 => ⟨S32768, .f32⟩
  | 119 => ⟨S32768, .f32⟩
  | 120 => ⟨S32768x1x1, .f32⟩
  | 121 => ⟨S32768, .f32⟩
  | 122 => ⟨S32768, .f32⟩
  | 123 => ⟨S32768x1, .f32⟩
  | 124 => ⟨S32768x1, .f32⟩
  | 125 => ⟨S32768x2, .f32⟩
  | 126 => ⟨S32768x2x2, .f32⟩
  | 127 => ⟨S32768x1, .f32⟩
  | _ => ⟨S32x64x32x32, .f32⟩

abbrev hbmTy0_1 (i : Nat) : BufTy := match i % 128 with
  | 0 => ⟨S32768, .f32⟩
  | 1 => ⟨S32768x1x1, .f32⟩
  | 2 => ⟨S32768, .f32⟩
  | 3 => ⟨S32768, .f32⟩
  | 4 => ⟨S32768x1, .f32⟩
  | 5 => ⟨S32768, .f32⟩
  | 6 => ⟨S32768x1x1, .f32⟩
  | 7 => ⟨S32768, .f32⟩
  | 8 => ⟨S32768, .f32⟩
  | 9 => ⟨S32768, .f32⟩
  | 10 => ⟨S32768x1x1, .f32⟩
  | 11 => ⟨S32768, .f32⟩
  | 12 => ⟨S32768, .f32⟩
  | 13 => ⟨S32768x1, .f32⟩
  | 14 => ⟨S32768x1, .f32⟩
  | 15 => ⟨S32768x2, .f32⟩
  | 16 => ⟨S32768x2x1, .i32⟩
  | 17 => ⟨S32768x2x256, .f32⟩
  | 18 => ⟨S32768x256, .f32⟩
  | 19 => ⟨S32768x256, .f32⟩
  | 20 => ⟨S32768x256, .i1⟩
  | 21 => ⟨S32768x256, .f32⟩
  | 22 => ⟨S32768x256, .f32⟩
  | 23 => ⟨S32768x256, .f32⟩
  | 24 => ⟨S32768x256, .i32⟩
  | 25 => ⟨S_, .f32⟩
  | 26 => ⟨S_, .i32⟩
  | 27 => ⟨S32768, .f32⟩
  | 28 => ⟨S32768, .i32⟩
  | 29 => ⟨S1x256, .i32⟩
  | 30 => ⟨S32768x1, .i32⟩
  | 31 => ⟨S32768x256, .i32⟩
  | 32 => ⟨S32768x256, .i32⟩
  | 33 => ⟨S32768x256, .i1⟩
  | 34 => ⟨S32768x256, .i1⟩
  | 35 => ⟨S32768x1, .i32⟩
  | 36 => ⟨S32768x2, .i32⟩
  | 37 => ⟨S32768x2x1, .i32⟩
  | 38 => ⟨S32768x2x1, .i32⟩
  | 39 => ⟨S32768x2x2, .i32⟩
  | 40 => ⟨S32768x2, .f32⟩
  | 41 => ⟨S32768x1, .f32⟩
  | 42 => ⟨S32768, .f32⟩
  | 43 => ⟨S32768x1x1, .f32⟩
  | 44 => ⟨S32768, .f32⟩
  | 45 => ⟨S32768, .f32⟩
  | 46 => ⟨S32768x1, .f32⟩
  | 47 => ⟨S32768, .f32⟩
  | 48 => ⟨S32768x1x1, .f32⟩
  | 49 => ⟨S32768, .f32⟩
  | 50 => ⟨S32768, .f32⟩
  | 51 => ⟨S32768, .f32⟩
  | 52 => ⟨S32768x1x1, .f32⟩
  | 53 => ⟨S32768, .f32⟩
  | 54 => ⟨S32768, .f32⟩
  | 55 => ⟨S32768x1, .f32⟩
  | 56 => ⟨S32768x1, .f32⟩
  | 57 => ⟨S32768x2, .f32⟩
  | 58 => ⟨S32768x2, .f32⟩
  | 59 => ⟨S_, .f32⟩
  | 60 => ⟨S32768, .f32⟩
  | 61 => ⟨S32768x1, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S32768x1, .f32⟩
  | 69 => ⟨S_, .f32⟩
  | 70 => ⟨S32768x2x1, .f32⟩
  | 71 => ⟨S32768x2x3, .f32⟩
  | 72 => ⟨S32768x3, .f32⟩
  | 73 => ⟨S32768x1x3, .f32⟩
  | 74 => ⟨S32768x3x3, .f32⟩
  | 75 => ⟨S32768x1, .i32⟩
  | 76 => ⟨S32768x3, .i32⟩
  | 77 => ⟨S32768x1, .i32⟩
  | 78 => ⟨S32768x3, .i32⟩
  | 79 => ⟨S32768x3x1, .i32⟩
  | 80 => ⟨S32768x3x1, .i32⟩
  | 81 => ⟨S32768x3x2, .i32⟩
  | 82 => ⟨S32768x3, .f32⟩
  | 83 => ⟨S32768x1, .f32⟩
  | 84 => ⟨S32768, .f32⟩
  | 85 => ⟨S32768x1x1, .f32⟩
  | 86 => ⟨S32768, .f32⟩
  | 87 => ⟨S32768, .f32⟩
  | 88 => ⟨S32768x1, .f32⟩
  | 89 => ⟨S32768, .f32⟩
  | 90 => ⟨S32768x1x1, .f32⟩
  | 91 => ⟨S32768, .f32⟩
  | 92 => ⟨S32768, .f32⟩
  | 93 => ⟨S32768, .f32⟩
  | 94 => ⟨S32768x1x1, .f32⟩
  | 95 => ⟨S32768, .f32⟩
  | 96 => ⟨S32768, .f32⟩
  | 97 => ⟨S32768x1, .f32⟩
  | 98 => ⟨S32768, .f32⟩
  | 99 => ⟨S32768x1x1, .f32⟩
  | 100 => ⟨S32768, .f32⟩
  | 101 => ⟨S32768, .f32⟩
  | 102 => ⟨S32768, .f32⟩
  | 103 => ⟨S32768x1x1, .f32⟩
  | 104 => ⟨S32768, .f32⟩
  | 105 => ⟨S32768, .f32⟩
  | 106 => ⟨S32768, .f32⟩
  | 107 => ⟨S32768x1x1, .f32⟩
  | 108 => ⟨S32768, .f32⟩
  | 109 => ⟨S32768, .f32⟩
  | 110 => ⟨S32768x1, .f32⟩
  | 111 => ⟨S32768x1, .f32⟩
  | 112 => ⟨S32768x1, .f32⟩
  | 113 => ⟨S32768x3, .f32⟩
  | 114 => ⟨S32768x3x3, .f32⟩
  | 115 => ⟨S32768x1, .f32⟩
  | 116 => ⟨S32768, .f32⟩
  | 117 => ⟨S32768x1x1, .f32⟩
  | 118 => ⟨S32768, .f32⟩
  | 119 => ⟨S32768, .f32⟩
  | 120 => ⟨S32768x1, .f32⟩
  | 121 => ⟨S32768, .f32⟩
  | 122 => ⟨S32768x1x1, .f32⟩
  | 123 => ⟨S32768, .f32⟩
  | 124 => ⟨S32768, .f32⟩
  | 125 => ⟨S32768, .f32⟩
  | 126 => ⟨S32768x1x1, .f32⟩
  | 127 => ⟨S32768, .f32⟩
  | _ => ⟨S32x64x32x32, .f32⟩

abbrev hbmTy0_2 (i : Nat) : BufTy := match i % 128 with
  | 0 => ⟨S32768, .f32⟩
  | 1 => ⟨S32768x1, .f32⟩
  | 2 => ⟨S32768, .f32⟩
  | 3 => ⟨S32768x1x1, .f32⟩
  | 4 => ⟨S32768, .f32⟩
  | 5 => ⟨S32768, .f32⟩
  | 6 => ⟨S32768, .f32⟩
  | 7 => ⟨S32768x1x1, .f32⟩
  | 8 => ⟨S32768, .f32⟩
  | 9 => ⟨S32768, .f32⟩
  | 10 => ⟨S32768, .f32⟩
  | 11 => ⟨S32768x1x1, .f32⟩
  | 12 => ⟨S32768, .f32⟩
  | 13 => ⟨S32768, .f32⟩
  | 14 => ⟨S32768x1, .f32⟩
  | 15 => ⟨S32768x1, .f32⟩
  | 16 => ⟨S32768x1, .f32⟩
  | 17 => ⟨S32768x3, .f32⟩
  | 18 => ⟨S32768x3x1, .i32⟩
  | 19 => ⟨S32768x3x256, .f32⟩
  | 20 => ⟨S32768x256, .f32⟩
  | 21 => ⟨S32768x256, .f32⟩
  | 22 => ⟨S32768x256, .i1⟩
  | 23 => ⟨S32768x256, .f32⟩
  | 24 => ⟨S32768x256, .f32⟩
  | 25 => ⟨S32768x256, .f32⟩
  | 26 => ⟨S32768x256, .i32⟩
  | 27 => ⟨S_, .f32⟩
  | 28 => ⟨S_, .i32⟩
  | 29 => ⟨S32768, .f32⟩
  | 30 => ⟨S32768, .i32⟩
  | 31 => ⟨S1x256, .i32⟩
  | 32 => ⟨S32768x1, .i32⟩
  | 33 => ⟨S32768x256, .i32⟩
  | 34 => ⟨S32768x256, .i32⟩
  | 35 => ⟨S32768x256, .i1⟩
  | 36 => ⟨S32768x256, .i1⟩
  | 37 => ⟨S32768x1, .i32⟩
  | 38 => ⟨S32768x3, .i32⟩
  | 39 => ⟨S32768x3x1, .i32⟩
  | 40 => ⟨S32768x3x1, .i32⟩
  | 41 => ⟨S32768x3x2, .i32⟩
  | 42 => ⟨S32768x3, .f32⟩
  | 43 => ⟨S32768x1, .f32⟩
  | 44 => ⟨S32768, .f32⟩
  | 45 => ⟨S32768x1x1, .f32⟩
  | 46 => ⟨S32768, .f32⟩
  | 47 => ⟨S32768, .f32⟩
  | 48 => ⟨S32768x1, .f32⟩
  | 49 => ⟨S32768, .f32⟩
  | 50 => ⟨S32768x1x1, .f32⟩
  | 51 => ⟨S32768, .f32⟩
  | 52 => ⟨S32768, .f32⟩
  | 53 => ⟨S32768, .f32⟩
  | 54 => ⟨S32768x1x1, .f32⟩
  | 55 => ⟨S32768, .f32⟩
  | 56 => ⟨S32768, .f32⟩
  | 57 => ⟨S32768x1, .f32⟩
  | 58 => ⟨S32768, .f32⟩
  | 59 => ⟨S32768x1x1, .f32⟩
  | 60 => ⟨S32768, .f32⟩
  | 61 => ⟨S32768, .f32⟩
  | 62 => ⟨S32768, .f32⟩
  | 63 => ⟨S32768x1x1, .f32⟩
  | 64 => ⟨S32768, .f32⟩
  | 65 => ⟨S32768, .f32⟩
  | 66 => ⟨S32768, .f32⟩
  | 67 => ⟨S32768x1x1, .f32⟩
  | 68 => ⟨S32768, .f32⟩
  | 69 => ⟨S32768, .f32⟩
  | 70 => ⟨S32768x1, .f32⟩
  | 71 => ⟨S32768x1, .f32⟩
  | 72 => ⟨S32768x1, .f32⟩
  | 73 => ⟨S32768x3, .f32⟩
  | 74 => ⟨S32768x3, .f32⟩
  | 75 => ⟨S_, .f32⟩
  | 76 => ⟨S32768, .f32⟩
  | 77 => ⟨S32768x1, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S32768x1, .f32⟩
  | 85 => ⟨S_, .f32⟩
  | 86 => ⟨S32768x3x1, .f32⟩
  | 87 => ⟨S32768x3x4, .f32⟩
  | 88 => ⟨S32768x4, .f32⟩
  | 89 => ⟨S32768x1x4, .f32⟩
  | 90 => ⟨S32768x4x4, .f32⟩
  | 91 => ⟨S32768x1, .i32⟩
  | 92 => ⟨S32768x4, .i32⟩
  | 93 => ⟨S32768x1, .i32⟩
  | 94 => ⟨S32768x4, .i32⟩
  | 95 => ⟨S32768x4x1, .i32⟩
  | 96 => ⟨S32768x4x1, .i32⟩
  | 97 => ⟨S32768x4x2, .i32⟩
  | 98 => ⟨S32768x4, .f32⟩
  | 99 => ⟨S32768x1, .f32⟩
  | 100 => ⟨S32768, .f32⟩
  | 101 => ⟨S32768x1x1, .f32⟩
  | 102 => ⟨S32768, .f32⟩
  | 103 => ⟨S32768, .f32⟩
  | 104 => ⟨S32768x1, .f32⟩
  | 105 => ⟨S32768, .f32⟩
  | 106 => ⟨S32768x1x1, .f32⟩
  | 107 => ⟨S32768, .f32⟩
  | 108 => ⟨S32768, .f32⟩
  | 109 => ⟨S32768, .f32⟩
  | 110 => ⟨S32768x1x1, .f32⟩
  | 111 => ⟨S32768, .f32⟩
  | 112 => ⟨S32768, .f32⟩
  | 113 => ⟨S32768x1, .f32⟩
  | 114 => ⟨S32768, .f32⟩
  | 115 => ⟨S32768x1x1, .f32⟩
  | 116 => ⟨S32768, .f32⟩
  | 117 => ⟨S32768, .f32⟩
  | 118 => ⟨S32768, .f32⟩
  | 119 => ⟨S32768x1x1, .f32⟩
  | 120 => ⟨S32768, .f32⟩
  | 121 => ⟨S32768, .f32⟩
  | 122 => ⟨S32768, .f32⟩
  | 123 => ⟨S32768x1x1, .f32⟩
  | 124 => ⟨S32768, .f32⟩
  | 125 => ⟨S32768, .f32⟩
  | 126 => ⟨S32768x1, .f32⟩
  | 127 => ⟨S32768, .f32⟩
  | _ => ⟨S32x64x32x32, .f32⟩

abbrev hbmTy0_3 (i : Nat) : BufTy := match i % 128 with
  | 0 => ⟨S32768x1x1, .f32⟩
  | 1 => ⟨S32768, .f32⟩
  | 2 => ⟨S32768, .f32⟩
  | 3 => ⟨S32768, .f32⟩
  | 4 => ⟨S32768x1x1, .f32⟩
  | 5 => ⟨S32768, .f32⟩
  | 6 => ⟨S32768, .f32⟩
  | 7 => ⟨S32768, .f32⟩
  | 8 => ⟨S32768x1x1, .f32⟩
  | 9 => ⟨S32768, .f32⟩
  | 10 => ⟨S32768, .f32⟩
  | 11 => ⟨S32768, .f32⟩
  | 12 => ⟨S32768x1x1, .f32⟩
  | 13 => ⟨S32768, .f32⟩
  | 14 => ⟨S32768, .f32⟩
  | 15 => ⟨S32768x1, .f32⟩
  | 16 => ⟨S32768x1, .f32⟩
  | 17 => ⟨S32768x1, .f32⟩
  | 18 => ⟨S32768x1, .f32⟩
  | 19 => ⟨S32768x4, .f32⟩
  | 20 => ⟨S32768x4x4, .f32⟩
  | 21 => ⟨S32768x1, .f32⟩
  | 22 => ⟨S32768, .f32⟩
  | 23 => ⟨S32768x1x1, .f32⟩
  | 24 => ⟨S32768, .f32⟩
  | 25 => ⟨S32768, .f32⟩
  | 26 => ⟨S32768x1, .f32⟩
  | 27 => ⟨S32768, .f32⟩
  | 28 => ⟨S32768x1x1, .f32⟩
  | 29 => ⟨S32768, .f32⟩
  | 30 => ⟨S32768, .f32⟩
  | 31 => ⟨S32768, .f32⟩
  | 32 => ⟨S32768x1x1, .f32⟩
  | 33 => ⟨S32768, .f32⟩
  | 34 => ⟨S32768, .f32⟩
  | 35 => ⟨S32768x1, .f32⟩
  | 36 => ⟨S32768, .f32⟩
  | 37 => ⟨S32768x1x1, .f32⟩
  | 38 => ⟨S32768, .f32⟩
  | 39 => ⟨S32768, .f32⟩
  | 40 => ⟨S32768, .f32⟩
  | 41 => ⟨S32768x1x1, .f32⟩
  | 42 => ⟨S32768, .f32⟩
  | 43 => ⟨S32768, .f32⟩
  | 44 => ⟨S32768, .f32⟩
  | 45 => ⟨S32768x1x1, .f32⟩
  | 46 => ⟨S32768, .f32⟩
  | 47 => ⟨S32768, .f32⟩
  | 48 => ⟨S32768x1, .f32⟩
  | 49 => ⟨S32768, .f32⟩
  | 50 => ⟨S32768x1x1, .f32⟩
  | 51 => ⟨S32768, .f32⟩
  | 52 => ⟨S32768, .f32⟩
  | 53 => ⟨S32768, .f32⟩
  | 54 => ⟨S32768x1x1, .f32⟩
  | 55 => ⟨S32768, .f32⟩
  | 56 => ⟨S32768, .f32⟩
  | 57 => ⟨S32768, .f32⟩
  | 58 => ⟨S32768x1x1, .f32⟩
  | 59 => ⟨S32768, .f32⟩
  | 60 => ⟨S32768, .f32⟩
  | 61 => ⟨S32768, .f32⟩
  | 62 => ⟨S32768x1x1, .f32⟩
  | 63 => ⟨S32768, .f32⟩
  | 64 => ⟨S32768, .f32⟩
  | 65 => ⟨S32768x1, .f32⟩
  | 66 => ⟨S32768x1, .f32⟩
  | 67 => ⟨S32768x1, .f32⟩
  | 68 => ⟨S32768x1, .f32⟩
  | 69 => ⟨S32768x4, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S32, .f32⟩
  | 78 => ⟨S_, .f32⟩
  | 79 => ⟨S32, .f32⟩
  | 80 => ⟨S32, .f32⟩
  | 81 => ⟨S1, .f32⟩
  | 82 => ⟨S_, .f32⟩
  | 83 => ⟨S32, .f32⟩
  | 84 => ⟨S32, .f32⟩
  | 85 => ⟨S32, .f32⟩
  | 86 => ⟨S32, .f32⟩
  | 87 => ⟨S1, .f32⟩
  | 88 => ⟨S32, .f32⟩
  | 89 => ⟨S32, .f32⟩
  | 90 => ⟨S32, .f32⟩
  | 91 => ⟨S1, .f32⟩
  | 92 => ⟨S33, .f32⟩
  | 93 => ⟨S_, .f32⟩
  | 94 => ⟨S_, .f32⟩
  | 95 => ⟨S_, .f32⟩
  | 96 => ⟨S32768x4, .f32⟩
  | 97 => ⟨S32768x4, .f32⟩
  | 98 => ⟨S_, .f32⟩
  | 99 => ⟨S32768x4, .f32⟩
  | 100 => ⟨S32768x4, .f32⟩
  | 101 => ⟨S_, .f32⟩
  | 102 => ⟨S32768x4, .f32⟩
  | 103 => ⟨S32768x4, .f32⟩
  | 104 => ⟨S_, .f32⟩
  | 105 => ⟨S32768x4, .f32⟩
  | 106 => ⟨S32768x4, .f32⟩
  | 107 => ⟨S_, .f32⟩
  | 108 => ⟨S32768x4, .f32⟩
  | 109 => ⟨S32768x4, .f32⟩
  | 110 => ⟨S32768x4, .f32⟩
  | 111 => ⟨S32768x4, .i32⟩
  | 112 => ⟨S_, .i32⟩
  | 113 => ⟨S_, .i32⟩
  | 114 => ⟨S_, .i32⟩
  | 115 => ⟨S32768x4, .i32⟩
  | 116 => ⟨S32768x4, .i32⟩
  | 117 => ⟨S_, .i32⟩
  | 118 => ⟨S32768x4, .i32⟩
  | 119 => ⟨S32768x4, .i32⟩
  | 120 => ⟨S32768x4x1, .i32⟩
  | 121 => ⟨S32768x4, .f32⟩
  | 122 => ⟨S_, .i32⟩
  | 123 => ⟨S32768x4, .i32⟩
  | 124 => ⟨S32768x4, .i32⟩
  | 125 => ⟨S32768x4, .i32⟩
  | 126 => ⟨S32x32x32x4, .i32⟩
  | 127 => ⟨S256x64, .f32⟩
  | _ => ⟨S32x64x32x32, .f32⟩

abbrev hbmTy0_4 (i : Nat) : BufTy := match i % 128 with
  | 0 => ⟨S32768x4x1, .i32⟩
  | 1 => ⟨S32768x4x64, .f32⟩
  | 2 => ⟨S32768x4x1, .f32⟩
  | 3 => ⟨S32768x4x64, .f32⟩
  | 4 => ⟨S32768x4x64, .f32⟩
  | 5 => ⟨S_, .f32⟩
  | 6 => ⟨S32768x64, .f32⟩
  | 7 => ⟨S32x32x32x64, .f32⟩
  | 8 => ⟨S32x64x32x32, .f32⟩
  | 9 => ⟨S32x64x32x32, .f32⟩
  | 10 => ⟨S32x64x32x32, .f32⟩
  | 11 => ⟨S_, .f32⟩
  | 12 => ⟨S_, .f32⟩
  | 13 => ⟨S_, .f32⟩
  | 14 => ⟨S_, .f32⟩
  | 15 => ⟨S32x64x32x32, .f32⟩
  | 16 => ⟨S32x64x32x32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S32x64x32x32, .f32⟩
  | 25 => ⟨S32x64x32x32, .f32⟩
  | _ => ⟨S32x64x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x64x32x32, .f32⟩

abbrev bufTy : (tb : Table) → Fin (tcTables nBuf tb) → BufTy
  | .hbm, ⟨i, _⟩ => hbmTy i
  | _, _ => ⟨S32x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_2 : Ref sig .tc := ⟨.hbm, 85, rfl⟩
abbrev main_v71 : Ref sig .tc := ⟨.hbm, 86, rfl⟩
abbrev main_v72 : Ref sig .tc := ⟨.hbm, 87, rfl⟩
abbrev main_cst_3 : Ref sig .tc := ⟨.hbm, 88, rfl⟩
abbrev main_v73 : Ref sig .tc := ⟨.hbm, 89, rfl⟩
abbrev main_v74 : Ref sig .tc := ⟨.hbm, 90, rfl⟩
abbrev main_cst_4 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_5 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_call2_v0 : Ref sig .tc := ⟨.hbm, 152, rfl⟩
abbrev main_call2_cst : Ref sig .tc := ⟨.hbm, 153, rfl⟩
abbrev main_call2_c : Ref sig .tc := ⟨.hbm, 154, rfl⟩
abbrev main_call2_v1_0 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_cst_6 : Ref sig .tc := ⟨.hbm, 187, rfl⟩
abbrev main_v165 : Ref sig .tc := ⟨.hbm, 188, rfl⟩
abbrev main_v166 : Ref sig .tc := ⟨.hbm, 189, rfl⟩
abbrev main_cst_7 : Ref sig .tc := ⟨.hbm, 190, rfl⟩
abbrev main_v167 : Ref sig .tc := ⟨.hbm, 191, rfl⟩
abbrev main_v168 : Ref sig .tc := ⟨.hbm, 192, rfl⟩
abbrev main_cst_8 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_cst_9 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_call3_v0 : Ref sig .tc := ⟨.hbm, 282, rfl⟩
abbrev main_call3_cst : Ref sig .tc := ⟨.hbm, 283, rfl⟩
abbrev main_call3_c : Ref sig .tc := ⟨.hbm, 284, rfl⟩
abbrev main_call3_v1_0 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_v297 : Ref sig .tc := ⟨.hbm, 327, rfl⟩
abbrev main_v298 : Ref sig .tc := ⟨.hbm, 328, rfl⟩
abbrev main_v299 : Ref sig .tc := ⟨.hbm, 329, rfl⟩
abbrev main_v300 : Ref sig .tc := ⟨.hbm, 330, rfl⟩
abbrev main_cst_10 : Ref sig .tc := ⟨.hbm, 331, rfl⟩
abbrev main_v301 : Ref sig .tc := ⟨.hbm, 332, rfl⟩
abbrev main_v302 : Ref sig .tc := ⟨.hbm, 333, rfl⟩
abbrev main_cst_11 : Ref sig .tc := ⟨.hbm, 334, rfl⟩
abbrev main_v303 : Ref sig .tc := ⟨.hbm, 335, rfl⟩
abbrev main_v304 : Ref sig .tc := ⟨.hbm, 336, rfl⟩
abbrev main_cst_12 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_cst_13 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩
abbrev main_v368 : Ref sig .tc := ⟨.hbm, 402, rfl⟩
abbrev main_v369 : Ref sig .tc := ⟨.hbm, 403, rfl⟩
abbrev main_v370 : Ref sig .tc := ⟨.hbm, 404, rfl⟩
abbrev main_v371 : Ref sig .tc := ⟨.hbm, 405, rfl⟩
abbrev main_v372 : Ref sig .tc := ⟨.hbm, 406, rfl⟩
abbrev main_v373 : Ref sig .tc := ⟨.hbm, 407, rfl⟩
abbrev main_v374 : Ref sig .tc := ⟨.hbm, 408, rfl⟩
abbrev main_v375 : Ref sig .tc := ⟨.hbm, 409, rfl⟩
abbrev main_v376 : Ref sig .tc := ⟨.hbm, 410, rfl⟩
abbrev main_v377 : Ref sig .tc := ⟨.hbm, 411, rfl⟩
abbrev main_v378 : Ref sig .tc := ⟨.hbm, 412, rfl⟩
abbrev main_v379 : Ref sig .tc := ⟨.hbm, 413, rfl⟩
abbrev main_v380 : Ref sig .tc := ⟨.hbm, 414, rfl⟩
abbrev main_v381 : Ref sig .tc := ⟨.hbm, 415, rfl⟩
abbrev main_v382 : Ref sig .tc := ⟨.hbm, 416, rfl⟩
abbrev main_v383 : Ref sig .tc := ⟨.hbm, 417, rfl⟩
abbrev main_v384 : Ref sig .tc := ⟨.hbm, 418, rfl⟩
abbrev main_v385 : Ref sig .tc := ⟨.hbm, 419, rfl⟩
abbrev main_v386 : Ref sig .tc := ⟨.hbm, 420, rfl⟩
abbrev main_v387 : Ref sig .tc := ⟨.hbm, 421, rfl⟩
abbrev main_v388 : Ref sig .tc := ⟨.hbm, 422, rfl⟩
abbrev main_v389 : Ref sig .tc := ⟨.hbm, 423, rfl⟩
abbrev main_v390 : Ref sig .tc := ⟨.hbm, 424, rfl⟩
abbrev main_v391 : Ref sig .tc := ⟨.hbm, 425, rfl⟩
abbrev main_v392 : Ref sig .tc := ⟨.hbm, 426, rfl⟩
abbrev main_v393 : Ref sig .tc := ⟨.hbm, 427, rfl⟩
abbrev main_v394 : Ref sig .tc := ⟨.hbm, 428, rfl⟩
abbrev main_v395 : Ref sig .tc := ⟨.hbm, 429, rfl⟩
abbrev main_v396 : Ref sig .tc := ⟨.hbm, 430, rfl⟩
abbrev main_v397 : Ref sig .tc := ⟨.hbm, 431, rfl⟩
abbrev main_v398 : Ref sig .tc := ⟨.hbm, 432, rfl⟩
abbrev main_v399 : Ref sig .tc := ⟨.hbm, 433, rfl⟩
abbrev main_v400 : Ref sig .tc := ⟨.hbm, 434, rfl⟩
abbrev main_v401 : Ref sig .tc := ⟨.hbm, 435, rfl⟩
abbrev main_v402 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_v407 : Ref sig .tc := ⟨.hbm, 441, rfl⟩
abbrev main_v408 : Ref sig .tc := ⟨.hbm, 442, rfl⟩
abbrev main_v409 : Ref sig .tc := ⟨.hbm, 443, rfl⟩
abbrev main_v410 : Ref sig .tc := ⟨.hbm, 444, rfl⟩
abbrev main_v411 : Ref sig .tc := ⟨.hbm, 445, rfl⟩
abbrev main_v412 : Ref sig .tc := ⟨.hbm, 446, rfl⟩
abbrev main_v413 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_cst_14 : Ref sig .tc := ⟨.hbm, 454, rfl⟩
abbrev main_cst_15 : Ref sig .tc := ⟨.hbm, 455, rfl⟩
abbrev main_call4_v0 : Ref sig .tc := ⟨.hbm, 456, rfl⟩
abbrev main_call4_v1 : Ref sig .tc := ⟨.hbm, 457, rfl⟩
abbrev main_call4_v2 : Ref sig .tc := ⟨.hbm, 458, rfl⟩
abbrev main_call4_cst : Ref sig .tc := ⟨.hbm, 459, rfl⟩
abbrev main_call4_v3 : Ref sig .tc := ⟨.hbm, 460, rfl⟩
abbrev main_call4_v4 : Ref sig .tc := ⟨.hbm, 461, rfl⟩
abbrev main_call4_cst_0 : Ref sig .tc := ⟨.hbm, 462, rfl⟩
abbrev main_call4_v5 : Ref sig .tc := ⟨.hbm, 463, rfl⟩
abbrev main_call4_v6 : Ref sig .tc := ⟨.hbm, 464, rfl⟩
abbrev main_call4_v7 : Ref sig .tc := ⟨.hbm, 465, rfl⟩
abbrev main_call4_cst_1 : Ref sig .tc := ⟨.hbm, 466, rfl⟩
abbrev main_call4_v8 : Ref sig .tc := ⟨.hbm, 467, rfl⟩
abbrev main_call4_v9 : Ref sig .tc := ⟨.hbm, 468, rfl⟩
abbrev main_call4_v10 : Ref sig .tc := ⟨.hbm, 469, rfl⟩
abbrev main_call4_v11 : Ref sig .tc := ⟨.hbm, 470, rfl⟩
abbrev main_call4_v12 : Ref sig .tc := ⟨.hbm, 471, rfl⟩
abbrev main_call4_v13 : Ref sig .tc := ⟨.hbm, 472, rfl⟩
abbrev main_call4_v14 : Ref sig .tc := ⟨.hbm, 473, rfl⟩
abbrev main_call4_v15 : Ref sig .tc := ⟨.hbm, 474, rfl⟩
abbrev main_call4_v16 : Ref sig .tc := ⟨.hbm, 475, rfl⟩
abbrev main_v420 : Ref sig .tc := ⟨.hbm, 476, rfl⟩
abbrev main_cst_16 : Ref sig .tc := ⟨.hbm, 477, rfl⟩
abbrev main_cst_17 : Ref sig .tc := ⟨.hbm, 478, rfl⟩
abbrev main_call5_v0 : Ref sig .tc := ⟨.hbm, 479, rfl⟩
abbrev main_call5_v1 : Ref sig .tc := ⟨.hbm, 480, rfl⟩
abbrev main_call5_v2 : Ref sig .tc := ⟨.hbm, 481, rfl⟩
abbrev main_call5_v3 : Ref sig .tc := ⟨.hbm, 482, rfl⟩
abbrev main_call5_v4 : Ref sig .tc := ⟨.hbm, 483, rfl⟩
abbrev main_v421 : Ref sig .tc := ⟨.hbm, 484, rfl⟩
abbrev main_cst_18 : Ref sig .tc := ⟨.hbm, 485, rfl⟩
abbrev main_v422 : Ref sig .tc := ⟨.hbm, 486, rfl⟩
abbrev main_v423 : Ref sig .tc := ⟨.hbm, 487, rfl⟩
abbrev main_cst_19 : Ref sig .tc := ⟨.hbm, 488, rfl⟩
abbrev main_v424 : Ref sig .tc := ⟨.hbm, 489, rfl⟩
abbrev main_v425 : Ref sig .tc := ⟨.hbm, 490, rfl⟩
abbrev main_cst_20 : Ref sig .tc := ⟨.hbm, 491, rfl⟩
abbrev main_v426 : Ref sig .tc := ⟨.hbm, 492, rfl⟩
abbrev main_v427 : Ref sig .tc := ⟨.hbm, 493, rfl⟩
abbrev main_v428 : Ref sig .tc := ⟨.hbm, 494, rfl⟩
abbrev main_v429 : Ref sig .tc := ⟨.hbm, 495, rfl⟩
abbrev main_c_21 : Ref sig .tc := ⟨.hbm, 496, rfl⟩
abbrev main_c_22 : Ref sig .tc := ⟨.hbm, 497, rfl⟩
abbrev main_call7_v0 : Ref sig .tc := ⟨.hbm, 498, rfl⟩
abbrev main_call7_v1 : Ref sig .tc := ⟨.hbm, 499, rfl⟩
abbrev main_call7_v2 : Ref sig .tc := ⟨.hbm, 500, rfl⟩
abbrev main_call7_v3 : Ref sig .tc := ⟨.hbm, 501, rfl⟩
abbrev main_call7_v4 : Ref sig .tc := ⟨.hbm, 502, rfl⟩
abbrev main_v430 : Ref sig .tc := ⟨.hbm, 503, rfl⟩
abbrev main_v431 : Ref sig .tc := ⟨.hbm, 504, rfl⟩
abbrev main_v432 : Ref sig .tc := ⟨.hbm, 505, rfl⟩
abbrev main_c_23 : Ref sig .tc := ⟨.hbm, 506, rfl⟩
abbrev main_v433 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_cst_24 : Ref sig .tc := ⟨.hbm, 517, rfl⟩
abbrev main_v443 : Ref sig .tc := ⟨.hbm, 518, rfl⟩
abbrev main_v444 : Ref sig .tc := ⟨.hbm, 519, rfl⟩
abbrev main_v445 : Ref sig .tc := ⟨.hbm, 520, rfl⟩
abbrev main_v446 : Ref sig .tc := ⟨.hbm, 521, rfl⟩
abbrev main_v447 : Ref sig .tc := ⟨.hbm, 522, rfl⟩
abbrev main_cst_25 : Ref sig .tc := ⟨.hbm, 523, rfl⟩
abbrev main_v448 : Ref sig .tc := ⟨.hbm, 524, rfl⟩
abbrev main_cst_26 : Ref sig .tc := ⟨.hbm, 525, rfl⟩
abbrev main_v449 : Ref sig .tc := ⟨.hbm, 526, rfl⟩
abbrev main_v450 : Ref sig .tc := ⟨.hbm, 527, rfl⟩
abbrev main_v451 : Ref sig .tc := ⟨.hbm, 528, rfl⟩
abbrev main_cst_27 : Ref sig .tc := ⟨.hbm, 529, rfl⟩
abbrev main_v452 : Ref sig .tc := ⟨.hbm, 530, rfl⟩
abbrev main_cst_28 : Ref sig .tc := ⟨.hbm, 531, rfl⟩
abbrev main_v453 : Ref sig .tc := ⟨.hbm, 532, rfl⟩
abbrev main_cst_29 : Ref sig .tc := ⟨.hbm, 533, rfl⟩
abbrev main_v454 : Ref sig .tc := ⟨.hbm, 534, rfl⟩
abbrev main_v455 : Ref sig .tc := ⟨.hbm, 535, rfl⟩
abbrev main_v456 : Ref sig .tc := ⟨.hbm, 536, rfl⟩
abbrev main_v457 : Ref sig .tc := ⟨.hbm, 537, rfl⟩

abbrev nD : Nat := 1
abbrev τ : Topo := Topo.v7x

variable {F : FTy → Type} [FloatOps F]
-- ==== Proof.RefOps.lean ====
/- The reference program as a list of its host operations, in order: one list per printed part of the program, and the
   equation of each part with the list's run. The called functions' operations stand where they are called. -/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape `s` with entries of type `e`. -/
abbrev B (F : FTy → Type) [FloatOps F] (s : Shape) (e : EltTy) : Type := (⟨s, e⟩ : BufTy).Contents (Elt F)

/-- Part 0 of the program: operations 1 to 68. -/
noncomputable def part0 : List (HloOp τ sig (Elt F)) :=
  [ unary main_arg0 main_v0 ((transpose S32x32x32x64 [0, 2, 3, 1] · transposes_S32x64x32x32_S32x32x32x64_0_2_3_1) : B F S32x64x32x32 .f32 → B F S32x32x32x64 .f32),
    reshape main_v0 main_v1 (rfl : (.f32 : EltTy) = .f32) shapeCasts_S32x32x32x64_S32768x64,
    unary main_v1 main_v2 ((transpose S64x32768 [1, 0] · transposes_S32768x64_S64x32768_1_0) : B F S32768x64 .f32 → B F S64x32768 .f32),
    binary main_arg1 main_arg1 main_v3 (mulf : B F S64x256 .f32 → B F S64x256 .f32 → B F S64x256 .f32),
    nullary main_cst (constant S_ .f32 0x00000000#32),
    binary main_v3 main_cst main_v4 ((fun x v => Host.reduceAdd x v reducesTo_S64x256_S256_d0 h_S_) : B F S64x256 .f32 → B F S_ .f32 → B F S256 .f32),
    unary main_v4 main_v5 (broadcastInDim S1x256 ![1] bcast_S256_S1x256_1 : B F S256 .f32 → B F S1x256 .f32),
    unary main_v5 main_v6 (Host.sqrt : B F S1x256 .f32 → B F S1x256 .f32),
    nullary main_cst_0 (constant S_ .f32 0x2EDBE6FF#32),
    unary main_cst_0 main_v7 (broadcastInDim S1x256 ![] bcast_S_S1x256 : B F S_ .f32 → B F S1x256 .f32),
    binary main_v6 main_v7 main_v8 (maximumf : B F S1x256 .f32 → B F S1x256 .f32 → B F S1x256 .f32),
    unary main_v8 main_v9 (broadcastInDim S64x256 ![0, 1] bcast_S1x256_S64x256_0_1 : B F S1x256 .f32 → B F S64x256 .f32),
    binary main_arg1 main_v9 main_v10 (Host.divf : B F S64x256 .f32 → B F S64x256 .f32 → B F S64x256 .f32),
    unary main_v10 main_v11 ((transpose S256x64 [1, 0] · transposes_S64x256_S256x64_1_0) : B F S64x256 .f32 → B F S256x64 .f32),
    binary main_v11 main_v10 main_v12 ((fun l r => Host.dotGeneral dot_S256x64_S64x256_S256x256_1_0_0_1_n_n none l r) : B F S256x64 .f32 → B F S64x256 .f32 → B F S256x256 .f32),
    unary main_v10 main_v13 ((transpose S256x64 [1, 0] · transposes_S64x256_S256x64_1_0) : B F S64x256 .f32 → B F S256x64 .f32),
    binary main_v13 main_v2 main_v14 ((fun l r => Host.dotGeneral dot_S256x64_S64x32768_S256x32768_1_0_0_1_n_n none l r) : B F S256x64 .f32 → B F S64x32768 .f32 → B F S256x32768 .f32),
    unary main_v14 main_v15 ((transpose S32768x256 [1, 0] · transposes_S256x32768_S32768x256_1_0) : B F S256x32768 .f32 → B F S32768x256 .f32),
    nullary main_v16 (iotaInDim S32768 32 0),
    nullary main_v17 (iotaInDim S256 32 0),
    nullary main_c (constantI S_ 1 0#1),
    unary main_c main_v18 (broadcastInDim S32768x256 ![] bcast_S_S32768x256 : B F S_ .i1 → B F S32768x256 .i1),
    unary main_v18 main_v19 (noti : B F S32768x256 .i1 → B F S32768x256 .i1),
    unary main_v19 main_v20 (uitofp .f32 : B F S32768x256 .i1 → B F S32768x256 .f32),
    binary main_v15 main_v20 main_v21 (mulf : B F S32768x256 .f32 → B F S32768x256 .f32 → B F S32768x256 .f32),
    unary main_v21 main_v22 (Host.absf : B F S32768x256 .f32 → B F S32768x256 .f32),
    nullary main_call0_v0 (iotaInDim S32768x256 32 1),
    nullary main_call0_cst (constant S_ .f32 0xFF800000#32),
    nullary main_call0_c (constantI S_ 32 0#32),
    quaternary main_v22 main_call0_v0 main_call0_cst main_call0_c main_call0_v1_0 ((fun x y u v j => (Host.argReduce reducer_argmax_f32_i32 x y u v reducesTo_S32768x256_S32768_d1 h_S_ j).1) : B F S32768x256 .f32 → B F S32768x256 .i32 → B F S_ .f32 → B F S_ .i32 → B F S32768 .f32),
    quaternary main_v22 main_call0_v0 main_call0_cst main_call0_c main_v23 ((fun x y u v j => (Host.argReduce reducer_argmax_f32_i32 x y u v reducesTo_S32768x256_S32768_d1 h_S_ j).2) : B F S32768x256 .f32 → B F S32768x256 .i32 → B F S_ .f32 → B F S_ .i32 → B F S32768 .i32),
    unary main_v17 main_v24 (broadcastInDim S1x256 ![1] bcast_S256_S1x256_1 : B F S256 .i32 → B F S1x256 .i32),
    unary main_v23 main_v25 (broadcastInDim S32768x1 ![0] bcast_S32768_S32768x1_0 : B F S32768 .i32 → B F S32768x1 .i32),
    unary main_v24 main_v26 (broadcastInDim S32768x256 ![0, 1] bcast_S1x256_S32768x256_0_1 : B F S1x256 .i32 → B F S32768x256 .i32),
    unary main_v25 main_v27 (broadcastInDim S32768x256 ![0, 1] bcast_S32768x1_S32768x256_0_1 : B F S32768x1 .i32 → B F S32768x256 .i32),
    binary main_v26 main_v27 main_v28 (cmpi .eq : B F S32768x256 .i32 → B F S32768x256 .i32 → B F S32768x256 .i1),
    binary main_v18 main_v28 main_v29 (ori : B F S32768x256 .i1 → B F S32768x256 .i1 → B F S32768x256 .i1),
    unary main_v23 main_v30 (broadcastInDim S32768x1 ![0] bcast_S32768_S32768x1_0 : B F S32768 .i32 → B F S32768x1 .i32),
    nullary main_cst_1 (constant S_ .f32 0x3F800000#32),
    unary main_cst_1 main_v31 (broadcastInDim S32768x1x1 ![] bcast_S_S32768x1x1 : B F S_ .f32 → B F S32768x1x1 .f32),
    unary main_v16 main_v32 (broadcastInDim S32768x1 ![0] bcast_S32768_S32768x1_0 : B F S32768 .i32 → B F S32768x1 .i32),
    unary main_v32 main_v33 (broadcastInDim S32768x1x1 ![0, 1] bcast_S32768x1_S32768x1x1_0_1 : B F S32768x1 .i32 → B F S32768x1x1 .i32),
    unary main_v30 main_v34 (broadcastInDim S32768x1x1 ![0, 1] bcast_S32768x1_S32768x1x1_0_1 : B F S32768x1 .i32 → B F S32768x1x1 .i32),
    binary main_v33 main_v34 main_v35 ((fun a b => concatenate S32768x1x2 2 [⟨S32768x1x1, a⟩, ⟨S32768x1x1, b⟩] concatenates_S32768x1x1_S32768x1x1_S32768x1x2_d2) : B F S32768x1x1 .i32 → B F S32768x1x1 .i32 → B F S32768x1x2 .i32),
    binary main_v15 main_v35 main_v36 ((fun x i => Host.gather gather_S32768x256_S32768x1x2_S32768x1_n_01_n_n_01_2_11 x i) : B F S32768x256 .f32 → B F S32768x1x2 .i32 → B F S32768x1 .f32),
    reshape main_v36 main_v37 (rfl : (.f32 : EltTy) = .f32) shapeCasts_S32768x1_S32768,
    reshape main_v31 main_v38 (rfl : (.f32 : EltTy) = .f32) shapeCasts_S32768x1x1_S32768,
    binary main_v37 main_v38 main_v39 (Host.divf : B F S32768 .f32 → B F S32768 .f32 → B F S32768 .f32),
    unary main_v39 main_v40 (broadcastInDim S32768x1 ![0] bcast_S32768_S32768x1_0 : B F S32768 .f32 → B F S32768x1 .f32),
    unary main_v31 main_v41 ((transpose S32768x1x1 [0, 2, 1] · transposes_S32768x1x1_S32768x1x1_0_2_1) : B F S32768x1x1 .f32 → B F S32768x1x1 .f32),
    reshape main_v40 main_v42 (rfl : (.f32 : EltTy) = .f32) shapeCasts_S32768x1_S32768,
    reshape main_v41 main_v43 (rfl : (.f32 : EltTy) = .f32) shapeCasts_S32768x1x1_S32768,
    binary main_v42 main_v43 main_v44 (Host.divf : B F S32768 .f32 → B F S32768 .f32 → B F S32768 .f32),
    unary main_v44 main_v45 (broadcastInDim S32768x1 ![0] bcast_S32768_S32768x1_0 : B F S32768 .f32 → B F S32768x1 .f32),
    unary main_v30 main_v46 (broadcastInDim S32768x1x1 ![0, 1] bcast_S32768x1_S32768x1x1_0_1 : B F S32768x1 .i32 → B F S32768x1x1 .i32),
    binary main_v12 main_v46 main_v47 ((fun x i => Host.gather gather_S256x256_S32768x1x1_S32768x1x256_2_0_n_n_0_2_1256 x i) : B F S256x256 .f32 → B F S32768x1x1 .i32 → B F S32768x1x256 .f32),
    binary main_v45 main_v47 main_v48 ((fun l r => Host.dotGeneral dot_S32768x1_S32768x1x256_S32768x256_1_1_n_2_0_0 none l r) : B F S32768x1 .f32 → B F S32768x1x256 .f32 → B F S32768x256 .f32),
    binary main_v15 main_v48 main_v49 (subf : B F S32768x256 .f32 → B F S32768x256 .f32 → B F S32768x256 .f32),
    unary main_v29 main_v50 (noti : B F S32768x256 .i1 → B F S32768x256 .i1),
    unary main_v50 main_v51 (uitofp .f32 : B F S32768x256 .i1 → B F S32768x256 .f32),
    binary main_v49 main_v51 main_v52 (mulf : B F S32768x256 .f32 → B F S32768x256 .f32 → B F S32768x256 .f32),
    unary main_v52 main_v53 (Host.absf : B F S32768x256 .f32 → B F S32768x256 .f32),
    nullary main_call1_v0 (iotaInDim S32768x256 32 1),
    nullary main_call1_cst (constant S_ .f32 0xFF800000#32),
    nullary main_call1_c (constantI S_ 32 0#32),
    quaternary main_v53 main_call1_v0 main_call1_cst main_call1_c main_call1_v1_0 ((fun x y u v j => (Host.argReduce reducer_argmax_f32_i32 x y u v reducesTo_S32768x256_S32768_d1 h_S_ j).1) : B F S32768x256 .f32 → B F S32768x256 .i32 → B F S_ .f32 → B F S_ .i32 → B F S32768 .f32),
    quaternary main_v53 main_call1_v0 main_call1_cst main_call1_c main_v54 ((fun x y u v j => (Host.argReduce reducer_argmax_f32_i32 x y u v reducesTo_S32768x256_S32768_d1 h_S_ j).2) : B F S32768x256 .f32 → B F S32768x256 .i32 → B F S_ .f32 → B F S_ .i32 → B F S32768 .i32),
    unary main_v17 main_v55 (broadcastInDim S1x256 ![1] bcast_S256_S1x256_1 : B F S256 .i32 → B F S1x256 .i32) ]

/-- Part 1 of the program: operations 69 to 128. -/
noncomputable def part1 : List (HloOp τ sig (Elt F)) :=
  [ unary main_v54 main_v56 (broadcastInDim S32768x1 ![0] bcast_S32768_S32768x1_0 : B F S32768 .i32 → B F S32768x1 .i32),
    unary main_v55 main_v57 (broadcastInDim S32768x256 ![0, 1] bcast_S1x256_S32768x256_0_1 : B F S1x256 .i32 → B F S32768x256 .i32),
    unary main_v56 main_v58 (broadcastInDim S32768x256 ![0, 1] bcast_S32768x1_S32768x256_0_1 : B F S32768x1 .i32 → B F S32768x256 .i32),
    binary main_v57 main_v58 main_v59 (cmpi .eq : B F S32768x256 .i32 → B F S32768x256 .i32 → B F S32768x256 .i1),
    binary main_v29 main_v59 main_v60 (ori : B F S32768x256 .i1 → B F S32768x256 .i1 → B F S32768x256 .i1),
    unary main_v54 main_v61 (broadcastInDim S32768x1 ![0] bcast_S32768_S32768x1_0 : B F S32768 .i32 → B F S32768x1 .i32),
    unary main_v30 main_v62 (broadcastInDim S32768x1x1 ![0, 1] bcast_S32768x1_S32768x1x1_0_1 : B F S32768x1 .i32 → B F S32768x1x1 .i32),
    unary main_v61 main_v63 (broadcastInDim S32768x1x1 ![0, 1] bcast_S32768x1_S32768x1x1_0_1 : B F S32768x1 .i32 → B F S32768x1x1 .i32),
    binary main_v62 main_v63 main_v64 ((fun a b => concatenate S32768x1x2 2 [⟨S32768x1x1, a⟩, ⟨S32768x1x1, b⟩] concatenates_S32768x1x1_S32768x1x1_S32768x1x2_d2) : B F S32768x1x1 .i32 → B F S32768x1x1 .i32 → B F S32768x1x2 .i32),
    binary main_v12 main_v64 main_v65 ((fun x i => Host.gather gather_S256x256_S32768x1x2_S32768x1_n_01_n_n_01_2_11 x i) : B F S256x256 .f32 → B F S32768x1x2 .i32 → B F S32768x1 .f32),
    reshape main_v65 main_v66 (rfl : (.f32 : EltTy) = .f32) shapeCasts_S32768x1_S32768,
    reshape main_v31 main_v67 (rfl : (.f32 : EltTy) = .f32) shapeCasts_S32768x1x1_S32768,
    binary main_v66 main_v67 main_v68 (Host.divf : B F S32768 .f32 → B F S32768 .f32 → B F S32768 .f32),
    unary main_v68 main_v69 (broadcastInDim S32768x1 ![0] bcast_S32768_S32768x1_0 : B F S32768 .f32 → B F S32768x1 .f32),
    binary main_v69 main_v69 main_v70 (mulf : B F S32768x1 .f32 → B F S32768x1 .f32 → B F S32768x1 .f32),
    nullary main_cst_2 (constant S_ .f32 0x00000000#32),
    binary main_v70 main_cst_2 main_v71 ((fun x v => Host.reduceAdd x v reducesTo_S32768x1_S32768_d1 h_S_) : B F S32768x1 .f32 → B F S_ .f32 → B F S32768 .f32),
    unary main_v71 main_v72 (broadcastInDim S32768x1 ![0] bcast_S32768_S32768x1_0 : B F S32768 .f32 → B F S32768x1 .f32),
    nullary main_cst_3 (constant S_ .f32 0x3F800000#32),
    unary main_cst_3 main_v73 (broadcastInDim S32768x1 ![] bcast_S_S32768x1 : B F S_ .f32 → B F S32768x1 .f32),
    binary main_v73 main_v72 main_v74 (subf : B F S32768x1 .f32 → B F S32768x1 .f32 → B F S32768x1 .f32),
    nullary main_cst_4 (constant S_ .f32 0x2B8CBCCC#32),
    unary main_cst_4 main_v75 (broadcastInDim S32768x1 ![] bcast_S_S32768x1 : B F S_ .f32 → B F S32768x1 .f32),
    binary main_v74 main_v75 main_v76 (maximumf : B F S32768x1 .f32 → B F S32768x1 .f32 → B F S32768x1 .f32),
    unary main_v76 main_v77 (Host.sqrt : B F S32768x1 .f32 → B F S32768x1 .f32),
    nullary main_cst_5 (constant S_ .f32 0x00000000#32),
    unary main_cst_5 main_v78 (broadcastInDim S32768x1x1 ![] bcast_S_S32768x1x1 : B F S_ .f32 → B F S32768x1x1 .f32),
    binary main_v31 main_v78 main_v79 ((fun a b => concatenate S32768x1x2 2 [⟨S32768x1x1, a⟩, ⟨S32768x1x1, b⟩] concatenates_S32768x1x1_S32768x1x1_S32768x1x2_d2) : B F S32768x1x1 .f32 → B F S32768x1x1 .f32 → B F S32768x1x2 .f32),
    binary main_v69 main_v77 main_v80 ((fun a b => concatenate S32768x2 1 [⟨S32768x1, a⟩, ⟨S32768x1, b⟩] concatenates_S32768x1_S32768x1_S32768x2_d1) : B F S32768x1 .f32 → B F S32768x1 .f32 → B F S32768x2 .f32),
    unary main_v80 main_v81 (broadcastInDim S32768x1x2 ![0, 2] bcast_S32768x2_S32768x1x2_0_2 : B F S32768x2 .f32 → B F S32768x1x2 .f32),
    binary main_v79 main_v81 main_v82 ((fun a b => concatenate S32768x2x2 1 [⟨S32768x1x2, a⟩, ⟨S32768x1x2, b⟩] concatenates_S32768x1x2_S32768x1x2_S32768x2x2_d1) : B F S32768x1x2 .f32 → B F S32768x1x2 .f32 → B F S32768x2x2 .f32),
    unary main_v54 main_v83 (broadcastInDim S32768x1 ![0] bcast_S32768_S32768x1_0 : B F S32768 .i32 → B F S32768x1 .i32),
    binary main_v30 main_v83 main_v84 ((fun a b => concatenate S32768x2 1 [⟨S32768x1, a⟩, ⟨S32768x1, b⟩] concatenates_S32768x1_S32768x1_S32768x2_d1) : B F S32768x1 .i32 → B F S32768x1 .i32 → B F S32768x2 .i32),
    unary main_v16 main_v85 (broadcastInDim S32768x1 ![0] bcast_S32768_S32768x1_0 : B F S32768 .i32 → B F S32768x1 .i32),
    unary main_v85 main_v86 (broadcastInDim S32768x2 ![0, 1] bcast_S32768x1_S32768x2_0_1 : B F S32768x1 .i32 → B F S32768x2 .i32),
    unary main_v86 main_v87 (broadcastInDim S32768x2x1 ![0, 1] bcast_S32768x2_S32768x2x1_0_1 : B F S32768x2 .i32 → B F S32768x2x1 .i32),
    unary main_v84 main_v88 (broadcastInDim S32768x2x1 ![0, 1] bcast_S32768x2_S32768x2x1_0_1 : B F S32768x2 .i32 → B F S32768x2x1 .i32),
    binary main_v87 main_v88 main_v89 ((fun a b => concatenate S32768x2x2 2 [⟨S32768x2x1, a⟩, ⟨S32768x2x1, b⟩] concatenates_S32768x2x1_S32768x2x1_S32768x2x2_d2) : B F S32768x2x1 .i32 → B F S32768x2x1 .i32 → B F S32768x2x2 .i32),
    binary main_v15 main_v89 main_v90 ((fun x i => Host.gather gather_S32768x256_S32768x2x2_S32768x2_n_01_n_n_01_2_11 x i) : B F S32768x256 .f32 → B F S32768x2x2 .i32 → B F S32768x2 .f32),
    unary main_v90 main_v91 ((extractStridedSlice S32768x1 ![0, 0] · slices_S32768x2_S32768x1_0_0) : B F S32768x2 .f32 → B F S32768x1 .f32),
    reshape main_v91 main_v92 (rfl : (.f32 : EltTy) = .f32) shapeCasts_S32768x1_S32768,
    unary main_v82 main_v93 ((extractStridedSlice S32768x1x1 ![0, 0, 0] · slices_S32768x2x2_S32768x1x1_0_0_0) : B F S32768x2x2 .f32 → B F S32768x1x1 .f32),
    reshape main_v93 main_v94 (rfl : (.f32 : EltTy) = .f32) shapeCasts_S32768x1x1_S32768,
    binary main_v92 main_v94 main_v95 (Host.divf : B F S32768 .f32 → B F S32768 .f32 → B F S32768 .f32),
    unary main_v90 main_v96 ((extractStridedSlice S32768x1 ![0, 1] · slices_S32768x2_S32768x1_0_1) : B F S32768x2 .f32 → B F S32768x1 .f32),
    reshape main_v96 main_v97 (rfl : (.f32 : EltTy) = .f32) shapeCasts_S32768x1_S32768,
    unary main_v82 main_v98 ((extractStridedSlice S32768x1x1 ![0, 1, 0] · slices_S32768x2x2_S32768x1x1_0_1_0) : B F S32768x2x2 .f32 → B F S32768x1x1 .f32),
    reshape main_v98 main_v99 (rfl : (.f32 : EltTy) = .f32) shapeCasts_S32768x1x1_S32768,
    binary main_v99 main_v95 main_v100 (mulf : B F S32768 .f32 → B F S32768 .f32 → B F S32768 .f32),
    binary main_v97 main_v100 main_v101 (subf : B F S32768 .f32 → B F S32768 .f32 → B F S32768 .f32),
    unary main_v82 main_v102 ((extractStridedSlice S32768x1x1 ![0, 1, 1] · slices_S32768x2x2_S32768x1x1_0_1_1) : B F S32768x2x2 .f32 → B F S32768x1x1 .f32),
    reshape main_v102 main_v103 (rfl : (.f32 : EltTy) = .f32) shapeCasts_S32768x1x1_S32768,
    binary main_v101 main_v103 main_v104 (Host.divf : B F S32768 .f32 → B F S32768 .f32 → B F S32768 .f32),
    unary main_v95 main_v105 (broadcastInDim S32768x1 ![0] bcast_S32768_S32768x1_0 : B F S32768 .f32 → B F S32768x1 .f32),
    unary main_v104 main_v106 (broadcastInDim S32768x1 ![0] bcast_S32768_S32768x1_0 : B F S32768 .f32 → B F S32768x1 .f32),
    binary main_v105 main_v106 main_v107 ((fun a b => concatenate S32768x2 1 [⟨S32768x1, a⟩, ⟨S32768x1, b⟩] concatenates_S32768x1_S32768x1_S32768x2_d1) : B F S32768x1 .f32 → B F S32768x1 .f32 → B F S32768x2 .f32),
    unary main_v82 main_v108 ((transpose S32768x2x2 [0, 2, 1] · transposes_S32768x2x2_S32768x2x2_0_2_1) : B F S32768x2x2 .f32 → B F S32768x2x2 .f32),
    unary main_v107 main_v109 ((extractStridedSlice S32768x1 ![0, 1] · slices_S32768x2_S32768x1_0_1) : B F S32768x2 .f32 → B F S32768x1 .f32),
    reshape main_v109 main_v110 (rfl : (.f32 : EltTy) = .f32) shapeCasts_S32768x1_S32768,
    unary main_v108 main_v111 ((extractStridedSlice S32768x1x1 ![0, 1, 1] · slices_S32768x2x2_S32768x1x1_0_1_1) : B F S32768x2x2 .f32 → B F S32768x1x1 .f32) ]

/-- Part 2 of the program: operations 129 to 192. -/
noncomputable def part2 : List (HloOp τ sig (Elt F)) :=
  [ reshape main_v111 main_v112 (rfl : (.f32 : EltTy) = .f32) shapeCasts_S32768x1x1_S32768,
    binary main_v110 main_v112 main_v113 (Host.divf : B F S32768 .f32 → B F S32768 .f32 → B F S32768 .f32),
    unary main_v107 main_v114 ((extractStridedSlice S32768x1 ![0, 0] · slices_S32768x2_S32768x1_0_0) : B F S32768x2 .f32 → B F S32768x1 .f32),
    reshape main_v114 main_v115 (rfl : (.f32 : EltTy) = .f32) shapeCasts_S32768x1_S32768,
    unary main_v108 main_v116 ((extractStridedSlice S32768x1x1 ![0, 0, 1] · slices_S32768x2x2_S32768x1x1_0_0_1) : B F S32768x2x2 .f32 → B F S32768x1x1 .f32),
    reshape main_v116 main_v117 (rfl : (.f32 : EltTy) = .f32) shapeCasts_S32768x1x1_S32768,
    binary main_v117 main_v113 main_v118 (mulf : B F S32768 .f32 → B F S32768 .f32 → B F S32768 .f32),
    binary main_v115 main_v118 main_v119 (subf : B F S32768 .f32 → B F S32768 .f32 → B F S32768 .f32),
    unary main_v108 main_v120 ((extractStridedSlice S32768x1x1 ![0, 0, 0] · slices_S32768x2x2_S32768x1x1_0_0_0) : B F S32768x2x2 .f32 → B F S32768x1x1 .f32),
    reshape main_v120 main_v121 (rfl : (.f32 : EltTy) = .f32) shapeCasts_S32768x1x1_S32768,
    binary main_v119 main_v121 main_v122 (Host.divf : B F S32768 .f32 → B F S32768 .f32 → B F S32768 .f32),
    unary main_v122 main_v123 (broadcastInDim S32768x1 ![0] bcast_S32768_S32768x1_0 : B F S32768 .f32 → B F S32768x1 .f32),
    unary main_v113 main_v124 (broadcastInDim S32768x1 ![0] bcast_S32768_S32768x1_0 : B F S32768 .f32 → B F S32768x1 .f32),
    binary main_v123 main_v124 main_v125 ((fun a b => concatenate S32768x2 1 [⟨S32768x1, a⟩, ⟨S32768x1, b⟩] concatenates_S32768x1_S32768x1_S32768x2_d1) : B F S32768x1 .f32 → B F S32768x1 .f32 → B F S32768x2 .f32),
    unary main_v84 main_v126 (broadcastInDim S32768x2x1 ![0, 1] bcast_S32768x2_S32768x2x1_0_1 : B F S32768x2 .i32 → B F S32768x2x1 .i32),
    binary main_v12 main_v126 main_v127 ((fun x i => Host.gather gather_S256x256_S32768x2x1_S32768x2x256_2_0_n_n_0_2_1256 x i) : B F S256x256 .f32 → B F S32768x2x1 .i32 → B F S32768x2x256 .f32),
    binary main_v125 main_v127 main_v128 ((fun l r => Host.dotGeneral dot_S32768x2_S32768x2x256_S32768x256_1_1_n_2_0_0 none l r) : B F S32768x2 .f32 → B F S32768x2x256 .f32 → B F S32768x256 .f32),
    binary main_v15 main_v128 main_v129 (subf : B F S32768x256 .f32 → B F S32768x256 .f32 → B F S32768x256 .f32),
    unary main_v60 main_v130 (noti : B F S32768x256 .i1 → B F S32768x256 .i1),
    unary main_v130 main_v131 (uitofp .f32 : B F S32768x256 .i1 → B F S32768x256 .f32),
    binary main_v129 main_v131 main_v132 (mulf : B F S32768x256 .f32 → B F S32768x256 .f32 → B F S32768x256 .f32),
    unary main_v132 main_v133 (Host.absf : B F S32768x256 .f32 → B F S32768x256 .f32),
    nullary main_call2_v0 (iotaInDim S32768x256 32 1),
    nullary main_call2_cst (constant S_ .f32 0xFF800000#32),
    nullary main_call2_c (constantI S_ 32 0#32),
    quaternary main_v133 main_call2_v0 main_call2_cst main_call2_c main_call2_v1_0 ((fun x y u v j => (Host.argReduce reducer_argmax_f32_i32 x y u v reducesTo_S32768x256_S32768_d1 h_S_ j).1) : B F S32768x256 .f32 → B F S32768x256 .i32 → B F S_ .f32 → B F S_ .i32 → B F S32768 .f32),
    quaternary main_v133 main_call2_v0 main_call2_cst main_call2_c main_v134 ((fun x y u v j => (Host.argReduce reducer_argmax_f32_i32 x y u v reducesTo_S32768x256_S32768_d1 h_S_ j).2) : B F S32768x256 .f32 → B F S32768x256 .i32 → B F S_ .f32 → B F S_ .i32 → B F S32768 .i32),
    unary main_v17 main_v135 (broadcastInDim S1x256 ![1] bcast_S256_S1x256_1 : B F S256 .i32 → B F S1x256 .i32),
    unary main_v134 main_v136 (broadcastInDim S32768x1 ![0] bcast_S32768_S32768x1_0 : B F S32768 .i32 → B F S32768x1 .i32),
    unary main_v135 main_v137 (broadcastInDim S32768x256 ![0, 1] bcast_S1x256_S32768x256_0_1 : B F S1x256 .i32 → B F S32768x256 .i32),
    unary main_v136 main_v138 (broadcastInDim S32768x256 ![0, 1] bcast_S32768x1_S32768x256_0_1 : B F S32768x1 .i32 → B F S32768x256 .i32),
    binary main_v137 main_v138 main_v139 (cmpi .eq : B F S32768x256 .i32 → B F S32768x256 .i32 → B F S32768x256 .i1),
    binary main_v60 main_v139 main_v140 (ori : B F S32768x256 .i1 → B F S32768x256 .i1 → B F S32768x256 .i1),
    unary main_v134 main_v141 (broadcastInDim S32768x1 ![0] bcast_S32768_S32768x1_0 : B F S32768 .i32 → B F S32768x1 .i32),
    unary main_v141 main_v142 (broadcastInDim S32768x2 ![0, 1] bcast_S32768x1_S32768x2_0_1 : B F S32768x1 .i32 → B F S32768x2 .i32),
    unary main_v84 main_v143 (broadcastInDim S32768x2x1 ![0, 1] bcast_S32768x2_S32768x2x1_0_1 : B F S32768x2 .i32 → B F S32768x2x1 .i32),
    unary main_v142 main_v144 (broadcastInDim S32768x2x1 ![0, 1] bcast_S32768x2_S32768x2x1_0_1 : B F S32768x2 .i32 → B F S32768x2x1 .i32),
    binary main_v143 main_v144 main_v145 ((fun a b => concatenate S32768x2x2 2 [⟨S32768x2x1, a⟩, ⟨S32768x2x1, b⟩] concatenates_S32768x2x1_S32768x2x1_S32768x2x2_d2) : B F S32768x2x1 .i32 → B F S32768x2x1 .i32 → B F S32768x2x2 .i32),
    binary main_v12 main_v145 main_v146 ((fun x i => Host.gather gather_S256x256_S32768x2x2_S32768x2_n_01_n_n_01_2_11 x i) : B F S256x256 .f32 → B F S32768x2x2 .i32 → B F S32768x2 .f32),
    unary main_v146 main_v147 ((extractStridedSlice S32768x1 ![0, 0] · slices_S32768x2_S32768x1_0_0) : B F S32768x2 .f32 → B F S32768x1 .f32),
    reshape main_v147 main_v148 (rfl : (.f32 : EltTy) = .f32) shapeCasts_S32768x1_S32768,
    unary main_v82 main_v149 ((extractStridedSlice S32768x1x1 ![0, 0, 0] · slices_S32768x2x2_S32768x1x1_0_0_0) : B F S32768x2x2 .f32 → B F S32768x1x1 .f32),
    reshape main_v149 main_v150 (rfl : (.f32 : EltTy) = .f32) shapeCasts_S32768x1x1_S32768,
    binary main_v148 main_v150 main_v151 (Host.divf : B F S32768 .f32 → B F S32768 .f32 → B F S32768 .f32),
    unary main_v146 main_v152 ((extractStridedSlice S32768x1 ![0, 1] · slices_S32768x2_S32768x1_0_1) : B F S32768x2 .f32 → B F S32768x1 .f32),
    reshape main_v152 main_v153 (rfl : (.f32 : EltTy) = .f32) shapeCasts_S32768x1_S32768,
    unary main_v82 main_v154 ((extractStridedSlice S32768x1x1 ![0, 1, 0] · slices_S32768x2x2_S32768x1x1_0_1_0) : B F S32768x2x2 .f32 → B F S32768x1x1 .f32),
    reshape main_v154 main_v155 (rfl : (.f32 : EltTy) = .f32) shapeCasts_S32768x1x1_S32768,
    binary main_v155 main_v151 main_v156 (mulf : B F S32768 .f32 → B F S32768 .f32 → B F S32768 .f32),
    binary main_v153 main_v156 main_v157 (subf : B F S32768 .f32 → B F S32768 .f32 → B F S32768 .f32),
    unary main_v82 main_v158 ((extractStridedSlice S32768x1x1 ![0, 1, 1] · slices_S32768x2x2_S32768x1x1_0_1_1) : B F S32768x2x2 .f32 → B F S32768x1x1 .f32),
    reshape main_v158 main_v159 (rfl : (.f32 : EltTy) = .f32) shapeCasts_S32768x1x1_S32768,
    binary main_v157 main_v159 main_v160 (Host.divf : B F S32768 .f32 → B F S32768 .f32 → B F S32768 .f32),
    unary main_v151 main_v161 (broadcastInDim S32768x1 ![0] bcast_S32768_S32768x1_0 : B F S32768 .f32 → B F S32768x1 .f32),
    unary main_v160 main_v162 (broadcastInDim S32768x1 ![0] bcast_S32768_S32768x1_0 : B F S32768 .f32 → B F S32768x1 .f32),
    binary main_v161 main_v162 main_v163 ((fun a b => concatenate S32768x2 1 [⟨S32768x1, a⟩, ⟨S32768x1, b⟩] concatenates_S32768x1_S32768x1_S32768x2_d1) : B F S32768x1 .f32 → B F S32768x1 .f32 → B F S32768x2 .f32),
    binary main_v163 main_v163 main_v164 (mulf : B F S32768x2 .f32 → B F S32768x2 .f32 → B F S32768x2 .f32),
    nullary main_cst_6 (constant S_ .f32 0x00000000#32),
    binary main_v164 main_cst_6 main_v165 ((fun x v => Host.reduceAdd x v reducesTo_S32768x2_S32768_d1 h_S_) : B F S32768x2 .f32 → B F S_ .f32 → B F S32768 .f32),
    unary main_v165 main_v166 (broadcastInDim S32768x1 ![0] bcast_S32768_S32768x1_0 : B F S32768 .f32 → B F S32768x1 .f32),
    nullary main_cst_7 (constant S_ .f32 0x3F800000#32),
    unary main_cst_7 main_v167 (broadcastInDim S32768x1 ![] bcast_S_S32768x1 : B F S_ .f32 → B F S32768x1 .f32),
    binary main_v167 main_v166 main_v168 (subf : B F S32768x1 .f32 → B F S32768x1 .f32 → B F S32768x1 .f32),
    nullary main_cst_8 (constant S_ .f32 0x2B8CBCCC#32) ]

/-- Part 3 of the program: operations 193 to 252. -/
noncomputable def part3 : List (HloOp τ sig (Elt F)) :=
  [ unary main_cst_8 main_v169 (broadcastInDim S32768x1 ![] bcast_S_S32768x1 : B F S_ .f32 → B F S32768x1 .f32),
    binary main_v168 main_v169 main_v170 (maximumf : B F S32768x1 .f32 → B F S32768x1 .f32 → B F S32768x1 .f32),
    unary main_v170 main_v171 (Host.sqrt : B F S32768x1 .f32 → B F S32768x1 .f32),
    nullary main_cst_9 (constant S_ .f32 0x00000000#32),
    unary main_cst_9 main_v172 (broadcastInDim S32768x2x1 ![] bcast_S_S32768x2x1 : B F S_ .f32 → B F S32768x2x1 .f32),
    binary main_v82 main_v172 main_v173 ((fun a b => concatenate S32768x2x3 2 [⟨S32768x2x2, a⟩, ⟨S32768x2x1, b⟩] concatenates_S32768x2x2_S32768x2x1_S32768x2x3_d2) : B F S32768x2x2 .f32 → B F S32768x2x1 .f32 → B F S32768x2x3 .f32),
    binary main_v163 main_v171 main_v174 ((fun a b => concatenate S32768x3 1 [⟨S32768x2, a⟩, ⟨S32768x1, b⟩] concatenates_S32768x2_S32768x1_S32768x3_d1) : B F S32768x2 .f32 → B F S32768x1 .f32 → B F S32768x3 .f32),
    unary main_v174 main_v175 (broadcastInDim S32768x1x3 ![0, 2] bcast_S32768x3_S32768x1x3_0_2 : B F S32768x3 .f32 → B F S32768x1x3 .f32),
    binary main_v173 main_v175 main_v176 ((fun a b => concatenate S32768x3x3 1 [⟨S32768x2x3, a⟩, ⟨S32768x1x3, b⟩] concatenates_S32768x2x3_S32768x1x3_S32768x3x3_d1) : B F S32768x2x3 .f32 → B F S32768x1x3 .f32 → B F S32768x3x3 .f32),
    unary main_v134 main_v177 (broadcastInDim S32768x1 ![0] bcast_S32768_S32768x1_0 : B F S32768 .i32 → B F S32768x1 .i32),
    binary main_v84 main_v177 main_v178 ((fun a b => concatenate S32768x3 1 [⟨S32768x2, a⟩, ⟨S32768x1, b⟩] concatenates_S32768x2_S32768x1_S32768x3_d1) : B F S32768x2 .i32 → B F S32768x1 .i32 → B F S32768x3 .i32),
    unary main_v16 main_v179 (broadcastInDim S32768x1 ![0] bcast_S32768_S32768x1_0 : B F S32768 .i32 → B F S32768x1 .i32),
    unary main_v179 main_v180 (broadcastInDim S32768x3 ![0, 1] bcast_S32768x1_S32768x3_0_1 : B F S32768x1 .i32 → B F S32768x3 .i32),
    unary main_v180 main_v181 (broadcastInDim S32768x3x1 ![0, 1] bcast_S32768x3_S32768x3x1_0_1 : B F S32768x3 .i32 → B F S32768x3x1 .i32),
    unary main_v178 main_v182 (broadcastInDim S32768x3x1 ![0, 1] bcast_S32768x3_S32768x3x1_0_1 : B F S32768x3 .i32 → B F S32768x3x1 .i32),
    binary main_v181 main_v182 main_v183 ((fun a b => concatenate S32768x3x2 2 [⟨S32768x3x1, a⟩, ⟨S32768x3x1, b⟩] concatenates_S32768x3x1_S32768x3x1_S32768x3x2_d2) : B F S32768x3x1 .i32 → B F S32768x3x1 .i32 → B F S32768x3x2 .i32),
    binary main_v15 main_v183 main_v184 ((fun x i => Host.gather gather_S32768x256_S32768x3x2_S32768x3_n_01_n_n_01_2_11 x i) : B F S32768x256 .f32 → B F S32768x3x2 .i32 → B F S32768x3 .f32),
    unary main_v184 main_v185 ((extractStridedSlice S32768x1 ![0, 0] · slices_S32768x3_S32768x1_0_0) : B F S32768x3 .f32 → B F S32768x1 .f32),
    reshape main_v185 main_v186 (rfl : (.f32 : EltTy) = .f32) shapeCasts_S32768x1_S32768,
    unary main_v176 main_v187 ((extractStridedSlice S32768x1x1 ![0, 0, 0] · slices_S32768x3x3_S32768x1x1_0_0_0) : B F S32768x3x3 .f32 → B F S32768x1x1 .f32),
    reshape main_v187 main_v188 (rfl : (.f32 : EltTy) = .f32) shapeCasts_S32768x1x1_S32768,
    binary main_v186 main_v188 main_v189 (Host.divf : B F S32768 .f32 → B F S32768 .f32 → B F S32768 .f32),
    unary main_v184 main_v190 ((extractStridedSlice S32768x1 ![0, 1] · slices_S32768x3_S32768x1_0_1) : B F S32768x3 .f32 → B F S32768x1 .f32),
    reshape main_v190 main_v191 (rfl : (.f32 : EltTy) = .f32) shapeCasts_S32768x1_S32768,
    unary main_v176 main_v192 ((extractStridedSlice S32768x1x1 ![0, 1, 0] · slices_S32768x3x3_S32768x1x1_0_1_0) : B F S32768x3x3 .f32 → B F S32768x1x1 .f32),
    reshape main_v192 main_v193 (rfl : (.f32 : EltTy) = .f32) shapeCasts_S32768x1x1_S32768,
    binary main_v193 main_v189 main_v194 (mulf : B F S32768 .f32 → B F S32768 .f32 → B F S32768 .f32),
    binary main_v191 main_v194 main_v195 (subf : B F S32768 .f32 → B F S32768 .f32 → B F S32768 .f32),
    unary main_v176 main_v196 ((extractStridedSlice S32768x1x1 ![0, 1, 1] · slices_S32768x3x3_S32768x1x1_0_1_1) : B F S32768x3x3 .f32 → B F S32768x1x1 .f32),
    reshape main_v196 main_v197 (rfl : (.f32 : EltTy) = .f32) shapeCasts_S32768x1x1_S32768,
    binary main_v195 main_v197 main_v198 (Host.divf : B F S32768 .f32 → B F S32768 .f32 → B F S32768 .f32),
    unary main_v184 main_v199 ((extractStridedSlice S32768x1 ![0, 2] · slices_S32768x3_S32768x1_0_2) : B F S32768x3 .f32 → B F S32768x1 .f32),
    reshape main_v199 main_v200 (rfl : (.f32 : EltTy) = .f32) shapeCasts_S32768x1_S32768,
    unary main_v176 main_v201 ((extractStridedSlice S32768x1x1 ![0, 2, 0] · slices_S32768x3x3_S32768x1x1_0_2_0) : B F S32768x3x3 .f32 → B F S32768x1x1 .f32),
    reshape main_v201 main_v202 (rfl : (.f32 : EltTy) = .f32) shapeCasts_S32768x1x1_S32768,
    binary main_v202 main_v189 main_v203 (mulf : B F S32768 .f32 → B F S32768 .f32 → B F S32768 .f32),
    binary main_v200 main_v203 main_v204 (subf : B F S32768 .f32 → B F S32768 .f32 → B F S32768 .f32),
    unary main_v176 main_v205 ((extractStridedSlice S32768x1x1 ![0, 2, 1] · slices_S32768x3x3_S32768x1x1_0_2_1) : B F S32768x3x3 .f32 → B F S32768x1x1 .f32),
    reshape main_v205 main_v206 (rfl : (.f32 : EltTy) = .f32) shapeCasts_S32768x1x1_S32768,
    binary main_v206 main_v198 main_v207 (mulf : B F S32768 .f32 → B F S32768 .f32 → B F S32768 .f32),
    binary main_v204 main_v207 main_v208 (subf : B F S32768 .f32 → B F S32768 .f32 → B F S32768 .f32),
    unary main_v176 main_v209 ((extractStridedSlice S32768x1x1 ![0, 2, 2] · slices_S32768x3x3_S32768x1x1_0_2_2) : B F S32768x3x3 .f32 → B F S32768x1x1 .f32),
    reshape main_v209 main_v210 (rfl : (.f32 : EltTy) = .f32) shapeCasts_S32768x1x1_S32768,
    binary main_v208 main_v210 main_v211 (Host.divf : B F S32768 .f32 → B F S32768 .f32 → B F S32768 .f32),
    unary main_v189 main_v212 (broadcastInDim S32768x1 ![0] bcast_S32768_S32768x1_0 : B F S32768 .f32 → B F S32768x1 .f32),
    unary main_v198 main_v213 (broadcastInDim S32768x1 ![0] bcast_S32768_S32768x1_0 : B F S32768 .f32 → B F S32768x1 .f32),
    unary main_v211 main_v214 (broadcastInDim S32768x1 ![0] bcast_S32768_S32768x1_0 : B F S32768 .f32 → B F S32768x1 .f32),
    nary ![main_v212, main_v213, main_v214] main_v215 (fun u => (concatenate S32768x3 1 [⟨S32768x1, (u 0 : B F S32768x1 .f32)⟩, ⟨S32768x1, (u 1 : B F S32768x1 .f32)⟩, ⟨S32768x1, (u 2 : B F S32768x1 .f32)⟩] concatenates_S32768x1_S32768x1_S32768x1_S32768x3_d1 : B F S32768x3 .f32)),
    unary main_v176 main_v216 ((transpose S32768x3x3 [0, 2, 1] · transposes_S32768x3x3_S32768x3x3_0_2_1) : B F S32768x3x3 .f32 → B F S32768x3x3 .f32),
    unary main_v215 main_v217 ((extractStridedSlice S32768x1 ![0, 2] · slices_S32768x3_S32768x1_0_2) : B F S32768x3 .f32 → B F S32768x1 .f32),
    reshape main_v217 main_v218 (rfl : (.f32 : EltTy) = .f32) shapeCasts_S32768x1_S32768,
    unary main_v216 main_v219 ((extractStridedSlice S32768x1x1 ![0, 2, 2] · slices_S32768x3x3_S32768x1x1_0_2_2) : B F S32768x3x3 .f32 → B F S32768x1x1 .f32),
    reshape main_v219 main_v220 (rfl : (.f32 : EltTy) = .f32) shapeCasts_S32768x1x1_S32768,
    binary main_v218 main_v220 main_v221 (Host.divf : B F S32768 .f32 → B F S32768 .f32 → B F S32768 .f32),
    unary main_v215 main_v222 ((extractStridedSlice S32768x1 ![0, 1] · slices_S32768x3_S32768x1_0_1) : B F S32768x3 .f32 → B F S32768x1 .f32),
    reshape main_v222 main_v223 (rfl : (.f32 : EltTy) = .f32) shapeCasts_S32768x1_S32768,
    unary main_v216 main_v224 ((extractStridedSlice S32768x1x1 ![0, 1, 2] · slices_S32768x3x3_S32768x1x1_0_1_2) : B F S32768x3x3 .f32 → B F S32768x1x1 .f32),
    reshape main_v224 main_v225 (rfl : (.f32 : EltTy) = .f32) shapeCasts_S32768x1x1_S32768,
    binary main_v225 main_v221 main_v226 (mulf : B F S32768 .f32 → B F S32768 .f32 → B F S32768 .f32),
    binary main_v223 main_v226 main_v227 (subf : B F S32768 .f32 → B F S32768 .f32 → B F S32768 .f32) ]

/-- Part 4 of the program: operations 253 to 316. -/
noncomputable def part4 : List (HloOp τ sig (Elt F)) :=
  [ unary main_v216 main_v228 ((extractStridedSlice S32768x1x1 ![0, 1, 1] · slices_S32768x3x3_S32768x1x1_0_1_1) : B F S32768x3x3 .f32 → B F S32768x1x1 .f32),
    reshape main_v228 main_v229 (rfl : (.f32 : EltTy) = .f32) shapeCasts_S32768x1x1_S32768,
    binary main_v227 main_v229 main_v230 (Host.divf : B F S32768 .f32 → B F S32768 .f32 → B F S32768 .f32),
    unary main_v215 main_v231 ((extractStridedSlice S32768x1 ![0, 0] · slices_S32768x3_S32768x1_0_0) : B F S32768x3 .f32 → B F S32768x1 .f32),
    reshape main_v231 main_v232 (rfl : (.f32 : EltTy) = .f32) shapeCasts_S32768x1_S32768,
    unary main_v216 main_v233 ((extractStridedSlice S32768x1x1 ![0, 0, 1] · slices_S32768x3x3_S32768x1x1_0_0_1) : B F S32768x3x3 .f32 → B F S32768x1x1 .f32),
    reshape main_v233 main_v234 (rfl : (.f32 : EltTy) = .f32) shapeCasts_S32768x1x1_S32768,
    binary main_v234 main_v230 main_v235 (mulf : B F S32768 .f32 → B F S32768 .f32 → B F S32768 .f32),
    binary main_v232 main_v235 main_v236 (subf : B F S32768 .f32 → B F S32768 .f32 → B F S32768 .f32),
    unary main_v216 main_v237 ((extractStridedSlice S32768x1x1 ![0, 0, 2] · slices_S32768x3x3_S32768x1x1_0_0_2) : B F S32768x3x3 .f32 → B F S32768x1x1 .f32),
    reshape main_v237 main_v238 (rfl : (.f32 : EltTy) = .f32) shapeCasts_S32768x1x1_S32768,
    binary main_v238 main_v221 main_v239 (mulf : B F S32768 .f32 → B F S32768 .f32 → B F S32768 .f32),
    binary main_v236 main_v239 main_v240 (subf : B F S32768 .f32 → B F S32768 .f32 → B F S32768 .f32),
    unary main_v216 main_v241 ((extractStridedSlice S32768x1x1 ![0, 0, 0] · slices_S32768x3x3_S32768x1x1_0_0_0) : B F S32768x3x3 .f32 → B F S32768x1x1 .f32),
    reshape main_v241 main_v242 (rfl : (.f32 : EltTy) = .f32) shapeCasts_S32768x1x1_S32768,
    binary main_v240 main_v242 main_v243 (Host.divf : B F S32768 .f32 → B F S32768 .f32 → B F S32768 .f32),
    unary main_v243 main_v244 (broadcastInDim S32768x1 ![0] bcast_S32768_S32768x1_0 : B F S32768 .f32 → B F S32768x1 .f32),
    unary main_v230 main_v245 (broadcastInDim S32768x1 ![0] bcast_S32768_S32768x1_0 : B F S32768 .f32 → B F S32768x1 .f32),
    unary main_v221 main_v246 (broadcastInDim S32768x1 ![0] bcast_S32768_S32768x1_0 : B F S32768 .f32 → B F S32768x1 .f32),
    nary ![main_v244, main_v245, main_v246] main_v247 (fun u => (concatenate S32768x3 1 [⟨S32768x1, (u 0 : B F S32768x1 .f32)⟩, ⟨S32768x1, (u 1 : B F S32768x1 .f32)⟩, ⟨S32768x1, (u 2 : B F S32768x1 .f32)⟩] concatenates_S32768x1_S32768x1_S32768x1_S32768x3_d1 : B F S32768x3 .f32)),
    unary main_v178 main_v248 (broadcastInDim S32768x3x1 ![0, 1] bcast_S32768x3_S32768x3x1_0_1 : B F S32768x3 .i32 → B F S32768x3x1 .i32),
    binary main_v12 main_v248 main_v249 ((fun x i => Host.gather gather_S256x256_S32768x3x1_S32768x3x256_2_0_n_n_0_2_1256 x i) : B F S256x256 .f32 → B F S32768x3x1 .i32 → B F S32768x3x256 .f32),
    binary main_v247 main_v249 main_v250 ((fun l r => Host.dotGeneral dot_S32768x3_S32768x3x256_S32768x256_1_1_n_2_0_0 none l r) : B F S32768x3 .f32 → B F S32768x3x256 .f32 → B F S32768x256 .f32),
    binary main_v15 main_v250 main_v251 (subf : B F S32768x256 .f32 → B F S32768x256 .f32 → B F S32768x256 .f32),
    unary main_v140 main_v252 (noti : B F S32768x256 .i1 → B F S32768x256 .i1),
    unary main_v252 main_v253 (uitofp .f32 : B F S32768x256 .i1 → B F S32768x256 .f32),
    binary main_v251 main_v253 main_v254 (mulf : B F S32768x256 .f32 → B F S32768x256 .f32 → B F S32768x256 .f32),
    unary main_v254 main_v255 (Host.absf : B F S32768x256 .f32 → B F S32768x256 .f32),
    nullary main_call3_v0 (iotaInDim S32768x256 32 1),
    nullary main_call3_cst (constant S_ .f32 0xFF800000#32),
    nullary main_call3_c (constantI S_ 32 0#32),
    quaternary main_v255 main_call3_v0 main_call3_cst main_call3_c main_call3_v1_0 ((fun x y u v j => (Host.argReduce reducer_argmax_f32_i32 x y u v reducesTo_S32768x256_S32768_d1 h_S_ j).1) : B F S32768x256 .f32 → B F S32768x256 .i32 → B F S_ .f32 → B F S_ .i32 → B F S32768 .f32),
    quaternary main_v255 main_call3_v0 main_call3_cst main_call3_c main_v256 ((fun x y u v j => (Host.argReduce reducer_argmax_f32_i32 x y u v reducesTo_S32768x256_S32768_d1 h_S_ j).2) : B F S32768x256 .f32 → B F S32768x256 .i32 → B F S_ .f32 → B F S_ .i32 → B F S32768 .i32),
    unary main_v17 main_v257 (broadcastInDim S1x256 ![1] bcast_S256_S1x256_1 : B F S256 .i32 → B F S1x256 .i32),
    unary main_v256 main_v258 (broadcastInDim S32768x1 ![0] bcast_S32768_S32768x1_0 : B F S32768 .i32 → B F S32768x1 .i32),
    unary main_v257 main_v259 (broadcastInDim S32768x256 ![0, 1] bcast_S1x256_S32768x256_0_1 : B F S1x256 .i32 → B F S32768x256 .i32),
    unary main_v258 main_v260 (broadcastInDim S32768x256 ![0, 1] bcast_S32768x1_S32768x256_0_1 : B F S32768x1 .i32 → B F S32768x256 .i32),
    binary main_v259 main_v260 main_v261 (cmpi .eq : B F S32768x256 .i32 → B F S32768x256 .i32 → B F S32768x256 .i1),
    binary main_v140 main_v261 main_v262 (ori : B F S32768x256 .i1 → B F S32768x256 .i1 → B F S32768x256 .i1),
    unary main_v256 main_v263 (broadcastInDim S32768x1 ![0] bcast_S32768_S32768x1_0 : B F S32768 .i32 → B F S32768x1 .i32),
    unary main_v263 main_v264 (broadcastInDim S32768x3 ![0, 1] bcast_S32768x1_S32768x3_0_1 : B F S32768x1 .i32 → B F S32768x3 .i32),
    unary main_v178 main_v265 (broadcastInDim S32768x3x1 ![0, 1] bcast_S32768x3_S32768x3x1_0_1 : B F S32768x3 .i32 → B F S32768x3x1 .i32),
    unary main_v264 main_v266 (broadcastInDim S32768x3x1 ![0, 1] bcast_S32768x3_S32768x3x1_0_1 : B F S32768x3 .i32 → B F S32768x3x1 .i32),
    binary main_v265 main_v266 main_v267 ((fun a b => concatenate S32768x3x2 2 [⟨S32768x3x1, a⟩, ⟨S32768x3x1, b⟩] concatenates_S32768x3x1_S32768x3x1_S32768x3x2_d2) : B F S32768x3x1 .i32 → B F S32768x3x1 .i32 → B F S32768x3x2 .i32),
    binary main_v12 main_v267 main_v268 ((fun x i => Host.gather gather_S256x256_S32768x3x2_S32768x3_n_01_n_n_01_2_11 x i) : B F S256x256 .f32 → B F S32768x3x2 .i32 → B F S32768x3 .f32),
    unary main_v268 main_v269 ((extractStridedSlice S32768x1 ![0, 0] · slices_S32768x3_S32768x1_0_0) : B F S32768x3 .f32 → B F S32768x1 .f32),
    reshape main_v269 main_v270 (rfl : (.f32 : EltTy) = .f32) shapeCasts_S32768x1_S32768,
    unary main_v176 main_v271 ((extractStridedSlice S32768x1x1 ![0, 0, 0] · slices_S32768x3x3_S32768x1x1_0_0_0) : B F S32768x3x3 .f32 → B F S32768x1x1 .f32),
    reshape main_v271 main_v272 (rfl : (.f32 : EltTy) = .f32) shapeCasts_S32768x1x1_S32768,
    binary main_v270 main_v272 main_v273 (Host.divf : B F S32768 .f32 → B F S32768 .f32 → B F S32768 .f32),
    unary main_v268 main_v274 ((extractStridedSlice S32768x1 ![0, 1] · slices_S32768x3_S32768x1_0_1) : B F S32768x3 .f32 → B F S32768x1 .f32),
    reshape main_v274 main_v275 (rfl : (.f32 : EltTy) = .f32) shapeCasts_S32768x1_S32768,
    unary main_v176 main_v276 ((extractStridedSlice S32768x1x1 ![0, 1, 0] · slices_S32768x3x3_S32768x1x1_0_1_0) : B F S32768x3x3 .f32 → B F S32768x1x1 .f32),
    reshape main_v276 main_v277 (rfl : (.f32 : EltTy) = .f32) shapeCasts_S32768x1x1_S32768,
    binary main_v277 main_v273 main_v278 (mulf : B F S32768 .f32 → B F S32768 .f32 → B F S32768 .f32),
    binary main_v275 main_v278 main_v279 (subf : B F S32768 .f32 → B F S32768 .f32 → B F S32768 .f32),
    unary main_v176 main_v280 ((extractStridedSlice S32768x1x1 ![0, 1, 1] · slices_S32768x3x3_S32768x1x1_0_1_1) : B F S32768x3x3 .f32 → B F S32768x1x1 .f32),
    reshape main_v280 main_v281 (rfl : (.f32 : EltTy) = .f32) shapeCasts_S32768x1x1_S32768,
    binary main_v279 main_v281 main_v282 (Host.divf : B F S32768 .f32 → B F S32768 .f32 → B F S32768 .f32),
    unary main_v268 main_v283 ((extractStridedSlice S32768x1 ![0, 2] · slices_S32768x3_S32768x1_0_2) : B F S32768x3 .f32 → B F S32768x1 .f32),
    reshape main_v283 main_v284 (rfl : (.f32 : EltTy) = .f32) shapeCasts_S32768x1_S32768,
    unary main_v176 main_v285 ((extractStridedSlice S32768x1x1 ![0, 2, 0] · slices_S32768x3x3_S32768x1x1_0_2_0) : B F S32768x3x3 .f32 → B F S32768x1x1 .f32),
    reshape main_v285 main_v286 (rfl : (.f32 : EltTy) = .f32) shapeCasts_S32768x1x1_S32768,
    binary main_v286 main_v273 main_v287 (mulf : B F S32768 .f32 → B F S32768 .f32 → B F S32768 .f32) ]

/-- Part 5 of the program: operations 317 to 376. -/
noncomputable def part5 : List (HloOp τ sig (Elt F)) :=
  [ binary main_v284 main_v287 main_v288 (subf : B F S32768 .f32 → B F S32768 .f32 → B F S32768 .f32),
    unary main_v176 main_v289 ((extractStridedSlice S32768x1x1 ![0, 2, 1] · slices_S32768x3x3_S32768x1x1_0_2_1) : B F S32768x3x3 .f32 → B F S32768x1x1 .f32),
    reshape main_v289 main_v290 (rfl : (.f32 : EltTy) = .f32) shapeCasts_S32768x1x1_S32768,
    binary main_v290 main_v282 main_v291 (mulf : B F S32768 .f32 → B F S32768 .f32 → B F S32768 .f32),
    binary main_v288 main_v291 main_v292 (subf : B F S32768 .f32 → B F S32768 .f32 → B F S32768 .f32),
    unary main_v176 main_v293 ((extractStridedSlice S32768x1x1 ![0, 2, 2] · slices_S32768x3x3_S32768x1x1_0_2_2) : B F S32768x3x3 .f32 → B F S32768x1x1 .f32),
    reshape main_v293 main_v294 (rfl : (.f32 : EltTy) = .f32) shapeCasts_S32768x1x1_S32768,
    binary main_v292 main_v294 main_v295 (Host.divf : B F S32768 .f32 → B F S32768 .f32 → B F S32768 .f32),
    unary main_v273 main_v296 (broadcastInDim S32768x1 ![0] bcast_S32768_S32768x1_0 : B F S32768 .f32 → B F S32768x1 .f32),
    unary main_v282 main_v297 (broadcastInDim S32768x1 ![0] bcast_S32768_S32768x1_0 : B F S32768 .f32 → B F S32768x1 .f32),
    unary main_v295 main_v298 (broadcastInDim S32768x1 ![0] bcast_S32768_S32768x1_0 : B F S32768 .f32 → B F S32768x1 .f32),
    nary ![main_v296, main_v297, main_v298] main_v299 (fun u => (concatenate S32768x3 1 [⟨S32768x1, (u 0 : B F S32768x1 .f32)⟩, ⟨S32768x1, (u 1 : B F S32768x1 .f32)⟩, ⟨S32768x1, (u 2 : B F S32768x1 .f32)⟩] concatenates_S32768x1_S32768x1_S32768x1_S32768x3_d1 : B F S32768x3 .f32)),
    binary main_v299 main_v299 main_v300 (mulf : B F S32768x3 .f32 → B F S32768x3 .f32 → B F S32768x3 .f32),
    nullary main_cst_10 (constant S_ .f32 0x00000000#32),
    binary main_v300 main_cst_10 main_v301 ((fun x v => Host.reduceAdd x v reducesTo_S32768x3_S32768_d1 h_S_) : B F S32768x3 .f32 → B F S_ .f32 → B F S32768 .f32),
    unary main_v301 main_v302 (broadcastInDim S32768x1 ![0] bcast_S32768_S32768x1_0 : B F S32768 .f32 → B F S32768x1 .f32),
    nullary main_cst_11 (constant S_ .f32 0x3F800000#32),
    unary main_cst_11 main_v303 (broadcastInDim S32768x1 ![] bcast_S_S32768x1 : B F S_ .f32 → B F S32768x1 .f32),
    binary main_v303 main_v302 main_v304 (subf : B F S32768x1 .f32 → B F S32768x1 .f32 → B F S32768x1 .f32),
    nullary main_cst_12 (constant S_ .f32 0x2B8CBCCC#32),
    unary main_cst_12 main_v305 (broadcastInDim S32768x1 ![] bcast_S_S32768x1 : B F S_ .f32 → B F S32768x1 .f32),
    binary main_v304 main_v305 main_v306 (maximumf : B F S32768x1 .f32 → B F S32768x1 .f32 → B F S32768x1 .f32),
    unary main_v306 main_v307 (Host.sqrt : B F S32768x1 .f32 → B F S32768x1 .f32),
    nullary main_cst_13 (constant S_ .f32 0x00000000#32),
    unary main_cst_13 main_v308 (broadcastInDim S32768x3x1 ![] bcast_S_S32768x3x1 : B F S_ .f32 → B F S32768x3x1 .f32),
    binary main_v176 main_v308 main_v309 ((fun a b => concatenate S32768x3x4 2 [⟨S32768x3x3, a⟩, ⟨S32768x3x1, b⟩] concatenates_S32768x3x3_S32768x3x1_S32768x3x4_d2) : B F S32768x3x3 .f32 → B F S32768x3x1 .f32 → B F S32768x3x4 .f32),
    binary main_v299 main_v307 main_v310 ((fun a b => concatenate S32768x4 1 [⟨S32768x3, a⟩, ⟨S32768x1, b⟩] concatenates_S32768x3_S32768x1_S32768x4_d1) : B F S32768x3 .f32 → B F S32768x1 .f32 → B F S32768x4 .f32),
    unary main_v310 main_v311 (broadcastInDim S32768x1x4 ![0, 2] bcast_S32768x4_S32768x1x4_0_2 : B F S32768x4 .f32 → B F S32768x1x4 .f32),
    binary main_v309 main_v311 main_v312 ((fun a b => concatenate S32768x4x4 1 [⟨S32768x3x4, a⟩, ⟨S32768x1x4, b⟩] concatenates_S32768x3x4_S32768x1x4_S32768x4x4_d1) : B F S32768x3x4 .f32 → B F S32768x1x4 .f32 → B F S32768x4x4 .f32),
    unary main_v256 main_v313 (broadcastInDim S32768x1 ![0] bcast_S32768_S32768x1_0 : B F S32768 .i32 → B F S32768x1 .i32),
    binary main_v178 main_v313 main_v314 ((fun a b => concatenate S32768x4 1 [⟨S32768x3, a⟩, ⟨S32768x1, b⟩] concatenates_S32768x3_S32768x1_S32768x4_d1) : B F S32768x3 .i32 → B F S32768x1 .i32 → B F S32768x4 .i32),
    unary main_v16 main_v315 (broadcastInDim S32768x1 ![0] bcast_S32768_S32768x1_0 : B F S32768 .i32 → B F S32768x1 .i32),
    unary main_v315 main_v316 (broadcastInDim S32768x4 ![0, 1] bcast_S32768x1_S32768x4_0_1 : B F S32768x1 .i32 → B F S32768x4 .i32),
    unary main_v316 main_v317 (broadcastInDim S32768x4x1 ![0, 1] bcast_S32768x4_S32768x4x1_0_1 : B F S32768x4 .i32 → B F S32768x4x1 .i32),
    unary main_v314 main_v318 (broadcastInDim S32768x4x1 ![0, 1] bcast_S32768x4_S32768x4x1_0_1 : B F S32768x4 .i32 → B F S32768x4x1 .i32),
    binary main_v317 main_v318 main_v319 ((fun a b => concatenate S32768x4x2 2 [⟨S32768x4x1, a⟩, ⟨S32768x4x1, b⟩] concatenates_S32768x4x1_S32768x4x1_S32768x4x2_d2) : B F S32768x4x1 .i32 → B F S32768x4x1 .i32 → B F S32768x4x2 .i32),
    binary main_v15 main_v319 main_v320 ((fun x i => Host.gather gather_S32768x256_S32768x4x2_S32768x4_n_01_n_n_01_2_11 x i) : B F S32768x256 .f32 → B F S32768x4x2 .i32 → B F S32768x4 .f32),
    unary main_v320 main_v321 ((extractStridedSlice S32768x1 ![0, 0] · slices_S32768x4_S32768x1_0_0) : B F S32768x4 .f32 → B F S32768x1 .f32),
    reshape main_v321 main_v322 (rfl : (.f32 : EltTy) = .f32) shapeCasts_S32768x1_S32768,
    unary main_v312 main_v323 ((extractStridedSlice S32768x1x1 ![0, 0, 0] · slices_S32768x4x4_S32768x1x1_0_0_0) : B F S32768x4x4 .f32 → B F S32768x1x1 .f32),
    reshape main_v323 main_v324 (rfl : (.f32 : EltTy) = .f32) shapeCasts_S32768x1x1_S32768,
    binary main_v322 main_v324 main_v325 (Host.divf : B F S32768 .f32 → B F S32768 .f32 → B F S32768 .f32),
    unary main_v320 main_v326 ((extractStridedSlice S32768x1 ![0, 1] · slices_S32768x4_S32768x1_0_1) : B F S32768x4 .f32 → B F S32768x1 .f32),
    reshape main_v326 main_v327 (rfl : (.f32 : EltTy) = .f32) shapeCasts_S32768x1_S32768,
    unary main_v312 main_v328 ((extractStridedSlice S32768x1x1 ![0, 1, 0] · slices_S32768x4x4_S32768x1x1_0_1_0) : B F S32768x4x4 .f32 → B F S32768x1x1 .f32),
    reshape main_v328 main_v329 (rfl : (.f32 : EltTy) = .f32) shapeCasts_S32768x1x1_S32768,
    binary main_v329 main_v325 main_v330 (mulf : B F S32768 .f32 → B F S32768 .f32 → B F S32768 .f32),
    binary main_v327 main_v330 main_v331 (subf : B F S32768 .f32 → B F S32768 .f32 → B F S32768 .f32),
    unary main_v312 main_v332 ((extractStridedSlice S32768x1x1 ![0, 1, 1] · slices_S32768x4x4_S32768x1x1_0_1_1) : B F S32768x4x4 .f32 → B F S32768x1x1 .f32),
    reshape main_v332 main_v333 (rfl : (.f32 : EltTy) = .f32) shapeCasts_S32768x1x1_S32768,
    binary main_v331 main_v333 main_v334 (Host.divf : B F S32768 .f32 → B F S32768 .f32 → B F S32768 .f32),
    unary main_v320 main_v335 ((extractStridedSlice S32768x1 ![0, 2] · slices_S32768x4_S32768x1_0_2) : B F S32768x4 .f32 → B F S32768x1 .f32),
    reshape main_v335 main_v336 (rfl : (.f32 : EltTy) = .f32) shapeCasts_S32768x1_S32768,
    unary main_v312 main_v337 ((extractStridedSlice S32768x1x1 ![0, 2, 0] · slices_S32768x4x4_S32768x1x1_0_2_0) : B F S32768x4x4 .f32 → B F S32768x1x1 .f32),
    reshape main_v337 main_v338 (rfl : (.f32 : EltTy) = .f32) shapeCasts_S32768x1x1_S32768,
    binary main_v338 main_v325 main_v339 (mulf : B F S32768 .f32 → B F S32768 .f32 → B F S32768 .f32),
    binary main_v336 main_v339 main_v340 (subf : B F S32768 .f32 → B F S32768 .f32 → B F S32768 .f32),
    unary main_v312 main_v341 ((extractStridedSlice S32768x1x1 ![0, 2, 1] · slices_S32768x4x4_S32768x1x1_0_2_1) : B F S32768x4x4 .f32 → B F S32768x1x1 .f32),
    reshape main_v341 main_v342 (rfl : (.f32 : EltTy) = .f32) shapeCasts_S32768x1x1_S32768,
    binary main_v342 main_v334 main_v343 (mulf : B F S32768 .f32 → B F S32768 .f32 → B F S32768 .f32) ]

/-- Part 6 of the program: operations 377 to 436. -/
noncomputable def part6 : List (HloOp τ sig (Elt F)) :=
  [ binary main_v340 main_v343 main_v344 (subf : B F S32768 .f32 → B F S32768 .f32 → B F S32768 .f32),
    unary main_v312 main_v345 ((extractStridedSlice S32768x1x1 ![0, 2, 2] · slices_S32768x4x4_S32768x1x1_0_2_2) : B F S32768x4x4 .f32 → B F S32768x1x1 .f32),
    reshape main_v345 main_v346 (rfl : (.f32 : EltTy) = .f32) shapeCasts_S32768x1x1_S32768,
    binary main_v344 main_v346 main_v347 (Host.divf : B F S32768 .f32 → B F S32768 .f32 → B F S32768 .f32),
    unary main_v320 main_v348 ((extractStridedSlice S32768x1 ![0, 3] · slices_S32768x4_S32768x1_0_3) : B F S32768x4 .f32 → B F S32768x1 .f32),
    reshape main_v348 main_v349 (rfl : (.f32 : EltTy) = .f32) shapeCasts_S32768x1_S32768,
    unary main_v312 main_v350 ((extractStridedSlice S32768x1x1 ![0, 3, 0] · slices_S32768x4x4_S32768x1x1_0_3_0) : B F S32768x4x4 .f32 → B F S32768x1x1 .f32),
    reshape main_v350 main_v351 (rfl : (.f32 : EltTy) = .f32) shapeCasts_S32768x1x1_S32768,
    binary main_v351 main_v325 main_v352 (mulf : B F S32768 .f32 → B F S32768 .f32 → B F S32768 .f32),
    binary main_v349 main_v352 main_v353 (subf : B F S32768 .f32 → B F S32768 .f32 → B F S32768 .f32),
    unary main_v312 main_v354 ((extractStridedSlice S32768x1x1 ![0, 3, 1] · slices_S32768x4x4_S32768x1x1_0_3_1) : B F S32768x4x4 .f32 → B F S32768x1x1 .f32),
    reshape main_v354 main_v355 (rfl : (.f32 : EltTy) = .f32) shapeCasts_S32768x1x1_S32768,
    binary main_v355 main_v334 main_v356 (mulf : B F S32768 .f32 → B F S32768 .f32 → B F S32768 .f32),
    binary main_v353 main_v356 main_v357 (subf : B F S32768 .f32 → B F S32768 .f32 → B F S32768 .f32),
    unary main_v312 main_v358 ((extractStridedSlice S32768x1x1 ![0, 3, 2] · slices_S32768x4x4_S32768x1x1_0_3_2) : B F S32768x4x4 .f32 → B F S32768x1x1 .f32),
    reshape main_v358 main_v359 (rfl : (.f32 : EltTy) = .f32) shapeCasts_S32768x1x1_S32768,
    binary main_v359 main_v347 main_v360 (mulf : B F S32768 .f32 → B F S32768 .f32 → B F S32768 .f32),
    binary main_v357 main_v360 main_v361 (subf : B F S32768 .f32 → B F S32768 .f32 → B F S32768 .f32),
    unary main_v312 main_v362 ((extractStridedSlice S32768x1x1 ![0, 3, 3] · slices_S32768x4x4_S32768x1x1_0_3_3) : B F S32768x4x4 .f32 → B F S32768x1x1 .f32),
    reshape main_v362 main_v363 (rfl : (.f32 : EltTy) = .f32) shapeCasts_S32768x1x1_S32768,
    binary main_v361 main_v363 main_v364 (Host.divf : B F S32768 .f32 → B F S32768 .f32 → B F S32768 .f32),
    unary main_v325 main_v365 (broadcastInDim S32768x1 ![0] bcast_S32768_S32768x1_0 : B F S32768 .f32 → B F S32768x1 .f32),
    unary main_v334 main_v366 (broadcastInDim S32768x1 ![0] bcast_S32768_S32768x1_0 : B F S32768 .f32 → B F S32768x1 .f32),
    unary main_v347 main_v367 (broadcastInDim S32768x1 ![0] bcast_S32768_S32768x1_0 : B F S32768 .f32 → B F S32768x1 .f32),
    unary main_v364 main_v368 (broadcastInDim S32768x1 ![0] bcast_S32768_S32768x1_0 : B F S32768 .f32 → B F S32768x1 .f32),
    nary ![main_v365, main_v366, main_v367, main_v368] main_v369 (fun u => (concatenate S32768x4 1 [⟨S32768x1, (u 0 : B F S32768x1 .f32)⟩, ⟨S32768x1, (u 1 : B F S32768x1 .f32)⟩, ⟨S32768x1, (u 2 : B F S32768x1 .f32)⟩, ⟨S32768x1, (u 3 : B F S32768x1 .f32)⟩] concatenates_S32768x1_S32768x1_S32768x1_S32768x1_S32768x4_d1 : B F S32768x4 .f32)),
    unary main_v312 main_v370 ((transpose S32768x4x4 [0, 2, 1] · transposes_S32768x4x4_S32768x4x4_0_2_1) : B F S32768x4x4 .f32 → B F S32768x4x4 .f32),
    unary main_v369 main_v371 ((extractStridedSlice S32768x1 ![0, 3] · slices_S32768x4_S32768x1_0_3) : B F S32768x4 .f32 → B F S32768x1 .f32),
    reshape main_v371 main_v372 (rfl : (.f32 : EltTy) = .f32) shapeCasts_S32768x1_S32768,
    unary main_v370 main_v373 ((extractStridedSlice S32768x1x1 ![0, 3, 3] · slices_S32768x4x4_S32768x1x1_0_3_3) : B F S32768x4x4 .f32 → B F S32768x1x1 .f32),
    reshape main_v373 main_v374 (rfl : (.f32 : EltTy) = .f32) shapeCasts_S32768x1x1_S32768,
    binary main_v372 main_v374 main_v375 (Host.divf : B F S32768 .f32 → B F S32768 .f32 → B F S32768 .f32),
    unary main_v369 main_v376 ((extractStridedSlice S32768x1 ![0, 2] · slices_S32768x4_S32768x1_0_2) : B F S32768x4 .f32 → B F S32768x1 .f32),
    reshape main_v376 main_v377 (rfl : (.f32 : EltTy) = .f32) shapeCasts_S32768x1_S32768,
    unary main_v370 main_v378 ((extractStridedSlice S32768x1x1 ![0, 2, 3] · slices_S32768x4x4_S32768x1x1_0_2_3) : B F S32768x4x4 .f32 → B F S32768x1x1 .f32),
    reshape main_v378 main_v379 (rfl : (.f32 : EltTy) = .f32) shapeCasts_S32768x1x1_S32768,
    binary main_v379 main_v375 main_v380 (mulf : B F S32768 .f32 → B F S32768 .f32 → B F S32768 .f32),
    binary main_v377 main_v380 main_v381 (subf : B F S32768 .f32 → B F S32768 .f32 → B F S32768 .f32),
    unary main_v370 main_v382 ((extractStridedSlice S32768x1x1 ![0, 2, 2] · slices_S32768x4x4_S32768x1x1_0_2_2) : B F S32768x4x4 .f32 → B F S32768x1x1 .f32),
    reshape main_v382 main_v383 (rfl : (.f32 : EltTy) = .f32) shapeCasts_S32768x1x1_S32768,
    binary main_v381 main_v383 main_v384 (Host.divf : B F S32768 .f32 → B F S32768 .f32 → B F S32768 .f32),
    unary main_v369 main_v385 ((extractStridedSlice S32768x1 ![0, 1] · slices_S32768x4_S32768x1_0_1) : B F S32768x4 .f32 → B F S32768x1 .f32),
    reshape main_v385 main_v386 (rfl : (.f32 : EltTy) = .f32) shapeCasts_S32768x1_S32768,
    unary main_v370 main_v387 ((extractStridedSlice S32768x1x1 ![0, 1, 2] · slices_S32768x4x4_S32768x1x1_0_1_2) : B F S32768x4x4 .f32 → B F S32768x1x1 .f32),
    reshape main_v387 main_v388 (rfl : (.f32 : EltTy) = .f32) shapeCasts_S32768x1x1_S32768,
    binary main_v388 main_v384 main_v389 (mulf : B F S32768 .f32 → B F S32768 .f32 → B F S32768 .f32),
    binary main_v386 main_v389 main_v390 (subf : B F S32768 .f32 → B F S32768 .f32 → B F S32768 .f32),
    unary main_v370 main_v391 ((extractStridedSlice S32768x1x1 ![0, 1, 3] · slices_S32768x4x4_S32768x1x1_0_1_3) : B F S32768x4x4 .f32 → B F S32768x1x1 .f32),
    reshape main_v391 main_v392 (rfl : (.f32 : EltTy) = .f32) shapeCasts_S32768x1x1_S32768,
    binary main_v392 main_v375 main_v393 (mulf : B F S32768 .f32 → B F S32768 .f32 → B F S32768 .f32),
    binary main_v390 main_v393 main_v394 (subf : B F S32768 .f32 → B F S32768 .f32 → B F S32768 .f32),
    unary main_v370 main_v395 ((extractStridedSlice S32768x1x1 ![0, 1, 1] · slices_S32768x4x4_S32768x1x1_0_1_1) : B F S32768x4x4 .f32 → B F S32768x1x1 .f32),
    reshape main_v395 main_v396 (rfl : (.f32 : EltTy) = .f32) shapeCasts_S32768x1x1_S32768,
    binary main_v394 main_v396 main_v397 (Host.divf : B F S32768 .f32 → B F S32768 .f32 → B F S32768 .f32),
    unary main_v369 main_v398 ((extractStridedSlice S32768x1 ![0, 0] · slices_S32768x4_S32768x1_0_0) : B F S32768x4 .f32 → B F S32768x1 .f32),
    reshape main_v398 main_v399 (rfl : (.f32 : EltTy) = .f32) shapeCasts_S32768x1_S32768,
    unary main_v370 main_v400 ((extractStridedSlice S32768x1x1 ![0, 0, 1] · slices_S32768x4x4_S32768x1x1_0_0_1) : B F S32768x4x4 .f32 → B F S32768x1x1 .f32),
    reshape main_v400 main_v401 (rfl : (.f32 : EltTy) = .f32) shapeCasts_S32768x1x1_S32768,
    binary main_v401 main_v397 main_v402 (mulf : B F S32768 .f32 → B F S32768 .f32 → B F S32768 .f32),
    binary main_v399 main_v402 main_v403 (subf : B F S32768 .f32 → B F S32768 .f32 → B F S32768 .f32) ]

/-- Part 7 of the program: operations 437 to 526. -/
noncomputable def part7 : List (HloOp τ sig (Elt F)) :=
  [ unary main_v370 main_v404 ((extractStridedSlice S32768x1x1 ![0, 0, 2] · slices_S32768x4x4_S32768x1x1_0_0_2) : B F S32768x4x4 .f32 → B F S32768x1x1 .f32),
    reshape main_v404 main_v405 (rfl : (.f32 : EltTy) = .f32) shapeCasts_S32768x1x1_S32768,
    binary main_v405 main_v384 main_v406 (mulf : B F S32768 .f32 → B F S32768 .f32 → B F S32768 .f32),
    binary main_v403 main_v406 main_v407 (subf : B F S32768 .f32 → B F S32768 .f32 → B F S32768 .f32),
    unary main_v370 main_v408 ((extractStridedSlice S32768x1x1 ![0, 0, 3] · slices_S32768x4x4_S32768x1x1_0_0_3) : B F S32768x4x4 .f32 → B F S32768x1x1 .f32),
    reshape main_v408 main_v409 (rfl : (.f32 : EltTy) = .f32) shapeCasts_S32768x1x1_S32768,
    binary main_v409 main_v375 main_v410 (mulf : B F S32768 .f32 → B F S32768 .f32 → B F S32768 .f32),
    binary main_v407 main_v410 main_v411 (subf : B F S32768 .f32 → B F S32768 .f32 → B F S32768 .f32),
    unary main_v370 main_v412 ((extractStridedSlice S32768x1x1 ![0, 0, 0] · slices_S32768x4x4_S32768x1x1_0_0_0) : B F S32768x4x4 .f32 → B F S32768x1x1 .f32),
    reshape main_v412 main_v413 (rfl : (.f32 : EltTy) = .f32) shapeCasts_S32768x1x1_S32768,
    binary main_v411 main_v413 main_v414 (Host.divf : B F S32768 .f32 → B F S32768 .f32 → B F S32768 .f32),
    unary main_v414 main_v415 (broadcastInDim S32768x1 ![0] bcast_S32768_S32768x1_0 : B F S32768 .f32 → B F S32768x1 .f32),
    unary main_v397 main_v416 (broadcastInDim S32768x1 ![0] bcast_S32768_S32768x1_0 : B F S32768 .f32 → B F S32768x1 .f32),
    unary main_v384 main_v417 (broadcastInDim S32768x1 ![0] bcast_S32768_S32768x1_0 : B F S32768 .f32 → B F S32768x1 .f32),
    unary main_v375 main_v418 (broadcastInDim S32768x1 ![0] bcast_S32768_S32768x1_0 : B F S32768 .f32 → B F S32768x1 .f32),
    nary ![main_v415, main_v416, main_v417, main_v418] main_v419 (fun u => (concatenate S32768x4 1 [⟨S32768x1, (u 0 : B F S32768x1 .f32)⟩, ⟨S32768x1, (u 1 : B F S32768x1 .f32)⟩, ⟨S32768x1, (u 2 : B F S32768x1 .f32)⟩, ⟨S32768x1, (u 3 : B F S32768x1 .f32)⟩] concatenates_S32768x1_S32768x1_S32768x1_S32768x1_S32768x4_d1 : B F S32768x4 .f32)),
    nullary main_cst_14 (constant S_ .f32 0xC0000000#32),
    nullary main_cst_15 (constant S_ .f32 0x40000000#32),
    unary main_cst_14 main_call4_v0 (id : B F S_ .f32 → B F S_ .f32),
    unary main_cst_15 main_call4_v1 (id : B F S_ .f32 → B F S_ .f32),
    binary main_call4_v1 main_call4_v0 main_call4_v2 (subf : B F S_ .f32 → B F S_ .f32 → B F S_ .f32),
    nullary main_call4_cst (constant S_ .f32 0x42000000#32),
    binary main_call4_v2 main_call4_cst main_call4_v3 (Host.divf : B F S_ .f32 → B F S_ .f32 → B F S_ .f32),
    nullary main_call4_v4 (sitofp .f32 (iotaInDim S32 32 0)),
    nullary main_call4_cst_0 (constant S_ .f32 0x42000000#32),
    unary main_call4_cst_0 main_call4_v5 (broadcastInDim S32 ![] bcast_S_S32 : B F S_ .f32 → B F S32 .f32),
    binary main_call4_v4 main_call4_v5 main_call4_v6 (Host.divf : B F S32 .f32 → B F S32 .f32 → B F S32 .f32),
    reshape main_call4_v0 main_call4_v7 (rfl : (.f32 : EltTy) = .f32) shapeCasts_S_S1,
    nullary main_call4_cst_1 (constant S_ .f32 0x3F800000#32),
    unary main_call4_cst_1 main_call4_v8 (broadcastInDim S32 ![] bcast_S_S32 : B F S_ .f32 → B F S32 .f32),
    binary main_call4_v8 main_call4_v6 main_call4_v9 (subf : B F S32 .f32 → B F S32 .f32 → B F S32 .f32),
    unary main_call4_v7 main_call4_v10 (broadcastInDim S32 ![0] bcast_S1_S32_0 : B F S1 .f32 → B F S32 .f32),
    binary main_call4_v10 main_call4_v9 main_call4_v11 (mulf : B F S32 .f32 → B F S32 .f32 → B F S32 .f32),
    reshape main_call4_v1 main_call4_v12 (rfl : (.f32 : EltTy) = .f32) shapeCasts_S_S1,
    unary main_call4_v12 main_call4_v13 (broadcastInDim S32 ![0] bcast_S1_S32_0 : B F S1 .f32 → B F S32 .f32),
    binary main_call4_v13 main_call4_v6 main_call4_v14 (mulf : B F S32 .f32 → B F S32 .f32 → B F S32 .f32),
    binary main_call4_v11 main_call4_v14 main_call4_v15 (addf : B F S32 .f32 → B F S32 .f32 → B F S32 .f32),
    unary main_call4_v1 main_call4_v16 (broadcastInDim S1 ![] bcast_S_S1 : B F S_ .f32 → B F S1 .f32),
    binary main_call4_v15 main_call4_v16 main_v420 ((fun a b => concatenate S33 0 [⟨S32, a⟩, ⟨S1, b⟩] concatenates_S32_S1_S33_d0) : B F S32 .f32 → B F S1 .f32 → B F S33 .f32),
    nullary main_cst_16 (constant S_ .f32 0xC0000000#32),
    nullary main_cst_17 (constant S_ .f32 0x40000000#32),
    unary main_cst_16 main_call5_v0 (id : B F S_ .f32 → B F S_ .f32),
    unary main_call5_v0 main_call5_v1 (broadcastInDim S32768x4 ![] bcast_S_S32768x4 : B F S_ .f32 → B F S32768x4 .f32),
    binary main_call5_v1 main_v419 main_call5_v2 (maximumf : B F S32768x4 .f32 → B F S32768x4 .f32 → B F S32768x4 .f32),
    unary main_cst_17 main_call5_v3 (id : B F S_ .f32 → B F S_ .f32),
    unary main_call5_v3 main_call5_v4 (broadcastInDim S32768x4 ![] bcast_S_S32768x4 : B F S_ .f32 → B F S32768x4 .f32),
    binary main_call5_v4 main_call5_v2 main_v421 (minimumf : B F S32768x4 .f32 → B F S32768x4 .f32 → B F S32768x4 .f32),
    nullary main_cst_18 (constant S_ .f32 0x40000000#32),
    unary main_cst_18 main_v422 (broadcastInDim S32768x4 ![] bcast_S_S32768x4 : B F S_ .f32 → B F S32768x4 .f32),
    binary main_v421 main_v422 main_v423 (addf : B F S32768x4 .f32 → B F S32768x4 .f32 → B F S32768x4 .f32),
    nullary main_cst_19 (constant S_ .f32 0x40800000#32),
    unary main_cst_19 main_v424 (broadcastInDim S32768x4 ![] bcast_S_S32768x4 : B F S_ .f32 → B F S32768x4 .f32),
    binary main_v423 main_v424 main_v425 (Host.divf : B F S32768x4 .f32 → B F S32768x4 .f32 → B F S32768x4 .f32),
    nullary main_cst_20 (constant S_ .f32 0x42000000#32),
    unary main_cst_20 main_v426 (broadcastInDim S32768x4 ![] bcast_S_S32768x4 : B F S_ .f32 → B F S32768x4 .f32),
    binary main_v425 main_v426 main_v427 (mulf : B F S32768x4 .f32 → B F S32768x4 .f32 → B F S32768x4 .f32),
    unary main_v427 main_v428 (Host.roundeven : B F S32768x4 .f32 → B F S32768x4 .f32),
    unary main_v428 main_v429 (fptosi 32 : B F S32768x4 .f32 → B F S32768x4 .i32),
    nullary main_c_21 (constantI S_ 32 0#32),
    nullary main_c_22 (constantI S_ 32 32#32),
    unary main_c_21 main_call7_v0 (id : B F S_ .i32 → B F S_ .i32),
    unary main_call7_v0 main_call7_v1 (broadcastInDim S32768x4 ![] bcast_S_S32768x4 : B F S_ .i32 → B F S32768x4 .i32),
    binary main_call7_v1 main_v429 main_call7_v2 (maxsi : B F S32768x4 .i32 → B F S32768x4 .i32 → B F S32768x4 .i32),
    unary main_c_22 main_call7_v3 (id : B F S_ .i32 → B F S_ .i32),
    unary main_call7_v3 main_call7_v4 (broadcastInDim S32768x4 ![] bcast_S_S32768x4 : B F S_ .i32 → B F S32768x4 .i32),
    binary main_call7_v4 main_call7_v2 main_v430 (minsi : B F S32768x4 .i32 → B F S32768x4 .i32 → B F S32768x4 .i32),
    unary main_v430 main_v431 (broadcastInDim S32768x4x1 ![0, 1] bcast_S32768x4_S32768x4x1_0_1 : B F S32768x4 .i32 → B F S32768x4x1 .i32),
    binary main_v420 main_v431 main_v432 ((fun x i => Host.gather gather_S33_S32768x4x1_S32768x4_n_0_n_n_0_2_1 x i) : B F S33 .f32 → B F S32768x4x1 .i32 → B F S32768x4 .f32),
    nullary main_c_23 (constantI S_ 32 33#32),
    unary main_c_23 main_v433 (broadcastInDim S32768x4 ![] bcast_S_S32768x4 : B F S_ .i32 → B F S32768x4 .i32),
    binary main_v314 main_v433 main_v434 (muli : B F S32768x4 .i32 → B F S32768x4 .i32 → B F S32768x4 .i32),
    binary main_v434 main_v430 main_v435 (addi : B F S32768x4 .i32 → B F S32768x4 .i32 → B F S32768x4 .i32),
    reshape main_v435 main_v436 (rfl : (.i32 : EltTy) = .i32) shapeCasts_S32768x4_S32x32x32x4,
    unary main_v10 main_v437 ((transpose S256x64 [1, 0] · transposes_S64x256_S256x64_1_0) : B F S64x256 .f32 → B F S256x64 .f32),
    unary main_v314 main_v438 (broadcastInDim S32768x4x1 ![0, 1] bcast_S32768x4_S32768x4x1_0_1 : B F S32768x4 .i32 → B F S32768x4x1 .i32),
    binary main_v437 main_v438 main_v439 ((fun x i => Host.gather gather_S256x64_S32768x4x1_S32768x4x64_2_0_n_n_0_2_164 x i) : B F S256x64 .f32 → B F S32768x4x1 .i32 → B F S32768x4x64 .f32),
    unary main_v432 main_v440 (broadcastInDim S32768x4x1 ![0, 1] bcast_S32768x4_S32768x4x1_0_1 : B F S32768x4 .f32 → B F S32768x4x1 .f32),
    unary main_v440 main_v441 (broadcastInDim S32768x4x64 ![0, 1, 2] bcast_S32768x4x1_S32768x4x64_0_1_2 : B F S32768x4x1 .f32 → B F S32768x4x64 .f32),
    binary main_v439 main_v441 main_v442 (mulf : B F S32768x4x64 .f32 → B F S32768x4x64 .f32 → B F S32768x4x64 .f32),
    nullary main_cst_24 (constant S_ .f32 0x00000000#32),
    binary main_v442 main_cst_24 main_v443 ((fun x v => Host.reduceAdd x v reducesTo_S32768x4x64_S32768x64_d1 h_S_) : B F S32768x4x64 .f32 → B F S_ .f32 → B F S32768x64 .f32),
    reshape main_v443 main_v444 (rfl : (.f32 : EltTy) = .f32) shapeCasts_S32768x64_S32x32x32x64,
    unary main_v444 main_v445 ((transpose S32x64x32x32 [0, 3, 1, 2] · transposes_S32x32x32x64_S32x64x32x32_0_3_1_2) : B F S32x32x32x64 .f32 → B F S32x64x32x32 .f32),
    binary main_v445 main_arg0 main_v446 (subf : B F S32x64x32x32 .f32 → B F S32x64x32x32 .f32 → B F S32x64x32x32 .f32),
    binary main_v446 main_v446 main_v447 (mulf : B F S32x64x32x32 .f32 → B F S32x64x32x32 .f32 → B F S32x64x32x32 .f32),
    nullary main_cst_25 (constant S_ .f32 0x00000000#32),
    binary main_v447 main_cst_25 main_v448 ((fun x v => Host.reduceAdd x v reducesTo_S32x64x32x32_S_d0_1_2_3 h_S_) : B F S32x64x32x32 .f32 → B F S_ .f32 → B F S_ .f32),
    nullary main_cst_26 (constant S_ .f32 0x4A000000#32),
    binary main_v448 main_cst_26 main_v449 (Host.divf : B F S_ .f32 → B F S_ .f32 → B F S_ .f32),
    binary main_v445 main_arg0 main_v450 (subf : B F S32x64x32x32 .f32 → B F S32x64x32x32 .f32 → B F S32x64x32x32 .f32) ]

/-- Part 8 of the program: operations 527 to 536. -/
noncomputable def part8 : List (HloOp τ sig (Elt F)) :=
  [ binary main_v450 main_v450 main_v451 (mulf : B F S32x64x32x32 .f32 → B F S32x64x32x32 .f32 → B F S32x64x32x32 .f32),
    nullary main_cst_27 (constant S_ .f32 0x00000000#32),
    binary main_v451 main_cst_27 main_v452 ((fun x v => Host.reduceAdd x v reducesTo_S32x64x32x32_S_d0_1_2_3 h_S_) : B F S32x64x32x32 .f32 → B F S_ .f32 → B F S_ .f32),
    nullary main_cst_28 (constant S_ .f32 0x4A000000#32),
    binary main_v452 main_cst_28 main_v453 (Host.divf : B F S_ .f32 → B F S_ .f32 → B F S_ .f32),
    nullary main_cst_29 (constant S_ .f32 0x3E800000#32),
    binary main_cst_29 main_v453 main_v454 (mulf : B F S_ .f32 → B F S_ .f32 → B F S_ .f32),
    binary main_v449 main_v454 main_v455 (addf : B F S_ .f32 → B F S_ .f32 → B F S_ .f32),
    binary main_v445 main_arg0 main_v456 (subf : B F S32x64x32x32 .f32 → B F S32x64x32x32 .f32 → B F S32x64x32x32 .f32),
    binary main_arg0 main_v456 main_v457 (addf : B F S32x64x32x32 .f32 → B F S32x64x32x32 .f32 → B F S32x64x32x32 .f32) ]

set_option maxRecDepth 8192 in
set_option maxHeartbeats 4000000 in
theorem part0_eq (c : Dev nD) : main_part0 (F := F) c = seq part0 := rfl

set_option maxRecDepth 8192 in
set_option maxHeartbeats 4000000 in
theorem part1_eq (c : Dev nD) : main_part1 (F := F) c = seq part1 := rfl

set_option maxRecDepth 8192 in
set_option maxHeartbeats 4000000 in
theorem part2_eq (c : Dev nD) : main_part2 (F := F) c = seq part2 := rfl

set_option maxRecDepth 8192 in
set_option maxHeartbeats 4000000 in
theorem part3_eq (c : Dev nD) : main_part3 (F := F) c = seq part3 := rfl

set_option maxRecDepth 8192 in
set_option maxHeartbeats 4000000 in
theorem part4_eq (c : Dev nD) : main_part4 (F := F) c = seq part4 := rfl

set_option maxRecDepth 8192 in
set_option maxHeartbeats 4000000 in
theorem part5_eq (c : Dev nD) : main_part5 (F := F) c = seq part5 := rfl

set_option maxRecDepth 8192 in
set_option maxHeartbeats 4000000 in
theorem part6_eq (c : Dev nD) : main_part6 (F := F) c = seq part6 := rfl

set_option maxRecDepth 8192 in
set_option maxHeartbeats 4000000 in
theorem part7_eq (c : Dev nD) : main_part7 (F := F) c = seq part7 := rfl

set_option maxRecDepth 8192 in
set_option maxHeartbeats 4000000 in
theorem part8_eq (c : Dev nD) : main_part8 (F := F) c = seq part8 := rfl

/-- All the operations, in order. -/
noncomputable def ops : List (HloOp τ sig (Elt F)) :=
  part0 ++ (part1 ++ (part2 ++ (part3 ++ (part4 ++ (part5 ++ (part6 ++ (part7 ++ (part8))))))))

set_option maxRecDepth 8192 in
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c]
  rfl

end Cert.Proof.Ref

end
-- ==== Proof.RefRun.lean ====
/- The run of the reference: every execution ends with each buffer at the fold of the operations over the launch contents
   (`run`). Each buffer is written once, and the buffers are numbered in the order of the operations that write them; so at
   the end each result buffer holds its operation's function of what its operand buffers hold AT THE END (`unary_end` and
   its companions): the operations become equations about one final valuation. -/
module

public import proofs.«01_k».proof.Proof.RefOps
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- What part 0 writes, in order. -/
noncomputable def outs0 : List (Ref sig .tc) :=
  [main_v0, main_v1, main_v2, main_v3, main_cst, main_v4, main_v5, main_v6, main_cst_0, main_v7, main_v8, main_v9, main_v10, main_v11, main_v12, main_v13, main_v14, main_v15, main_v16, main_v17, main_c, main_v18, main_v19, main_v20, main_v21, main_v22, main_call0_v0, main_call0_cst, main_call0_c, main_call0_v1_0, main_v23, main_v24, main_v25, main_v26, main_v27, main_v28, main_v29, main_v30, main_cst_1, main_v31, main_v32, main_v33, main_v34, main_v35, main_v36, main_v37, main_v38, main_v39, main_v40, main_v41, main_v42, main_v43, main_v44, main_v45, main_v46, main_v47, main_v48, main_v49, main_v50, main_v51, main_v52, main_v53, main_call1_v0, main_call1_cst, main_call1_c, main_call1_v1_0, main_v54, main_v55]
set_option maxRecDepth 8192 in
theorem outs0_eq : (part0 : List (HloOp τ sig (Elt F))).map HloOp.writes = outs0.map fun r => {Proc.devRef (τ := τ) .tc r} := rfl
set_option maxRecDepth 8192 in
theorem fresh0 : (part0 : List (HloOp τ sig (Elt F))).Forall fun op => op.fresh = ∅ := forall_fresh_of_map rfl
set_option maxRecDepth 8192 in
theorem sub0 : (part0 : List (HloOp τ sig (Elt F))).Forall fun op => op.bufs ⊆ tcRefs τ sig :=
  ⟨unary_bufs_sub .., reshape_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., binary_bufs_sub .., unary_bufs_sub .., nullary_bufs_sub .., nullary_bufs_sub .., nullary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub .., unary_bufs_sub .., unary_bufs_sub .., unary_bufs_sub .., binary_bufs_sub .., binary_bufs_sub .., unary_bufs_sub .., nullary_bufs_sub .., unary_bufs_sub .., unary_bufs_sub .., unary_bufs_sub .., unary_bufs_sub .., binary_bufs_sub .., binary_bufs_sub .., reshape_bufs_sub .., reshape_bufs_sub .., binary_bufs_sub .., unary_bufs_sub .., unary_bufs_sub .., reshape_bufs_sub .., reshape_bufs_sub .., binary_bufs_sub .., unary_bufs_sub .., unary_bufs_sub .., binary_bufs_sub .., binary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub ..⟩
/-- What part 1 writes, in order. -/
noncomputable def outs1 : List (Ref sig .tc) :=
  [main_v56, main_v57, main_v58, main_v59, main_v60, main_v61, main_v62, main_v63, main_v64, main_v65, main_v66, main_v67, main_v68, main_v69, main_v70, main_cst_2, main_v71, main_v72, main_cst_3, main_v73, main_v74, main_cst_4, main_v75, main_v76, main_v77, main_cst_5, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111]
set_option maxRecDepth 8192 in
theorem outs1_eq : (part1 : List (HloOp τ sig (Elt F))).map HloOp.writes = outs1.map fun r => {Proc.devRef (τ := τ) .tc r} := rfl
set_option maxRecDepth 8192 in
theorem fresh1 : (part1 : List (HloOp τ sig (Elt F))).Forall fun op => op.fresh = ∅ := forall_fresh_of_map rfl
set_option maxRecDepth 8192 in
theorem sub1 : (part1 : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., unary_bufs_sub .., binary_bufs_sub .., binary_bufs_sub .., reshape_bufs_sub .., reshape_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., unary_bufs_sub .., binary_bufs_sub .., unary_bufs_sub .., unary_bufs_sub .., reshape_bufs_sub .., unary_bufs_sub ..⟩
/-- What part 2 writes, in order. -/
noncomputable def outs2 : List (Ref sig .tc) :=
  [main_v112, main_v113, main_v114, main_v115, main_v116, main_v117, main_v118, main_v119, main_v120, main_v121, main_v122, main_v123, main_v124, main_v125, main_v126, main_v127, main_v128, main_v129, main_v130, main_v131, main_v132, main_v133, main_call2_v0, main_call2_cst, main_call2_c, main_call2_v1_0, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_cst_6, main_v165, main_v166, main_cst_7, main_v167, main_v168, main_cst_8]
set_option maxRecDepth 8192 in
theorem outs2_eq : (part2 : List (HloOp τ sig (Elt F))).map HloOp.writes = outs2.map fun r => {Proc.devRef (τ := τ) .tc r} := rfl
set_option maxRecDepth 8192 in
theorem fresh2 : (part2 : List (HloOp τ sig (Elt F))).Forall fun op => op.fresh = ∅ := forall_fresh_of_map rfl
set_option maxRecDepth 8192 in
theorem sub2 : (part2 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., unary_bufs_sub .., binary_bufs_sub .., unary_bufs_sub .., binary_bufs_sub .., binary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩
/-- What part 3 writes, in order. -/
noncomputable def outs3 : List (Ref sig .tc) :=
  [main_v169, main_v170, main_v171, main_cst_9, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227]
set_option maxRecDepth 8192 in
theorem outs3_eq : (part3 : List (HloOp τ sig (Elt F))).map HloOp.writes = outs3.map fun r => {Proc.devRef (τ := τ) .tc r} := rfl
set_option maxRecDepth 8192 in
theorem fresh3 : (part3 : List (HloOp τ sig (Elt F))).Forall fun op => op.fresh = ∅ := forall_fresh_of_map rfl
set_option maxRecDepth 8192 in
theorem sub3 : (part3 : List (HloOp τ sig (Elt F))).Forall fun op => op.bufs ⊆ tcRefs τ sig :=
  ⟨unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., unary_bufs_sub .., unary_bufs_sub .., nary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩
/-- What part 4 writes, in order. -/
noncomputable def outs4 : List (Ref sig .tc) :=
  [main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_call3_v0, main_call3_cst, main_call3_c, main_call3_v1_0, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287]
set_option maxRecDepth 8192 in
theorem outs4_eq : (part4 : List (HloOp τ sig (Elt F))).map HloOp.writes = outs4.map fun r => {Proc.devRef (τ := τ) .tc r} := rfl
set_option maxRecDepth 8192 in
theorem fresh4 : (part4 : List (HloOp τ sig (Elt F))).Forall fun op => op.fresh = ∅ := forall_fresh_of_map rfl
set_option maxRecDepth 8192 in
theorem sub4 : (part4 : List (HloOp τ sig (Elt F))).Forall fun op => op.bufs ⊆ tcRefs τ sig :=
  ⟨unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., unary_bufs_sub .., unary_bufs_sub .., nary_bufs_sub .., unary_bufs_sub .., binary_bufs_sub .., binary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub ..⟩
/-- What part 5 writes, in order. -/
noncomputable def outs5 : List (Ref sig .tc) :=
  [main_v288, main_v289, main_v290, main_v291, main_v292, main_v293, main_v294, main_v295, main_v296, main_v297, main_v298, main_v299, main_v300, main_cst_10, main_v301, main_v302, main_cst_11, main_v303, main_v304, main_cst_12, main_v305, main_v306, main_v307, main_cst_13, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343]
set_option maxRecDepth 8192 in
theorem outs5_eq : (part5 : List (HloOp τ sig (Elt F))).map HloOp.writes = outs5.map fun r => {Proc.devRef (τ := τ) .tc r} := rfl
set_option maxRecDepth 8192 in
theorem fresh5 : (part5 : List (HloOp τ sig (Elt F))).Forall fun op => op.fresh = ∅ := forall_fresh_of_map rfl
set_option maxRecDepth 8192 in
theorem sub5 : (part5 : List (HloOp τ sig (Elt F))).Forall fun op => op.bufs ⊆ tcRefs τ sig :=
  ⟨binary_bufs_sub .., unary_bufs_sub .., reshape_bufs_sub .., binary_bufs_sub .., binary_bufs_sub .., unary_bufs_sub .., reshape_bufs_sub .., binary_bufs_sub .., unary_bufs_sub .., unary_bufs_sub .., unary_bufs_sub .., nary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., unary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub ..⟩
/-- What part 6 writes, in order. -/
noncomputable def outs6 : List (Ref sig .tc) :=
  [main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403]
set_option maxRecDepth 8192 in
theorem outs6_eq : (part6 : List (HloOp τ sig (Elt F))).map HloOp.writes = outs6.map fun r => {Proc.devRef (τ := τ) .tc r} := rfl
set_option maxRecDepth 8192 in
theorem fresh6 : (part6 : List (HloOp τ sig (Elt F))).Forall fun op => op.fresh = ∅ := forall_fresh_of_map rfl
set_option maxRecDepth 8192 in
theorem sub6 : (part6 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., unary_bufs_sub .., unary_bufs_sub .., unary_bufs_sub .., nary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., binary_bufs_sub .., binary_bufs_sub ..⟩
/-- What part 7 writes, in order. -/
noncomputable def outs7 : List (Ref sig .tc) :=
  [main_v404, main_v405, main_v406, main_v407, main_v408, main_v409, main_v410, main_v411, main_v412, main_v413, main_v414, main_v415, main_v416, main_v417, main_v418, main_v419, main_cst_14, main_cst_15, main_call4_v0, main_call4_v1, main_call4_v2, main_call4_cst, main_call4_v3, main_call4_v4, main_call4_cst_0, main_call4_v5, main_call4_v6, main_call4_v7, main_call4_cst_1, main_call4_v8, main_call4_v9, main_call4_v10, main_call4_v11, main_call4_v12, main_call4_v13, main_call4_v14, main_call4_v15, main_call4_v16, main_v420, main_cst_16, main_cst_17, main_call5_v0, main_call5_v1, main_call5_v2, main_call5_v3, main_call5_v4, main_v421, main_cst_18, main_v422, main_v423, main_cst_19, main_v424, main_v425, main_cst_20, main_v426, main_v427, main_v428, main_v429, main_c_21, main_c_22, main_call7_v0, main_call7_v1, main_call7_v2, main_call7_v3, main_call7_v4, main_v430, main_v431, main_v432, main_c_23, main_v433, main_v434, main_v435, main_v436, main_v437, main_v438, main_v439, main_v440, main_v441, main_v442, main_cst_24, main_v443, main_v444, main_v445, main_v446, main_v447, main_cst_25, main_v448, main_cst_26, main_v449, main_v450]
set_option maxRecDepth 8192 in
theorem outs7_eq : (part7 : List (HloOp τ sig (Elt F))).map HloOp.writes = outs7.map fun r => {Proc.devRef (τ := τ) .tc r} := rfl
set_option maxRecDepth 8192 in
theorem fresh7 : (part7 : List (HloOp τ sig (Elt F))).Forall fun op => op.fresh = ∅ := forall_fresh_of_map rfl
set_option maxRecDepth 8192 in
theorem sub7 : (part7 : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., binary_bufs_sub .., unary_bufs_sub .., reshape_bufs_sub .., binary_bufs_sub .., unary_bufs_sub .., unary_bufs_sub .., unary_bufs_sub .., unary_bufs_sub .., nary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., reshape_bufs_sub .., unary_bufs_sub .., unary_bufs_sub .., binary_bufs_sub .., unary_bufs_sub .., unary_bufs_sub .., binary_bufs_sub .., nullary_bufs_sub .., binary_bufs_sub .., reshape_bufs_sub .., unary_bufs_sub .., binary_bufs_sub .., binary_bufs_sub .., nullary_bufs_sub .., binary_bufs_sub .., nullary_bufs_sub .., binary_bufs_sub .., binary_bufs_sub ..⟩
/-- What part 8 writes, in order. -/
noncomputable def outs8 : List (Ref sig .tc) :=
  [main_v451, main_cst_27, main_v452, main_cst_28, main_v453, main_cst_29, main_v454, main_v455, main_v456, main_v457]
set_option maxRecDepth 8192 in
theorem outs8_eq : (part8 : List (HloOp τ sig (Elt F))).map HloOp.writes = outs8.map fun r => {Proc.devRef (τ := τ) .tc r} := rfl
set_option maxRecDepth 8192 in
theorem fresh8 : (part8 : List (HloOp τ sig (Elt F))).Forall fun op => op.fresh = ∅ := forall_fresh_of_map rfl
set_option maxRecDepth 8192 in
theorem sub8 : (part8 : List (HloOp τ sig (Elt F))).Forall fun op => op.bufs ⊆ tcRefs τ sig :=
  ⟨binary_bufs_sub .., nullary_bufs_sub .., binary_bufs_sub .., nullary_bufs_sub .., binary_bufs_sub .., nullary_bufs_sub .., binary_bufs_sub .., binary_bufs_sub .., binary_bufs_sub .., binary_bufs_sub ..⟩

/-- What the program writes, in order. -/
noncomputable def outs : List (Ref sig .tc) := outs0 ++ (outs1 ++ (outs2 ++ (outs3 ++ (outs4 ++ (outs5 ++ (outs6 ++ (outs7 ++ (outs8))))))))

theorem outs_eq : (ops : List (HloOp τ sig (Elt F))).map HloOp.writes = outs.map fun r => {Proc.devRef (τ := τ) .tc r} := by
  simp only [ops, outs, List.map_append, outs0_eq, outs1_eq, outs2_eq, outs3_eq, outs4_eq, outs5_eq, outs6_eq, outs7_eq, outs8_eq]

theorem ops_fresh : (ops : List (HloOp τ sig (Elt F))).Forall fun op => op.fresh = ∅ := by
  simp only [ops, List.forall_append]
  exact ⟨fresh0, fresh1, fresh2, fresh3, fresh4, fresh5, fresh6, fresh7, fresh8⟩

theorem ops_sub : (ops : List (HloOp τ sig (Elt F))).Forall fun op => op.bufs ⊆ tcRefs τ sig := by
  simp only [ops, List.forall_append]
  exact ⟨sub0, sub1, sub2, sub3, sub4, sub5, sub6, sub7, sub8⟩

/-- The number of a buffer. -/
def num (r : Ref sig .tc) : Nat := r.idx

set_option maxRecDepth 8192 in
theorem outs_num : outs.map num = List.range' 2 536 := by decide +kernel

theorem scopedRefs_eq : (Finset.univ.filter fun b : Ref sig .tc => b.isScoped) = ∅ := by decide
theorem scopedSems_eq : (Finset.univ.filter fun sm : SemLoc sig => sm.isScoped .tc) = ∅ := by decide

/-- The contents at the end of the run, from the contents `V`. -/
def fin (V : Valuation τ sig (Elt F)) (r : Ref sig .tc) : r.ty.Contents (Elt F) := after ops V (Proc.devRef .tc r)

/-- Every execution ends with each buffer at its contents at the end, and with every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = fin (launchContents m d) b) ∧ r.2.sem = fun _ => 0 :=
  (θ_run defs _ _).mono (fun r h => ⟨h, Idealize.ShloMosaic.sem_eq_zero_of_no_sems (by decide) r.2⟩)
    (run_seq scopedRefs_eq scopedSems_eq defs main (fun _ => ops) main_eq (fun _ => ops_sub) m ρ
      fun _ => List.forall_iff_forall_mem.mp ops_fresh)

/-! ## Each operation as an equation at the end of the run -/

theorem after_append' (l₁ l₂ : List (HloOp τ sig (Elt F))) (V : Valuation τ sig (Elt F)) :
    after (l₁ ++ l₂) V = after l₂ (after l₁ V) := by
  induction l₁ generalizing V with
  | nil => rfl
  | cons op l ih => exact ih _

/-- A buffer whose number is below that of operation `i`'s result is not written from operation `i` on. -/
theorem fin_of_lt (V : Valuation τ sig (Elt F)) (i : Nat) (x : Ref sig .tc) (hx : num x < i + 2) :
    fin V x = after (ops.take i) V (Proc.devRef .tc x) := by
  unfold fin
  conv_lhs => rw [← List.take_append_drop i (ops (F := F)), after_append']
  refine after_of_forall_not_mem _ _ fun op hop hb => ?_
  have h1 : op.writes ∈ (outs.drop i).map fun r => ({Proc.devRef (τ := τ) .tc r} : Finset (DevRef τ sig)) := by
    rw [List.map_drop, ← outs_eq (F := F), ← List.map_drop]
    exact List.mem_map_of_mem hop
  obtain ⟨r, hr, he⟩ := List.mem_map.mp h1
  rw [← he, Finset.mem_singleton] at hb
  have hxr : x = r := Proc.devRef_injective _ hb
  have h2 : num r ∈ (outs.map num).drop i := by
    rw [← List.map_drop]; exact List.mem_map_of_mem hr
  rw [outs_num, List.drop_range', List.mem_range'_1] at h2
  rw [hxr] at hx
  omega

/-- The result buffer of operation `i` holds what operation `i` left there. -/
theorem fin_of_get (V : Valuation τ sig (Elt F)) (i : Nat) (op : HloOp τ sig (Elt F)) (h : ops[i]? = some op)
    (y : Ref sig .tc) (hy : num y < i + 3) : fin V y = op.result (after (ops.take i) V) (Proc.devRef .tc y) := by
  rw [fin_of_lt V (i + 1) y hy, List.take_add_one, h, Option.toList_some, after_append']
  rfl

variable (V : Valuation τ sig (Elt F)) (i : Nat) {x a b c e y : Ref sig .tc}

theorem nullary_end {v : y.ty.Contents (Elt F)} {hy} (h : ops[i]? = some (nullary (τ := τ) y v hy)) (ky : num y < i + 3) :
    fin V y = v :=
  (fin_of_get V i _ h y ky).trans (nullary_result y v hy _)

theorem unary_end {f : x.ty.Contents (Elt F) → y.ty.Contents (Elt F)} {hx hy} (h : ops[i]? = some (unary (τ := τ) x y f hx hy))
    (ky : num y < i + 3) (kx : num x < i + 2) : fin V y = f (fin V x) := by
  rw [fin_of_lt V i x kx]; exact (fin_of_get V i _ h y ky).trans (unary_result x y f hx hy _)

theorem binary_end {f : a.ty.Contents (Elt F) → b.ty.Contents (Elt F) → y.ty.Contents (Elt F)} {ha hb hy}
    (h : ops[i]? = some (binary (τ := τ) a b y f ha hb hy)) (ky : num y < i + 3) (ka : num a < i + 2) (kb : num b < i + 2) :
    fin V y = f (fin V a) (fin V b) := by
  rw [fin_of_lt V i a ka, fin_of_lt V i b kb]; exact (fin_of_get V i _ h y ky).trans (binary_result a b y f ha hb hy _)

theorem quaternary_end
    {f : a.ty.Contents (Elt F) → b.ty.Contents (Elt F) → c.ty.Contents (Elt F) → e.ty.Contents (Elt F) → y.ty.Contents (Elt F)}
    {ha hb hc he hy} (h : ops[i]? = some (quaternary (τ := τ) a b c e y f ha hb hc he hy)) (ky : num y < i + 3)
    (ka : num a < i + 2) (kb : num b < i + 2) (kc : num c < i + 2) (ke : num e < i + 2) :
    fin V y = f (fin V a) (fin V b) (fin V c) (fin V e) := by
  rw [fin_of_lt V i a ka, fin_of_lt V i b kb, fin_of_lt V i c kc, fin_of_lt V i e ke]
  exact (fin_of_get V i _ h y ky).trans (quaternary_result a b c e y f ha hb hc he hy _)

theorem reshape_end {he hn hx hy} (h : ops[i]? = some (reshape (τ := τ) (Val := Elt F) x y he hn hx hy))
    (ky : num y < i + 3) (kx : num x < i + 2) : fin V y = fun j => he ▸ shapeCast y.ty.shape (fin V x) hn j := by
  rw [fin_of_lt V i x kx]; exact (fin_of_get V i _ h y ky).trans (reshape_result x y he hn hx hy _)

theorem nary_end {n : Nat} {xs : Fin n → Ref sig .tc} {f : ((k : Fin n) → (xs k).ty.Contents (Elt F)) → y.ty.Contents (Elt F)} {hxs hy}
    (h : ops[i]? = some (nary (τ := τ) xs y f hxs hy)) (ky : num y < i + 3) (kx : ∀ k, num (xs k) < i + 2) :
    fin V y = f fun k => fin V (xs k) := by
  have hk : (fun k => fin V (xs k)) = fun k => after (ops.take i) V (Proc.devRef .tc (xs k)) := funext fun k => fin_of_lt V i _ (kx k)
  rw [hk]; exact (fin_of_get V i _ h y ky).trans (nary_result xs y f hxs hy _)

/-- An argument buffer keeps its contents. -/
theorem arg_end (ka : num a < 2) : fin V a = V (Proc.devRef .tc a) := fin_of_lt V 0 a (by omega)

end Cert.Proof.Ref

end
-- ==== Proof.RefVals.lean ====
/- What each buffer of the reference holds at the end of its run, as an array over the extended reals. -/
module

public import proofs.«01_k».proof.Proof.RefRun
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pointwise
public import Idealize.ShloMosaic.PureOps.Ideal.Laws

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

def arg0 : FVec Ideal S32x64x32x32 .f32 := fin V main_arg0
def arg1 : FVec Ideal S64x256 .f32 := fin V main_arg1
def v0 : FVec Ideal S32x32x32x64 .f32 := fin V main_v0
def v1 : FVec Ideal S32768x64 .f32 := fin V main_v1
def v2 : FVec Ideal S64x32768 .f32 := fin V main_v2
def v3 : FVec Ideal S64x256 .f32 := fin V main_v3
def cst : FVec Ideal S_ .f32 := fin V main_cst
def v4 : FVec Ideal S256 .f32 := fin V main_v4
def v5 : FVec Ideal S1x256 .f32 := fin V main_v5
def v6 : FVec Ideal S1x256 .f32 := fin V main_v6
def cst_0 : FVec Ideal S_ .f32 := fin V main_cst_0
def v7 : FVec Ideal S1x256 .f32 := fin V main_v7
def v8 : FVec Ideal S1x256 .f32 := fin V main_v8
def v9 : FVec Ideal S64x256 .f32 := fin V main_v9
def v10 : FVec Ideal S64x256 .f32 := fin V main_v10
def v11 : FVec Ideal S256x64 .f32 := fin V main_v11
def v12 : FVec Ideal S256x256 .f32 := fin V main_v12
def v13 : FVec Ideal S256x64 .f32 := fin V main_v13
def v14 : FVec Ideal S256x32768 .f32 := fin V main_v14
def v15 : FVec Ideal S32768x256 .f32 := fin V main_v15
def v16 : IVec S32768 32 := fin V main_v16
def v17 : IVec S256 32 := fin V main_v17
def c : IVec S_ 1 := fin V main_c
def v18 : IVec S32768x256 1 := fin V main_v18
def v19 : IVec S32768x256 1 := fin V main_v19
def v20 : FVec Ideal S32768x256 .f32 := fin V main_v20
def v21 : FVec Ideal S32768x256 .f32 := fin V main_v21
def v22 : FVec Ideal S32768x256 .f32 := fin V main_v22
def call0_v0 : IVec S32768x256 32 := fin V main_call0_v0
def call0_cst : FVec Ideal S_ .f32 := fin V main_call0_cst
def call0_c : IVec S_ 32 := fin V main_call0_c
def call0_v1_0 : FVec Ideal S32768 .f32 := fin V main_call0_v1_0
def v23 : IVec S32768 32 := fin V main_v23
def v24 : IVec S1x256 32 := fin V main_v24
def v25 : IVec S32768x1 32 := fin V main_v25
def v26 : IVec S32768x256 32 := fin V main_v26
def v27 : IVec S32768x256 32 := fin V main_v27
def v28 : IVec S32768x256 1 := fin V main_v28
def v29 : IVec S32768x256 1 := fin V main_v29
def v30 : IVec S32768x1 32 := fin V main_v30
def cst_1 : FVec Ideal S_ .f32 := fin V main_cst_1
def v31 : FVec Ideal S32768x1x1 .f32 := fin V main_v31
def v32 : IVec S32768x1 32 := fin V main_v32
def v33 : IVec S32768x1x1 32 := fin V main_v33
def v34 : IVec S32768x1x1 32 := fin V main_v34
def v35 : IVec S32768x1x2 32 := fin V main_v35
def v36 : FVec Ideal S32768x1 .f32 := fin V main_v36
def v37 : FVec Ideal S32768 .f32 := fin V main_v37
def v38 : FVec Ideal S32768 .f32 := fin V main_v38
def v39 : FVec Ideal S32768 .f32 := fin V main_v39
def v40 : FVec Ideal S32768x1 .f32 := fin V main_v40
def v41 : FVec Ideal S32768x1x1 .f32 := fin V main_v41
def v42 : FVec Ideal S32768 .f32 := fin V main_v42
def v43 : FVec Ideal S32768 .f32 := fin V main_v43
def v44 : FVec Ideal S32768 .f32 := fin V main_v44
def v45 : FVec Ideal S32768x1 .f32 := fin V main_v45
def v46 : IVec S32768x1x1 32 := fin V main_v46
def v47 : FVec Ideal S32768x1x256 .f32 := fin V main_v47
def v48 : FVec Ideal S32768x256 .f32 := fin V main_v48
def v49 : FVec Ideal S32768x256 .f32 := fin V main_v49
def v50 : IVec S32768x256 1 := fin V main_v50
def v51 : FVec Ideal S32768x256 .f32 := fin V main_v51
def v52 : FVec Ideal S32768x256 .f32 := fin V main_v52
def v53 : FVec Ideal S32768x256 .f32 := fin V main_v53
def call1_v0 : IVec S32768x256 32 := fin V main_call1_v0
def call1_cst : FVec Ideal S_ .f32 := fin V main_call1_cst
def call1_c : IVec S_ 32 := fin V main_call1_c
def call1_v1_0 : FVec Ideal S32768 .f32 := fin V main_call1_v1_0
def v54 : IVec S32768 32 := fin V main_v54
def v55 : IVec S1x256 32 := fin V main_v55
def v56 : IVec S32768x1 32 := fin V main_v56
def v57 : IVec S32768x256 32 := fin V main_v57
def v58 : IVec S32768x256 32 := fin V main_v58
def v59 : IVec S32768x256 1 := fin V main_v59
def v60 : IVec S32768x256 1 := fin V main_v60
def v61 : IVec S32768x1 32 := fin V main_v61
def v62 : IVec S32768x1x1 32 := fin V main_v62
def v63 : IVec S32768x1x1 32 := fin V main_v63
def v64 : IVec S32768x1x2 32 := fin V main_v64
def v65 : FVec Ideal S32768x1 .f32 := fin V main_v65
def v66 : FVec Ideal S32768 .f32 := fin V main_v66
def v67 : FVec Ideal S32768 .f32 := fin V main_v67
def v68 : FVec Ideal S32768 .f32 := fin V main_v68
def v69 : FVec Ideal S32768x1 .f32 := fin V main_v69
def v70 : FVec Ideal S32768x1 .f32 := fin V main_v70
def cst_2 : FVec Ideal S_ .f32 := fin V main_cst_2
def v71 : FVec Ideal S32768 .f32 := fin V main_v71
def v72 : FVec Ideal S32768x1 .f32 := fin V main_v72
def cst_3 : FVec Ideal S_ .f32 := fin V main_cst_3
def v73 : FVec Ideal S32768x1 .f32 := fin V main_v73
def v74 : FVec Ideal S32768x1 .f32 := fin V main_v74
def cst_4 : FVec Ideal S_ .f32 := fin V main_cst_4
def v75 : FVec Ideal S32768x1 .f32 := fin V main_v75
def v76 : FVec Ideal S32768x1 .f32 := fin V main_v76
def v77 : FVec Ideal S32768x1 .f32 := fin V main_v77
def cst_5 : FVec Ideal S_ .f32 := fin V main_cst_5
def v78 : FVec Ideal S32768x1x1 .f32 := fin V main_v78
def v79 : FVec Ideal S32768x1x2 .f32 := fin V main_v79
def v80 : FVec Ideal S32768x2 .f32 := fin V main_v80
def v81 : FVec Ideal S32768x1x2 .f32 := fin V main_v81
def v82 : FVec Ideal S32768x2x2 .f32 := fin V main_v82
def v83 : IVec S32768x1 32 := fin V main_v83
def v84 : IVec S32768x2 32 := fin V main_v84
def v85 : IVec S32768x1 32 := fin V main_v85
def v86 : IVec S32768x2 32 := fin V main_v86
def v87 : IVec S32768x2x1 32 := fin V main_v87
def v88 : IVec S32768x2x1 32 := fin V main_v88
def v89 : IVec S32768x2x2 32 := fin V main_v89
def v90 : FVec Ideal S32768x2 .f32 := fin V main_v90
def v91 : FVec Ideal S32768x1 .f32 := fin V main_v91
def v92 : FVec Ideal S32768 .f32 := fin V main_v92
def v93 : FVec Ideal S32768x1x1 .f32 := fin V main_v93
def v94 : FVec Ideal S32768 .f32 := fin V main_v94
def v95 : FVec Ideal S32768 .f32 := fin V main_v95
def v96 : FVec Ideal S32768x1 .f32 := fin V main_v96
def v97 : FVec Ideal S32768 .f32 := fin V main_v97
def v98 : FVec Ideal S32768x1x1 .f32 := fin V main_v98
def v99 : FVec Ideal S32768 .f32 := fin V main_v99
def v100 : FVec Ideal S32768 .f32 := fin V main_v100
def v101 : FVec Ideal S32768 .f32 := fin V main_v101
def v102 : FVec Ideal S32768x1x1 .f32 := fin V main_v102
def v103 : FVec Ideal S32768 .f32 := fin V main_v103
def v104 : FVec Ideal S32768 .f32 := fin V main_v104
def v105 : FVec Ideal S32768x1 .f32 := fin V main_v105
def v106 : FVec Ideal S32768x1 .f32 := fin V main_v106
def v107 : FVec Ideal S32768x2 .f32 := fin V main_v107
def v108 : FVec Ideal S32768x2x2 .f32 := fin V main_v108
def v109 : FVec Ideal S32768x1 .f32 := fin V main_v109
def v110 : FVec Ideal S32768 .f32 := fin V main_v110
def v111 : FVec Ideal S32768x1x1 .f32 := fin V main_v111
def v112 : FVec Ideal S32768 .f32 := fin V main_v112
def v113 : FVec Ideal S32768 .f32 := fin V main_v113
def v114 : FVec Ideal S32768x1 .f32 := fin V main_v114
def v115 : FVec Ideal S32768 .f32 := fin V main_v115
def v116 : FVec Ideal S32768x1x1 .f32 := fin V main_v116
def v117 : FVec Ideal S32768 .f32 := fin V main_v117
def v118 : FVec Ideal S32768 .f32 := fin V main_v118
def v119 : FVec Ideal S32768 .f32 := fin V main_v119
def v120 : FVec Ideal S32768x1x1 .f32 := fin V main_v120
def v121 : FVec Ideal S32768 .f32 := fin V main_v121
def v122 : FVec Ideal S32768 .f32 := fin V main_v122
def v123 : FVec Ideal S32768x1 .f32 := fin V main_v123
def v124 : FVec Ideal S32768x1 .f32 := fin V main_v124
def v125 : FVec Ideal S32768x2 .f32 := fin V main_v125
def v126 : IVec S32768x2x1 32 := fin V main_v126
def v127 : FVec Ideal S32768x2x256 .f32 := fin V main_v127
def v128 : FVec Ideal S32768x256 .f32 := fin V main_v128
def v129 : FVec Ideal S32768x256 .f32 := fin V main_v129
def v130 : IVec S32768x256 1 := fin V main_v130
def v131 : FVec Ideal S32768x256 .f32 := fin V main_v131
def v132 : FVec Ideal S32768x256 .f32 := fin V main_v132
def v133 : FVec Ideal S32768x256 .f32 := fin V main_v133
def call2_v0 : IVec S32768x256 32 := fin V main_call2_v0
def call2_cst : FVec Ideal S_ .f32 := fin V main_call2_cst
def call2_c : IVec S_ 32 := fin V main_call2_c
def call2_v1_0 : FVec Ideal S32768 .f32 := fin V main_call2_v1_0
def v134 : IVec S32768 32 := fin V main_v134
def v135 : IVec S1x256 32 := fin V main_v135
def v136 : IVec S32768x1 32 := fin V main_v136
def v137 : IVec S32768x256 32 := fin V main_v137
def v138 : IVec S32768x256 32 := fin V main_v138
def v139 : IVec S32768x256 1 := fin V main_v139
def v140 : IVec S32768x256 1 := fin V main_v140
def v141 : IVec S32768x1 32 := fin V main_v141
def v142 : IVec S32768x2 32 := fin V main_v142
def v143 : IVec S32768x2x1 32 := fin V main_v143
def v144 : IVec S32768x2x1 32 := fin V main_v144
def v145 : IVec S32768x2x2 32 := fin V main_v145
def v146 : FVec Ideal S32768x2 .f32 := fin V main_v146
def v147 : FVec Ideal S32768x1 .f32 := fin V main_v147
def v148 : FVec Ideal S32768 .f32 := fin V main_v148
def v149 : FVec Ideal S32768x1x1 .f32 := fin V main_v149
def v150 : FVec Ideal S32768 .f32 := fin V main_v150
def v151 : FVec Ideal S32768 .f32 := fin V main_v151
def v152 : FVec Ideal S32768x1 .f32 := fin V main_v152
def v153 : FVec Ideal S32768 .f32 := fin V main_v153
def v154 : FVec Ideal S32768x1x1 .f32 := fin V main_v154
def v155 : FVec Ideal S32768 .f32 := fin V main_v155
def v156 : FVec Ideal S32768 .f32 := fin V main_v156
def v157 : FVec Ideal S32768 .f32 := fin V main_v157
def v158 : FVec Ideal S32768x1x1 .f32 := fin V main_v158
def v159 : FVec Ideal S32768 .f32 := fin V main_v159
def v160 : FVec Ideal S32768 .f32 := fin V main_v160
def v161 : FVec Ideal S32768x1 .f32 := fin V main_v161
def v162 : FVec Ideal S32768x1 .f32 := fin V main_v162
def v163 : FVec Ideal S32768x2 .f32 := fin V main_v163
def v164 : FVec Ideal S32768x2 .f32 := fin V main_v164
def cst_6 : FVec Ideal S_ .f32 := fin V main_cst_6
def v165 : FVec Ideal S32768 .f32 := fin V main_v165
def v166 : FVec Ideal S32768x1 .f32 := fin V main_v166
def cst_7 : FVec Ideal S_ .f32 := fin V main_cst_7
def v167 : FVec Ideal S32768x1 .f32 := fin V main_v167
def v168 : FVec Ideal S32768x1 .f32 := fin V main_v168
def cst_8 : FVec Ideal S_ .f32 := fin V main_cst_8
def v169 : FVec Ideal S32768x1 .f32 := fin V main_v169
def v170 : FVec Ideal S32768x1 .f32 := fin V main_v170
def v171 : FVec Ideal S32768x1 .f32 := fin V main_v171
def cst_9 : FVec Ideal S_ .f32 := fin V main_cst_9
def v172 : FVec Ideal S32768x2x1 .f32 := fin V main_v172
def v173 : FVec Ideal S32768x2x3 .f32 := fin V main_v173
def v174 : FVec Ideal S32768x3 .f32 := fin V main_v174
def v175 : FVec Ideal S32768x1x3 .f32 := fin V main_v175
def v176 : FVec Ideal S32768x3x3 .f32 := fin V main_v176
def v177 : IVec S32768x1 32 := fin V main_v177
def v178 : IVec S32768x3 32 := fin V main_v178
def v179 : IVec S32768x1 32 := fin V main_v179
def v180 : IVec S32768x3 32 := fin V main_v180
def v181 : IVec S32768x3x1 32 := fin V main_v181
def v182 : IVec S32768x3x1 32 := fin V main_v182
def v183 : IVec S32768x3x2 32 := fin V main_v183
def v184 : FVec Ideal S32768x3 .f32 := fin V main_v184
def v185 : FVec Ideal S32768x1 .f32 := fin V main_v185
def v186 : FVec Ideal S32768 .f32 := fin V main_v186
def v187 : FVec Ideal S32768x1x1 .f32 := fin V main_v187
def v188 : FVec Ideal S32768 .f32 := fin V main_v188
def v189 : FVec Ideal S32768 .f32 := fin V main_v189
def v190 : FVec Ideal S32768x1 .f32 := fin V main_v190
def v191 : FVec Ideal S32768 .f32 := fin V main_v191
def v192 : FVec Ideal S32768x1x1 .f32 := fin V main_v192
def v193 : FVec Ideal S32768 .f32 := fin V main_v193
def v194 : FVec Ideal S32768 .f32 := fin V main_v194
def v195 : FVec Ideal S32768 .f32 := fin V main_v195
def v196 : FVec Ideal S32768x1x1 .f32 := fin V main_v196
def v197 : FVec Ideal S32768 .f32 := fin V main_v197
def v198 : FVec Ideal S32768 .f32 := fin V main_v198
def v199 : FVec Ideal S32768x1 .f32 := fin V main_v199
def v200 : FVec Ideal S32768 .f32 := fin V main_v200
def v201 : FVec Ideal S32768x1x1 .f32 := fin V main_v201
def v202 : FVec Ideal S32768 .f32 := fin V main_v202
def v203 : FVec Ideal S32768 .f32 := fin V main_v203
def v204 : FVec Ideal S32768 .f32 := fin V main_v204
def v205 : FVec Ideal S32768x1x1 .f32 := fin V main_v205
def v206 : FVec Ideal S32768 .f32 := fin V main_v206
def v207 : FVec Ideal S32768 .f32 := fin V main_v207
def v208 : FVec Ideal S32768 .f32 := fin V main_v208
def v209 : FVec Ideal S32768x1x1 .f32 := fin V main_v209
def v210 : FVec Ideal S32768 .f32 := fin V main_v210
def v211 : FVec Ideal S32768 .f32 := fin V main_v211
def v212 : FVec Ideal S32768x1 .f32 := fin V main_v212
def v213 : FVec Ideal S32768x1 .f32 := fin V main_v213
def v214 : FVec Ideal S32768x1 .f32 := fin V main_v214
def v215 : FVec Ideal S32768x3 .f32 := fin V main_v215
def v216 : FVec Ideal S32768x3x3 .f32 := fin V main_v216
def v217 : FVec Ideal S32768x1 .f32 := fin V main_v217
def v218 : FVec Ideal S32768 .f32 := fin V main_v218
def v219 : FVec Ideal S32768x1x1 .f32 := fin V main_v219
def v220 : FVec Ideal S32768 .f32 := fin V main_v220
def v221 : FVec Ideal S32768 .f32 := fin V main_v221
def v222 : FVec Ideal S32768x1 .f32 := fin V main_v222
def v223 : FVec Ideal S32768 .f32 := fin V main_v223
def v224 : FVec Ideal S32768x1x1 .f32 := fin V main_v224
def v225 : FVec Ideal S32768 .f32 := fin V main_v225
def v226 : FVec Ideal S32768 .f32 := fin V main_v226
def v227 : FVec Ideal S32768 .f32 := fin V main_v227
def v228 : FVec Ideal S32768x1x1 .f32 := fin V main_v228
def v229 : FVec Ideal S32768 .f32 := fin V main_v229
def v230 : FVec Ideal S32768 .f32 := fin V main_v230
def v231 : FVec Ideal S32768x1 .f32 := fin V main_v231
def v232 : FVec Ideal S32768 .f32 := fin V main_v232
def v233 : FVec Ideal S32768x1x1 .f32 := fin V main_v233
def v234 : FVec Ideal S32768 .f32 := fin V main_v234
def v235 : FVec Ideal S32768 .f32 := fin V main_v235
def v236 : FVec Ideal S32768 .f32 := fin V main_v236
def v237 : FVec Ideal S32768x1x1 .f32 := fin V main_v237
def v238 : FVec Ideal S32768 .f32 := fin V main_v238
def v239 : FVec Ideal S32768 .f32 := fin V main_v239
def v240 : FVec Ideal S32768 .f32 := fin V main_v240
def v241 : FVec Ideal S32768x1x1 .f32 := fin V main_v241
def v242 : FVec Ideal S32768 .f32 := fin V main_v242
def v243 : FVec Ideal S32768 .f32 := fin V main_v243
def v244 : FVec Ideal S32768x1 .f32 := fin V main_v244
def v245 : FVec Ideal S32768x1 .f32 := fin V main_v245
def v246 : FVec Ideal S32768x1 .f32 := fin V main_v246
def v247 : FVec Ideal S32768x3 .f32 := fin V main_v247
def v248 : IVec S32768x3x1 32 := fin V main_v248
def v249 : FVec Ideal S32768x3x256 .f32 := fin V main_v249
def v250 : FVec Ideal S32768x256 .f32 := fin V main_v250
def v251 : FVec Ideal S32768x256 .f32 := fin V main_v251
def v252 : IVec S32768x256 1 := fin V main_v252
def v253 : FVec Ideal S32768x256 .f32 := fin V main_v253
def v254 : FVec Ideal S32768x256 .f32 := fin V main_v254
def v255 : FVec Ideal S32768x256 .f32 := fin V main_v255
def call3_v0 : IVec S32768x256 32 := fin V main_call3_v0
def call3_cst : FVec Ideal S_ .f32 := fin V main_call3_cst
def call3_c : IVec S_ 32 := fin V main_call3_c
def call3_v1_0 : FVec Ideal S32768 .f32 := fin V main_call3_v1_0
def v256 : IVec S32768 32 := fin V main_v256
def v257 : IVec S1x256 32 := fin V main_v257
def v258 : IVec S32768x1 32 := fin V main_v258
def v259 : IVec S32768x256 32 := fin V main_v259
def v260 : IVec S32768x256 32 := fin V main_v260
def v261 : IVec S32768x256 1 := fin V main_v261
def v262 : IVec S32768x256 1 := fin V main_v262
def v263 : IVec S32768x1 32 := fin V main_v263
def v264 : IVec S32768x3 32 := fin V main_v264
def v265 : IVec S32768x3x1 32 := fin V main_v265
def v266 : IVec S32768x3x1 32 := fin V main_v266
def v267 : IVec S32768x3x2 32 := fin V main_v267
def v268 : FVec Ideal S32768x3 .f32 := fin V main_v268
def v269 : FVec Ideal S32768x1 .f32 := fin V main_v269
def v270 : FVec Ideal S32768 .f32 := fin V main_v270
def v271 : FVec Ideal S32768x1x1 .f32 := fin V main_v271
def v272 : FVec Ideal S32768 .f32 := fin V main_v272
def v273 : FVec Ideal S32768 .f32 := fin V main_v273
def v274 : FVec Ideal S32768x1 .f32 := fin V main_v274
def v275 : FVec Ideal S32768 .f32 := fin V main_v275
def v276 : FVec Ideal S32768x1x1 .f32 := fin V main_v276
def v277 : FVec Ideal S32768 .f32 := fin V main_v277
def v278 : FVec Ideal S32768 .f32 := fin V main_v278
def v279 : FVec Ideal S32768 .f32 := fin V main_v279
def v280 : FVec Ideal S32768x1x1 .f32 := fin V main_v280
def v281 : FVec Ideal S32768 .f32 := fin V main_v281
def v282 : FVec Ideal S32768 .f32 := fin V main_v282
def v283 : FVec Ideal S32768x1 .f32 := fin V main_v283
def v284 : FVec Ideal S32768 .f32 := fin V main_v284
def v285 : FVec Ideal S32768x1x1 .f32 := fin V main_v285
def v286 : FVec Ideal S32768 .f32 := fin V main_v286
def v287 : FVec Ideal S32768 .f32 := fin V main_v287
def v288 : FVec Ideal S32768 .f32 := fin V main_v288
def v289 : FVec Ideal S32768x1x1 .f32 := fin V main_v289
def v290 : FVec Ideal S32768 .f32 := fin V main_v290
def v291 : FVec Ideal S32768 .f32 := fin V main_v291
def v292 : FVec Ideal S32768 .f32 := fin V main_v292
def v293 : FVec Ideal S32768x1x1 .f32 := fin V main_v293
def v294 : FVec Ideal S32768 .f32 := fin V main_v294
def v295 : FVec Ideal S32768 .f32 := fin V main_v295
def v296 : FVec Ideal S32768x1 .f32 := fin V main_v296
def v297 : FVec Ideal S32768x1 .f32 := fin V main_v297
def v298 : FVec Ideal S32768x1 .f32 := fin V main_v298
def v299 : FVec Ideal S32768x3 .f32 := fin V main_v299
def v300 : FVec Ideal S32768x3 .f32 := fin V main_v300
def cst_10 : FVec Ideal S_ .f32 := fin V main_cst_10
def v301 : FVec Ideal S32768 .f32 := fin V main_v301
def v302 : FVec Ideal S32768x1 .f32 := fin V main_v302
def cst_11 : FVec Ideal S_ .f32 := fin V main_cst_11
def v303 : FVec Ideal S32768x1 .f32 := fin V main_v303
def v304 : FVec Ideal S32768x1 .f32 := fin V main_v304
def cst_12 : FVec Ideal S_ .f32 := fin V main_cst_12
def v305 : FVec Ideal S32768x1 .f32 := fin V main_v305
def v306 : FVec Ideal S32768x1 .f32 := fin V main_v306
def v307 : FVec Ideal S32768x1 .f32 := fin V main_v307
def cst_13 : FVec Ideal S_ .f32 := fin V main_cst_13
def v308 : FVec Ideal S32768x3x1 .f32 := fin V main_v308
def v309 : FVec Ideal S32768x3x4 .f32 := fin V main_v309
def v310 : FVec Ideal S32768x4 .f32 := fin V main_v310
def v311 : FVec Ideal S32768x1x4 .f32 := fin V main_v311
def v312 : FVec Ideal S32768x4x4 .f32 := fin V main_v312
def v313 : IVec S32768x1 32 := fin V main_v313
def v314 : IVec S32768x4 32 := fin V main_v314
def v315 : IVec S32768x1 32 := fin V main_v315
def v316 : IVec S32768x4 32 := fin V main_v316
def v317 : IVec S32768x4x1 32 := fin V main_v317
def v318 : IVec S32768x4x1 32 := fin V main_v318
def v319 : IVec S32768x4x2 32 := fin V main_v319
def v320 : FVec Ideal S32768x4 .f32 := fin V main_v320
def v321 : FVec Ideal S32768x1 .f32 := fin V main_v321
def v322 : FVec Ideal S32768 .f32 := fin V main_v322
def v323 : FVec Ideal S32768x1x1 .f32 := fin V main_v323
def v324 : FVec Ideal S32768 .f32 := fin V main_v324
def v325 : FVec Ideal S32768 .f32 := fin V main_v325
def v326 : FVec Ideal S32768x1 .f32 := fin V main_v326
def v327 : FVec Ideal S32768 .f32 := fin V main_v327
def v328 : FVec Ideal S32768x1x1 .f32 := fin V main_v328
def v329 : FVec Ideal S32768 .f32 := fin V main_v329
def v330 : FVec Ideal S32768 .f32 := fin V main_v330
def v331 : FVec Ideal S32768 .f32 := fin V main_v331
def v332 : FVec Ideal S32768x1x1 .f32 := fin V main_v332
def v333 : FVec Ideal S32768 .f32 := fin V main_v333
def v334 : FVec Ideal S32768 .f32 := fin V main_v334
def v335 : FVec Ideal S32768x1 .f32 := fin V main_v335
def v336 : FVec Ideal S32768 .f32 := fin V main_v336
def v337 : FVec Ideal S32768x1x1 .f32 := fin V main_v337
def v338 : FVec Ideal S32768 .f32 := fin V main_v338
def v339 : FVec Ideal S32768 .f32 := fin V main_v339
def v340 : FVec Ideal S32768 .f32 := fin V main_v340
def v341 : FVec Ideal S32768x1x1 .f32 := fin V main_v341
def v342 : FVec Ideal S32768 .f32 := fin V main_v342
def v343 : FVec Ideal S32768 .f32 := fin V main_v343
def v344 : FVec Ideal S32768 .f32 := fin V main_v344
def v345 : FVec Ideal S32768x1x1 .f32 := fin V main_v345
def v346 : FVec Ideal S32768 .f32 := fin V main_v346
def v347 : FVec Ideal S32768 .f32 := fin V main_v347
def v348 : FVec Ideal S32768x1 .f32 := fin V main_v348
def v349 : FVec Ideal S32768 .f32 := fin V main_v349
def v350 : FVec Ideal S32768x1x1 .f32 := fin V main_v350
def v351 : FVec Ideal S32768 .f32 := fin V main_v351
def v352 : FVec Ideal S32768 .f32 := fin V main_v352
def v353 : FVec Ideal S32768 .f32 := fin V main_v353
def v354 : FVec Ideal S32768x1x1 .f32 := fin V main_v354
def v355 : FVec Ideal S32768 .f32 := fin V main_v355
def v356 : FVec Ideal S32768 .f32 := fin V main_v356
def v357 : FVec Ideal S32768 .f32 := fin V main_v357
def v358 : FVec Ideal S32768x1x1 .f32 := fin V main_v358
def v359 : FVec Ideal S32768 .f32 := fin V main_v359
def v360 : FVec Ideal S32768 .f32 := fin V main_v360
def v361 : FVec Ideal S32768 .f32 := fin V main_v361
def v362 : FVec Ideal S32768x1x1 .f32 := fin V main_v362
def v363 : FVec Ideal S32768 .f32 := fin V main_v363
def v364 : FVec Ideal S32768 .f32 := fin V main_v364
def v365 : FVec Ideal S32768x1 .f32 := fin V main_v365
def v366 : FVec Ideal S32768x1 .f32 := fin V main_v366
def v367 : FVec Ideal S32768x1 .f32 := fin V main_v367
def v368 : FVec Ideal S32768x1 .f32 := fin V main_v368
def v369 : FVec Ideal S32768x4 .f32 := fin V main_v369
def v370 : FVec Ideal S32768x4x4 .f32 := fin V main_v370
def v371 : FVec Ideal S32768x1 .f32 := fin V main_v371
def v372 : FVec Ideal S32768 .f32 := fin V main_v372
def v373 : FVec Ideal S32768x1x1 .f32 := fin V main_v373
def v374 : FVec Ideal S32768 .f32 := fin V main_v374
def v375 : FVec Ideal S32768 .f32 := fin V main_v375
def v376 : FVec Ideal S32768x1 .f32 := fin V main_v376
def v377 : FVec Ideal S32768 .f32 := fin V main_v377
def v378 : FVec Ideal S32768x1x1 .f32 := fin V main_v378
def v379 : FVec Ideal S32768 .f32 := fin V main_v379
def v380 : FVec Ideal S32768 .f32 := fin V main_v380
def v381 : FVec Ideal S32768 .f32 := fin V main_v381
def v382 : FVec Ideal S32768x1x1 .f32 := fin V main_v382
def v383 : FVec Ideal S32768 .f32 := fin V main_v383
def v384 : FVec Ideal S32768 .f32 := fin V main_v384
def v385 : FVec Ideal S32768x1 .f32 := fin V main_v385
def v386 : FVec Ideal S32768 .f32 := fin V main_v386
def v387 : FVec Ideal S32768x1x1 .f32 := fin V main_v387
def v388 : FVec Ideal S32768 .f32 := fin V main_v388
def v389 : FVec Ideal S32768 .f32 := fin V main_v389
def v390 : FVec Ideal S32768 .f32 := fin V main_v390
def v391 : FVec Ideal S32768x1x1 .f32 := fin V main_v391
def v392 : FVec Ideal S32768 .f32 := fin V main_v392
def v393 : FVec Ideal S32768 .f32 := fin V main_v393
def v394 : FVec Ideal S32768 .f32 := fin V main_v394
def v395 : FVec Ideal S32768x1x1 .f32 := fin V main_v395
def v396 : FVec Ideal S32768 .f32 := fin V main_v396
def v397 : FVec Ideal S32768 .f32 := fin V main_v397
def v398 : FVec Ideal S32768x1 .f32 := fin V main_v398
def v399 : FVec Ideal S32768 .f32 := fin V main_v399
def v400 : FVec Ideal S32768x1x1 .f32 := fin V main_v400
def v401 : FVec Ideal S32768 .f32 := fin V main_v401
def v402 : FVec Ideal S32768 .f32 := fin V main_v402
def v403 : FVec Ideal S32768 .f32 := fin V main_v403
def v404 : FVec Ideal S32768x1x1 .f32 := fin V main_v404
def v405 : FVec Ideal S32768 .f32 := fin V main_v405
def v406 : FVec Ideal S32768 .f32 := fin V main_v406
def v407 : FVec Ideal S32768 .f32 := fin V main_v407
def v408 : FVec Ideal S32768x1x1 .f32 := fin V main_v408
def v409 : FVec Ideal S32768 .f32 := fin V main_v409
def v410 : FVec Ideal S32768 .f32 := fin V main_v410
def v411 : FVec Ideal S32768 .f32 := fin V main_v411
def v412 : FVec Ideal S32768x1x1 .f32 := fin V main_v412
def v413 : FVec Ideal S32768 .f32 := fin V main_v413
def v414 : FVec Ideal S32768 .f32 := fin V main_v414
def v415 : FVec Ideal S32768x1 .f32 := fin V main_v415
def v416 : FVec Ideal S32768x1 .f32 := fin V main_v416
def v417 : FVec Ideal S32768x1 .f32 := fin V main_v417
def v418 : FVec Ideal S32768x1 .f32 := fin V main_v418
def v419 : FVec Ideal S32768x4 .f32 := fin V main_v419
def cst_14 : FVec Ideal S_ .f32 := fin V main_cst_14
def cst_15 : FVec Ideal S_ .f32 := fin V main_cst_15
def call4_v0 : FVec Ideal S_ .f32 := fin V main_call4_v0
def call4_v1 : FVec Ideal S_ .f32 := fin V main_call4_v1
def call4_v2 : FVec Ideal S_ .f32 := fin V main_call4_v2
def call4_cst : FVec Ideal S_ .f32 := fin V main_call4_cst
def call4_v3 : FVec Ideal S_ .f32 := fin V main_call4_v3
def call4_v4 : FVec Ideal S32 .f32 := fin V main_call4_v4
def call4_cst_0 : FVec Ideal S_ .f32 := fin V main_call4_cst_0
def call4_v5 : FVec Ideal S32 .f32 := fin V main_call4_v5
def call4_v6 : FVec Ideal S32 .f32 := fin V main_call4_v6
def call4_v7 : FVec Ideal S1 .f32 := fin V main_call4_v7
def call4_cst_1 : FVec Ideal S_ .f32 := fin V main_call4_cst_1
def call4_v8 : FVec Ideal S32 .f32 := fin V main_call4_v8
def call4_v9 : FVec Ideal S32 .f32 := fin V main_call4_v9
def call4_v10 : FVec Ideal S32 .f32 := fin V main_call4_v10
def call4_v11 : FVec Ideal S32 .f32 := fin V main_call4_v11
def call4_v12 : FVec Ideal S1 .f32 := fin V main_call4_v12
def call4_v13 : FVec Ideal S32 .f32 := fin V main_call4_v13
def call4_v14 : FVec Ideal S32 .f32 := fin V main_call4_v14
def call4_v15 : FVec Ideal S32 .f32 := fin V main_call4_v15
def call4_v16 : FVec Ideal S1 .f32 := fin V main_call4_v16
def v420 : FVec Ideal S33 .f32 := fin V main_v420
def cst_16 : FVec Ideal S_ .f32 := fin V main_cst_16
def cst_17 : FVec Ideal S_ .f32 := fin V main_cst_17
def call5_v0 : FVec Ideal S_ .f32 := fin V main_call5_v0
def call5_v1 : FVec Ideal S32768x4 .f32 := fin V main_call5_v1
def call5_v2 : FVec Ideal S32768x4 .f32 := fin V main_call5_v2
def call5_v3 : FVec Ideal S_ .f32 := fin V main_call5_v3
def call5_v4 : FVec Ideal S32768x4 .f32 := fin V main_call5_v4
def v421 : FVec Ideal S32768x4 .f32 := fin V main_v421
def cst_18 : FVec Ideal S_ .f32 := fin V main_cst_18
def v422 : FVec Ideal S32768x4 .f32 := fin V main_v422
def v423 : FVec Ideal S32768x4 .f32 := fin V main_v423
def cst_19 : FVec Ideal S_ .f32 := fin V main_cst_19
def v424 : FVec Ideal S32768x4 .f32 := fin V main_v424
def v425 : FVec Ideal S32768x4 .f32 := fin V main_v425
def cst_20 : FVec Ideal S_ .f32 := fin V main_cst_20
def v426 : FVec Ideal S32768x4 .f32 := fin V main_v426
def v427 : FVec Ideal S32768x4 .f32 := fin V main_v427
def v428 : FVec Ideal S32768x4 .f32 := fin V main_v428
def v429 : IVec S32768x4 32 := fin V main_v429
def c_21 : IVec S_ 32 := fin V main_c_21
def c_22 : IVec S_ 32 := fin V main_c_22
def call7_v0 : IVec S_ 32 := fin V main_call7_v0
def call7_v1 : IVec S32768x4 32 := fin V main_call7_v1
def call7_v2 : IVec S32768x4 32 := fin V main_call7_v2
def call7_v3 : IVec S_ 32 := fin V main_call7_v3
def call7_v4 : IVec S32768x4 32 := fin V main_call7_v4
def v430 : IVec S32768x4 32 := fin V main_v430
def v431 : IVec S32768x4x1 32 := fin V main_v431
def v432 : FVec Ideal S32768x4 .f32 := fin V main_v432
def c_23 : IVec S_ 32 := fin V main_c_23
def v433 : IVec S32768x4 32 := fin V main_v433
def v434 : IVec S32768x4 32 := fin V main_v434
def v435 : IVec S32768x4 32 := fin V main_v435
def v436 : IVec S32x32x32x4 32 := fin V main_v436
def v437 : FVec Ideal S256x64 .f32 := fin V main_v437
def v438 : IVec S32768x4x1 32 := fin V main_v438
def v439 : FVec Ideal S32768x4x64 .f32 := fin V main_v439
def v440 : FVec Ideal S32768x4x1 .f32 := fin V main_v440
def v441 : FVec Ideal S32768x4x64 .f32 := fin V main_v441
def v442 : FVec Ideal S32768x4x64 .f32 := fin V main_v442
def cst_24 : FVec Ideal S_ .f32 := fin V main_cst_24
def v443 : FVec Ideal S32768x64 .f32 := fin V main_v443
def v444 : FVec Ideal S32x32x32x64 .f32 := fin V main_v444
def v445 : FVec Ideal S32x64x32x32 .f32 := fin V main_v445
def v446 : FVec Ideal S32x64x32x32 .f32 := fin V main_v446
def v447 : FVec Ideal S32x64x32x32 .f32 := fin V main_v447
def cst_25 : FVec Ideal S_ .f32 := fin V main_cst_25
def v448 : FVec Ideal S_ .f32 := fin V main_v448
def cst_26 : FVec Ideal S_ .f32 := fin V main_cst_26
def v449 : FVec Ideal S_ .f32 := fin V main_v449
def v450 : FVec Ideal S32x64x32x32 .f32 := fin V main_v450
def v451 : FVec Ideal S32x64x32x32 .f32 := fin V main_v451
def cst_27 : FVec Ideal S_ .f32 := fin V main_cst_27
def v452 : FVec Ideal S_ .f32 := fin V main_v452
def cst_28 : FVec Ideal S_ .f32 := fin V main_cst_28
def v453 : FVec Ideal S_ .f32 := fin V main_v453
def cst_29 : FVec Ideal S_ .f32 := fin V main_cst_29
def v454 : FVec Ideal S_ .f32 := fin V main_v454
def v455 : FVec Ideal S_ .f32 := fin V main_v455
def v456 : FVec Ideal S32x64x32x32 .f32 := fin V main_v456
def v457 : FVec Ideal S32x64x32x32 .f32 := fin V main_v457

end Cert.Proof.Ref

end
-- ==== Proof.RefLib.lean ====
/- How the reference's array operations read at an index, over the extended reals: small sums, batched products, gathers,
   and the position of the first maximum of a row. -/
module

public import proofs.«01_k».proof.Proof.RefVals
public import Idealize.ShloMosaic.Lib.IdealHost
public import Idealize.ShloMosaic.Lib.StackMember

@[expose] public section

noncomputable section

namespace Cert.Proof

open Idealize.ShloMosaic hiding ix0 ix1 ix2 ix3 ix4 eq_ix2
open Idealize.ShloMosaic.ValueIdx

/-! ## The first maximum of a row -/

/-- `i` is the first position at which `s` is largest. -/
def IsFirst (s : Fin 256 → EReal) (i : Fin 256) : Prop := (∀ a, s a ≤ s i) ∧ ∀ a, s a = s i → i ≤ a

theorem exists_first (s : Fin 256 → EReal) : ∃ i, IsFirst s i := by
  obtain ⟨m, -, hm⟩ := Finset.exists_max_image (Finset.univ : Finset (Fin 256)) s ⟨0, Finset.mem_univ _⟩
  have hne : (Finset.univ.filter fun a => s a = s m).Nonempty := ⟨m, by simp⟩
  refine ⟨(Finset.univ.filter fun a => s a = s m).min' hne, ?_, ?_⟩
  · have h := (Finset.mem_filter.mp ((Finset.univ.filter fun a => s a = s m).min'_mem hne)).2
    intro a; rw [h]; exact hm a (Finset.mem_univ _)
  · have h := (Finset.mem_filter.mp ((Finset.univ.filter fun a => s a = s m).min'_mem hne)).2
    intro a ha; exact Finset.min'_le _ _ (by simp [ha, h])

/-- The first position at which `s` is largest. -/
def first (s : Fin 256 → EReal) : Fin 256 := Classical.choose (exists_first s)

theorem first_spec (s : Fin 256 → EReal) : IsFirst s (first s) := Classical.choose_spec (exists_first s)

theorem first_eq {s : Fin 256 → EReal} {i : Fin 256} (h : IsFirst s i) : first s = i := by
  have h' := first_spec s
  have e : s (first s) = s i := le_antisymm (h.1 _) (h'.1 _)
  exact le_antisymm (h'.2 i e.symm) (h.2 _ e)

/-- A position below 256 as a word. -/
abbrev word (i : Fin 256) : BitVec 32 := BitVec.ofNat 32 i.val

theorem word_toInt (i : Fin 256) : (word i).toInt = i.val := by
  have := i.isLt
  rw [BitVec.toInt_eq_toNat_of_lt (by simp; omega)]
  simp; omega

theorem word_inj {i j : Fin 256} (h : word i = word j) : i = j := by
  have := congrArg BitVec.toInt h
  rw [word_toInt, word_toInt] at this
  exact Fin.ext (by omega)

/-- The word as a position of an array of extent `A`: read signed, clamped. -/
def pick (A : Nat) [NeZero A] (b : BitVec 32) : Fin A := ⟨min b.toInt.toNat (A - 1), by have := NeZero.pos A; omega⟩

theorem pick_word (i : Fin 256) : pick 256 (word i) = i := by
  have := i.isLt
  apply Fin.ext; show min (word i).toInt.toNat 255 = i.val
  rw [word_toInt]; simp; omega

/-! ### The fold behind the reference's arg-max -/

/-- `p` is at most `q`: a smaller value, or the same value at a later position. -/
def Below (p q : EReal × BitVec 32) : Prop := p.1 < q.1 ∨ (p.1 = q.1 ∧ q.2.toInt ≤ p.2.toInt)

theorem Below.trans {p q r : EReal × BitVec 32} (h : Below p q) (h' : Below q r) : Below p r := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

theorem Below.refl (p : EReal × BitVec 32) : Below p p := Or.inr ⟨rfl, le_rfl⟩

theorem fold_below {f : EReal × BitVec 32 → EReal × BitVec 32 → EReal × BitVec 32}
    (hf : ∀ a b, (f a b = a ∧ Below b a) ∨ (f a b = b ∧ Below a b)) (L : List (EReal × BitVec 32)) (p : EReal × BitVec 32) :
    (L.foldl f p = p ∨ L.foldl f p ∈ L) ∧ Below p (L.foldl f p) ∧ ∀ q ∈ L, Below q (L.foldl f p) := by
  induction L generalizing p with
  | nil => exact ⟨Or.inl rfl, Below.refl p, fun q hq => absurd hq List.not_mem_nil⟩
  | cons a L ih =>
    obtain ⟨h1, h2, h3⟩ := ih (f p a)
    rw [List.foldl_cons]
    rcases hf p a with ⟨e, hb⟩ | ⟨e, hb⟩ <;> rw [e] at h1 h2 h3 ⊢
    · refine ⟨h1.imp id (List.mem_cons_of_mem _), h2, fun q hq => ?_⟩
      rcases List.mem_cons.mp hq with rfl | hq
      · exact hb.trans h2
      · exact h3 q hq
    · refine ⟨Or.inr ?_, hb.trans h2, fun q hq => ?_⟩
      · rcases h1 with h1 | h1
        · rw [h1]; exact List.mem_cons_self
        · exact List.mem_cons_of_mem _ h1
      · rcases List.mem_cons.mp hq with rfl | hq
        · exact h2
        · exact h3 q hq

namespace Ref

open Cert.ReferenceIdeal Cert.ReferenceIdeal.Gen

theorem reducer_below (a b : EReal × BitVec 32) :
    (reducer_argmax_f32_i32 (F := Ideal) a b = a ∧ Below b a) ∨ (reducer_argmax_f32_i32 (F := Ideal) a b = b ∧ Below a b) := by
  obtain ⟨x, i⟩ := a
  obtain ⟨y, j⟩ := b
  have e : reducer_argmax_f32_i32 (F := Ideal) (x, i) (y, j)
      = (Scalar.select (IntOp.ori (Ideal.cmp .ogt x y) (Ideal.cmp .une x x)) x y,
        Scalar.select (IntOp.ori (IntOp.ori (Ideal.cmp .ogt x y) (Ideal.cmp .une x x))
          (IntOp.andi (Ideal.cmp .oeq x y) (IntOp.cmpi .slt i j))) i j) := rfl
  rw [e]
  simp only [Below]
  rcases lt_trichotomy x y with h | h | h
  · right
    have h1 : ¬ y < x := not_lt.mpr h.le
    have h2 : ¬ x = y := h.ne
    simp [Ideal.cmp, h, h1, h2, IntOp.ori, IntOp.andi, Scalar.select]
  · subst h
    by_cases hij : i.toInt < j.toInt
    · left
      have : i.slt j = true := by simpa [BitVec.slt] using hij
      simp [Ideal.cmp, IntOp.ori, IntOp.andi, IntOp.cmpi, Scalar.select, this, hij.le]
    · right
      have : i.slt j = false := by simpa [BitVec.slt] using hij
      simp [Ideal.cmp, IntOp.ori, IntOp.andi, IntOp.cmpi, Scalar.select, this, not_lt.mp hij]
  · left
    have h2 : ¬ x = y := h.ne'
    simp [Ideal.cmp, h, h2, IntOp.ori, IntOp.andi, Scalar.select]

theorem argmax_at {x : FVec Ideal S32768x256 .f32} {y : IVec S32768x256 32} {u : FVec Ideal S_ .f32} {v : IVec S_ 32}
    (hy : ∀ (n : Fin 32768) (a : Fin 256), y (ix2 n a) = word a) (hu : u ix0 = Ideal.ofBits .f32 0xFF800000#32) (hv : v ix0 = 0#32)
    (hr : S32768x256.ReducesTo [1] S32768) (h0 : 0 < S_.numel) (n : Fin 32768) :
    (Host.argReduce reducer_argmax_f32_i32 x y u v hr h0 (ix1 n)).2 = word (first fun a => x (ix2 n a)) := by
  rw [Ideal.argReduce_eq_reduce2, Host.reduce2_eq_foldl_fiber]
  have ef : Shape.Idx.first h0 = ix0 := eq_ix0 _
  rw [ef, hu, hv]
  have hbot : Ideal.ofBits .f32 0xFF800000#32 = ⊥ := by simp [Ideal.ofBits, Ideal.ieee]
  rw [hbot]
  have hmem : ∀ q, q ∈ Host.argReduceFiber x y hr (ix1 n) ↔ ∃ a : Fin 256, q = (x (ix2 n a), word a) := by
    intro q
    unfold Host.argReduceFiber
    rw [List.mem_map]
    constructor
    · rintro ⟨k, hk, rfl⟩
      have hk := (List.mem_filter.mp hk).2
      have hd : hr.drop (S32768x256.rowMajor.symm k) = ix1 n := by simpa using hk
      generalize S32768x256.rowMajor.symm k = z at hd
      have hz : z = ix2 n (z 1) := by
        funext d
        match d with
        | ⟨0, _⟩ => exact congrFun hd 0
        | ⟨1, _⟩ => rfl
      exact ⟨z 1, Prod.ext (congrArg x hz) ((congrArg y hz).trans (hy n (z 1)))⟩
    · rintro ⟨a, rfl⟩
      refine ⟨S32768x256.rowMajor (ix2 n a), List.mem_filter.mpr ⟨List.mem_finRange _, ?_⟩, ?_⟩
      · rw [Equiv.symm_apply_apply]
        simp only [decide_eq_true_eq]
        funext d
        match d with
        | ⟨0, _⟩ => rfl
      · rw [Equiv.symm_apply_apply, hy]
  obtain ⟨h1, h2, h3⟩ := fold_below reducer_below (Host.argReduceFiber x y hr (ix1 n)) (⊥, 0#32)
  generalize hp : (Host.argReduceFiber x y hr (ix1 n)).foldl reducer_argmax_f32_i32 (⊥, 0#32) = p at h1 h2 h3
  have key : ∀ i : Fin 256, p = (x (ix2 n i), word i) → p.2 = word (first fun a => x (ix2 n a)) := by
    intro i hi
    have hf : IsFirst (fun a => x (ix2 n a)) i := by
      refine ⟨fun a => ?_, fun a ha => ?_⟩
      · rcases h3 _ ((hmem _).mpr ⟨a, rfl⟩) with h | h
        · rw [hi] at h; exact le_of_lt h
        · rw [hi] at h; exact le_of_eq h.1
      · rcases h3 _ ((hmem _).mpr ⟨a, rfl⟩) with h | h
        · rw [hi] at h; exact absurd ha (ne_of_lt h)
        · rw [hi] at h
          have h : (word i).toInt ≤ (word a).toInt := h.2
          rw [word_toInt, word_toInt] at h
          exact Fin.le_def.mpr (by omega)
    rw [first_eq hf, hi]
  rcases h1 with h1 | h1
  · refine key 0 ?_
    rcases h3 _ ((hmem _).mpr ⟨0, rfl⟩) with h | h
    · rw [h1] at h; exact absurd h not_lt_bot
    · rw [h1] at h ⊢
      exact Prod.ext h.1.symm rfl
  · obtain ⟨i, hi⟩ := (hmem _).mp h1
    exact key i hi

/-! ## Arithmetic at an index -/

section
variable {s : Shape} {a b : FVec Ideal s .f32} {i : s.Idx} {x y : EReal}
theorem mul_at (ha : a i = x) (hb : b i = y) : mulf a b i = x * y := by subst ha hb; rfl
theorem add_at (ha : a i = x) (hb : b i = y) : addf a b i = x + y := by subst ha hb; rfl
theorem sub_at (ha : a i = x) (hb : b i = y) : subf a b i = x - y := by subst ha hb; rfl
theorem div_at (ha : a i = x) (hb : b i = y) : Host.divf a b i = Ideal.div x y := by subst ha hb; rfl
theorem max_at (ha : a i = x) (hb : b i = y) : maximumf a b i = max x y := by subst ha hb; rfl
theorem min_at (ha : a i = x) (hb : b i = y) : minimumf a b i = min x y := by subst ha hb; rfl
theorem sqrt_at (ha : a i = x) : Host.sqrt a i = Ideal.sqrt x := by subst ha; rfl
theorem abs_at (ha : a i = x) : Host.absf a i = max x (-x) := by subst ha; rfl
theorem round_at (ha : a i = x) : Host.roundeven a i = FloatOps.roundeven (F := Ideal) (φ := .f32) x := by subst ha; rfl
theorem toInt_at (ha : a i = x) : fptosi 32 a i = FloatOps.fptosi (F := Ideal) (φ := .f32) 32 x := by subst ha; rfl
end

section
variable {w : Nat} {s : Shape} {a b : IVec s w} {i : s.Idx} {x y : BitVec w}
theorem cmpi_at {p : CmpIPredicate} (ha : a i = x) (hb : b i = y) : cmpi p a b i = IntOp.cmpi p x y := by subst ha hb; rfl
theorem ori_at (ha : a i = x) (hb : b i = y) : ori a b i = IntOp.ori x y := by subst ha hb; rfl
theorem noti_at (ha : a i = x) : noti a i = ~~~x := by subst ha; rfl
theorem uitofp_at (ha : a i = x) : (uitofp .f32 a : FVec Ideal s .f32) i = FloatOps.uitofp .f32 x := by subst ha; rfl
theorem maxsi_at (ha : a i = x) (hb : b i = y) : maxsi a b i = IntOp.maxsi x y := by subst ha hb; rfl
theorem minsi_at (ha : a i = x) (hb : b i = y) : minsi a b i = IntOp.minsi x y := by subst ha hb; rfl
theorem muli_at (ha : a i = x) (hb : b i = y) : muli a b i = IntOp.muli x y := by subst ha hb; rfl
theorem addi_at (ha : a i = x) (hb : b i = y) : addi a b i = IntOp.addi x y := by subst ha hb; rfl
end

/-! ## Reshapes that drop unit axes, and the pixels -/

section
variable {α : Type} {N : Nat}
theorem cast_n1 (x : (⟨2, ![N, 1]⟩ : Shape).Idx → α) (h : (⟨2, ![N, 1]⟩ : Shape).ShapeCasts ⟨1, ![N]⟩) (n : Fin N) :
    shapeCast ⟨1, ![N]⟩ x h (ix1 n) = x (ix2 n (0 : Fin 1)) :=
  shapeCast_apply x h _ _ (by
    rw [Shape.rowMajor_val_two, Shape.rowMajor_val_one]
    show n.val * 1 + 0 = n.val
    omega)

theorem cast_n11 (x : (⟨3, ![N, 1, 1]⟩ : Shape).Idx → α) (h : (⟨3, ![N, 1, 1]⟩ : Shape).ShapeCasts ⟨1, ![N]⟩) (n : Fin N) :
    shapeCast ⟨1, ![N]⟩ x h (ix1 n) = x (ix3 n (0 : Fin 1) (0 : Fin 1)) :=
  shapeCast_apply x h _ _ (by
    rw [Shape.rowMajor_val_three, Shape.rowMajor_val_one]
    show (n.val * 1 + 0) * 1 + 0 = n.val
    omega)

theorem cast_0 (x : (⟨0, ![]⟩ : Shape).Idx → α) (h : (⟨0, ![]⟩ : Shape).ShapeCasts ⟨1, ![1]⟩) :
    shapeCast ⟨1, ![1]⟩ x h (ix1 (0 : Fin 1)) = x ix0 := by
  unfold shapeCast
  exact congrArg x (eq_ix0 _)

/-- The number of the pixel `(h, w)` of image `b`. -/
def pix (b h w : Fin 32) : Fin 32768 := ⟨(b.val * 32 + h.val) * 32 + w.val, by have := b.isLt; have := h.isLt; have := w.isLt; omega⟩
/-- The image of a pixel, its row and its column. -/
def pb (n : Fin 32768) : Fin 32 := ⟨n.val / 1024, by have := n.isLt; omega⟩
def ph (n : Fin 32768) : Fin 32 := ⟨n.val / 32 % 32, Nat.mod_lt _ (by omega)⟩
def pw (n : Fin 32768) : Fin 32 := ⟨n.val % 32, Nat.mod_lt _ (by omega)⟩

theorem pb_pix (b h w : Fin 32) : pb (pix b h w) = b := by
  apply Fin.ext; have := b.isLt; have := h.isLt; have := w.isLt
  show ((b.val * 32 + h.val) * 32 + w.val) / 1024 = b.val; omega
theorem ph_pix (b h w : Fin 32) : ph (pix b h w) = h := by
  apply Fin.ext; have := b.isLt; have := h.isLt; have := w.isLt
  show ((b.val * 32 + h.val) * 32 + w.val) / 32 % 32 = h.val; omega
theorem pw_pix (b h w : Fin 32) : pw (pix b h w) = w := by
  apply Fin.ext; have := b.isLt; have := h.isLt; have := w.isLt
  show ((b.val * 32 + h.val) * 32 + w.val) % 32 = w.val; omega

theorem cast_pixels {C : Nat} (x : (⟨4, ![32, 32, 32, C]⟩ : Shape).Idx → α)
    (h : (⟨4, ![32, 32, 32, C]⟩ : Shape).ShapeCasts ⟨2, ![32768, C]⟩) (n : Fin 32768) (c : Fin C) :
    shapeCast ⟨2, ![32768, C]⟩ x h (ix2 n c) = x (ix4 (pb n) (ph n) (pw n) c) :=
  shapeCast_apply x h _ _ (by
    rw [Shape.rowMajor_val_four, Shape.rowMajor_val_two]
    show (((n.val / 1024) * 32 + n.val / 32 % 32) * 32 + n.val % 32) * C + c.val = n.val * C + c.val
    congr 2; omega)

theorem cast_image {C : Nat} (x : (⟨2, ![32768, C]⟩ : Shape).Idx → α)
    (h' : (⟨2, ![32768, C]⟩ : Shape).ShapeCasts ⟨4, ![32, 32, 32, C]⟩) (b h w : Fin 32) (c : Fin C) :
    shapeCast ⟨4, ![32, 32, 32, C]⟩ x h' (ix4 b h w c) = x (ix2 (pix b h w) c) :=
  shapeCast_apply x h' _ _ (by
    rw [Shape.rowMajor_val_four, Shape.rowMajor_val_two]
    rfl)
end

/-! ## Sums over a short axis and batched products -/

theorem rowSum_at {N K : Nat} (x : FVec Ideal ⟨2, ![N, K]⟩ .f32) {v : FVec Ideal S_ .f32} (hv : v ix0 = Ideal.ofBits .f32 0x00000000#32)
    (h : (⟨2, ![N, K]⟩ : Shape).ReducesTo [1] ⟨1, ![N]⟩) (h0 : 0 < S_.numel) (n : Fin N) :
    Host.reduceAdd x v h h0 (ix1 n) = ∑ k : Fin K, x (ix2 n k) := by
  rw [hostReduceAdd_apply, Ideal.hostReduceAdd_r2_a1, eq_ix0 (Shape.Idx.first h0), hv, Ideal.ofBits_zero_f32, zero_add]
  rfl

theorem colSum_at {N K : Nat} (x : FVec Ideal ⟨2, ![K, N]⟩ .f32) {v : FVec Ideal S_ .f32} (hv : v ix0 = Ideal.ofBits .f32 0x00000000#32)
    (h : (⟨2, ![K, N]⟩ : Shape).ReducesTo [0] ⟨1, ![N]⟩) (h0 : 0 < S_.numel) (n : Fin N) :
    Host.reduceAdd x v h h0 (ix1 n) = ∑ k : Fin K, x (ix2 k n) := by
  rw [hostReduceAdd_apply, Ideal.hostReduceAdd_r2_a0, eq_ix0 (Shape.Idx.first h0), hv, Ideal.ofBits_zero_f32, zero_add]
  rfl

theorem midSum_at {N K C : Nat} (x : FVec Ideal ⟨3, ![N, K, C]⟩ .f32) {v : FVec Ideal S_ .f32} (hv : v ix0 = Ideal.ofBits .f32 0x00000000#32)
    (h : (⟨3, ![N, K, C]⟩ : Shape).ReducesTo [1] ⟨2, ![N, C]⟩) (h0 : 0 < S_.numel) (n : Fin N) (c : Fin C) :
    Host.reduceAdd x v h h0 (ix2 n c) = ∑ k : Fin K, x (ix3 n k c) := by
  rw [hostReduceAdd_apply, Ideal.hostReduceAdd_r3_a1, eq_ix0 (Shape.Idx.first h0), hv, Ideal.ofBits_zero_f32, zero_add]
  rfl

/-- Row `n` of a batched product of a row and a matrix. -/
theorem rowDot_at {N K B : Nat} (w : DotDims.WF ⟨2, ![N, K]⟩ ⟨3, ![N, K, B]⟩ ⟨2, ![N, B]⟩ [1] [1] [] [2] [0] [0])
    (l : FVec Ideal ⟨2, ![N, K]⟩ .f32) (r : FVec Ideal ⟨3, ![N, K, B]⟩ .f32) (n : Fin N) (b : Fin B) :
    Host.dotGeneral (⟨[1], [1], [], [2], [0], [0], w⟩ : DotDims _ _ _) none l r (ix2 n b)
      = ∑ k : Fin K, l (ix2 n k) * r (ix3 n k b) := by
  show FloatOps.dotGeneral _ none _ l r (ix2 n b) = _
  rw [Ideal.dotGeneral_apply,
    ← Equiv.sum_comp (contrEquiv1 (⟨[1], [1], [], [2], [0], [0], w⟩ : DotDims _ _ _) K rfl rfl).symm]
  refine Finset.sum_congr rfl fun k _ => ?_
  have ck := contrEquiv1_symm_val
    (⟨[1], [1], [], [2], [0], [0], w⟩ : DotDims ⟨2, ![N, K]⟩ ⟨3, ![N, K, B]⟩ ⟨2, ![N, B]⟩) K rfl rfl k
  have el : (⟨[1], [1], [], [2], [0], [0], w⟩ : DotDims ⟨2, ![N, K]⟩ ⟨3, ![N, K, B]⟩ ⟨2, ![N, B]⟩).lhsIdx (ix2 n b)
      ((contrEquiv1 _ K rfl rfl).symm k) = ix2 n k := by
    funext ax; apply Fin.ext
    match ax with
    | ⟨0, _⟩ => simp [DotDims.lhsIdx]; rfl
    | ⟨1, _⟩ => simp [DotDims.lhsIdx]; exact ck
  have er : (⟨[1], [1], [], [2], [0], [0], w⟩ : DotDims ⟨2, ![N, K]⟩ ⟨3, ![N, K, B]⟩ ⟨2, ![N, B]⟩).rhsIdx (ix2 n b)
      ((contrEquiv1 _ K rfl rfl).symm k) = ix3 n k b := by
    funext ax; apply Fin.ext
    match ax with
    | ⟨0, _⟩ => simp [DotDims.rhsIdx]; rfl
    | ⟨1, _⟩ => simp [DotDims.rhsIdx]; exact ck
    | ⟨2, _⟩ => simp [DotDims.rhsIdx]; rfl
  rw [el, er]

/-! ## Gathers -/

section
variable {α : Type}

/-- One entry of a matrix per pair of positions. -/
theorem pairs_at {A B N K : Nat} [NeZero A] [NeZero B]
    (wf : GatherDims.WF ⟨2, ![A, B]⟩ ⟨3, ![N, K, 2]⟩ ⟨2, ![N, K]⟩ [] [0, 1] [] [0, 1] [] 2 ![1, 1])
    (x : (⟨2, ![A, B]⟩ : Shape).Idx → α) (idx : IVec ⟨3, ![N, K, 2]⟩ 32) (n : Fin N) (k : Fin K) :
    Host.gather (⟨[], [0, 1], [], [], [0, 1], 2, ![1, 1], wf⟩ : GatherDims _ _ _) x idx (ix2 n k)
      = x (ix2 (pick A (idx (ix3 n k (0 : Fin 2)))) (pick B (idx (ix3 n k (1 : Fin 2))))) := by
  set D : GatherDims ⟨2, ![A, B]⟩ ⟨3, ![N, K, 2]⟩ ⟨2, ![N, K]⟩ := ⟨[], [0, 1], [], [], [0, 1], 2, ![1, 1], wf⟩ with hD
  unfold Host.gather
  congr 1
  funext a
  refine Fin.ext ?_
  show D.start (ix2 n k) idx a + D.batchCoord (ix2 n k) a + D.offCoord (ix2 n k) a = _
  have hm : a ∈ D.startIndexMap := by
    match a with
    | ⟨0, _⟩ => simp [hD]
    | ⟨1, _⟩ => simp [hD]
  have hc : a ∈ D.collapsedSliceDims := hm
  rw [GatherDims.batchCoord_eq_zero _ _ _ (fun h => by simp [hD] at h),
    GatherDims.offCoord_eq_zero _ _ _ (fun h => ((GatherDims.mem_sKept _ _).mp h).1 hc)]
  simp only [Nat.add_zero]
  unfold GatherDims.start
  rw [dif_pos hm]
  match a with
  | ⟨0, _⟩ =>
    have hsi : D.siIdx (ix2 n k) ⟨List.idxOf (0 : Fin 2) D.startIndexMap, List.idxOf_lt_length_iff.2 hm⟩ = ix3 n k (0 : Fin 2) := by
      funext q; refine Fin.ext ?_
      match q with
      | ⟨0, _⟩ => rfl
      | ⟨1, _⟩ => rfl
      | ⟨2, _⟩ => rfl
    exact congrArg (fun z => min (idx z).toInt.toNat (A - 1)) hsi
  | ⟨1, _⟩ =>
    have hsi : D.siIdx (ix2 n k) ⟨List.idxOf (1 : Fin 2) D.startIndexMap, List.idxOf_lt_length_iff.2 hm⟩ = ix3 n k (1 : Fin 2) := by
      funext q; refine Fin.ext ?_
      match q with
      | ⟨0, _⟩ => rfl
      | ⟨1, _⟩ => rfl
      | ⟨2, _⟩ => rfl
    exact congrArg (fun z => min (idx z).toInt.toNat (B - 1)) hsi

/-- One row of a matrix per position. -/
theorem rows_at {A B N K : Nat} [NeZero A]
    (wf : GatherDims.WF ⟨2, ![A, B]⟩ ⟨3, ![N, K, 1]⟩ ⟨3, ![N, K, B]⟩ [2] [0] [] [0] [] 2 ![1, B])
    (x : (⟨2, ![A, B]⟩ : Shape).Idx → α) (idx : IVec ⟨3, ![N, K, 1]⟩ 32) (n : Fin N) (k : Fin K) (b : Fin B) :
    Host.gather (⟨[2], [0], [], [], [0], 2, ![1, B], wf⟩ : GatherDims _ _ _) x idx (ix3 n k b)
      = x (ix2 (pick A (idx (ix3 n k (0 : Fin 1)))) b) := by
  set D : GatherDims ⟨2, ![A, B]⟩ ⟨3, ![N, K, 1]⟩ ⟨3, ![N, K, B]⟩ := ⟨[2], [0], [], [], [0], 2, ![1, B], wf⟩ with hD
  unfold Host.gather
  congr 1
  funext a
  refine Fin.ext ?_
  show D.start (ix3 n k b) idx a + D.batchCoord (ix3 n k b) a + D.offCoord (ix3 n k b) a = _
  rw [GatherDims.batchCoord_eq_zero _ _ _ (fun h => by simp [hD] at h)]
  fin_cases a
  · have hm : (0 : Fin 2) ∈ D.startIndexMap := by simp [hD]
    rw [GatherDims.offCoord_eq_zero _ _ _ (fun h => ((GatherDims.mem_sKept _ _).mp h).1 (by simp [hD]))]
    simp only [Nat.add_zero]
    unfold GatherDims.start
    rw [dif_pos (by exact hm)]
    have hsi : D.siIdx (ix3 n k b) ⟨List.idxOf (0 : Fin 2) D.startIndexMap, List.idxOf_lt_length_iff.2 hm⟩ = ix3 n k (0 : Fin 1) := by
      funext q; refine Fin.ext ?_
      match q with
      | ⟨0, _⟩ => rfl
      | ⟨1, _⟩ => rfl
      | ⟨2, _⟩ => rfl
    exact congrArg (fun z => min (idx z).toInt.toNat (A - 1)) hsi
  · have hm : (1 : Fin 2) ∉ D.startIndexMap := by simp [hD]
    unfold GatherDims.start
    rw [dif_neg (by exact hm)]
    simp only [Nat.zero_add, Nat.add_zero]
    rfl

/-- One entry of a table per position. -/
theorem table_at {A N K : Nat} [NeZero A]
    (wf : GatherDims.WF ⟨1, ![A]⟩ ⟨3, ![N, K, 1]⟩ ⟨2, ![N, K]⟩ [] [0] [] [0] [] 2 ![1])
    (x : (⟨1, ![A]⟩ : Shape).Idx → α) (idx : IVec ⟨3, ![N, K, 1]⟩ 32) (n : Fin N) (k : Fin K) :
    Host.gather (⟨[], [0], [], [], [0], 2, ![1], wf⟩ : GatherDims _ _ _) x idx (ix2 n k)
      = x (ix1 (pick A (idx (ix3 n k (0 : Fin 1))))) := by
  refine (gather_take_apply (NeZero.pos A) wf x idx (ix2 n k)).trans ?_
  have : takeIdx (ix2 n k) = ix3 n k (0 : Fin 1) := by
    funext q; match q with
    | ⟨0, _⟩ => rfl
    | ⟨1, _⟩ => rfl
    | ⟨2, _⟩ => rfl
  exact congrArg (fun z => x (ix1 (pick A (idx z)))) this
end

end Ref

end Cert.Proof

end
-- ==== Proof.Model.lean ====
/- One pixel of the pursuit as plain formulas over the extended reals: four greedy selections, the growing triangular factor,
   the two triangular solves, and the quantised coefficients. `G` is the Gram matrix of the atoms, `h` the pixel's correlations
   with the atoms. -/
module

public import proofs.«01_k».proof.Proof.RefLib

@[expose] public section

noncomputable section

namespace Cert.Proof.M

open Idealize.ShloMosaic Cert.Proof

/-- The score of an atom: the size of its correlation, nothing for an atom already taken. -/
def score (f : Fin 256 → EReal) (m : Fin 256 → Bool) (a : Fin 256) : EReal := if m a then 0 else max (f a) (-f a)

/-- The bin of a coefficient: clipped to [-2, 2], scaled to [0, 32] and rounded. -/
def bin (x : EReal) : BitVec 32 :=
  IntOp.minsi 32#32 (IntOp.maxsi 0#32 (FloatOps.fptosi (F := Ideal) (φ := .f32) 32 (FloatOps.roundeven (F := Ideal) (φ := .f32)
    (Ideal.div (min (Ideal.ofBits .f32 0x40000000#32) (max (Ideal.ofBits .f32 0xC0000000#32) x) + Ideal.ofBits .f32 0x40000000#32)
      (Ideal.ofBits .f32 0x40800000#32) * Ideal.ofBits .f32 0x42000000#32))))

/-- A row of 256 numbers, one per atom. -/
abbrev Row := Fin 256 → EReal

/-- No atom is taken at the start. -/
def m0 (G : Fin 256 → Row) (h : Row) (_ : Fin 256) : Bool := false
/-- The atom taken at step 0. -/
def i0 (G : Fin 256 → Row) (h : Row) : Fin 256 := first (score h (m0 G h))
/-- The atoms taken up to step 0. -/
def m1 (G : Fin 256 → Row) (h : Row) (a : Fin 256) : Bool := (m0 G h a) || decide (a = (i0 G h))
/-- Entry 0 of the solution of the lower system. -/
def y0 (G : Fin 256 → Row) (h : Row) : EReal := h (i0 G h)
/-- The residual correlations after step 0. -/
def h1 (G : Fin 256 → Row) (h : Row) (a : Fin 256) : EReal := (h a) - ((y0 G h) * (G (i0 G h) a))
/-- The atom taken at step 1. -/
def i1 (G : Fin 256 → Row) (h : Row) : Fin 256 := first (score (h1 G h) (m1 G h))
/-- The atoms taken up to step 1. -/
def m2 (G : Fin 256 → Row) (h : Row) (a : Fin 256) : Bool := (m1 G h a) || decide (a = (i1 G h))
/-- Entry (1, 0) of the triangular factor. -/
def w10 (G : Fin 256 → Row) (h : Row) : EReal := G (i0 G h) (i1 G h)
/-- Diagonal entry 1 of the triangular factor. -/
def l1 (G : Fin 256 → Row) (h : Row) : EReal := Ideal.sqrt (max (1 - ((w10 G h) * (w10 G h))) (Ideal.ofBits .f32 0x2B8CBCCC#32))
/-- Entry 1 of the solution of the lower system. -/
def y1 (G : Fin 256 → Row) (h : Row) : EReal := Ideal.div ((h (i1 G h)) - ((w10 G h) * (y0 G h))) (l1 G h)
/-- Coefficient 1 after step 1. -/
def x11 (G : Fin 256 → Row) (h : Row) : EReal := Ideal.div (y1 G h) (l1 G h)
/-- Coefficient 0 after step 1. -/
def x10 (G : Fin 256 → Row) (h : Row) : EReal := (y0 G h) - ((w10 G h) * (x11 G h))
/-- The residual correlations after step 1. -/
def h2 (G : Fin 256 → Row) (h : Row) (a : Fin 256) : EReal := (h a) - (((x10 G h) * (G (i0 G h) a)) + ((x11 G h) * (G (i1 G h) a)))
/-- The atom taken at step 2. -/
def i2 (G : Fin 256 → Row) (h : Row) : Fin 256 := first (score (h2 G h) (m2 G h))
/-- The atoms taken up to step 2. -/
def m3 (G : Fin 256 → Row) (h : Row) (a : Fin 256) : Bool := (m2 G h a) || decide (a = (i2 G h))
/-- Entry (2, 0) of the triangular factor. -/
def w20 (G : Fin 256 → Row) (h : Row) : EReal := G (i0 G h) (i2 G h)
/-- Entry (2, 1) of the triangular factor. -/
def w21 (G : Fin 256 → Row) (h : Row) : EReal := Ideal.div ((G (i1 G h) (i2 G h)) - ((w10 G h) * (w20 G h))) (l1 G h)
/-- Diagonal entry 2 of the triangular factor. -/
def l2 (G : Fin 256 → Row) (h : Row) : EReal := Ideal.sqrt (max (1 - (((w20 G h) * (w20 G h)) + ((w21 G h) * (w21 G h)))) (Ideal.ofBits .f32 0x2B8CBCCC#32))
/-- Entry 2 of the solution of the lower system. -/
def y2 (G : Fin 256 → Row) (h : Row) : EReal := Ideal.div (((h (i2 G h)) - ((w20 G h) * (y0 G h))) - ((w21 G h) * (y1 G h))) (l2 G h)
/-- Coefficient 2 after step 2. -/
def x22 (G : Fin 256 → Row) (h : Row) : EReal := Ideal.div (y2 G h) (l2 G h)
/-- Coefficient 1 after step 2. -/
def x21 (G : Fin 256 → Row) (h : Row) : EReal := Ideal.div ((y1 G h) - ((w21 G h) * (x22 G h))) (l1 G h)
/-- Coefficient 0 after step 2. -/
def x20 (G : Fin 256 → Row) (h : Row) : EReal := ((y0 G h) - ((w10 G h) * (x21 G h))) - ((w20 G h) * (x22 G h))
/-- The residual correlations after step 2. -/
def h3 (G : Fin 256 → Row) (h : Row) (a : Fin 256) : EReal := (h a) - ((((x20 G h) * (G (i0 G h) a)) + ((x21 G h) * (G (i1 G h) a))) + ((x22 G h) * (G (i2 G h) a)))
/-- The atom taken at step 3. -/
def i3 (G : Fin 256 → Row) (h : Row) : Fin 256 := first (score (h3 G h) (m3 G h))
/-- The atoms taken up to step 3. -/
def m4 (G : Fin 256 → Row) (h : Row) (a : Fin 256) : Bool := (m3 G h a) || decide (a = (i3 G h))
/-- Entry (3, 0) of the triangular factor. -/
def w30 (G : Fin 256 → Row) (h : Row) : EReal := G (i0 G h) (i3 G h)
/-- Entry (3, 1) of the triangular factor. -/
def w31 (G : Fin 256 → Row) (h : Row) : EReal := Ideal.div ((G (i1 G h) (i3 G h)) - ((w10 G h) * (w30 G h))) (l1 G h)
/-- Entry (3, 2) of the triangular factor. -/
def w32 (G : Fin 256 → Row) (h : Row) : EReal := Ideal.div (((G (i2 G h) (i3 G h)) - ((w20 G h) * (w30 G h))) - ((w21 G h) * (w31 G h))) (l2 G h)
/-- Diagonal entry 3 of the triangular factor. -/
def l3 (G : Fin 256 → Row) (h : Row) : EReal := Ideal.sqrt (max (1 - ((((w30 G h) * (w30 G h)) + ((w31 G h) * (w31 G h))) + ((w32 G h) * (w32 G h)))) (Ideal.ofBits .f32 0x2B8CBCCC#32))
/-- Entry 3 of the solution of the lower system. -/
def y3 (G : Fin 256 → Row) (h : Row) : EReal := Ideal.div ((((h (i3 G h)) - ((w30 G h) * (y0 G h))) - ((w31 G h) * (y1 G h))) - ((w32 G h) * (y2 G h))) (l3 G h)
/-- Coefficient 3 after step 3. -/
def x33 (G : Fin 256 → Row) (h : Row) : EReal := Ideal.div (y3 G h) (l3 G h)
/-- Coefficient 2 after step 3. -/
def x32 (G : Fin 256 → Row) (h : Row) : EReal := Ideal.div ((y2 G h) - ((w32 G h) * (x33 G h))) (l2 G h)
/-- Coefficient 1 after step 3. -/
def x31 (G : Fin 256 → Row) (h : Row) : EReal := Ideal.div (((y1 G h) - ((w21 G h) * (x32 G h))) - ((w31 G h) * (x33 G h))) (l1 G h)
/-- Coefficient 0 after step 3. -/
def x30 (G : Fin 256 → Row) (h : Row) : EReal := (((y0 G h) - ((w10 G h) * (x31 G h))) - ((w20 G h) * (x32 G h))) - ((w30 G h) * (x33 G h))

end Cert.Proof.M

end
-- ==== Proof.Goal.lean ====
/- What the whole computation is, as plain formulas over the extended reals: unit atoms, their Gram matrix, a pixel's
   correlations, its tokens, its reconstruction and its squared error. -/
module

public import proofs.«01_k».proof.Proof.Model

@[expose] public section

noncomputable section

namespace Cert.Proof.M

open Idealize.ShloMosaic Cert.Proof

/-- A coefficient clipped to [-2, 2] and scaled to [0, 1]. -/
def scaled (x : EReal) : EReal :=
  Ideal.div (min (Ideal.ofBits .f32 0x40000000#32) (max (Ideal.ofBits .f32 0xC0000000#32) x) + Ideal.ofBits .f32 0x40000000#32)
    (Ideal.ofBits .f32 0x40800000#32)

/-- The token of an atom and its coefficient. -/
def token (i : Fin 256) (x : EReal) : BitVec 32 := IntOp.addi (IntOp.muli (word i) 33#32) (bin x)

/-- The value in the middle of a bin. -/
def middle (b : BitVec 32) : EReal :=
  FloatOps.sitofp (F := Ideal) .f32 b * Ideal.ofBits .f32 0x3E000000#32 - Ideal.ofBits .f32 0x40000000#32

/-- The quantised coefficient. -/
def centre (x : EReal) : EReal := middle (bin x)

/-- One where the column's position is `i`, else zero. -/
def hot (i a : Fin 256) : EReal := if a = i then 1 else 0

theorem sum_mul_hot (f : Fin 256 → EReal) (i : Fin 256) : ∑ a, f a * hot i a = f i := by
  rw [Finset.sum_eq_single i]
  · simp [hot]
  · intro a _ ha; simp [hot, ha]
  · intro h; exact absurd (Finset.mem_univ _) h

/-- The length of an atom, kept away from zero. -/
def len (D : Fin 64 → Row) (a : Fin 256) : EReal := max (Ideal.sqrt (∑ c, D c a * D c a)) (Ideal.ofBits .f32 0x2EDBE6FF#32)

/-- An entry of the unit atoms. -/
def unit (D : Fin 64 → Row) (c : Fin 64) (a : Fin 256) : EReal := Ideal.div (D c a) (len D a)

/-- The Gram matrix. -/
def gramOf (U : Fin 64 → Row) (a b : Fin 256) : EReal := ∑ c, U c a * U c b

/-- The correlations of a signal with the atoms. -/
def corrOf (U : Fin 64 → Row) (z : Fin 64 → EReal) (a : Fin 256) : EReal := ∑ c, U c a * z c

/-- The tokens of a signal. -/
def tok (G : Fin 256 → Row) (h : Row) (k : Fin 4) : BitVec 32 :=
  ![token (i0 G h) (x30 G h), token (i1 G h) (x31 G h), token (i2 G h) (x32 G h), token (i3 G h) (x33 G h)] k

/-- A channel of the reconstruction. -/
def recon (U : Fin 64 → Row) (G : Fin 256 → Row) (h : Row) (c : Fin 64) : EReal :=
  U c (i0 G h) * centre (x30 G h) + U c (i1 G h) * centre (x31 G h) + U c (i2 G h) * centre (x32 G h) + U c (i3 G h) * centre (x33 G h)

/-- The reconstruction of a signal from its dictionary. -/
def rebuilt (D : Fin 64 → Row) (z : Fin 64 → EReal) (c : Fin 64) : EReal :=
  recon (unit D) (gramOf (unit D)) (corrOf (unit D) z) c

/-- The tokens of a signal from its dictionary. -/
def tokens (D : Fin 64 → Row) (z : Fin 64 → EReal) (k : Fin 4) : BitVec 32 :=
  tok (gramOf (unit D)) (corrOf (unit D) z) k

/-- The squared error of a channel. -/
def miss (D : Fin 64 → Row) (z : Fin 64 → EReal) (c : Fin 64) : EReal := (rebuilt D z c - z c) * (rebuilt D z c - z c)

theorem gramOf_symm (U : Fin 64 → Row) (a b : Fin 256) : gramOf U a b = gramOf U b a :=
  Finset.sum_congr rfl fun _ _ => mul_comm _ _

theorem bits_two : Ideal.ofBits .f32 0x40000000#32 = ((2 : ℝ) : EReal) := by
  simp [Ideal.ofBits, Ideal.ieee]
  norm_num
  rw [← EReal.coe_mul]; congr 1; norm_num

theorem bits_minus_two : Ideal.ofBits .f32 0xC0000000#32 = ((-2 : ℝ) : EReal) := by
  simp [Ideal.ofBits, Ideal.ieee]
  norm_num
  rw [← EReal.coe_mul]; congr 1; norm_num

theorem bits_thirty_two : Ideal.ofBits .f32 0x42000000#32 = ((32 : ℝ) : EReal) := by
  simp [Ideal.ofBits, Ideal.ieee]
  norm_num
  rw [← EReal.coe_mul]; congr 1; norm_num

theorem bits_eighth : Ideal.ofBits .f32 0x3E000000#32 = ((1 / 8 : ℝ) : EReal) := by
  simp [Ideal.ofBits, Ideal.ieee]
  norm_num
  rw [← EReal.coe_mul]; congr 1; norm_num

theorem bits_small_pos : ∃ r : ℝ, 0 < r ∧ Ideal.ofBits .f32 0x2EDBE6FF#32 = (r : EReal) := by
  refine ⟨14411519 * (1 / 144115188075855872), by positivity, ?_⟩
  simp [Ideal.ofBits, Ideal.ieee]
  norm_num

theorem middle_real (b : BitVec 32) : middle b = (((b.toInt : ℝ) * (1 / 8) - 2 : ℝ) : EReal) := by
  unfold middle
  rw [bits_two, bits_eighth]
  show ((b.toInt : ℝ) : EReal) * _ - _ = _
  norm_cast

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- Every entry of the unit atoms is a real number: an atom with an infinite entry has infinite length and becomes zero. -/
theorem unit_real (D : Fin 64 → Row) (c : Fin 64) (a : Fin 256) : ∃ r : ℝ, unit D c a = (r : EReal) := by
  obtain ⟨e, he, hb⟩ := bits_small_pos
  have hlen : ((e : ℝ) : EReal) ≤ len D a := by rw [len, hb]; exact le_max_right _ _
  have hpos : 0 < len D a := lt_of_lt_of_le (by exact_mod_cast he) hlen
  have hdiv : unit D c a = D c a * (len D a)⁻¹ := by
    unfold unit Ideal.div; rw [if_neg hpos.ne']
  rw [hdiv]
  by_cases ht : len D a = ⊤
  · exact ⟨0, by rw [ht, EReal.inv_top, mul_zero]; rfl⟩
  · have hl : ∃ l : ℝ, len D a = (l : EReal) := ⟨(len D a).toReal, (EReal.coe_toReal ht (fun h => by rw [h] at hpos; simp at hpos)).symm⟩
    obtain ⟨l, hl⟩ := hl
    have hD : ∃ d : ℝ, D c a = (d : EReal) := by
      by_contra hn
      have hsq : D c a * D c a = ⊤ := by
        induction hx : D c a with
        | bot => simp
        | top => simp
        | coe r => exact absurd ⟨r, hx⟩ hn
      have hle : D c a * D c a ≤ ∑ c, D c a * D c a :=
        Finset.single_le_sum (f := fun c => D c a * D c a) (fun i _ => sq_nonneg _) (Finset.mem_univ c)
      rw [hsq, top_le_iff] at hle
      apply ht
      rw [len, hle]
      simp
    obtain ⟨d, hd⟩ := hD
    exact ⟨d * l⁻¹, by rw [hd, hl, ← EReal.coe_inv, ← EReal.coe_mul]⟩

theorem hot_real (i a : Fin 256) : hot i a = (((if a = i then 1 else 0 : ℝ)) : EReal) := by
  unfold hot; split <;> simp

/-- A combination of one-hot columns against a row of real numbers. -/
theorem sum_combination (u : Row) (hu : ∀ a, ∃ r : ℝ, u a = (r : EReal)) (b0 b1 b2 b3 : BitVec 32) (j0 j1 j2 j3 : Fin 256) :
    ∑ a, u a * (middle b0 * hot j0 a + middle b1 * hot j1 a + middle b2 * hot j2 a + middle b3 * hot j3 a)
      = u j0 * middle b0 + u j1 * middle b1 + u j2 * middle b2 + u j3 * middle b3 := by
  have e : ∀ a, u a * (middle b0 * hot j0 a + middle b1 * hot j1 a + middle b2 * hot j2 a + middle b3 * hot j3 a)
      = u a * middle b0 * hot j0 a + u a * middle b1 * hot j1 a + u a * middle b2 * hot j2 a + u a * middle b3 * hot j3 a := by
    intro a
    obtain ⟨r, hr⟩ := hu a
    rw [hr, hot_real, hot_real, hot_real, hot_real, middle_real, middle_real, middle_real, middle_real]
    simp only [← EReal.coe_mul, ← EReal.coe_add]
    congr 1
    ring
  rw [Finset.sum_congr rfl fun a _ => e a, Finset.sum_add_distrib, Finset.sum_add_distrib, Finset.sum_add_distrib]
  rw [sum_mul_hot fun a => u a * middle b0, sum_mul_hot fun a => u a * middle b1, sum_mul_hot fun a => u a * middle b2,
    sum_mul_hot fun a => u a * middle b3]

/-! ## The three results -/

section
variable (Z : Fin 32 → Fin 64 → Fin 32 → Fin 32 → EReal) (D : Fin 64 → Row)

/-- The pixel at a place of a picture. -/
def pixel (b h w : Fin 32) : Fin 64 → EReal := fun c => Z b c h w

/-- The rebuilt picture, written as the picture and its difference. -/
def picture (b : Fin 32) (c : Fin 64) (h w : Fin 32) : EReal := Z b c h w + (rebuilt D (pixel Z b h w) c - Z b c h w)

/-- The squared error over everything. -/
def missSum : EReal := ∑ b : Fin 32, ∑ c : Fin 64, ∑ h : Fin 32, ∑ w : Fin 32, miss D (pixel Z b h w) c

/-- The loss: the mean and a quarter of it. -/
def loss : EReal :=
  Ideal.div (missSum Z D) (Ideal.ofBits .f32 0x4A000000#32)
    + Ideal.ofBits .f32 0x3E800000#32 * Ideal.div (missSum Z D) (Ideal.ofBits .f32 0x4A000000#32)

end

end Cert.Proof.M
-- ==== Proof.KerLib.lean ====
/- How the kernel's array operations read at one pixel of a block, over the extended reals: a sum or the first maximum down a
   column, a row spread over the columns, one-hot columns, and products with a one-hot column. -/
module

public import proofs.«01_k».proof.Proof.Goal
public import proofs.«01_k».proof.Proof.Gen.KernelIdeal.Skeleton
public import Idealize.ShloMosaic.Lib.MatmulPlain

@[expose] public section

noncomputable section

namespace Cert.Proof.Ker

open Idealize.ShloMosaic hiding ix0 ix1 ix2 ix3 ix4 eq_ix2
open Idealize.ShloMosaic.ValueIdx
open Cert.KernelIdeal Cert.KernelIdeal.Gen
open Cert.Proof.M (hot sum_mul_hot)

/-- One where an atom is taken, else zero. -/
def mark (m : Fin 256 → Bool) (a : Fin 256) : EReal := if m a then 1 else 0

theorem sum_hot_mul (f : Fin 256 → EReal) (i : Fin 256) : ∑ a, hot i a * f a = f i := by
  rw [← sum_mul_hot f i]; exact Finset.sum_congr rfl fun a _ => mul_comm _ _

theorem one_sub_one : (1 : EReal) - 1 = 0 := by
  have h : ((1 : ℝ) : EReal) - ((1 : ℝ) : EReal) = ((0 : ℝ) : EReal) := by rw [← EReal.coe_sub, sub_self]
  simpa using h

theorem score_mark (f : Fin 256 → EReal) (m : Fin 256 → Bool) (a : Fin 256) :
    max (f a) (-f a) * (1 - mark m a) = M.score f m a := by
  unfold mark M.score
  cases m a
  · simp
  · simp [one_sub_one]

theorem max_mark (m : Fin 256 → Bool) (i a : Fin 256) : max (mark m a) (hot i a) = mark (fun a => m a || decide (a = i)) a := by
  unfold mark M.hot
  by_cases h : a = i <;> cases hm : m a <;> simp [h, hm]

section
variable {s : Shape}

theorem mulf_at (x y : FVec Ideal s .f32) (j : s.Idx) : mulf x y j = x j * y j := rfl
theorem addf_at (x y : FVec Ideal s .f32) (j : s.Idx) : addf x y j = x j + y j := rfl
theorem subf_at (x y : FVec Ideal s .f32) (j : s.Idx) : subf x y j = x j - y j := rfl
theorem divf_at (x y : FVec Ideal s .f32) (j : s.Idx) : divf x y j = Ideal.div (x j) (y j) := rfl
theorem maxf_at (x y : FVec Ideal s .f32) (j : s.Idx) : maximumf x y j = max (x j) (y j) := rfl
theorem minf_at (x y : FVec Ideal s .f32) (j : s.Idx) : minimumf x y j = min (x j) (y j) := rfl
theorem absf_at (x : FVec Ideal s .f32) (j : s.Idx) : absf x j = max (x j) (-x j) := rfl
theorem sqrt_at (x : FVec Ideal s .f32) (j : s.Idx) : sqrt x j = Ideal.sqrt (x j) := rfl
theorem round_at (x : FVec Ideal s .f32) (j : s.Idx) : roundeven x j = FloatOps.roundeven (F := Ideal) (φ := .f32) (x j) := rfl
theorem toInt_at (x : FVec Ideal s .f32) (j : s.Idx) : fptosi 32 x j = FloatOps.fptosi (F := Ideal) (φ := .f32) 32 (x j) := rfl
theorem toFloat_at (x : IVec s 32) (j : s.Idx) : sitofp (F := Ideal) .f32 x j = FloatOps.sitofp (F := Ideal) .f32 (x j) := rfl
theorem narrow_at (x : FVec Ideal s .f32) (h : FTy.bits .bf16 < FTy.bits .f32) (j : s.Idx) : truncf .bf16 x h j = x j := rfl
theorem widen_at (x : FVec Ideal s .bf16) (h : FTy.bits .bf16 < FTy.bits .f32) (j : s.Idx) : extf .f32 x h j = x j := rfl
theorem maxsi_at (x y : IVec s 32) (j : s.Idx) : maxsi x y j = IntOp.maxsi (x j) (y j) := rfl
theorem minsi_at (x y : IVec s 32) (j : s.Idx) : minsi x y j = IntOp.minsi (x j) (y j) := rfl
theorem muli_at (x y : IVec s 32) (j : s.Idx) : muli x y j = IntOp.muli (x j) (y j) := rfl
theorem addi_at (x y : IVec s 32) (j : s.Idx) : addi x y j = IntOp.addi (x j) (y j) := rfl
theorem fill_at {α : Type} (x : α) (j : s.Idx) : broadcast s x j = x := rfl
end

theorem bits_one : Scalar.ofBits (F := Ideal) .f32 0x3F800000#32 = (1 : EReal) := Ideal.ofBits_one_f32
theorem bits_zero : Scalar.ofBits (F := Ideal) .f32 0x00000000#32 = (0 : EReal) := Ideal.ofBits_zero_f32

theorem bits_bot : FloatOps.ofBits (F := Ideal) .f32 0xFF800000#32 = (⊥ : EReal) := by
  show Ideal.ofBits .f32 0xFF800000#32 = ⊥
  simp [Ideal.ofBits, Ideal.ieee]

/-- A row spread over all positions of the columns. -/
theorem spread_at {α : Type} (x : S1x1024.Idx → α) (h : S1x1024.Broadcasts S256x1024) (a : Fin 256) (p : Fin 1024) :
    broadcastTo S256x1024 x h (ix2 a p) = x (ix2 (0 : Fin 1) p) := by
  unfold broadcastTo
  refine congrArg x (funext fun b => Fin.ext ?_)
  match b with
  | ⟨0, _⟩ => rfl
  | ⟨1, _⟩ => rfl

theorem row_at {α : Type} (x : S1024.Idx → α) (h : S1024.ShapeCasts S1x1024) (p : Fin 1024) :
    shapeCast S1x1024 x h (ix2 (0 : Fin 1) p) = x (ix1 p) :=
  shapeCast_apply x h (ix2 (0 : Fin 1) p) (ix1 p) (by
    have e1 := Shape.rowMajor_val_two (ix2 (0 : Fin 1) p)
    have e2 := Shape.rowMajor_val_one (ix1 p)
    rw [e1, e2]
    show p.val = 0 * 1024 + p.val
    omega)

/-- A sum down the columns, as a row. -/
theorem colSum_at (x : FVec Ideal S256x1024 .f32) (p : Fin 1024) :
    shapeCast S1x1024 (multiReduction .add [0] S1024 x 0x00000000#32 reduces_S256x1024_S1024 (.inl rfl) rfl) shapeCasts_S1024_S1x1024
      (ix2 (0 : Fin 1) p) = ∑ a : Fin 256, x (ix2 a p) := by
  rw [row_at]
  exact reduces_S256x1024_S1024.sum_fiber_r2_a0 (ix1 p) x

theorem colMax_at (x : FVec Ideal S256x1024 .f32) (h : S256x1024.Reduces [0] S1024) (hφ : FKind.Formats .f32)
    (hacc : 0xFF800000#32 = FKind.maximumf.neutral .f32 hφ) (hc : S1024.ShapeCasts S1x1024) (p : Fin 1024) :
    shapeCast S1x1024 (multiReduction .maximumf [0] S1024 x 0xFF800000#32 h hφ hacc) hc (ix2 (0 : Fin 1) p)
      = x (ix2 (first fun a => x (ix2 a p)) p) := by
  have hf := first_spec fun a => x (ix2 a p)
  have hb : FloatOps.ofBits (F := Ideal) .f32 0xFF800000#32 = (⊥ : EReal) := bits_bot
  rw [row_at, multiReduction_maximumf_eq_fold, h.fold_fiber_r2_a0, hb]
  refine le_antisymm ?_ ?_
  · refine (Finset.fold_max_le _).mpr ⟨bot_le, fun a _ => hf.1 a⟩
  · exact (Finset.le_fold_max _).mpr (Or.inr ⟨_, Finset.mem_univ (first fun a => x (ix2 a p)), le_rfl⟩)

theorem minsi_toInt (a b : BitVec 32) : (IntOp.minsi a b).toInt = min a.toInt b.toInt := by
  unfold IntOp.minsi
  by_cases h : a.slt b
  · have : a.toInt < b.toInt := by simpa [BitVec.slt] using h
    simp [h, min_eq_left this.le]
  · have : b.toInt ≤ a.toInt := by simpa [BitVec.slt] using h
    simp [h, min_eq_right this]

/-- The least position among those marked in a column, as a row of words. -/
theorem colLeast_at (x : IVec S256x1024 32) (s : Fin 256 → EReal) (h : S256x1024.Reduces [0] S1024)
    (hacc : 2147483647#32 = IKind.minsi.neutral) (hc : S1024.ShapeCasts S1x1024) (p : Fin 1024)
    (hx : ∀ a, x (ix2 a p) = if s a = s (first s) then word a else 256#32) :
    shapeCast S1x1024 (multiReductionI .minsi [0] S1024 x 2147483647#32 h hacc) hc (ix2 (0 : Fin 1) p) = word (first s) := by
  have hf := first_spec s
  rw [row_at, multiReductionI_eq_fold, h.fold_fiber_r2_a0]
  apply BitVec.eq_of_toInt_eq
  have hom := Finset.fold_hom (op := IKind.minsi.op) (op' := (min : ℤ → ℤ → ℤ)) (m := BitVec.toInt)
    (b := 2147483647#32) (s := (Finset.univ : Finset (Fin 256))) (f := fun a => x (ix2 a p)) minsi_toInt
  refine hom.symm.trans ?_
  rw [word_toInt]
  have hl := (first s).isLt
  refine le_antisymm ?_ ?_
  · refine (Finset.fold_min_le _).mpr (Or.inr ⟨first s, Finset.mem_univ _, ?_⟩)
    rw [hx, if_pos rfl, word_toInt]
  · refine (Finset.le_fold_min _).mpr ⟨?_, fun a _ => ?_⟩
    · show ((first s).val : ℤ) ≤ (2147483647#32).toInt
      have : (2147483647#32 : BitVec 32).toInt = 2147483647 := by decide
      omega
    · rw [hx]
      by_cases e : s a = s (first s)
      · rw [if_pos e, word_toInt]
        have := hf.2 a e
        exact_mod_cast this
      · rw [if_neg e]
        have : (256#32 : BitVec 32).toInt = 256 := by decide
        omega

/-- The first maximum down the columns: the largest value, the positions that hold it, the least of them. -/
theorem colFirst_at {x : FVec Ideal S256x1024 .f32} {v : IVec S256x1024 32} {s : Fin 256 → EReal} (p : Fin 1024)
    (hx : ∀ a, x (ix2 a p) = s a) (hv : ∀ a, v (ix2 a p) = word a) (h h' : S256x1024.Reduces [0] S1024) (hφ : FKind.Formats .f32)
    (hacc : 0xFF800000#32 = FKind.maximumf.neutral .f32 hφ) (hacc' : 2147483647#32 = IKind.minsi.neutral)
    (hc hc' : S1024.ShapeCasts S1x1024) (hb : S1x1024.Broadcasts S256x1024) :
    shapeCast S1x1024 (multiReductionI .minsi [0] S1024
      (select (cmpf .oeq x (broadcastTo S256x1024 (shapeCast S1x1024 (multiReduction .maximumf [0] S1024 x 0xFF800000#32 h hφ hacc) hc) hb))
        v (broadcast S256x1024 256#32)) 2147483647#32 h' hacc') hc' (ix2 (0 : Fin 1) p) = word (first s) := by
  have e : (fun a => x (ix2 a p)) = s := funext hx
  refine colLeast_at _ s h' hacc' hc' p fun a => ?_
  have hm : broadcastTo S256x1024 (shapeCast S1x1024 (multiReduction .maximumf [0] S1024 x 0xFF800000#32 h hφ hacc) hc) hb (ix2 a p)
      = s (first s) := by
    rw [spread_at, colMax_at, e, hx]
  show Scalar.select (Ideal.cmp .oeq (x (ix2 a p)) (broadcastTo S256x1024 (shapeCast S1x1024
    (multiReduction .maximumf [0] S1024 x 0xFF800000#32 h hφ hacc) hc) hb (ix2 a p))) (v (ix2 a p)) 256#32 = _
  rw [hm, hx, hv]
  by_cases q : s a = s (first s)
  · simp [Ideal.cmp, Scalar.select, q]
  · simp [Ideal.cmp, Scalar.select, q]

/-- The one-hot columns of a row of positions. -/
theorem hot_at {v : IVec S256x1024 32} {w : IVec S1x1024 32} {i : Fin 256} (p : Fin 1024) (hv : ∀ a, v (ix2 a p) = word a)
    (hw : w (ix2 (0 : Fin 1) p) = word i) (hb : S1x1024.Broadcasts S256x1024) (hl : 1 < 32) (a : Fin 256) :
    sitofp (F := Ideal) .f32 (extui 32 (cmpi .eq v (broadcastTo S256x1024 w hb)) hl) (ix2 a p) = hot i a := by
  show FloatOps.sitofp (F := Ideal) .f32 ((IntOp.cmpi .eq (v (ix2 a p)) (broadcastTo S256x1024 w hb (ix2 a p))).zeroExtend 32) = _
  rw [spread_at, hv, hw]
  by_cases q : a = i
  · subst q
    rw [M.hot, if_pos rfl]
    have : (IntOp.cmpi .eq (word a) (word a)).zeroExtend 32 = 1#32 := by simp [IntOp.cmpi]
    rw [this]
    show (((1#32 : BitVec 32).toInt : ℝ) : EReal) = 1
    simp
  · have hne : word a ≠ word i := fun e => q (word_inj e)
    rw [M.hot, if_neg q]
    have : (IntOp.cmpi .eq (word a) (word i)).zeroExtend 32 = 0#32 := by
      have hf : (word a == word i) = false := beq_eq_false_iff_ne.mpr hne
      simp only [IntOp.cmpi, hf]; decide
    rw [this]
    show (((0#32 : BitVec 32).toInt : ℝ) : EReal) = 0
    simp

/-- The Gram matrix times one-hot columns picks a column of it. -/
theorem gramHot_at {g : FVec Ideal S256x256 .f32} {o : FVec Ideal S256x1024 .f32} {i : Fin 256} (p : Fin 1024)
    (ho : ∀ a, o (ix2 a p) = hot i a) (a : Fin 256) :
    matmul dot_S256x256_S256x1024_S256x1024_1_0_0_1_n_n (some .fp32) g o (constant S256x1024 .f32 0x00000000#32) (ix2 a p)
      = g (ix2 a i) := by
  have e := Ideal.matmul_plain_apply (M := 256) (K := 256) (N := 1024) (some .fp32) g o (constant S256x1024 .f32 0x00000000#32) a p
  refine e.trans ?_
  have z : (constant (F := Ideal) S256x1024 .f32 0x00000000#32) (ix2 a p) = 0 := Ideal.ofBits_zero_f32
  rw [z, zero_add, ← sum_mul_hot (fun b => g (ix2 a b)) i]
  exact Finset.sum_congr rfl fun b _ => by rw [ho]

end Cert.Proof.Ker
-- ==== Proof.KerAt.lean ====
/- The kernel's values at one pixel of a block are the pursuit's: selections, the triangular factor, the solves, the bins. -/
module

public import proofs.«01_k».proof.Proof.KerLib

@[expose] public section

noncomputable section

namespace Cert.Proof.Ker

open Idealize.ShloMosaic hiding ix0 ix1 ix2 ix3 ix4 eq_ix2
open Idealize.ShloMosaic.ValueIdx
open Cert.KernelIdeal Cert.KernelIdeal.Gen
open Cert.Proof.M (hot sum_mul_hot scaled token middle centre)

theorem iota_at (a : Fin 256) (p : Fin 1024) : iota .tc S256x1024 32 [0] iota_S256x1024_d0_w32 (ix2 a p) = word a := by
  show BitVec.ofNat 32 (0 * 256 + a.val) = BitVec.ofNat 32 a.val
  rw [Nat.zero_mul, Nat.zero_add]

theorem pay9_at (p : Fin 1024) (G : Fin 256 → M.Row) (h : M.Row) (v4 : Vec Ideal S256x64 .bf16) (v6 : Vec Ideal S1x64x1024 .f32)
    (h9 : ∀ a : Fin 256, k0_pay7 (F := Ideal) v4 v6 (ix2 a p) = h a) :
    k0_pay9 (F := Ideal) v4 v6 (ix2 (0 : Fin 1) p) = word (M.i0 G h) := by
  refine colFirst_at (s := M.score (h) (M.m0 G h)) p (fun a => ?_) (fun a => iota_at a p) _ _ _ _ _ _ _ _
  rw [← score_mark]
  simp only [mulf_at, addf_at, subf_at, divf_at, maxf_at, minf_at, absf_at, sqrt_at, round_at, toInt_at, toFloat_at, narrow_at, widen_at, maxsi_at, minsi_at, muli_at, addi_at, fill_at, spread_at, bits_one, bits_zero, h9, k0_pay8, sum_mul_hot, sum_hot_mul]
  try rfl

theorem pay10_at (p : Fin 1024) (G : Fin 256 → M.Row) (h : M.Row) (v4 : Vec Ideal S256x64 .bf16) (v6 : Vec Ideal S1x64x1024 .f32)
    (h9 : ∀ a : Fin 256, k0_pay7 (F := Ideal) v4 v6 (ix2 a p) = h a) (a : Fin 256) :
    k0_pay10 (F := Ideal) v4 v6 (ix2 a p) = hot (M.i0 G h) a := by
  exact hot_at p (fun a => iota_at a p) (pay9_at p G h _ _ h9) _ _ a

theorem pay11_at (p : Fin 1024) (G : Fin 256 → M.Row) (h : M.Row) (v4 : Vec Ideal S256x64 .bf16) (v6 : Vec Ideal S1x64x1024 .f32)
    (h9 : ∀ a : Fin 256, k0_pay7 (F := Ideal) v4 v6 (ix2 a p) = h a) (a : Fin 256) :
    k0_pay11 (F := Ideal) v4 v6 (ix2 a p) = mark (M.m1 G h) a := by
  have z : k0_pay8 (F := Ideal) (ix2 a p) = mark (M.m0 G h) a := bits_zero
  refine Eq.trans ?_ (max_mark (M.m0 G h) _ a)
  simp only [k0_pay11, mulf_at, addf_at, subf_at, divf_at, maxf_at, minf_at, absf_at, sqrt_at, round_at, toInt_at, toFloat_at, narrow_at, widen_at, maxsi_at, minsi_at, muli_at, addi_at, fill_at, spread_at, bits_one, bits_zero, z, pay10_at p G h _ _ h9, sum_mul_hot, sum_hot_mul]

theorem pay12_at (p : Fin 1024) (G : Fin 256 → M.Row) (h : M.Row) (v4 : Vec Ideal S256x64 .bf16) (v6 : Vec Ideal S1x64x1024 .f32)
    (h9 : ∀ a : Fin 256, k0_pay7 (F := Ideal) v4 v6 (ix2 a p) = h a) :
    k0_pay12 (F := Ideal) v4 v6 (ix2 (0 : Fin 1) p) = M.y0 G h := by
  simp only [k0_pay12, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, h9, pay10_at p G h _ _ h9, sum_mul_hot, sum_hot_mul]
  try rfl

theorem pay13_at (p : Fin 1024) (G : Fin 256 → M.Row) (h : M.Row) (v4 : Vec Ideal S256x64 .bf16) (v5 : Vec Ideal S256x256 .f32) (v6 : Vec Ideal S1x64x1024 .f32)
    (h9 : ∀ a : Fin 256, k0_pay7 (F := Ideal) v4 v6 (ix2 a p) = h a) (hG : ∀ a b : Fin 256, v5 (ix2 a b) = G b a) (a : Fin 256) :
    k0_pay13 (F := Ideal) v4 v5 v6 (ix2 a p) = G (M.i0 G h) a := by
  exact (gramHot_at p (pay10_at p G h _ _ h9) a).trans (hG _ _)

theorem pay14_at (p : Fin 1024) (G : Fin 256 → M.Row) (h : M.Row) (v4 : Vec Ideal S256x64 .bf16) (v5 : Vec Ideal S256x256 .f32) (v6 : Vec Ideal S1x64x1024 .f32)
    (h9 : ∀ a : Fin 256, k0_pay7 (F := Ideal) v4 v6 (ix2 a p) = h a) (hG : ∀ a b : Fin 256, v5 (ix2 a b) = G b a) (a : Fin 256) :
    k0_pay14 (F := Ideal) v4 v5 v6 (ix2 a p) = max (M.h1 G h a) (-M.h1 G h a) := by
  simp only [k0_pay14, mulf_at, addf_at, subf_at, divf_at, maxf_at, minf_at, absf_at, sqrt_at, round_at, toInt_at, toFloat_at, narrow_at, widen_at, maxsi_at, minsi_at, muli_at, addi_at, fill_at, spread_at, bits_one, bits_zero, h9, pay12_at p G h _ _ h9, pay13_at p G h _ _ _ h9 hG, sum_mul_hot, sum_hot_mul]
  try rfl

theorem pay16_at (p : Fin 1024) (G : Fin 256 → M.Row) (h : M.Row) (v10 : IVec S256x1024 32) (v28 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) :
    k0_pay16 (F := Ideal) v10 v28 v36 v37 (ix2 (0 : Fin 1) p) = word (M.i1 G h) := by
  refine colFirst_at (s := M.score (M.h1 G h) (M.m1 G h)) p (fun a => ?_) (hv10) _ _ _ _ _ _ _ _
  rw [← score_mark]
  simp only [mulf_at, addf_at, subf_at, divf_at, maxf_at, minf_at, absf_at, sqrt_at, round_at, toInt_at, toFloat_at, narrow_at, widen_at, maxsi_at, minsi_at, muli_at, addi_at, fill_at, spread_at, bits_one, bits_zero, hv10, hv28, hv36, hv37, sum_mul_hot, sum_hot_mul]
  try rfl

theorem pay17_at (p : Fin 1024) (G : Fin 256 → M.Row) (h : M.Row) (v10 : IVec S256x1024 32) (v28 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) (a : Fin 256) :
    k0_pay17 (F := Ideal) v10 v28 v36 v37 (ix2 a p) = hot (M.i1 G h) a := by
  exact hot_at p (hv10) (pay16_at p G h _ _ _ _ hv10 hv28 hv36 hv37) _ _ a

theorem pay18_at (p : Fin 1024) (G : Fin 256 → M.Row) (h : M.Row) (v10 : IVec S256x1024 32) (v28 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) (a : Fin 256) :
    k0_pay18 (F := Ideal) v10 v28 v36 v37 (ix2 a p) = mark (M.m2 G h) a := by
  refine Eq.trans ?_ (max_mark (M.m1 G h) _ a)
  simp only [k0_pay18, mulf_at, addf_at, subf_at, divf_at, maxf_at, minf_at, absf_at, sqrt_at, round_at, toInt_at, toFloat_at, narrow_at, widen_at, maxsi_at, minsi_at, muli_at, addi_at, fill_at, spread_at, bits_one, bits_zero, pay17_at p G h _ _ _ _ hv10 hv28 hv36 hv37, hv10, hv28, hv36, hv37, sum_mul_hot, sum_hot_mul]

theorem pay19_at (p : Fin 1024) (G : Fin 256 → M.Row) (h : M.Row) (v9 : FVec Ideal S256x1024 .f32) (v10 : IVec S256x1024 32) (v28 : FVec Ideal S256x1024 .f32) (v36 : FVec Ideal S256x1024 .f32) (v37 : FVec Ideal S256x1024 .f32)
    (hv9 : ∀ a : Fin 256, v9 (ix2 a p) = h a) (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) :
    k0_pay19 (F := Ideal) v9 v10 v28 v36 v37 (ix2 (0 : Fin 1) p) = h (M.i1 G h) := by
  simp only [k0_pay19, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay17_at p G h _ _ _ _ hv10 hv28 hv36 hv37, hv9, hv10, hv28, hv36, hv37, sum_mul_hot, sum_hot_mul]
  try rfl

theorem pay20_at (p : Fin 1024) (G : Fin 256 → M.Row) (h : M.Row) (v10 : IVec S256x1024 32) (v28 : FVec Ideal S256x1024 .f32) (v32 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv32 : ∀ a : Fin 256, v32 (ix2 a p) = G (M.i0 G h) a) (hv36 : ∀ a : Fin 256, v36 (ix2 a p) = max (M.h1 G h a) (-M.h1 G h a)) (hv37 : ∀ a : Fin 256, v37 (ix2 a p) = 1) :
    k0_pay20 (F := Ideal) v10 v28 v32 v36 v37 (ix2 (0 : Fin 1) p) = M.w10 G h := by
  simp only [k0_pay20, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay17_at p G h _ _ _ _ hv10 hv28 hv36 hv37, hv10, hv28, hv32, hv36, hv37, sum_mul_hot, sum_hot_mul]
  try rfl

theorem pay21_at (p : Fin 1024) (G : Fin 256 → M.Row) (h : M.Row) (v10 : IVec S256x1024 32) (v28 : FVec Ideal S256x1024 .f32) (v32 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv32 : ∀ a : Fin 256, v32 (ix2 a p) = G (M.i0 G h) a) (hv36 : ∀ a : Fin 256, v36 (ix2 a p) = max (M.h1 G h a) (-M.h1 G h a)) (hv37 : ∀ a : Fin 256, v37 (ix2 a p) = 1) :
    k0_pay21 (F := Ideal) v10 v28 v32 v36 v37 (ix2 (0 : Fin 1) p) = M.l1 G h := by
  simp only [k0_pay21, mulf_at, addf_at, subf_at, divf_at, maxf_at, minf_at, absf_at, sqrt_at, round_at, toInt_at, toFloat_at, narrow_at, widen_at, maxsi_at, minsi_at, muli_at, addi_at, fill_at, spread_at, bits_one, bits_zero, pay20_at p G h _ _ _ _ _ hv10 hv28 hv32 hv36 hv37, hv10, hv28, hv32, hv36, hv37, sum_mul_hot, sum_hot_mul]
  try rfl

theorem pay22_at (p : Fin 1024) (G : Fin 256 → M.Row) (h : M.Row) (v5 : Vec Ideal S256x256 .f32) (v10 : IVec S256x1024 32) (v28 : FVec Ideal S256x1024 .f32) (v36 : FVec Ideal S256x1024 .f32) (v37 : FVec Ideal S256x1024 .f32)
    (hG : ∀ a b : Fin 256, v5 (ix2 a b) = G b a) (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) (a : Fin 256) :
    k0_pay22 (F := Ideal) v5 v10 v28 v36 v37 (ix2 a p) = G (M.i1 G h) a := by
  exact (gramHot_at p (pay17_at p G h _ _ _ _ hv10 hv28 hv36 hv37) a).trans (hG _ _)

theorem pay23_at (p : Fin 1024) (G : Fin 256 → M.Row) (h : M.Row) (v5 : Vec Ideal S256x256 .f32) (v9 : FVec Ideal S256x1024 .f32) (v10 : IVec S256x1024 32) (v28 : FVec Ideal S256x1024 .f32) (v31 : FVec Ideal S1x1024 .f32) (v32 : FVec Ideal S256x1024 .f32) (v36 : FVec Ideal S256x1024 .f32) (v37 : FVec Ideal S256x1024 .f32)
    (hG : ∀ a b : Fin 256, v5 (ix2 a b) = G b a) (hv9 : ∀ a : Fin 256, v9 (ix2 a p) = h a) (hv10 : ∀ a : Fin 256, v10 (ix2 a p) = word a) (hv28 : ∀ a : Fin 256, v28 (ix2 a p) = mark (M.m1 G h) a) (hv31 : v31 (ix2 (0 : Fin 1) p) = M.y0 G h) (hv32 : ∀ a : Fin 256, v32 (ix2 a p) = G (M.i0 G h) a) (hv36 : ∀ a : Fin 256, v36 (ix2 a p) = max (M.h1 G h a) (-M.h1 G h a)) (hv37 : ∀ a : Fin 256, v37 (ix2 a p) = 1) (a : Fin 256) :
    k0_pay23 (F := Ideal) v5 v9 v10 v28 v31 v32 v36 v37 (ix2 a p) = max (M.h2 G h a) (-M.h2 G h a) := by
  simp only [k0_pay23, mulf_at, addf_at, subf_at, divf_at, maxf_at, minf_at, absf_at, sqrt_at, round_at, toInt_at, toFloat_at, narrow_at, widen_at, maxsi_at, minsi_at, muli_at, addi_at, fill_at, spread_at, bits_one, bits_zero, pay19_at p G h _ _ _ _ _ hv9 hv10 hv28 hv36 hv37, pay20_at p G h _ _ _ _ _ hv10 hv28 hv32 hv36 hv37, pay21_at p G h _ _ _ _ _ hv10 hv28 hv32 hv36 hv37, pay22_at p G h _ _ _ _ _ hG hv10 hv28 hv36 hv37, hv9, hv10, hv28, hv31, hv32, hv36, hv37, sum_mul_hot, sum_hot_mul]
  try rfl

theorem pay24_at (p : Fin 1024) (G : Fin 256 → M.Row) (h : M.Row) (v10 : IVec S256x1024 32) (v28 : FVec Ideal S256x1024 .f32) (v36 : FVec Ideal S256x1024 .f32) (v37 : FVec Ideal S256x1024 .f32)
    (hv10 : ∀ a : Fin 256, v10 (ix2 a p) = word a) (hv28 : ∀ a : Fin 256, v28 (ix2 a p) = mark (M.m1 G h) a) (hv36 : ∀ a : Fin 256, v36 (ix2 a p) = max (M.h1 G h a) (-M.h1 G h a)) (hv37 : ∀ a : Fin 256, v37 (ix2 a p) = 1) (a : Fin 256) :
    k0_pay24 (F := Ideal) v10 v28 v36 v37 (ix2 a p) = 1 - mark (M.m2 G h) a := by
  simp only [k0_pay24, mulf_at, addf_at, subf_at, divf_at, maxf_at, minf_at, absf_at, sqrt_at, round_at, toInt_at, toFloat_at, narrow_at, widen_at, maxsi_at, minsi_at, muli_at, addi_at, fill_at, spread_at, bits_one, bits_zero, pay18_at p G h _ _ _ _ hv10 hv28 hv36 hv37, hv10, hv28, hv36, hv37, sum_mul_hot, sum_hot_mul]
  try rfl

theorem pay25_at (p : Fin 1024) (G : Fin 256 → M.Row) (h : M.Row) (v10 : IVec S256x1024 32) (v86 : FVec Ideal S256x1024 .f32) (v88 : FVec Ideal S256x1024 .f32)
    (hv10 : ∀ a : Fin 256, v10 (ix2 a p) = word a) (hv86 : ∀ a : Fin 256, v86 (ix2 a p) = max (M.h2 G h a) (-M.h2 G h a)) (hv88 : ∀ a : Fin 256, v88 (ix2 a p) = 1 - mark (M.m2 G h) a) :
    k0_pay25 (F := Ideal) v10 v86 v88 (ix2 (0 : Fin 1) p) = word (M.i2 G h) := by
  refine colFirst_at (s := M.score (M.h2 G h) (M.m2 G h)) p (fun a => ?_) (hv10) _ _ _ _ _ _ _ _
  rw [← score_mark]
  simp only [mulf_at, addf_at, subf_at, divf_at, maxf_at, minf_at, absf_at, sqrt_at, round_at, toInt_at, toFloat_at, narrow_at, widen_at, maxsi_at, minsi_at, muli_at, addi_at, fill_at, spread_at, bits_one, bits_zero, hv10, hv86, hv88, sum_mul_hot, sum_hot_mul]
  try rfl

theorem pay26_at (p : Fin 1024) (G : Fin 256 → M.Row) (h : M.Row) (v10 : IVec S256x1024 32) (v86 : FVec Ideal S256x1024 .f32) (v88 : FVec Ideal S256x1024 .f32)
    (hv10 : ∀ a : Fin 256, v10 (ix2 a p) = word a) (hv86 : ∀ a : Fin 256, v86 (ix2 a p) = max (M.h2 G h a) (-M.h2 G h a)) (hv88 : ∀ a : Fin 256, v88 (ix2 a p) = 1 - mark (M.m2 G h) a) (a : Fin 256) :
    k0_pay26 (F := Ideal) v10 v86 v88 (ix2 a p) = hot (M.i2 G h) a := by
  exact hot_at p (hv10) (pay25_at p G h _ _ _ hv10 hv86 hv88) _ _ a

theorem pay27_at (p : Fin 1024) (G : Fin 256 → M.Row) (h : M.Row) (v10 : IVec S256x1024 32) (v52 : FVec Ideal S256x1024 .f32) (v86 : FVec Ideal S256x1024 .f32) (v88 : FVec Ideal S256x1024 .f32)
    (hv10 : ∀ a : Fin 256, v10 (ix2 a p) = word a) (hv52 : ∀ a : Fin 256, v52 (ix2 a p) = mark (M.m2 G h) a) (hv86 : ∀ a : Fin 256, v86 (ix2 a p) = max (M.h2 G h a) (-M.h2 G h a)) (hv88 : ∀ a : Fin 256, v88 (ix2 a p) = 1 - mark (M.m2 G h) a) (a : Fin 256) :
    k0_pay27 (F := Ideal) v10 v52 v86 v88 (ix2 a p) = mark (M.m3 G h) a := by
  refine Eq.trans ?_ (max_mark (M.m2 G h) _ a)
  simp only [k0_pay27, mulf_at, addf_at, subf_at, divf_at, maxf_at, minf_at, absf_at, sqrt_at, round_at, toInt_at, toFloat_at, narrow_at, widen_at, maxsi_at, minsi_at, muli_at, addi_at, fill_at, spread_at, bits_one, bits_zero, pay26_at p G h _ _ _ hv10 hv86 hv88, hv10, hv52, hv86, hv88, sum_mul_hot, sum_hot_mul]

theorem pay28_at (p : Fin 1024) (G : Fin 256 → M.Row) (h : M.Row) (v9 : FVec Ideal S256x1024 .f32) (v10 : IVec S256x1024 32) (v86 : FVec Ideal S256x1024 .f32) (v88 : FVec Ideal S256x1024 .f32)
    (hv9 : ∀ a : Fin 256, v9 (ix2 a p) = h a) (hv10 : ∀ a : Fin 256, v10 (ix2 a p) = word a) (hv86 : ∀ a : Fin 256, v86 (ix2 a p) = max (M.h2 G h a) (-M.h2 G h a)) (hv88 : ∀ a : Fin 256, v88 (ix2 a p) = 1 - mark (M.m2 G h) a) :
    k0_pay28 (F := Ideal) v9 v10 v86 v88 (ix2 (0 : Fin 1) p) = h (M.i2 G h) := by
  simp only [k0_pay28, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay26_at p G h _ _ _ hv10 hv86 hv88, hv9, hv10, hv86, hv88, sum_mul_hot, sum_hot_mul]
  try rfl

theorem pay29_at (p : Fin 1024) (G : Fin 256 → M.Row) (h : M.Row) (v10 : IVec S256x1024 32) (v32 : FVec Ideal S256x1024 .f32) (v86 : FVec Ideal S256x1024 .f32) (v88 : FVec Ideal S256x1024 .f32)
    (hv10 : ∀ a : Fin 256, v10 (ix2 a p) = word a) (hv32 : ∀ a : Fin 256, v32 (ix2 a p) = G (M.i0 G h) a) (hv86 : ∀ a : Fin 256, v86 (ix2 a p) = max (M.h2 G h a) (-M.h2 G h a)) (hv88 : ∀ a : Fin 256, v88 (ix2 a p) = 1 - mark (M.m2 G h) a) :
    k0_pay29 (F := Ideal) v10 v32 v86 v88 (ix2 (0 : Fin 1) p) = M.w20 G h := by
  simp only [k0_pay29, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay26_at p G h _ _ _ hv10 hv86 hv88, hv10, hv32, hv86, hv88, sum_mul_hot, sum_hot_mul]
  try rfl

theorem pay30_at (p : Fin 1024) (G : Fin 256 → M.Row) (h : M.Row) (v10 : IVec S256x1024 32) (v32 : FVec Ideal S256x1024 .f32) (v58 : FVec Ideal S1x1024 .f32) (v64 : FVec Ideal S1x1024 .f32) (v71 : FVec Ideal S256x1024 .f32) (v86 : FVec Ideal S256x1024 .f32) (v88 : FVec Ideal S256x1024 .f32)
    (hv10 : ∀ a : Fin 256, v10 (ix2 a p) = word a) (hv32 : ∀ a : Fin 256, v32 (ix2 a p) = G (M.i0 G h) a) (hv58 : v58 (ix2 (0 : Fin 1) p) = M.w10 G h) (hv64 : v64 (ix2 (0 : Fin 1) p) = M.l1 G h) (hv71 : ∀ a : Fin 256, v71 (ix2 a p) = G (M.i1 G h) a) (hv86 : ∀ a : Fin 256, v86 (ix2 a p) = max (M.h2 G h a) (-M.h2 G h a)) (hv88 : ∀ a : Fin 256, v88 (ix2 a p) = 1 - mark (M.m2 G h) a) :
    k0_pay30 (F := Ideal) v10 v32 v58 v64 v71 v86 v88 (ix2 (0 : Fin 1) p) = M.w21 G h := by
  simp only [k0_pay30, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay26_at p G h _ _ _ hv10 hv86 hv88, pay29_at p G h _ _ _ _ hv10 hv32 hv86 hv88, hv10, hv32, hv58, hv64, hv71, hv86, hv88, sum_mul_hot, sum_hot_mul]
  try rfl

theorem pay31_at (p : Fin 1024) (G : Fin 256 → M.Row) (h : M.Row) (v10 : IVec S256x1024 32) (v32 : FVec Ideal S256x1024 .f32) (v58 : FVec Ideal S1x1024 .f32) (v64 : FVec Ideal S1x1024 .f32) (v71 : FVec Ideal S256x1024 .f32) (v86 : FVec Ideal S256x1024 .f32) (v88 : FVec Ideal S256x1024 .f32)
    (hv10 : ∀ a : Fin 256, v10 (ix2 a p) = word a) (hv32 : ∀ a : Fin 256, v32 (ix2 a p) = G (M.i0 G h) a) (hv58 : v58 (ix2 (0 : Fin 1) p) = M.w10 G h) (hv64 : v64 (ix2 (0 : Fin 1) p) = M.l1 G h) (hv71 : ∀ a : Fin 256, v71 (ix2 a p) = G (M.i1 G h) a) (hv86 : ∀ a : Fin 256, v86 (ix2 a p) = max (M.h2 G h a) (-M.h2 G h a)) (hv88 : ∀ a : Fin 256, v88 (ix2 a p) = 1 - mark (M.m2 G h) a) :
    k0_pay31 (F := Ideal) v10 v32 v58 v64 v71 v86 v88 (ix2 (0 : Fin 1) p) = M.l2 G h := by
  simp only [k0_pay31, mulf_at, addf_at, subf_at, divf_at, maxf_at, minf_at, absf_at, sqrt_at, round_at, toInt_at, toFloat_at, narrow_at, widen_at, maxsi_at, minsi_at, muli_at, addi_at, fill_at, spread_at, bits_one, bits_zero, pay29_at p G h _ _ _ _ hv10 hv32 hv86 hv88, pay30_at p G h _ _ _ _ _ _ _ hv10 hv32 hv58 hv64 hv71 hv86 hv88, hv10, hv32, hv58, hv64, hv71, hv86, hv88, sum_mul_hot, sum_hot_mul]
  try rfl

theorem pay32_at (p : Fin 1024) (G : Fin 256 → M.Row) (h : M.Row) (v31 : FVec Ideal S1x1024 .f32) (v55 : FVec Ideal S1x1024 .f32) (v58 : FVec Ideal S1x1024 .f32) (v64 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) :
    k0_pay32 (F := Ideal) v31 v55 v58 v64 (ix2 (0 : Fin 1) p) = M.y1 G h := by
  simp only [k0_pay32, mulf_at, addf_at, subf_at, divf_at, maxf_at, minf_at, absf_at, sqrt_at, round_at, toInt_at, toFloat_at, narrow_at, widen_at, maxsi_at, minsi_at, muli_at, addi_at, fill_at, spread_at, bits_one, bits_zero, hv31, hv55, hv58, hv64, sum_mul_hot, sum_hot_mul]
  try rfl

theorem pay33_at (p : Fin 1024) (G : Fin 256 → M.Row) (h : M.Row) (v9 : FVec Ideal S256x1024 .f32) (v10 : IVec S256x1024 32) (v31 : FVec Ideal S1x1024 .f32) (v32 : FVec Ideal S256x1024 .f32) (v55 : FVec Ideal S1x1024 .f32) (v58 : FVec Ideal S1x1024 .f32) (v64 : FVec Ideal S1x1024 .f32) (v71 : FVec Ideal S256x1024 .f32) (v86 : FVec Ideal S256x1024 .f32) (v88 : FVec Ideal S256x1024 .f32)
    (hv9 : ∀ a : Fin 256, v9 (ix2 a p) = h a) (hv10 : ∀ a : Fin 256, v10 (ix2 a p) = word a) (hv31 : v31 (ix2 (0 : Fin 1) p) = M.y0 G h) (hv32 : ∀ a : Fin 256, v32 (ix2 a p) = G (M.i0 G h) a) (hv55 : v55 (ix2 (0 : Fin 1) p) = h (M.i1 G h)) (hv58 : v58 (ix2 (0 : Fin 1) p) = M.w10 G h) (hv64 : v64 (ix2 (0 : Fin 1) p) = M.l1 G h) (hv71 : ∀ a : Fin 256, v71 (ix2 a p) = G (M.i1 G h) a) (hv86 : ∀ a : Fin 256, v86 (ix2 a p) = max (M.h2 G h a) (-M.h2 G h a)) (hv88 : ∀ a : Fin 256, v88 (ix2 a p) = 1 - mark (M.m2 G h) a) :
    k0_pay33 (F := Ideal) v9 v10 v31 v32 v55 v58 v64 v71 v86 v88 (ix2 (0 : Fin 1) p) = M.x22 G h := by
  simp only [k0_pay33, mulf_at, addf_at, subf_at, divf_at, maxf_at, minf_at, absf_at, sqrt_at, round_at, toInt_at, toFloat_at, narrow_at, widen_at, maxsi_at, minsi_at, muli_at, addi_at, fill_at, spread_at, bits_one, bits_zero, pay28_at p G h _ _ _ _ hv9 hv10 hv86 hv88, pay29_at p G h _ _ _ _ hv10 hv32 hv86 hv88, pay30_at p G h _ _ _ _ _ _ _ hv10 hv32 hv58 hv64 hv71 hv86 hv88, pay31_at p G h _ _ _ _ _ _ _ hv10 hv32 hv58 hv64 hv71 hv86 hv88, pay32_at p G h _ _ _ _ hv31 hv55 hv58 hv64, hv9, hv10, hv31, hv32, hv55, hv58, hv64, hv71, hv86, hv88, sum_mul_hot, sum_hot_mul]
  try rfl

theorem pay34_at (p : Fin 1024) (G : Fin 256 → M.Row) (h : M.Row) (v9 : FVec Ideal S256x1024 .f32) (v10 : IVec S256x1024 32) (v31 : FVec Ideal S1x1024 .f32) (v32 : FVec Ideal S256x1024 .f32) (v55 : FVec Ideal S1x1024 .f32) (v58 : FVec Ideal S1x1024 .f32) (v64 : FVec Ideal S1x1024 .f32) (v71 : FVec Ideal S256x1024 .f32) (v86 : FVec Ideal S256x1024 .f32) (v88 : FVec Ideal S256x1024 .f32)
    (hv9 : ∀ a : Fin 256, v9 (ix2 a p) = h a) (hv10 : ∀ a : Fin 256, v10 (ix2 a p) = word a) (hv31 : v31 (ix2 (0 : Fin 1) p) = M.y0 G h) (hv32 : ∀ a : Fin 256, v32 (ix2 a p) = G (M.i0 G h) a) (hv55 : v55 (ix2 (0 : Fin 1) p) = h (M.i1 G h)) (hv58 : v58 (ix2 (0 : Fin 1) p) = M.w10 G h) (hv64 : v64 (ix2 (0 : Fin 1) p) = M.l1 G h) (hv71 : ∀ a : Fin 256, v71 (ix2 a p) = G (M.i1 G h) a) (hv86 : ∀ a : Fin 256, v86 (ix2 a p) = max (M.h2 G h a) (-M.h2 G h a)) (hv88 : ∀ a : Fin 256, v88 (ix2 a p) = 1 - mark (M.m2 G h) a) :
    k0_pay34 (F := Ideal) v9 v10 v31 v32 v55 v58 v64 v71 v86 v88 (ix2 (0 : Fin 1) p) = M.x21 G h := by
  simp only [k0_pay34, mulf_at, addf_at, subf_at, divf_at, maxf_at, minf_at, absf_at, sqrt_at, round_at, toInt_at, toFloat_at, narrow_at, widen_at, maxsi_at, minsi_at, muli_at, addi_at, fill_at, spread_at, bits_one, bits_zero, pay30_at p G h _ _ _ _ _ _ _ hv10 hv32 hv58 hv64 hv71 hv86 hv88, pay32_at p G h _ _ _ _ hv31 hv55 hv58 hv64, pay33_at p G h _ _ _ _ _ _ _ _ _ _ hv9 hv10 hv31 hv32 hv55 hv58 hv64 hv71 hv86 hv88, hv9, hv10, hv31, hv32, hv55, hv58, hv64, hv71, hv86, hv88, sum_mul_hot, sum_hot_mul]
  try rfl

theorem pay35_at (p : Fin 1024) (G : Fin 256 → M.Row) (h : M.Row) (v9 : FVec Ideal S256x1024 .f32) (v10 : IVec S256x1024 32) (v31 : FVec Ideal S1x1024 .f32) (v32 : FVec Ideal S256x1024 .f32) (v55 : FVec Ideal S1x1024 .f32) (v58 : FVec Ideal S1x1024 .f32) (v64 : FVec Ideal S1x1024 .f32) (v71 : FVec Ideal S256x1024 .f32) (v86 : FVec Ideal S256x1024 .f32) (v88 : FVec Ideal S256x1024 .f32)
    (hv9 : ∀ a : Fin 256, v9 (ix2 a p) = h a) (hv10 : ∀ a : Fin 256, v10 (ix2 a p) = word a) (hv31 : v31 (ix2 (0 : Fin 1) p) = M.y0 G h) (hv32 : ∀ a : Fin 256, v32 (ix2 a p) = G (M.i0 G h) a) (hv55 : v55 (ix2 (0 : Fin 1) p) = h (M.i1 G h)) (hv58 : v58 (ix2 (0 : Fin 1) p) = M.w10 G h) (hv64 : v64 (ix2 (0 : Fin 1) p) = M.l1 G h) (hv71 : ∀ a : Fin 256, v71 (ix2 a p) = G (M.i1 G h) a) (hv86 : ∀ a : Fin 256, v86 (ix2 a p) = max (M.h2 G h a) (-M.h2 G h a)) (hv88 : ∀ a : Fin 256, v88 (ix2 a p) = 1 - mark (M.m2 G h) a) :
    k0_pay35 (F := Ideal) v9 v10 v31 v32 v55 v58 v64 v71 v86 v88 (ix2 (0 : Fin 1) p) = M.x20 G h := by
  simp only [k0_pay35, mulf_at, addf_at, subf_at, divf_at, maxf_at, minf_at, absf_at, sqrt_at, round_at, toInt_at, toFloat_at, narrow_at, widen_at, maxsi_at, minsi_at, muli_at, addi_at, fill_at, spread_at, bits_one, bits_zero, pay29_at p G h _ _ _ _ hv10 hv32 hv86 hv88, pay33_at p G h _ _ _ _ _ _ _ _ _ _ hv9 hv10 hv31 hv32 hv55 hv58 hv64 hv71 hv86 hv88, pay34_at p G h _ _ _ _ _ _ _ _ _ _ hv9 hv10 hv31 hv32 hv55 hv58 hv64 hv71 hv86 hv88, hv9, hv10, hv31, hv32, hv55, hv58, hv64, hv71, hv86, hv88, sum_mul_hot, sum_hot_mul]
  try rfl

theorem pay36_at (p : Fin 1024) (G : Fin 256 → M.Row) (h : M.Row) (v5 : Vec Ideal S256x256 .f32) (v10 : IVec S256x1024 32) (v86 : FVec Ideal S256x1024 .f32) (v88 : FVec Ideal S256x1024 .f32)
    (hG : ∀ a b : Fin 256, v5 (ix2 a b) = G b a) (hv10 : ∀ a : Fin 256, v10 (ix2 a p) = word a) (hv86 : ∀ a : Fin 256, v86 (ix2 a p) = max (M.h2 G h a) (-M.h2 G h a)) (hv88 : ∀ a : Fin 256, v88 (ix2 a p) = 1 - mark (M.m2 G h) a) (a : Fin 256) :
    k0_pay36 (F := Ideal) v5 v10 v86 v88 (ix2 a p) = G (M.i2 G h) a := by
  exact (gramHot_at p (pay26_at p G h _ _ _ hv10 hv86 hv88) a).trans (hG _ _)

theorem pay37_at (p : Fin 1024) (G : Fin 256 → M.Row) (h : M.Row) (v9 : FVec Ideal S256x1024 .f32) (v10 : IVec S256x1024 32) (v32 : FVec Ideal S256x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) :
    k0_pay37 (F := Ideal) v9 v10 v32 v71 v102 v131 v134 v138 v139 (ix2 (0 : Fin 1) p) = word (M.i3 G h) := by
  refine colFirst_at (s := M.score (M.h3 G h) (M.m3 G h)) p (fun a => ?_) (hv10) _ _ _ _ _ _ _ _
  rw [← score_mark]
  simp only [mulf_at, addf_at, subf_at, divf_at, maxf_at, minf_at, absf_at, sqrt_at, round_at, toInt_at, toFloat_at, narrow_at, widen_at, maxsi_at, minsi_at, muli_at, addi_at, fill_at, spread_at, bits_one, bits_zero, hv9, hv10, hv32, hv71, hv102, hv131, hv134, hv138, hv139, sum_mul_hot, sum_hot_mul]
  try rfl

theorem pay38_at (p : Fin 1024) (G : Fin 256 → M.Row) (h : M.Row) (v9 : FVec Ideal S256x1024 .f32) (v10 : IVec S256x1024 32) (v32 : FVec Ideal S256x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) (a : Fin 256) :
    k0_pay38 (F := Ideal) v9 v10 v32 v71 v102 v131 v134 v138 v139 (ix2 a p) = hot (M.i3 G h) a := by
  exact hot_at p (hv10) (pay37_at p G h _ _ _ _ _ _ _ _ _ hv9 hv10 hv32 hv71 hv102 hv131 hv134 hv138 hv139) _ _ a

theorem pay39_at (p : Fin 1024) (G : Fin 256 → M.Row) (h : M.Row) (v9 : FVec Ideal S256x1024 .f32) (v10 : IVec S256x1024 32) (v32 : FVec Ideal S256x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) :
    k0_pay39 (F := Ideal) v9 v10 v32 v71 v102 v131 v134 v138 v139 (ix2 (0 : Fin 1) p) = h (M.i3 G h) := by
  simp only [k0_pay39, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay38_at p G h _ _ _ _ _ _ _ _ _ hv9 hv10 hv32 hv71 hv102 hv131 hv134 hv138 hv139, hv9, hv10, hv32, hv71, hv102, hv131, hv134, hv138, hv139, sum_mul_hot, sum_hot_mul]
  try rfl

theorem pay40_at (p : Fin 1024) (G : Fin 256 → M.Row) (h : M.Row) (v9 : FVec Ideal S256x1024 .f32) (v10 : IVec S256x1024 32) (v32 : FVec Ideal S256x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) :
    k0_pay40 (F := Ideal) v9 v10 v32 v71 v102 v131 v134 v138 v139 (ix2 (0 : Fin 1) p) = M.w30 G h := by
  simp only [k0_pay40, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay38_at p G h _ _ _ _ _ _ _ _ _ hv9 hv10 hv32 hv71 hv102 hv131 hv134 hv138 hv139, hv9, hv10, hv32, hv71, hv102, hv131, hv134, hv138, hv139, sum_mul_hot, sum_hot_mul]
  try rfl

theorem pay41_at (p : Fin 1024) (G : Fin 256 → M.Row) (h : M.Row) (v9 : FVec Ideal S256x1024 .f32) (v10 : IVec S256x1024 32) (v32 : FVec Ideal S256x1024 .f32) (v58 : FVec Ideal S1x1024 .f32) (v64 : FVec Ideal S1x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv58 : v58 (ix2 (0 : Fin 1) p) = M.w10 G h) (hv64 : v64 (ix2 (0 : Fin 1) p) = M.l1 G h) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) :
    k0_pay41 (F := Ideal) v9 v10 v32 v58 v64 v71 v102 v131 v134 v138 v139 (ix2 (0 : Fin 1) p) = M.w31 G h := by
  simp only [k0_pay41, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay38_at p G h _ _ _ _ _ _ _ _ _ hv9 hv10 hv32 hv71 hv102 hv131 hv134 hv138 hv139, pay40_at p G h _ _ _ _ _ _ _ _ _ hv9 hv10 hv32 hv71 hv102 hv131 hv134 hv138 hv139, hv9, hv10, hv32, hv58, hv64, hv71, hv102, hv131, hv134, hv138, hv139, sum_mul_hot, sum_hot_mul]
  try rfl

theorem pay42_at (p : Fin 1024) (G : Fin 256 → M.Row) (h : M.Row) (v9 : FVec Ideal S256x1024 .f32) (v10 : IVec S256x1024 32) (v32 : FVec Ideal S256x1024 .f32) (v71 : FVec Ideal S256x1024 .f32) (v102 : FVec Ideal S256x1024 .f32) (v131 : FVec Ideal S1x1024 .f32) (v134 : FVec Ideal S1x1024 .f32) (v138 : FVec Ideal S1x1024 .f32) (v139 : FVec Ideal S256x1024 .f32)
    (hv9 : ∀ a : Fin 256, v9 (ix2 a p) = h a) (hv10 : ∀ a : Fin 256, v10 (ix2 a p) = word a) (hv32 : ∀ a : Fin 256, v32 (ix2 a p) = G (M.i0 G h) a) (hv71 : ∀ a : Fin 256, v71 (ix2 a p) = G (M.i1 G h) a) (hv102 : ∀ a : Fin 256, v102 (ix2 a p) = mark (M.m3 G h) a) (hv131 : v131 (ix2 (0 : Fin 1) p) = M.x22 G h) (hv134 : v134 (ix2 (0 : Fin 1) p) = M.x21 G h) (hv138 : v138 (ix2 (0 : Fin 1) p) = M.x20 G h) (hv139 : ∀ a : Fin 256, v139 (ix2 a p) = G (M.i2 G h) a) :
    k0_pay42 (F := Ideal) v9 v10 v32 v71 v102 v131 v134 v138 v139 (ix2 (0 : Fin 1) p) = G (M.i2 G h) (M.i3 G h) := by
  simp only [k0_pay42, mulf_at, addf_at, subf_at, divf_at, maxf_at, minf_at, absf_at, sqrt_at, round_at, toInt_at, toFloat_at, narrow_at, widen_at, maxsi_at, minsi_at, muli_at, addi_at, fill_at, spread_at, bits_one, bits_zero]
  rw [colSum_at]
  simp only [mulf_at, addf_at, subf_at, divf_at, maxf_at, minf_at, absf_at, sqrt_at, round_at, toInt_at, toFloat_at, narrow_at, widen_at, maxsi_at, minsi_at, muli_at, addi_at, fill_at, spread_at, bits_one, bits_zero, pay38_at p G h _ _ _ _ _ _ _ _ _ hv9 hv10 hv32 hv71 hv102 hv131 hv134 hv138 hv139, hv9, hv10, hv32, hv71, hv102, hv131, hv134, hv138, hv139, sum_mul_hot, sum_hot_mul]
  try rfl

theorem pay43_at (p : Fin 1024) (G : Fin 256 → M.Row) (h : M.Row) (v108 : FVec Ideal S1x1024 .f32) (v114 : FVec Ideal S1x1024 .f32) (v122 : FVec Ideal S1x1024 .f32) (v182 : FVec Ideal S1x1024 .f32) (v188 : FVec Ideal S1x1024 .f32) (v191 : FVec Ideal S1x1024 .f32)
    (hv108 : v108 (ix2 (0 : Fin 1) p) = M.w20 G h) (hv114 : v114 (ix2 (0 : Fin 1) p) = M.w21 G h) (hv122 : v122 (ix2 (0 : Fin 1) p) = M.l2 G h) (hv182 : v182 (ix2 (0 : Fin 1) p) = M.w30 G h) (hv188 : v188 (ix2 (0 : Fin 1) p) = M.w31 G h) (hv191 : v191 (ix2 (0 : Fin 1) p) = G (M.i2 G h) (M.i3 G h)) :
    k0_pay43 (F := Ideal) v108 v114 v122 v182 v188 v191 (ix2 (0 : Fin 1) p) = M.w32 G h := by
  simp only [k0_pay43, mulf_at, addf_at, subf_at, divf_at, maxf_at, minf_at, absf_at, sqrt_at, round_at, toInt_at, toFloat_at, narrow_at, widen_at, maxsi_at, minsi_at, muli_at, addi_at, fill_at, spread_at, bits_one, bits_zero, hv108, hv114, hv122, hv182, hv188, hv191, sum_mul_hot, sum_hot_mul]
  try rfl

theorem pay44_at (p : Fin 1024) (G : Fin 256 → M.Row) (h : M.Row) (v31 : FVec Ideal S1x1024 .f32) (v55 : FVec Ideal S1x1024 .f32) (v58 : FVec Ideal S1x1024 .f32) (v64 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) :
    k0_pay44 (F := Ideal) v31 v55 v58 v64 (ix2 (0 : Fin 1) p) = M.y1 G h := by
  simp only [k0_pay44, mulf_at, addf_at, subf_at, divf_at, maxf_at, minf_at, absf_at, sqrt_at, round_at, toInt_at, toFloat_at, narrow_at, widen_at, maxsi_at, minsi_at, muli_at, addi_at, fill_at, spread_at, bits_one, bits_zero, hv31, hv55, hv58, hv64, sum_mul_hot, sum_hot_mul]
  try rfl

theorem pay45_at (p : Fin 1024) (G : Fin 256 → M.Row) (h : M.Row) (v31 : FVec Ideal S1x1024 .f32) (v55 : FVec Ideal S1x1024 .f32) (v58 : FVec Ideal S1x1024 .f32) (v64 : FVec Ideal S1x1024 .f32) (v105 : FVec Ideal S1x1024 .f32) (v108 : FVec Ideal S1x1024 .f32) (v114 : FVec Ideal S1x1024 .f32) (v122 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) (hv105 : v105 (ix2 (0 : Fin 1) p) = h (M.i2 G h)) (hv108 : v108 (ix2 (0 : Fin 1) p) = M.w20 G h) (hv114 : v114 (ix2 (0 : Fin 1) p) = M.w21 G h) (hv122 : v122 (ix2 (0 : Fin 1) p) = M.l2 G h) :
    k0_pay45 (F := Ideal) v31 v55 v58 v64 v105 v108 v114 v122 (ix2 (0 : Fin 1) p) = M.y2 G h := by
  simp only [k0_pay45, mulf_at, addf_at, subf_at, divf_at, maxf_at, minf_at, absf_at, sqrt_at, round_at, toInt_at, toFloat_at, narrow_at, widen_at, maxsi_at, minsi_at, muli_at, addi_at, fill_at, spread_at, bits_one, bits_zero, pay44_at p G h _ _ _ _ hv31 hv55 hv58 hv64, hv31, hv55, hv58, hv64, hv105, hv108, hv114, hv122, sum_mul_hot, sum_hot_mul]
  try rfl

theorem pay46_at (p : Fin 1024) (G : Fin 256 → M.Row) (h : M.Row) (v31 : FVec Ideal S1x1024 .f32) (v55 : FVec Ideal S1x1024 .f32) (v58 : FVec Ideal S1x1024 .f32) (v64 : FVec Ideal S1x1024 .f32) (v105 : FVec Ideal S1x1024 .f32) (v108 : FVec Ideal S1x1024 .f32) (v114 : FVec Ideal S1x1024 .f32) (v122 : FVec Ideal S1x1024 .f32) (v179 : FVec Ideal S1x1024 .f32) (v182 : FVec Ideal S1x1024 .f32) (v188 : FVec Ideal S1x1024 .f32) (v191 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) (hv105 : v105 (ix2 (0 : Fin 1) p) = h (M.i2 G h)) (hv108 : v108 (ix2 (0 : Fin 1) p) = M.w20 G h) (hv114 : v114 (ix2 (0 : Fin 1) p) = M.w21 G h) (hv122 : v122 (ix2 (0 : Fin 1) p) = M.l2 G h) (hv179 : v179 (ix2 (0 : Fin 1) p) = h (M.i3 G h)) (hv182 : v182 (ix2 (0 : Fin 1) p) = M.w30 G h) (hv188 : v188 (ix2 (0 : Fin 1) p) = M.w31 G h) (hv191 : v191 (ix2 (0 : Fin 1) p) = G (M.i2 G h) (M.i3 G h)) :
    k0_pay46 (F := Ideal) v31 v55 v58 v64 v105 v108 v114 v122 v179 v182 v188 v191 (ix2 (0 : Fin 1) p) = M.x33 G h := by
  simp only [k0_pay46, mulf_at, addf_at, subf_at, divf_at, maxf_at, minf_at, absf_at, sqrt_at, round_at, toInt_at, toFloat_at, narrow_at, widen_at, maxsi_at, minsi_at, muli_at, addi_at, fill_at, spread_at, bits_one, bits_zero, pay43_at p G h _ _ _ _ _ _ hv108 hv114 hv122 hv182 hv188 hv191, pay44_at p G h _ _ _ _ hv31 hv55 hv58 hv64, pay45_at p G h _ _ _ _ _ _ _ _ hv31 hv55 hv58 hv64 hv105 hv108 hv114 hv122, hv31, hv55, hv58, hv64, hv105, hv108, hv114, hv122, hv179, hv182, hv188, hv191, sum_mul_hot, sum_hot_mul]
  try rfl

theorem pay47_at (p : Fin 1024) (G : Fin 256 → M.Row) (h : M.Row) (v31 : FVec Ideal S1x1024 .f32) (v55 : FVec Ideal S1x1024 .f32) (v58 : FVec Ideal S1x1024 .f32) (v64 : FVec Ideal S1x1024 .f32) (v105 : FVec Ideal S1x1024 .f32) (v108 : FVec Ideal S1x1024 .f32) (v114 : FVec Ideal S1x1024 .f32) (v122 : FVec Ideal S1x1024 .f32) (v179 : FVec Ideal S1x1024 .f32) (v182 : FVec Ideal S1x1024 .f32) (v188 : FVec Ideal S1x1024 .f32) (v191 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) (hv105 : v105 (ix2 (0 : Fin 1) p) = h (M.i2 G h)) (hv108 : v108 (ix2 (0 : Fin 1) p) = M.w20 G h) (hv114 : v114 (ix2 (0 : Fin 1) p) = M.w21 G h) (hv122 : v122 (ix2 (0 : Fin 1) p) = M.l2 G h) (hv179 : v179 (ix2 (0 : Fin 1) p) = h (M.i3 G h)) (hv182 : v182 (ix2 (0 : Fin 1) p) = M.w30 G h) (hv188 : v188 (ix2 (0 : Fin 1) p) = M.w31 G h) (hv191 : v191 (ix2 (0 : Fin 1) p) = G (M.i2 G h) (M.i3 G h)) :
    k0_pay47 (F := Ideal) v31 v55 v58 v64 v105 v108 v114 v122 v179 v182 v188 v191 (ix2 (0 : Fin 1) p) = M.x32 G h := by
  simp only [k0_pay47, mulf_at, addf_at, subf_at, divf_at, maxf_at, minf_at, absf_at, sqrt_at, round_at, toInt_at, toFloat_at, narrow_at, widen_at, maxsi_at, minsi_at, muli_at, addi_at, fill_at, spread_at, bits_one, bits_zero, pay43_at p G h _ _ _ _ _ _ hv108 hv114 hv122 hv182 hv188 hv191, pay45_at p G h _ _ _ _ _ _ _ _ hv31 hv55 hv58 hv64 hv105 hv108 hv114 hv122, pay46_at p G h _ _ _ _ _ _ _ _ _ _ _ _ hv31 hv55 hv58 hv64 hv105 hv108 hv114 hv122 hv179 hv182 hv188 hv191, hv31, hv55, hv58, hv64, hv105, hv108, hv114, hv122, hv179, hv182, hv188, hv191, sum_mul_hot, sum_hot_mul]
  try rfl

theorem pay48_at (p : Fin 1024) (G : Fin 256 → M.Row) (h : M.Row) (v31 : FVec Ideal S1x1024 .f32) (v55 : FVec Ideal S1x1024 .f32) (v58 : FVec Ideal S1x1024 .f32) (v64 : FVec Ideal S1x1024 .f32) (v105 : FVec Ideal S1x1024 .f32) (v108 : FVec Ideal S1x1024 .f32) (v114 : FVec Ideal S1x1024 .f32) (v122 : FVec Ideal S1x1024 .f32) (v179 : FVec Ideal S1x1024 .f32) (v182 : FVec Ideal S1x1024 .f32) (v188 : FVec Ideal S1x1024 .f32) (v191 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) (hv105 : v105 (ix2 (0 : Fin 1) p) = h (M.i2 G h)) (hv108 : v108 (ix2 (0 : Fin 1) p) = M.w20 G h) (hv114 : v114 (ix2 (0 : Fin 1) p) = M.w21 G h) (hv122 : v122 (ix2 (0 : Fin 1) p) = M.l2 G h) (hv179 : v179 (ix2 (0 : Fin 1) p) = h (M.i3 G h)) (hv182 : v182 (ix2 (0 : Fin 1) p) = M.w30 G h) (hv188 : v188 (ix2 (0 : Fin 1) p) = M.w31 G h) (hv191 : v191 (ix2 (0 : Fin 1) p) = G (M.i2 G h) (M.i3 G h)) :
    k0_pay48 (F := Ideal) v31 v55 v58 v64 v105 v108 v114 v122 v179 v182 v188 v191 (ix2 (0 : Fin 1) p) = M.x31 G h := by
  simp only [k0_pay48, mulf_at, addf_at, subf_at, divf_at, maxf_at, minf_at, absf_at, sqrt_at, round_at, toInt_at, toFloat_at, narrow_at, widen_at, maxsi_at, minsi_at, muli_at, addi_at, fill_at, spread_at, bits_one, bits_zero, pay44_at p G h _ _ _ _ hv31 hv55 hv58 hv64, pay46_at p G h _ _ _ _ _ _ _ _ _ _ _ _ hv31 hv55 hv58 hv64 hv105 hv108 hv114 hv122 hv179 hv182 hv188 hv191, pay47_at p G h _ _ _ _ _ _ _ _ _ _ _ _ hv31 hv55 hv58 hv64 hv105 hv108 hv114 hv122 hv179 hv182 hv188 hv191, hv31, hv55, hv58, hv64, hv105, hv108, hv114, hv122, hv179, hv182, hv188, hv191, sum_mul_hot, sum_hot_mul]
  try rfl

theorem pay49_at (p : Fin 1024) (G : Fin 256 → M.Row) (h : M.Row) (v31 : FVec Ideal S1x1024 .f32) (v55 : FVec Ideal S1x1024 .f32) (v58 : FVec Ideal S1x1024 .f32) (v64 : FVec Ideal S1x1024 .f32) (v105 : FVec Ideal S1x1024 .f32) (v108 : FVec Ideal S1x1024 .f32) (v114 : FVec Ideal S1x1024 .f32) (v122 : FVec Ideal S1x1024 .f32) (v179 : FVec Ideal S1x1024 .f32) (v182 : FVec Ideal S1x1024 .f32) (v188 : FVec Ideal S1x1024 .f32) (v191 : FVec Ideal S1x1024 .f32)
    (hv31 : v31 (ix2 (0 : Fin 1) p) = M.y0 G h) (hv55 : v55 (ix2 (0 : Fin 1) p) = h (M.i1 G h)) (hv58 : v58 (ix2 (0 : Fin 1) p) = M.w10 G h) (hv64 : v64 (ix2 (0 : Fin 1) p) = M.l1 G h) (hv105 : v105 (ix2 (0 : Fin 1) p) = h (M.i2 G h)) (hv108 : v108 (ix2 (0 : Fin 1) p) = M.w20 G h) (hv114 : v114 (ix2 (0 : Fin 1) p) = M.w21 G h) (hv122 : v122 (ix2 (0 : Fin 1) p) = M.l2 G h) (hv179 : v179 (ix2 (0 : Fin 1) p) = h (M.i3 G h)) (hv182 : v182 (ix2 (0 : Fin 1) p) = M.w30 G h) (hv188 : v188 (ix2 (0 : Fin 1) p) = M.w31 G h) (hv191 : v191 (ix2 (0 : Fin 1) p) = G (M.i2 G h) (M.i3 G h)) :
    k0_pay49 (F := Ideal) v31 v55 v58 v64 v105 v108 v114 v122 v179 v182 v188 v191 (ix2 (0 : Fin 1) p) = scaled (M.x30 G h) := by
  simp only [k0_pay49, mulf_at, addf_at, subf_at, divf_at, maxf_at, minf_at, absf_at, sqrt_at, round_at, toInt_at, toFloat_at, narrow_at, widen_at, maxsi_at, minsi_at, muli_at, addi_at, fill_at, spread_at, bits_one, bits_zero, pay46_at p G h _ _ _ _ _ _ _ _ _ _ _ _ hv31 hv55 hv58 hv64 hv105 hv108 hv114 hv122 hv179 hv182 hv188 hv191, pay47_at p G h _ _ _ _ _ _ _ _ _ _ _ _ hv31 hv55 hv58 hv64 hv105 hv108 hv114 hv122 hv179 hv182 hv188 hv191, pay48_at p G h _ _ _ _ _ _ _ _ _ _ _ _ hv31 hv55 hv58 hv64 hv105 hv108 hv114 hv122 hv179 hv182 hv188 hv191, hv31, hv55, hv58, hv64, hv105, hv108, hv114, hv122, hv179, hv182, hv188, hv191, sum_mul_hot, sum_hot_mul]
  try rfl

theorem pay50_at (p : Fin 1024) (G : Fin 256 → M.Row) (h : M.Row) (v244 : FVec Ideal S1x1024 .f32) (cst_48 : Ideal .f32)
    (hv244 : v244 (ix2 (0 : Fin 1) p) = scaled (M.x30 G h)) (hcst_48 : cst_48 = Ideal.ofBits .f32 0x42000000#32) :
    k0_pay50 (F := Ideal) v244 cst_48 (ix2 (0 : Fin 1) p) = M.bin (M.x30 G h) := by
  subst hcst_48
  simp only [k0_pay50, mulf_at, addf_at, subf_at, divf_at, maxf_at, minf_at, absf_at, sqrt_at, round_at, toInt_at, toFloat_at, narrow_at, widen_at, maxsi_at, minsi_at, muli_at, addi_at, fill_at, spread_at, bits_one, bits_zero, hv244, sum_mul_hot, sum_hot_mul]
  try rfl

theorem pay51_at (p : Fin 1024) (G : Fin 256 → M.Row) (h : M.Row) (v23 : IVec S1x1024 32) (v244 : FVec Ideal S1x1024 .f32) (cst_48 : Ideal .f32)
    (hv23 : v23 (ix2 (0 : Fin 1) p) = word (M.i0 G h)) (hv244 : v244 (ix2 (0 : Fin 1) p) = scaled (M.x30 G h)) (hcst_48 : cst_48 = Ideal.ofBits .f32 0x42000000#32) :
    k0_pay51 (F := Ideal) v23 v244 cst_48 (ix2 (0 : Fin 1) p) = token (M.i0 G h) (M.x30 G h) := by
  subst hcst_48
  simp only [k0_pay51, mulf_at, addf_at, subf_at, divf_at, maxf_at, minf_at, absf_at, sqrt_at, round_at, toInt_at, toFloat_at, narrow_at, widen_at, maxsi_at, minsi_at, muli_at, addi_at, fill_at, spread_at, bits_one, bits_zero, pay50_at p G h _ _ hv244 rfl, hv23, hv244, sum_mul_hot, sum_hot_mul]
  try rfl

theorem pay52_at (p : Fin 1024) (G : Fin 256 → M.Row) (h : M.Row) (v230 : FVec Ideal S1x1024 .f32)
    (hv230 : v230 (ix2 (0 : Fin 1) p) = M.x31 G h) :
    k0_pay52 (F := Ideal) v230 (ix2 (0 : Fin 1) p) = M.bin (M.x31 G h) := by
  simp only [k0_pay52, mulf_at, addf_at, subf_at, divf_at, maxf_at, minf_at, absf_at, sqrt_at, round_at, toInt_at, toFloat_at, narrow_at, widen_at, maxsi_at, minsi_at, muli_at, addi_at, fill_at, spread_at, bits_one, bits_zero, hv230, sum_mul_hot, sum_hot_mul]
  try rfl

theorem pay53_at (p : Fin 1024) (G : Fin 256 → M.Row) (h : M.Row) (v47 : IVec S1x1024 32) (v230 : FVec Ideal S1x1024 .f32)
    (hv47 : v47 (ix2 (0 : Fin 1) p) = word (M.i1 G h)) (hv230 : v230 (ix2 (0 : Fin 1) p) = M.x31 G h) :
    k0_pay53 (F := Ideal) v47 v230 (ix2 (0 : Fin 1) p) = token (M.i1 G h) (M.x31 G h) := by
  simp only [k0_pay53, mulf_at, addf_at, subf_at, divf_at, maxf_at, minf_at, absf_at, sqrt_at, round_at, toInt_at, toFloat_at, narrow_at, widen_at, maxsi_at, minsi_at, muli_at, addi_at, fill_at, spread_at, bits_one, bits_zero, pay52_at p G h _ hv230, hv47, hv230, sum_mul_hot, sum_hot_mul]
  try rfl

theorem pay54_at (p : Fin 1024) (G : Fin 256 → M.Row) (h : M.Row) (v27 : FVec Ideal S256x1024 .f32) (v51 : FVec Ideal S256x1024 .f32) (v230 : FVec Ideal S1x1024 .f32) (v244 : FVec Ideal S1x1024 .f32) (cst_48 : Ideal .f32)
    (hv27 : ∀ a : Fin 256, v27 (ix2 a p) = hot (M.i0 G h) a) (hv51 : ∀ a : Fin 256, v51 (ix2 a p) = hot (M.i1 G h) a) (hv230 : v230 (ix2 (0 : Fin 1) p) = M.x31 G h) (hv244 : v244 (ix2 (0 : Fin 1) p) = scaled (M.x30 G h)) (hcst_48 : cst_48 = Ideal.ofBits .f32 0x42000000#32) (a : Fin 256) :
    k0_pay54 (F := Ideal) v27 v51 v230 v244 cst_48 (ix2 a p) = centre (M.x30 G h) * hot (M.i0 G h) a + centre (M.x31 G h) * hot (M.i1 G h) a := by
  subst hcst_48
  simp only [k0_pay54, mulf_at, addf_at, subf_at, divf_at, maxf_at, minf_at, absf_at, sqrt_at, round_at, toInt_at, toFloat_at, narrow_at, widen_at, maxsi_at, minsi_at, muli_at, addi_at, fill_at, spread_at, bits_one, bits_zero, pay50_at p G h _ _ hv244 rfl, pay52_at p G h _ hv230, hv27, hv51, hv230, hv244, sum_mul_hot, sum_hot_mul]
  try rfl

theorem pay55_at (p : Fin 1024) (G : Fin 256 → M.Row) (h : M.Row) (v225 : FVec Ideal S1x1024 .f32)
    (hv225 : v225 (ix2 (0 : Fin 1) p) = M.x32 G h) :
    k0_pay55 (F := Ideal) v225 (ix2 (0 : Fin 1) p) = M.bin (M.x32 G h) := by
  simp only [k0_pay55, mulf_at, addf_at, subf_at, divf_at, maxf_at, minf_at, absf_at, sqrt_at, round_at, toInt_at, toFloat_at, narrow_at, widen_at, maxsi_at, minsi_at, muli_at, addi_at, fill_at, spread_at, bits_one, bits_zero, hv225, sum_mul_hot, sum_hot_mul]
  try rfl

theorem pay56_at (p : Fin 1024) (G : Fin 256 → M.Row) (h : M.Row) (v97 : IVec S1x1024 32) (v225 : FVec Ideal S1x1024 .f32)
    (hv97 : v97 (ix2 (0 : Fin 1) p) = word (M.i2 G h)) (hv225 : v225 (ix2 (0 : Fin 1) p) = M.x32 G h) :
    k0_pay56 (F := Ideal) v97 v225 (ix2 (0 : Fin 1) p) = token (M.i2 G h) (M.x32 G h) := by
  simp only [k0_pay56, mulf_at, addf_at, subf_at, divf_at, maxf_at, minf_at, absf_at, sqrt_at, round_at, toInt_at, toFloat_at, narrow_at, widen_at, maxsi_at, minsi_at, muli_at, addi_at, fill_at, spread_at, bits_one, bits_zero, pay55_at p G h _ hv225, hv97, hv225, sum_mul_hot, sum_hot_mul]
  try rfl

theorem pay57_at (p : Fin 1024) (G : Fin 256 → M.Row) (h : M.Row) (v101 : FVec Ideal S256x1024 .f32) (v225 : FVec Ideal S1x1024 .f32) (v289 : FVec Ideal S256x1024 .f32)
    (hv101 : ∀ a : Fin 256, v101 (ix2 a p) = hot (M.i2 G h) a) (hv225 : v225 (ix2 (0 : Fin 1) p) = M.x32 G h) (hv289 : ∀ a : Fin 256, v289 (ix2 a p) = centre (M.x30 G h) * hot (M.i0 G h) a + centre (M.x31 G h) * hot (M.i1 G h) a) (a : Fin 256) :
    k0_pay57 (F := Ideal) v101 v225 v289 (ix2 a p) = centre (M.x30 G h) * hot (M.i0 G h) a + centre (M.x31 G h) * hot (M.i1 G h) a + centre (M.x32 G h) * hot (M.i2 G h) a := by
  simp only [k0_pay57, mulf_at, addf_at, subf_at, divf_at, maxf_at, minf_at, absf_at, sqrt_at, round_at, toInt_at, toFloat_at, narrow_at, widen_at, maxsi_at, minsi_at, muli_at, addi_at, fill_at, spread_at, bits_one, bits_zero, pay55_at p G h _ hv225, hv101, hv225, hv289, sum_mul_hot, sum_hot_mul]
  try rfl

theorem pay58_at (p : Fin 1024) (G : Fin 256 → M.Row) (h : M.Row) (v222 : FVec Ideal S1x1024 .f32)
    (hv222 : v222 (ix2 (0 : Fin 1) p) = M.x33 G h) :
    k0_pay58 (F := Ideal) v222 (ix2 (0 : Fin 1) p) = M.bin (M.x33 G h) := by
  simp only [k0_pay58, mulf_at, addf_at, subf_at, divf_at, maxf_at, minf_at, absf_at, sqrt_at, round_at, toInt_at, toFloat_at, narrow_at, widen_at, maxsi_at, minsi_at, muli_at, addi_at, fill_at, spread_at, bits_one, bits_zero, hv222, sum_mul_hot, sum_hot_mul]
  try rfl

end Cert.Proof.Ker
-- ==== Proof.KerBlock.lean ====
/- The values of one block of the kernel in order, from the block and the three carried arrays, and what each is at a pixel. -/
module

public import proofs.«01_k».proof.Proof.KerAt

@[expose] public section

noncomputable section

namespace Cert.Proof.Ker

open Idealize.ShloMosaic hiding ix0 ix1 ix2 ix3 ix4 eq_ix2
open Idealize.ShloMosaic.ValueIdx
open Cert.KernelIdeal Cert.KernelIdeal.Gen
open Cert.Proof.M (hot sum_mul_hot scaled token middle centre)

section
variable (v3 : Vec Ideal S64x256 .bf16) (v4 : Vec Ideal S256x64 .bf16) (v5 : Vec Ideal S256x256 .f32) (v6 : Vec Ideal S1x64x1024 .f32)

def b9 (v4 : Vec Ideal S256x64 .bf16) (v5 : Vec Ideal S256x256 .f32) (v6 : Vec Ideal S1x64x1024 .f32) : FVec Ideal S256x1024 .f32 := k0_pay7 (F := Ideal) v4 v6

def b10 (v4 : Vec Ideal S256x64 .bf16) (v5 : Vec Ideal S256x256 .f32) (v6 : Vec Ideal S1x64x1024 .f32) : IVec S256x1024 32 := iota .tc S256x1024 32 [0] iota_S256x1024_d0_w32

def b23 (v4 : Vec Ideal S256x64 .bf16) (v5 : Vec Ideal S256x256 .f32) (v6 : Vec Ideal S1x64x1024 .f32) : IVec S1x1024 32 := k0_pay9 (F := Ideal) v4 v6

def b27 (v4 : Vec Ideal S256x64 .bf16) (v5 : Vec Ideal S256x256 .f32) (v6 : Vec Ideal S1x64x1024 .f32) : FVec Ideal S256x1024 .f32 := k0_pay10 (F := Ideal) v4 v6

def b28 (v4 : Vec Ideal S256x64 .bf16) (v5 : Vec Ideal S256x256 .f32) (v6 : Vec Ideal S1x64x1024 .f32) : FVec Ideal S256x1024 .f32 := k0_pay11 (F := Ideal) v4 v6

def b31 (v4 : Vec Ideal S256x64 .bf16) (v5 : Vec Ideal S256x256 .f32) (v6 : Vec Ideal S1x64x1024 .f32) : FVec Ideal S1x1024 .f32 := k0_pay12 (F := Ideal) v4 v6

def b32 (v4 : Vec Ideal S256x64 .bf16) (v5 : Vec Ideal S256x256 .f32) (v6 : Vec Ideal S1x64x1024 .f32) : FVec Ideal S256x1024 .f32 := k0_pay13 (F := Ideal) v4 v5 v6

def b36 (v4 : Vec Ideal S256x64 .bf16) (v5 : Vec Ideal S256x256 .f32) (v6 : Vec Ideal S1x64x1024 .f32) : FVec Ideal S256x1024 .f32 := k0_pay14 (F := Ideal) v4 v5 v6

def b37 (v4 : Vec Ideal S256x64 .bf16) (v5 : Vec Ideal S256x256 .f32) (v6 : Vec Ideal S1x64x1024 .f32) : FVec Ideal S256x1024 .f32 := k0_pay15 (F := Ideal)

def b47 (v4 : Vec Ideal S256x64 .bf16) (v5 : Vec Ideal S256x256 .f32) (v6 : Vec Ideal S1x64x1024 .f32) : IVec S1x1024 32 := k0_pay16 (F := Ideal) (b10 v4 v5 v6) (b28 v4 v5 v6) (b36 v4 v5 v6) (b37 v4 v5 v6)

def b51 (v4 : Vec Ideal S256x64 .bf16) (v5 : Vec Ideal S256x256 .f32) (v6 : Vec Ideal S1x64x1024 .f32) : FVec Ideal S256x1024 .f32 := k0_pay17 (F := Ideal) (b10 v4 v5 v6) (b28 v4 v5 v6) (b36 v4 v5 v6) (b37 v4 v5 v6)

def b52 (v4 : Vec Ideal S256x64 .bf16) (v5 : Vec Ideal S256x256 .f32) (v6 : Vec Ideal S1x64x1024 .f32) : FVec Ideal S256x1024 .f32 := k0_pay18 (F := Ideal) (b10 v4 v5 v6) (b28 v4 v5 v6) (b36 v4 v5 v6) (b37 v4 v5 v6)

def b55 (v4 : Vec Ideal S256x64 .bf16) (v5 : Vec Ideal S256x256 .f32) (v6 : Vec Ideal S1x64x1024 .f32) : FVec Ideal S1x1024 .f32 := k0_pay19 (F := Ideal) (b9 v4 v5 v6) (b10 v4 v5 v6) (b28 v4 v5 v6) (b36 v4 v5 v6) (b37 v4 v5 v6)

def b58 (v4 : Vec Ideal S256x64 .bf16) (v5 : Vec Ideal S256x256 .f32) (v6 : Vec Ideal S1x64x1024 .f32) : FVec Ideal S1x1024 .f32 := k0_pay20 (F := Ideal) (b10 v4 v5 v6) (b28 v4 v5 v6) (b32 v4 v5 v6) (b36 v4 v5 v6) (b37 v4 v5 v6)

def b64 (v4 : Vec Ideal S256x64 .bf16) (v5 : Vec Ideal S256x256 .f32) (v6 : Vec Ideal S1x64x1024 .f32) : FVec Ideal S1x1024 .f32 := k0_pay21 (F := Ideal) (b10 v4 v5 v6) (b28 v4 v5 v6) (b32 v4 v5 v6) (b36 v4 v5 v6) (b37 v4 v5 v6)

def b71 (v4 : Vec Ideal S256x64 .bf16) (v5 : Vec Ideal S256x256 .f32) (v6 : Vec Ideal S1x64x1024 .f32) : FVec Ideal S256x1024 .f32 := k0_pay22 (F := Ideal) v5 (b10 v4 v5 v6) (b28 v4 v5 v6) (b36 v4 v5 v6) (b37 v4 v5 v6)

def b86 (v4 : Vec Ideal S256x64 .bf16) (v5 : Vec Ideal S256x256 .f32) (v6 : Vec Ideal S1x64x1024 .f32) : FVec Ideal S256x1024 .f32 := k0_pay23 (F := Ideal) v5 (b9 v4 v5 v6) (b10 v4 v5 v6) (b28 v4 v5 v6) (b31 v4 v5 v6) (b32 v4 v5 v6) (b36 v4 v5 v6) (b37 v4 v5 v6)

def b88 (v4 : Vec Ideal S256x64 .bf16) (v5 : Vec Ideal S256x256 .f32) (v6 : Vec Ideal S1x64x1024 .f32) : FVec Ideal S256x1024 .f32 := k0_pay24 (F := Ideal) (b10 v4 v5 v6) (b28 v4 v5 v6) (b36 v4 v5 v6) (b37 v4 v5 v6)

def b97 (v4 : Vec Ideal S256x64 .bf16) (v5 : Vec Ideal S256x256 .f32) (v6 : Vec Ideal S1x64x1024 .f32) : IVec S1x1024 32 := k0_pay25 (F := Ideal) (b10 v4 v5 v6) (b86 v4 v5 v6) (b88 v4 v5 v6)

def b101 (v4 : Vec Ideal S256x64 .bf16) (v5 : Vec Ideal S256x256 .f32) (v6 : Vec Ideal S1x64x1024 .f32) : FVec Ideal S256x1024 .f32 := k0_pay26 (F := Ideal) (b10 v4 v5 v6) (b86 v4 v5 v6) (b88 v4 v5 v6)

def b102 (v4 : Vec Ideal S256x64 .bf16) (v5 : Vec Ideal S256x256 .f32) (v6 : Vec Ideal S1x64x1024 .f32) : FVec Ideal S256x1024 .f32 := k0_pay27 (F := Ideal) (b10 v4 v5 v6) (b52 v4 v5 v6) (b86 v4 v5 v6) (b88 v4 v5 v6)

def b105 (v4 : Vec Ideal S256x64 .bf16) (v5 : Vec Ideal S256x256 .f32) (v6 : Vec Ideal S1x64x1024 .f32) : FVec Ideal S1x1024 .f32 := k0_pay28 (F := Ideal) (b9 v4 v5 v6) (b10 v4 v5 v6) (b86 v4 v5 v6) (b88 v4 v5 v6)

def b108 (v4 : Vec Ideal S256x64 .bf16) (v5 : Vec Ideal S256x256 .f32) (v6 : Vec Ideal S1x64x1024 .f32) : FVec Ideal S1x1024 .f32 := k0_pay29 (F := Ideal) (b10 v4 v5 v6) (b32 v4 v5 v6) (b86 v4 v5 v6) (b88 v4 v5 v6)

def b114 (v4 : Vec Ideal S256x64 .bf16) (v5 : Vec Ideal S256x256 .f32) (v6 : Vec Ideal S1x64x1024 .f32) : FVec Ideal S1x1024 .f32 := k0_pay30 (F := Ideal) (b10 v4 v5 v6) (b32 v4 v5 v6) (b58 v4 v5 v6) (b64 v4 v5 v6) (b71 v4 v5 v6) (b86 v4 v5 v6) (b88 v4 v5 v6)

def b122 (v4 : Vec Ideal S256x64 .bf16) (v5 : Vec Ideal S256x256 .f32) (v6 : Vec Ideal S1x64x1024 .f32) : FVec Ideal S1x1024 .f32 := k0_pay31 (F := Ideal) (b10 v4 v5 v6) (b32 v4 v5 v6) (b58 v4 v5 v6) (b64 v4 v5 v6) (b71 v4 v5 v6) (b86 v4 v5 v6) (b88 v4 v5 v6)

def b131 (v4 : Vec Ideal S256x64 .bf16) (v5 : Vec Ideal S256x256 .f32) (v6 : Vec Ideal S1x64x1024 .f32) : FVec Ideal S1x1024 .f32 := k0_pay33 (F := Ideal) (b9 v4 v5 v6) (b10 v4 v5 v6) (b31 v4 v5 v6) (b32 v4 v5 v6) (b55 v4 v5 v6) (b58 v4 v5 v6) (b64 v4 v5 v6) (b71 v4 v5 v6) (b86 v4 v5 v6) (b88 v4 v5 v6)

def b134 (v4 : Vec Ideal S256x64 .bf16) (v5 : Vec Ideal S256x256 .f32) (v6 : Vec Ideal S1x64x1024 .f32) : FVec Ideal S1x1024 .f32 := k0_pay34 (F := Ideal) (b9 v4 v5 v6) (b10 v4 v5 v6) (b31 v4 v5 v6) (b32 v4 v5 v6) (b55 v4 v5 v6) (b58 v4 v5 v6) (b64 v4 v5 v6) (b71 v4 v5 v6) (b86 v4 v5 v6) (b88 v4 v5 v6)

def b138 (v4 : Vec Ideal S256x64 .bf16) (v5 : Vec Ideal S256x256 .f32) (v6 : Vec Ideal S1x64x1024 .f32) : FVec Ideal S1x1024 .f32 := k0_pay35 (F := Ideal) (b9 v4 v5 v6) (b10 v4 v5 v6) (b31 v4 v5 v6) (b32 v4 v5 v6) (b55 v4 v5 v6) (b58 v4 v5 v6) (b64 v4 v5 v6) (b71 v4 v5 v6) (b86 v4 v5 v6) (b88 v4 v5 v6)

def b139 (v4 : Vec Ideal S256x64 .bf16) (v5 : Vec Ideal S256x256 .f32) (v6 : Vec Ideal S1x64x1024 .f32) : FVec Ideal S256x1024 .f32 := k0_pay36 (F := Ideal) v5 (b10 v4 v5 v6) (b86 v4 v5 v6) (b88 v4 v5 v6)

def b172 (v4 : Vec Ideal S256x64 .bf16) (v5 : Vec Ideal S256x256 .f32) (v6 : Vec Ideal S1x64x1024 .f32) : IVec S1x1024 32 := k0_pay37 (F := Ideal) (b9 v4 v5 v6) (b10 v4 v5 v6) (b32 v4 v5 v6) (b71 v4 v5 v6) (b102 v4 v5 v6) (b131 v4 v5 v6) (b134 v4 v5 v6) (b138 v4 v5 v6) (b139 v4 v5 v6)

def b176 (v4 : Vec Ideal S256x64 .bf16) (v5 : Vec Ideal S256x256 .f32) (v6 : Vec Ideal S1x64x1024 .f32) : FVec Ideal S256x1024 .f32 := k0_pay38 (F := Ideal) (b9 v4 v5 v6) (b10 v4 v5 v6) (b32 v4 v5 v6) (b71 v4 v5 v6) (b102 v4 v5 v6) (b131 v4 v5 v6) (b134 v4 v5 v6) (b138 v4 v5 v6) (b139 v4 v5 v6)

def b179 (v4 : Vec Ideal S256x64 .bf16) (v5 : Vec Ideal S256x256 .f32) (v6 : Vec Ideal S1x64x1024 .f32) : FVec Ideal S1x1024 .f32 := k0_pay39 (F := Ideal) (b9 v4 v5 v6) (b10 v4 v5 v6) (b32 v4 v5 v6) (b71 v4 v5 v6) (b102 v4 v5 v6) (b131 v4 v5 v6) (b134 v4 v5 v6) (b138 v4 v5 v6) (b139 v4 v5 v6)

def b182 (v4 : Vec Ideal S256x64 .bf16) (v5 : Vec Ideal S256x256 .f32) (v6 : Vec Ideal S1x64x1024 .f32) : FVec Ideal S1x1024 .f32 := k0_pay40 (F := Ideal) (b9 v4 v5 v6) (b10 v4 v5 v6) (b32 v4 v5 v6) (b71 v4 v5 v6) (b102 v4 v5 v6) (b131 v4 v5 v6) (b134 v4 v5 v6) (b138 v4 v5 v6) (b139 v4 v5 v6)

def b188 (v4 : Vec Ideal S256x64 .bf16) (v5 : Vec Ideal S256x256 .f32) (v6 : Vec Ideal S1x64x1024 .f32) : FVec Ideal S1x1024 .f32 := k0_pay41 (F := Ideal) (b9 v4 v5 v6) (b10 v4 v5 v6) (b32 v4 v5 v6) (b58 v4 v5 v6) (b64 v4 v5 v6) (b71 v4 v5 v6) (b102 v4 v5 v6) (b131 v4 v5 v6) (b134 v4 v5 v6) (b138 v4 v5 v6) (b139 v4 v5 v6)

def b191 (v4 : Vec Ideal S256x64 .bf16) (v5 : Vec Ideal S256x256 .f32) (v6 : Vec Ideal S1x64x1024 .f32) : FVec Ideal S1x1024 .f32 := k0_pay42 (F := Ideal) (b9 v4 v5 v6) (b10 v4 v5 v6) (b32 v4 v5 v6) (b71 v4 v5 v6) (b102 v4 v5 v6) (b131 v4 v5 v6) (b134 v4 v5 v6) (b138 v4 v5 v6) (b139 v4 v5 v6)

def b222 (v4 : Vec Ideal S256x64 .bf16) (v5 : Vec Ideal S256x256 .f32) (v6 : Vec Ideal S1x64x1024 .f32) : FVec Ideal S1x1024 .f32 := k0_pay46 (F := Ideal) (b31 v4 v5 v6) (b55 v4 v5 v6) (b58 v4 v5 v6) (b64 v4 v5 v6) (b105 v4 v5 v6) (b108 v4 v5 v6) (b114 v4 v5 v6) (b122 v4 v5 v6) (b179 v4 v5 v6) (b182 v4 v5 v6) (b188 v4 v5 v6) (b191 v4 v5 v6)

def b225 (v4 : Vec Ideal S256x64 .bf16) (v5 : Vec Ideal S256x256 .f32) (v6 : Vec Ideal S1x64x1024 .f32) : FVec Ideal S1x1024 .f32 := k0_pay47 (F := Ideal) (b31 v4 v5 v6) (b55 v4 v5 v6) (b58 v4 v5 v6) (b64 v4 v5 v6) (b105 v4 v5 v6) (b108 v4 v5 v6) (b114 v4 v5 v6) (b122 v4 v5 v6) (b179 v4 v5 v6) (b182 v4 v5 v6) (b188 v4 v5 v6) (b191 v4 v5 v6)

def b230 (v4 : Vec Ideal S256x64 .bf16) (v5 : Vec Ideal S256x256 .f32) (v6 : Vec Ideal S1x64x1024 .f32) : FVec Ideal S1x1024 .f32 := k0_pay48 (F := Ideal) (b31 v4 v5 v6) (b55 v4 v5 v6) (b58 v4 v5 v6) (b64 v4 v5 v6) (b105 v4 v5 v6) (b108 v4 v5 v6) (b114 v4 v5 v6) (b122 v4 v5 v6) (b179 v4 v5 v6) (b182 v4 v5 v6) (b188 v4 v5 v6) (b191 v4 v5 v6)

def b244 (v4 : Vec Ideal S256x64 .bf16) (v5 : Vec Ideal S256x256 .f32) (v6 : Vec Ideal S1x64x1024 .f32) : FVec Ideal S1x1024 .f32 := k0_pay49 (F := Ideal) (b31 v4 v5 v6) (b55 v4 v5 v6) (b58 v4 v5 v6) (b64 v4 v5 v6) (b105 v4 v5 v6) (b108 v4 v5 v6) (b114 v4 v5 v6) (b122 v4 v5 v6) (b179 v4 v5 v6) (b182 v4 v5 v6) (b188 v4 v5 v6) (b191 v4 v5 v6)

def b48 (v4 : Vec Ideal S256x64 .bf16) (v5 : Vec Ideal S256x256 .f32) (v6 : Vec Ideal S1x64x1024 .f32) : Ideal .f32 := Scalar.ofBits .f32 0x42000000#32

def b260 (v4 : Vec Ideal S256x64 .bf16) (v5 : Vec Ideal S256x256 .f32) (v6 : Vec Ideal S1x64x1024 .f32) : IVec S1x1024 32 := k0_pay51 (F := Ideal) (b23 v4 v5 v6) (b244 v4 v5 v6) (b48 v4 v5 v6)

def b286 (v4 : Vec Ideal S256x64 .bf16) (v5 : Vec Ideal S256x256 .f32) (v6 : Vec Ideal S1x64x1024 .f32) : IVec S1x1024 32 := k0_pay53 (F := Ideal) (b47 v4 v5 v6) (b230 v4 v5 v6)

def b289 (v4 : Vec Ideal S256x64 .bf16) (v5 : Vec Ideal S256x256 .f32) (v6 : Vec Ideal S1x64x1024 .f32) : FVec Ideal S256x1024 .f32 := k0_pay54 (F := Ideal) (b27 v4 v5 v6) (b51 v4 v5 v6) (b230 v4 v5 v6) (b244 v4 v5 v6) (b48 v4 v5 v6)

def b313 (v4 : Vec Ideal S256x64 .bf16) (v5 : Vec Ideal S256x256 .f32) (v6 : Vec Ideal S1x64x1024 .f32) : IVec S1x1024 32 := k0_pay56 (F := Ideal) (b97 v4 v5 v6) (b225 v4 v5 v6)

def b316 (v4 : Vec Ideal S256x64 .bf16) (v5 : Vec Ideal S256x256 .f32) (v6 : Vec Ideal S1x64x1024 .f32) : FVec Ideal S256x1024 .f32 := k0_pay57 (F := Ideal) (b101 v4 v5 v6) (b225 v4 v5 v6) (b289 v4 v5 v6)

def b332 (v4 : Vec Ideal S256x64 .bf16) (v5 : Vec Ideal S256x256 .f32) (v6 : Vec Ideal S1x64x1024 .f32) : IVec S1x1024 32 := k0_pay58 (F := Ideal) (b222 v4 v5 v6)

variable {v3 v4 v5 v6} {p : Fin 1024} {G : Fin 256 → M.Row} {h : M.Row}

theorem b10_at (hG : ∀ a b : Fin 256, v5 (ix2 a b) = G b a) (h9 : ∀ a : Fin 256, b9 v4 v5 v6 (ix2 a p) = h a) : ∀ a : Fin 256, b10 v4 v5 v6 (ix2 a p) = word a := fun a => iota_at a p

theorem b23_at (hG : ∀ a b : Fin 256, v5 (ix2 a b) = G b a) (h9 : ∀ a : Fin 256, b9 v4 v5 v6 (ix2 a p) = h a) : b23 v4 v5 v6 (ix2 (0 : Fin 1) p) = word (M.i0 G h) := pay9_at p G h _ _ h9

theorem b27_at (hG : ∀ a b : Fin 256, v5 (ix2 a b) = G b a) (h9 : ∀ a : Fin 256, b9 v4 v5 v6 (ix2 a p) = h a) : ∀ a : Fin 256, b27 v4 v5 v6 (ix2 a p) = hot (M.i0 G h) a := pay10_at p G h _ _ h9

theorem b28_at (hG : ∀ a b : Fin 256, v5 (ix2 a b) = G b a) (h9 : ∀ a : Fin 256, b9 v4 v5 v6 (ix2 a p) = h a) : ∀ a : Fin 256, b28 v4 v5 v6 (ix2 a p) = mark (M.m1 G h) a := pay11_at p G h _ _ h9

theorem b31_at (hG : ∀ a b : Fin 256, v5 (ix2 a b) = G b a) (h9 : ∀ a : Fin 256, b9 v4 v5 v6 (ix2 a p) = h a) : b31 v4 v5 v6 (ix2 (0 : Fin 1) p) = M.y0 G h := pay12_at p G h _ _ h9

theorem b32_at (hG : ∀ a b : Fin 256, v5 (ix2 a b) = G b a) (h9 : ∀ a : Fin 256, b9 v4 v5 v6 (ix2 a p) = h a) : ∀ a : Fin 256, b32 v4 v5 v6 (ix2 a p) = G (M.i0 G h) a := pay13_at p G h _ _ _ h9 hG

theorem b36_at (hG : ∀ a b : Fin 256, v5 (ix2 a b) = G b a) (h9 : ∀ a : Fin 256, b9 v4 v5 v6 (ix2 a p) = h a) : ∀ a : Fin 256, b36 v4 v5 v6 (ix2 a p) = max (M.h1 G h a) (-M.h1 G h a) := pay14_at p G h _ _ _ h9 hG

theorem b37_at (hG : ∀ a b : Fin 256, v5 (ix2 a b) = G b a) (h9 : ∀ a : Fin 256, b9 v4 v5 v6 (ix2 a p) = h a) : ∀ a : Fin 256, b37 v4 v5 v6 (ix2 a p) = 1 := fun a => bits_one

theorem b47_at (hG : ∀ a b : Fin 256, v5 (ix2 a b) = G b a) (h9 : ∀ a : Fin 256, b9 v4 v5 v6 (ix2 a p) = h a) : b47 v4 v5 v6 (ix2 (0 : Fin 1) p) = word (M.i1 G h) := pay16_at p G h _ _ _ _ (b10_at hG h9) (b28_at hG h9) (b36_at hG h9) (b37_at hG h9)

theorem b51_at (hG : ∀ a b : Fin 256, v5 (ix2 a b) = G b a) (h9 : ∀ a : Fin 256, b9 v4 v5 v6 (ix2 a p) = h a) : ∀ a : Fin 256, b51 v4 v5 v6 (ix2 a p) = hot (M.i1 G h) a := pay17_at p G h _ _ _ _ (b10_at hG h9) (b28_at hG h9) (b36_at hG h9) (b37_at hG h9)

theorem b52_at (hG : ∀ a b : Fin 256, v5 (ix2 a b) = G b a) (h9 : ∀ a : Fin 256, b9 v4 v5 v6 (ix2 a p) = h a) : ∀ a : Fin 256, b52 v4 v5 v6 (ix2 a p) = mark (M.m2 G h) a := pay18_at p G h _ _ _ _ (b10_at hG h9) (b28_at hG h9) (b36_at hG h9) (b37_at hG h9)

theorem b55_at (hG : ∀ a b : Fin 256, v5 (ix2 a b) = G b a) (h9 : ∀ a : Fin 256, b9 v4 v5 v6 (ix2 a p) = h a) : b55 v4 v5 v6 (ix2 (0 : Fin 1) p) = h (M.i1 G h) := pay19_at p G h _ _ _ _ _ h9 (b10_at hG h9) (b28_at hG h9) (b36_at hG h9) (b37_at hG h9)

theorem b58_at (hG : ∀ a b : Fin 256, v5 (ix2 a b) = G b a) (h9 : ∀ a : Fin 256, b9 v4 v5 v6 (ix2 a p) = h a) : b58 v4 v5 v6 (ix2 (0 : Fin 1) p) = M.w10 G h := pay20_at p G h _ _ _ _ _ (b10_at hG h9) (b28_at hG h9) (b32_at hG h9) (b36_at hG h9) (b37_at hG h9)

theorem b64_at (hG : ∀ a b : Fin 256, v5 (ix2 a b) = G b a) (h9 : ∀ a : Fin 256, b9 v4 v5 v6 (ix2 a p) = h a) : b64 v4 v5 v6 (ix2 (0 : Fin 1) p) = M.l1 G h := pay21_at p G h _ _ _ _ _ (b10_at hG h9) (b28_at hG h9) (b32_at hG h9) (b36_at hG h9) (b37_at hG h9)

theorem b71_at (hG : ∀ a b : Fin 256, v5 (ix2 a b) = G b a) (h9 : ∀ a : Fin 256, b9 v4 v5 v6 (ix2 a p) = h a) : ∀ a : Fin 256, b71 v4 v5 v6 (ix2 a p) = G (M.i1 G h) a := pay22_at p G h _ _ _ _ _ hG (b10_at hG h9) (b28_at hG h9) (b36_at hG h9) (b37_at hG h9)

theorem b86_at (hG : ∀ a b : Fin 256, v5 (ix2 a b) = G b a) (h9 : ∀ a : Fin 256, b9 v4 v5 v6 (ix2 a p) = h a) : ∀ a : Fin 256, b86 v4 v5 v6 (ix2 a p) = max (M.h2 G h a) (-M.h2 G h a) := pay23_at p G h _ _ _ _ _ _ _ _ hG h9 (b10_at hG h9) (b28_at hG h9) (b31_at hG h9) (b32_at hG h9) (b36_at hG h9) (b37_at hG h9)

theorem b88_at (hG : ∀ a b : Fin 256, v5 (ix2 a b) = G b a) (h9 : ∀ a : Fin 256, b9 v4 v5 v6 (ix2 a p) = h a) : ∀ a : Fin 256, b88 v4 v5 v6 (ix2 a p) = 1 - mark (M.m2 G h) a := pay24_at p G h _ _ _ _ (b10_at hG h9) (b28_at hG h9) (b36_at hG h9) (b37_at hG h9)

theorem b97_at (hG : ∀ a b : Fin 256, v5 (ix2 a b) = G b a) (h9 : ∀ a : Fin 256, b9 v4 v5 v6 (ix2 a p) = h a) : b97 v4 v5 v6 (ix2 (0 : Fin 1) p) = word (M.i2 G h) := pay25_at p G h _ _ _ (b10_at hG h9) (b86_at hG h9) (b88_at hG h9)

theorem b101_at (hG : ∀ a b : Fin 256, v5 (ix2 a b) = G b a) (h9 : ∀ a : Fin 256, b9 v4 v5 v6 (ix2 a p) = h a) : ∀ a : Fin 256, b101 v4 v5 v6 (ix2 a p) = hot (M.i2 G h) a := pay26_at p G h _ _ _ (b10_at hG h9) (b86_at hG h9) (b88_at hG h9)

theorem b102_at (hG : ∀ a b : Fin 256, v5 (ix2 a b) = G b a) (h9 : ∀ a : Fin 256, b9 v4 v5 v6 (ix2 a p) = h a) : ∀ a : Fin 256, b102 v4 v5 v6 (ix2 a p) = mark (M.m3 G h) a := pay27_at p G h _ _ _ _ (b10_at hG h9) (b52_at hG h9) (b86_at hG h9) (b88_at hG h9)

theorem b105_at (hG : ∀ a b : Fin 256, v5 (ix2 a b) = G b a) (h9 : ∀ a : Fin 256, b9 v4 v5 v6 (ix2 a p) = h a) : b105 v4 v5 v6 (ix2 (0 : Fin 1) p) = h (M.i2 G h) := pay28_at p G h _ _ _ _ h9 (b10_at hG h9) (b86_at hG h9) (b88_at hG h9)

theorem b108_at (hG : ∀ a b : Fin 256, v5 (ix2 a b) = G b a) (h9 : ∀ a : Fin 256, b9 v4 v5 v6 (ix2 a p) = h a) : b108 v4 v5 v6 (ix2 (0 : Fin 1) p) = M.w20 G h := pay29_at p G h _ _ _ _ (b10_at hG h9) (b32_at hG h9) (b86_at hG h9) (b88_at hG h9)

theorem b114_at (hG : ∀ a b : Fin 256, v5 (ix2 a b) = G b a) (h9 : ∀ a : Fin 256, b9 v4 v5 v6 (ix2 a p) = h a) : b114 v4 v5 v6 (ix2 (0 : Fin 1) p) = M.w21 G h := pay30_at p G h _ _ _ _ _ _ _ (b10_at hG h9) (b32_at hG h9) (b58_at hG h9) (b64_at hG h9) (b71_at hG h9) (b86_at hG h9) (b88_at hG h9)

theorem b122_at (hG : ∀ a b : Fin 256, v5 (ix2 a b) = G b a) (h9 : ∀ a : Fin 256, b9 v4 v5 v6 (ix2 a p) = h a) : b122 v4 v5 v6 (ix2 (0 : Fin 1) p) = M.l2 G h := pay31_at p G h _ _ _ _ _ _ _ (b10_at hG h9) (b32_at hG h9) (b58_at hG h9) (b64_at hG h9) (b71_at hG h9) (b86_at hG h9) (b88_at hG h9)

theorem b131_at (hG : ∀ a b : Fin 256, v5 (ix2 a b) = G b a) (h9 : ∀ a : Fin 256, b9 v4 v5 v6 (ix2 a p) = h a) : b131 v4 v5 v6 (ix2 (0 : Fin 1) p) = M.x22 G h := pay33_at p G h _ _ _ _ _ _ _ _ _ _ h9 (b10_at hG h9) (b31_at hG h9) (b32_at hG h9) (b55_at hG h9) (b58_at hG h9) (b64_at hG h9) (b71_at hG h9) (b86_at hG h9) (b88_at hG h9)

theorem b134_at (hG : ∀ a b : Fin 256, v5 (ix2 a b) = G b a) (h9 : ∀ a : Fin 256, b9 v4 v5 v6 (ix2 a p) = h a) : b134 v4 v5 v6 (ix2 (0 : Fin 1) p) = M.x21 G h := pay34_at p G h _ _ _ _ _ _ _ _ _ _ h9 (b10_at hG h9) (b31_at hG h9) (b32_at hG h9) (b55_at hG h9) (b58_at hG h9) (b64_at hG h9) (b71_at hG h9) (b86_at hG h9) (b88_at hG h9)

theorem b138_at (hG : ∀ a b : Fin 256, v5 (ix2 a b) = G b a) (h9 : ∀ a : Fin 256, b9 v4 v5 v6 (ix2 a p) = h a) : b138 v4 v5 v6 (ix2 (0 : Fin 1) p) = M.x20 G h := pay35_at p G h _ _ _ _ _ _ _ _ _ _ h9 (b10_at hG h9) (b31_at hG h9) (b32_at hG h9) (b55_at hG h9) (b58_at hG h9) (b64_at hG h9) (b71_at hG h9) (b86_at hG h9) (b88_at hG h9)

theorem b139_at (hG : ∀ a b : Fin 256, v5 (ix2 a b) = G b a) (h9 : ∀ a : Fin 256, b9 v4 v5 v6 (ix2 a p) = h a) : ∀ a : Fin 256, b139 v4 v5 v6 (ix2 a p) = G (M.i2 G h) a := pay36_at p G h _ _ _ _ hG (b10_at hG h9) (b86_at hG h9) (b88_at hG h9)

theorem b172_at (hG : ∀ a b : Fin 256, v5 (ix2 a b) = G b a) (h9 : ∀ a : Fin 256, b9 v4 v5 v6 (ix2 a p) = h a) : b172 v4 v5 v6 (ix2 (0 : Fin 1) p) = word (M.i3 G h) := pay37_at p G h _ _ _ _ _ _ _ _ _ h9 (b10_at hG h9) (b32_at hG h9) (b71_at hG h9) (b102_at hG h9) (b131_at hG h9) (b134_at hG h9) (b138_at hG h9) (b139_at hG h9)

theorem b176_at (hG : ∀ a b : Fin 256, v5 (ix2 a b) = G b a) (h9 : ∀ a : Fin 256, b9 v4 v5 v6 (ix2 a p) = h a) : ∀ a : Fin 256, b176 v4 v5 v6 (ix2 a p) = hot (M.i3 G h) a := pay38_at p G h _ _ _ _ _ _ _ _ _ h9 (b10_at hG h9) (b32_at hG h9) (b71_at hG h9) (b102_at hG h9) (b131_at hG h9) (b134_at hG h9) (b138_at hG h9) (b139_at hG h9)

theorem b179_at (hG : ∀ a b : Fin 256, v5 (ix2 a b) = G b a) (h9 : ∀ a : Fin 256, b9 v4 v5 v6 (ix2 a p) = h a) : b179 v4 v5 v6 (ix2 (0 : Fin 1) p) = h (M.i3 G h) := pay39_at p G h _ _ _ _ _ _ _ _ _ h9 (b10_at hG h9) (b32_at hG h9) (b71_at hG h9) (b102_at hG h9) (b131_at hG h9) (b134_at hG h9) (b138_at hG h9) (b139_at hG h9)

theorem b182_at (hG : ∀ a b : Fin 256, v5 (ix2 a b) = G b a) (h9 : ∀ a : Fin 256, b9 v4 v5 v6 (ix2 a p) = h a) : b182 v4 v5 v6 (ix2 (0 : Fin 1) p) = M.w30 G h := pay40_at p G h _ _ _ _ _ _ _ _ _ h9 (b10_at hG h9) (b32_at hG h9) (b71_at hG h9) (b102_at hG h9) (b131_at hG h9) (b134_at hG h9) (b138_at hG h9) (b139_at hG h9)

theorem b188_at (hG : ∀ a b : Fin 256, v5 (ix2 a b) = G b a) (h9 : ∀ a : Fin 256, b9 v4 v5 v6 (ix2 a p) = h a) : b188 v4 v5 v6 (ix2 (0 : Fin 1) p) = M.w31 G h := pay41_at p G h _ _ _ _ _ _ _ _ _ _ _ h9 (b10_at hG h9) (b32_at hG h9) (b58_at hG h9) (b64_at hG h9) (b71_at hG h9) (b102_at hG h9) (b131_at hG h9) (b134_at hG h9) (b138_at hG h9) (b139_at hG h9)

theorem b191_at (hG : ∀ a b : Fin 256, v5 (ix2 a b) = G b a) (h9 : ∀ a : Fin 256, b9 v4 v5 v6 (ix2 a p) = h a) : b191 v4 v5 v6 (ix2 (0 : Fin 1) p) = G (M.i2 G h) (M.i3 G h) := pay42_at p G h _ _ _ _ _ _ _ _ _ h9 (b10_at hG h9) (b32_at hG h9) (b71_at hG h9) (b102_at hG h9) (b131_at hG h9) (b134_at hG h9) (b138_at hG h9) (b139_at hG h9)

theorem b222_at (hG : ∀ a b : Fin 256, v5 (ix2 a b) = G b a) (h9 : ∀ a : Fin 256, b9 v4 v5 v6 (ix2 a p) = h a) : b222 v4 v5 v6 (ix2 (0 : Fin 1) p) = M.x33 G h := pay46_at p G h _ _ _ _ _ _ _ _ _ _ _ _ (b31_at hG h9) (b55_at hG h9) (b58_at hG h9) (b64_at hG h9) (b105_at hG h9) (b108_at hG h9) (b114_at hG h9) (b122_at hG h9) (b179_at hG h9) (b182_at hG h9) (b188_at hG h9) (b191_at hG h9)

theorem b225_at (hG : ∀ a b : Fin 256, v5 (ix2 a b) = G b a) (h9 : ∀ a : Fin 256, b9 v4 v5 v6 (ix2 a p) = h a) : b225 v4 v5 v6 (ix2 (0 : Fin 1) p) = M.x32 G h := pay47_at p G h _ _ _ _ _ _ _ _ _ _ _ _ (b31_at hG h9) (b55_at hG h9) (b58_at hG h9) (b64_at hG h9) (b105_at hG h9) (b108_at hG h9) (b114_at hG h9) (b122_at hG h9) (b179_at hG h9) (b182_at hG h9) (b188_at hG h9) (b191_at hG h9)

theorem b230_at (hG : ∀ a b : Fin 256, v5 (ix2 a b) = G b a) (h9 : ∀ a : Fin 256, b9 v4 v5 v6 (ix2 a p) = h a) : b230 v4 v5 v6 (ix2 (0 : Fin 1) p) = M.x31 G h := pay48_at p G h _ _ _ _ _ _ _ _ _ _ _ _ (b31_at hG h9) (b55_at hG h9) (b58_at hG h9) (b64_at hG h9) (b105_at hG h9) (b108_at hG h9) (b114_at hG h9) (b122_at hG h9) (b179_at hG h9) (b182_at hG h9) (b188_at hG h9) (b191_at hG h9)

theorem b244_at (hG : ∀ a b : Fin 256, v5 (ix2 a b) = G b a) (h9 : ∀ a : Fin 256, b9 v4 v5 v6 (ix2 a p) = h a) : b244 v4 v5 v6 (ix2 (0 : Fin 1) p) = scaled (M.x30 G h) := pay49_at p G h _ _ _ _ _ _ _ _ _ _ _ _ (b31_at hG h9) (b55_at hG h9) (b58_at hG h9) (b64_at hG h9) (b105_at hG h9) (b108_at hG h9) (b114_at hG h9) (b122_at hG h9) (b179_at hG h9) (b182_at hG h9) (b188_at hG h9) (b191_at hG h9)

theorem b48_at (hG : ∀ a b : Fin 256, v5 (ix2 a b) = G b a) (h9 : ∀ a : Fin 256, b9 v4 v5 v6 (ix2 a p) = h a) : b48 v4 v5 v6 = Ideal.ofBits .f32 0x42000000#32 := rfl

theorem b260_at (hG : ∀ a b : Fin 256, v5 (ix2 a b) = G b a) (h9 : ∀ a : Fin 256, b9 v4 v5 v6 (ix2 a p) = h a) : b260 v4 v5 v6 (ix2 (0 : Fin 1) p) = token (M.i0 G h) (M.x30 G h) := pay51_at p G h _ _ _ (b23_at hG h9) (b244_at hG h9) (b48_at hG h9)

theorem b286_at (hG : ∀ a b : Fin 256, v5 (ix2 a b) = G b a) (h9 : ∀ a : Fin 256, b9 v4 v5 v6 (ix2 a p) = h a) : b286 v4 v5 v6 (ix2 (0 : Fin 1) p) = token (M.i1 G h) (M.x31 G h) := pay53_at p G h _ _ (b47_at hG h9) (b230_at hG h9)

theorem b289_at (hG : ∀ a b : Fin 256, v5 (ix2 a b) = G b a) (h9 : ∀ a : Fin 256, b9 v4 v5 v6 (ix2 a p) = h a) : ∀ a : Fin 256, b289 v4 v5 v6 (ix2 a p) = centre (M.x30 G h) * hot (M.i0 G h) a + centre (M.x31 G h) * hot (M.i1 G h) a := pay54_at p G h _ _ _ _ _ (b27_at hG h9) (b51_at hG h9) (b230_at hG h9) (b244_at hG h9) (b48_at hG h9)

theorem b313_at (hG : ∀ a b : Fin 256, v5 (ix2 a b) = G b a) (h9 : ∀ a : Fin 256, b9 v4 v5 v6 (ix2 a p) = h a) : b313 v4 v5 v6 (ix2 (0 : Fin 1) p) = token (M.i2 G h) (M.x32 G h) := pay56_at p G h _ _ (b97_at hG h9) (b225_at hG h9)

theorem b316_at (hG : ∀ a b : Fin 256, v5 (ix2 a b) = G b a) (h9 : ∀ a : Fin 256, b9 v4 v5 v6 (ix2 a p) = h a) : ∀ a : Fin 256, b316 v4 v5 v6 (ix2 a p) = centre (M.x30 G h) * hot (M.i0 G h) a + centre (M.x31 G h) * hot (M.i1 G h) a + centre (M.x32 G h) * hot (M.i2 G h) a := pay57_at p G h _ _ _ (b101_at hG h9) (b225_at hG h9) (b289_at hG h9)

theorem b332_at (hG : ∀ a b : Fin 256, v5 (ix2 a b) = G b a) (h9 : ∀ a : Fin 256, b9 v4 v5 v6 (ix2 a p) = h a) : b332 v4 v5 v6 (ix2 (0 : Fin 1) p) = M.bin (M.x33 G h) := pay58_at p G h _ (b222_at hG h9)

end

end Cert.Proof.Ker
-- ==== Proof.KerOut.lean ====
/- The three results of one block of the kernel, and the three arrays it carries between blocks, as the plain formulas. -/
module

public import proofs.«01_k».proof.Proof.KerBlock

@[expose] public section

noncomputable section

namespace Cert.Proof.Ker

open Idealize.ShloMosaic hiding ix0 ix1 ix2 ix3 ix4 eq_ix2
open Idealize.ShloMosaic.ValueIdx
open Cert.KernelIdeal Cert.KernelIdeal.Gen
open Cert.Proof.M (hot sum_mul_hot scaled token middle centre)

/-! ## The carried arrays -/

theorem lenRow_at {α : Type} (x : S256.Idx → α) (h : S256.ShapeCasts S1x256) (a : Fin 256) :
    shapeCast S1x256 x h (ix2 (0 : Fin 1) a) = x (ix1 a) :=
  shapeCast_apply x h (ix2 (0 : Fin 1) a) (ix1 a) (by
    have e1 := Shape.rowMajor_val_two (ix2 (0 : Fin 1) a)
    have e2 := Shape.rowMajor_val_one (ix1 a)
    rw [e1, e2]
    show a.val = 0 * 256 + a.val
    omega)

theorem lenSum_at (x : FVec Ideal S64x256 .f32) (a : Fin 256) :
    shapeCast S1x256 (multiReduction .add [0] S256 x 0x00000000#32 reduces_S64x256_S256 (.inl rfl) rfl) shapeCasts_S256_S1x256
      (ix2 (0 : Fin 1) a) = ∑ c : Fin 64, x (ix2 c a) := by
  rw [lenRow_at]
  exact reduces_S64x256_S256.sum_fiber_r2_a0 (ix1 a) x

theorem lenSpread_at {α : Type} (x : S1x256.Idx → α) (h : S1x256.Broadcasts S64x256) (c : Fin 64) (a : Fin 256) :
    broadcastTo S64x256 x h (ix2 c a) = x (ix2 (0 : Fin 1) a) := by
  unfold broadcastTo
  refine congrArg x (funext fun b => Fin.ext ?_)
  match b with
  | ⟨0, _⟩ => rfl
  | ⟨1, _⟩ => rfl

/-- The unit atoms. -/
theorem pay2_at (x : Vec Ideal S64x256 .f32) (c : Fin 64) (a : Fin 256) :
    k0_pay2 (F := Ideal) x (ix2 c a) = M.unit (fun c a => x (ix2 c a)) c a := by
  simp only [k0_pay2, narrow_at, divf_at, lenSpread_at, maxf_at, sqrt_at, fill_at]
  rw [lenSum_at]
  rfl

theorem pay3_at (x : Vec Ideal S64x256 .f32) (c : Fin 64) (a : Fin 256) :
    k0_pay3 (F := Ideal) x (ix2 c a) = M.unit (fun c a => x (ix2 c a)) c a := by
  rw [← pay2_at]
  exact shapeCast_apply (k0_pay2 x) shapeCasts_S64x256_S64x256 (ix2 c a) (ix2 c a) rfl

theorem flip_at (x : Vec Ideal S64x256 .bf16) (c : Fin 64) (a : Fin 256) :
    transpose S256x64 [1, 0] x transposes_S64x256_p1_0_S256x64 (ix2 a c) = x (ix2 c a) :=
  transpose_apply _ x _ _ (ix2 c a) (fun b => match b with | ⟨0, _⟩ => rfl | ⟨1, _⟩ => rfl)

theorem pay4_at (x : Vec Ideal S64x256 .f32) (c : Fin 64) (a : Fin 256) :
    k0_pay4 (F := Ideal) x (ix2 a c) = M.unit (fun c a => x (ix2 c a)) c a := by
  rw [← pay2_at, ← flip_at (k0_pay2 x)]
  unfold k0_pay4
  exact shapeCast_apply _ shapeCasts_S256x64_S256x64 (ix2 a c) (ix2 a c) rfl

theorem gramProd_at (x : FVec Ideal S256x64 .bf16) (y : FVec Ideal S64x256 .bf16) (a b : Fin 256) :
    matmul dot_S256x64_S64x256_S256x256_1_0_0_1_n_n none x y (constant S256x256 .f32 0x00000000#32) (ix2 a b)
      = ∑ c : Fin 64, x (ix2 a c) * y (ix2 c b) := by
  refine (Ideal.matmul_plain_apply (M := 256) (K := 64) (N := 256) none x y _ a b).trans ?_
  exact (congrArg (· + _) Ideal.ofBits_zero_f32).trans (zero_add _)

theorem corrProd_at (x : FVec Ideal S256x64 .bf16) (y : FVec Ideal S64x1024 .bf16) (a : Fin 256) (p : Fin 1024) :
    matmul dot_S256x64_S64x1024_S256x1024_1_0_0_1_n_n none x y (constant S256x1024 .f32 0x00000000#32) (ix2 a p)
      = ∑ c : Fin 64, x (ix2 a c) * y (ix2 c p) := by
  refine (Ideal.matmul_plain_apply (M := 256) (K := 64) (N := 1024) none x y _ a p).trans ?_
  exact (congrArg (· + _) Ideal.ofBits_zero_f32).trans (zero_add _)

theorem sumProd_at (x : FVec Ideal S64x256 .bf16) (y : FVec Ideal S256x1024 .bf16) (c : Fin 64) (p : Fin 1024) :
    matmul dot_S64x256_S256x1024_S64x1024_1_0_0_1_n_n none x y (constant S64x1024 .f32 0x00000000#32) (ix2 c p)
      = ∑ a : Fin 256, x (ix2 c a) * y (ix2 a p) := by
  refine (Ideal.matmul_plain_apply (M := 64) (K := 256) (N := 1024) none x y _ c p).trans ?_
  exact (congrArg (· + _) Ideal.ofBits_zero_f32).trans (zero_add _)

theorem pay5_at (x : Vec Ideal S64x256 .f32) (a b : Fin 256) :
    k0_pay5 (F := Ideal) x (ix2 a b) = M.gramOf (M.unit (fun c a => x (ix2 c a))) a b := by
  unfold k0_pay5
  refine (shapeCast_apply _ shapeCasts_S256x256_S256x256 (ix2 a b) (ix2 a b) rfl).trans ?_
  rw [gramProd_at]
  exact Finset.sum_congr rfl fun c _ => by rw [flip_at, pay2_at, pay2_at]

/-! ## The results of a block -/

theorem pay6_at (v6 : Vec Ideal S1x64x1024 .f32) (c : Fin 64) (p : Fin 1024) :
    k0_pay6 (F := Ideal) v6 (ix2 c p) = v6 (ix3 (0 : Fin 1) c p) :=
  shapeCast_apply v6 _ (ix2 c p) (ix3 (0 : Fin 1) c p) (by
    have e1 := Shape.rowMajor_val_two (ix2 c p)
    have e2 := Shape.rowMajor_val_three (ix3 (0 : Fin 1) c p)
    rw [e1, e2]
    show (0 * 64 + c.val) * 1024 + p.val = c.val * 1024 + p.val
    omega)

theorem block_at {α : Type} {C : Nat} (x : (⟨2, ![C, 1024]⟩ : Shape).Idx → α)
    (h : (⟨2, ![C, 1024]⟩ : Shape).ShapeCasts ⟨3, ![1, C, 1024]⟩) (c : Fin C) (p : Fin 1024) :
    shapeCast ⟨3, ![1, C, 1024]⟩ x h (ix3 (0 : Fin 1) c p) = x (ix2 c p) :=
  shapeCast_apply x h (ix3 (0 : Fin 1) c p) (ix2 c p) (by
    have e1 := Shape.rowMajor_val_two (ix2 c p)
    have e2 := Shape.rowMajor_val_three (ix3 (0 : Fin 1) c p)
    rw [e1, e2]
    show c.val * 1024 + p.val = (0 * C + c.val) * 1024 + p.val
    omega)

theorem rows4_at {α : Type} {x y z w : S1x1024.Idx → α}
    (h : Shape.Concatenates [S1x1024, S1x1024, S1x1024, S1x1024] S4x1024 0) {p : Fin 1024} (k : Fin 4) :
    concatenate S4x1024 0 [⟨S1x1024, x⟩, ⟨S1x1024, y⟩, ⟨S1x1024, z⟩, ⟨S1x1024, w⟩] h (ix2 k p)
      = (![x, y, z, w] k) (ix2 (0 : Fin 1) p) := by
  fin_cases k
  · exact concatenate_apply_piece (t := S4x1024) 0 [⟨S1x1024, x⟩, ⟨S1x1024, y⟩, ⟨S1x1024, z⟩, ⟨S1x1024, w⟩] h _
      0 (by simp) S1x1024 x rfl rfl 0 rfl (ix2 (0 : Fin 1) p)
      (fun b hb => match b, hb with | ⟨1, _⟩, _ => rfl | ⟨0, _⟩, hb => absurd rfl hb) rfl
  · exact concatenate_apply_piece (t := S4x1024) 0 [⟨S1x1024, x⟩, ⟨S1x1024, y⟩, ⟨S1x1024, z⟩, ⟨S1x1024, w⟩] h _
      1 (by simp) S1x1024 y rfl rfl 1 rfl (ix2 (0 : Fin 1) p)
      (fun b hb => match b, hb with | ⟨1, _⟩, _ => rfl | ⟨0, _⟩, hb => absurd rfl hb) rfl
  · exact concatenate_apply_piece (t := S4x1024) 0 [⟨S1x1024, x⟩, ⟨S1x1024, y⟩, ⟨S1x1024, z⟩, ⟨S1x1024, w⟩] h _
      2 (by simp) S1x1024 z rfl rfl 2 rfl (ix2 (0 : Fin 1) p)
      (fun b hb => match b, hb with | ⟨1, _⟩, _ => rfl | ⟨0, _⟩, hb => absurd rfl hb) rfl
  · exact concatenate_apply_piece (t := S4x1024) 0 [⟨S1x1024, x⟩, ⟨S1x1024, y⟩, ⟨S1x1024, z⟩, ⟨S1x1024, w⟩] h _
      3 (by simp) S1x1024 w rfl rfl 3 rfl (ix2 (0 : Fin 1) p)
      (fun b hb => match b, hb with | ⟨1, _⟩, _ => rfl | ⟨0, _⟩, hb => absurd rfl hb) rfl

section
variable (v3 : Vec Ideal S64x256 .bf16) (v4 : Vec Ideal S256x64 .bf16) (v5 : Vec Ideal S256x256 .f32) (v6 : Vec Ideal S1x64x1024 .f32)

/-- A block of the first result. -/
def zqBlock : FVec Ideal S1x64x1024 .f32 :=
  k0_pay60 (F := Ideal) v3 (k0_pay6 v6) (b176 v4 v5 v6) (b316 v4 v5 v6) (b332 v4 v5 v6)

/-- A block of the tokens. -/
def tokBlock : IVec S1x4x1024 32 :=
  k0_pay61 (b172 v4 v5 v6) (b260 v4 v5 v6) (b286 v4 v5 v6) (b313 v4 v5 v6) (b332 v4 v5 v6)

/-- A block's share of the squared error. -/
def lossBlock : FVec Ideal S1x1 .f32 :=
  k0_pay62 (F := Ideal) v3 (k0_pay6 v6) (b176 v4 v5 v6) (b316 v4 v5 v6) (b332 v4 v5 v6)

variable {v3 v4 v5 v6} {D : Fin 64 → M.Row}

theorem corr_at (h4 : ∀ c a, v4 (ix2 a c) = M.unit D c a) (p : Fin 1024) (a : Fin 256) :
    b9 v4 v5 v6 (ix2 a p) = M.corrOf (M.unit D) (fun c => v6 (ix3 (0 : Fin 1) c p)) a := by
  unfold b9 k0_pay7
  rw [corrProd_at]
  exact Finset.sum_congr rfl fun c _ => by rw [narrow_at, pay6_at, h4]

theorem gram_at (h5 : ∀ a b, v5 (ix2 a b) = M.gramOf (M.unit D) a b) (a b : Fin 256) : v5 (ix2 a b) = M.gramOf (M.unit D) b a :=
  (h5 a b).trans (M.gramOf_symm _ _ _)

theorem rebuilt_at (h3 : ∀ c a, v3 (ix2 c a) = M.unit D c a) (h4 : ∀ c a, v4 (ix2 a c) = M.unit D c a)
    (h5 : ∀ a b, v5 (ix2 a b) = M.gramOf (M.unit D) a b) (c : Fin 64) (p : Fin 1024) :
    k0_pay59 (F := Ideal) v3 (b176 v4 v5 v6) (b316 v4 v5 v6) (b332 v4 v5 v6) (ix2 c p)
      = M.rebuilt D (fun c => v6 (ix3 (0 : Fin 1) c p)) c := by
  have hG := gram_at h5
  have h9 := corr_at (v5 := v5) (v6 := v6) h4 p
  unfold k0_pay59
  rw [sumProd_at]
  refine Eq.trans (Finset.sum_congr rfl fun a _ => ?_) (M.sum_combination (M.unit D c) (M.unit_real D c) _ _ _ _ _ _ _ _)
  simp only [narrow_at, addf_at, mulf_at, subf_at, spread_at, toFloat_at, fill_at, h3, b176_at hG h9, b316_at hG h9, b332_at hG h9]
  rfl

theorem zqBlock_at (h3 : ∀ c a, v3 (ix2 c a) = M.unit D c a) (h4 : ∀ c a, v4 (ix2 a c) = M.unit D c a)
    (h5 : ∀ a b, v5 (ix2 a b) = M.gramOf (M.unit D) a b) (c : Fin 64) (p : Fin 1024) :
    zqBlock v3 v4 v5 v6 (ix3 (0 : Fin 1) c p)
      = v6 (ix3 (0 : Fin 1) c p) + (M.rebuilt D (fun c => v6 (ix3 (0 : Fin 1) c p)) c - v6 (ix3 (0 : Fin 1) c p)) := by
  unfold zqBlock k0_pay60
  refine (block_at _ shapeCasts_S64x1024_S1x64x1024 c p).trans ?_
  rw [addf_at, subf_at, rebuilt_at h3 h4 h5, pay6_at]

theorem tokBlock_at (h4 : ∀ c a, v4 (ix2 a c) = M.unit D c a)
    (h5 : ∀ a b, v5 (ix2 a b) = M.gramOf (M.unit D) a b) (k : Fin 4) (p : Fin 1024) :
    tokBlock v4 v5 v6 (ix3 (0 : Fin 1) k p) = M.tokens D (fun c => v6 (ix3 (0 : Fin 1) c p)) k := by
  have hG := gram_at h5
  have h9 := corr_at (v5 := v5) (v6 := v6) h4 p
  unfold tokBlock k0_pay61
  refine (block_at _ shapeCasts_S4x1024_S1x4x1024 k p).trans ?_
  refine (rows4_at (x := b260 v4 v5 v6) (y := b286 v4 v5 v6) (z := b313 v4 v5 v6)
    (w := addi (muli (b172 v4 v5 v6) (broadcast S1x1024 33#32)) (b332 v4 v5 v6))
    concatenates_S1x1024_S1x1024_S1x1024_S1x1024_S4x1024_d0 k).trans ?_
  fin_cases k
  · exact b260_at hG h9
  · exact b286_at hG h9
  · exact b313_at hG h9
  · show addi (muli (b172 v4 v5 v6) (broadcast S1x1024 33#32)) (b332 v4 v5 v6) (ix2 (0 : Fin 1) p) = _
    rw [addi_at, muli_at, b172_at hG h9, b332_at hG h9]
    rfl

theorem lossBlock_at (h3 : ∀ c a, v3 (ix2 c a) = M.unit D c a) (h4 : ∀ c a, v4 (ix2 a c) = M.unit D c a)
    (h5 : ∀ a b, v5 (ix2 a b) = M.gramOf (M.unit D) a b) (j : S1x1.Idx) :
    lossBlock v3 v4 v5 v6 j = ∑ c : Fin 64, ∑ p : Fin 1024, M.miss D (fun c => v6 (ix3 (0 : Fin 1) c p)) c := by
  have hs : ∀ x : FVec Ideal S1x64x1024 .f32, multiReduction .add [1, 2] S1 x 0x00000000#32 reduces_S1x64x1024_S1 (.inl rfl) rfl
      (ix1 (0 : Fin 1)) = ∑ c : Fin 64, ∑ p : Fin 1024, x (ix3 (0 : Fin 1) c p) := fun x =>
    reduces_S1x64x1024_S1.sum_fiber_r3_a12 (ix1 (0 : Fin 1)) x
  have he : ∀ x : FVec Ideal S1 .f32, shapeCast S1x1x1 x shapeCasts_S1_S1x1x1 (ix3 (0 : Fin 1) (0 : Fin 1) (0 : Fin 1)) = x (ix1 (0 : Fin 1)) :=
    fun x => shapeCast_apply x _ _ _ rfl
  have hi : ∀ x : FVec Ideal S1x1x1 .f32, extractAt ![0, 0, 0] x inpos_S1x1x1_p0_0_0 = x (ix3 (0 : Fin 1) (0 : Fin 1) (0 : Fin 1)) := fun x => by
    unfold extractAt
    refine congrArg x (funext fun b => Fin.ext ?_)
    match b with
    | ⟨0, _⟩ => rfl
    | ⟨1, _⟩ => rfl
    | ⟨2, _⟩ => rfl
  unfold lossBlock k0_pay62
  rw [fill_at, hi, he]
  rw [hs]
  refine (Finset.sum_congr rfl fun c _ => Finset.sum_congr rfl fun p _ => ?_)
  refine (block_at _ _ c p).trans ?_
  rw [mulf_at, subf_at, rebuilt_at h3 h4 h5, pay6_at]
  rfl

end

end Cert.Proof.Ker
-- ==== Proof.KerRun.lean ====
/- What the kernel leaves at each point of its grid, and the arrays after the last one. -/
module

public import proofs.«01_k».proof.Proof.KerOut
public import proofs.«01_k».proof.Proof.Gen.KernelIdeal.Frame
public import Idealize.ShloMosaic.Lib.Pipeline.ValueKit

@[expose] public section

noncomputable section

namespace Cert.Proof.Ker

open Idealize.ShloMosaic hiding ix0 ix1 ix2 ix3 ix4 eq_ix2
open Idealize.ShloMosaic.ValueIdx
open Cert.KernelIdeal Cert.KernelIdeal.Gen
open Idealize.ShloMosaic.TcCoe Idealize.SL Idealize.SL.Sem

theorem read0 (h : (scM0_0).IsWhole) (x : Vec Ideal S64x256 .bf16) :
    View.read (Elt Ideal) (View.whole cc0_scratch0) (h.unread x) = x := Memref.IsWhole.read_unread h x
theorem read1 (h : (scM0_1).IsWhole) (x : Vec Ideal S256x64 .bf16) :
    View.read (Elt Ideal) (View.whole cc0_scratch1) (h.unread x) = x := Memref.IsWhole.read_unread h x
theorem read2 (h : (scM0_2).IsWhole) (x : Vec Ideal S256x256 .f32) :
    View.read (Elt Ideal) (View.whole cc0_scratch2) (h.unread x) = x := Memref.IsWhole.read_unread h x

variable (m : (ℓ : Loc nD τ sig) → Buf (Elt Ideal) ℓ) (c : Dev nD)

/-! ## One point -/

section
variable (t : Fin cfg0.N)

/-- What the point before `t` left. -/
abbrev before : Vec Ideal S1x64x1024 .f32 × Vec Ideal S1x4x1024 .i32 × Vec Ideal S1x1 .f32 × Vec Ideal S64x256 .bf16
    × Vec Ideal S256x64 .bf16 × Vec Ideal S256x256 .f32 :=
  outsAt0 m c (t.val - 1) (Nat.lt_of_le_of_lt (Nat.sub_le _ _) t.isLt)

theorem zq_first (h0 : t.val % 32 = 0) (h2 : ¬1 ≤ t.val) :
    (outsAt0 m c t.val t.isLt).1 = zqBlock (k0_pay3 (iblk m c 1 t)) (k0_pay4 (iblk m c 1 t)) (k0_pay5 (iblk m c 1 t)) (iblk m c 0 t) := by
  rw [outsAt0_A m c t h0 h0 h2]
  frame_out [read0, read1, read2]
  rfl

theorem tok_first (h0 : t.val % 32 = 0) (h2 : ¬1 ≤ t.val) :
    (outsAt0 m c t.val t.isLt).2.1 = tokBlock (k0_pay4 (iblk m c 1 t)) (k0_pay5 (iblk m c 1 t)) (iblk m c 0 t) := by
  rw [outsAt0_A m c t h0 h0 h2]
  frame_out [read0, read1, read2]
  rfl

theorem loss_first (h0 : t.val % 32 = 0) (h2 : ¬1 ≤ t.val) :
    (outsAt0 m c t.val t.isLt).2.2.1
      = lossBlock (k0_pay3 (iblk m c 1 t)) (k0_pay4 (iblk m c 1 t)) (k0_pay5 (iblk m c 1 t)) (iblk m c 0 t) := by
  rw [outsAt0_A m c t h0 h0 h2]
  frame_out [read0, read1, read2]
  rfl

theorem unit_first (h0 : t.val % 32 = 0) (h2 : ¬1 ≤ t.val) :
    (outsAt0 m c t.val t.isLt).2.2.2.1 = k0_pay3 (F := Ideal) (iblk m c 1 t) := by
  rw [outsAt0_A m c t h0 h0 h2]
  frame_out

theorem flip_first (h0 : t.val % 32 = 0) (h2 : ¬1 ≤ t.val) :
    (outsAt0 m c t.val t.isLt).2.2.2.2.1 = k0_pay4 (F := Ideal) (iblk m c 1 t) := by
  rw [outsAt0_A m c t h0 h0 h2]
  frame_out

theorem gram_first (h0 : t.val % 32 = 0) (h2 : ¬1 ≤ t.val) :
    (outsAt0 m c t.val t.isLt).2.2.2.2.2 = k0_pay5 (F := Ideal) (iblk m c 1 t) := by
  rw [outsAt0_A m c t h0 h0 h2]
  frame_out

theorem zq_later (h0 : ¬t.val % 32 = 0) (h2 : 1 ≤ t.val) :
    (outsAt0 m c t.val t.isLt).1
      = zqBlock (before m c t).2.2.2.1 (before m c t).2.2.2.2.1 (before m c t).2.2.2.2.2 (iblk m c 0 t) := by
  rw [outsAt0_B m c t h0 h0 h2]
  frame_out [read0, read1, read2]
  rfl

theorem tok_later (h0 : ¬t.val % 32 = 0) (h2 : 1 ≤ t.val) :
    (outsAt0 m c t.val t.isLt).2.1 = tokBlock (before m c t).2.2.2.2.1 (before m c t).2.2.2.2.2 (iblk m c 0 t) := by
  rw [outsAt0_B m c t h0 h0 h2]
  frame_out [read0, read1, read2]
  rfl

theorem loss_later (h0 : ¬t.val % 32 = 0) (h2 : 1 ≤ t.val) :
    (outsAt0 m c t.val t.isLt).2.2.1
      = k0_pay1 (lossBlock (before m c t).2.2.2.1 (before m c t).2.2.2.2.1 (before m c t).2.2.2.2.2 (iblk m c 0 t)) (before m c t).2.2.1 := by
  rw [outsAt0_B m c t h0 h0 h2]
  frame_out [read0, read1, read2]
  rfl

theorem carried_later (h0 : ¬t.val % 32 = 0) (h2 : 1 ≤ t.val) :
    (outsAt0 m c t.val t.isLt).2.2.2 = (before m c t).2.2.2 := by
  rw [outsAt0_B m c t h0 h0 h2]
  rfl

end

/-! ## The arguments at an index -/

/-- The pictures. -/
def Z : Fin 32 → Fin 64 → Fin 32 → Fin 32 → EReal := fun b ch h w =>
  (m ((c : Thread nD τ).loc main_arg0) : (⟨S32x64x32x32, .f32⟩ : BufTy).Contents (Elt Ideal)) (ix4 b ch h w)

/-- The dictionary. -/
def D : Fin 64 → M.Row := fun ch a =>
  (m ((c : Thread nD τ).loc main_arg1) : (⟨S64x256, .f32⟩ : BufTy).Contents (Elt Ideal)) (ix2 ch a)

theorem win0_at : ∀ t : Fin cfg0.N, win0_0.index t = ![t.val, 0, 0] := (by decide +kernel : ∀ t : Fin grid0.N, _)
theorem win1_at : ∀ t : Fin cfg0.N, win0_1.index t = ![0, 0] := (by decide +kernel : ∀ t : Fin grid0.N, _)
theorem win2_at : ∀ t : Fin cfg0.N, win0_2.index t = ![t.val, 0, 0] := (by decide +kernel : ∀ t : Fin grid0.N, _)
theorem win3_at : ∀ t : Fin cfg0.N, win0_3.index t = ![t.val, 0, 0] := (by decide +kernel : ∀ t : Fin grid0.N, _)

theorem dict_at (t : Fin cfg0.N) (ch : Fin 64) (a : Fin 256) :
    (iblk m c 1 t : Vec Ideal S64x256 .f32) (ix2 ch a) = D m c ch a := by
  have e : ((win0_1.blk t).view.emb (ix2 ch a)) = ix2 ch a := by blk_ext [win1_at t]
  show V m c main_arg1 ((win0_1.blk t).view.emb (ix2 ch a)) = _
  rw [e, V_main_arg1]
  rfl

theorem rows_at (b : Fin 32) (ch : Fin 64) (p : Fin 1024) :
    (V m c main_v0 : Vec Ideal S32x64x1024 .f32) (ix3 b ch p) = Z m c b ch ⟨p.val / 32, by omega⟩ ⟨p.val % 32, by omega⟩ := by
  have e : (V m c main_v0 : Vec Ideal S32x64x1024 .f32)
      = shapeCast S32x64x1024 (m ((c : Thread nD τ).loc main_arg0) : Vec Ideal S32x64x32x32 .f32) shapeCasts_S32x64x32x32_S32x64x1024 := by
    show StableHlo.after hostOps0 _ (Proc.devRef .tc main_v0) = _
    after_results
    rfl
  rw [e]
  exact shapeCast_apply _ _ _ (ix4 b ch ⟨p.val / 32, by omega⟩ ⟨p.val % 32, by omega⟩) (by
    have e1 := Shape.rowMajor_val_four (ix4 b ch (⟨p.val / 32, by omega⟩ : Fin 32) (⟨p.val % 32, by omega⟩ : Fin 32))
    have e2 := Shape.rowMajor_val_three (ix3 b ch p)
    rw [e1, e2]
    show ((b.val * 64 + ch.val) * 32 + p.val / 32) * 32 + p.val % 32 = (b.val * 64 + ch.val) * 1024 + p.val
    omega)

theorem block0_at (t : Fin cfg0.N) (ch : Fin 64) (p : Fin 1024) :
    (iblk m c 0 t : Vec Ideal S1x64x1024 .f32) (ix3 (0 : Fin 1) ch p)
      = Z m c ⟨t.val, t.isLt⟩ ch ⟨p.val / 32, by omega⟩ ⟨p.val % 32, by omega⟩ := by
  have e : ((win0_0.blk t).view.emb (ix3 (0 : Fin 1) ch p)) = ix3 (⟨t.val, t.isLt⟩ : Fin 32) ch p := by blk_ext [win0_at t]
  show V m c main_v0 ((win0_0.blk t).view.emb (ix3 (0 : Fin 1) ch p)) = _
  rw [e]
  exact rows_at m c _ ch p

end Cert.Proof.Ker
-- ==== Proof.KerEnd.lean ====
/- The kernel's results after the run: the arrays its grid filled, and the lines after it. -/
module

public import proofs.«01_k».proof.Proof.KerRun

@[expose] public section

noncomputable section

namespace Cert.Proof.Ker

open Idealize.ShloMosaic hiding ix0 ix1 ix2 ix3 ix4 eq_ix2 eq_ix4
open Idealize.ShloMosaic.ValueIdx
open Cert.KernelIdeal Cert.KernelIdeal.Gen
open Idealize.ShloMosaic.TcCoe Idealize.SL Idealize.SL.Sem

variable (m : (ℓ : Loc nD τ sig) → Buf (Elt Ideal) ℓ) (c : Dev nD)

/-- A place of a picture's row of 1024 pixels: its line. -/
abbrev line (p : Fin 1024) : Fin 32 := ⟨p.val / 32, by omega⟩
/-- And its column. -/
abbrev col (p : Fin 1024) : Fin 32 := ⟨p.val % 32, by omega⟩

theorem dict_eq (t : Fin cfg0.N) :
    (fun ch a => (iblk m c 1 t : Vec Ideal S64x256 .f32) (ix2 ch a)) = D m c :=
  funext fun ch => funext fun a => dict_at m c t ch a

/-- The carried arrays hold the unit atoms, the same turned, and their products, after every point. -/
theorem carried (n : ℕ) (hn : n < cfg0.N) :
    (∀ ch a, (outsAt0 m c n hn).2.2.2.1 (ix2 ch a) = M.unit (D m c) ch a)
    ∧ (∀ ch a, (outsAt0 m c n hn).2.2.2.2.1 (ix2 a ch) = M.unit (D m c) ch a)
    ∧ (∀ a b, (outsAt0 m c n hn).2.2.2.2.2 (ix2 a b) = M.gramOf (M.unit (D m c)) a b) := by
  have hN : cfg0.N = 32 := N_0
  induction n with
  | zero =>
    have u := unit_first m c ⟨0, hn⟩ rfl (by show ¬1 ≤ 0; decide)
    have f := flip_first m c ⟨0, hn⟩ rfl (by show ¬1 ≤ 0; decide)
    have g := gram_first m c ⟨0, hn⟩ rfl (by show ¬1 ≤ 0; decide)
    refine ⟨fun ch a => ?_, fun ch a => ?_, fun a b => ?_⟩
    · exact (congrFun u _).trans ((pay3_at _ ch a).trans (by rw [dict_eq]))
    · exact (congrFun f _).trans ((pay4_at _ ch a).trans (by rw [dict_eq]))
    · exact (congrFun g _).trans ((pay5_at _ a b).trans (by rw [dict_eq]))
  | succ n ih =>
    have e := carried_later m c ⟨n + 1, hn⟩ (by show ¬(n + 1) % 32 = 0; omega) (by show 1 ≤ n + 1; omega)
    have e' : (outsAt0 m c (n + 1) hn).2.2.2 = (outsAt0 m c n (by omega)).2.2.2 := e
    rw [e']
    exact ih (by omega)

theorem first_or_later (t : Fin cfg0.N) : (t.val % 32 = 0 ∧ ¬1 ≤ t.val) ∨ (¬t.val % 32 = 0 ∧ 1 ≤ t.val) := by
  have hN : cfg0.N = 32 := N_0
  have := t.isLt
  omega

section
variable (t : Fin cfg0.N)

theorem pix_eq (p : Fin 1024) :
    (fun ch => (iblk m c 0 t : Vec Ideal S1x64x1024 .f32) (ix3 (0 : Fin 1) ch p))
      = M.pixel (Z m c) ⟨t.val, t.isLt⟩ (line p) (col p) :=
  funext fun ch => block0_at m c t ch p

theorem zq_at (ch : Fin 64) (p : Fin 1024) :
    (outsAt0 m c t.val t.isLt).1 (ix3 (0 : Fin 1) ch p) = M.picture (Z m c) (D m c) ⟨t.val, t.isLt⟩ ch (line p) (col p) := by
  rcases first_or_later t with ⟨h0, h2⟩ | ⟨h0, h2⟩
  · rw [zq_first m c t h0 h2, zqBlock_at (D := D m c) (fun ch a => by rw [pay3_at, dict_eq]) (fun ch a => by rw [pay4_at, dict_eq])
      (fun a b => by rw [pay5_at, dict_eq]), pix_eq, block0_at]
    rfl
  · obtain ⟨u, f, g⟩ := carried m c (t.val - 1) (Nat.lt_of_le_of_lt (Nat.sub_le _ _) t.isLt)
    rw [zq_later m c t h0 h2, zqBlock_at (D := D m c) u f g, pix_eq, block0_at]
    rfl

theorem tok_at (k : Fin 4) (p : Fin 1024) :
    (outsAt0 m c t.val t.isLt).2.1 (ix3 (0 : Fin 1) k p)
      = M.tokens (D m c) (M.pixel (Z m c) ⟨t.val, t.isLt⟩ (line p) (col p)) k := by
  rcases first_or_later t with ⟨h0, h2⟩ | ⟨h0, h2⟩
  · rw [tok_first m c t h0 h2, tokBlock_at (D := D m c) (fun ch a => by rw [pay4_at, dict_eq])
      (fun a b => by rw [pay5_at, dict_eq]), pix_eq]
  · obtain ⟨u, f, g⟩ := carried m c (t.val - 1) (Nat.lt_of_le_of_lt (Nat.sub_le _ _) t.isLt)
    rw [tok_later m c t h0 h2, tokBlock_at (D := D m c) f g, pix_eq]

/-- A point's share of the squared error. -/
def share : EReal :=
  ∑ ch : Fin 64, ∑ p : Fin 1024, M.miss (D m c) (M.pixel (Z m c) ⟨t.val, t.isLt⟩ (line p) (col p)) ch

theorem share_first (h0 : t.val % 32 = 0) (h2 : ¬1 ≤ t.val) (j : S1x1.Idx) : (outsAt0 m c t.val t.isLt).2.2.1 j = share m c t := by
  rw [loss_first m c t h0 h2, lossBlock_at (D := D m c) (fun ch a => by rw [pay3_at, dict_eq]) (fun ch a => by rw [pay4_at, dict_eq])
      (fun a b => by rw [pay5_at, dict_eq])]
  simp only [pix_eq]
  rfl

theorem pay1_at (x y : FVec Ideal S1x1 .f32) (j : S1x1.Idx) : k0_pay1 (F := Ideal) x y j = y j + x j := by
  unfold k0_pay1
  rw [addf_at]
  exact congrArg (· + x j) (shapeCast_apply y shapeCasts_S1x1_S1x1 j j rfl)

theorem share_later (h0 : ¬t.val % 32 = 0) (h2 : 1 ≤ t.val) (j : S1x1.Idx) :
    (outsAt0 m c t.val t.isLt).2.2.1 j = (before m c t).2.2.1 j + share m c t := by
  obtain ⟨u, f, g⟩ := carried m c (t.val - 1) (Nat.lt_of_le_of_lt (Nat.sub_le _ _) t.isLt)
  rw [loss_later m c t h0 h2, pay1_at, lossBlock_at (D := D m c) u f g]
  simp only [pix_eq]
  rfl

end

/-! ## The arrays after the last point -/

/-- The last point. -/
def last : Fin cfg0.N := ⟨31, by have : cfg0.N = 32 := N_0; omega⟩

theorem sum_at (j : S1x1.Idx) : (outsAt0 m c last.val last.isLt).2.2.1 j = ∑ t : Fin cfg0.N, share m c t := by
  have hN : cfg0.N = 32 := N_0
  rw [Pipeline.eq_sum_fin_of_reset_step_apply_last (fun n h => (outsAt0 m c n h).2.2.1) 32 (fun _ => 0) (fun t _ => share m c t)
    (fun t h j => by
      rcases first_or_later t with ⟨h0, h2⟩ | ⟨h0, h2⟩
      · exact (share_first m c t h0 h2 j).trans (zero_add _).symm
      · exact absurd h h0)
    (fun t h j => by
      rcases first_or_later t with ⟨h0, h2⟩ | ⟨h0, h2⟩
      · exact absurd h0 h
      · exact share_later m c t h0 h2 j)
    (le_of_eq hN) last (show 31 + 1 = cfg0.N from hN.symm) j, zero_add]

/-- The array of rebuilt pictures. -/
def zqArr : Vec Ideal S32x64x1024 .f32 := fun j => M.picture (Z m c) (D m c) (j 0) (j 1) (line (j 2)) (col (j 2))

/-- The array of tokens. -/
def tokArr : Vec Ideal S32x4x1024 .i32 := fun j => M.tokens (D m c) (M.pixel (Z m c) (j 0) (line (j 2)) (col (j 2))) (j 1)

theorem arr_zq : (dats m 0 c).arrAt 2 cfg0.N = zqArr m c := by
  refine (dats m 0 c).arrAt_eq_of_covers 2 _ (by decide +kernel) fun t hf y => ?_
  blk_simp
  rw [after0_2]
  have ey : (y : S1x64x1024.Idx) = ix3 (0 : Fin 1) (y 1) (y 2) := by blk_ext
  rw [ey]
  have e : ((win0_2.blk t).view.emb (ix3 (0 : Fin 1) (y 1) (y 2))) = ix3 (⟨t.val, t.isLt⟩ : Fin 32) (y 1) (y 2) := by blk_ext [win2_at t]
  exact (zq_at m c t (y 1) (y 2)).trans (congrArg (zqArr m c) e).symm

theorem arr_tok : (dats m 0 c).arrAt 3 cfg0.N = tokArr m c := by
  refine (dats m 0 c).arrAt_eq_of_covers 3 _ (by decide +kernel) fun t hf y => ?_
  blk_simp
  rw [after0_3]
  have ey : (y : S1x4x1024.Idx) = ix3 (0 : Fin 1) (y 1) (y 2) := by blk_ext
  rw [ey]
  have e : ((win0_3.blk t).view.emb (ix3 (0 : Fin 1) (y 1) (y 2))) = ix3 (⟨t.val, t.isLt⟩ : Fin 32) (y 1) (y 2) := by blk_ext [win3_at t]
  exact (tok_at m c t (y 1) (y 2)).trans (congrArg (tokArr m c) e).symm

/-- The squared error in full. -/
theorem arr_loss : (dats m 0 c).arrAt 4 cfg0.N = (fun _ => ∑ t : Fin cfg0.N, share m c t : Vec Ideal S1x1 .f32) := by
  refine (dats m 0 c).arrAt_eq_of_after_last 4 last (by decide +kernel) _ fun j => ?_
  blk_simp
  rw [after0_4]
  exact sum_at m c _

/-- A sum over a picture's pixels, line by line. -/
theorem sum_lines (f : Fin 32 → Fin 32 → EReal) : ∑ p : Fin 1024, f (line p) (col p) = ∑ h : Fin 32, ∑ w : Fin 32, f h w :=
  Fin.sum_divmod_fin (N := 1024) 32 f

theorem shares : ∑ t : Fin cfg0.N, share m c t = M.missSum (Z m c) (D m c) := by
  show ∑ t : Fin 32, share m c t = _
  unfold M.missSum share
  exact Finset.sum_congr rfl fun b _ => Finset.sum_congr rfl fun ch _ =>
    sum_lines fun h w => M.miss (D m c) (M.pixel (Z m c) b h w) ch

/-! ## The lines after the grid -/

/-- What a buffer holds at the end. -/
abbrev ends (b : Ref sig .tc) : Buf (Elt Ideal) ((c.tc : Thread nD τ).loc b) :=
  Pipeline.afterTail₀ cfgs (dats m) 0 (V0 m) [hostOps1] c b

theorem arrays_at (w : Fin 5) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 winFacts0.arr_inj c _ _ w

theorem zq_end : ends m c main_v2 = shapeCast S32x64x32x32 (zqArr m c) shapeCasts_S32x64x1024_S32x64x32x32 := by
  show StableHlo.after hostOps1 _ (Proc.devRef .tc main_v2) = _
  after_results
  rw [← arr_zq, ← arrays_at m c 2]
  rfl

theorem tok_end : ends m c main_v4 = shapeCast S32x32x32x4 (transpose S32x1024x4 [0, 2, 1] (tokArr m c)
    transposes_S32x4x1024_S32x1024x4_0_2_1) shapeCasts_S32x1024x4_S32x32x32x4 := by
  show StableHlo.after hostOps1 _ (Proc.devRef .tc main_v4) = _
  after_results
  rw [← arr_tok, ← arrays_at m c 3]
  rfl

/-- The mean, from the sum. -/
def mean : FVec Ideal S_ .f32 :=
  Host.divf (shapeCast S_ (fun _ => ∑ t : Fin cfg0.N, share m c t : Vec Ideal S1x1 .f32) shapeCasts_S1x1_S_) (constant S_ .f32 0x4A000000#32)

theorem loss_end : ends m c main_v8 = addf (mean m c) (mulf (constant S_ .f32 0x3E800000#32) (mean m c)) := by
  show StableHlo.after hostOps1 _ (Proc.devRef .tc main_v8) = _
  after_results
  unfold mean
  rw [← arr_loss, ← arrays_at m c 4]
  rfl

/-! ## The three results -/

theorem line_of (h w : Fin 32) : line (⟨h.val * 32 + w.val, by omega⟩ : Fin 1024) = h :=
  Fin.ext (show (h.val * 32 + w.val) / 32 = h.val by omega)

theorem col_of (h w : Fin 32) : col (⟨h.val * 32 + w.val, by omega⟩ : Fin 1024) = w :=
  Fin.ext (show (h.val * 32 + w.val) % 32 = w.val by omega)

theorem zq_result : ends m c main_v2
    = (fun j => M.picture (Z m c) (D m c) (j 0) (j 1) (j 2) (j 3) : (⟨S32x64x32x32, .f32⟩ : BufTy).Contents (Elt Ideal)) := by
  rw [zq_end]
  funext j
  obtain ⟨b, ch, h, w, rfl⟩ : ∃ (b : Fin 32) (ch : Fin 64) (h w : Fin 32), j = ix4 b ch h w := ⟨j 0, j 1, j 2, j 3, eq_ix4 j⟩
  refine (shapeCast_apply (zqArr m c) _ _ (ix3 b ch (⟨h.val * 32 + w.val, by omega⟩ : Fin 1024)) (by
    have e1 := Shape.rowMajor_val_four (ix4 b ch h w)
    have e2 := Shape.rowMajor_val_three (ix3 b ch (⟨h.val * 32 + w.val, by omega⟩ : Fin 1024))
    rw [e1, e2]
    show (b.val * 64 + ch.val) * 1024 + (h.val * 32 + w.val) = ((b.val * 64 + ch.val) * 32 + h.val) * 32 + w.val
    omega)).trans ?_
  show M.picture (Z m c) (D m c) b ch (line (⟨h.val * 32 + w.val, _⟩ : Fin 1024)) (col (⟨h.val * 32 + w.val, _⟩ : Fin 1024)) = _
  rw [line_of, col_of]

theorem tok_result : ends m c main_v4
    = (fun j => M.tokens (D m c) (M.pixel (Z m c) (j 0) (j 1) (j 2)) (j 3) : (⟨S32x32x32x4, .i32⟩ : BufTy).Contents (Elt Ideal)) := by
  rw [tok_end]
  funext j
  obtain ⟨b, h, w, k, rfl⟩ : ∃ (b h w : Fin 32) (k : Fin 4), j = ix4 b h w k := ⟨j 0, j 1, j 2, j 3, eq_ix4 j⟩
  refine (shapeCast_apply _ _ _ (ix3 b (⟨h.val * 32 + w.val, by omega⟩ : Fin 1024) k) (by
    have e1 := Shape.rowMajor_val_four (ix4 b h w k)
    have e2 := Shape.rowMajor_val_three (ix3 b (⟨h.val * 32 + w.val, by omega⟩ : Fin 1024) k)
    rw [e1, e2]
    show (b.val * 1024 + (h.val * 32 + w.val)) * 4 + k.val = ((b.val * 32 + h.val) * 32 + w.val) * 4 + k.val
    omega)).trans ?_
  refine (transpose_apply _ (tokArr m c) _ _ (ix3 b k (⟨h.val * 32 + w.val, by omega⟩ : Fin 1024))
    (fun a => match a with | ⟨0, _⟩ => rfl | ⟨1, _⟩ => rfl | ⟨2, _⟩ => rfl)).trans ?_
  show M.tokens (D m c) (M.pixel (Z m c) b (line (⟨h.val * 32 + w.val, _⟩ : Fin 1024)) (col (⟨h.val * 32 + w.val, _⟩ : Fin 1024))) k = _
  rw [line_of, col_of]

theorem loss_result : ends m c main_v8 = (fun _ => M.loss (Z m c) (D m c) : (⟨S_, .f32⟩ : BufTy).Contents (Elt Ideal)) := by
  have e : ∀ j, mean m c j = Ideal.div (M.missSum (Z m c) (D m c)) (Ideal.ofBits .f32 0x4A000000#32) := fun j =>
    congrArg (fun x => Ideal.div x (Ideal.ofBits .f32 0x4A000000#32)) (shares m c)
  rw [loss_end]
  funext j
  show mean m c j + Ideal.ofBits .f32 0x3E800000#32 * mean m c j = _
  rw [e]
  rfl

/-- The kernel's run: it ends, with the three results at their values and the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v2)
        = (fun j => M.picture (Z m c) (D m c) (j 0) (j 1) (j 2) (j 3) : (⟨S32x64x32x32, .f32⟩ : BufTy).Contents (Elt Ideal))
      ∧ r.2.mem ((c.tc : Thread nD τ).loc main_v8) = (fun _ => M.loss (Z m c) (D m c) : (⟨S_, .f32⟩ : BufTy).Contents (Elt Ideal))
      ∧ r.2.mem ((c.tc : Thread nD τ).loc main_v4)
        = (fun j => M.tokens (D m c) (M.pixel (Z m c) (j 0) (j 1) (j 2)) (j 3) : (⟨S32x32x32x4, .i32⟩ : BufTy).Contents (Elt Ideal))) :=
  (θ_run defs _ _).mono (fun r h c =>
    ⟨((h c).2 main_v2 (by decide)).trans (zq_result m c), ((h c).2 main_v8 (by decide)).trans (loss_result m c),
      ((h c).2 main_v4 (by decide)).trans (tok_result m c)⟩) (run_main m ρ)

end Cert.Proof.Ker
-- ==== Proof.RefEqs0.lean ====
/- The equations of the reference's operations, part 1 of 4: what each buffer holds at the end, in terms of its operands. -/
module

public import proofs.«01_k».proof.Proof.RefVals

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192

theorem v0_eq : v0 V = transpose S32x32x32x64 [0, 2, 3, 1] (arg0 V) transposes_S32x64x32x32_S32x32x32x64_0_2_3_1 := by
  have h := unary_end V 0 (x := main_arg0) (y := main_v0) rfl (by decide) (by decide)
  exact h

theorem v1_eq : v1 V = shapeCast S32768x64 (v0 V) shapeCasts_S32x32x32x64_S32768x64 := by
  have h := reshape_end V 1 (x := main_v0) (y := main_v1) rfl (by decide) (by decide)
  exact h

theorem v2_eq : v2 V = transpose S64x32768 [1, 0] (v1 V) transposes_S32768x64_S64x32768_1_0 := by
  have h := unary_end V 2 (x := main_v1) (y := main_v2) rfl (by decide) (by decide)
  exact h

theorem v3_eq : v3 V = mulf (arg1 V) (arg1 V) := by
  have h := binary_end V 3 (a := main_arg1) (b := main_arg1) (y := main_v3) rfl (by decide) (by decide) (by decide)
  exact h

theorem cst_eq : cst V = constant S_ .f32 0x00000000#32 := by
  have h := nullary_end V 4 (y := main_cst) rfl (by decide)
  exact h

theorem v4_eq : v4 V = Host.reduceAdd (v3 V) (cst V) reducesTo_S64x256_S256_d0 h_S_ := by
  have h := binary_end V 5 (a := main_v3) (b := main_cst) (y := main_v4) rfl (by decide) (by decide) (by decide)
  exact h

theorem v5_eq : v5 V = broadcastInDim S1x256 ![1] bcast_S256_S1x256_1 (v4 V) := by
  have h := unary_end V 6 (x := main_v4) (y := main_v5) rfl (by decide) (by decide)
  exact h

theorem v6_eq : v6 V = Host.sqrt (v5 V) := by
  have h := unary_end V 7 (x := main_v5) (y := main_v6) rfl (by decide) (by decide)
  exact h

theorem cst_0_eq : cst_0 V = constant S_ .f32 0x2EDBE6FF#32 := by
  have h := nullary_end V 8 (y := main_cst_0) rfl (by decide)
  exact h

theorem v7_eq : v7 V = broadcastInDim S1x256 ![] bcast_S_S1x256 (cst_0 V) := by
  have h := unary_end V 9 (x := main_cst_0) (y := main_v7) rfl (by decide) (by decide)
  exact h

theorem v8_eq : v8 V = maximumf (v6 V) (v7 V) := by
  have h := binary_end V 10 (a := main_v6) (b := main_v7) (y := main_v8) rfl (by decide) (by decide) (by decide)
  exact h

theorem v9_eq : v9 V = broadcastInDim S64x256 ![0, 1] bcast_S1x256_S64x256_0_1 (v8 V) := by
  have h := unary_end V 11 (x := main_v8) (y := main_v9) rfl (by decide) (by decide)
  exact h

theorem v10_eq : v10 V = Host.divf (arg1 V) (v9 V) := by
  have h := binary_end V 12 (a := main_arg1) (b := main_v9) (y := main_v10) rfl (by decide) (by decide) (by decide)
  exact h

theorem v11_eq : v11 V = transpose S256x64 [1, 0] (v10 V) transposes_S64x256_S256x64_1_0 := by
  have h := unary_end V 13 (x := main_v10) (y := main_v11) rfl (by decide) (by decide)
  exact h

theorem v12_eq : v12 V = Host.dotGeneral dot_S256x64_S64x256_S256x256_1_0_0_1_n_n none (v11 V) (v10 V) := by
  have h := binary_end V 14 (a := main_v11) (b := main_v10) (y := main_v12) rfl (by decide) (by decide) (by decide)
  exact h

theorem v13_eq : v13 V = transpose S256x64 [1, 0] (v10 V) transposes_S64x256_S256x64_1_0 := by
  have h := unary_end V 15 (x := main_v10) (y := main_v13) rfl (by decide) (by decide)
  exact h

theorem v14_eq : v14 V = Host.dotGeneral dot_S256x64_S64x32768_S256x32768_1_0_0_1_n_n none (v13 V) (v2 V) := by
  have h := binary_end V 16 (a := main_v13) (b := main_v2) (y := main_v14) rfl (by decide) (by decide) (by decide)
  exact h

theorem v15_eq : v15 V = transpose S32768x256 [1, 0] (v14 V) transposes_S256x32768_S32768x256_1_0 := by
  have h := unary_end V 17 (x := main_v14) (y := main_v15) rfl (by decide) (by decide)
  exact h

theorem v16_eq : v16 V = iotaInDim S32768 32 0 := by
  have h := nullary_end V 18 (y := main_v16) rfl (by decide)
  exact h

theorem v17_eq : v17 V = iotaInDim S256 32 0 := by
  have h := nullary_end V 19 (y := main_v17) rfl (by decide)
  exact h

theorem c_eq : c V = constantI S_ 1 0#1 := by
  have h := nullary_end V 20 (y := main_c) rfl (by decide)
  exact h

theorem v18_eq : v18 V = broadcastInDim S32768x256 ![] bcast_S_S32768x256 (c V) := by
  have h := unary_end V 21 (x := main_c) (y := main_v18) rfl (by decide) (by decide)
  exact h

theorem v19_eq : v19 V = noti (v18 V) := by
  have h := unary_end V 22 (x := main_v18) (y := main_v19) rfl (by decide) (by decide)
  exact h

theorem v20_eq : v20 V = uitofp .f32 (v19 V) := by
  have h := unary_end V 23 (x := main_v19) (y := main_v20) rfl (by decide) (by decide)
  exact h

theorem v21_eq : v21 V = mulf (v15 V) (v20 V) := by
  have h := binary_end V 24 (a := main_v15) (b := main_v20) (y := main_v21) rfl (by decide) (by decide) (by decide)
  exact h

theorem v22_eq : v22 V = Host.absf (v21 V) := by
  have h := unary_end V 25 (x := main_v21) (y := main_v22) rfl (by decide) (by decide)
  exact h

theorem call0_v0_eq : call0_v0 V = iotaInDim S32768x256 32 1 := by
  have h := nullary_end V 26 (y := main_call0_v0) rfl (by decide)
  exact h

theorem call0_cst_eq : call0_cst V = constant S_ .f32 0xFF800000#32 := by
  have h := nullary_end V 27 (y := main_call0_cst) rfl (by decide)
  exact h

theorem call0_c_eq : call0_c V = constantI S_ 32 0#32 := by
  have h := nullary_end V 28 (y := main_call0_c) rfl (by decide)
  exact h

theorem call0_v1_0_eq : call0_v1_0 V = fun j => (Host.argReduce reducer_argmax_f32_i32 (v22 V) (call0_v0 V) (call0_cst V) (call0_c V) reducesTo_S32768x256_S32768_d1 h_S_ j).1 := by
  have h := quaternary_end V 29 (a := main_v22) (b := main_call0_v0) (c := main_call0_cst) (e := main_call0_c) (y := main_call0_v1_0) rfl (by decide) (by decide) (by decide) (by decide) (by decide)
  exact h

theorem v23_eq : v23 V = fun j => (Host.argReduce reducer_argmax_f32_i32 (v22 V) (call0_v0 V) (call0_cst V) (call0_c V) reducesTo_S32768x256_S32768_d1 h_S_ j).2 := by
  have h := quaternary_end V 30 (a := main_v22) (b := main_call0_v0) (c := main_call0_cst) (e := main_call0_c) (y := main_v23) rfl (by decide) (by decide) (by decide) (by decide) (by decide)
  exact h

theorem v24_eq : v24 V = broadcastInDim S1x256 ![1] bcast_S256_S1x256_1 (v17 V) := by
  have h := unary_end V 31 (x := main_v17) (y := main_v24) rfl (by decide) (by decide)
  exact h

theorem v25_eq : v25 V = broadcastInDim S32768x1 ![0] bcast_S32768_S32768x1_0 (v23 V) := by
  have h := unary_end V 32 (x := main_v23) (y := main_v25) rfl (by decide) (by decide)
  exact h

theorem v26_eq : v26 V = broadcastInDim S32768x256 ![0, 1] bcast_S1x256_S32768x256_0_1 (v24 V) := by
  have h := unary_end V 33 (x := main_v24) (y := main_v26) rfl (by decide) (by decide)
  exact h

theorem v27_eq : v27 V = broadcastInDim S32768x256 ![0, 1] bcast_S32768x1_S32768x256_0_1 (v25 V) := by
  have h := unary_end V 34 (x := main_v25) (y := main_v27) rfl (by decide) (by decide)
  exact h

theorem v28_eq : v28 V = cmpi .eq (v26 V) (v27 V) := by
  have h := binary_end V 35 (a := main_v26) (b := main_v27) (y := main_v28) rfl (by decide) (by decide) (by decide)
  exact h

theorem v29_eq : v29 V = ori (v18 V) (v28 V) := by
  have h := binary_end V 36 (a := main_v18) (b := main_v28) (y := main_v29) rfl (by decide) (by decide) (by decide)
  exact h

theorem v30_eq : v30 V = broadcastInDim S32768x1 ![0] bcast_S32768_S32768x1_0 (v23 V) := by
  have h := unary_end V 37 (x := main_v23) (y := main_v30) rfl (by decide) (by decide)
  exact h

theorem cst_1_eq : cst_1 V = constant S_ .f32 0x3F800000#32 := by
  have h := nullary_end V 38 (y := main_cst_1) rfl (by decide)
  exact h

theorem v31_eq : v31 V = broadcastInDim S32768x1x1 ![] bcast_S_S32768x1x1 (cst_1 V) := by
  have h := unary_end V 39 (x := main_cst_1) (y := main_v31) rfl (by decide) (by decide)
  exact h

theorem v32_eq : v32 V = broadcastInDim S32768x1 ![0] bcast_S32768_S32768x1_0 (v16 V) := by
  have h := unary_end V 40 (x := main_v16) (y := main_v32) rfl (by decide) (by decide)
  exact h

theorem v33_eq : v33 V = broadcastInDim S32768x1x1 ![0, 1] bcast_S32768x1_S32768x1x1_0_1 (v32 V) := by
  have h := unary_end V 41 (x := main_v32) (y := main_v33) rfl (by decide) (by decide)
  exact h

theorem v34_eq : v34 V = broadcastInDim S32768x1x1 ![0, 1] bcast_S32768x1_S32768x1x1_0_1 (v30 V) := by
  have h := unary_end V 42 (x := main_v30) (y := main_v34) rfl (by decide) (by decide)
  exact h

theorem v35_eq : v35 V = concatenate S32768x1x2 2 [⟨S32768x1x1, (v33 V)⟩, ⟨S32768x1x1, (v34 V)⟩] concatenates_S32768x1x1_S32768x1x1_S32768x1x2_d2 := by
  have h := binary_end V 43 (a := main_v33) (b := main_v34) (y := main_v35) rfl (by decide) (by decide) (by decide)
  exact h

theorem v36_eq : v36 V = Host.gather gather_S32768x256_S32768x1x2_S32768x1_n_01_n_n_01_2_11 (v15 V) (v35 V) := by
  have h := binary_end V 44 (a := main_v15) (b := main_v35) (y := main_v36) rfl (by decide) (by decide) (by decide)
  exact h

theorem v37_eq : v37 V = shapeCast S32768 (v36 V) shapeCasts_S32768x1_S32768 := by
  have h := reshape_end V 45 (x := main_v36) (y := main_v37) rfl (by decide) (by decide)
  exact h

theorem v38_eq : v38 V = shapeCast S32768 (v31 V) shapeCasts_S32768x1x1_S32768 := by
  have h := reshape_end V 46 (x := main_v31) (y := main_v38) rfl (by decide) (by decide)
  exact h

theorem v39_eq : v39 V = Host.divf (v37 V) (v38 V) := by
  have h := binary_end V 47 (a := main_v37) (b := main_v38) (y := main_v39) rfl (by decide) (by decide) (by decide)
  exact h

theorem v40_eq : v40 V = broadcastInDim S32768x1 ![0] bcast_S32768_S32768x1_0 (v39 V) := by
  have h := unary_end V 48 (x := main_v39) (y := main_v40) rfl (by decide) (by decide)
  exact h

theorem v41_eq : v41 V = transpose S32768x1x1 [0, 2, 1] (v31 V) transposes_S32768x1x1_S32768x1x1_0_2_1 := by
  have h := unary_end V 49 (x := main_v31) (y := main_v41) rfl (by decide) (by decide)
  exact h

theorem v42_eq : v42 V = shapeCast S32768 (v40 V) shapeCasts_S32768x1_S32768 := by
  have h := reshape_end V 50 (x := main_v40) (y := main_v42) rfl (by decide) (by decide)
  exact h

theorem v43_eq : v43 V = shapeCast S32768 (v41 V) shapeCasts_S32768x1x1_S32768 := by
  have h := reshape_end V 51 (x := main_v41) (y := main_v43) rfl (by decide) (by decide)
  exact h

theorem v44_eq : v44 V = Host.divf (v42 V) (v43 V) := by
  have h := binary_end V 52 (a := main_v42) (b := main_v43) (y := main_v44) rfl (by decide) (by decide) (by decide)
  exact h

theorem v45_eq : v45 V = broadcastInDim S32768x1 ![0] bcast_S32768_S32768x1_0 (v44 V) := by
  have h := unary_end V 53 (x := main_v44) (y := main_v45) rfl (by decide) (by decide)
  exact h

theorem v46_eq : v46 V = broadcastInDim S32768x1x1 ![0, 1] bcast_S32768x1_S32768x1x1_0_1 (v30 V) := by
  have h := unary_end V 54 (x := main_v30) (y := main_v46) rfl (by decide) (by decide)
  exact h

theorem v47_eq : v47 V = Host.gather gather_S256x256_S32768x1x1_S32768x1x256_2_0_n_n_0_2_1256 (v12 V) (v46 V) := by
  have h := binary_end V 55 (a := main_v12) (b := main_v46) (y := main_v47) rfl (by decide) (by decide) (by decide)
  exact h

theorem v48_eq : v48 V = Host.dotGeneral dot_S32768x1_S32768x1x256_S32768x256_1_1_n_2_0_0 none (v45 V) (v47 V) := by
  have h := binary_end V 56 (a := main_v45) (b := main_v47) (y := main_v48) rfl (by decide) (by decide) (by decide)
  exact h

theorem v49_eq : v49 V = subf (v15 V) (v48 V) := by
  have h := binary_end V 57 (a := main_v15) (b := main_v48) (y := main_v49) rfl (by decide) (by decide) (by decide)
  exact h

theorem v50_eq : v50 V = noti (v29 V) := by
  have h := unary_end V 58 (x := main_v29) (y := main_v50) rfl (by decide) (by decide)
  exact h

theorem v51_eq : v51 V = uitofp .f32 (v50 V) := by
  have h := unary_end V 59 (x := main_v50) (y := main_v51) rfl (by decide) (by decide)
  exact h

theorem v52_eq : v52 V = mulf (v49 V) (v51 V) := by
  have h := binary_end V 60 (a := main_v49) (b := main_v51) (y := main_v52) rfl (by decide) (by decide) (by decide)
  exact h

theorem v53_eq : v53 V = Host.absf (v52 V) := by
  have h := unary_end V 61 (x := main_v52) (y := main_v53) rfl (by decide) (by decide)
  exact h

theorem call1_v0_eq : call1_v0 V = iotaInDim S32768x256 32 1 := by
  have h := nullary_end V 62 (y := main_call1_v0) rfl (by decide)
  exact h

theorem call1_cst_eq : call1_cst V = constant S_ .f32 0xFF800000#32 := by
  have h := nullary_end V 63 (y := main_call1_cst) rfl (by decide)
  exact h

theorem call1_c_eq : call1_c V = constantI S_ 32 0#32 := by
  have h := nullary_end V 64 (y := main_call1_c) rfl (by decide)
  exact h

theorem call1_v1_0_eq : call1_v1_0 V = fun j => (Host.argReduce reducer_argmax_f32_i32 (v53 V) (call1_v0 V) (call1_cst V) (call1_c V) reducesTo_S32768x256_S32768_d1 h_S_ j).1 := by
  have h := quaternary_end V 65 (a := main_v53) (b := main_call1_v0) (c := main_call1_cst) (e := main_call1_c) (y := main_call1_v1_0) rfl (by decide) (by decide) (by decide) (by decide) (by decide)
  exact h

theorem v54_eq : v54 V = fun j => (Host.argReduce reducer_argmax_f32_i32 (v53 V) (call1_v0 V) (call1_cst V) (call1_c V) reducesTo_S32768x256_S32768_d1 h_S_ j).2 := by
  have h := quaternary_end V 66 (a := main_v53) (b := main_call1_v0) (c := main_call1_cst) (e := main_call1_c) (y := main_v54) rfl (by decide) (by decide) (by decide) (by decide) (by decide)
  exact h

theorem v55_eq : v55 V = broadcastInDim S1x256 ![1] bcast_S256_S1x256_1 (v17 V) := by
  have h := unary_end V 67 (x := main_v17) (y := main_v55) rfl (by decide) (by decide)
  exact h

theorem v56_eq : v56 V = broadcastInDim S32768x1 ![0] bcast_S32768_S32768x1_0 (v54 V) := by
  have h := unary_end V 68 (x := main_v54) (y := main_v56) rfl (by decide) (by decide)
  exact h

theorem v57_eq : v57 V = broadcastInDim S32768x256 ![0, 1] bcast_S1x256_S32768x256_0_1 (v55 V) := by
  have h := unary_end V 69 (x := main_v55) (y := main_v57) rfl (by decide) (by decide)
  exact h

theorem v58_eq : v58 V = broadcastInDim S32768x256 ![0, 1] bcast_S32768x1_S32768x256_0_1 (v56 V) := by
  have h := unary_end V 70 (x := main_v56) (y := main_v58) rfl (by decide) (by decide)
  exact h

theorem v59_eq : v59 V = cmpi .eq (v57 V) (v58 V) := by
  have h := binary_end V 71 (a := main_v57) (b := main_v58) (y := main_v59) rfl (by decide) (by decide) (by decide)
  exact h

theorem v60_eq : v60 V = ori (v29 V) (v59 V) := by
  have h := binary_end V 72 (a := main_v29) (b := main_v59) (y := main_v60) rfl (by decide) (by decide) (by decide)
  exact h

theorem v61_eq : v61 V = broadcastInDim S32768x1 ![0] bcast_S32768_S32768x1_0 (v54 V) := by
  have h := unary_end V 73 (x := main_v54) (y := main_v61) rfl (by decide) (by decide)
  exact h

theorem v62_eq : v62 V = broadcastInDim S32768x1x1 ![0, 1] bcast_S32768x1_S32768x1x1_0_1 (v30 V) := by
  have h := unary_end V 74 (x := main_v30) (y := main_v62) rfl (by decide) (by decide)
  exact h

theorem v63_eq : v63 V = broadcastInDim S32768x1x1 ![0, 1] bcast_S32768x1_S32768x1x1_0_1 (v61 V) := by
  have h := unary_end V 75 (x := main_v61) (y := main_v63) rfl (by decide) (by decide)
  exact h

theorem v64_eq : v64 V = concatenate S32768x1x2 2 [⟨S32768x1x1, (v62 V)⟩, ⟨S32768x1x1, (v63 V)⟩] concatenates_S32768x1x1_S32768x1x1_S32768x1x2_d2 := by
  have h := binary_end V 76 (a := main_v62) (b := main_v63) (y := main_v64) rfl (by decide) (by decide) (by decide)
  exact h

theorem v65_eq : v65 V = Host.gather gather_S256x256_S32768x1x2_S32768x1_n_01_n_n_01_2_11 (v12 V) (v64 V) := by
  have h := binary_end V 77 (a := main_v12) (b := main_v64) (y := main_v65) rfl (by decide) (by decide) (by decide)
  exact h

theorem v66_eq : v66 V = shapeCast S32768 (v65 V) shapeCasts_S32768x1_S32768 := by
  have h := reshape_end V 78 (x := main_v65) (y := main_v66) rfl (by decide) (by decide)
  exact h

theorem v67_eq : v67 V = shapeCast S32768 (v31 V) shapeCasts_S32768x1x1_S32768 := by
  have h := reshape_end V 79 (x := main_v31) (y := main_v67) rfl (by decide) (by decide)
  exact h

theorem v68_eq : v68 V = Host.divf (v66 V) (v67 V) := by
  have h := binary_end V 80 (a := main_v66) (b := main_v67) (y := main_v68) rfl (by decide) (by decide) (by decide)
  exact h

theorem v69_eq : v69 V = broadcastInDim S32768x1 ![0] bcast_S32768_S32768x1_0 (v68 V) := by
  have h := unary_end V 81 (x := main_v68) (y := main_v69) rfl (by decide) (by decide)
  exact h

theorem v70_eq : v70 V = mulf (v69 V) (v69 V) := by
  have h := binary_end V 82 (a := main_v69) (b := main_v69) (y := main_v70) rfl (by decide) (by decide) (by decide)
  exact h

theorem cst_2_eq : cst_2 V = constant S_ .f32 0x00000000#32 := by
  have h := nullary_end V 83 (y := main_cst_2) rfl (by decide)
  exact h

theorem v71_eq : v71 V = Host.reduceAdd (v70 V) (cst_2 V) reducesTo_S32768x1_S32768_d1 h_S_ := by
  have h := binary_end V 84 (a := main_v70) (b := main_cst_2) (y := main_v71) rfl (by decide) (by decide) (by decide)
  exact h

theorem v72_eq : v72 V = broadcastInDim S32768x1 ![0] bcast_S32768_S32768x1_0 (v71 V) := by
  have h := unary_end V 85 (x := main_v71) (y := main_v72) rfl (by decide) (by decide)
  exact h

theorem cst_3_eq : cst_3 V = constant S_ .f32 0x3F800000#32 := by
  have h := nullary_end V 86 (y := main_cst_3) rfl (by decide)
  exact h

theorem v73_eq : v73 V = broadcastInDim S32768x1 ![] bcast_S_S32768x1 (cst_3 V) := by
  have h := unary_end V 87 (x := main_cst_3) (y := main_v73) rfl (by decide) (by decide)
  exact h

theorem v74_eq : v74 V = subf (v73 V) (v72 V) := by
  have h := binary_end V 88 (a := main_v73) (b := main_v72) (y := main_v74) rfl (by decide) (by decide) (by decide)
  exact h

theorem cst_4_eq : cst_4 V = constant S_ .f32 0x2B8CBCCC#32 := by
  have h := nullary_end V 89 (y := main_cst_4) rfl (by decide)
  exact h

theorem v75_eq : v75 V = broadcastInDim S32768x1 ![] bcast_S_S32768x1 (cst_4 V) := by
  have h := unary_end V 90 (x := main_cst_4) (y := main_v75) rfl (by decide) (by decide)
  exact h

theorem v76_eq : v76 V = maximumf (v74 V) (v75 V) := by
  have h := binary_end V 91 (a := main_v74) (b := main_v75) (y := main_v76) rfl (by decide) (by decide) (by decide)
  exact h

theorem v77_eq : v77 V = Host.sqrt (v76 V) := by
  have h := unary_end V 92 (x := main_v76) (y := main_v77) rfl (by decide) (by decide)
  exact h

theorem cst_5_eq : cst_5 V = constant S_ .f32 0x00000000#32 := by
  have h := nullary_end V 93 (y := main_cst_5) rfl (by decide)
  exact h

theorem v78_eq : v78 V = broadcastInDim S32768x1x1 ![] bcast_S_S32768x1x1 (cst_5 V) := by
  have h := unary_end V 94 (x := main_cst_5) (y := main_v78) rfl (by decide) (by decide)
  exact h

theorem v79_eq : v79 V = concatenate S32768x1x2 2 [⟨S32768x1x1, (v31 V)⟩, ⟨S32768x1x1, (v78 V)⟩] concatenates_S32768x1x1_S32768x1x1_S32768x1x2_d2 := by
  have h := binary_end V 95 (a := main_v31) (b := main_v78) (y := main_v79) rfl (by decide) (by decide) (by decide)
  exact h

theorem v80_eq : v80 V = concatenate S32768x2 1 [⟨S32768x1, (v69 V)⟩, ⟨S32768x1, (v77 V)⟩] concatenates_S32768x1_S32768x1_S32768x2_d1 := by
  have h := binary_end V 96 (a := main_v69) (b := main_v77) (y := main_v80) rfl (by decide) (by decide) (by decide)
  exact h

theorem v81_eq : v81 V = broadcastInDim S32768x1x2 ![0, 2] bcast_S32768x2_S32768x1x2_0_2 (v80 V) := by
  have h := unary_end V 97 (x := main_v80) (y := main_v81) rfl (by decide) (by decide)
  exact h

theorem v82_eq : v82 V = concatenate S32768x2x2 1 [⟨S32768x1x2, (v79 V)⟩, ⟨S32768x1x2, (v81 V)⟩] concatenates_S32768x1x2_S32768x1x2_S32768x2x2_d1 := by
  have h := binary_end V 98 (a := main_v79) (b := main_v81) (y := main_v82) rfl (by decide) (by decide) (by decide)
  exact h

theorem v83_eq : v83 V = broadcastInDim S32768x1 ![0] bcast_S32768_S32768x1_0 (v54 V) := by
  have h := unary_end V 99 (x := main_v54) (y := main_v83) rfl (by decide) (by decide)
  exact h

theorem v84_eq : v84 V = concatenate S32768x2 1 [⟨S32768x1, (v30 V)⟩, ⟨S32768x1, (v83 V)⟩] concatenates_S32768x1_S32768x1_S32768x2_d1 := by
  have h := binary_end V 100 (a := main_v30) (b := main_v83) (y := main_v84) rfl (by decide) (by decide) (by decide)
  exact h

theorem v85_eq : v85 V = broadcastInDim S32768x1 ![0] bcast_S32768_S32768x1_0 (v16 V) := by
  have h := unary_end V 101 (x := main_v16) (y := main_v85) rfl (by decide) (by decide)
  exact h

theorem v86_eq : v86 V = broadcastInDim S32768x2 ![0, 1] bcast_S32768x1_S32768x2_0_1 (v85 V) := by
  have h := unary_end V 102 (x := main_v85) (y := main_v86) rfl (by decide) (by decide)
  exact h

theorem v87_eq : v87 V = broadcastInDim S32768x2x1 ![0, 1] bcast_S32768x2_S32768x2x1_0_1 (v86 V) := by
  have h := unary_end V 103 (x := main_v86) (y := main_v87) rfl (by decide) (by decide)
  exact h

theorem v88_eq : v88 V = broadcastInDim S32768x2x1 ![0, 1] bcast_S32768x2_S32768x2x1_0_1 (v84 V) := by
  have h := unary_end V 104 (x := main_v84) (y := main_v88) rfl (by decide) (by decide)
  exact h

theorem v89_eq : v89 V = concatenate S32768x2x2 2 [⟨S32768x2x1, (v87 V)⟩, ⟨S32768x2x1, (v88 V)⟩] concatenates_S32768x2x1_S32768x2x1_S32768x2x2_d2 := by
  have h := binary_end V 105 (a := main_v87) (b := main_v88) (y := main_v89) rfl (by decide) (by decide) (by decide)
  exact h

theorem v90_eq : v90 V = Host.gather gather_S32768x256_S32768x2x2_S32768x2_n_01_n_n_01_2_11 (v15 V) (v89 V) := by
  have h := binary_end V 106 (a := main_v15) (b := main_v89) (y := main_v90) rfl (by decide) (by decide) (by decide)
  exact h

theorem v91_eq : v91 V = extractStridedSlice S32768x1 ![0, 0] (v90 V) slices_S32768x2_S32768x1_0_0 := by
  have h := unary_end V 107 (x := main_v90) (y := main_v91) rfl (by decide) (by decide)
  exact h

theorem v92_eq : v92 V = shapeCast S32768 (v91 V) shapeCasts_S32768x1_S32768 := by
  have h := reshape_end V 108 (x := main_v91) (y := main_v92) rfl (by decide) (by decide)
  exact h

theorem v93_eq : v93 V = extractStridedSlice S32768x1x1 ![0, 0, 0] (v82 V) slices_S32768x2x2_S32768x1x1_0_0_0 := by
  have h := unary_end V 109 (x := main_v82) (y := main_v93) rfl (by decide) (by decide)
  exact h

theorem v94_eq : v94 V = shapeCast S32768 (v93 V) shapeCasts_S32768x1x1_S32768 := by
  have h := reshape_end V 110 (x := main_v93) (y := main_v94) rfl (by decide) (by decide)
  exact h

theorem v95_eq : v95 V = Host.divf (v92 V) (v94 V) := by
  have h := binary_end V 111 (a := main_v92) (b := main_v94) (y := main_v95) rfl (by decide) (by decide) (by decide)
  exact h

theorem v96_eq : v96 V = extractStridedSlice S32768x1 ![0, 1] (v90 V) slices_S32768x2_S32768x1_0_1 := by
  have h := unary_end V 112 (x := main_v90) (y := main_v96) rfl (by decide) (by decide)
  exact h

theorem v97_eq : v97 V = shapeCast S32768 (v96 V) shapeCasts_S32768x1_S32768 := by
  have h := reshape_end V 113 (x := main_v96) (y := main_v97) rfl (by decide) (by decide)
  exact h

theorem v98_eq : v98 V = extractStridedSlice S32768x1x1 ![0, 1, 0] (v82 V) slices_S32768x2x2_S32768x1x1_0_1_0 := by
  have h := unary_end V 114 (x := main_v82) (y := main_v98) rfl (by decide) (by decide)
  exact h

theorem v99_eq : v99 V = shapeCast S32768 (v98 V) shapeCasts_S32768x1x1_S32768 := by
  have h := reshape_end V 115 (x := main_v98) (y := main_v99) rfl (by decide) (by decide)
  exact h

theorem v100_eq : v100 V = mulf (v99 V) (v95 V) := by
  have h := binary_end V 116 (a := main_v99) (b := main_v95) (y := main_v100) rfl (by decide) (by decide) (by decide)
  exact h

theorem v101_eq : v101 V = subf (v97 V) (v100 V) := by
  have h := binary_end V 117 (a := main_v97) (b := main_v100) (y := main_v101) rfl (by decide) (by decide) (by decide)
  exact h

theorem v102_eq : v102 V = extractStridedSlice S32768x1x1 ![0, 1, 1] (v82 V) slices_S32768x2x2_S32768x1x1_0_1_1 := by
  have h := unary_end V 118 (x := main_v82) (y := main_v102) rfl (by decide) (by decide)
  exact h

theorem v103_eq : v103 V = shapeCast S32768 (v102 V) shapeCasts_S32768x1x1_S32768 := by
  have h := reshape_end V 119 (x := main_v102) (y := main_v103) rfl (by decide) (by decide)
  exact h

theorem v104_eq : v104 V = Host.divf (v101 V) (v103 V) := by
  have h := binary_end V 120 (a := main_v101) (b := main_v103) (y := main_v104) rfl (by decide) (by decide) (by decide)
  exact h

theorem v105_eq : v105 V = broadcastInDim S32768x1 ![0] bcast_S32768_S32768x1_0 (v95 V) := by
  have h := unary_end V 121 (x := main_v95) (y := main_v105) rfl (by decide) (by decide)
  exact h

theorem v106_eq : v106 V = broadcastInDim S32768x1 ![0] bcast_S32768_S32768x1_0 (v104 V) := by
  have h := unary_end V 122 (x := main_v104) (y := main_v106) rfl (by decide) (by decide)
  exact h

theorem v107_eq : v107 V = concatenate S32768x2 1 [⟨S32768x1, (v105 V)⟩, ⟨S32768x1, (v106 V)⟩] concatenates_S32768x1_S32768x1_S32768x2_d1 := by
  have h := binary_end V 123 (a := main_v105) (b := main_v106) (y := main_v107) rfl (by decide) (by decide) (by decide)
  exact h

theorem v108_eq : v108 V = transpose S32768x2x2 [0, 2, 1] (v82 V) transposes_S32768x2x2_S32768x2x2_0_2_1 := by
  have h := unary_end V 124 (x := main_v82) (y := main_v108) rfl (by decide) (by decide)
  exact h

theorem v109_eq : v109 V = extractStridedSlice S32768x1 ![0, 1] (v107 V) slices_S32768x2_S32768x1_0_1 := by
  have h := unary_end V 125 (x := main_v107) (y := main_v109) rfl (by decide) (by decide)
  exact h

theorem v110_eq : v110 V = shapeCast S32768 (v109 V) shapeCasts_S32768x1_S32768 := by
  have h := reshape_end V 126 (x := main_v109) (y := main_v110) rfl (by decide) (by decide)
  exact h

theorem v111_eq : v111 V = extractStridedSlice S32768x1x1 ![0, 1, 1] (v108 V) slices_S32768x2x2_S32768x1x1_0_1_1 := by
  have h := unary_end V 127 (x := main_v108) (y := main_v111) rfl (by decide) (by decide)
  exact h

theorem v112_eq : v112 V = shapeCast S32768 (v111 V) shapeCasts_S32768x1x1_S32768 := by
  have h := reshape_end V 128 (x := main_v111) (y := main_v112) rfl (by decide) (by decide)
  exact h

theorem v113_eq : v113 V = Host.divf (v110 V) (v112 V) := by
  have h := binary_end V 129 (a := main_v110) (b := main_v112) (y := main_v113) rfl (by decide) (by decide) (by decide)
  exact h

theorem v114_eq : v114 V = extractStridedSlice S32768x1 ![0, 0] (v107 V) slices_S32768x2_S32768x1_0_0 := by
  have h := unary_end V 130 (x := main_v107) (y := main_v114) rfl (by decide) (by decide)
  exact h

theorem v115_eq : v115 V = shapeCast S32768 (v114 V) shapeCasts_S32768x1_S32768 := by
  have h := reshape_end V 131 (x := main_v114) (y := main_v115) rfl (by decide) (by decide)
  exact h

theorem v116_eq : v116 V = extractStridedSlice S32768x1x1 ![0, 0, 1] (v108 V) slices_S32768x2x2_S32768x1x1_0_0_1 := by
  have h := unary_end V 132 (x := main_v108) (y := main_v116) rfl (by decide) (by decide)
  exact h

theorem v117_eq : v117 V = shapeCast S32768 (v116 V) shapeCasts_S32768x1x1_S32768 := by
  have h := reshape_end V 133 (x := main_v116) (y := main_v117) rfl (by decide) (by decide)
  exact h

end Cert.Proof.Ref

end
-- ==== Proof.RefEqs1.lean ====
/- The equations of the reference's operations, part 2 of 4: what each buffer holds at the end, in terms of its operands. -/
module

public import proofs.«01_k».proof.Proof.RefVals

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192

theorem v118_eq : v118 V = mulf (v117 V) (v113 V) := by
  have h := binary_end V 134 (a := main_v117) (b := main_v113) (y := main_v118) rfl (by decide) (by decide) (by decide)
  exact h

theorem v119_eq : v119 V = subf (v115 V) (v118 V) := by
  have h := binary_end V 135 (a := main_v115) (b := main_v118) (y := main_v119) rfl (by decide) (by decide) (by decide)
  exact h

theorem v120_eq : v120 V = extractStridedSlice S32768x1x1 ![0, 0, 0] (v108 V) slices_S32768x2x2_S32768x1x1_0_0_0 := by
  have h := unary_end V 136 (x := main_v108) (y := main_v120) rfl (by decide) (by decide)
  exact h

theorem v121_eq : v121 V = shapeCast S32768 (v120 V) shapeCasts_S32768x1x1_S32768 := by
  have h := reshape_end V 137 (x := main_v120) (y := main_v121) rfl (by decide) (by decide)
  exact h

theorem v122_eq : v122 V = Host.divf (v119 V) (v121 V) := by
  have h := binary_end V 138 (a := main_v119) (b := main_v121) (y := main_v122) rfl (by decide) (by decide) (by decide)
  exact h

theorem v123_eq : v123 V = broadcastInDim S32768x1 ![0] bcast_S32768_S32768x1_0 (v122 V) := by
  have h := unary_end V 139 (x := main_v122) (y := main_v123) rfl (by decide) (by decide)
  exact h

theorem v124_eq : v124 V = broadcastInDim S32768x1 ![0] bcast_S32768_S32768x1_0 (v113 V) := by
  have h := unary_end V 140 (x := main_v113) (y := main_v124) rfl (by decide) (by decide)
  exact h

theorem v125_eq : v125 V = concatenate S32768x2 1 [⟨S32768x1, (v123 V)⟩, ⟨S32768x1, (v124 V)⟩] concatenates_S32768x1_S32768x1_S32768x2_d1 := by
  have h := binary_end V 141 (a := main_v123) (b := main_v124) (y := main_v125) rfl (by decide) (by decide) (by decide)
  exact h

theorem v126_eq : v126 V = broadcastInDim S32768x2x1 ![0, 1] bcast_S32768x2_S32768x2x1_0_1 (v84 V) := by
  have h := unary_end V 142 (x := main_v84) (y := main_v126) rfl (by decide) (by decide)
  exact h

theorem v127_eq : v127 V = Host.gather gather_S256x256_S32768x2x1_S32768x2x256_2_0_n_n_0_2_1256 (v12 V) (v126 V) := by
  have h := binary_end V 143 (a := main_v12) (b := main_v126) (y := main_v127) rfl (by decide) (by decide) (by decide)
  exact h

theorem v128_eq : v128 V = Host.dotGeneral dot_S32768x2_S32768x2x256_S32768x256_1_1_n_2_0_0 none (v125 V) (v127 V) := by
  have h := binary_end V 144 (a := main_v125) (b := main_v127) (y := main_v128) rfl (by decide) (by decide) (by decide)
  exact h

theorem v129_eq : v129 V = subf (v15 V) (v128 V) := by
  have h := binary_end V 145 (a := main_v15) (b := main_v128) (y := main_v129) rfl (by decide) (by decide) (by decide)
  exact h

theorem v130_eq : v130 V = noti (v60 V) := by
  have h := unary_end V 146 (x := main_v60) (y := main_v130) rfl (by decide) (by decide)
  exact h

theorem v131_eq : v131 V = uitofp .f32 (v130 V) := by
  have h := unary_end V 147 (x := main_v130) (y := main_v131) rfl (by decide) (by decide)
  exact h

theorem v132_eq : v132 V = mulf (v129 V) (v131 V) := by
  have h := binary_end V 148 (a := main_v129) (b := main_v131) (y := main_v132) rfl (by decide) (by decide) (by decide)
  exact h

theorem v133_eq : v133 V = Host.absf (v132 V) := by
  have h := unary_end V 149 (x := main_v132) (y := main_v133) rfl (by decide) (by decide)
  exact h

theorem call2_v0_eq : call2_v0 V = iotaInDim S32768x256 32 1 := by
  have h := nullary_end V 150 (y := main_call2_v0) rfl (by decide)
  exact h

theorem call2_cst_eq : call2_cst V = constant S_ .f32 0xFF800000#32 := by
  have h := nullary_end V 151 (y := main_call2_cst) rfl (by decide)
  exact h

theorem call2_c_eq : call2_c V = constantI S_ 32 0#32 := by
  have h := nullary_end V 152 (y := main_call2_c) rfl (by decide)
  exact h

theorem call2_v1_0_eq : call2_v1_0 V = fun j => (Host.argReduce reducer_argmax_f32_i32 (v133 V) (call2_v0 V) (call2_cst V) (call2_c V) reducesTo_S32768x256_S32768_d1 h_S_ j).1 := by
  have h := quaternary_end V 153 (a := main_v133) (b := main_call2_v0) (c := main_call2_cst) (e := main_call2_c) (y := main_call2_v1_0) rfl (by decide) (by decide) (by decide) (by decide) (by decide)
  exact h

theorem v134_eq : v134 V = fun j => (Host.argReduce reducer_argmax_f32_i32 (v133 V) (call2_v0 V) (call2_cst V) (call2_c V) reducesTo_S32768x256_S32768_d1 h_S_ j).2 := by
  have h := quaternary_end V 154 (a := main_v133) (b := main_call2_v0) (c := main_call2_cst) (e := main_call2_c) (y := main_v134) rfl (by decide) (by decide) (by decide) (by decide) (by decide)
  exact h

theorem v135_eq : v135 V = broadcastInDim S1x256 ![1] bcast_S256_S1x256_1 (v17 V) := by
  have h := unary_end V 155 (x := main_v17) (y := main_v135) rfl (by decide) (by decide)
  exact h

theorem v136_eq : v136 V = broadcastInDim S32768x1 ![0] bcast_S32768_S32768x1_0 (v134 V) := by
  have h := unary_end V 156 (x := main_v134) (y := main_v136) rfl (by decide) (by decide)
  exact h

theorem v137_eq : v137 V = broadcastInDim S32768x256 ![0, 1] bcast_S1x256_S32768x256_0_1 (v135 V) := by
  have h := unary_end V 157 (x := main_v135) (y := main_v137) rfl (by decide) (by decide)
  exact h

theorem v138_eq : v138 V = broadcastInDim S32768x256 ![0, 1] bcast_S32768x1_S32768x256_0_1 (v136 V) := by
  have h := unary_end V 158 (x := main_v136) (y := main_v138) rfl (by decide) (by decide)
  exact h

theorem v139_eq : v139 V = cmpi .eq (v137 V) (v138 V) := by
  have h := binary_end V 159 (a := main_v137) (b := main_v138) (y := main_v139) rfl (by decide) (by decide) (by decide)
  exact h

theorem v140_eq : v140 V = ori (v60 V) (v139 V) := by
  have h := binary_end V 160 (a := main_v60) (b := main_v139) (y := main_v140) rfl (by decide) (by decide) (by decide)
  exact h

theorem v141_eq : v141 V = broadcastInDim S32768x1 ![0] bcast_S32768_S32768x1_0 (v134 V) := by
  have h := unary_end V 161 (x := main_v134) (y := main_v141) rfl (by decide) (by decide)
  exact h

theorem v142_eq : v142 V = broadcastInDim S32768x2 ![0, 1] bcast_S32768x1_S32768x2_0_1 (v141 V) := by
  have h := unary_end V 162 (x := main_v141) (y := main_v142) rfl (by decide) (by decide)
  exact h

theorem v143_eq : v143 V = broadcastInDim S32768x2x1 ![0, 1] bcast_S32768x2_S32768x2x1_0_1 (v84 V) := by
  have h := unary_end V 163 (x := main_v84) (y := main_v143) rfl (by decide) (by decide)
  exact h

theorem v144_eq : v144 V = broadcastInDim S32768x2x1 ![0, 1] bcast_S32768x2_S32768x2x1_0_1 (v142 V) := by
  have h := unary_end V 164 (x := main_v142) (y := main_v144) rfl (by decide) (by decide)
  exact h

theorem v145_eq : v145 V = concatenate S32768x2x2 2 [⟨S32768x2x1, (v143 V)⟩, ⟨S32768x2x1, (v144 V)⟩] concatenates_S32768x2x1_S32768x2x1_S32768x2x2_d2 := by
  have h := binary_end V 165 (a := main_v143) (b := main_v144) (y := main_v145) rfl (by decide) (by decide) (by decide)
  exact h

theorem v146_eq : v146 V = Host.gather gather_S256x256_S32768x2x2_S32768x2_n_01_n_n_01_2_11 (v12 V) (v145 V) := by
  have h := binary_end V 166 (a := main_v12) (b := main_v145) (y := main_v146) rfl (by decide) (by decide) (by decide)
  exact h

theorem v147_eq : v147 V = extractStridedSlice S32768x1 ![0, 0] (v146 V) slices_S32768x2_S32768x1_0_0 := by
  have h := unary_end V 167 (x := main_v146) (y := main_v147) rfl (by decide) (by decide)
  exact h

theorem v148_eq : v148 V = shapeCast S32768 (v147 V) shapeCasts_S32768x1_S32768 := by
  have h := reshape_end V 168 (x := main_v147) (y := main_v148) rfl (by decide) (by decide)
  exact h

theorem v149_eq : v149 V = extractStridedSlice S32768x1x1 ![0, 0, 0] (v82 V) slices_S32768x2x2_S32768x1x1_0_0_0 := by
  have h := unary_end V 169 (x := main_v82) (y := main_v149) rfl (by decide) (by decide)
  exact h

theorem v150_eq : v150 V = shapeCast S32768 (v149 V) shapeCasts_S32768x1x1_S32768 := by
  have h := reshape_end V 170 (x := main_v149) (y := main_v150) rfl (by decide) (by decide)
  exact h

theorem v151_eq : v151 V = Host.divf (v148 V) (v150 V) := by
  have h := binary_end V 171 (a := main_v148) (b := main_v150) (y := main_v151) rfl (by decide) (by decide) (by decide)
  exact h

theorem v152_eq : v152 V = extractStridedSlice S32768x1 ![0, 1] (v146 V) slices_S32768x2_S32768x1_0_1 := by
  have h := unary_end V 172 (x := main_v146) (y := main_v152) rfl (by decide) (by decide)
  exact h

theorem v153_eq : v153 V = shapeCast S32768 (v152 V) shapeCasts_S32768x1_S32768 := by
  have h := reshape_end V 173 (x := main_v152) (y := main_v153) rfl (by decide) (by decide)
  exact h

theorem v154_eq : v154 V = extractStridedSlice S32768x1x1 ![0, 1, 0] (v82 V) slices_S32768x2x2_S32768x1x1_0_1_0 := by
  have h := unary_end V 174 (x := main_v82) (y := main_v154) rfl (by decide) (by decide)
  exact h

theorem v155_eq : v155 V = shapeCast S32768 (v154 V) shapeCasts_S32768x1x1_S32768 := by
  have h := reshape_end V 175 (x := main_v154) (y := main_v155) rfl (by decide) (by decide)
  exact h

theorem v156_eq : v156 V = mulf (v155 V) (v151 V) := by
  have h := binary_end V 176 (a := main_v155) (b := main_v151) (y := main_v156) rfl (by decide) (by decide) (by decide)
  exact h

theorem v157_eq : v157 V = subf (v153 V) (v156 V) := by
  have h := binary_end V 177 (a := main_v153) (b := main_v156) (y := main_v157) rfl (by decide) (by decide) (by decide)
  exact h

theorem v158_eq : v158 V = extractStridedSlice S32768x1x1 ![0, 1, 1] (v82 V) slices_S32768x2x2_S32768x1x1_0_1_1 := by
  have h := unary_end V 178 (x := main_v82) (y := main_v158) rfl (by decide) (by decide)
  exact h

theorem v159_eq : v159 V = shapeCast S32768 (v158 V) shapeCasts_S32768x1x1_S32768 := by
  have h := reshape_end V 179 (x := main_v158) (y := main_v159) rfl (by decide) (by decide)
  exact h

theorem v160_eq : v160 V = Host.divf (v157 V) (v159 V) := by
  have h := binary_end V 180 (a := main_v157) (b := main_v159) (y := main_v160) rfl (by decide) (by decide) (by decide)
  exact h

theorem v161_eq : v161 V = broadcastInDim S32768x1 ![0] bcast_S32768_S32768x1_0 (v151 V) := by
  have h := unary_end V 181 (x := main_v151) (y := main_v161) rfl (by decide) (by decide)
  exact h

theorem v162_eq : v162 V = broadcastInDim S32768x1 ![0] bcast_S32768_S32768x1_0 (v160 V) := by
  have h := unary_end V 182 (x := main_v160) (y := main_v162) rfl (by decide) (by decide)
  exact h

theorem v163_eq : v163 V = concatenate S32768x2 1 [⟨S32768x1, (v161 V)⟩, ⟨S32768x1, (v162 V)⟩] concatenates_S32768x1_S32768x1_S32768x2_d1 := by
  have h := binary_end V 183 (a := main_v161) (b := main_v162) (y := main_v163) rfl (by decide) (by decide) (by decide)
  exact h

theorem v164_eq : v164 V = mulf (v163 V) (v163 V) := by
  have h := binary_end V 184 (a := main_v163) (b := main_v163) (y := main_v164) rfl (by decide) (by decide) (by decide)
  exact h

theorem cst_6_eq : cst_6 V = constant S_ .f32 0x00000000#32 := by
  have h := nullary_end V 185 (y := main_cst_6) rfl (by decide)
  exact h

theorem v165_eq : v165 V = Host.reduceAdd (v164 V) (cst_6 V) reducesTo_S32768x2_S32768_d1 h_S_ := by
  have h := binary_end V 186 (a := main_v164) (b := main_cst_6) (y := main_v165) rfl (by decide) (by decide) (by decide)
  exact h

theorem v166_eq : v166 V = broadcastInDim S32768x1 ![0] bcast_S32768_S32768x1_0 (v165 V) := by
  have h := unary_end V 187 (x := main_v165) (y := main_v166) rfl (by decide) (by decide)
  exact h

theorem cst_7_eq : cst_7 V = constant S_ .f32 0x3F800000#32 := by
  have h := nullary_end V 188 (y := main_cst_7) rfl (by decide)
  exact h

theorem v167_eq : v167 V = broadcastInDim S32768x1 ![] bcast_S_S32768x1 (cst_7 V) := by
  have h := unary_end V 189 (x := main_cst_7) (y := main_v167) rfl (by decide) (by decide)
  exact h

theorem v168_eq : v168 V = subf (v167 V) (v166 V) := by
  have h := binary_end V 190 (a := main_v167) (b := main_v166) (y := main_v168) rfl (by decide) (by decide) (by decide)
  exact h

theorem cst_8_eq : cst_8 V = constant S_ .f32 0x2B8CBCCC#32 := by
  have h := nullary_end V 191 (y := main_cst_8) rfl (by decide)
  exact h

theorem v169_eq : v169 V = broadcastInDim S32768x1 ![] bcast_S_S32768x1 (cst_8 V) := by
  have h := unary_end V 192 (x := main_cst_8) (y := main_v169) rfl (by decide) (by decide)
  exact h

theorem v170_eq : v170 V = maximumf (v168 V) (v169 V) := by
  have h := binary_end V 193 (a := main_v168) (b := main_v169) (y := main_v170) rfl (by decide) (by decide) (by decide)
  exact h

theorem v171_eq : v171 V = Host.sqrt (v170 V) := by
  have h := unary_end V 194 (x := main_v170) (y := main_v171) rfl (by decide) (by decide)
  exact h

theorem cst_9_eq : cst_9 V = constant S_ .f32 0x00000000#32 := by
  have h := nullary_end V 195 (y := main_cst_9) rfl (by decide)
  exact h

theorem v172_eq : v172 V = broadcastInDim S32768x2x1 ![] bcast_S_S32768x2x1 (cst_9 V) := by
  have h := unary_end V 196 (x := main_cst_9) (y := main_v172) rfl (by decide) (by decide)
  exact h

theorem v173_eq : v173 V = concatenate S32768x2x3 2 [⟨S32768x2x2, (v82 V)⟩, ⟨S32768x2x1, (v172 V)⟩] concatenates_S32768x2x2_S32768x2x1_S32768x2x3_d2 := by
  have h := binary_end V 197 (a := main_v82) (b := main_v172) (y := main_v173) rfl (by decide) (by decide) (by decide)
  exact h

theorem v174_eq : v174 V = concatenate S32768x3 1 [⟨S32768x2, (v163 V)⟩, ⟨S32768x1, (v171 V)⟩] concatenates_S32768x2_S32768x1_S32768x3_d1 := by
  have h := binary_end V 198 (a := main_v163) (b := main_v171) (y := main_v174) rfl (by decide) (by decide) (by decide)
  exact h

theorem v175_eq : v175 V = broadcastInDim S32768x1x3 ![0, 2] bcast_S32768x3_S32768x1x3_0_2 (v174 V) := by
  have h := unary_end V 199 (x := main_v174) (y := main_v175) rfl (by decide) (by decide)
  exact h

theorem v176_eq : v176 V = concatenate S32768x3x3 1 [⟨S32768x2x3, (v173 V)⟩, ⟨S32768x1x3, (v175 V)⟩] concatenates_S32768x2x3_S32768x1x3_S32768x3x3_d1 := by
  have h := binary_end V 200 (a := main_v173) (b := main_v175) (y := main_v176) rfl (by decide) (by decide) (by decide)
  exact h

theorem v177_eq : v177 V = broadcastInDim S32768x1 ![0] bcast_S32768_S32768x1_0 (v134 V) := by
  have h := unary_end V 201 (x := main_v134) (y := main_v177) rfl (by decide) (by decide)
  exact h

theorem v178_eq : v178 V = concatenate S32768x3 1 [⟨S32768x2, (v84 V)⟩, ⟨S32768x1, (v177 V)⟩] concatenates_S32768x2_S32768x1_S32768x3_d1 := by
  have h := binary_end V 202 (a := main_v84) (b := main_v177) (y := main_v178) rfl (by decide) (by decide) (by decide)
  exact h

theorem v179_eq : v179 V = broadcastInDim S32768x1 ![0] bcast_S32768_S32768x1_0 (v16 V) := by
  have h := unary_end V 203 (x := main_v16) (y := main_v179) rfl (by decide) (by decide)
  exact h

theorem v180_eq : v180 V = broadcastInDim S32768x3 ![0, 1] bcast_S32768x1_S32768x3_0_1 (v179 V) := by
  have h := unary_end V 204 (x := main_v179) (y := main_v180) rfl (by decide) (by decide)
  exact h

theorem v181_eq : v181 V = broadcastInDim S32768x3x1 ![0, 1] bcast_S32768x3_S32768x3x1_0_1 (v180 V) := by
  have h := unary_end V 205 (x := main_v180) (y := main_v181) rfl (by decide) (by decide)
  exact h

theorem v182_eq : v182 V = broadcastInDim S32768x3x1 ![0, 1] bcast_S32768x3_S32768x3x1_0_1 (v178 V) := by
  have h := unary_end V 206 (x := main_v178) (y := main_v182) rfl (by decide) (by decide)
  exact h

theorem v183_eq : v183 V = concatenate S32768x3x2 2 [⟨S32768x3x1, (v181 V)⟩, ⟨S32768x3x1, (v182 V)⟩] concatenates_S32768x3x1_S32768x3x1_S32768x3x2_d2 := by
  have h := binary_end V 207 (a := main_v181) (b := main_v182) (y := main_v183) rfl (by decide) (by decide) (by decide)
  exact h

theorem v184_eq : v184 V = Host.gather gather_S32768x256_S32768x3x2_S32768x3_n_01_n_n_01_2_11 (v15 V) (v183 V) := by
  have h := binary_end V 208 (a := main_v15) (b := main_v183) (y := main_v184) rfl (by decide) (by decide) (by decide)
  exact h

theorem v185_eq : v185 V = extractStridedSlice S32768x1 ![0, 0] (v184 V) slices_S32768x3_S32768x1_0_0 := by
  have h := unary_end V 209 (x := main_v184) (y := main_v185) rfl (by decide) (by decide)
  exact h

theorem v186_eq : v186 V = shapeCast S32768 (v185 V) shapeCasts_S32768x1_S32768 := by
  have h := reshape_end V 210 (x := main_v185) (y := main_v186) rfl (by decide) (by decide)
  exact h

theorem v187_eq : v187 V = extractStridedSlice S32768x1x1 ![0, 0, 0] (v176 V) slices_S32768x3x3_S32768x1x1_0_0_0 := by
  have h := unary_end V 211 (x := main_v176) (y := main_v187) rfl (by decide) (by decide)
  exact h

theorem v188_eq : v188 V = shapeCast S32768 (v187 V) shapeCasts_S32768x1x1_S32768 := by
  have h := reshape_end V 212 (x := main_v187) (y := main_v188) rfl (by decide) (by decide)
  exact h

theorem v189_eq : v189 V = Host.divf (v186 V) (v188 V) := by
  have h := binary_end V 213 (a := main_v186) (b := main_v188) (y := main_v189) rfl (by decide) (by decide) (by decide)
  exact h

theorem v190_eq : v190 V = extractStridedSlice S32768x1 ![0, 1] (v184 V) slices_S32768x3_S32768x1_0_1 := by
  have h := unary_end V 214 (x := main_v184) (y := main_v190) rfl (by decide) (by decide)
  exact h

theorem v191_eq : v191 V = shapeCast S32768 (v190 V) shapeCasts_S32768x1_S32768 := by
  have h := reshape_end V 215 (x := main_v190) (y := main_v191) rfl (by decide) (by decide)
  exact h

theorem v192_eq : v192 V = extractStridedSlice S32768x1x1 ![0, 1, 0] (v176 V) slices_S32768x3x3_S32768x1x1_0_1_0 := by
  have h := unary_end V 216 (x := main_v176) (y := main_v192) rfl (by decide) (by decide)
  exact h

theorem v193_eq : v193 V = shapeCast S32768 (v192 V) shapeCasts_S32768x1x1_S32768 := by
  have h := reshape_end V 217 (x := main_v192) (y := main_v193) rfl (by decide) (by decide)
  exact h

theorem v194_eq : v194 V = mulf (v193 V) (v189 V) := by
  have h := binary_end V 218 (a := main_v193) (b := main_v189) (y := main_v194) rfl (by decide) (by decide) (by decide)
  exact h

theorem v195_eq : v195 V = subf (v191 V) (v194 V) := by
  have h := binary_end V 219 (a := main_v191) (b := main_v194) (y := main_v195) rfl (by decide) (by decide) (by decide)
  exact h

theorem v196_eq : v196 V = extractStridedSlice S32768x1x1 ![0, 1, 1] (v176 V) slices_S32768x3x3_S32768x1x1_0_1_1 := by
  have h := unary_end V 220 (x := main_v176) (y := main_v196) rfl (by decide) (by decide)
  exact h

theorem v197_eq : v197 V = shapeCast S32768 (v196 V) shapeCasts_S32768x1x1_S32768 := by
  have h := reshape_end V 221 (x := main_v196) (y := main_v197) rfl (by decide) (by decide)
  exact h

theorem v198_eq : v198 V = Host.divf (v195 V) (v197 V) := by
  have h := binary_end V 222 (a := main_v195) (b := main_v197) (y := main_v198) rfl (by decide) (by decide) (by decide)
  exact h

theorem v199_eq : v199 V = extractStridedSlice S32768x1 ![0, 2] (v184 V) slices_S32768x3_S32768x1_0_2 := by
  have h := unary_end V 223 (x := main_v184) (y := main_v199) rfl (by decide) (by decide)
  exact h

theorem v200_eq : v200 V = shapeCast S32768 (v199 V) shapeCasts_S32768x1_S32768 := by
  have h := reshape_end V 224 (x := main_v199) (y := main_v200) rfl (by decide) (by decide)
  exact h

theorem v201_eq : v201 V = extractStridedSlice S32768x1x1 ![0, 2, 0] (v176 V) slices_S32768x3x3_S32768x1x1_0_2_0 := by
  have h := unary_end V 225 (x := main_v176) (y := main_v201) rfl (by decide) (by decide)
  exact h

theorem v202_eq : v202 V = shapeCast S32768 (v201 V) shapeCasts_S32768x1x1_S32768 := by
  have h := reshape_end V 226 (x := main_v201) (y := main_v202) rfl (by decide) (by decide)
  exact h

theorem v203_eq : v203 V = mulf (v202 V) (v189 V) := by
  have h := binary_end V 227 (a := main_v202) (b := main_v189) (y := main_v203) rfl (by decide) (by decide) (by decide)
  exact h

theorem v204_eq : v204 V = subf (v200 V) (v203 V) := by
  have h := binary_end V 228 (a := main_v200) (b := main_v203) (y := main_v204) rfl (by decide) (by decide) (by decide)
  exact h

theorem v205_eq : v205 V = extractStridedSlice S32768x1x1 ![0, 2, 1] (v176 V) slices_S32768x3x3_S32768x1x1_0_2_1 := by
  have h := unary_end V 229 (x := main_v176) (y := main_v205) rfl (by decide) (by decide)
  exact h

theorem v206_eq : v206 V = shapeCast S32768 (v205 V) shapeCasts_S32768x1x1_S32768 := by
  have h := reshape_end V 230 (x := main_v205) (y := main_v206) rfl (by decide) (by decide)
  exact h

theorem v207_eq : v207 V = mulf (v206 V) (v198 V) := by
  have h := binary_end V 231 (a := main_v206) (b := main_v198) (y := main_v207) rfl (by decide) (by decide) (by decide)
  exact h

theorem v208_eq : v208 V = subf (v204 V) (v207 V) := by
  have h := binary_end V 232 (a := main_v204) (b := main_v207) (y := main_v208) rfl (by decide) (by decide) (by decide)
  exact h

theorem v209_eq : v209 V = extractStridedSlice S32768x1x1 ![0, 2, 2] (v176 V) slices_S32768x3x3_S32768x1x1_0_2_2 := by
  have h := unary_end V 233 (x := main_v176) (y := main_v209) rfl (by decide) (by decide)
  exact h

theorem v210_eq : v210 V = shapeCast S32768 (v209 V) shapeCasts_S32768x1x1_S32768 := by
  have h := reshape_end V 234 (x := main_v209) (y := main_v210) rfl (by decide) (by decide)
  exact h

theorem v211_eq : v211 V = Host.divf (v208 V) (v210 V) := by
  have h := binary_end V 235 (a := main_v208) (b := main_v210) (y := main_v211) rfl (by decide) (by decide) (by decide)
  exact h

theorem v212_eq : v212 V = broadcastInDim S32768x1 ![0] bcast_S32768_S32768x1_0 (v189 V) := by
  have h := unary_end V 236 (x := main_v189) (y := main_v212) rfl (by decide) (by decide)
  exact h

theorem v213_eq : v213 V = broadcastInDim S32768x1 ![0] bcast_S32768_S32768x1_0 (v198 V) := by
  have h := unary_end V 237 (x := main_v198) (y := main_v213) rfl (by decide) (by decide)
  exact h

theorem v214_eq : v214 V = broadcastInDim S32768x1 ![0] bcast_S32768_S32768x1_0 (v211 V) := by
  have h := unary_end V 238 (x := main_v211) (y := main_v214) rfl (by decide) (by decide)
  exact h

theorem v215_eq : v215 V = concatenate S32768x3 1 [⟨S32768x1, (v212 V)⟩, ⟨S32768x1, (v213 V)⟩, ⟨S32768x1, (v214 V)⟩] concatenates_S32768x1_S32768x1_S32768x1_S32768x3_d1 := by
  have h := nary_end V 239 (xs := ![main_v212, main_v213, main_v214]) (y := main_v215) rfl (by decide) (by decide)
  exact h

theorem v216_eq : v216 V = transpose S32768x3x3 [0, 2, 1] (v176 V) transposes_S32768x3x3_S32768x3x3_0_2_1 := by
  have h := unary_end V 240 (x := main_v176) (y := main_v216) rfl (by decide) (by decide)
  exact h

theorem v217_eq : v217 V = extractStridedSlice S32768x1 ![0, 2] (v215 V) slices_S32768x3_S32768x1_0_2 := by
  have h := unary_end V 241 (x := main_v215) (y := main_v217) rfl (by decide) (by decide)
  exact h

theorem v218_eq : v218 V = shapeCast S32768 (v217 V) shapeCasts_S32768x1_S32768 := by
  have h := reshape_end V 242 (x := main_v217) (y := main_v218) rfl (by decide) (by decide)
  exact h

theorem v219_eq : v219 V = extractStridedSlice S32768x1x1 ![0, 2, 2] (v216 V) slices_S32768x3x3_S32768x1x1_0_2_2 := by
  have h := unary_end V 243 (x := main_v216) (y := main_v219) rfl (by decide) (by decide)
  exact h

theorem v220_eq : v220 V = shapeCast S32768 (v219 V) shapeCasts_S32768x1x1_S32768 := by
  have h := reshape_end V 244 (x := main_v219) (y := main_v220) rfl (by decide) (by decide)
  exact h

theorem v221_eq : v221 V = Host.divf (v218 V) (v220 V) := by
  have h := binary_end V 245 (a := main_v218) (b := main_v220) (y := main_v221) rfl (by decide) (by decide) (by decide)
  exact h

theorem v222_eq : v222 V = extractStridedSlice S32768x1 ![0, 1] (v215 V) slices_S32768x3_S32768x1_0_1 := by
  have h := unary_end V 246 (x := main_v215) (y := main_v222) rfl (by decide) (by decide)
  exact h

theorem v223_eq : v223 V = shapeCast S32768 (v222 V) shapeCasts_S32768x1_S32768 := by
  have h := reshape_end V 247 (x := main_v222) (y := main_v223) rfl (by decide) (by decide)
  exact h

theorem v224_eq : v224 V = extractStridedSlice S32768x1x1 ![0, 1, 2] (v216 V) slices_S32768x3x3_S32768x1x1_0_1_2 := by
  have h := unary_end V 248 (x := main_v216) (y := main_v224) rfl (by decide) (by decide)
  exact h

theorem v225_eq : v225 V = shapeCast S32768 (v224 V) shapeCasts_S32768x1x1_S32768 := by
  have h := reshape_end V 249 (x := main_v224) (y := main_v225) rfl (by decide) (by decide)
  exact h

theorem v226_eq : v226 V = mulf (v225 V) (v221 V) := by
  have h := binary_end V 250 (a := main_v225) (b := main_v221) (y := main_v226) rfl (by decide) (by decide) (by decide)
  exact h

theorem v227_eq : v227 V = subf (v223 V) (v226 V) := by
  have h := binary_end V 251 (a := main_v223) (b := main_v226) (y := main_v227) rfl (by decide) (by decide) (by decide)
  exact h

theorem v228_eq : v228 V = extractStridedSlice S32768x1x1 ![0, 1, 1] (v216 V) slices_S32768x3x3_S32768x1x1_0_1_1 := by
  have h := unary_end V 252 (x := main_v216) (y := main_v228) rfl (by decide) (by decide)
  exact h

theorem v229_eq : v229 V = shapeCast S32768 (v228 V) shapeCasts_S32768x1x1_S32768 := by
  have h := reshape_end V 253 (x := main_v228) (y := main_v229) rfl (by decide) (by decide)
  exact h

theorem v230_eq : v230 V = Host.divf (v227 V) (v229 V) := by
  have h := binary_end V 254 (a := main_v227) (b := main_v229) (y := main_v230) rfl (by decide) (by decide) (by decide)
  exact h

theorem v231_eq : v231 V = extractStridedSlice S32768x1 ![0, 0] (v215 V) slices_S32768x3_S32768x1_0_0 := by
  have h := unary_end V 255 (x := main_v215) (y := main_v231) rfl (by decide) (by decide)
  exact h

theorem v232_eq : v232 V = shapeCast S32768 (v231 V) shapeCasts_S32768x1_S32768 := by
  have h := reshape_end V 256 (x := main_v231) (y := main_v232) rfl (by decide) (by decide)
  exact h

theorem v233_eq : v233 V = extractStridedSlice S32768x1x1 ![0, 0, 1] (v216 V) slices_S32768x3x3_S32768x1x1_0_0_1 := by
  have h := unary_end V 257 (x := main_v216) (y := main_v233) rfl (by decide) (by decide)
  exact h

theorem v234_eq : v234 V = shapeCast S32768 (v233 V) shapeCasts_S32768x1x1_S32768 := by
  have h := reshape_end V 258 (x := main_v233) (y := main_v234) rfl (by decide) (by decide)
  exact h

theorem v235_eq : v235 V = mulf (v234 V) (v230 V) := by
  have h := binary_end V 259 (a := main_v234) (b := main_v230) (y := main_v235) rfl (by decide) (by decide) (by decide)
  exact h

theorem v236_eq : v236 V = subf (v232 V) (v235 V) := by
  have h := binary_end V 260 (a := main_v232) (b := main_v235) (y := main_v236) rfl (by decide) (by decide) (by decide)
  exact h

theorem v237_eq : v237 V = extractStridedSlice S32768x1x1 ![0, 0, 2] (v216 V) slices_S32768x3x3_S32768x1x1_0_0_2 := by
  have h := unary_end V 261 (x := main_v216) (y := main_v237) rfl (by decide) (by decide)
  exact h

theorem v238_eq : v238 V = shapeCast S32768 (v237 V) shapeCasts_S32768x1x1_S32768 := by
  have h := reshape_end V 262 (x := main_v237) (y := main_v238) rfl (by decide) (by decide)
  exact h

theorem v239_eq : v239 V = mulf (v238 V) (v221 V) := by
  have h := binary_end V 263 (a := main_v238) (b := main_v221) (y := main_v239) rfl (by decide) (by decide) (by decide)
  exact h

theorem v240_eq : v240 V = subf (v236 V) (v239 V) := by
  have h := binary_end V 264 (a := main_v236) (b := main_v239) (y := main_v240) rfl (by decide) (by decide) (by decide)
  exact h

theorem v241_eq : v241 V = extractStridedSlice S32768x1x1 ![0, 0, 0] (v216 V) slices_S32768x3x3_S32768x1x1_0_0_0 := by
  have h := unary_end V 265 (x := main_v216) (y := main_v241) rfl (by decide) (by decide)
  exact h

theorem v242_eq : v242 V = shapeCast S32768 (v241 V) shapeCasts_S32768x1x1_S32768 := by
  have h := reshape_end V 266 (x := main_v241) (y := main_v242) rfl (by decide) (by decide)
  exact h

theorem v243_eq : v243 V = Host.divf (v240 V) (v242 V) := by
  have h := binary_end V 267 (a := main_v240) (b := main_v242) (y := main_v243) rfl (by decide) (by decide) (by decide)
  exact h

end Cert.Proof.Ref

end
-- ==== Proof.RefEqs2.lean ====
/- The equations of the reference's operations, part 3 of 4: what each buffer holds at the end, in terms of its operands. -/
module

public import proofs.«01_k».proof.Proof.RefVals

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192

theorem v244_eq : v244 V = broadcastInDim S32768x1 ![0] bcast_S32768_S32768x1_0 (v243 V) := by
  have h := unary_end V 268 (x := main_v243) (y := main_v244) rfl (by decide) (by decide)
  exact h

theorem v245_eq : v245 V = broadcastInDim S32768x1 ![0] bcast_S32768_S32768x1_0 (v230 V) := by
  have h := unary_end V 269 (x := main_v230) (y := main_v245) rfl (by decide) (by decide)
  exact h

theorem v246_eq : v246 V = broadcastInDim S32768x1 ![0] bcast_S32768_S32768x1_0 (v221 V) := by
  have h := unary_end V 270 (x := main_v221) (y := main_v246) rfl (by decide) (by decide)
  exact h

theorem v247_eq : v247 V = concatenate S32768x3 1 [⟨S32768x1, (v244 V)⟩, ⟨S32768x1, (v245 V)⟩, ⟨S32768x1, (v246 V)⟩] concatenates_S32768x1_S32768x1_S32768x1_S32768x3_d1 := by
  have h := nary_end V 271 (xs := ![main_v244, main_v245, main_v246]) (y := main_v247) rfl (by decide) (by decide)
  exact h

theorem v248_eq : v248 V = broadcastInDim S32768x3x1 ![0, 1] bcast_S32768x3_S32768x3x1_0_1 (v178 V) := by
  have h := unary_end V 272 (x := main_v178) (y := main_v248) rfl (by decide) (by decide)
  exact h

theorem v249_eq : v249 V = Host.gather gather_S256x256_S32768x3x1_S32768x3x256_2_0_n_n_0_2_1256 (v12 V) (v248 V) := by
  have h := binary_end V 273 (a := main_v12) (b := main_v248) (y := main_v249) rfl (by decide) (by decide) (by decide)
  exact h

theorem v250_eq : v250 V = Host.dotGeneral dot_S32768x3_S32768x3x256_S32768x256_1_1_n_2_0_0 none (v247 V) (v249 V) := by
  have h := binary_end V 274 (a := main_v247) (b := main_v249) (y := main_v250) rfl (by decide) (by decide) (by decide)
  exact h

theorem v251_eq : v251 V = subf (v15 V) (v250 V) := by
  have h := binary_end V 275 (a := main_v15) (b := main_v250) (y := main_v251) rfl (by decide) (by decide) (by decide)
  exact h

theorem v252_eq : v252 V = noti (v140 V) := by
  have h := unary_end V 276 (x := main_v140) (y := main_v252) rfl (by decide) (by decide)
  exact h

theorem v253_eq : v253 V = uitofp .f32 (v252 V) := by
  have h := unary_end V 277 (x := main_v252) (y := main_v253) rfl (by decide) (by decide)
  exact h

theorem v254_eq : v254 V = mulf (v251 V) (v253 V) := by
  have h := binary_end V 278 (a := main_v251) (b := main_v253) (y := main_v254) rfl (by decide) (by decide) (by decide)
  exact h

theorem v255_eq : v255 V = Host.absf (v254 V) := by
  have h := unary_end V 279 (x := main_v254) (y := main_v255) rfl (by decide) (by decide)
  exact h

theorem call3_v0_eq : call3_v0 V = iotaInDim S32768x256 32 1 := by
  have h := nullary_end V 280 (y := main_call3_v0) rfl (by decide)
  exact h

theorem call3_cst_eq : call3_cst V = constant S_ .f32 0xFF800000#32 := by
  have h := nullary_end V 281 (y := main_call3_cst) rfl (by decide)
  exact h

theorem call3_c_eq : call3_c V = constantI S_ 32 0#32 := by
  have h := nullary_end V 282 (y := main_call3_c) rfl (by decide)
  exact h

theorem call3_v1_0_eq : call3_v1_0 V = fun j => (Host.argReduce reducer_argmax_f32_i32 (v255 V) (call3_v0 V) (call3_cst V) (call3_c V) reducesTo_S32768x256_S32768_d1 h_S_ j).1 := by
  have h := quaternary_end V 283 (a := main_v255) (b := main_call3_v0) (c := main_call3_cst) (e := main_call3_c) (y := main_call3_v1_0) rfl (by decide) (by decide) (by decide) (by decide) (by decide)
  exact h

theorem v256_eq : v256 V = fun j => (Host.argReduce reducer_argmax_f32_i32 (v255 V) (call3_v0 V) (call3_cst V) (call3_c V) reducesTo_S32768x256_S32768_d1 h_S_ j).2 := by
  have h := quaternary_end V 284 (a := main_v255) (b := main_call3_v0) (c := main_call3_cst) (e := main_call3_c) (y := main_v256) rfl (by decide) (by decide) (by decide) (by decide) (by decide)
  exact h

theorem v257_eq : v257 V = broadcastInDim S1x256 ![1] bcast_S256_S1x256_1 (v17 V) := by
  have h := unary_end V 285 (x := main_v17) (y := main_v257) rfl (by decide) (by decide)
  exact h

theorem v258_eq : v258 V = broadcastInDim S32768x1 ![0] bcast_S32768_S32768x1_0 (v256 V) := by
  have h := unary_end V 286 (x := main_v256) (y := main_v258) rfl (by decide) (by decide)
  exact h

theorem v259_eq : v259 V = broadcastInDim S32768x256 ![0, 1] bcast_S1x256_S32768x256_0_1 (v257 V) := by
  have h := unary_end V 287 (x := main_v257) (y := main_v259) rfl (by decide) (by decide)
  exact h

theorem v260_eq : v260 V = broadcastInDim S32768x256 ![0, 1] bcast_S32768x1_S32768x256_0_1 (v258 V) := by
  have h := unary_end V 288 (x := main_v258) (y := main_v260) rfl (by decide) (by decide)
  exact h

theorem v261_eq : v261 V = cmpi .eq (v259 V) (v260 V) := by
  have h := binary_end V 289 (a := main_v259) (b := main_v260) (y := main_v261) rfl (by decide) (by decide) (by decide)
  exact h

theorem v262_eq : v262 V = ori (v140 V) (v261 V) := by
  have h := binary_end V 290 (a := main_v140) (b := main_v261) (y := main_v262) rfl (by decide) (by decide) (by decide)
  exact h

theorem v263_eq : v263 V = broadcastInDim S32768x1 ![0] bcast_S32768_S32768x1_0 (v256 V) := by
  have h := unary_end V 291 (x := main_v256) (y := main_v263) rfl (by decide) (by decide)
  exact h

theorem v264_eq : v264 V = broadcastInDim S32768x3 ![0, 1] bcast_S32768x1_S32768x3_0_1 (v263 V) := by
  have h := unary_end V 292 (x := main_v263) (y := main_v264) rfl (by decide) (by decide)
  exact h

theorem v265_eq : v265 V = broadcastInDim S32768x3x1 ![0, 1] bcast_S32768x3_S32768x3x1_0_1 (v178 V) := by
  have h := unary_end V 293 (x := main_v178) (y := main_v265) rfl (by decide) (by decide)
  exact h

theorem v266_eq : v266 V = broadcastInDim S32768x3x1 ![0, 1] bcast_S32768x3_S32768x3x1_0_1 (v264 V) := by
  have h := unary_end V 294 (x := main_v264) (y := main_v266) rfl (by decide) (by decide)
  exact h

theorem v267_eq : v267 V = concatenate S32768x3x2 2 [⟨S32768x3x1, (v265 V)⟩, ⟨S32768x3x1, (v266 V)⟩] concatenates_S32768x3x1_S32768x3x1_S32768x3x2_d2 := by
  have h := binary_end V 295 (a := main_v265) (b := main_v266) (y := main_v267) rfl (by decide) (by decide) (by decide)
  exact h

theorem v268_eq : v268 V = Host.gather gather_S256x256_S32768x3x2_S32768x3_n_01_n_n_01_2_11 (v12 V) (v267 V) := by
  have h := binary_end V 296 (a := main_v12) (b := main_v267) (y := main_v268) rfl (by decide) (by decide) (by decide)
  exact h

theorem v269_eq : v269 V = extractStridedSlice S32768x1 ![0, 0] (v268 V) slices_S32768x3_S32768x1_0_0 := by
  have h := unary_end V 297 (x := main_v268) (y := main_v269) rfl (by decide) (by decide)
  exact h

theorem v270_eq : v270 V = shapeCast S32768 (v269 V) shapeCasts_S32768x1_S32768 := by
  have h := reshape_end V 298 (x := main_v269) (y := main_v270) rfl (by decide) (by decide)
  exact h

theorem v271_eq : v271 V = extractStridedSlice S32768x1x1 ![0, 0, 0] (v176 V) slices_S32768x3x3_S32768x1x1_0_0_0 := by
  have h := unary_end V 299 (x := main_v176) (y := main_v271) rfl (by decide) (by decide)
  exact h

theorem v272_eq : v272 V = shapeCast S32768 (v271 V) shapeCasts_S32768x1x1_S32768 := by
  have h := reshape_end V 300 (x := main_v271) (y := main_v272) rfl (by decide) (by decide)
  exact h

theorem v273_eq : v273 V = Host.divf (v270 V) (v272 V) := by
  have h := binary_end V 301 (a := main_v270) (b := main_v272) (y := main_v273) rfl (by decide) (by decide) (by decide)
  exact h

theorem v274_eq : v274 V = extractStridedSlice S32768x1 ![0, 1] (v268 V) slices_S32768x3_S32768x1_0_1 := by
  have h := unary_end V 302 (x := main_v268) (y := main_v274) rfl (by decide) (by decide)
  exact h

theorem v275_eq : v275 V = shapeCast S32768 (v274 V) shapeCasts_S32768x1_S32768 := by
  have h := reshape_end V 303 (x := main_v274) (y := main_v275) rfl (by decide) (by decide)
  exact h

theorem v276_eq : v276 V = extractStridedSlice S32768x1x1 ![0, 1, 0] (v176 V) slices_S32768x3x3_S32768x1x1_0_1_0 := by
  have h := unary_end V 304 (x := main_v176) (y := main_v276) rfl (by decide) (by decide)
  exact h

theorem v277_eq : v277 V = shapeCast S32768 (v276 V) shapeCasts_S32768x1x1_S32768 := by
  have h := reshape_end V 305 (x := main_v276) (y := main_v277) rfl (by decide) (by decide)
  exact h

theorem v278_eq : v278 V = mulf (v277 V) (v273 V) := by
  have h := binary_end V 306 (a := main_v277) (b := main_v273) (y := main_v278) rfl (by decide) (by decide) (by decide)
  exact h

theorem v279_eq : v279 V = subf (v275 V) (v278 V) := by
  have h := binary_end V 307 (a := main_v275) (b := main_v278) (y := main_v279) rfl (by decide) (by decide) (by decide)
  exact h

theorem v280_eq : v280 V = extractStridedSlice S32768x1x1 ![0, 1, 1] (v176 V) slices_S32768x3x3_S32768x1x1_0_1_1 := by
  have h := unary_end V 308 (x := main_v176) (y := main_v280) rfl (by decide) (by decide)
  exact h

theorem v281_eq : v281 V = shapeCast S32768 (v280 V) shapeCasts_S32768x1x1_S32768 := by
  have h := reshape_end V 309 (x := main_v280) (y := main_v281) rfl (by decide) (by decide)
  exact h

theorem v282_eq : v282 V = Host.divf (v279 V) (v281 V) := by
  have h := binary_end V 310 (a := main_v279) (b := main_v281) (y := main_v282) rfl (by decide) (by decide) (by decide)
  exact h

theorem v283_eq : v283 V = extractStridedSlice S32768x1 ![0, 2] (v268 V) slices_S32768x3_S32768x1_0_2 := by
  have h := unary_end V 311 (x := main_v268) (y := main_v283) rfl (by decide) (by decide)
  exact h

theorem v284_eq : v284 V = shapeCast S32768 (v283 V) shapeCasts_S32768x1_S32768 := by
  have h := reshape_end V 312 (x := main_v283) (y := main_v284) rfl (by decide) (by decide)
  exact h

theorem v285_eq : v285 V = extractStridedSlice S32768x1x1 ![0, 2, 0] (v176 V) slices_S32768x3x3_S32768x1x1_0_2_0 := by
  have h := unary_end V 313 (x := main_v176) (y := main_v285) rfl (by decide) (by decide)
  exact h

theorem v286_eq : v286 V = shapeCast S32768 (v285 V) shapeCasts_S32768x1x1_S32768 := by
  have h := reshape_end V 314 (x := main_v285) (y := main_v286) rfl (by decide) (by decide)
  exact h

theorem v287_eq : v287 V = mulf (v286 V) (v273 V) := by
  have h := binary_end V 315 (a := main_v286) (b := main_v273) (y := main_v287) rfl (by decide) (by decide) (by decide)
  exact h

theorem v288_eq : v288 V = subf (v284 V) (v287 V) := by
  have h := binary_end V 316 (a := main_v284) (b := main_v287) (y := main_v288) rfl (by decide) (by decide) (by decide)
  exact h

theorem v289_eq : v289 V = extractStridedSlice S32768x1x1 ![0, 2, 1] (v176 V) slices_S32768x3x3_S32768x1x1_0_2_1 := by
  have h := unary_end V 317 (x := main_v176) (y := main_v289) rfl (by decide) (by decide)
  exact h

theorem v290_eq : v290 V = shapeCast S32768 (v289 V) shapeCasts_S32768x1x1_S32768 := by
  have h := reshape_end V 318 (x := main_v289) (y := main_v290) rfl (by decide) (by decide)
  exact h

theorem v291_eq : v291 V = mulf (v290 V) (v282 V) := by
  have h := binary_end V 319 (a := main_v290) (b := main_v282) (y := main_v291) rfl (by decide) (by decide) (by decide)
  exact h

theorem v292_eq : v292 V = subf (v288 V) (v291 V) := by
  have h := binary_end V 320 (a := main_v288) (b := main_v291) (y := main_v292) rfl (by decide) (by decide) (by decide)
  exact h

theorem v293_eq : v293 V = extractStridedSlice S32768x1x1 ![0, 2, 2] (v176 V) slices_S32768x3x3_S32768x1x1_0_2_2 := by
  have h := unary_end V 321 (x := main_v176) (y := main_v293) rfl (by decide) (by decide)
  exact h

theorem v294_eq : v294 V = shapeCast S32768 (v293 V) shapeCasts_S32768x1x1_S32768 := by
  have h := reshape_end V 322 (x := main_v293) (y := main_v294) rfl (by decide) (by decide)
  exact h

theorem v295_eq : v295 V = Host.divf (v292 V) (v294 V) := by
  have h := binary_end V 323 (a := main_v292) (b := main_v294) (y := main_v295) rfl (by decide) (by decide) (by decide)
  exact h

theorem v296_eq : v296 V = broadcastInDim S32768x1 ![0] bcast_S32768_S32768x1_0 (v273 V) := by
  have h := unary_end V 324 (x := main_v273) (y := main_v296) rfl (by decide) (by decide)
  exact h

theorem v297_eq : v297 V = broadcastInDim S32768x1 ![0] bcast_S32768_S32768x1_0 (v282 V) := by
  have h := unary_end V 325 (x := main_v282) (y := main_v297) rfl (by decide) (by decide)
  exact h

theorem v298_eq : v298 V = broadcastInDim S32768x1 ![0] bcast_S32768_S32768x1_0 (v295 V) := by
  have h := unary_end V 326 (x := main_v295) (y := main_v298) rfl (by decide) (by decide)
  exact h

theorem v299_eq : v299 V = concatenate S32768x3 1 [⟨S32768x1, (v296 V)⟩, ⟨S32768x1, (v297 V)⟩, ⟨S32768x1, (v298 V)⟩] concatenates_S32768x1_S32768x1_S32768x1_S32768x3_d1 := by
  have h := nary_end V 327 (xs := ![main_v296, main_v297, main_v298]) (y := main_v299) rfl (by decide) (by decide)
  exact h

theorem v300_eq : v300 V = mulf (v299 V) (v299 V) := by
  have h := binary_end V 328 (a := main_v299) (b := main_v299) (y := main_v300) rfl (by decide) (by decide) (by decide)
  exact h

theorem cst_10_eq : cst_10 V = constant S_ .f32 0x00000000#32 := by
  have h := nullary_end V 329 (y := main_cst_10) rfl (by decide)
  exact h

theorem v301_eq : v301 V = Host.reduceAdd (v300 V) (cst_10 V) reducesTo_S32768x3_S32768_d1 h_S_ := by
  have h := binary_end V 330 (a := main_v300) (b := main_cst_10) (y := main_v301) rfl (by decide) (by decide) (by decide)
  exact h

theorem v302_eq : v302 V = broadcastInDim S32768x1 ![0] bcast_S32768_S32768x1_0 (v301 V) := by
  have h := unary_end V 331 (x := main_v301) (y := main_v302) rfl (by decide) (by decide)
  exact h

theorem cst_11_eq : cst_11 V = constant S_ .f32 0x3F800000#32 := by
  have h := nullary_end V 332 (y := main_cst_11) rfl (by decide)
  exact h

theorem v303_eq : v303 V = broadcastInDim S32768x1 ![] bcast_S_S32768x1 (cst_11 V) := by
  have h := unary_end V 333 (x := main_cst_11) (y := main_v303) rfl (by decide) (by decide)
  exact h

theorem v304_eq : v304 V = subf (v303 V) (v302 V) := by
  have h := binary_end V 334 (a := main_v303) (b := main_v302) (y := main_v304) rfl (by decide) (by decide) (by decide)
  exact h

theorem cst_12_eq : cst_12 V = constant S_ .f32 0x2B8CBCCC#32 := by
  have h := nullary_end V 335 (y := main_cst_12) rfl (by decide)
  exact h

theorem v305_eq : v305 V = broadcastInDim S32768x1 ![] bcast_S_S32768x1 (cst_12 V) := by
  have h := unary_end V 336 (x := main_cst_12) (y := main_v305) rfl (by decide) (by decide)
  exact h

theorem v306_eq : v306 V = maximumf (v304 V) (v305 V) := by
  have h := binary_end V 337 (a := main_v304) (b := main_v305) (y := main_v306) rfl (by decide) (by decide) (by decide)
  exact h

theorem v307_eq : v307 V = Host.sqrt (v306 V) := by
  have h := unary_end V 338 (x := main_v306) (y := main_v307) rfl (by decide) (by decide)
  exact h

theorem cst_13_eq : cst_13 V = constant S_ .f32 0x00000000#32 := by
  have h := nullary_end V 339 (y := main_cst_13) rfl (by decide)
  exact h

theorem v308_eq : v308 V = broadcastInDim S32768x3x1 ![] bcast_S_S32768x3x1 (cst_13 V) := by
  have h := unary_end V 340 (x := main_cst_13) (y := main_v308) rfl (by decide) (by decide)
  exact h

theorem v309_eq : v309 V = concatenate S32768x3x4 2 [⟨S32768x3x3, (v176 V)⟩, ⟨S32768x3x1, (v308 V)⟩] concatenates_S32768x3x3_S32768x3x1_S32768x3x4_d2 := by
  have h := binary_end V 341 (a := main_v176) (b := main_v308) (y := main_v309) rfl (by decide) (by decide) (by decide)
  exact h

theorem v310_eq : v310 V = concatenate S32768x4 1 [⟨S32768x3, (v299 V)⟩, ⟨S32768x1, (v307 V)⟩] concatenates_S32768x3_S32768x1_S32768x4_d1 := by
  have h := binary_end V 342 (a := main_v299) (b := main_v307) (y := main_v310) rfl (by decide) (by decide) (by decide)
  exact h

theorem v311_eq : v311 V = broadcastInDim S32768x1x4 ![0, 2] bcast_S32768x4_S32768x1x4_0_2 (v310 V) := by
  have h := unary_end V 343 (x := main_v310) (y := main_v311) rfl (by decide) (by decide)
  exact h

theorem v312_eq : v312 V = concatenate S32768x4x4 1 [⟨S32768x3x4, (v309 V)⟩, ⟨S32768x1x4, (v311 V)⟩] concatenates_S32768x3x4_S32768x1x4_S32768x4x4_d1 := by
  have h := binary_end V 344 (a := main_v309) (b := main_v311) (y := main_v312) rfl (by decide) (by decide) (by decide)
  exact h

theorem v313_eq : v313 V = broadcastInDim S32768x1 ![0] bcast_S32768_S32768x1_0 (v256 V) := by
  have h := unary_end V 345 (x := main_v256) (y := main_v313) rfl (by decide) (by decide)
  exact h

theorem v314_eq : v314 V = concatenate S32768x4 1 [⟨S32768x3, (v178 V)⟩, ⟨S32768x1, (v313 V)⟩] concatenates_S32768x3_S32768x1_S32768x4_d1 := by
  have h := binary_end V 346 (a := main_v178) (b := main_v313) (y := main_v314) rfl (by decide) (by decide) (by decide)
  exact h

theorem v315_eq : v315 V = broadcastInDim S32768x1 ![0] bcast_S32768_S32768x1_0 (v16 V) := by
  have h := unary_end V 347 (x := main_v16) (y := main_v315) rfl (by decide) (by decide)
  exact h

theorem v316_eq : v316 V = broadcastInDim S32768x4 ![0, 1] bcast_S32768x1_S32768x4_0_1 (v315 V) := by
  have h := unary_end V 348 (x := main_v315) (y := main_v316) rfl (by decide) (by decide)
  exact h

theorem v317_eq : v317 V = broadcastInDim S32768x4x1 ![0, 1] bcast_S32768x4_S32768x4x1_0_1 (v316 V) := by
  have h := unary_end V 349 (x := main_v316) (y := main_v317) rfl (by decide) (by decide)
  exact h

theorem v318_eq : v318 V = broadcastInDim S32768x4x1 ![0, 1] bcast_S32768x4_S32768x4x1_0_1 (v314 V) := by
  have h := unary_end V 350 (x := main_v314) (y := main_v318) rfl (by decide) (by decide)
  exact h

theorem v319_eq : v319 V = concatenate S32768x4x2 2 [⟨S32768x4x1, (v317 V)⟩, ⟨S32768x4x1, (v318 V)⟩] concatenates_S32768x4x1_S32768x4x1_S32768x4x2_d2 := by
  have h := binary_end V 351 (a := main_v317) (b := main_v318) (y := main_v319) rfl (by decide) (by decide) (by decide)
  exact h

theorem v320_eq : v320 V = Host.gather gather_S32768x256_S32768x4x2_S32768x4_n_01_n_n_01_2_11 (v15 V) (v319 V) := by
  have h := binary_end V 352 (a := main_v15) (b := main_v319) (y := main_v320) rfl (by decide) (by decide) (by decide)
  exact h

theorem v321_eq : v321 V = extractStridedSlice S32768x1 ![0, 0] (v320 V) slices_S32768x4_S32768x1_0_0 := by
  have h := unary_end V 353 (x := main_v320) (y := main_v321) rfl (by decide) (by decide)
  exact h

theorem v322_eq : v322 V = shapeCast S32768 (v321 V) shapeCasts_S32768x1_S32768 := by
  have h := reshape_end V 354 (x := main_v321) (y := main_v322) rfl (by decide) (by decide)
  exact h

theorem v323_eq : v323 V = extractStridedSlice S32768x1x1 ![0, 0, 0] (v312 V) slices_S32768x4x4_S32768x1x1_0_0_0 := by
  have h := unary_end V 355 (x := main_v312) (y := main_v323) rfl (by decide) (by decide)
  exact h

theorem v324_eq : v324 V = shapeCast S32768 (v323 V) shapeCasts_S32768x1x1_S32768 := by
  have h := reshape_end V 356 (x := main_v323) (y := main_v324) rfl (by decide) (by decide)
  exact h

theorem v325_eq : v325 V = Host.divf (v322 V) (v324 V) := by
  have h := binary_end V 357 (a := main_v322) (b := main_v324) (y := main_v325) rfl (by decide) (by decide) (by decide)
  exact h

theorem v326_eq : v326 V = extractStridedSlice S32768x1 ![0, 1] (v320 V) slices_S32768x4_S32768x1_0_1 := by
  have h := unary_end V 358 (x := main_v320) (y := main_v326) rfl (by decide) (by decide)
  exact h

theorem v327_eq : v327 V = shapeCast S32768 (v326 V) shapeCasts_S32768x1_S32768 := by
  have h := reshape_end V 359 (x := main_v326) (y := main_v327) rfl (by decide) (by decide)
  exact h

theorem v328_eq : v328 V = extractStridedSlice S32768x1x1 ![0, 1, 0] (v312 V) slices_S32768x4x4_S32768x1x1_0_1_0 := by
  have h := unary_end V 360 (x := main_v312) (y := main_v328) rfl (by decide) (by decide)
  exact h

theorem v329_eq : v329 V = shapeCast S32768 (v328 V) shapeCasts_S32768x1x1_S32768 := by
  have h := reshape_end V 361 (x := main_v328) (y := main_v329) rfl (by decide) (by decide)
  exact h

theorem v330_eq : v330 V = mulf (v329 V) (v325 V) := by
  have h := binary_end V 362 (a := main_v329) (b := main_v325) (y := main_v330) rfl (by decide) (by decide) (by decide)
  exact h

theorem v331_eq : v331 V = subf (v327 V) (v330 V) := by
  have h := binary_end V 363 (a := main_v327) (b := main_v330) (y := main_v331) rfl (by decide) (by decide) (by decide)
  exact h

theorem v332_eq : v332 V = extractStridedSlice S32768x1x1 ![0, 1, 1] (v312 V) slices_S32768x4x4_S32768x1x1_0_1_1 := by
  have h := unary_end V 364 (x := main_v312) (y := main_v332) rfl (by decide) (by decide)
  exact h

theorem v333_eq : v333 V = shapeCast S32768 (v332 V) shapeCasts_S32768x1x1_S32768 := by
  have h := reshape_end V 365 (x := main_v332) (y := main_v333) rfl (by decide) (by decide)
  exact h

theorem v334_eq : v334 V = Host.divf (v331 V) (v333 V) := by
  have h := binary_end V 366 (a := main_v331) (b := main_v333) (y := main_v334) rfl (by decide) (by decide) (by decide)
  exact h

theorem v335_eq : v335 V = extractStridedSlice S32768x1 ![0, 2] (v320 V) slices_S32768x4_S32768x1_0_2 := by
  have h := unary_end V 367 (x := main_v320) (y := main_v335) rfl (by decide) (by decide)
  exact h

theorem v336_eq : v336 V = shapeCast S32768 (v335 V) shapeCasts_S32768x1_S32768 := by
  have h := reshape_end V 368 (x := main_v335) (y := main_v336) rfl (by decide) (by decide)
  exact h

theorem v337_eq : v337 V = extractStridedSlice S32768x1x1 ![0, 2, 0] (v312 V) slices_S32768x4x4_S32768x1x1_0_2_0 := by
  have h := unary_end V 369 (x := main_v312) (y := main_v337) rfl (by decide) (by decide)
  exact h

theorem v338_eq : v338 V = shapeCast S32768 (v337 V) shapeCasts_S32768x1x1_S32768 := by
  have h := reshape_end V 370 (x := main_v337) (y := main_v338) rfl (by decide) (by decide)
  exact h

theorem v339_eq : v339 V = mulf (v338 V) (v325 V) := by
  have h := binary_end V 371 (a := main_v338) (b := main_v325) (y := main_v339) rfl (by decide) (by decide) (by decide)
  exact h

theorem v340_eq : v340 V = subf (v336 V) (v339 V) := by
  have h := binary_end V 372 (a := main_v336) (b := main_v339) (y := main_v340) rfl (by decide) (by decide) (by decide)
  exact h

theorem v341_eq : v341 V = extractStridedSlice S32768x1x1 ![0, 2, 1] (v312 V) slices_S32768x4x4_S32768x1x1_0_2_1 := by
  have h := unary_end V 373 (x := main_v312) (y := main_v341) rfl (by decide) (by decide)
  exact h

theorem v342_eq : v342 V = shapeCast S32768 (v341 V) shapeCasts_S32768x1x1_S32768 := by
  have h := reshape_end V 374 (x := main_v341) (y := main_v342) rfl (by decide) (by decide)
  exact h

theorem v343_eq : v343 V = mulf (v342 V) (v334 V) := by
  have h := binary_end V 375 (a := main_v342) (b := main_v334) (y := main_v343) rfl (by decide) (by decide) (by decide)
  exact h

theorem v344_eq : v344 V = subf (v340 V) (v343 V) := by
  have h := binary_end V 376 (a := main_v340) (b := main_v343) (y := main_v344) rfl (by decide) (by decide) (by decide)
  exact h

theorem v345_eq : v345 V = extractStridedSlice S32768x1x1 ![0, 2, 2] (v312 V) slices_S32768x4x4_S32768x1x1_0_2_2 := by
  have h := unary_end V 377 (x := main_v312) (y := main_v345) rfl (by decide) (by decide)
  exact h

theorem v346_eq : v346 V = shapeCast S32768 (v345 V) shapeCasts_S32768x1x1_S32768 := by
  have h := reshape_end V 378 (x := main_v345) (y := main_v346) rfl (by decide) (by decide)
  exact h

theorem v347_eq : v347 V = Host.divf (v344 V) (v346 V) := by
  have h := binary_end V 379 (a := main_v344) (b := main_v346) (y := main_v347) rfl (by decide) (by decide) (by decide)
  exact h

theorem v348_eq : v348 V = extractStridedSlice S32768x1 ![0, 3] (v320 V) slices_S32768x4_S32768x1_0_3 := by
  have h := unary_end V 380 (x := main_v320) (y := main_v348) rfl (by decide) (by decide)
  exact h

theorem v349_eq : v349 V = shapeCast S32768 (v348 V) shapeCasts_S32768x1_S32768 := by
  have h := reshape_end V 381 (x := main_v348) (y := main_v349) rfl (by decide) (by decide)
  exact h

theorem v350_eq : v350 V = extractStridedSlice S32768x1x1 ![0, 3, 0] (v312 V) slices_S32768x4x4_S32768x1x1_0_3_0 := by
  have h := unary_end V 382 (x := main_v312) (y := main_v350) rfl (by decide) (by decide)
  exact h

theorem v351_eq : v351 V = shapeCast S32768 (v350 V) shapeCasts_S32768x1x1_S32768 := by
  have h := reshape_end V 383 (x := main_v350) (y := main_v351) rfl (by decide) (by decide)
  exact h

theorem v352_eq : v352 V = mulf (v351 V) (v325 V) := by
  have h := binary_end V 384 (a := main_v351) (b := main_v325) (y := main_v352) rfl (by decide) (by decide) (by decide)
  exact h

theorem v353_eq : v353 V = subf (v349 V) (v352 V) := by
  have h := binary_end V 385 (a := main_v349) (b := main_v352) (y := main_v353) rfl (by decide) (by decide) (by decide)
  exact h

theorem v354_eq : v354 V = extractStridedSlice S32768x1x1 ![0, 3, 1] (v312 V) slices_S32768x4x4_S32768x1x1_0_3_1 := by
  have h := unary_end V 386 (x := main_v312) (y := main_v354) rfl (by decide) (by decide)
  exact h

theorem v355_eq : v355 V = shapeCast S32768 (v354 V) shapeCasts_S32768x1x1_S32768 := by
  have h := reshape_end V 387 (x := main_v354) (y := main_v355) rfl (by decide) (by decide)
  exact h

theorem v356_eq : v356 V = mulf (v355 V) (v334 V) := by
  have h := binary_end V 388 (a := main_v355) (b := main_v334) (y := main_v356) rfl (by decide) (by decide) (by decide)
  exact h

theorem v357_eq : v357 V = subf (v353 V) (v356 V) := by
  have h := binary_end V 389 (a := main_v353) (b := main_v356) (y := main_v357) rfl (by decide) (by decide) (by decide)
  exact h

theorem v358_eq : v358 V = extractStridedSlice S32768x1x1 ![0, 3, 2] (v312 V) slices_S32768x4x4_S32768x1x1_0_3_2 := by
  have h := unary_end V 390 (x := main_v312) (y := main_v358) rfl (by decide) (by decide)
  exact h

theorem v359_eq : v359 V = shapeCast S32768 (v358 V) shapeCasts_S32768x1x1_S32768 := by
  have h := reshape_end V 391 (x := main_v358) (y := main_v359) rfl (by decide) (by decide)
  exact h

theorem v360_eq : v360 V = mulf (v359 V) (v347 V) := by
  have h := binary_end V 392 (a := main_v359) (b := main_v347) (y := main_v360) rfl (by decide) (by decide) (by decide)
  exact h

theorem v361_eq : v361 V = subf (v357 V) (v360 V) := by
  have h := binary_end V 393 (a := main_v357) (b := main_v360) (y := main_v361) rfl (by decide) (by decide) (by decide)
  exact h

theorem v362_eq : v362 V = extractStridedSlice S32768x1x1 ![0, 3, 3] (v312 V) slices_S32768x4x4_S32768x1x1_0_3_3 := by
  have h := unary_end V 394 (x := main_v312) (y := main_v362) rfl (by decide) (by decide)
  exact h

theorem v363_eq : v363 V = shapeCast S32768 (v362 V) shapeCasts_S32768x1x1_S32768 := by
  have h := reshape_end V 395 (x := main_v362) (y := main_v363) rfl (by decide) (by decide)
  exact h

theorem v364_eq : v364 V = Host.divf (v361 V) (v363 V) := by
  have h := binary_end V 396 (a := main_v361) (b := main_v363) (y := main_v364) rfl (by decide) (by decide) (by decide)
  exact h

theorem v365_eq : v365 V = broadcastInDim S32768x1 ![0] bcast_S32768_S32768x1_0 (v325 V) := by
  have h := unary_end V 397 (x := main_v325) (y := main_v365) rfl (by decide) (by decide)
  exact h

theorem v366_eq : v366 V = broadcastInDim S32768x1 ![0] bcast_S32768_S32768x1_0 (v334 V) := by
  have h := unary_end V 398 (x := main_v334) (y := main_v366) rfl (by decide) (by decide)
  exact h

theorem v367_eq : v367 V = broadcastInDim S32768x1 ![0] bcast_S32768_S32768x1_0 (v347 V) := by
  have h := unary_end V 399 (x := main_v347) (y := main_v367) rfl (by decide) (by decide)
  exact h

theorem v368_eq : v368 V = broadcastInDim S32768x1 ![0] bcast_S32768_S32768x1_0 (v364 V) := by
  have h := unary_end V 400 (x := main_v364) (y := main_v368) rfl (by decide) (by decide)
  exact h

theorem v369_eq : v369 V = concatenate S32768x4 1 [⟨S32768x1, (v365 V)⟩, ⟨S32768x1, (v366 V)⟩, ⟨S32768x1, (v367 V)⟩, ⟨S32768x1, (v368 V)⟩] concatenates_S32768x1_S32768x1_S32768x1_S32768x1_S32768x4_d1 := by
  have h := nary_end V 401 (xs := ![main_v365, main_v366, main_v367, main_v368]) (y := main_v369) rfl (by decide) (by decide)
  exact h

end Cert.Proof.Ref

end
-- ==== Proof.RefEqs3.lean ====
/- The equations of the reference's operations, part 4 of 4: what each buffer holds at the end, in terms of its operands. -/
module

public import proofs.«01_k».proof.Proof.RefVals

@[expose] public section

noncomputable section

namespace Cert.Proof.Ref

open Cert.ReferenceIdeal Cert.ReferenceIdeal.Gen Idealize.ShloMosaic Idealize.ShloMosaic.TcCoe Idealize.SL.Sem Idealize.ShloMosaic.StableHlo

variable (V : Valuation τ sig (Elt Ideal))

set_option maxRecDepth 8192

theorem v370_eq : v370 V = transpose S32768x4x4 [0, 2, 1] (v312 V) transposes_S32768x4x4_S32768x4x4_0_2_1 := by
  have h := unary_end V 402 (x := main_v312) (y := main_v370) rfl (by decide) (by decide)
  exact h

theorem v371_eq : v371 V = extractStridedSlice S32768x1 ![0, 3] (v369 V) slices_S32768x4_S32768x1_0_3 := by
  have h := unary_end V 403 (x := main_v369) (y := main_v371) rfl (by decide) (by decide)
  exact h

theorem v372_eq : v372 V = shapeCast S32768 (v371 V) shapeCasts_S32768x1_S32768 := by
  have h := reshape_end V 404 (x := main_v371) (y := main_v372) rfl (by decide) (by decide)
  exact h

theorem v373_eq : v373 V = extractStridedSlice S32768x1x1 ![0, 3, 3] (v370 V) slices_S32768x4x4_S32768x1x1_0_3_3 := by
  have h := unary_end V 405 (x := main_v370) (y := main_v373) rfl (by decide) (by decide)
  exact h

theorem v374_eq : v374 V = shapeCast S32768 (v373 V) shapeCasts_S32768x1x1_S32768 := by
  have h := reshape_end V 406 (x := main_v373) (y := main_v374) rfl (by decide) (by decide)
  exact h

theorem v375_eq : v375 V = Host.divf (v372 V) (v374 V) := by
  have h := binary_end V 407 (a := main_v372) (b := main_v374) (y := main_v375) rfl (by decide) (by decide) (by decide)
  exact h

theorem v376_eq : v376 V = extractStridedSlice S32768x1 ![0, 2] (v369 V) slices_S32768x4_S32768x1_0_2 := by
  have h := unary_end V 408 (x := main_v369) (y := main_v376) rfl (by decide) (by decide)
  exact h

theorem v377_eq : v377 V = shapeCast S32768 (v376 V) shapeCasts_S32768x1_S32768 := by
  have h := reshape_end V 409 (x := main_v376) (y := main_v377) rfl (by decide) (by decide)
  exact h

theorem v378_eq : v378 V = extractStridedSlice S32768x1x1 ![0, 2, 3] (v370 V) slices_S32768x4x4_S32768x1x1_0_2_3 := by
  have h := unary_end V 410 (x := main_v370) (y := main_v378) rfl (by decide) (by decide)
  exact h

theorem v379_eq : v379 V = shapeCast S32768 (v378 V) shapeCasts_S32768x1x1_S32768 := by
  have h := reshape_end V 411 (x := main_v378) (y := main_v379) rfl (by decide) (by decide)
  exact h

theorem v380_eq : v380 V = mulf (v379 V) (v375 V) := by
  have h := binary_end V 412 (a := main_v379) (b := main_v375) (y := main_v380) rfl (by decide) (by decide) (by decide)
  exact h

theorem v381_eq : v381 V = subf (v377 V) (v380 V) := by
  have h := binary_end V 413 (a := main_v377) (b := main_v380) (y := main_v381) rfl (by decide) (by decide) (by decide)
  exact h

theorem v382_eq : v382 V = extractStridedSlice S32768x1x1 ![0, 2, 2] (v370 V) slices_S32768x4x4_S32768x1x1_0_2_2 := by
  have h := unary_end V 414 (x := main_v370) (y := main_v382) rfl (by decide) (by decide)
  exact h

theorem v383_eq : v383 V = shapeCast S32768 (v382 V) shapeCasts_S32768x1x1_S32768 := by
  have h := reshape_end V 415 (x := main_v382) (y := main_v383) rfl (by decide) (by decide)
  exact h

theorem v384_eq : v384 V = Host.divf (v381 V) (v383 V) := by
  have h := binary_end V 416 (a := main_v381) (b := main_v383) (y := main_v384) rfl (by decide) (by decide) (by decide)
  exact h

theorem v385_eq : v385 V = extractStridedSlice S32768x1 ![0, 1] (v369 V) slices_S32768x4_S32768x1_0_1 := by
  have h := unary_end V 417 (x := main_v369) (y := main_v385) rfl (by decide) (by decide)
  exact h

theorem v386_eq : v386 V = shapeCast S32768 (v385 V) shapeCasts_S32768x1_S32768 := by
  have h := reshape_end V 418 (x := main_v385) (y := main_v386) rfl (by decide) (by decide)
  exact h

theorem v387_eq : v387 V = extractStridedSlice S32768x1x1 ![0, 1, 2] (v370 V) slices_S32768x4x4_S32768x1x1_0_1_2 := by
  have h := unary_end V 419 (x := main_v370) (y := main_v387) rfl (by decide) (by decide)
  exact h

theorem v388_eq : v388 V = shapeCast S32768 (v387 V) shapeCasts_S32768x1x1_S32768 := by
  have h := reshape_end V 420 (x := main_v387) (y := main_v388) rfl (by decide) (by decide)
  exact h

theorem v389_eq : v389 V = mulf (v388 V) (v384 V) := by
  have h := binary_end V 421 (a := main_v388) (b := main_v384) (y := main_v389) rfl (by decide) (by decide) (by decide)
  exact h

theorem v390_eq : v390 V = subf (v386 V) (v389 V) := by
  have h := binary_end V 422 (a := main_v386) (b := main_v389) (y := main_v390) rfl (by decide) (by decide) (by decide)
  exact h

theorem v391_eq : v391 V = extractStridedSlice S32768x1x1 ![0, 1, 3] (v370 V) slices_S32768x4x4_S32768x1x1_0_1_3 := by
  have h := unary_end V 423 (x := main_v370) (y := main_v391) rfl (by decide) (by decide)
  exact h

theorem v392_eq : v392 V = shapeCast S32768 (v391 V) shapeCasts_S32768x1x1_S32768 := by
  have h := reshape_end V 424 (x := main_v391) (y := main_v392) rfl (by decide) (by decide)
  exact h

theorem v393_eq : v393 V = mulf (v392 V) (v375 V) := by
  have h := binary_end V 425 (a := main_v392) (b := main_v375) (y := main_v393) rfl (by decide) (by decide) (by decide)
  exact h

theorem v394_eq : v394 V = subf (v390 V) (v393 V) := by
  have h := binary_end V 426 (a := main_v390) (b := main_v393) (y := main_v394) rfl (by decide) (by decide) (by decide)
  exact h

theorem v395_eq : v395 V = extractStridedSlice S32768x1x1 ![0, 1, 1] (v370 V) slices_S32768x4x4_S32768x1x1_0_1_1 := by
  have h := unary_end V 427 (x := main_v370) (y := main_v395) rfl (by decide) (by decide)
  exact h

theorem v396_eq : v396 V = shapeCast S32768 (v395 V) shapeCasts_S32768x1x1_S32768 := by
  have h := reshape_end V 428 (x := main_v395) (y := main_v396) rfl (by decide) (by decide)
  exact h

theorem v397_eq : v397 V = Host.divf (v394 V) (v396 V) := by
  have h := binary_end V 429 (a := main_v394) (b := main_v396) (y := main_v397) rfl (by decide) (by decide) (by decide)
  exact h

theorem v398_eq : v398 V = extractStridedSlice S32768x1 ![0, 0] (v369 V) slices_S32768x4_S32768x1_0_0 := by
  have h := unary_end V 430 (x := main_v369) (y := main_v398) rfl (by decide) (by decide)
  exact h

theorem v399_eq : v399 V = shapeCast S32768 (v398 V) shapeCasts_S32768x1_S32768 := by
  have h := reshape_end V 431 (x := main_v398) (y := main_v399) rfl (by decide) (by decide)
  exact h

theorem v400_eq : v400 V = extractStridedSlice S32768x1x1 ![0, 0, 1] (v370 V) slices_S32768x4x4_S32768x1x1_0_0_1 := by
  have h := unary_end V 432 (x := main_v370) (y := main_v400) rfl (by decide) (by decide)
  exact h

theorem v401_eq : v401 V = shapeCast S32768 (v400 V) shapeCasts_S32768x1x1_S32768 := by
  have h := reshape_end V 433 (x := main_v400) (y := main_v401) rfl (by decide) (by decide)
  exact h

theorem v402_eq : v402 V = mulf (v401 V) (v397 V) := by
  have h := binary_end V 434 (a := main_v401) (b := main_v397) (y := main_v402) rfl (by decide) (by decide) (by decide)
  exact h

theorem v403_eq : v403 V = subf (v399 V) (v402 V) := by
  have h := binary_end V 435 (a := main_v399) (b := main_v402) (y := main_v403) rfl (by decide) (by decide) (by decide)
  exact h

theorem v404_eq : v404 V = extractStridedSlice S32768x1x1 ![0, 0, 2] (v370 V) slices_S32768x4x4_S32768x1x1_0_0_2 := by
  have h := unary_end V 436 (x := main_v370) (y := main_v404) rfl (by decide) (by decide)
  exact h

theorem v405_eq : v405 V = shapeCast S32768 (v404 V) shapeCasts_S32768x1x1_S32768 := by
  have h := reshape_end V 437 (x := main_v404) (y := main_v405) rfl (by decide) (by decide)
  exact h

theorem v406_eq : v406 V = mulf (v405 V) (v384 V) := by
  have h := binary_end V 438 (a := main_v405) (b := main_v384) (y := main_v406) rfl (by decide) (by decide) (by decide)
  exact h

theorem v407_eq : v407 V = subf (v403 V) (v406 V) := by
  have h := binary_end V 439 (a := main_v403) (b := main_v406) (y := main_v407) rfl (by decide) (by decide) (by decide)
  exact h

theorem v408_eq : v408 V = extractStridedSlice S32768x1x1 ![0, 0, 3] (v370 V) slices_S32768x4x4_S32768x1x1_0_0_3 := by
  have h := unary_end V 440 (x := main_v370) (y := main_v408) rfl (by decide) (by decide)
  exact h

theorem v409_eq : v409 V = shapeCast S32768 (v408 V) shapeCasts_S32768x1x1_S32768 := by
  have h := reshape_end V 441 (x := main_v408) (y := main_v409) rfl (by decide) (by decide)
  exact h

theorem v410_eq : v410 V = mulf (v409 V) (v375 V) := by
  have h := binary_end V 442 (a := main_v409) (b := main_v375) (y := main_v410) rfl (by decide) (by decide) (by decide)
  exact h

theorem v411_eq : v411 V = subf (v407 V) (v410 V) := by
  have h := binary_end V 443 (a := main_v407) (b := main_v410) (y := main_v411) rfl (by decide) (by decide) (by decide)
  exact h

theorem v412_eq : v412 V = extractStridedSlice S32768x1x1 ![0, 0, 0] (v370 V) slices_S32768x4x4_S32768x1x1_0_0_0 := by
  have h := unary_end V 444 (x := main_v370) (y := main_v412) rfl (by decide) (by decide)
  exact h

theorem v413_eq : v413 V = shapeCast S32768 (v412 V) shapeCasts_S32768x1x1_S32768 := by
  have h := reshape_end V 445 (x := main_v412) (y := main_v413) rfl (by decide) (by decide)
  exact h

theorem v414_eq : v414 V = Host.divf (v411 V) (v413 V) := by
  have h := binary_end V 446 (a := main_v411) (b := main_v413) (y := main_v414) rfl (by decide) (by decide) (by decide)
  exact h

theorem v415_eq : v415 V = broadcastInDim S32768x1 ![0] bcast_S32768_S32768x1_0 (v414 V) := by
  have h := unary_end V 447 (x := main_v414) (y := main_v415) rfl (by decide) (by decide)
  exact h

theorem v416_eq : v416 V = broadcastInDim S32768x1 ![0] bcast_S32768_S32768x1_0 (v397 V) := by
  have h := unary_end V 448 (x := main_v397) (y := main_v416) rfl (by decide) (by decide)
  exact h

theorem v417_eq : v417 V = broadcastInDim S32768x1 ![0] bcast_S32768_S32768x1_0 (v384 V) := by
  have h := unary_end V 449 (x := main_v384) (y := main_v417) rfl (by decide) (by decide)
  exact h

theorem v418_eq : v418 V = broadcastInDim S32768x1 ![0] bcast_S32768_S32768x1_0 (v375 V) := by
  have h := unary_end V 450 (x := main_v375) (y := main_v418) rfl (by decide) (by decide)
  exact h

theorem v419_eq : v419 V = concatenate S32768x4 1 [⟨S32768x1, (v415 V)⟩, ⟨S32768x1, (v416 V)⟩, ⟨S32768x1, (v417 V)⟩, ⟨S32768x1, (v418 V)⟩] concatenates_S32768x1_S32768x1_S32768x1_S32768x1_S32768x4_d1 := by
  have h := nary_end V 451 (xs := ![main_v415, main_v416, main_v417, main_v418]) (y := main_v419) rfl (by decide) (by decide)
  exact h

theorem cst_14_eq : cst_14 V = constant S_ .f32 0xC0000000#32 := by
  have h := nullary_end V 452 (y := main_cst_14) rfl (by decide)
  exact h

theorem cst_15_eq : cst_15 V = constant S_ .f32 0x40000000#32 := by
  have h := nullary_end V 453 (y := main_cst_15) rfl (by decide)
  exact h

theorem call4_v0_eq : call4_v0 V = (cst_14 V) := by
  have h := unary_end V 454 (x := main_cst_14) (y := main_call4_v0) rfl (by decide) (by decide)
  exact h

theorem call4_v1_eq : call4_v1 V = (cst_15 V) := by
  have h := unary_end V 455 (x := main_cst_15) (y := main_call4_v1) rfl (by decide) (by decide)
  exact h

theorem call4_v2_eq : call4_v2 V = subf (call4_v1 V) (call4_v0 V) := by
  have h := binary_end V 456 (a := main_call4_v1) (b := main_call4_v0) (y := main_call4_v2) rfl (by decide) (by decide) (by decide)
  exact h

theorem call4_cst_eq : call4_cst V = constant S_ .f32 0x42000000#32 := by
  have h := nullary_end V 457 (y := main_call4_cst) rfl (by decide)
  exact h

theorem call4_v3_eq : call4_v3 V = Host.divf (call4_v2 V) (call4_cst V) := by
  have h := binary_end V 458 (a := main_call4_v2) (b := main_call4_cst) (y := main_call4_v3) rfl (by decide) (by decide) (by decide)
  exact h

theorem call4_v4_eq : call4_v4 V = sitofp .f32 (iotaInDim S32 32 0) := by
  have h := nullary_end V 459 (y := main_call4_v4) rfl (by decide)
  exact h

theorem call4_cst_0_eq : call4_cst_0 V = constant S_ .f32 0x42000000#32 := by
  have h := nullary_end V 460 (y := main_call4_cst_0) rfl (by decide)
  exact h

theorem call4_v5_eq : call4_v5 V = broadcastInDim S32 ![] bcast_S_S32 (call4_cst_0 V) := by
  have h := unary_end V 461 (x := main_call4_cst_0) (y := main_call4_v5) rfl (by decide) (by decide)
  exact h

theorem call4_v6_eq : call4_v6 V = Host.divf (call4_v4 V) (call4_v5 V) := by
  have h := binary_end V 462 (a := main_call4_v4) (b := main_call4_v5) (y := main_call4_v6) rfl (by decide) (by decide) (by decide)
  exact h

theorem call4_v7_eq : call4_v7 V = shapeCast S1 (call4_v0 V) shapeCasts_S_S1 := by
  have h := reshape_end V 463 (x := main_call4_v0) (y := main_call4_v7) rfl (by decide) (by decide)
  exact h

theorem call4_cst_1_eq : call4_cst_1 V = constant S_ .f32 0x3F800000#32 := by
  have h := nullary_end V 464 (y := main_call4_cst_1) rfl (by decide)
  exact h

theorem call4_v8_eq : call4_v8 V = broadcastInDim S32 ![] bcast_S_S32 (call4_cst_1 V) := by
  have h := unary_end V 465 (x := main_call4_cst_1) (y := main_call4_v8) rfl (by decide) (by decide)
  exact h

theorem call4_v9_eq : call4_v9 V = subf (call4_v8 V) (call4_v6 V) := by
  have h := binary_end V 466 (a := main_call4_v8) (b := main_call4_v6) (y := main_call4_v9) rfl (by decide) (by decide) (by decide)
  exact h

theorem call4_v10_eq : call4_v10 V = broadcastInDim S32 ![0] bcast_S1_S32_0 (call4_v7 V) := by
  have h := unary_end V 467 (x := main_call4_v7) (y := main_call4_v10) rfl (by decide) (by decide)
  exact h

theorem call4_v11_eq : call4_v11 V = mulf (call4_v10 V) (call4_v9 V) := by
  have h := binary_end V 468 (a := main_call4_v10) (b := main_call4_v9) (y := main_call4_v11) rfl (by decide) (by decide) (by decide)
  exact h

theorem call4_v12_eq : call4_v12 V = shapeCast S1 (call4_v1 V) shapeCasts_S_S1 := by
  have h := reshape_end V 469 (x := main_call4_v1) (y := main_call4_v12) rfl (by decide) (by decide)
  exact h

theorem call4_v13_eq : call4_v13 V = broadcastInDim S32 ![0] bcast_S1_S32_0 (call4_v12 V) := by
  have h := unary_end V 470 (x := main_call4_v12) (y := main_call4_v13) rfl (by decide) (by decide)
  exact h

theorem call4_v14_eq : call4_v14 V = mulf (call4_v13 V) (call4_v6 V) := by
  have h := binary_end V 471 (a := main_call4_v13) (b := main_call4_v6) (y := main_call4_v14) rfl (by decide) (by decide) (by decide)
  exact h

theorem call4_v15_eq : call4_v15 V = addf (call4_v11 V) (call4_v14 V) := by
  have h := binary_end V 472 (a := main_call4_v11) (b := main_call4_v14) (y := main_call4_v15) rfl (by decide) (by decide) (by decide)
  exact h

theorem call4_v16_eq : call4_v16 V = broadcastInDim S1 ![] bcast_S_S1 (call4_v1 V) := by
  have h := unary_end V 473 (x := main_call4_v1) (y := main_call4_v16) rfl (by decide) (by decide)
  exact h

theorem v420_eq : v420 V = concatenate S33 0 [⟨S32, (call4_v15 V)⟩, ⟨S1, (call4_v16 V)⟩] concatenates_S32_S1_S33_d0 := by
  have h := binary_end V 474 (a := main_call4_v15) (b := main_call4_v16) (y := main_v420) rfl (by decide) (by decide) (by decide)
  exact h

theorem cst_16_eq : cst_16 V = constant S_ .f32 0xC0000000#32 := by
  have h := nullary_end V 475 (y := main_cst_16) rfl (by decide)
  exact h

theorem cst_17_eq : cst_17 V = constant S_ .f32 0x40000000#32 := by
  have h := nullary_end V 476 (y := main_cst_17) rfl (by decide)
  exact h

theorem call5_v0_eq : call5_v0 V = (cst_16 V) := by
  have h := unary_end V 477 (x := main_cst_16) (y := main_call5_v0) rfl (by decide) (by decide)
  exact h

theorem call5_v1_eq : call5_v1 V = broadcastInDim S32768x4 ![] bcast_S_S32768x4 (call5_v0 V) := by
  have h := unary_end V 478 (x := main_call5_v0) (y := main_call5_v1) rfl (by decide) (by decide)
  exact h

theorem call5_v2_eq : call5_v2 V = maximumf (call5_v1 V) (v419 V) := by
  have h := binary_end V 479 (a := main_call5_v1) (b := main_v419) (y := main_call5_v2) rfl (by decide) (by decide) (by decide)
  exact h

theorem call5_v3_eq : call5_v3 V = (cst_17 V) := by
  have h := unary_end V 480 (x := main_cst_17) (y := main_call5_v3) rfl (by decide) (by decide)
  exact h

theorem call5_v4_eq : call5_v4 V = broadcastInDim S32768x4 ![] bcast_S_S32768x4 (call5_v3 V) := by
  have h := unary_end V 481 (x := main_call5_v3) (y := main_call5_v4) rfl (by decide) (by decide)
  exact h

theorem v421_eq : v421 V = minimumf (call5_v4 V) (call5_v2 V) := by
  have h := binary_end V 482 (a := main_call5_v4) (b := main_call5_v2) (y := main_v421) rfl (by decide) (by decide) (by decide)
  exact h

theorem cst_18_eq : cst_18 V = constant S_ .f32 0x40000000#32 := by
  have h := nullary_end V 483 (y := main_cst_18) rfl (by decide)
  exact h

theorem v422_eq : v422 V = broadcastInDim S32768x4 ![] bcast_S_S32768x4 (cst_18 V) := by
  have h := unary_end V 484 (x := main_cst_18) (y := main_v422) rfl (by decide) (by decide)
  exact h

theorem v423_eq : v423 V = addf (v421 V) (v422 V) := by
  have h := binary_end V 485 (a := main_v421) (b := main_v422) (y := main_v423) rfl (by decide) (by decide) (by decide)
  exact h

theorem cst_19_eq : cst_19 V = constant S_ .f32 0x40800000#32 := by
  have h := nullary_end V 486 (y := main_cst_19) rfl (by decide)
  exact h

theorem v424_eq : v424 V = broadcastInDim S32768x4 ![] bcast_S_S32768x4 (cst_19 V) := by
  have h := unary_end V 487 (x := main_cst_19) (y := main_v424) rfl (by decide) (by decide)
  exact h

theorem v425_eq : v425 V = Host.divf (v423 V) (v424 V) := by
  have h := binary_end V 488 (a := main_v423) (b := main_v424) (y := main_v425) rfl (by decide) (by decide) (by decide)
  exact h

theorem cst_20_eq : cst_20 V = constant S_ .f32 0x42000000#32 := by
  have h := nullary_end V 489 (y := main_cst_20) rfl (by decide)
  exact h

theorem v426_eq : v426 V = broadcastInDim S32768x4 ![] bcast_S_S32768x4 (cst_20 V) := by
  have h := unary_end V 490 (x := main_cst_20) (y := main_v426) rfl (by decide) (by decide)
  exact h

theorem v427_eq : v427 V = mulf (v425 V) (v426 V) := by
  have h := binary_end V 491 (a := main_v425) (b := main_v426) (y := main_v427) rfl (by decide) (by decide) (by decide)
  exact h

theorem v428_eq : v428 V = Host.roundeven (v427 V) := by
  have h := unary_end V 492 (x := main_v427) (y := main_v428) rfl (by decide) (by decide)
  exact h

theorem v429_eq : v429 V = fptosi 32 (v428 V) := by
  have h := unary_end V 493 (x := main_v428) (y := main_v429) rfl (by decide) (by decide)
  exact h

theorem c_21_eq : c_21 V = constantI S_ 32 0#32 := by
  have h := nullary_end V 494 (y := main_c_21) rfl (by decide)
  exact h

theorem c_22_eq : c_22 V = constantI S_ 32 32#32 := by
  have h := nullary_end V 495 (y := main_c_22) rfl (by decide)
  exact h

theorem call7_v0_eq : call7_v0 V = (c_21 V) := by
  have h := unary_end V 496 (x := main_c_21) (y := main_call7_v0) rfl (by decide) (by decide)
  exact h

theorem call7_v1_eq : call7_v1 V = broadcastInDim S32768x4 ![] bcast_S_S32768x4 (call7_v0 V) := by
  have h := unary_end V 497 (x := main_call7_v0) (y := main_call7_v1) rfl (by decide) (by decide)
  exact h

theorem call7_v2_eq : call7_v2 V = maxsi (call7_v1 V) (v429 V) := by
  have h := binary_end V 498 (a := main_call7_v1) (b := main_v429) (y := main_call7_v2) rfl (by decide) (by decide) (by decide)
  exact h

theorem call7_v3_eq : call7_v3 V = (c_22 V) := by
  have h := unary_end V 499 (x := main_c_22) (y := main_call7_v3) rfl (by decide) (by decide)
  exact h

theorem call7_v4_eq : call7_v4 V = broadcastInDim S32768x4 ![] bcast_S_S32768x4 (call7_v3 V) := by
  have h := unary_end V 500 (x := main_call7_v3) (y := main_call7_v4) rfl (by decide) (by decide)
  exact h

theorem v430_eq : v430 V = minsi (call7_v4 V) (call7_v2 V) := by
  have h := binary_end V 501 (a := main_call7_v4) (b := main_call7_v2) (y := main_v430) rfl (by decide) (by decide) (by decide)
  exact h

theorem v431_eq : v431 V = broadcastInDim S32768x4x1 ![0, 1] bcast_S32768x4_S32768x4x1_0_1 (v430 V) := by
  have h := unary_end V 502 (x := main_v430) (y := main_v431) rfl (by decide) (by decide)
  exact h

theorem v432_eq : v432 V = Host.gather gather_S33_S32768x4x1_S32768x4_n_0_n_n_0_2_1 (v420 V) (v431 V) := by
  have h := binary_end V 503 (a := main_v420) (b := main_v431) (y := main_v432) rfl (by decide) (by decide) (by decide)
  exact h

theorem c_23_eq : c_23 V = constantI S_ 32 33#32 := by
  have h := nullary_end V 504 (y := main_c_23) rfl (by decide)
  exact h

theorem v433_eq : v433 V = broadcastInDim S32768x4 ![] bcast_S_S32768x4 (c_23 V) := by
  have h := unary_end V 505 (x := main_c_23) (y := main_v433) rfl (by decide) (by decide)
  exact h

theorem v434_eq : v434 V = muli (v314 V) (v433 V) := by
  have h := binary_end V 506 (a := main_v314) (b := main_v433) (y := main_v434) rfl (by decide) (by decide) (by decide)
  exact h

theorem v435_eq : v435 V = addi (v434 V) (v430 V) := by
  have h := binary_end V 507 (a := main_v434) (b := main_v430) (y := main_v435) rfl (by decide) (by decide) (by decide)
  exact h

theorem v436_eq : v436 V = shapeCast S32x32x32x4 (v435 V) shapeCasts_S32768x4_S32x32x32x4 := by
  have h := reshape_end V 508 (x := main_v435) (y := main_v436) rfl (by decide) (by decide)
  exact h

theorem v437_eq : v437 V = transpose S256x64 [1, 0] (v10 V) transposes_S64x256_S256x64_1_0 := by
  have h := unary_end V 509 (x := main_v10) (y := main_v437) rfl (by decide) (by decide)
  exact h

theorem v438_eq : v438 V = broadcastInDim S32768x4x1 ![0, 1] bcast_S32768x4_S32768x4x1_0_1 (v314 V) := by
  have h := unary_end V 510 (x := main_v314) (y := main_v438) rfl (by decide) (by decide)
  exact h

theorem v439_eq : v439 V = Host.gather gather_S256x64_S32768x4x1_S32768x4x64_2_0_n_n_0_2_164 (v437 V) (v438 V) := by
  have h := binary_end V 511 (a := main_v437) (b := main_v438) (y := main_v439) rfl (by decide) (by decide) (by decide)
  exact h

theorem v440_eq : v440 V = broadcastInDim S32768x4x1 ![0, 1] bcast_S32768x4_S32768x4x1_0_1 (v432 V) := by
  have h := unary_end V 512 (x := main_v432) (y := main_v440) rfl (by decide) (by decide)
  exact h

theorem v441_eq : v441 V = broadcastInDim S32768x4x64 ![0, 1, 2] bcast_S32768x4x1_S32768x4x64_0_1_2 (v440 V) := by
  have h := unary_end V 513 (x := main_v440) (y := main_v441) rfl (by decide) (by decide)
  exact h

theorem v442_eq : v442 V = mulf (v439 V) (v441 V) := by
  have h := binary_end V 514 (a := main_v439) (b := main_v441) (y := main_v442) rfl (by decide) (by decide) (by decide)
  exact h

theorem cst_24_eq : cst_24 V = constant S_ .f32 0x00000000#32 := by
  have h := nullary_end V 515 (y := main_cst_24) rfl (by decide)
  exact h

theorem v443_eq : v443 V = Host.reduceAdd (v442 V) (cst_24 V) reducesTo_S32768x4x64_S32768x64_d1 h_S_ := by
  have h := binary_end V 516 (a := main_v442) (b := main_cst_24) (y := main_v443) rfl (by decide) (by decide) (by decide)
  exact h

theorem v444_eq : v444 V = shapeCast S32x32x32x64 (v443 V) shapeCasts_S32768x64_S32x32x32x64 := by
  have h := reshape_end V 517 (x := main_v443) (y := main_v444) rfl (by decide) (by decide)
  exact h

theorem v445_eq : v445 V = transpose S32x64x32x32 [0, 3, 1, 2] (v444 V) transposes_S32x32x32x64_S32x64x32x32_0_3_1_2 := by
  have h := unary_end V 518 (x := main_v444) (y := main_v445) rfl (by decide) (by decide)
  exact h

theorem v446_eq : v446 V = subf (v445 V) (arg0 V) := by
  have h := binary_end V 519 (a := main_v445) (b := main_arg0) (y := main_v446) rfl (by decide) (by decide) (by decide)
  exact h

theorem v447_eq : v447 V = mulf (v446 V) (v446 V) := by
  have h := binary_end V 520 (a := main_v446) (b := main_v446) (y := main_v447) rfl (by decide) (by decide) (by decide)
  exact h

theorem cst_25_eq : cst_25 V = constant S_ .f32 0x00000000#32 := by
  have h := nullary_end V 521 (y := main_cst_25) rfl (by decide)
  exact h

theorem v448_eq : v448 V = Host.reduceAdd (v447 V) (cst_25 V) reducesTo_S32x64x32x32_S_d0_1_2_3 h_S_ := by
  have h := binary_end V 522 (a := main_v447) (b := main_cst_25) (y := main_v448) rfl (by decide) (by decide) (by decide)
  exact h

theorem cst_26_eq : cst_26 V = constant S_ .f32 0x4A000000#32 := by
  have h := nullary_end V 523 (y := main_cst_26) rfl (by decide)
  exact h

theorem v449_eq : v449 V = Host.divf (v448 V) (cst_26 V) := by
  have h := binary_end V 524 (a := main_v448) (b := main_cst_26) (y := main_v449) rfl (by decide) (by decide) (by decide)
  exact h

theorem v450_eq : v450 V = subf (v445 V) (arg0 V) := by
  have h := binary_end V 525 (a := main_v445) (b := main_arg0) (y := main_v450) rfl (by decide) (by decide) (by decide)
  exact h

theorem v451_eq : v451 V = mulf (v450 V) (v450 V) := by
  have h := binary_end V 526 (a := main_v450) (b := main_v450) (y := main_v451) rfl (by decide) (by decide) (by decide)
  exact h

theorem cst_27_eq : cst_27 V = constant S_ .f32 0x00000000#32 := by
  have h := nullary_end V 527 (y := main_cst_27) rfl (by decide)
  exact h

theorem v452_eq : v452 V = Host.reduceAdd (v451 V) (cst_27 V) reducesTo_S32x64x32x32_S_d0_1_2_3 h_S_ := by
  have h := binary_end V 528 (a := main_v451) (b := main_cst_27) (y := main_v452) rfl (by decide) (by decide) (by decide)
  exact h

theorem cst_28_eq : cst_28 V = constant S_ .f32 0x4A000000#32 := by
  have h := nullary_end V 529 (y := main_cst_28) rfl (by decide)
  exact h

theorem v453_eq : v453 V = Host.divf (v452 V) (cst_28 V) := by
  have h := binary_end V 530 (a := main_v452) (b := main_cst_28) (y := main_v453) rfl (by decide) (by decide) (by decide)
  exact h

theorem cst_29_eq : cst_29 V = constant S_ .f32 0x3E800000#32 := by
  have h := nullary_end V 531 (y := main_cst_29) rfl (by decide)
  exact h

theorem v454_eq : v454 V = mulf (cst_29 V) (v453 V) := by
  have h := binary_end V 532 (a := main_cst_29) (b := main_v453) (y := main_v454) rfl (by decide) (by decide) (by decide)
  exact h

theorem v455_eq : v455 V = addf (v449 V) (v454 V) := by
  have h := binary_end V 533 (a := main_v449) (b := main_v454) (y := main_v455) rfl (by decide) (by decide) (by decide)
  exact h

theorem v456_eq : v456 V = subf (v445 V) (arg0 V) := by
  have h := binary_end V 534 (a := main_v445) (b := main_arg0) (y := main_v456) rfl (by decide) (by decide) (by decide)
  exact h

theorem v457_eq : v457 V = addf (arg0 V) (v456 V) := by
  have h := binary_end V 535 (a := main_arg0) (b := main_v456) (y := main_v457) rfl (by decide) (by decide) (by decide)
  exact h

end Cert.Proof.Ref

end
-- ==== Proof.RefStep.lean ====
/- The shapes of argument the reference's steps are read with: sums and products over at most four terms, the gathers at known
   positions, the scores and the record of atoms taken. -/
module

public import proofs.«01_k».proof.Proof.RefEqs0
public import proofs.«01_k».proof.Proof.RefEqs1
public import proofs.«01_k».proof.Proof.RefEqs2
public import proofs.«01_k».proof.Proof.RefEqs3
public import proofs.«01_k».proof.Proof.Model

@[expose] public section

noncomputable section

namespace Cert.Proof.Ref

open Cert.ReferenceIdeal Cert.ReferenceIdeal.Gen
open Idealize.ShloMosaic hiding ix0 ix1 ix2 ix3 ix4 eq_ix2
open Idealize.ShloMosaic.ValueIdx Idealize.SL.Sem

variable (V : Valuation τ sig (Elt Ideal))

/-- Entry `c` of the normalised atom `a`. -/
def dict (c : Fin 64) (a : Fin 256) : EReal := v10 V (ix2 c a)
/-- The Gram matrix of the normalised atoms. -/
def gram (a b : Fin 256) : EReal := v12 V (ix2 a b)
/-- The correlations of pixel `n` with the atoms. -/
def corr (n : Fin 32768) (a : Fin 256) : EReal := v15 V (ix2 n a)

theorem pick_pixel (n : Fin 32768) : pick 32768 (BitVec.ofNat 32 n.val) = n := by
  have := n.isLt
  apply Fin.ext
  show min (BitVec.ofNat 32 n.val).toInt.toNat 32767 = n.val
  rw [BitVec.toInt_eq_toNat_of_lt (by simp; omega)]
  simp; omega

/-! ## Concatenations along one axis -/

section
variable {α : Type} {N p q r m : Nat}

theorem cat2_left {x : (⟨2, ![N, p]⟩ : Shape).Idx → α} {y : (⟨2, ![N, q]⟩ : Shape).Idx → α}
    (h : Shape.Concatenates [⟨2, ![N, p]⟩, ⟨2, ![N, q]⟩] ⟨2, ![N, r]⟩ 1) {n : Fin N} {k : Fin r} (i : Fin p) (hi : i.val = k.val) :
    concatenate ⟨2, ![N, r]⟩ 1 [⟨⟨2, ![N, p]⟩, x⟩, ⟨⟨2, ![N, q]⟩, y⟩] h (ix2 n k) = x (ix2 n i) :=
  concatenate_pair_apply_left _ x y h _ rfl (ix2 n i) (fun b => match b with | ⟨0, _⟩ => rfl | ⟨1, _⟩ => hi)

theorem cat2_right {x : (⟨2, ![N, p]⟩ : Shape).Idx → α} {y : (⟨2, ![N, q]⟩ : Shape).Idx → α}
    (h : Shape.Concatenates [⟨2, ![N, p]⟩, ⟨2, ![N, q]⟩] ⟨2, ![N, r]⟩ 1) {n : Fin N} {k : Fin r} (i : Fin q) (hi : i.val + p = k.val) :
    concatenate ⟨2, ![N, r]⟩ 1 [⟨⟨2, ![N, p]⟩, x⟩, ⟨⟨2, ![N, q]⟩, y⟩] h (ix2 n k) = y (ix2 n i) :=
  concatenate_pair_apply_right _ x y h _ rfl rfl (ix2 n i)
    (fun b hb => match b, hb with | ⟨0, _⟩, _ => rfl | ⟨1, _⟩, hb => absurd rfl hb) hi

theorem cat3_left {x : (⟨3, ![N, m, p]⟩ : Shape).Idx → α} {y : (⟨3, ![N, m, q]⟩ : Shape).Idx → α}
    (h : Shape.Concatenates [⟨3, ![N, m, p]⟩, ⟨3, ![N, m, q]⟩] ⟨3, ![N, m, r]⟩ 2) {n : Fin N} {j : Fin m} {k : Fin r}
    (i : Fin p) (hi : i.val = k.val) :
    concatenate ⟨3, ![N, m, r]⟩ 2 [⟨⟨3, ![N, m, p]⟩, x⟩, ⟨⟨3, ![N, m, q]⟩, y⟩] h (ix3 n j k) = x (ix3 n j i) :=
  concatenate_pair_apply_left _ x y h _ rfl (ix3 n j i)
    (fun b => match b with | ⟨0, _⟩ => rfl | ⟨1, _⟩ => rfl | ⟨2, _⟩ => hi)

theorem cat3_right {x : (⟨3, ![N, m, p]⟩ : Shape).Idx → α} {y : (⟨3, ![N, m, q]⟩ : Shape).Idx → α}
    (h : Shape.Concatenates [⟨3, ![N, m, p]⟩, ⟨3, ![N, m, q]⟩] ⟨3, ![N, m, r]⟩ 2) {n : Fin N} {j : Fin m} {k : Fin r}
    (i : Fin q) (hi : i.val + p = k.val) :
    concatenate ⟨3, ![N, m, r]⟩ 2 [⟨⟨3, ![N, m, p]⟩, x⟩, ⟨⟨3, ![N, m, q]⟩, y⟩] h (ix3 n j k) = y (ix3 n j i) :=
  concatenate_pair_apply_right _ x y h _ rfl rfl (ix3 n j i)
    (fun b hb => match b, hb with | ⟨0, _⟩, _ => rfl | ⟨1, _⟩, _ => rfl | ⟨2, _⟩, hb => absurd rfl hb) hi

theorem catMid_left {x : (⟨3, ![N, p, m]⟩ : Shape).Idx → α} {y : (⟨3, ![N, q, m]⟩ : Shape).Idx → α}
    (h : Shape.Concatenates [⟨3, ![N, p, m]⟩, ⟨3, ![N, q, m]⟩] ⟨3, ![N, r, m]⟩ 1) {n : Fin N} {k : Fin r} {j : Fin m}
    (i : Fin p) (hi : i.val = k.val) :
    concatenate ⟨3, ![N, r, m]⟩ 1 [⟨⟨3, ![N, p, m]⟩, x⟩, ⟨⟨3, ![N, q, m]⟩, y⟩] h (ix3 n k j) = x (ix3 n i j) :=
  concatenate_pair_apply_left _ x y h _ rfl (ix3 n i j)
    (fun b => match b with | ⟨0, _⟩ => rfl | ⟨1, _⟩ => hi | ⟨2, _⟩ => rfl)

theorem catMid_right {x : (⟨3, ![N, p, m]⟩ : Shape).Idx → α} {y : (⟨3, ![N, q, m]⟩ : Shape).Idx → α}
    (h : Shape.Concatenates [⟨3, ![N, p, m]⟩, ⟨3, ![N, q, m]⟩] ⟨3, ![N, r, m]⟩ 1) {n : Fin N} {k : Fin r} {j : Fin m}
    (i : Fin q) (hi : i.val + p = k.val) :
    concatenate ⟨3, ![N, r, m]⟩ 1 [⟨⟨3, ![N, p, m]⟩, x⟩, ⟨⟨3, ![N, q, m]⟩, y⟩] h (ix3 n k j) = y (ix3 n i j) :=
  concatenate_pair_apply_right _ x y h _ rfl rfl (ix3 n i j)
    (fun b hb => match b, hb with | ⟨0, _⟩, _ => rfl | ⟨1, _⟩, hb => absurd rfl hb | ⟨2, _⟩, _ => rfl) hi

theorem columns3_at {x y z : (⟨2, ![N, 1]⟩ : Shape).Idx → α}
    (h : Shape.Concatenates [⟨2, ![N, 1]⟩, ⟨2, ![N, 1]⟩, ⟨2, ![N, 1]⟩] ⟨2, ![N, 3]⟩ 1) {n : Fin N} (k : Fin 3) :
    concatenate ⟨2, ![N, 3]⟩ 1 [⟨⟨2, ![N, 1]⟩, x⟩, ⟨⟨2, ![N, 1]⟩, y⟩, ⟨⟨2, ![N, 1]⟩, z⟩] h (ix2 n k)
      = (![x, y, z] k) (ix2 n (0 : Fin 1)) := by
  fin_cases k
  · exact concatenate_apply_piece (t := ⟨2, ![N, 3]⟩) 1 [⟨⟨2, ![N, 1]⟩, x⟩, ⟨⟨2, ![N, 1]⟩, y⟩, ⟨⟨2, ![N, 1]⟩, z⟩] h _
      0 (by simp) ⟨2, ![N, 1]⟩ x rfl rfl 0 rfl (ix2 n (0 : Fin 1))
      (fun b hb => match b, hb with | ⟨0, _⟩, _ => rfl | ⟨1, _⟩, hb => absurd rfl hb) rfl
  · exact concatenate_apply_piece (t := ⟨2, ![N, 3]⟩) 1 [⟨⟨2, ![N, 1]⟩, x⟩, ⟨⟨2, ![N, 1]⟩, y⟩, ⟨⟨2, ![N, 1]⟩, z⟩] h _
      1 (by simp) ⟨2, ![N, 1]⟩ y rfl rfl 1 rfl (ix2 n (0 : Fin 1))
      (fun b hb => match b, hb with | ⟨0, _⟩, _ => rfl | ⟨1, _⟩, hb => absurd rfl hb) rfl
  · exact concatenate_apply_piece (t := ⟨2, ![N, 3]⟩) 1 [⟨⟨2, ![N, 1]⟩, x⟩, ⟨⟨2, ![N, 1]⟩, y⟩, ⟨⟨2, ![N, 1]⟩, z⟩] h _
      2 (by simp) ⟨2, ![N, 1]⟩ z rfl rfl 2 rfl (ix2 n (0 : Fin 1))
      (fun b hb => match b, hb with | ⟨0, _⟩, _ => rfl | ⟨1, _⟩, hb => absurd rfl hb) rfl

theorem columns4_at {x y z w : (⟨2, ![N, 1]⟩ : Shape).Idx → α}
    (h : Shape.Concatenates [⟨2, ![N, 1]⟩, ⟨2, ![N, 1]⟩, ⟨2, ![N, 1]⟩, ⟨2, ![N, 1]⟩] ⟨2, ![N, 4]⟩ 1) {n : Fin N} (k : Fin 4) :
    concatenate ⟨2, ![N, 4]⟩ 1 [⟨⟨2, ![N, 1]⟩, x⟩, ⟨⟨2, ![N, 1]⟩, y⟩, ⟨⟨2, ![N, 1]⟩, z⟩, ⟨⟨2, ![N, 1]⟩, w⟩] h (ix2 n k)
      = (![x, y, z, w] k) (ix2 n (0 : Fin 1)) := by
  fin_cases k
  · exact concatenate_apply_piece (t := ⟨2, ![N, 4]⟩) 1
      [⟨⟨2, ![N, 1]⟩, x⟩, ⟨⟨2, ![N, 1]⟩, y⟩, ⟨⟨2, ![N, 1]⟩, z⟩, ⟨⟨2, ![N, 1]⟩, w⟩] h _
      0 (by simp) ⟨2, ![N, 1]⟩ x rfl rfl 0 rfl (ix2 n (0 : Fin 1))
      (fun b hb => match b, hb with | ⟨0, _⟩, _ => rfl | ⟨1, _⟩, hb => absurd rfl hb) rfl
  · exact concatenate_apply_piece (t := ⟨2, ![N, 4]⟩) 1
      [⟨⟨2, ![N, 1]⟩, x⟩, ⟨⟨2, ![N, 1]⟩, y⟩, ⟨⟨2, ![N, 1]⟩, z⟩, ⟨⟨2, ![N, 1]⟩, w⟩] h _
      1 (by simp) ⟨2, ![N, 1]⟩ y rfl rfl 1 rfl (ix2 n (0 : Fin 1))
      (fun b hb => match b, hb with | ⟨0, _⟩, _ => rfl | ⟨1, _⟩, hb => absurd rfl hb) rfl
  · exact concatenate_apply_piece (t := ⟨2, ![N, 4]⟩) 1
      [⟨⟨2, ![N, 1]⟩, x⟩, ⟨⟨2, ![N, 1]⟩, y⟩, ⟨⟨2, ![N, 1]⟩, z⟩, ⟨⟨2, ![N, 1]⟩, w⟩] h _
      2 (by simp) ⟨2, ![N, 1]⟩ z rfl rfl 2 rfl (ix2 n (0 : Fin 1))
      (fun b hb => match b, hb with | ⟨0, _⟩, _ => rfl | ⟨1, _⟩, hb => absurd rfl hb) rfl
  · exact concatenate_apply_piece (t := ⟨2, ![N, 4]⟩) 1
      [⟨⟨2, ![N, 1]⟩, x⟩, ⟨⟨2, ![N, 1]⟩, y⟩, ⟨⟨2, ![N, 1]⟩, z⟩, ⟨⟨2, ![N, 1]⟩, w⟩] h _
      3 (by simp) ⟨2, ![N, 1]⟩ w rfl rfl 3 rfl (ix2 n (0 : Fin 1))
      (fun b hb => match b, hb with | ⟨0, _⟩, _ => rfl | ⟨1, _⟩, hb => absurd rfl hb) rfl
end

section
variable {N : Nat} {n : Fin N} {v : FVec Ideal S_ .f32} {h0 : 0 < S_.numel} {p q r s : EReal}

theorem rowSum1_at {x : FVec Ideal ⟨2, ![N, 1]⟩ .f32} (hv : v ix0 = 0)
    (h : (⟨2, ![N, 1]⟩ : Shape).ReducesTo [1] ⟨1, ![N]⟩) (hp : x (ix2 n (0 : Fin 1)) = p) :
    Host.reduceAdd x v h h0 (ix1 n) = p := by
  subst hp
  rw [rowSum_at x (hv.trans Ideal.ofBits_zero_f32.symm), Fin.sum_univ_one]

theorem rowSum2_at {x : FVec Ideal ⟨2, ![N, 2]⟩ .f32} (hv : v ix0 = 0)
    (h : (⟨2, ![N, 2]⟩ : Shape).ReducesTo [1] ⟨1, ![N]⟩) (hp : x (ix2 n (0 : Fin 2)) = p) (hq : x (ix2 n (1 : Fin 2)) = q) :
    Host.reduceAdd x v h h0 (ix1 n) = p + q := by
  subst hp hq
  rw [rowSum_at x (hv.trans Ideal.ofBits_zero_f32.symm), Fin.sum_univ_two]

theorem rowSum3_at {x : FVec Ideal ⟨2, ![N, 3]⟩ .f32} (hv : v ix0 = 0)
    (h : (⟨2, ![N, 3]⟩ : Shape).ReducesTo [1] ⟨1, ![N]⟩) (hp : x (ix2 n (0 : Fin 3)) = p) (hq : x (ix2 n (1 : Fin 3)) = q)
    (hr : x (ix2 n (2 : Fin 3)) = r) :
    Host.reduceAdd x v h h0 (ix1 n) = p + q + r := by
  subst hp hq hr
  rw [rowSum_at x (hv.trans Ideal.ofBits_zero_f32.symm), Fin.sum_univ_three]

theorem midSum4_at {C : Nat} {c : Fin C} {x : FVec Ideal ⟨3, ![N, 4, C]⟩ .f32} (hv : v ix0 = 0)
    (h : (⟨3, ![N, 4, C]⟩ : Shape).ReducesTo [1] ⟨2, ![N, C]⟩) (hp : x (ix3 n (0 : Fin 4) c) = p)
    (hq : x (ix3 n (1 : Fin 4) c) = q) (hr : x (ix3 n (2 : Fin 4) c) = r) (hs : x (ix3 n (3 : Fin 4) c) = s) :
    Host.reduceAdd x v h h0 (ix2 n c) = p + q + r + s := by
  subst hp hq hr hs
  rw [midSum_at x (hv.trans Ideal.ofBits_zero_f32.symm), Fin.sum_univ_four]

variable {B : Nat} {b : Fin B} {p' q' r' : EReal}

theorem rowDot1_at (w : DotDims.WF ⟨2, ![N, 1]⟩ ⟨3, ![N, 1, B]⟩ ⟨2, ![N, B]⟩ [1] [1] [] [2] [0] [0])
    {x : FVec Ideal ⟨2, ![N, 1]⟩ .f32} {z : FVec Ideal ⟨3, ![N, 1, B]⟩ .f32}
    (hp : x (ix2 n (0 : Fin 1)) = p) (hp' : z (ix3 n (0 : Fin 1) b) = p') :
    Host.dotGeneral (⟨[1], [1], [], [2], [0], [0], w⟩ : DotDims _ _ _) none x z (ix2 n b) = p * p' := by
  subst hp hp'
  rw [rowDot_at, Fin.sum_univ_one]

theorem rowDot2_at (w : DotDims.WF ⟨2, ![N, 2]⟩ ⟨3, ![N, 2, B]⟩ ⟨2, ![N, B]⟩ [1] [1] [] [2] [0] [0])
    {x : FVec Ideal ⟨2, ![N, 2]⟩ .f32} {z : FVec Ideal ⟨3, ![N, 2, B]⟩ .f32}
    (hp : x (ix2 n (0 : Fin 2)) = p) (hq : x (ix2 n (1 : Fin 2)) = q)
    (hp' : z (ix3 n (0 : Fin 2) b) = p') (hq' : z (ix3 n (1 : Fin 2) b) = q') :
    Host.dotGeneral (⟨[1], [1], [], [2], [0], [0], w⟩ : DotDims _ _ _) none x z (ix2 n b) = p * p' + q * q' := by
  subst hp hq hp' hq'
  rw [rowDot_at, Fin.sum_univ_two]

theorem rowDot3_at (w : DotDims.WF ⟨2, ![N, 3]⟩ ⟨3, ![N, 3, B]⟩ ⟨2, ![N, B]⟩ [1] [1] [] [2] [0] [0])
    {x : FVec Ideal ⟨2, ![N, 3]⟩ .f32} {z : FVec Ideal ⟨3, ![N, 3, B]⟩ .f32}
    (hp : x (ix2 n (0 : Fin 3)) = p) (hq : x (ix2 n (1 : Fin 3)) = q) (hr : x (ix2 n (2 : Fin 3)) = r)
    (hp' : z (ix3 n (0 : Fin 3) b) = p') (hq' : z (ix3 n (1 : Fin 3) b) = q') (hr' : z (ix3 n (2 : Fin 3) b) = r') :
    Host.dotGeneral (⟨[1], [1], [], [2], [0], [0], w⟩ : DotDims _ _ _) none x z (ix2 n b) = p * p' + q * q' + r * r' := by
  subst hp hq hr hp' hq' hr'
  rw [rowDot_at, Fin.sum_univ_three]
end

section
variable {α : Type} {A B N K : Nat} [NeZero A] {n : Fin N} {k : Fin K}

theorem pairs_known [NeZero B]
    (wf : GatherDims.WF ⟨2, ![A, B]⟩ ⟨3, ![N, K, 2]⟩ ⟨2, ![N, K]⟩ [] [0, 1] [] [0, 1] [] 2 ![1, 1])
    (x : (⟨2, ![A, B]⟩ : Shape).Idx → α) (idx : IVec ⟨3, ![N, K, 2]⟩ 32) {u v : BitVec 32} {i : Fin A} {j : Fin B}
    (hu : idx (ix3 n k (0 : Fin 2)) = u) (hv : idx (ix3 n k (1 : Fin 2)) = v) (hi : pick A u = i) (hj : pick B v = j) :
    Host.gather (⟨[], [0, 1], [], [], [0, 1], 2, ![1, 1], wf⟩ : GatherDims _ _ _) x idx (ix2 n k) = x (ix2 i j) := by
  subst hu hv hi hj
  exact pairs_at wf x idx n k

theorem rows_known {b : Fin B}
    (wf : GatherDims.WF ⟨2, ![A, B]⟩ ⟨3, ![N, K, 1]⟩ ⟨3, ![N, K, B]⟩ [2] [0] [] [0] [] 2 ![1, B])
    (x : (⟨2, ![A, B]⟩ : Shape).Idx → α) (idx : IVec ⟨3, ![N, K, 1]⟩ 32) {u : BitVec 32} {i : Fin A}
    (hu : idx (ix3 n k (0 : Fin 1)) = u) (hi : pick A u = i) :
    Host.gather (⟨[2], [0], [], [], [0], 2, ![1, B], wf⟩ : GatherDims _ _ _) x idx (ix3 n k b) = x (ix2 i b) := by
  subst hu hi
  exact rows_at wf x idx n k b

theorem table_known
    (wf : GatherDims.WF ⟨1, ![A]⟩ ⟨3, ![N, K, 1]⟩ ⟨2, ![N, K]⟩ [] [0] [] [0] [] 2 ![1])
    (x : (⟨1, ![A]⟩ : Shape).Idx → α) (idx : IVec ⟨3, ![N, K, 1]⟩ 32) {u : BitVec 32}
    (hu : idx (ix3 n k (0 : Fin 1)) = u) :
    Host.gather (⟨[], [0], [], [], [0], 2, ![1], wf⟩ : GatherDims _ _ _) x idx (ix2 n k) = x (ix1 (pick A u)) := by
  subst hu
  exact table_at wf x idx n k
end

section
variable {s : Shape} {i : s.Idx}

theorem taken_at {a b : IVec s 1} {p : Bool} {x y : Fin 256} (ha : a i = BitVec.ofBool p)
    (hb : b i = IntOp.cmpi .eq (word x) (word y)) : ori a b i = BitVec.ofBool (p || decide (x = y)) := by
  have e : IntOp.cmpi .eq (word x) (word y) = BitVec.ofBool (decide (x = y)) := by
    show BitVec.ofBool (word x == word y) = _
    congr 1
    by_cases h : x = y
    · simp [h]
    · have : ¬ word x = word y := fun e => h (word_inj e)
      simp [h]
      exact this
  show a i ||| b i = _
  rw [ha, hb, e]
  cases p <;> cases decide (x = y) <;> rfl

theorem score_at {f : FVec Ideal s .f32} {F : Fin 256 → EReal} {m : Fin 256 → Bool} {a : Fin 256}
    (hf : f i = F a * FloatOps.uitofp (F := Ideal) .f32 (~~~ BitVec.ofBool (m a))) : Host.absf f i = M.score F m a := by
  show max (f i) (-(f i)) = _
  rw [hf]
  unfold M.score
  cases m a
  · have : FloatOps.uitofp (F := Ideal) .f32 (~~~ BitVec.ofBool false) = (1 : EReal) := by
      show (((~~~ BitVec.ofBool false).toNat : ℝ) : EReal) = 1
      simp
    rw [this, mul_one]; rfl
  · have : FloatOps.uitofp (F := Ideal) .f32 (~~~ BitVec.ofBool true) = (0 : EReal) := by
      show (((~~~ BitVec.ofBool true).toNat : ℝ) : EReal) = 0
      simp
    rw [this, mul_zero]; simp

theorem div_one_at {a b : FVec Ideal s .f32} {x : EReal} (ha : a i = x) (hb : b i = 1) : Host.divf a b i = x := by
  subst ha
  show Ideal.div (a i) (b i) = a i
  rw [hb]
  simp [Ideal.div]
end

end Cert.Proof.Ref

end
-- ==== Proof.RefAt0.lean ====
/- The reference read at one pixel, part 1 of 3: each array of a step at an index, as the formula of the model. -/
module

public import proofs.«01_k».proof.Proof.RefStep

@[expose] public section

noncomputable section

namespace Cert.Proof.Ref

open Cert.ReferenceIdeal Cert.ReferenceIdeal.Gen
open Idealize.ShloMosaic hiding ix0 ix1 ix2 ix3 ix4 eq_ix2
open Idealize.ShloMosaic.ValueIdx Idealize.SL.Sem Cert.Proof.M

variable (V : Valuation τ sig (Elt Ideal))

theorem v18_n_a_at (n : Fin 32768) (a : Fin 256) :
    v18 V (ix2 n a) = (BitVec.ofBool (m0 (gram V) (corr V n) a)) :=
  (congrFun (v18_eq V) _).trans ((broadcastInDim_apply _ _ _ _ ix0 (fun q => q.elim0)).trans (congrFun (c_eq V) _))

theorem v19_n_a_at (n : Fin 32768) (a : Fin 256) :
    v19 V (ix2 n a) = (~~~ (BitVec.ofBool (m0 (gram V) (corr V n) a))) :=
  (congrFun (v19_eq V) _).trans (noti_at (v18_n_a_at V n a))

theorem v20_n_a_at (n : Fin 32768) (a : Fin 256) :
    v20 V (ix2 n a) = (FloatOps.uitofp .f32 (~~~ (BitVec.ofBool (m0 (gram V) (corr V n) a)))) :=
  (congrFun (v20_eq V) _).trans (uitofp_at (v19_n_a_at V n a))

theorem v21_n_a_at (n : Fin 32768) (a : Fin 256) :
    v21 V (ix2 n a) = (((corr V n) a) * (FloatOps.uitofp .f32 (~~~ (BitVec.ofBool (m0 (gram V) (corr V n) a))))) :=
  (congrFun (v21_eq V) _).trans (mul_at rfl (v20_n_a_at V n a))

theorem v22_n_a_at (n : Fin 32768) (a : Fin 256) :
    v22 V (ix2 n a) = (score (corr V n) (m0 (gram V) (corr V n)) a) :=
  (congrFun (v22_eq V) _).trans (score_at (F := (corr V n)) (m := (m0 (gram V) (corr V n))) (a := a) (v21_n_a_at V n a))

theorem call0_v0_n_a_at (n : Fin 32768) (a : Fin 256) :
    call0_v0 V (ix2 n a) = (word a) :=
  (congrFun (call0_v0_eq V) _).trans (rfl)

theorem call0_cst_at :
    call0_cst V ix0 = (Ideal.ofBits .f32 0xFF800000#32) :=
  (congrFun (call0_cst_eq V) _).trans (rfl)

theorem call0_c_at :
    call0_c V ix0 = 0#32 :=
  (congrFun (call0_c_eq V) _).trans (rfl)

theorem v23_n_at (n : Fin 32768) :
    v23 V (ix1 n) = (word (i0 (gram V) (corr V n))) :=
  (congrFun (v23_eq V) _).trans ((argmax_at (fun n a => (call0_v0_n_a_at V n a)) (call0_cst_at V) (call0_c_at V) _ _ n).trans (congrArg (fun s => word (first s)) (funext fun a => (v22_n_a_at V n a))))

theorem v30_n_0_at (n : Fin 32768) :
    v30 V (ix2 n (0 : Fin 1)) = (word (i0 (gram V) (corr V n))) :=
  (congrFun (v30_eq V) _).trans ((broadcastInDim_apply _ _ _ _ (ix1 n) (fun q => match q with | ⟨0, _⟩ => rfl)).trans (v23_n_at V n))

theorem v84_n_0_at (n : Fin 32768) :
    v84 V (ix2 n (0 : Fin 2)) = (word (i0 (gram V) (corr V n))) :=
  (congrFun (v84_eq V) _).trans ((cat2_left (N := 32768) (p := 1) (q := 1) (r := 2) (x := v30 V) (y := v83 V) _ (n := n) (k := (0 : Fin 2)) (0 : Fin 1) rfl).trans (v30_n_0_at V n))

theorem v178_n_0_at (n : Fin 32768) :
    v178 V (ix2 n (0 : Fin 3)) = (word (i0 (gram V) (corr V n))) :=
  (congrFun (v178_eq V) _).trans ((cat2_left (N := 32768) (p := 2) (q := 1) (r := 3) (x := v84 V) (y := v177 V) _ (n := n) (k := (0 : Fin 3)) (0 : Fin 2) rfl).trans (v84_n_0_at V n))

theorem v314_n_0_at (n : Fin 32768) :
    v314 V (ix2 n (0 : Fin 4)) = (word (i0 (gram V) (corr V n))) :=
  (congrFun (v314_eq V) _).trans ((cat2_left (N := 32768) (p := 3) (q := 1) (r := 4) (x := v178 V) (y := v313 V) _ (n := n) (k := (0 : Fin 4)) (0 : Fin 3) rfl).trans (v178_n_0_at V n))

theorem c_23_at :
    c_23 V ix0 = 33#32 :=
  (congrFun (c_23_eq V) _).trans (rfl)

theorem v433_n_0_at (n : Fin 32768) :
    v433 V (ix2 n (0 : Fin 4)) = 33#32 :=
  (congrFun (v433_eq V) _).trans ((broadcastInDim_apply _ _ _ _ ix0 (fun q => q.elim0)).trans (c_23_at V))

theorem v434_n_0_at (n : Fin 32768) :
    v434 V (ix2 n (0 : Fin 4)) = (IntOp.muli (word (i0 (gram V) (corr V n))) 33#32) :=
  (congrFun (v434_eq V) _).trans (muli_at (v314_n_0_at V n) (v433_n_0_at V n))

theorem c_22_at :
    c_22 V ix0 = 32#32 :=
  (congrFun (c_22_eq V) _).trans (rfl)

theorem call7_v3_at :
    call7_v3 V ix0 = 32#32 :=
  (congrFun (call7_v3_eq V) _).trans ((c_22_at V))

theorem call7_v4_n_0_at (n : Fin 32768) :
    call7_v4 V (ix2 n (0 : Fin 4)) = 32#32 :=
  (congrFun (call7_v4_eq V) _).trans ((broadcastInDim_apply _ _ _ _ ix0 (fun q => q.elim0)).trans (call7_v3_at V))

theorem c_21_at :
    c_21 V ix0 = 0#32 :=
  (congrFun (c_21_eq V) _).trans (rfl)

theorem call7_v0_at :
    call7_v0 V ix0 = 0#32 :=
  (congrFun (call7_v0_eq V) _).trans ((c_21_at V))

theorem call7_v1_n_0_at (n : Fin 32768) :
    call7_v1 V (ix2 n (0 : Fin 4)) = 0#32 :=
  (congrFun (call7_v1_eq V) _).trans ((broadcastInDim_apply _ _ _ _ ix0 (fun q => q.elim0)).trans (call7_v0_at V))

theorem cst_17_at :
    cst_17 V ix0 = (Ideal.ofBits .f32 0x40000000#32) :=
  (congrFun (cst_17_eq V) _).trans (rfl)

theorem call5_v3_at :
    call5_v3 V ix0 = (Ideal.ofBits .f32 0x40000000#32) :=
  (congrFun (call5_v3_eq V) _).trans ((cst_17_at V))

theorem call5_v4_n_0_at (n : Fin 32768) :
    call5_v4 V (ix2 n (0 : Fin 4)) = (Ideal.ofBits .f32 0x40000000#32) :=
  (congrFun (call5_v4_eq V) _).trans ((broadcastInDim_apply _ _ _ _ ix0 (fun q => q.elim0)).trans (call5_v3_at V))

theorem cst_16_at :
    cst_16 V ix0 = (Ideal.ofBits .f32 0xC0000000#32) :=
  (congrFun (cst_16_eq V) _).trans (rfl)

theorem call5_v0_at :
    call5_v0 V ix0 = (Ideal.ofBits .f32 0xC0000000#32) :=
  (congrFun (call5_v0_eq V) _).trans ((cst_16_at V))

theorem call5_v1_n_0_at (n : Fin 32768) :
    call5_v1 V (ix2 n (0 : Fin 4)) = (Ideal.ofBits .f32 0xC0000000#32) :=
  (congrFun (call5_v1_eq V) _).trans ((broadcastInDim_apply _ _ _ _ ix0 (fun q => q.elim0)).trans (call5_v0_at V))

theorem v16_n_at (n : Fin 32768) :
    v16 V (ix1 n) = (BitVec.ofNat 32 n.val) :=
  (congrFun (v16_eq V) _).trans (rfl)

theorem v315_n_0_at (n : Fin 32768) :
    v315 V (ix2 n (0 : Fin 1)) = (BitVec.ofNat 32 n.val) :=
  (congrFun (v315_eq V) _).trans ((broadcastInDim_apply _ _ _ _ (ix1 n) (fun q => match q with | ⟨0, _⟩ => rfl)).trans (v16_n_at V n))

theorem v316_n_0_at (n : Fin 32768) :
    v316 V (ix2 n (0 : Fin 4)) = (BitVec.ofNat 32 n.val) :=
  (congrFun (v316_eq V) _).trans ((broadcastInDim_apply _ _ _ _ (ix2 n (0 : Fin 1)) (fun q => match q with | ⟨0, _⟩ => rfl | ⟨1, _⟩ => rfl)).trans (v315_n_0_at V n))

theorem v317_n_0_0_at (n : Fin 32768) :
    v317 V (ix3 n (0 : Fin 4) (0 : Fin 1)) = (BitVec.ofNat 32 n.val) :=
  (congrFun (v317_eq V) _).trans ((broadcastInDim_apply _ _ _ _ (ix2 n (0 : Fin 4)) (fun q => match q with | ⟨0, _⟩ => rfl | ⟨1, _⟩ => rfl)).trans (v316_n_0_at V n))

theorem v319_n_0_0_at (n : Fin 32768) :
    v319 V (ix3 n (0 : Fin 4) (0 : Fin 2)) = (BitVec.ofNat 32 n.val) :=
  (congrFun (v319_eq V) _).trans ((cat3_left (N := 32768) (p := 1) (q := 1) (r := 2) (m := 4) (x := v317 V) (y := v318 V) _ (n := n) (k := (0 : Fin 2)) (j := (0 : Fin 4)) (0 : Fin 1) rfl).trans (v317_n_0_0_at V n))

theorem v318_n_0_0_at (n : Fin 32768) :
    v318 V (ix3 n (0 : Fin 4) (0 : Fin 1)) = (word (i0 (gram V) (corr V n))) :=
  (congrFun (v318_eq V) _).trans ((broadcastInDim_apply _ _ _ _ (ix2 n (0 : Fin 4)) (fun q => match q with | ⟨0, _⟩ => rfl | ⟨1, _⟩ => rfl)).trans (v314_n_0_at V n))

theorem v319_n_0_1_at (n : Fin 32768) :
    v319 V (ix3 n (0 : Fin 4) (1 : Fin 2)) = (word (i0 (gram V) (corr V n))) :=
  (congrFun (v319_eq V) _).trans ((cat3_right (N := 32768) (p := 1) (q := 1) (r := 2) (m := 4) (x := v317 V) (y := v318 V) _ (n := n) (k := (1 : Fin 2)) (j := (0 : Fin 4)) (0 : Fin 1) rfl).trans (v318_n_0_0_at V n))

theorem v320_n_0_at (n : Fin 32768) :
    v320 V (ix2 n (0 : Fin 4)) = (y0 (gram V) (corr V n)) :=
  (congrFun (v320_eq V) _).trans (pairs_known _ _ _ (v319_n_0_0_at V n) (v319_n_0_1_at V n) (pick_pixel _) (pick_word _))

theorem v321_n_0_at (n : Fin 32768) :
    v321 V (ix2 n (0 : Fin 1)) = (y0 (gram V) (corr V n)) :=
  (congrFun (v321_eq V) _).trans ((extractStridedSlice_apply _ _ _ _ (ix2 n (0 : Fin 4)) (fun q => match q with | ⟨0, _⟩ => (Nat.zero_add _).symm | ⟨1, _⟩ => rfl)).trans (v320_n_0_at V n))

theorem v322_n_at (n : Fin 32768) :
    v322 V (ix1 n) = (y0 (gram V) (corr V n)) :=
  (congrFun (v322_eq V) _).trans ((cast_n1 _ _ _).trans (v321_n_0_at V n))

theorem cst_1_at :
    cst_1 V ix0 = 1 :=
  (congrFun (cst_1_eq V) _).trans (Ideal.ofBits_one_f32)

theorem v31_n_0_0_at (n : Fin 32768) :
    v31 V (ix3 n (0 : Fin 1) (0 : Fin 1)) = 1 :=
  (congrFun (v31_eq V) _).trans ((broadcastInDim_apply _ _ _ _ ix0 (fun q => q.elim0)).trans (cst_1_at V))

theorem v79_n_0_0_at (n : Fin 32768) :
    v79 V (ix3 n (0 : Fin 1) (0 : Fin 2)) = 1 :=
  (congrFun (v79_eq V) _).trans ((cat3_left (N := 32768) (p := 1) (q := 1) (r := 2) (m := 1) (x := v31 V) (y := v78 V) _ (n := n) (k := (0 : Fin 2)) (j := (0 : Fin 1)) (0 : Fin 1) rfl).trans (v31_n_0_0_at V n))

theorem v82_n_0_0_at (n : Fin 32768) :
    v82 V (ix3 n (0 : Fin 2) (0 : Fin 2)) = 1 :=
  (congrFun (v82_eq V) _).trans ((catMid_left (N := 32768) (p := 1) (q := 1) (r := 2) (m := 2) (x := v79 V) (y := v81 V) _ (n := n) (k := (0 : Fin 2)) (j := (0 : Fin 2)) (0 : Fin 1) rfl).trans (v79_n_0_0_at V n))

theorem v173_n_0_0_at (n : Fin 32768) :
    v173 V (ix3 n (0 : Fin 2) (0 : Fin 3)) = 1 :=
  (congrFun (v173_eq V) _).trans ((cat3_left (N := 32768) (p := 2) (q := 1) (r := 3) (m := 2) (x := v82 V) (y := v172 V) _ (n := n) (k := (0 : Fin 3)) (j := (0 : Fin 2)) (0 : Fin 2) rfl).trans (v82_n_0_0_at V n))

theorem v176_n_0_0_at (n : Fin 32768) :
    v176 V (ix3 n (0 : Fin 3) (0 : Fin 3)) = 1 :=
  (congrFun (v176_eq V) _).trans ((catMid_left (N := 32768) (p := 2) (q := 1) (r := 3) (m := 3) (x := v173 V) (y := v175 V) _ (n := n) (k := (0 : Fin 3)) (j := (0 : Fin 3)) (0 : Fin 2) rfl).trans (v173_n_0_0_at V n))

theorem v309_n_0_0_at (n : Fin 32768) :
    v309 V (ix3 n (0 : Fin 3) (0 : Fin 4)) = 1 :=
  (congrFun (v309_eq V) _).trans ((cat3_left (N := 32768) (p := 3) (q := 1) (r := 4) (m := 3) (x := v176 V) (y := v308 V) _ (n := n) (k := (0 : Fin 4)) (j := (0 : Fin 3)) (0 : Fin 3) rfl).trans (v176_n_0_0_at V n))

theorem v312_n_0_0_at (n : Fin 32768) :
    v312 V (ix3 n (0 : Fin 4) (0 : Fin 4)) = 1 :=
  (congrFun (v312_eq V) _).trans ((catMid_left (N := 32768) (p := 3) (q := 1) (r := 4) (m := 4) (x := v309 V) (y := v311 V) _ (n := n) (k := (0 : Fin 4)) (j := (0 : Fin 4)) (0 : Fin 3) rfl).trans (v309_n_0_0_at V n))

theorem v323_n_0_0_at (n : Fin 32768) :
    v323 V (ix3 n (0 : Fin 1) (0 : Fin 1)) = 1 :=
  (congrFun (v323_eq V) _).trans ((extractStridedSlice_apply _ _ _ _ (ix3 n (0 : Fin 4) (0 : Fin 4)) (fun q => match q with | ⟨0, _⟩ => (Nat.zero_add _).symm | ⟨1, _⟩ => rfl | ⟨2, _⟩ => rfl)).trans (v312_n_0_0_at V n))

theorem v324_n_at (n : Fin 32768) :
    v324 V (ix1 n) = 1 :=
  (congrFun (v324_eq V) _).trans ((cast_n11 _ _ _).trans (v323_n_0_0_at V n))

theorem v325_n_at (n : Fin 32768) :
    v325 V (ix1 n) = (y0 (gram V) (corr V n)) :=
  (congrFun (v325_eq V) _).trans (div_one_at (v322_n_at V n) (v324_n_at V n))

theorem v365_n_0_at (n : Fin 32768) :
    v365 V (ix2 n (0 : Fin 1)) = (y0 (gram V) (corr V n)) :=
  (congrFun (v365_eq V) _).trans ((broadcastInDim_apply _ _ _ _ (ix1 n) (fun q => match q with | ⟨0, _⟩ => rfl)).trans (v325_n_at V n))

theorem v369_n_0_at (n : Fin 32768) :
    v369 V (ix2 n (0 : Fin 4)) = (y0 (gram V) (corr V n)) :=
  (congrFun (v369_eq V) _).trans ((columns4_at _ (0 : Fin 4)).trans (v365_n_0_at V n))

theorem v398_n_0_at (n : Fin 32768) :
    v398 V (ix2 n (0 : Fin 1)) = (y0 (gram V) (corr V n)) :=
  (congrFun (v398_eq V) _).trans ((extractStridedSlice_apply _ _ _ _ (ix2 n (0 : Fin 4)) (fun q => match q with | ⟨0, _⟩ => (Nat.zero_add _).symm | ⟨1, _⟩ => rfl)).trans (v369_n_0_at V n))

theorem v399_n_at (n : Fin 32768) :
    v399 V (ix1 n) = (y0 (gram V) (corr V n)) :=
  (congrFun (v399_eq V) _).trans ((cast_n1 _ _ _).trans (v398_n_0_at V n))

theorem v62_n_0_0_at (n : Fin 32768) :
    v62 V (ix3 n (0 : Fin 1) (0 : Fin 1)) = (word (i0 (gram V) (corr V n))) :=
  (congrFun (v62_eq V) _).trans ((broadcastInDim_apply _ _ _ _ (ix2 n (0 : Fin 1)) (fun q => match q with | ⟨0, _⟩ => rfl | ⟨1, _⟩ => rfl)).trans (v30_n_0_at V n))

theorem v64_n_0_0_at (n : Fin 32768) :
    v64 V (ix3 n (0 : Fin 1) (0 : Fin 2)) = (word (i0 (gram V) (corr V n))) :=
  (congrFun (v64_eq V) _).trans ((cat3_left (N := 32768) (p := 1) (q := 1) (r := 2) (m := 1) (x := v62 V) (y := v63 V) _ (n := n) (k := (0 : Fin 2)) (j := (0 : Fin 1)) (0 : Fin 1) rfl).trans (v62_n_0_0_at V n))

theorem v32_n_0_at (n : Fin 32768) :
    v32 V (ix2 n (0 : Fin 1)) = (BitVec.ofNat 32 n.val) :=
  (congrFun (v32_eq V) _).trans ((broadcastInDim_apply _ _ _ _ (ix1 n) (fun q => match q with | ⟨0, _⟩ => rfl)).trans (v16_n_at V n))

theorem v33_n_0_0_at (n : Fin 32768) :
    v33 V (ix3 n (0 : Fin 1) (0 : Fin 1)) = (BitVec.ofNat 32 n.val) :=
  (congrFun (v33_eq V) _).trans ((broadcastInDim_apply _ _ _ _ (ix2 n (0 : Fin 1)) (fun q => match q with | ⟨0, _⟩ => rfl | ⟨1, _⟩ => rfl)).trans (v32_n_0_at V n))

theorem v35_n_0_0_at (n : Fin 32768) :
    v35 V (ix3 n (0 : Fin 1) (0 : Fin 2)) = (BitVec.ofNat 32 n.val) :=
  (congrFun (v35_eq V) _).trans ((cat3_left (N := 32768) (p := 1) (q := 1) (r := 2) (m := 1) (x := v33 V) (y := v34 V) _ (n := n) (k := (0 : Fin 2)) (j := (0 : Fin 1)) (0 : Fin 1) rfl).trans (v33_n_0_0_at V n))

theorem v34_n_0_0_at (n : Fin 32768) :
    v34 V (ix3 n (0 : Fin 1) (0 : Fin 1)) = (word (i0 (gram V) (corr V n))) :=
  (congrFun (v34_eq V) _).trans ((broadcastInDim_apply _ _ _ _ (ix2 n (0 : Fin 1)) (fun q => match q with | ⟨0, _⟩ => rfl | ⟨1, _⟩ => rfl)).trans (v30_n_0_at V n))

theorem v35_n_0_1_at (n : Fin 32768) :
    v35 V (ix3 n (0 : Fin 1) (1 : Fin 2)) = (word (i0 (gram V) (corr V n))) :=
  (congrFun (v35_eq V) _).trans ((cat3_right (N := 32768) (p := 1) (q := 1) (r := 2) (m := 1) (x := v33 V) (y := v34 V) _ (n := n) (k := (1 : Fin 2)) (j := (0 : Fin 1)) (0 : Fin 1) rfl).trans (v34_n_0_0_at V n))

theorem v36_n_0_at (n : Fin 32768) :
    v36 V (ix2 n (0 : Fin 1)) = (y0 (gram V) (corr V n)) :=
  (congrFun (v36_eq V) _).trans (pairs_known _ _ _ (v35_n_0_0_at V n) (v35_n_0_1_at V n) (pick_pixel _) (pick_word _))

theorem v37_n_at (n : Fin 32768) :
    v37 V (ix1 n) = (y0 (gram V) (corr V n)) :=
  (congrFun (v37_eq V) _).trans ((cast_n1 _ _ _).trans (v36_n_0_at V n))

theorem v38_n_at (n : Fin 32768) :
    v38 V (ix1 n) = 1 :=
  (congrFun (v38_eq V) _).trans ((cast_n11 _ _ _).trans (v31_n_0_0_at V n))

theorem v39_n_at (n : Fin 32768) :
    v39 V (ix1 n) = (y0 (gram V) (corr V n)) :=
  (congrFun (v39_eq V) _).trans (div_one_at (v37_n_at V n) (v38_n_at V n))

theorem v40_n_0_at (n : Fin 32768) :
    v40 V (ix2 n (0 : Fin 1)) = (y0 (gram V) (corr V n)) :=
  (congrFun (v40_eq V) _).trans ((broadcastInDim_apply _ _ _ _ (ix1 n) (fun q => match q with | ⟨0, _⟩ => rfl)).trans (v39_n_at V n))

theorem v42_n_at (n : Fin 32768) :
    v42 V (ix1 n) = (y0 (gram V) (corr V n)) :=
  (congrFun (v42_eq V) _).trans ((cast_n1 _ _ _).trans (v40_n_0_at V n))

theorem v41_n_0_0_at (n : Fin 32768) :
    v41 V (ix3 n (0 : Fin 1) (0 : Fin 1)) = 1 :=
  (congrFun (v41_eq V) _).trans ((transpose_apply _ _ _ _ (ix3 n (0 : Fin 1) (0 : Fin 1)) (fun q => match q with | ⟨0, _⟩ => rfl | ⟨1, _⟩ => rfl | ⟨2, _⟩ => rfl)).trans (v31_n_0_0_at V n))

theorem v43_n_at (n : Fin 32768) :
    v43 V (ix1 n) = 1 :=
  (congrFun (v43_eq V) _).trans ((cast_n11 _ _ _).trans (v41_n_0_0_at V n))

theorem v44_n_at (n : Fin 32768) :
    v44 V (ix1 n) = (y0 (gram V) (corr V n)) :=
  (congrFun (v44_eq V) _).trans (div_one_at (v42_n_at V n) (v43_n_at V n))

theorem v45_n_0_at (n : Fin 32768) :
    v45 V (ix2 n (0 : Fin 1)) = (y0 (gram V) (corr V n)) :=
  (congrFun (v45_eq V) _).trans ((broadcastInDim_apply _ _ _ _ (ix1 n) (fun q => match q with | ⟨0, _⟩ => rfl)).trans (v44_n_at V n))

theorem v46_n_0_0_at (n : Fin 32768) :
    v46 V (ix3 n (0 : Fin 1) (0 : Fin 1)) = (word (i0 (gram V) (corr V n))) :=
  (congrFun (v46_eq V) _).trans ((broadcastInDim_apply _ _ _ _ (ix2 n (0 : Fin 1)) (fun q => match q with | ⟨0, _⟩ => rfl | ⟨1, _⟩ => rfl)).trans (v30_n_0_at V n))

theorem v47_n_0_a_at (n : Fin 32768) (a : Fin 256) :
    v47 V (ix3 n (0 : Fin 1) a) = ((gram V) (i0 (gram V) (corr V n)) a) :=
  (congrFun (v47_eq V) _).trans (rows_known _ _ _ (v46_n_0_0_at V n) (pick_word _))

theorem v48_n_a_at (n : Fin 32768) (a : Fin 256) :
    v48 V (ix2 n a) = ((y0 (gram V) (corr V n)) * ((gram V) (i0 (gram V) (corr V n)) a)) :=
  (congrFun (v48_eq V) _).trans (rowDot1_at _ (v45_n_0_at V n) (v47_n_0_a_at V n a))

theorem v49_n_a_at (n : Fin 32768) (a : Fin 256) :
    v49 V (ix2 n a) = (h1 (gram V) (corr V n) a) :=
  (congrFun (v49_eq V) _).trans (sub_at rfl (v48_n_a_at V n a))

theorem v17_a_at (a : Fin 256) :
    v17 V (ix1 a) = (word a) :=
  (congrFun (v17_eq V) _).trans (rfl)

theorem v24_0_a_at (a : Fin 256) :
    v24 V (ix2 (0 : Fin 1) a) = (word a) :=
  (congrFun (v24_eq V) _).trans ((broadcastInDim_apply _ _ _ _ (ix1 a) (fun q => match q with | ⟨0, _⟩ => rfl)).trans (v17_a_at V a))

theorem v26_n_a_at (n : Fin 32768) (a : Fin 256) :
    v26 V (ix2 n a) = (word a) :=
  (congrFun (v26_eq V) _).trans ((broadcastInDim_apply _ _ _ _ (ix2 (0 : Fin 1) a) (fun q => match q with | ⟨0, _⟩ => rfl | ⟨1, _⟩ => rfl)).trans (v24_0_a_at V a))

theorem v25_n_0_at (n : Fin 32768) :
    v25 V (ix2 n (0 : Fin 1)) = (word (i0 (gram V) (corr V n))) :=
  (congrFun (v25_eq V) _).trans ((broadcastInDim_apply _ _ _ _ (ix1 n) (fun q => match q with | ⟨0, _⟩ => rfl)).trans (v23_n_at V n))

theorem v27_n_a_at (n : Fin 32768) (a : Fin 256) :
    v27 V (ix2 n a) = (word (i0 (gram V) (corr V n))) :=
  (congrFun (v27_eq V) _).trans ((broadcastInDim_apply _ _ _ _ (ix2 n (0 : Fin 1)) (fun q => match q with | ⟨0, _⟩ => rfl | ⟨1, _⟩ => rfl)).trans (v25_n_0_at V n))

theorem v28_n_a_at (n : Fin 32768) (a : Fin 256) :
    v28 V (ix2 n a) = (IntOp.cmpi .eq (word a) (word (i0 (gram V) (corr V n)))) :=
  (congrFun (v28_eq V) _).trans (cmpi_at (v26_n_a_at V n a) (v27_n_a_at V n a))

theorem v29_n_a_at (n : Fin 32768) (a : Fin 256) :
    v29 V (ix2 n a) = (BitVec.ofBool (m1 (gram V) (corr V n) a)) :=
  (congrFun (v29_eq V) _).trans (taken_at (v18_n_a_at V n a) (v28_n_a_at V n a))

theorem v50_n_a_at (n : Fin 32768) (a : Fin 256) :
    v50 V (ix2 n a) = (~~~ (BitVec.ofBool (m1 (gram V) (corr V n) a))) :=
  (congrFun (v50_eq V) _).trans (noti_at (v29_n_a_at V n a))

theorem v51_n_a_at (n : Fin 32768) (a : Fin 256) :
    v51 V (ix2 n a) = (FloatOps.uitofp .f32 (~~~ (BitVec.ofBool (m1 (gram V) (corr V n) a)))) :=
  (congrFun (v51_eq V) _).trans (uitofp_at (v50_n_a_at V n a))

theorem v52_n_a_at (n : Fin 32768) (a : Fin 256) :
    v52 V (ix2 n a) = ((h1 (gram V) (corr V n) a) * (FloatOps.uitofp .f32 (~~~ (BitVec.ofBool (m1 (gram V) (corr V n) a))))) :=
  (congrFun (v52_eq V) _).trans (mul_at (v49_n_a_at V n a) (v51_n_a_at V n a))

theorem v53_n_a_at (n : Fin 32768) (a : Fin 256) :
    v53 V (ix2 n a) = (score (h1 (gram V) (corr V n)) (m1 (gram V) (corr V n)) a) :=
  (congrFun (v53_eq V) _).trans (score_at (F := (h1 (gram V) (corr V n))) (m := (m1 (gram V) (corr V n))) (a := a) (v52_n_a_at V n a))

theorem call1_v0_n_a_at (n : Fin 32768) (a : Fin 256) :
    call1_v0 V (ix2 n a) = (word a) :=
  (congrFun (call1_v0_eq V) _).trans (rfl)

theorem call1_cst_at :
    call1_cst V ix0 = (Ideal.ofBits .f32 0xFF800000#32) :=
  (congrFun (call1_cst_eq V) _).trans (rfl)

theorem call1_c_at :
    call1_c V ix0 = 0#32 :=
  (congrFun (call1_c_eq V) _).trans (rfl)

theorem v54_n_at (n : Fin 32768) :
    v54 V (ix1 n) = (word (i1 (gram V) (corr V n))) :=
  (congrFun (v54_eq V) _).trans ((argmax_at (fun n a => (call1_v0_n_a_at V n a)) (call1_cst_at V) (call1_c_at V) _ _ n).trans (congrArg (fun s => word (first s)) (funext fun a => (v53_n_a_at V n a))))

theorem v61_n_0_at (n : Fin 32768) :
    v61 V (ix2 n (0 : Fin 1)) = (word (i1 (gram V) (corr V n))) :=
  (congrFun (v61_eq V) _).trans ((broadcastInDim_apply _ _ _ _ (ix1 n) (fun q => match q with | ⟨0, _⟩ => rfl)).trans (v54_n_at V n))

theorem v63_n_0_0_at (n : Fin 32768) :
    v63 V (ix3 n (0 : Fin 1) (0 : Fin 1)) = (word (i1 (gram V) (corr V n))) :=
  (congrFun (v63_eq V) _).trans ((broadcastInDim_apply _ _ _ _ (ix2 n (0 : Fin 1)) (fun q => match q with | ⟨0, _⟩ => rfl | ⟨1, _⟩ => rfl)).trans (v61_n_0_at V n))

theorem v64_n_0_1_at (n : Fin 32768) :
    v64 V (ix3 n (0 : Fin 1) (1 : Fin 2)) = (word (i1 (gram V) (corr V n))) :=
  (congrFun (v64_eq V) _).trans ((cat3_right (N := 32768) (p := 1) (q := 1) (r := 2) (m := 1) (x := v62 V) (y := v63 V) _ (n := n) (k := (1 : Fin 2)) (j := (0 : Fin 1)) (0 : Fin 1) rfl).trans (v63_n_0_0_at V n))

theorem v65_n_0_at (n : Fin 32768) :
    v65 V (ix2 n (0 : Fin 1)) = (w10 (gram V) (corr V n)) :=
  (congrFun (v65_eq V) _).trans (pairs_known _ _ _ (v64_n_0_0_at V n) (v64_n_0_1_at V n) (pick_word _) (pick_word _))

theorem v66_n_at (n : Fin 32768) :
    v66 V (ix1 n) = (w10 (gram V) (corr V n)) :=
  (congrFun (v66_eq V) _).trans ((cast_n1 _ _ _).trans (v65_n_0_at V n))

theorem v67_n_at (n : Fin 32768) :
    v67 V (ix1 n) = 1 :=
  (congrFun (v67_eq V) _).trans ((cast_n11 _ _ _).trans (v31_n_0_0_at V n))

theorem v68_n_at (n : Fin 32768) :
    v68 V (ix1 n) = (w10 (gram V) (corr V n)) :=
  (congrFun (v68_eq V) _).trans (div_one_at (v66_n_at V n) (v67_n_at V n))

theorem v69_n_0_at (n : Fin 32768) :
    v69 V (ix2 n (0 : Fin 1)) = (w10 (gram V) (corr V n)) :=
  (congrFun (v69_eq V) _).trans ((broadcastInDim_apply _ _ _ _ (ix1 n) (fun q => match q with | ⟨0, _⟩ => rfl)).trans (v68_n_at V n))

theorem v80_n_0_at (n : Fin 32768) :
    v80 V (ix2 n (0 : Fin 2)) = (w10 (gram V) (corr V n)) :=
  (congrFun (v80_eq V) _).trans ((cat2_left (N := 32768) (p := 1) (q := 1) (r := 2) (x := v69 V) (y := v77 V) _ (n := n) (k := (0 : Fin 2)) (0 : Fin 1) rfl).trans (v69_n_0_at V n))

theorem v81_n_0_0_at (n : Fin 32768) :
    v81 V (ix3 n (0 : Fin 1) (0 : Fin 2)) = (w10 (gram V) (corr V n)) :=
  (congrFun (v81_eq V) _).trans ((broadcastInDim_apply _ _ _ _ (ix2 n (0 : Fin 2)) (fun q => match q with | ⟨0, _⟩ => rfl | ⟨1, _⟩ => rfl)).trans (v80_n_0_at V n))

theorem v82_n_1_0_at (n : Fin 32768) :
    v82 V (ix3 n (1 : Fin 2) (0 : Fin 2)) = (w10 (gram V) (corr V n)) :=
  (congrFun (v82_eq V) _).trans ((catMid_right (N := 32768) (p := 1) (q := 1) (r := 2) (m := 2) (x := v79 V) (y := v81 V) _ (n := n) (k := (1 : Fin 2)) (j := (0 : Fin 2)) (0 : Fin 1) rfl).trans (v81_n_0_0_at V n))

theorem v173_n_1_0_at (n : Fin 32768) :
    v173 V (ix3 n (1 : Fin 2) (0 : Fin 3)) = (w10 (gram V) (corr V n)) :=
  (congrFun (v173_eq V) _).trans ((cat3_left (N := 32768) (p := 2) (q := 1) (r := 3) (m := 2) (x := v82 V) (y := v172 V) _ (n := n) (k := (0 : Fin 3)) (j := (1 : Fin 2)) (0 : Fin 2) rfl).trans (v82_n_1_0_at V n))

theorem v176_n_1_0_at (n : Fin 32768) :
    v176 V (ix3 n (1 : Fin 3) (0 : Fin 3)) = (w10 (gram V) (corr V n)) :=
  (congrFun (v176_eq V) _).trans ((catMid_left (N := 32768) (p := 2) (q := 1) (r := 3) (m := 3) (x := v173 V) (y := v175 V) _ (n := n) (k := (1 : Fin 3)) (j := (0 : Fin 3)) (1 : Fin 2) rfl).trans (v173_n_1_0_at V n))

theorem v309_n_1_0_at (n : Fin 32768) :
    v309 V (ix3 n (1 : Fin 3) (0 : Fin 4)) = (w10 (gram V) (corr V n)) :=
  (congrFun (v309_eq V) _).trans ((cat3_left (N := 32768) (p := 3) (q := 1) (r := 4) (m := 3) (x := v176 V) (y := v308 V) _ (n := n) (k := (0 : Fin 4)) (j := (1 : Fin 3)) (0 : Fin 3) rfl).trans (v176_n_1_0_at V n))

theorem v312_n_1_0_at (n : Fin 32768) :
    v312 V (ix3 n (1 : Fin 4) (0 : Fin 4)) = (w10 (gram V) (corr V n)) :=
  (congrFun (v312_eq V) _).trans ((catMid_left (N := 32768) (p := 3) (q := 1) (r := 4) (m := 4) (x := v309 V) (y := v311 V) _ (n := n) (k := (1 : Fin 4)) (j := (0 : Fin 4)) (1 : Fin 3) rfl).trans (v309_n_1_0_at V n))

theorem v370_n_0_1_at (n : Fin 32768) :
    v370 V (ix3 n (0 : Fin 4) (1 : Fin 4)) = (w10 (gram V) (corr V n)) :=
  (congrFun (v370_eq V) _).trans ((transpose_apply _ _ _ _ (ix3 n (1 : Fin 4) (0 : Fin 4)) (fun q => match q with | ⟨0, _⟩ => rfl | ⟨1, _⟩ => rfl | ⟨2, _⟩ => rfl)).trans (v312_n_1_0_at V n))

theorem v400_n_0_0_at (n : Fin 32768) :
    v400 V (ix3 n (0 : Fin 1) (0 : Fin 1)) = (w10 (gram V) (corr V n)) :=
  (congrFun (v400_eq V) _).trans ((extractStridedSlice_apply _ _ _ _ (ix3 n (0 : Fin 4) (1 : Fin 4)) (fun q => match q with | ⟨0, _⟩ => (Nat.zero_add _).symm | ⟨1, _⟩ => rfl | ⟨2, _⟩ => rfl)).trans (v370_n_0_1_at V n))

theorem v401_n_at (n : Fin 32768) :
    v401 V (ix1 n) = (w10 (gram V) (corr V n)) :=
  (congrFun (v401_eq V) _).trans ((cast_n11 _ _ _).trans (v400_n_0_0_at V n))

theorem v316_n_1_at (n : Fin 32768) :
    v316 V (ix2 n (1 : Fin 4)) = (BitVec.ofNat 32 n.val) :=
  (congrFun (v316_eq V) _).trans ((broadcastInDim_apply _ _ _ _ (ix2 n (0 : Fin 1)) (fun q => match q with | ⟨0, _⟩ => rfl | ⟨1, _⟩ => rfl)).trans (v315_n_0_at V n))

theorem v317_n_1_0_at (n : Fin 32768) :
    v317 V (ix3 n (1 : Fin 4) (0 : Fin 1)) = (BitVec.ofNat 32 n.val) :=
  (congrFun (v317_eq V) _).trans ((broadcastInDim_apply _ _ _ _ (ix2 n (1 : Fin 4)) (fun q => match q with | ⟨0, _⟩ => rfl | ⟨1, _⟩ => rfl)).trans (v316_n_1_at V n))

theorem v319_n_1_0_at (n : Fin 32768) :
    v319 V (ix3 n (1 : Fin 4) (0 : Fin 2)) = (BitVec.ofNat 32 n.val) :=
  (congrFun (v319_eq V) _).trans ((cat3_left (N := 32768) (p := 1) (q := 1) (r := 2) (m := 4) (x := v317 V) (y := v318 V) _ (n := n) (k := (0 : Fin 2)) (j := (1 : Fin 4)) (0 : Fin 1) rfl).trans (v317_n_1_0_at V n))

theorem v83_n_0_at (n : Fin 32768) :
    v83 V (ix2 n (0 : Fin 1)) = (word (i1 (gram V) (corr V n))) :=
  (congrFun (v83_eq V) _).trans ((broadcastInDim_apply _ _ _ _ (ix1 n) (fun q => match q with | ⟨0, _⟩ => rfl)).trans (v54_n_at V n))

theorem v84_n_1_at (n : Fin 32768) :
    v84 V (ix2 n (1 : Fin 2)) = (word (i1 (gram V) (corr V n))) :=
  (congrFun (v84_eq V) _).trans ((cat2_right (N := 32768) (p := 1) (q := 1) (r := 2) (x := v30 V) (y := v83 V) _ (n := n) (k := (1 : Fin 2)) (0 : Fin 1) rfl).trans (v83_n_0_at V n))

theorem v178_n_1_at (n : Fin 32768) :
    v178 V (ix2 n (1 : Fin 3)) = (word (i1 (gram V) (corr V n))) :=
  (congrFun (v178_eq V) _).trans ((cat2_left (N := 32768) (p := 2) (q := 1) (r := 3) (x := v84 V) (y := v177 V) _ (n := n) (k := (1 : Fin 3)) (1 : Fin 2) rfl).trans (v84_n_1_at V n))

theorem v314_n_1_at (n : Fin 32768) :
    v314 V (ix2 n (1 : Fin 4)) = (word (i1 (gram V) (corr V n))) :=
  (congrFun (v314_eq V) _).trans ((cat2_left (N := 32768) (p := 3) (q := 1) (r := 4) (x := v178 V) (y := v313 V) _ (n := n) (k := (1 : Fin 4)) (1 : Fin 3) rfl).trans (v178_n_1_at V n))

theorem v318_n_1_0_at (n : Fin 32768) :
    v318 V (ix3 n (1 : Fin 4) (0 : Fin 1)) = (word (i1 (gram V) (corr V n))) :=
  (congrFun (v318_eq V) _).trans ((broadcastInDim_apply _ _ _ _ (ix2 n (1 : Fin 4)) (fun q => match q with | ⟨0, _⟩ => rfl | ⟨1, _⟩ => rfl)).trans (v314_n_1_at V n))

theorem v319_n_1_1_at (n : Fin 32768) :
    v319 V (ix3 n (1 : Fin 4) (1 : Fin 2)) = (word (i1 (gram V) (corr V n))) :=
  (congrFun (v319_eq V) _).trans ((cat3_right (N := 32768) (p := 1) (q := 1) (r := 2) (m := 4) (x := v317 V) (y := v318 V) _ (n := n) (k := (1 : Fin 2)) (j := (1 : Fin 4)) (0 : Fin 1) rfl).trans (v318_n_1_0_at V n))

theorem v320_n_1_at (n : Fin 32768) :
    v320 V (ix2 n (1 : Fin 4)) = ((corr V n) (i1 (gram V) (corr V n))) :=
  (congrFun (v320_eq V) _).trans (pairs_known _ _ _ (v319_n_1_0_at V n) (v319_n_1_1_at V n) (pick_pixel _) (pick_word _))

theorem v326_n_0_at (n : Fin 32768) :
    v326 V (ix2 n (0 : Fin 1)) = ((corr V n) (i1 (gram V) (corr V n))) :=
  (congrFun (v326_eq V) _).trans ((extractStridedSlice_apply _ _ _ _ (ix2 n (1 : Fin 4)) (fun q => match q with | ⟨0, _⟩ => (Nat.zero_add _).symm | ⟨1, _⟩ => rfl)).trans (v320_n_1_at V n))

theorem v327_n_at (n : Fin 32768) :
    v327 V (ix1 n) = ((corr V n) (i1 (gram V) (corr V n))) :=
  (congrFun (v327_eq V) _).trans ((cast_n1 _ _ _).trans (v326_n_0_at V n))

theorem v328_n_0_0_at (n : Fin 32768) :
    v328 V (ix3 n (0 : Fin 1) (0 : Fin 1)) = (w10 (gram V) (corr V n)) :=
  (congrFun (v328_eq V) _).trans ((extractStridedSlice_apply _ _ _ _ (ix3 n (1 : Fin 4) (0 : Fin 4)) (fun q => match q with | ⟨0, _⟩ => (Nat.zero_add _).symm | ⟨1, _⟩ => rfl | ⟨2, _⟩ => rfl)).trans (v312_n_1_0_at V n))

theorem v329_n_at (n : Fin 32768) :
    v329 V (ix1 n) = (w10 (gram V) (corr V n)) :=
  (congrFun (v329_eq V) _).trans ((cast_n11 _ _ _).trans (v328_n_0_0_at V n))

theorem v330_n_at (n : Fin 32768) :
    v330 V (ix1 n) = ((w10 (gram V) (corr V n)) * (y0 (gram V) (corr V n))) :=
  (congrFun (v330_eq V) _).trans (mul_at (v329_n_at V n) (v325_n_at V n))

theorem v331_n_at (n : Fin 32768) :
    v331 V (ix1 n) = (((corr V n) (i1 (gram V) (corr V n))) - ((w10 (gram V) (corr V n)) * (y0 (gram V) (corr V n)))) :=
  (congrFun (v331_eq V) _).trans (sub_at (v327_n_at V n) (v330_n_at V n))

theorem cst_3_at :
    cst_3 V ix0 = 1 :=
  (congrFun (cst_3_eq V) _).trans (Ideal.ofBits_one_f32)

theorem v73_n_0_at (n : Fin 32768) :
    v73 V (ix2 n (0 : Fin 1)) = 1 :=
  (congrFun (v73_eq V) _).trans ((broadcastInDim_apply _ _ _ _ ix0 (fun q => q.elim0)).trans (cst_3_at V))

theorem cst_2_at :
    cst_2 V ix0 = 0 :=
  (congrFun (cst_2_eq V) _).trans (Ideal.ofBits_zero_f32)

theorem v70_n_0_at (n : Fin 32768) :
    v70 V (ix2 n (0 : Fin 1)) = ((w10 (gram V) (corr V n)) * (w10 (gram V) (corr V n))) :=
  (congrFun (v70_eq V) _).trans (mul_at (v69_n_0_at V n) (v69_n_0_at V n))

theorem v71_n_at (n : Fin 32768) :
    v71 V (ix1 n) = ((w10 (gram V) (corr V n)) * (w10 (gram V) (corr V n))) :=
  (congrFun (v71_eq V) _).trans (rowSum1_at (cst_2_at V) _ (v70_n_0_at V n))

theorem v72_n_0_at (n : Fin 32768) :
    v72 V (ix2 n (0 : Fin 1)) = ((w10 (gram V) (corr V n)) * (w10 (gram V) (corr V n))) :=
  (congrFun (v72_eq V) _).trans ((broadcastInDim_apply _ _ _ _ (ix1 n) (fun q => match q with | ⟨0, _⟩ => rfl)).trans (v71_n_at V n))

theorem v74_n_0_at (n : Fin 32768) :
    v74 V (ix2 n (0 : Fin 1)) = (1 - ((w10 (gram V) (corr V n)) * (w10 (gram V) (corr V n)))) :=
  (congrFun (v74_eq V) _).trans (sub_at (v73_n_0_at V n) (v72_n_0_at V n))

theorem cst_4_at :
    cst_4 V ix0 = (Ideal.ofBits .f32 0x2B8CBCCC#32) :=
  (congrFun (cst_4_eq V) _).trans (rfl)

theorem v75_n_0_at (n : Fin 32768) :
    v75 V (ix2 n (0 : Fin 1)) = (Ideal.ofBits .f32 0x2B8CBCCC#32) :=
  (congrFun (v75_eq V) _).trans ((broadcastInDim_apply _ _ _ _ ix0 (fun q => q.elim0)).trans (cst_4_at V))

theorem v76_n_0_at (n : Fin 32768) :
    v76 V (ix2 n (0 : Fin 1)) = (max (1 - ((w10 (gram V) (corr V n)) * (w10 (gram V) (corr V n)))) (Ideal.ofBits .f32 0x2B8CBCCC#32)) :=
  (congrFun (v76_eq V) _).trans (max_at (v74_n_0_at V n) (v75_n_0_at V n))

theorem v77_n_0_at (n : Fin 32768) :
    v77 V (ix2 n (0 : Fin 1)) = (l1 (gram V) (corr V n)) :=
  (congrFun (v77_eq V) _).trans (sqrt_at (v76_n_0_at V n))

theorem v80_n_1_at (n : Fin 32768) :
    v80 V (ix2 n (1 : Fin 2)) = (l1 (gram V) (corr V n)) :=
  (congrFun (v80_eq V) _).trans ((cat2_right (N := 32768) (p := 1) (q := 1) (r := 2) (x := v69 V) (y := v77 V) _ (n := n) (k := (1 : Fin 2)) (0 : Fin 1) rfl).trans (v77_n_0_at V n))

theorem v81_n_0_1_at (n : Fin 32768) :
    v81 V (ix3 n (0 : Fin 1) (1 : Fin 2)) = (l1 (gram V) (corr V n)) :=
  (congrFun (v81_eq V) _).trans ((broadcastInDim_apply _ _ _ _ (ix2 n (1 : Fin 2)) (fun q => match q with | ⟨0, _⟩ => rfl | ⟨1, _⟩ => rfl)).trans (v80_n_1_at V n))

theorem v82_n_1_1_at (n : Fin 32768) :
    v82 V (ix3 n (1 : Fin 2) (1 : Fin 2)) = (l1 (gram V) (corr V n)) :=
  (congrFun (v82_eq V) _).trans ((catMid_right (N := 32768) (p := 1) (q := 1) (r := 2) (m := 2) (x := v79 V) (y := v81 V) _ (n := n) (k := (1 : Fin 2)) (j := (1 : Fin 2)) (0 : Fin 1) rfl).trans (v81_n_0_1_at V n))

theorem v173_n_1_1_at (n : Fin 32768) :
    v173 V (ix3 n (1 : Fin 2) (1 : Fin 3)) = (l1 (gram V) (corr V n)) :=
  (congrFun (v173_eq V) _).trans ((cat3_left (N := 32768) (p := 2) (q := 1) (r := 3) (m := 2) (x := v82 V) (y := v172 V) _ (n := n) (k := (1 : Fin 3)) (j := (1 : Fin 2)) (1 : Fin 2) rfl).trans (v82_n_1_1_at V n))

theorem v176_n_1_1_at (n : Fin 32768) :
    v176 V (ix3 n (1 : Fin 3) (1 : Fin 3)) = (l1 (gram V) (corr V n)) :=
  (congrFun (v176_eq V) _).trans ((catMid_left (N := 32768) (p := 2) (q := 1) (r := 3) (m := 3) (x := v173 V) (y := v175 V) _ (n := n) (k := (1 : Fin 3)) (j := (1 : Fin 3)) (1 : Fin 2) rfl).trans (v173_n_1_1_at V n))

theorem v309_n_1_1_at (n : Fin 32768) :
    v309 V (ix3 n (1 : Fin 3) (1 : Fin 4)) = (l1 (gram V) (corr V n)) :=
  (congrFun (v309_eq V) _).trans ((cat3_left (N := 32768) (p := 3) (q := 1) (r := 4) (m := 3) (x := v176 V) (y := v308 V) _ (n := n) (k := (1 : Fin 4)) (j := (1 : Fin 3)) (1 : Fin 3) rfl).trans (v176_n_1_1_at V n))

theorem v312_n_1_1_at (n : Fin 32768) :
    v312 V (ix3 n (1 : Fin 4) (1 : Fin 4)) = (l1 (gram V) (corr V n)) :=
  (congrFun (v312_eq V) _).trans ((catMid_left (N := 32768) (p := 3) (q := 1) (r := 4) (m := 4) (x := v309 V) (y := v311 V) _ (n := n) (k := (1 : Fin 4)) (j := (1 : Fin 4)) (1 : Fin 3) rfl).trans (v309_n_1_1_at V n))

theorem v332_n_0_0_at (n : Fin 32768) :
    v332 V (ix3 n (0 : Fin 1) (0 : Fin 1)) = (l1 (gram V) (corr V n)) :=
  (congrFun (v332_eq V) _).trans ((extractStridedSlice_apply _ _ _ _ (ix3 n (1 : Fin 4) (1 : Fin 4)) (fun q => match q with | ⟨0, _⟩ => (Nat.zero_add _).symm | ⟨1, _⟩ => rfl | ⟨2, _⟩ => rfl)).trans (v312_n_1_1_at V n))

theorem v333_n_at (n : Fin 32768) :
    v333 V (ix1 n) = (l1 (gram V) (corr V n)) :=
  (congrFun (v333_eq V) _).trans ((cast_n11 _ _ _).trans (v332_n_0_0_at V n))

theorem v334_n_at (n : Fin 32768) :
    v334 V (ix1 n) = (y1 (gram V) (corr V n)) :=
  (congrFun (v334_eq V) _).trans (div_at (v331_n_at V n) (v333_n_at V n))

theorem v366_n_0_at (n : Fin 32768) :
    v366 V (ix2 n (0 : Fin 1)) = (y1 (gram V) (corr V n)) :=
  (congrFun (v366_eq V) _).trans ((broadcastInDim_apply _ _ _ _ (ix1 n) (fun q => match q with | ⟨0, _⟩ => rfl)).trans (v334_n_at V n))

theorem v369_n_1_at (n : Fin 32768) :
    v369 V (ix2 n (1 : Fin 4)) = (y1 (gram V) (corr V n)) :=
  (congrFun (v369_eq V) _).trans ((columns4_at _ (1 : Fin 4)).trans (v366_n_0_at V n))

theorem v385_n_0_at (n : Fin 32768) :
    v385 V (ix2 n (0 : Fin 1)) = (y1 (gram V) (corr V n)) :=
  (congrFun (v385_eq V) _).trans ((extractStridedSlice_apply _ _ _ _ (ix2 n (1 : Fin 4)) (fun q => match q with | ⟨0, _⟩ => (Nat.zero_add _).symm | ⟨1, _⟩ => rfl)).trans (v369_n_1_at V n))

theorem v386_n_at (n : Fin 32768) :
    v386 V (ix1 n) = (y1 (gram V) (corr V n)) :=
  (congrFun (v386_eq V) _).trans ((cast_n1 _ _ _).trans (v385_n_0_at V n))

theorem v143_n_1_0_at (n : Fin 32768) :
    v143 V (ix3 n (1 : Fin 2) (0 : Fin 1)) = (word (i1 (gram V) (corr V n))) :=
  (congrFun (v143_eq V) _).trans ((broadcastInDim_apply _ _ _ _ (ix2 n (1 : Fin 2)) (fun q => match q with | ⟨0, _⟩ => rfl | ⟨1, _⟩ => rfl)).trans (v84_n_1_at V n))

theorem v145_n_1_0_at (n : Fin 32768) :
    v145 V (ix3 n (1 : Fin 2) (0 : Fin 2)) = (word (i1 (gram V) (corr V n))) :=
  (congrFun (v145_eq V) _).trans ((cat3_left (N := 32768) (p := 1) (q := 1) (r := 2) (m := 2) (x := v143 V) (y := v144 V) _ (n := n) (k := (0 : Fin 2)) (j := (1 : Fin 2)) (0 : Fin 1) rfl).trans (v143_n_1_0_at V n))

theorem v85_n_0_at (n : Fin 32768) :
    v85 V (ix2 n (0 : Fin 1)) = (BitVec.ofNat 32 n.val) :=
  (congrFun (v85_eq V) _).trans ((broadcastInDim_apply _ _ _ _ (ix1 n) (fun q => match q with | ⟨0, _⟩ => rfl)).trans (v16_n_at V n))

theorem v86_n_0_at (n : Fin 32768) :
    v86 V (ix2 n (0 : Fin 2)) = (BitVec.ofNat 32 n.val) :=
  (congrFun (v86_eq V) _).trans ((broadcastInDim_apply _ _ _ _ (ix2 n (0 : Fin 1)) (fun q => match q with | ⟨0, _⟩ => rfl | ⟨1, _⟩ => rfl)).trans (v85_n_0_at V n))

theorem v87_n_0_0_at (n : Fin 32768) :
    v87 V (ix3 n (0 : Fin 2) (0 : Fin 1)) = (BitVec.ofNat 32 n.val) :=
  (congrFun (v87_eq V) _).trans ((broadcastInDim_apply _ _ _ _ (ix2 n (0 : Fin 2)) (fun q => match q with | ⟨0, _⟩ => rfl | ⟨1, _⟩ => rfl)).trans (v86_n_0_at V n))

theorem v89_n_0_0_at (n : Fin 32768) :
    v89 V (ix3 n (0 : Fin 2) (0 : Fin 2)) = (BitVec.ofNat 32 n.val) :=
  (congrFun (v89_eq V) _).trans ((cat3_left (N := 32768) (p := 1) (q := 1) (r := 2) (m := 2) (x := v87 V) (y := v88 V) _ (n := n) (k := (0 : Fin 2)) (j := (0 : Fin 2)) (0 : Fin 1) rfl).trans (v87_n_0_0_at V n))

theorem v88_n_0_0_at (n : Fin 32768) :
    v88 V (ix3 n (0 : Fin 2) (0 : Fin 1)) = (word (i0 (gram V) (corr V n))) :=
  (congrFun (v88_eq V) _).trans ((broadcastInDim_apply _ _ _ _ (ix2 n (0 : Fin 2)) (fun q => match q with | ⟨0, _⟩ => rfl | ⟨1, _⟩ => rfl)).trans (v84_n_0_at V n))

theorem v89_n_0_1_at (n : Fin 32768) :
    v89 V (ix3 n (0 : Fin 2) (1 : Fin 2)) = (word (i0 (gram V) (corr V n))) :=
  (congrFun (v89_eq V) _).trans ((cat3_right (N := 32768) (p := 1) (q := 1) (r := 2) (m := 2) (x := v87 V) (y := v88 V) _ (n := n) (k := (1 : Fin 2)) (j := (0 : Fin 2)) (0 : Fin 1) rfl).trans (v88_n_0_0_at V n))

theorem v90_n_0_at (n : Fin 32768) :
    v90 V (ix2 n (0 : Fin 2)) = (y0 (gram V) (corr V n)) :=
  (congrFun (v90_eq V) _).trans (pairs_known _ _ _ (v89_n_0_0_at V n) (v89_n_0_1_at V n) (pick_pixel _) (pick_word _))

theorem v91_n_0_at (n : Fin 32768) :
    v91 V (ix2 n (0 : Fin 1)) = (y0 (gram V) (corr V n)) :=
  (congrFun (v91_eq V) _).trans ((extractStridedSlice_apply _ _ _ _ (ix2 n (0 : Fin 2)) (fun q => match q with | ⟨0, _⟩ => (Nat.zero_add _).symm | ⟨1, _⟩ => rfl)).trans (v90_n_0_at V n))

theorem v92_n_at (n : Fin 32768) :
    v92 V (ix1 n) = (y0 (gram V) (corr V n)) :=
  (congrFun (v92_eq V) _).trans ((cast_n1 _ _ _).trans (v91_n_0_at V n))

theorem v93_n_0_0_at (n : Fin 32768) :
    v93 V (ix3 n (0 : Fin 1) (0 : Fin 1)) = 1 :=
  (congrFun (v93_eq V) _).trans ((extractStridedSlice_apply _ _ _ _ (ix3 n (0 : Fin 2) (0 : Fin 2)) (fun q => match q with | ⟨0, _⟩ => (Nat.zero_add _).symm | ⟨1, _⟩ => rfl | ⟨2, _⟩ => rfl)).trans (v82_n_0_0_at V n))

theorem v94_n_at (n : Fin 32768) :
    v94 V (ix1 n) = 1 :=
  (congrFun (v94_eq V) _).trans ((cast_n11 _ _ _).trans (v93_n_0_0_at V n))

theorem v95_n_at (n : Fin 32768) :
    v95 V (ix1 n) = (y0 (gram V) (corr V n)) :=
  (congrFun (v95_eq V) _).trans (div_one_at (v92_n_at V n) (v94_n_at V n))

theorem v105_n_0_at (n : Fin 32768) :
    v105 V (ix2 n (0 : Fin 1)) = (y0 (gram V) (corr V n)) :=
  (congrFun (v105_eq V) _).trans ((broadcastInDim_apply _ _ _ _ (ix1 n) (fun q => match q with | ⟨0, _⟩ => rfl)).trans (v95_n_at V n))

theorem v107_n_0_at (n : Fin 32768) :
    v107 V (ix2 n (0 : Fin 2)) = (y0 (gram V) (corr V n)) :=
  (congrFun (v107_eq V) _).trans ((cat2_left (N := 32768) (p := 1) (q := 1) (r := 2) (x := v105 V) (y := v106 V) _ (n := n) (k := (0 : Fin 2)) (0 : Fin 1) rfl).trans (v105_n_0_at V n))

theorem v114_n_0_at (n : Fin 32768) :
    v114 V (ix2 n (0 : Fin 1)) = (y0 (gram V) (corr V n)) :=
  (congrFun (v114_eq V) _).trans ((extractStridedSlice_apply _ _ _ _ (ix2 n (0 : Fin 2)) (fun q => match q with | ⟨0, _⟩ => (Nat.zero_add _).symm | ⟨1, _⟩ => rfl)).trans (v107_n_0_at V n))

theorem v115_n_at (n : Fin 32768) :
    v115 V (ix1 n) = (y0 (gram V) (corr V n)) :=
  (congrFun (v115_eq V) _).trans ((cast_n1 _ _ _).trans (v114_n_0_at V n))

theorem v108_n_0_1_at (n : Fin 32768) :
    v108 V (ix3 n (0 : Fin 2) (1 : Fin 2)) = (w10 (gram V) (corr V n)) :=
  (congrFun (v108_eq V) _).trans ((transpose_apply _ _ _ _ (ix3 n (1 : Fin 2) (0 : Fin 2)) (fun q => match q with | ⟨0, _⟩ => rfl | ⟨1, _⟩ => rfl | ⟨2, _⟩ => rfl)).trans (v82_n_1_0_at V n))

theorem v116_n_0_0_at (n : Fin 32768) :
    v116 V (ix3 n (0 : Fin 1) (0 : Fin 1)) = (w10 (gram V) (corr V n)) :=
  (congrFun (v116_eq V) _).trans ((extractStridedSlice_apply _ _ _ _ (ix3 n (0 : Fin 2) (1 : Fin 2)) (fun q => match q with | ⟨0, _⟩ => (Nat.zero_add _).symm | ⟨1, _⟩ => rfl | ⟨2, _⟩ => rfl)).trans (v108_n_0_1_at V n))

theorem v117_n_at (n : Fin 32768) :
    v117 V (ix1 n) = (w10 (gram V) (corr V n)) :=
  (congrFun (v117_eq V) _).trans ((cast_n11 _ _ _).trans (v116_n_0_0_at V n))

theorem v86_n_1_at (n : Fin 32768) :
    v86 V (ix2 n (1 : Fin 2)) = (BitVec.ofNat 32 n.val) :=
  (congrFun (v86_eq V) _).trans ((broadcastInDim_apply _ _ _ _ (ix2 n (0 : Fin 1)) (fun q => match q with | ⟨0, _⟩ => rfl | ⟨1, _⟩ => rfl)).trans (v85_n_0_at V n))

theorem v87_n_1_0_at (n : Fin 32768) :
    v87 V (ix3 n (1 : Fin 2) (0 : Fin 1)) = (BitVec.ofNat 32 n.val) :=
  (congrFun (v87_eq V) _).trans ((broadcastInDim_apply _ _ _ _ (ix2 n (1 : Fin 2)) (fun q => match q with | ⟨0, _⟩ => rfl | ⟨1, _⟩ => rfl)).trans (v86_n_1_at V n))

theorem v89_n_1_0_at (n : Fin 32768) :
    v89 V (ix3 n (1 : Fin 2) (0 : Fin 2)) = (BitVec.ofNat 32 n.val) :=
  (congrFun (v89_eq V) _).trans ((cat3_left (N := 32768) (p := 1) (q := 1) (r := 2) (m := 2) (x := v87 V) (y := v88 V) _ (n := n) (k := (0 : Fin 2)) (j := (1 : Fin 2)) (0 : Fin 1) rfl).trans (v87_n_1_0_at V n))

theorem v88_n_1_0_at (n : Fin 32768) :
    v88 V (ix3 n (1 : Fin 2) (0 : Fin 1)) = (word (i1 (gram V) (corr V n))) :=
  (congrFun (v88_eq V) _).trans ((broadcastInDim_apply _ _ _ _ (ix2 n (1 : Fin 2)) (fun q => match q with | ⟨0, _⟩ => rfl | ⟨1, _⟩ => rfl)).trans (v84_n_1_at V n))

theorem v89_n_1_1_at (n : Fin 32768) :
    v89 V (ix3 n (1 : Fin 2) (1 : Fin 2)) = (word (i1 (gram V) (corr V n))) :=
  (congrFun (v89_eq V) _).trans ((cat3_right (N := 32768) (p := 1) (q := 1) (r := 2) (m := 2) (x := v87 V) (y := v88 V) _ (n := n) (k := (1 : Fin 2)) (j := (1 : Fin 2)) (0 : Fin 1) rfl).trans (v88_n_1_0_at V n))

theorem v90_n_1_at (n : Fin 32768) :
    v90 V (ix2 n (1 : Fin 2)) = ((corr V n) (i1 (gram V) (corr V n))) :=
  (congrFun (v90_eq V) _).trans (pairs_known _ _ _ (v89_n_1_0_at V n) (v89_n_1_1_at V n) (pick_pixel _) (pick_word _))

theorem v96_n_0_at (n : Fin 32768) :
    v96 V (ix2 n (0 : Fin 1)) = ((corr V n) (i1 (gram V) (corr V n))) :=
  (congrFun (v96_eq V) _).trans ((extractStridedSlice_apply _ _ _ _ (ix2 n (1 : Fin 2)) (fun q => match q with | ⟨0, _⟩ => (Nat.zero_add _).symm | ⟨1, _⟩ => rfl)).trans (v90_n_1_at V n))

theorem v97_n_at (n : Fin 32768) :
    v97 V (ix1 n) = ((corr V n) (i1 (gram V) (corr V n))) :=
  (congrFun (v97_eq V) _).trans ((cast_n1 _ _ _).trans (v96_n_0_at V n))

theorem v98_n_0_0_at (n : Fin 32768) :
    v98 V (ix3 n (0 : Fin 1) (0 : Fin 1)) = (w10 (gram V) (corr V n)) :=
  (congrFun (v98_eq V) _).trans ((extractStridedSlice_apply _ _ _ _ (ix3 n (1 : Fin 2) (0 : Fin 2)) (fun q => match q with | ⟨0, _⟩ => (Nat.zero_add _).symm | ⟨1, _⟩ => rfl | ⟨2, _⟩ => rfl)).trans (v82_n_1_0_at V n))

theorem v99_n_at (n : Fin 32768) :
    v99 V (ix1 n) = (w10 (gram V) (corr V n)) :=
  (congrFun (v99_eq V) _).trans ((cast_n11 _ _ _).trans (v98_n_0_0_at V n))

theorem v100_n_at (n : Fin 32768) :
    v100 V (ix1 n) = ((w10 (gram V) (corr V n)) * (y0 (gram V) (corr V n))) :=
  (congrFun (v100_eq V) _).trans (mul_at (v99_n_at V n) (v95_n_at V n))

theorem v101_n_at (n : Fin 32768) :
    v101 V (ix1 n) = (((corr V n) (i1 (gram V) (corr V n))) - ((w10 (gram V) (corr V n)) * (y0 (gram V) (corr V n)))) :=
  (congrFun (v101_eq V) _).trans (sub_at (v97_n_at V n) (v100_n_at V n))

theorem v102_n_0_0_at (n : Fin 32768) :
    v102 V (ix3 n (0 : Fin 1) (0 : Fin 1)) = (l1 (gram V) (corr V n)) :=
  (congrFun (v102_eq V) _).trans ((extractStridedSlice_apply _ _ _ _ (ix3 n (1 : Fin 2) (1 : Fin 2)) (fun q => match q with | ⟨0, _⟩ => (Nat.zero_add _).symm | ⟨1, _⟩ => rfl | ⟨2, _⟩ => rfl)).trans (v82_n_1_1_at V n))

theorem v103_n_at (n : Fin 32768) :
    v103 V (ix1 n) = (l1 (gram V) (corr V n)) :=
  (congrFun (v103_eq V) _).trans ((cast_n11 _ _ _).trans (v102_n_0_0_at V n))

theorem v104_n_at (n : Fin 32768) :
    v104 V (ix1 n) = (y1 (gram V) (corr V n)) :=
  (congrFun (v104_eq V) _).trans (div_at (v101_n_at V n) (v103_n_at V n))

theorem v106_n_0_at (n : Fin 32768) :
    v106 V (ix2 n (0 : Fin 1)) = (y1 (gram V) (corr V n)) :=
  (congrFun (v106_eq V) _).trans ((broadcastInDim_apply _ _ _ _ (ix1 n) (fun q => match q with | ⟨0, _⟩ => rfl)).trans (v104_n_at V n))

theorem v107_n_1_at (n : Fin 32768) :
    v107 V (ix2 n (1 : Fin 2)) = (y1 (gram V) (corr V n)) :=
  (congrFun (v107_eq V) _).trans ((cat2_right (N := 32768) (p := 1) (q := 1) (r := 2) (x := v105 V) (y := v106 V) _ (n := n) (k := (1 : Fin 2)) (0 : Fin 1) rfl).trans (v106_n_0_at V n))

theorem v109_n_0_at (n : Fin 32768) :
    v109 V (ix2 n (0 : Fin 1)) = (y1 (gram V) (corr V n)) :=
  (congrFun (v109_eq V) _).trans ((extractStridedSlice_apply _ _ _ _ (ix2 n (1 : Fin 2)) (fun q => match q with | ⟨0, _⟩ => (Nat.zero_add _).symm | ⟨1, _⟩ => rfl)).trans (v107_n_1_at V n))

theorem v110_n_at (n : Fin 32768) :
    v110 V (ix1 n) = (y1 (gram V) (corr V n)) :=
  (congrFun (v110_eq V) _).trans ((cast_n1 _ _ _).trans (v109_n_0_at V n))

theorem v108_n_1_1_at (n : Fin 32768) :
    v108 V (ix3 n (1 : Fin 2) (1 : Fin 2)) = (l1 (gram V) (corr V n)) :=
  (congrFun (v108_eq V) _).trans ((transpose_apply _ _ _ _ (ix3 n (1 : Fin 2) (1 : Fin 2)) (fun q => match q with | ⟨0, _⟩ => rfl | ⟨1, _⟩ => rfl | ⟨2, _⟩ => rfl)).trans (v82_n_1_1_at V n))

theorem v111_n_0_0_at (n : Fin 32768) :
    v111 V (ix3 n (0 : Fin 1) (0 : Fin 1)) = (l1 (gram V) (corr V n)) :=
  (congrFun (v111_eq V) _).trans ((extractStridedSlice_apply _ _ _ _ (ix3 n (1 : Fin 2) (1 : Fin 2)) (fun q => match q with | ⟨0, _⟩ => (Nat.zero_add _).symm | ⟨1, _⟩ => rfl | ⟨2, _⟩ => rfl)).trans (v108_n_1_1_at V n))

theorem v112_n_at (n : Fin 32768) :
    v112 V (ix1 n) = (l1 (gram V) (corr V n)) :=
  (congrFun (v112_eq V) _).trans ((cast_n11 _ _ _).trans (v111_n_0_0_at V n))

theorem v113_n_at (n : Fin 32768) :
    v113 V (ix1 n) = (x11 (gram V) (corr V n)) :=
  (congrFun (v113_eq V) _).trans (div_at (v110_n_at V n) (v112_n_at V n))

theorem v118_n_at (n : Fin 32768) :
    v118 V (ix1 n) = ((w10 (gram V) (corr V n)) * (x11 (gram V) (corr V n))) :=
  (congrFun (v118_eq V) _).trans (mul_at (v117_n_at V n) (v113_n_at V n))

theorem v119_n_at (n : Fin 32768) :
    v119 V (ix1 n) = (x10 (gram V) (corr V n)) :=
  (congrFun (v119_eq V) _).trans (sub_at (v115_n_at V n) (v118_n_at V n))

theorem v108_n_0_0_at (n : Fin 32768) :
    v108 V (ix3 n (0 : Fin 2) (0 : Fin 2)) = 1 :=
  (congrFun (v108_eq V) _).trans ((transpose_apply _ _ _ _ (ix3 n (0 : Fin 2) (0 : Fin 2)) (fun q => match q with | ⟨0, _⟩ => rfl | ⟨1, _⟩ => rfl | ⟨2, _⟩ => rfl)).trans (v82_n_0_0_at V n))

theorem v120_n_0_0_at (n : Fin 32768) :
    v120 V (ix3 n (0 : Fin 1) (0 : Fin 1)) = 1 :=
  (congrFun (v120_eq V) _).trans ((extractStridedSlice_apply _ _ _ _ (ix3 n (0 : Fin 2) (0 : Fin 2)) (fun q => match q with | ⟨0, _⟩ => (Nat.zero_add _).symm | ⟨1, _⟩ => rfl | ⟨2, _⟩ => rfl)).trans (v108_n_0_0_at V n))

theorem v121_n_at (n : Fin 32768) :
    v121 V (ix1 n) = 1 :=
  (congrFun (v121_eq V) _).trans ((cast_n11 _ _ _).trans (v120_n_0_0_at V n))

theorem v122_n_at (n : Fin 32768) :
    v122 V (ix1 n) = (x10 (gram V) (corr V n)) :=
  (congrFun (v122_eq V) _).trans (div_one_at (v119_n_at V n) (v121_n_at V n))

theorem v123_n_0_at (n : Fin 32768) :
    v123 V (ix2 n (0 : Fin 1)) = (x10 (gram V) (corr V n)) :=
  (congrFun (v123_eq V) _).trans ((broadcastInDim_apply _ _ _ _ (ix1 n) (fun q => match q with | ⟨0, _⟩ => rfl)).trans (v122_n_at V n))

theorem v125_n_0_at (n : Fin 32768) :
    v125 V (ix2 n (0 : Fin 2)) = (x10 (gram V) (corr V n)) :=
  (congrFun (v125_eq V) _).trans ((cat2_left (N := 32768) (p := 1) (q := 1) (r := 2) (x := v123 V) (y := v124 V) _ (n := n) (k := (0 : Fin 2)) (0 : Fin 1) rfl).trans (v123_n_0_at V n))

theorem v124_n_0_at (n : Fin 32768) :
    v124 V (ix2 n (0 : Fin 1)) = (x11 (gram V) (corr V n)) :=
  (congrFun (v124_eq V) _).trans ((broadcastInDim_apply _ _ _ _ (ix1 n) (fun q => match q with | ⟨0, _⟩ => rfl)).trans (v113_n_at V n))

theorem v125_n_1_at (n : Fin 32768) :
    v125 V (ix2 n (1 : Fin 2)) = (x11 (gram V) (corr V n)) :=
  (congrFun (v125_eq V) _).trans ((cat2_right (N := 32768) (p := 1) (q := 1) (r := 2) (x := v123 V) (y := v124 V) _ (n := n) (k := (1 : Fin 2)) (0 : Fin 1) rfl).trans (v124_n_0_at V n))

theorem v126_n_0_0_at (n : Fin 32768) :
    v126 V (ix3 n (0 : Fin 2) (0 : Fin 1)) = (word (i0 (gram V) (corr V n))) :=
  (congrFun (v126_eq V) _).trans ((broadcastInDim_apply _ _ _ _ (ix2 n (0 : Fin 2)) (fun q => match q with | ⟨0, _⟩ => rfl | ⟨1, _⟩ => rfl)).trans (v84_n_0_at V n))

theorem v127_n_0_a_at (n : Fin 32768) (a : Fin 256) :
    v127 V (ix3 n (0 : Fin 2) a) = ((gram V) (i0 (gram V) (corr V n)) a) :=
  (congrFun (v127_eq V) _).trans (rows_known _ _ _ (v126_n_0_0_at V n) (pick_word _))

theorem v126_n_1_0_at (n : Fin 32768) :
    v126 V (ix3 n (1 : Fin 2) (0 : Fin 1)) = (word (i1 (gram V) (corr V n))) :=
  (congrFun (v126_eq V) _).trans ((broadcastInDim_apply _ _ _ _ (ix2 n (1 : Fin 2)) (fun q => match q with | ⟨0, _⟩ => rfl | ⟨1, _⟩ => rfl)).trans (v84_n_1_at V n))

theorem v127_n_1_a_at (n : Fin 32768) (a : Fin 256) :
    v127 V (ix3 n (1 : Fin 2) a) = ((gram V) (i1 (gram V) (corr V n)) a) :=
  (congrFun (v127_eq V) _).trans (rows_known _ _ _ (v126_n_1_0_at V n) (pick_word _))

theorem v128_n_a_at (n : Fin 32768) (a : Fin 256) :
    v128 V (ix2 n a) = (((x10 (gram V) (corr V n)) * ((gram V) (i0 (gram V) (corr V n)) a)) + ((x11 (gram V) (corr V n)) * ((gram V) (i1 (gram V) (corr V n)) a))) :=
  (congrFun (v128_eq V) _).trans (rowDot2_at _ (v125_n_0_at V n) (v125_n_1_at V n) (v127_n_0_a_at V n a) (v127_n_1_a_at V n a))

theorem v129_n_a_at (n : Fin 32768) (a : Fin 256) :
    v129 V (ix2 n a) = (h2 (gram V) (corr V n) a) :=
  (congrFun (v129_eq V) _).trans (sub_at rfl (v128_n_a_at V n a))

theorem v55_0_a_at (a : Fin 256) :
    v55 V (ix2 (0 : Fin 1) a) = (word a) :=
  (congrFun (v55_eq V) _).trans ((broadcastInDim_apply _ _ _ _ (ix1 a) (fun q => match q with | ⟨0, _⟩ => rfl)).trans (v17_a_at V a))

theorem v57_n_a_at (n : Fin 32768) (a : Fin 256) :
    v57 V (ix2 n a) = (word a) :=
  (congrFun (v57_eq V) _).trans ((broadcastInDim_apply _ _ _ _ (ix2 (0 : Fin 1) a) (fun q => match q with | ⟨0, _⟩ => rfl | ⟨1, _⟩ => rfl)).trans (v55_0_a_at V a))

theorem v56_n_0_at (n : Fin 32768) :
    v56 V (ix2 n (0 : Fin 1)) = (word (i1 (gram V) (corr V n))) :=
  (congrFun (v56_eq V) _).trans ((broadcastInDim_apply _ _ _ _ (ix1 n) (fun q => match q with | ⟨0, _⟩ => rfl)).trans (v54_n_at V n))

theorem v58_n_a_at (n : Fin 32768) (a : Fin 256) :
    v58 V (ix2 n a) = (word (i1 (gram V) (corr V n))) :=
  (congrFun (v58_eq V) _).trans ((broadcastInDim_apply _ _ _ _ (ix2 n (0 : Fin 1)) (fun q => match q with | ⟨0, _⟩ => rfl | ⟨1, _⟩ => rfl)).trans (v56_n_0_at V n))

theorem v59_n_a_at (n : Fin 32768) (a : Fin 256) :
    v59 V (ix2 n a) = (IntOp.cmpi .eq (word a) (word (i1 (gram V) (corr V n)))) :=
  (congrFun (v59_eq V) _).trans (cmpi_at (v57_n_a_at V n a) (v58_n_a_at V n a))

theorem v60_n_a_at (n : Fin 32768) (a : Fin 256) :
    v60 V (ix2 n a) = (BitVec.ofBool (m2 (gram V) (corr V n) a)) :=
  (congrFun (v60_eq V) _).trans (taken_at (v29_n_a_at V n a) (v59_n_a_at V n a))

theorem v130_n_a_at (n : Fin 32768) (a : Fin 256) :
    v130 V (ix2 n a) = (~~~ (BitVec.ofBool (m2 (gram V) (corr V n) a))) :=
  (congrFun (v130_eq V) _).trans (noti_at (v60_n_a_at V n a))

theorem v131_n_a_at (n : Fin 32768) (a : Fin 256) :
    v131 V (ix2 n a) = (FloatOps.uitofp .f32 (~~~ (BitVec.ofBool (m2 (gram V) (corr V n) a)))) :=
  (congrFun (v131_eq V) _).trans (uitofp_at (v130_n_a_at V n a))

theorem v132_n_a_at (n : Fin 32768) (a : Fin 256) :
    v132 V (ix2 n a) = ((h2 (gram V) (corr V n) a) * (FloatOps.uitofp .f32 (~~~ (BitVec.ofBool (m2 (gram V) (corr V n) a))))) :=
  (congrFun (v132_eq V) _).trans (mul_at (v129_n_a_at V n a) (v131_n_a_at V n a))

theorem v133_n_a_at (n : Fin 32768) (a : Fin 256) :
    v133 V (ix2 n a) = (score (h2 (gram V) (corr V n)) (m2 (gram V) (corr V n)) a) :=
  (congrFun (v133_eq V) _).trans (score_at (F := (h2 (gram V) (corr V n))) (m := (m2 (gram V) (corr V n))) (a := a) (v132_n_a_at V n a))

theorem call2_v0_n_a_at (n : Fin 32768) (a : Fin 256) :
    call2_v0 V (ix2 n a) = (word a) :=
  (congrFun (call2_v0_eq V) _).trans (rfl)

theorem call2_cst_at :
    call2_cst V ix0 = (Ideal.ofBits .f32 0xFF800000#32) :=
  (congrFun (call2_cst_eq V) _).trans (rfl)

theorem call2_c_at :
    call2_c V ix0 = 0#32 :=
  (congrFun (call2_c_eq V) _).trans (rfl)

theorem v134_n_at (n : Fin 32768) :
    v134 V (ix1 n) = (word (i2 (gram V) (corr V n))) :=
  (congrFun (v134_eq V) _).trans ((argmax_at (fun n a => (call2_v0_n_a_at V n a)) (call2_cst_at V) (call2_c_at V) _ _ n).trans (congrArg (fun s => word (first s)) (funext fun a => (v133_n_a_at V n a))))

theorem v141_n_0_at (n : Fin 32768) :
    v141 V (ix2 n (0 : Fin 1)) = (word (i2 (gram V) (corr V n))) :=
  (congrFun (v141_eq V) _).trans ((broadcastInDim_apply _ _ _ _ (ix1 n) (fun q => match q with | ⟨0, _⟩ => rfl)).trans (v134_n_at V n))

theorem v142_n_1_at (n : Fin 32768) :
    v142 V (ix2 n (1 : Fin 2)) = (word (i2 (gram V) (corr V n))) :=
  (congrFun (v142_eq V) _).trans ((broadcastInDim_apply _ _ _ _ (ix2 n (0 : Fin 1)) (fun q => match q with | ⟨0, _⟩ => rfl | ⟨1, _⟩ => rfl)).trans (v141_n_0_at V n))

theorem v144_n_1_0_at (n : Fin 32768) :
    v144 V (ix3 n (1 : Fin 2) (0 : Fin 1)) = (word (i2 (gram V) (corr V n))) :=
  (congrFun (v144_eq V) _).trans ((broadcastInDim_apply _ _ _ _ (ix2 n (1 : Fin 2)) (fun q => match q with | ⟨0, _⟩ => rfl | ⟨1, _⟩ => rfl)).trans (v142_n_1_at V n))

theorem v145_n_1_1_at (n : Fin 32768) :
    v145 V (ix3 n (1 : Fin 2) (1 : Fin 2)) = (word (i2 (gram V) (corr V n))) :=
  (congrFun (v145_eq V) _).trans ((cat3_right (N := 32768) (p := 1) (q := 1) (r := 2) (m := 2) (x := v143 V) (y := v144 V) _ (n := n) (k := (1 : Fin 2)) (j := (1 : Fin 2)) (0 : Fin 1) rfl).trans (v144_n_1_0_at V n))

end Cert.Proof.Ref

end
-- ==== Proof.RefAt1.lean ====
/- The reference read at one pixel, part 2 of 3: each array of a step at an index, as the formula of the model. -/
module

public import proofs.«01_k».proof.Proof.RefAt0

@[expose] public section

noncomputable section

namespace Cert.Proof.Ref

open Cert.ReferenceIdeal Cert.ReferenceIdeal.Gen
open Idealize.ShloMosaic hiding ix0 ix1 ix2 ix3 ix4 eq_ix2
open Idealize.ShloMosaic.ValueIdx Idealize.SL.Sem Cert.Proof.M

variable (V : Valuation τ sig (Elt Ideal))

theorem v146_n_1_at (n : Fin 32768) :
    v146 V (ix2 n (1 : Fin 2)) = ((gram V) (i1 (gram V) (corr V n)) (i2 (gram V) (corr V n))) :=
  (congrFun (v146_eq V) _).trans (pairs_known _ _ _ (v145_n_1_0_at V n) (v145_n_1_1_at V n) (pick_word _) (pick_word _))

theorem v152_n_0_at (n : Fin 32768) :
    v152 V (ix2 n (0 : Fin 1)) = ((gram V) (i1 (gram V) (corr V n)) (i2 (gram V) (corr V n))) :=
  (congrFun (v152_eq V) _).trans ((extractStridedSlice_apply _ _ _ _ (ix2 n (1 : Fin 2)) (fun q => match q with | ⟨0, _⟩ => (Nat.zero_add _).symm | ⟨1, _⟩ => rfl)).trans (v146_n_1_at V n))

theorem v153_n_at (n : Fin 32768) :
    v153 V (ix1 n) = ((gram V) (i1 (gram V) (corr V n)) (i2 (gram V) (corr V n))) :=
  (congrFun (v153_eq V) _).trans ((cast_n1 _ _ _).trans (v152_n_0_at V n))

theorem v154_n_0_0_at (n : Fin 32768) :
    v154 V (ix3 n (0 : Fin 1) (0 : Fin 1)) = (w10 (gram V) (corr V n)) :=
  (congrFun (v154_eq V) _).trans ((extractStridedSlice_apply _ _ _ _ (ix3 n (1 : Fin 2) (0 : Fin 2)) (fun q => match q with | ⟨0, _⟩ => (Nat.zero_add _).symm | ⟨1, _⟩ => rfl | ⟨2, _⟩ => rfl)).trans (v82_n_1_0_at V n))

theorem v155_n_at (n : Fin 32768) :
    v155 V (ix1 n) = (w10 (gram V) (corr V n)) :=
  (congrFun (v155_eq V) _).trans ((cast_n11 _ _ _).trans (v154_n_0_0_at V n))

theorem v143_n_0_0_at (n : Fin 32768) :
    v143 V (ix3 n (0 : Fin 2) (0 : Fin 1)) = (word (i0 (gram V) (corr V n))) :=
  (congrFun (v143_eq V) _).trans ((broadcastInDim_apply _ _ _ _ (ix2 n (0 : Fin 2)) (fun q => match q with | ⟨0, _⟩ => rfl | ⟨1, _⟩ => rfl)).trans (v84_n_0_at V n))

theorem v145_n_0_0_at (n : Fin 32768) :
    v145 V (ix3 n (0 : Fin 2) (0 : Fin 2)) = (word (i0 (gram V) (corr V n))) :=
  (congrFun (v145_eq V) _).trans ((cat3_left (N := 32768) (p := 1) (q := 1) (r := 2) (m := 2) (x := v143 V) (y := v144 V) _ (n := n) (k := (0 : Fin 2)) (j := (0 : Fin 2)) (0 : Fin 1) rfl).trans (v143_n_0_0_at V n))

theorem v142_n_0_at (n : Fin 32768) :
    v142 V (ix2 n (0 : Fin 2)) = (word (i2 (gram V) (corr V n))) :=
  (congrFun (v142_eq V) _).trans ((broadcastInDim_apply _ _ _ _ (ix2 n (0 : Fin 1)) (fun q => match q with | ⟨0, _⟩ => rfl | ⟨1, _⟩ => rfl)).trans (v141_n_0_at V n))

theorem v144_n_0_0_at (n : Fin 32768) :
    v144 V (ix3 n (0 : Fin 2) (0 : Fin 1)) = (word (i2 (gram V) (corr V n))) :=
  (congrFun (v144_eq V) _).trans ((broadcastInDim_apply _ _ _ _ (ix2 n (0 : Fin 2)) (fun q => match q with | ⟨0, _⟩ => rfl | ⟨1, _⟩ => rfl)).trans (v142_n_0_at V n))

theorem v145_n_0_1_at (n : Fin 32768) :
    v145 V (ix3 n (0 : Fin 2) (1 : Fin 2)) = (word (i2 (gram V) (corr V n))) :=
  (congrFun (v145_eq V) _).trans ((cat3_right (N := 32768) (p := 1) (q := 1) (r := 2) (m := 2) (x := v143 V) (y := v144 V) _ (n := n) (k := (1 : Fin 2)) (j := (0 : Fin 2)) (0 : Fin 1) rfl).trans (v144_n_0_0_at V n))

theorem v146_n_0_at (n : Fin 32768) :
    v146 V (ix2 n (0 : Fin 2)) = (w20 (gram V) (corr V n)) :=
  (congrFun (v146_eq V) _).trans (pairs_known _ _ _ (v145_n_0_0_at V n) (v145_n_0_1_at V n) (pick_word _) (pick_word _))

theorem v147_n_0_at (n : Fin 32768) :
    v147 V (ix2 n (0 : Fin 1)) = (w20 (gram V) (corr V n)) :=
  (congrFun (v147_eq V) _).trans ((extractStridedSlice_apply _ _ _ _ (ix2 n (0 : Fin 2)) (fun q => match q with | ⟨0, _⟩ => (Nat.zero_add _).symm | ⟨1, _⟩ => rfl)).trans (v146_n_0_at V n))

theorem v148_n_at (n : Fin 32768) :
    v148 V (ix1 n) = (w20 (gram V) (corr V n)) :=
  (congrFun (v148_eq V) _).trans ((cast_n1 _ _ _).trans (v147_n_0_at V n))

theorem v149_n_0_0_at (n : Fin 32768) :
    v149 V (ix3 n (0 : Fin 1) (0 : Fin 1)) = 1 :=
  (congrFun (v149_eq V) _).trans ((extractStridedSlice_apply _ _ _ _ (ix3 n (0 : Fin 2) (0 : Fin 2)) (fun q => match q with | ⟨0, _⟩ => (Nat.zero_add _).symm | ⟨1, _⟩ => rfl | ⟨2, _⟩ => rfl)).trans (v82_n_0_0_at V n))

theorem v150_n_at (n : Fin 32768) :
    v150 V (ix1 n) = 1 :=
  (congrFun (v150_eq V) _).trans ((cast_n11 _ _ _).trans (v149_n_0_0_at V n))

theorem v151_n_at (n : Fin 32768) :
    v151 V (ix1 n) = (w20 (gram V) (corr V n)) :=
  (congrFun (v151_eq V) _).trans (div_one_at (v148_n_at V n) (v150_n_at V n))

theorem v156_n_at (n : Fin 32768) :
    v156 V (ix1 n) = ((w10 (gram V) (corr V n)) * (w20 (gram V) (corr V n))) :=
  (congrFun (v156_eq V) _).trans (mul_at (v155_n_at V n) (v151_n_at V n))

theorem v157_n_at (n : Fin 32768) :
    v157 V (ix1 n) = (((gram V) (i1 (gram V) (corr V n)) (i2 (gram V) (corr V n))) - ((w10 (gram V) (corr V n)) * (w20 (gram V) (corr V n)))) :=
  (congrFun (v157_eq V) _).trans (sub_at (v153_n_at V n) (v156_n_at V n))

theorem v158_n_0_0_at (n : Fin 32768) :
    v158 V (ix3 n (0 : Fin 1) (0 : Fin 1)) = (l1 (gram V) (corr V n)) :=
  (congrFun (v158_eq V) _).trans ((extractStridedSlice_apply _ _ _ _ (ix3 n (1 : Fin 2) (1 : Fin 2)) (fun q => match q with | ⟨0, _⟩ => (Nat.zero_add _).symm | ⟨1, _⟩ => rfl | ⟨2, _⟩ => rfl)).trans (v82_n_1_1_at V n))

theorem v159_n_at (n : Fin 32768) :
    v159 V (ix1 n) = (l1 (gram V) (corr V n)) :=
  (congrFun (v159_eq V) _).trans ((cast_n11 _ _ _).trans (v158_n_0_0_at V n))

theorem v160_n_at (n : Fin 32768) :
    v160 V (ix1 n) = (w21 (gram V) (corr V n)) :=
  (congrFun (v160_eq V) _).trans (div_at (v157_n_at V n) (v159_n_at V n))

theorem v162_n_0_at (n : Fin 32768) :
    v162 V (ix2 n (0 : Fin 1)) = (w21 (gram V) (corr V n)) :=
  (congrFun (v162_eq V) _).trans ((broadcastInDim_apply _ _ _ _ (ix1 n) (fun q => match q with | ⟨0, _⟩ => rfl)).trans (v160_n_at V n))

theorem v163_n_1_at (n : Fin 32768) :
    v163 V (ix2 n (1 : Fin 2)) = (w21 (gram V) (corr V n)) :=
  (congrFun (v163_eq V) _).trans ((cat2_right (N := 32768) (p := 1) (q := 1) (r := 2) (x := v161 V) (y := v162 V) _ (n := n) (k := (1 : Fin 2)) (0 : Fin 1) rfl).trans (v162_n_0_at V n))

theorem v174_n_1_at (n : Fin 32768) :
    v174 V (ix2 n (1 : Fin 3)) = (w21 (gram V) (corr V n)) :=
  (congrFun (v174_eq V) _).trans ((cat2_left (N := 32768) (p := 2) (q := 1) (r := 3) (x := v163 V) (y := v171 V) _ (n := n) (k := (1 : Fin 3)) (1 : Fin 2) rfl).trans (v163_n_1_at V n))

theorem v175_n_0_1_at (n : Fin 32768) :
    v175 V (ix3 n (0 : Fin 1) (1 : Fin 3)) = (w21 (gram V) (corr V n)) :=
  (congrFun (v175_eq V) _).trans ((broadcastInDim_apply _ _ _ _ (ix2 n (1 : Fin 3)) (fun q => match q with | ⟨0, _⟩ => rfl | ⟨1, _⟩ => rfl)).trans (v174_n_1_at V n))

theorem v176_n_2_1_at (n : Fin 32768) :
    v176 V (ix3 n (2 : Fin 3) (1 : Fin 3)) = (w21 (gram V) (corr V n)) :=
  (congrFun (v176_eq V) _).trans ((catMid_right (N := 32768) (p := 2) (q := 1) (r := 3) (m := 3) (x := v173 V) (y := v175 V) _ (n := n) (k := (2 : Fin 3)) (j := (1 : Fin 3)) (0 : Fin 1) rfl).trans (v175_n_0_1_at V n))

theorem v309_n_2_1_at (n : Fin 32768) :
    v309 V (ix3 n (2 : Fin 3) (1 : Fin 4)) = (w21 (gram V) (corr V n)) :=
  (congrFun (v309_eq V) _).trans ((cat3_left (N := 32768) (p := 3) (q := 1) (r := 4) (m := 3) (x := v176 V) (y := v308 V) _ (n := n) (k := (1 : Fin 4)) (j := (2 : Fin 3)) (1 : Fin 3) rfl).trans (v176_n_2_1_at V n))

theorem v312_n_2_1_at (n : Fin 32768) :
    v312 V (ix3 n (2 : Fin 4) (1 : Fin 4)) = (w21 (gram V) (corr V n)) :=
  (congrFun (v312_eq V) _).trans ((catMid_left (N := 32768) (p := 3) (q := 1) (r := 4) (m := 4) (x := v309 V) (y := v311 V) _ (n := n) (k := (2 : Fin 4)) (j := (1 : Fin 4)) (2 : Fin 3) rfl).trans (v309_n_2_1_at V n))

theorem v370_n_1_2_at (n : Fin 32768) :
    v370 V (ix3 n (1 : Fin 4) (2 : Fin 4)) = (w21 (gram V) (corr V n)) :=
  (congrFun (v370_eq V) _).trans ((transpose_apply _ _ _ _ (ix3 n (2 : Fin 4) (1 : Fin 4)) (fun q => match q with | ⟨0, _⟩ => rfl | ⟨1, _⟩ => rfl | ⟨2, _⟩ => rfl)).trans (v312_n_2_1_at V n))

theorem v387_n_0_0_at (n : Fin 32768) :
    v387 V (ix3 n (0 : Fin 1) (0 : Fin 1)) = (w21 (gram V) (corr V n)) :=
  (congrFun (v387_eq V) _).trans ((extractStridedSlice_apply _ _ _ _ (ix3 n (1 : Fin 4) (2 : Fin 4)) (fun q => match q with | ⟨0, _⟩ => (Nat.zero_add _).symm | ⟨1, _⟩ => rfl | ⟨2, _⟩ => rfl)).trans (v370_n_1_2_at V n))

theorem v388_n_at (n : Fin 32768) :
    v388 V (ix1 n) = (w21 (gram V) (corr V n)) :=
  (congrFun (v388_eq V) _).trans ((cast_n11 _ _ _).trans (v387_n_0_0_at V n))

theorem v316_n_2_at (n : Fin 32768) :
    v316 V (ix2 n (2 : Fin 4)) = (BitVec.ofNat 32 n.val) :=
  (congrFun (v316_eq V) _).trans ((broadcastInDim_apply _ _ _ _ (ix2 n (0 : Fin 1)) (fun q => match q with | ⟨0, _⟩ => rfl | ⟨1, _⟩ => rfl)).trans (v315_n_0_at V n))

theorem v317_n_2_0_at (n : Fin 32768) :
    v317 V (ix3 n (2 : Fin 4) (0 : Fin 1)) = (BitVec.ofNat 32 n.val) :=
  (congrFun (v317_eq V) _).trans ((broadcastInDim_apply _ _ _ _ (ix2 n (2 : Fin 4)) (fun q => match q with | ⟨0, _⟩ => rfl | ⟨1, _⟩ => rfl)).trans (v316_n_2_at V n))

theorem v319_n_2_0_at (n : Fin 32768) :
    v319 V (ix3 n (2 : Fin 4) (0 : Fin 2)) = (BitVec.ofNat 32 n.val) :=
  (congrFun (v319_eq V) _).trans ((cat3_left (N := 32768) (p := 1) (q := 1) (r := 2) (m := 4) (x := v317 V) (y := v318 V) _ (n := n) (k := (0 : Fin 2)) (j := (2 : Fin 4)) (0 : Fin 1) rfl).trans (v317_n_2_0_at V n))

theorem v177_n_0_at (n : Fin 32768) :
    v177 V (ix2 n (0 : Fin 1)) = (word (i2 (gram V) (corr V n))) :=
  (congrFun (v177_eq V) _).trans ((broadcastInDim_apply _ _ _ _ (ix1 n) (fun q => match q with | ⟨0, _⟩ => rfl)).trans (v134_n_at V n))

theorem v178_n_2_at (n : Fin 32768) :
    v178 V (ix2 n (2 : Fin 3)) = (word (i2 (gram V) (corr V n))) :=
  (congrFun (v178_eq V) _).trans ((cat2_right (N := 32768) (p := 2) (q := 1) (r := 3) (x := v84 V) (y := v177 V) _ (n := n) (k := (2 : Fin 3)) (0 : Fin 1) rfl).trans (v177_n_0_at V n))

theorem v314_n_2_at (n : Fin 32768) :
    v314 V (ix2 n (2 : Fin 4)) = (word (i2 (gram V) (corr V n))) :=
  (congrFun (v314_eq V) _).trans ((cat2_left (N := 32768) (p := 3) (q := 1) (r := 4) (x := v178 V) (y := v313 V) _ (n := n) (k := (2 : Fin 4)) (2 : Fin 3) rfl).trans (v178_n_2_at V n))

theorem v318_n_2_0_at (n : Fin 32768) :
    v318 V (ix3 n (2 : Fin 4) (0 : Fin 1)) = (word (i2 (gram V) (corr V n))) :=
  (congrFun (v318_eq V) _).trans ((broadcastInDim_apply _ _ _ _ (ix2 n (2 : Fin 4)) (fun q => match q with | ⟨0, _⟩ => rfl | ⟨1, _⟩ => rfl)).trans (v314_n_2_at V n))

theorem v319_n_2_1_at (n : Fin 32768) :
    v319 V (ix3 n (2 : Fin 4) (1 : Fin 2)) = (word (i2 (gram V) (corr V n))) :=
  (congrFun (v319_eq V) _).trans ((cat3_right (N := 32768) (p := 1) (q := 1) (r := 2) (m := 4) (x := v317 V) (y := v318 V) _ (n := n) (k := (1 : Fin 2)) (j := (2 : Fin 4)) (0 : Fin 1) rfl).trans (v318_n_2_0_at V n))

theorem v320_n_2_at (n : Fin 32768) :
    v320 V (ix2 n (2 : Fin 4)) = ((corr V n) (i2 (gram V) (corr V n))) :=
  (congrFun (v320_eq V) _).trans (pairs_known _ _ _ (v319_n_2_0_at V n) (v319_n_2_1_at V n) (pick_pixel _) (pick_word _))

theorem v335_n_0_at (n : Fin 32768) :
    v335 V (ix2 n (0 : Fin 1)) = ((corr V n) (i2 (gram V) (corr V n))) :=
  (congrFun (v335_eq V) _).trans ((extractStridedSlice_apply _ _ _ _ (ix2 n (2 : Fin 4)) (fun q => match q with | ⟨0, _⟩ => (Nat.zero_add _).symm | ⟨1, _⟩ => rfl)).trans (v320_n_2_at V n))

theorem v336_n_at (n : Fin 32768) :
    v336 V (ix1 n) = ((corr V n) (i2 (gram V) (corr V n))) :=
  (congrFun (v336_eq V) _).trans ((cast_n1 _ _ _).trans (v335_n_0_at V n))

theorem v161_n_0_at (n : Fin 32768) :
    v161 V (ix2 n (0 : Fin 1)) = (w20 (gram V) (corr V n)) :=
  (congrFun (v161_eq V) _).trans ((broadcastInDim_apply _ _ _ _ (ix1 n) (fun q => match q with | ⟨0, _⟩ => rfl)).trans (v151_n_at V n))

theorem v163_n_0_at (n : Fin 32768) :
    v163 V (ix2 n (0 : Fin 2)) = (w20 (gram V) (corr V n)) :=
  (congrFun (v163_eq V) _).trans ((cat2_left (N := 32768) (p := 1) (q := 1) (r := 2) (x := v161 V) (y := v162 V) _ (n := n) (k := (0 : Fin 2)) (0 : Fin 1) rfl).trans (v161_n_0_at V n))

theorem v174_n_0_at (n : Fin 32768) :
    v174 V (ix2 n (0 : Fin 3)) = (w20 (gram V) (corr V n)) :=
  (congrFun (v174_eq V) _).trans ((cat2_left (N := 32768) (p := 2) (q := 1) (r := 3) (x := v163 V) (y := v171 V) _ (n := n) (k := (0 : Fin 3)) (0 : Fin 2) rfl).trans (v163_n_0_at V n))

theorem v175_n_0_0_at (n : Fin 32768) :
    v175 V (ix3 n (0 : Fin 1) (0 : Fin 3)) = (w20 (gram V) (corr V n)) :=
  (congrFun (v175_eq V) _).trans ((broadcastInDim_apply _ _ _ _ (ix2 n (0 : Fin 3)) (fun q => match q with | ⟨0, _⟩ => rfl | ⟨1, _⟩ => rfl)).trans (v174_n_0_at V n))

theorem v176_n_2_0_at (n : Fin 32768) :
    v176 V (ix3 n (2 : Fin 3) (0 : Fin 3)) = (w20 (gram V) (corr V n)) :=
  (congrFun (v176_eq V) _).trans ((catMid_right (N := 32768) (p := 2) (q := 1) (r := 3) (m := 3) (x := v173 V) (y := v175 V) _ (n := n) (k := (2 : Fin 3)) (j := (0 : Fin 3)) (0 : Fin 1) rfl).trans (v175_n_0_0_at V n))

theorem v309_n_2_0_at (n : Fin 32768) :
    v309 V (ix3 n (2 : Fin 3) (0 : Fin 4)) = (w20 (gram V) (corr V n)) :=
  (congrFun (v309_eq V) _).trans ((cat3_left (N := 32768) (p := 3) (q := 1) (r := 4) (m := 3) (x := v176 V) (y := v308 V) _ (n := n) (k := (0 : Fin 4)) (j := (2 : Fin 3)) (0 : Fin 3) rfl).trans (v176_n_2_0_at V n))

theorem v312_n_2_0_at (n : Fin 32768) :
    v312 V (ix3 n (2 : Fin 4) (0 : Fin 4)) = (w20 (gram V) (corr V n)) :=
  (congrFun (v312_eq V) _).trans ((catMid_left (N := 32768) (p := 3) (q := 1) (r := 4) (m := 4) (x := v309 V) (y := v311 V) _ (n := n) (k := (2 : Fin 4)) (j := (0 : Fin 4)) (2 : Fin 3) rfl).trans (v309_n_2_0_at V n))

theorem v337_n_0_0_at (n : Fin 32768) :
    v337 V (ix3 n (0 : Fin 1) (0 : Fin 1)) = (w20 (gram V) (corr V n)) :=
  (congrFun (v337_eq V) _).trans ((extractStridedSlice_apply _ _ _ _ (ix3 n (2 : Fin 4) (0 : Fin 4)) (fun q => match q with | ⟨0, _⟩ => (Nat.zero_add _).symm | ⟨1, _⟩ => rfl | ⟨2, _⟩ => rfl)).trans (v312_n_2_0_at V n))

theorem v338_n_at (n : Fin 32768) :
    v338 V (ix1 n) = (w20 (gram V) (corr V n)) :=
  (congrFun (v338_eq V) _).trans ((cast_n11 _ _ _).trans (v337_n_0_0_at V n))

theorem v339_n_at (n : Fin 32768) :
    v339 V (ix1 n) = ((w20 (gram V) (corr V n)) * (y0 (gram V) (corr V n))) :=
  (congrFun (v339_eq V) _).trans (mul_at (v338_n_at V n) (v325_n_at V n))

theorem v340_n_at (n : Fin 32768) :
    v340 V (ix1 n) = (((corr V n) (i2 (gram V) (corr V n))) - ((w20 (gram V) (corr V n)) * (y0 (gram V) (corr V n)))) :=
  (congrFun (v340_eq V) _).trans (sub_at (v336_n_at V n) (v339_n_at V n))

theorem v341_n_0_0_at (n : Fin 32768) :
    v341 V (ix3 n (0 : Fin 1) (0 : Fin 1)) = (w21 (gram V) (corr V n)) :=
  (congrFun (v341_eq V) _).trans ((extractStridedSlice_apply _ _ _ _ (ix3 n (2 : Fin 4) (1 : Fin 4)) (fun q => match q with | ⟨0, _⟩ => (Nat.zero_add _).symm | ⟨1, _⟩ => rfl | ⟨2, _⟩ => rfl)).trans (v312_n_2_1_at V n))

theorem v342_n_at (n : Fin 32768) :
    v342 V (ix1 n) = (w21 (gram V) (corr V n)) :=
  (congrFun (v342_eq V) _).trans ((cast_n11 _ _ _).trans (v341_n_0_0_at V n))

theorem v343_n_at (n : Fin 32768) :
    v343 V (ix1 n) = ((w21 (gram V) (corr V n)) * (y1 (gram V) (corr V n))) :=
  (congrFun (v343_eq V) _).trans (mul_at (v342_n_at V n) (v334_n_at V n))

theorem v344_n_at (n : Fin 32768) :
    v344 V (ix1 n) = ((((corr V n) (i2 (gram V) (corr V n))) - ((w20 (gram V) (corr V n)) * (y0 (gram V) (corr V n)))) - ((w21 (gram V) (corr V n)) * (y1 (gram V) (corr V n)))) :=
  (congrFun (v344_eq V) _).trans (sub_at (v340_n_at V n) (v343_n_at V n))

theorem cst_7_at :
    cst_7 V ix0 = 1 :=
  (congrFun (cst_7_eq V) _).trans (Ideal.ofBits_one_f32)

theorem v167_n_0_at (n : Fin 32768) :
    v167 V (ix2 n (0 : Fin 1)) = 1 :=
  (congrFun (v167_eq V) _).trans ((broadcastInDim_apply _ _ _ _ ix0 (fun q => q.elim0)).trans (cst_7_at V))

theorem cst_6_at :
    cst_6 V ix0 = 0 :=
  (congrFun (cst_6_eq V) _).trans (Ideal.ofBits_zero_f32)

theorem v164_n_0_at (n : Fin 32768) :
    v164 V (ix2 n (0 : Fin 2)) = ((w20 (gram V) (corr V n)) * (w20 (gram V) (corr V n))) :=
  (congrFun (v164_eq V) _).trans (mul_at (v163_n_0_at V n) (v163_n_0_at V n))

theorem v164_n_1_at (n : Fin 32768) :
    v164 V (ix2 n (1 : Fin 2)) = ((w21 (gram V) (corr V n)) * (w21 (gram V) (corr V n))) :=
  (congrFun (v164_eq V) _).trans (mul_at (v163_n_1_at V n) (v163_n_1_at V n))

theorem v165_n_at (n : Fin 32768) :
    v165 V (ix1 n) = (((w20 (gram V) (corr V n)) * (w20 (gram V) (corr V n))) + ((w21 (gram V) (corr V n)) * (w21 (gram V) (corr V n)))) :=
  (congrFun (v165_eq V) _).trans (rowSum2_at (cst_6_at V) _ (v164_n_0_at V n) (v164_n_1_at V n))

theorem v166_n_0_at (n : Fin 32768) :
    v166 V (ix2 n (0 : Fin 1)) = (((w20 (gram V) (corr V n)) * (w20 (gram V) (corr V n))) + ((w21 (gram V) (corr V n)) * (w21 (gram V) (corr V n)))) :=
  (congrFun (v166_eq V) _).trans ((broadcastInDim_apply _ _ _ _ (ix1 n) (fun q => match q with | ⟨0, _⟩ => rfl)).trans (v165_n_at V n))

theorem v168_n_0_at (n : Fin 32768) :
    v168 V (ix2 n (0 : Fin 1)) = (1 - (((w20 (gram V) (corr V n)) * (w20 (gram V) (corr V n))) + ((w21 (gram V) (corr V n)) * (w21 (gram V) (corr V n))))) :=
  (congrFun (v168_eq V) _).trans (sub_at (v167_n_0_at V n) (v166_n_0_at V n))

theorem cst_8_at :
    cst_8 V ix0 = (Ideal.ofBits .f32 0x2B8CBCCC#32) :=
  (congrFun (cst_8_eq V) _).trans (rfl)

theorem v169_n_0_at (n : Fin 32768) :
    v169 V (ix2 n (0 : Fin 1)) = (Ideal.ofBits .f32 0x2B8CBCCC#32) :=
  (congrFun (v169_eq V) _).trans ((broadcastInDim_apply _ _ _ _ ix0 (fun q => q.elim0)).trans (cst_8_at V))

theorem v170_n_0_at (n : Fin 32768) :
    v170 V (ix2 n (0 : Fin 1)) = (max (1 - (((w20 (gram V) (corr V n)) * (w20 (gram V) (corr V n))) + ((w21 (gram V) (corr V n)) * (w21 (gram V) (corr V n))))) (Ideal.ofBits .f32 0x2B8CBCCC#32)) :=
  (congrFun (v170_eq V) _).trans (max_at (v168_n_0_at V n) (v169_n_0_at V n))

theorem v171_n_0_at (n : Fin 32768) :
    v171 V (ix2 n (0 : Fin 1)) = (l2 (gram V) (corr V n)) :=
  (congrFun (v171_eq V) _).trans (sqrt_at (v170_n_0_at V n))

theorem v174_n_2_at (n : Fin 32768) :
    v174 V (ix2 n (2 : Fin 3)) = (l2 (gram V) (corr V n)) :=
  (congrFun (v174_eq V) _).trans ((cat2_right (N := 32768) (p := 2) (q := 1) (r := 3) (x := v163 V) (y := v171 V) _ (n := n) (k := (2 : Fin 3)) (0 : Fin 1) rfl).trans (v171_n_0_at V n))

theorem v175_n_0_2_at (n : Fin 32768) :
    v175 V (ix3 n (0 : Fin 1) (2 : Fin 3)) = (l2 (gram V) (corr V n)) :=
  (congrFun (v175_eq V) _).trans ((broadcastInDim_apply _ _ _ _ (ix2 n (2 : Fin 3)) (fun q => match q with | ⟨0, _⟩ => rfl | ⟨1, _⟩ => rfl)).trans (v174_n_2_at V n))

theorem v176_n_2_2_at (n : Fin 32768) :
    v176 V (ix3 n (2 : Fin 3) (2 : Fin 3)) = (l2 (gram V) (corr V n)) :=
  (congrFun (v176_eq V) _).trans ((catMid_right (N := 32768) (p := 2) (q := 1) (r := 3) (m := 3) (x := v173 V) (y := v175 V) _ (n := n) (k := (2 : Fin 3)) (j := (2 : Fin 3)) (0 : Fin 1) rfl).trans (v175_n_0_2_at V n))

theorem v309_n_2_2_at (n : Fin 32768) :
    v309 V (ix3 n (2 : Fin 3) (2 : Fin 4)) = (l2 (gram V) (corr V n)) :=
  (congrFun (v309_eq V) _).trans ((cat3_left (N := 32768) (p := 3) (q := 1) (r := 4) (m := 3) (x := v176 V) (y := v308 V) _ (n := n) (k := (2 : Fin 4)) (j := (2 : Fin 3)) (2 : Fin 3) rfl).trans (v176_n_2_2_at V n))

theorem v312_n_2_2_at (n : Fin 32768) :
    v312 V (ix3 n (2 : Fin 4) (2 : Fin 4)) = (l2 (gram V) (corr V n)) :=
  (congrFun (v312_eq V) _).trans ((catMid_left (N := 32768) (p := 3) (q := 1) (r := 4) (m := 4) (x := v309 V) (y := v311 V) _ (n := n) (k := (2 : Fin 4)) (j := (2 : Fin 4)) (2 : Fin 3) rfl).trans (v309_n_2_2_at V n))

theorem v345_n_0_0_at (n : Fin 32768) :
    v345 V (ix3 n (0 : Fin 1) (0 : Fin 1)) = (l2 (gram V) (corr V n)) :=
  (congrFun (v345_eq V) _).trans ((extractStridedSlice_apply _ _ _ _ (ix3 n (2 : Fin 4) (2 : Fin 4)) (fun q => match q with | ⟨0, _⟩ => (Nat.zero_add _).symm | ⟨1, _⟩ => rfl | ⟨2, _⟩ => rfl)).trans (v312_n_2_2_at V n))

theorem v346_n_at (n : Fin 32768) :
    v346 V (ix1 n) = (l2 (gram V) (corr V n)) :=
  (congrFun (v346_eq V) _).trans ((cast_n11 _ _ _).trans (v345_n_0_0_at V n))

theorem v347_n_at (n : Fin 32768) :
    v347 V (ix1 n) = (y2 (gram V) (corr V n)) :=
  (congrFun (v347_eq V) _).trans (div_at (v344_n_at V n) (v346_n_at V n))

theorem v367_n_0_at (n : Fin 32768) :
    v367 V (ix2 n (0 : Fin 1)) = (y2 (gram V) (corr V n)) :=
  (congrFun (v367_eq V) _).trans ((broadcastInDim_apply _ _ _ _ (ix1 n) (fun q => match q with | ⟨0, _⟩ => rfl)).trans (v347_n_at V n))

theorem v369_n_2_at (n : Fin 32768) :
    v369 V (ix2 n (2 : Fin 4)) = (y2 (gram V) (corr V n)) :=
  (congrFun (v369_eq V) _).trans ((columns4_at _ (2 : Fin 4)).trans (v367_n_0_at V n))

theorem v376_n_0_at (n : Fin 32768) :
    v376 V (ix2 n (0 : Fin 1)) = (y2 (gram V) (corr V n)) :=
  (congrFun (v376_eq V) _).trans ((extractStridedSlice_apply _ _ _ _ (ix2 n (2 : Fin 4)) (fun q => match q with | ⟨0, _⟩ => (Nat.zero_add _).symm | ⟨1, _⟩ => rfl)).trans (v369_n_2_at V n))

theorem v377_n_at (n : Fin 32768) :
    v377 V (ix1 n) = (y2 (gram V) (corr V n)) :=
  (congrFun (v377_eq V) _).trans ((cast_n1 _ _ _).trans (v376_n_0_at V n))

theorem v265_n_2_0_at (n : Fin 32768) :
    v265 V (ix3 n (2 : Fin 3) (0 : Fin 1)) = (word (i2 (gram V) (corr V n))) :=
  (congrFun (v265_eq V) _).trans ((broadcastInDim_apply _ _ _ _ (ix2 n (2 : Fin 3)) (fun q => match q with | ⟨0, _⟩ => rfl | ⟨1, _⟩ => rfl)).trans (v178_n_2_at V n))

theorem v267_n_2_0_at (n : Fin 32768) :
    v267 V (ix3 n (2 : Fin 3) (0 : Fin 2)) = (word (i2 (gram V) (corr V n))) :=
  (congrFun (v267_eq V) _).trans ((cat3_left (N := 32768) (p := 1) (q := 1) (r := 2) (m := 3) (x := v265 V) (y := v266 V) _ (n := n) (k := (0 : Fin 2)) (j := (2 : Fin 3)) (0 : Fin 1) rfl).trans (v265_n_2_0_at V n))

theorem v179_n_0_at (n : Fin 32768) :
    v179 V (ix2 n (0 : Fin 1)) = (BitVec.ofNat 32 n.val) :=
  (congrFun (v179_eq V) _).trans ((broadcastInDim_apply _ _ _ _ (ix1 n) (fun q => match q with | ⟨0, _⟩ => rfl)).trans (v16_n_at V n))

theorem v180_n_0_at (n : Fin 32768) :
    v180 V (ix2 n (0 : Fin 3)) = (BitVec.ofNat 32 n.val) :=
  (congrFun (v180_eq V) _).trans ((broadcastInDim_apply _ _ _ _ (ix2 n (0 : Fin 1)) (fun q => match q with | ⟨0, _⟩ => rfl | ⟨1, _⟩ => rfl)).trans (v179_n_0_at V n))

theorem v181_n_0_0_at (n : Fin 32768) :
    v181 V (ix3 n (0 : Fin 3) (0 : Fin 1)) = (BitVec.ofNat 32 n.val) :=
  (congrFun (v181_eq V) _).trans ((broadcastInDim_apply _ _ _ _ (ix2 n (0 : Fin 3)) (fun q => match q with | ⟨0, _⟩ => rfl | ⟨1, _⟩ => rfl)).trans (v180_n_0_at V n))

theorem v183_n_0_0_at (n : Fin 32768) :
    v183 V (ix3 n (0 : Fin 3) (0 : Fin 2)) = (BitVec.ofNat 32 n.val) :=
  (congrFun (v183_eq V) _).trans ((cat3_left (N := 32768) (p := 1) (q := 1) (r := 2) (m := 3) (x := v181 V) (y := v182 V) _ (n := n) (k := (0 : Fin 2)) (j := (0 : Fin 3)) (0 : Fin 1) rfl).trans (v181_n_0_0_at V n))

theorem v182_n_0_0_at (n : Fin 32768) :
    v182 V (ix3 n (0 : Fin 3) (0 : Fin 1)) = (word (i0 (gram V) (corr V n))) :=
  (congrFun (v182_eq V) _).trans ((broadcastInDim_apply _ _ _ _ (ix2 n (0 : Fin 3)) (fun q => match q with | ⟨0, _⟩ => rfl | ⟨1, _⟩ => rfl)).trans (v178_n_0_at V n))

theorem v183_n_0_1_at (n : Fin 32768) :
    v183 V (ix3 n (0 : Fin 3) (1 : Fin 2)) = (word (i0 (gram V) (corr V n))) :=
  (congrFun (v183_eq V) _).trans ((cat3_right (N := 32768) (p := 1) (q := 1) (r := 2) (m := 3) (x := v181 V) (y := v182 V) _ (n := n) (k := (1 : Fin 2)) (j := (0 : Fin 3)) (0 : Fin 1) rfl).trans (v182_n_0_0_at V n))

theorem v184_n_0_at (n : Fin 32768) :
    v184 V (ix2 n (0 : Fin 3)) = (y0 (gram V) (corr V n)) :=
  (congrFun (v184_eq V) _).trans (pairs_known _ _ _ (v183_n_0_0_at V n) (v183_n_0_1_at V n) (pick_pixel _) (pick_word _))

theorem v185_n_0_at (n : Fin 32768) :
    v185 V (ix2 n (0 : Fin 1)) = (y0 (gram V) (corr V n)) :=
  (congrFun (v185_eq V) _).trans ((extractStridedSlice_apply _ _ _ _ (ix2 n (0 : Fin 3)) (fun q => match q with | ⟨0, _⟩ => (Nat.zero_add _).symm | ⟨1, _⟩ => rfl)).trans (v184_n_0_at V n))

theorem v186_n_at (n : Fin 32768) :
    v186 V (ix1 n) = (y0 (gram V) (corr V n)) :=
  (congrFun (v186_eq V) _).trans ((cast_n1 _ _ _).trans (v185_n_0_at V n))

theorem v187_n_0_0_at (n : Fin 32768) :
    v187 V (ix3 n (0 : Fin 1) (0 : Fin 1)) = 1 :=
  (congrFun (v187_eq V) _).trans ((extractStridedSlice_apply _ _ _ _ (ix3 n (0 : Fin 3) (0 : Fin 3)) (fun q => match q with | ⟨0, _⟩ => (Nat.zero_add _).symm | ⟨1, _⟩ => rfl | ⟨2, _⟩ => rfl)).trans (v176_n_0_0_at V n))

theorem v188_n_at (n : Fin 32768) :
    v188 V (ix1 n) = 1 :=
  (congrFun (v188_eq V) _).trans ((cast_n11 _ _ _).trans (v187_n_0_0_at V n))

theorem v189_n_at (n : Fin 32768) :
    v189 V (ix1 n) = (y0 (gram V) (corr V n)) :=
  (congrFun (v189_eq V) _).trans (div_one_at (v186_n_at V n) (v188_n_at V n))

theorem v212_n_0_at (n : Fin 32768) :
    v212 V (ix2 n (0 : Fin 1)) = (y0 (gram V) (corr V n)) :=
  (congrFun (v212_eq V) _).trans ((broadcastInDim_apply _ _ _ _ (ix1 n) (fun q => match q with | ⟨0, _⟩ => rfl)).trans (v189_n_at V n))

theorem v215_n_0_at (n : Fin 32768) :
    v215 V (ix2 n (0 : Fin 3)) = (y0 (gram V) (corr V n)) :=
  (congrFun (v215_eq V) _).trans ((columns3_at _ (0 : Fin 3)).trans (v212_n_0_at V n))

theorem v231_n_0_at (n : Fin 32768) :
    v231 V (ix2 n (0 : Fin 1)) = (y0 (gram V) (corr V n)) :=
  (congrFun (v231_eq V) _).trans ((extractStridedSlice_apply _ _ _ _ (ix2 n (0 : Fin 3)) (fun q => match q with | ⟨0, _⟩ => (Nat.zero_add _).symm | ⟨1, _⟩ => rfl)).trans (v215_n_0_at V n))

theorem v232_n_at (n : Fin 32768) :
    v232 V (ix1 n) = (y0 (gram V) (corr V n)) :=
  (congrFun (v232_eq V) _).trans ((cast_n1 _ _ _).trans (v231_n_0_at V n))

theorem v216_n_0_1_at (n : Fin 32768) :
    v216 V (ix3 n (0 : Fin 3) (1 : Fin 3)) = (w10 (gram V) (corr V n)) :=
  (congrFun (v216_eq V) _).trans ((transpose_apply _ _ _ _ (ix3 n (1 : Fin 3) (0 : Fin 3)) (fun q => match q with | ⟨0, _⟩ => rfl | ⟨1, _⟩ => rfl | ⟨2, _⟩ => rfl)).trans (v176_n_1_0_at V n))

theorem v233_n_0_0_at (n : Fin 32768) :
    v233 V (ix3 n (0 : Fin 1) (0 : Fin 1)) = (w10 (gram V) (corr V n)) :=
  (congrFun (v233_eq V) _).trans ((extractStridedSlice_apply _ _ _ _ (ix3 n (0 : Fin 3) (1 : Fin 3)) (fun q => match q with | ⟨0, _⟩ => (Nat.zero_add _).symm | ⟨1, _⟩ => rfl | ⟨2, _⟩ => rfl)).trans (v216_n_0_1_at V n))

theorem v234_n_at (n : Fin 32768) :
    v234 V (ix1 n) = (w10 (gram V) (corr V n)) :=
  (congrFun (v234_eq V) _).trans ((cast_n11 _ _ _).trans (v233_n_0_0_at V n))

theorem v180_n_1_at (n : Fin 32768) :
    v180 V (ix2 n (1 : Fin 3)) = (BitVec.ofNat 32 n.val) :=
  (congrFun (v180_eq V) _).trans ((broadcastInDim_apply _ _ _ _ (ix2 n (0 : Fin 1)) (fun q => match q with | ⟨0, _⟩ => rfl | ⟨1, _⟩ => rfl)).trans (v179_n_0_at V n))

theorem v181_n_1_0_at (n : Fin 32768) :
    v181 V (ix3 n (1 : Fin 3) (0 : Fin 1)) = (BitVec.ofNat 32 n.val) :=
  (congrFun (v181_eq V) _).trans ((broadcastInDim_apply _ _ _ _ (ix2 n (1 : Fin 3)) (fun q => match q with | ⟨0, _⟩ => rfl | ⟨1, _⟩ => rfl)).trans (v180_n_1_at V n))

theorem v183_n_1_0_at (n : Fin 32768) :
    v183 V (ix3 n (1 : Fin 3) (0 : Fin 2)) = (BitVec.ofNat 32 n.val) :=
  (congrFun (v183_eq V) _).trans ((cat3_left (N := 32768) (p := 1) (q := 1) (r := 2) (m := 3) (x := v181 V) (y := v182 V) _ (n := n) (k := (0 : Fin 2)) (j := (1 : Fin 3)) (0 : Fin 1) rfl).trans (v181_n_1_0_at V n))

theorem v182_n_1_0_at (n : Fin 32768) :
    v182 V (ix3 n (1 : Fin 3) (0 : Fin 1)) = (word (i1 (gram V) (corr V n))) :=
  (congrFun (v182_eq V) _).trans ((broadcastInDim_apply _ _ _ _ (ix2 n (1 : Fin 3)) (fun q => match q with | ⟨0, _⟩ => rfl | ⟨1, _⟩ => rfl)).trans (v178_n_1_at V n))

theorem v183_n_1_1_at (n : Fin 32768) :
    v183 V (ix3 n (1 : Fin 3) (1 : Fin 2)) = (word (i1 (gram V) (corr V n))) :=
  (congrFun (v183_eq V) _).trans ((cat3_right (N := 32768) (p := 1) (q := 1) (r := 2) (m := 3) (x := v181 V) (y := v182 V) _ (n := n) (k := (1 : Fin 2)) (j := (1 : Fin 3)) (0 : Fin 1) rfl).trans (v182_n_1_0_at V n))

theorem v184_n_1_at (n : Fin 32768) :
    v184 V (ix2 n (1 : Fin 3)) = ((corr V n) (i1 (gram V) (corr V n))) :=
  (congrFun (v184_eq V) _).trans (pairs_known _ _ _ (v183_n_1_0_at V n) (v183_n_1_1_at V n) (pick_pixel _) (pick_word _))

theorem v190_n_0_at (n : Fin 32768) :
    v190 V (ix2 n (0 : Fin 1)) = ((corr V n) (i1 (gram V) (corr V n))) :=
  (congrFun (v190_eq V) _).trans ((extractStridedSlice_apply _ _ _ _ (ix2 n (1 : Fin 3)) (fun q => match q with | ⟨0, _⟩ => (Nat.zero_add _).symm | ⟨1, _⟩ => rfl)).trans (v184_n_1_at V n))

theorem v191_n_at (n : Fin 32768) :
    v191 V (ix1 n) = ((corr V n) (i1 (gram V) (corr V n))) :=
  (congrFun (v191_eq V) _).trans ((cast_n1 _ _ _).trans (v190_n_0_at V n))

theorem v192_n_0_0_at (n : Fin 32768) :
    v192 V (ix3 n (0 : Fin 1) (0 : Fin 1)) = (w10 (gram V) (corr V n)) :=
  (congrFun (v192_eq V) _).trans ((extractStridedSlice_apply _ _ _ _ (ix3 n (1 : Fin 3) (0 : Fin 3)) (fun q => match q with | ⟨0, _⟩ => (Nat.zero_add _).symm | ⟨1, _⟩ => rfl | ⟨2, _⟩ => rfl)).trans (v176_n_1_0_at V n))

theorem v193_n_at (n : Fin 32768) :
    v193 V (ix1 n) = (w10 (gram V) (corr V n)) :=
  (congrFun (v193_eq V) _).trans ((cast_n11 _ _ _).trans (v192_n_0_0_at V n))

theorem v194_n_at (n : Fin 32768) :
    v194 V (ix1 n) = ((w10 (gram V) (corr V n)) * (y0 (gram V) (corr V n))) :=
  (congrFun (v194_eq V) _).trans (mul_at (v193_n_at V n) (v189_n_at V n))

theorem v195_n_at (n : Fin 32768) :
    v195 V (ix1 n) = (((corr V n) (i1 (gram V) (corr V n))) - ((w10 (gram V) (corr V n)) * (y0 (gram V) (corr V n)))) :=
  (congrFun (v195_eq V) _).trans (sub_at (v191_n_at V n) (v194_n_at V n))

theorem v196_n_0_0_at (n : Fin 32768) :
    v196 V (ix3 n (0 : Fin 1) (0 : Fin 1)) = (l1 (gram V) (corr V n)) :=
  (congrFun (v196_eq V) _).trans ((extractStridedSlice_apply _ _ _ _ (ix3 n (1 : Fin 3) (1 : Fin 3)) (fun q => match q with | ⟨0, _⟩ => (Nat.zero_add _).symm | ⟨1, _⟩ => rfl | ⟨2, _⟩ => rfl)).trans (v176_n_1_1_at V n))

theorem v197_n_at (n : Fin 32768) :
    v197 V (ix1 n) = (l1 (gram V) (corr V n)) :=
  (congrFun (v197_eq V) _).trans ((cast_n11 _ _ _).trans (v196_n_0_0_at V n))

theorem v198_n_at (n : Fin 32768) :
    v198 V (ix1 n) = (y1 (gram V) (corr V n)) :=
  (congrFun (v198_eq V) _).trans (div_at (v195_n_at V n) (v197_n_at V n))

theorem v213_n_0_at (n : Fin 32768) :
    v213 V (ix2 n (0 : Fin 1)) = (y1 (gram V) (corr V n)) :=
  (congrFun (v213_eq V) _).trans ((broadcastInDim_apply _ _ _ _ (ix1 n) (fun q => match q with | ⟨0, _⟩ => rfl)).trans (v198_n_at V n))

theorem v215_n_1_at (n : Fin 32768) :
    v215 V (ix2 n (1 : Fin 3)) = (y1 (gram V) (corr V n)) :=
  (congrFun (v215_eq V) _).trans ((columns3_at _ (1 : Fin 3)).trans (v213_n_0_at V n))

theorem v222_n_0_at (n : Fin 32768) :
    v222 V (ix2 n (0 : Fin 1)) = (y1 (gram V) (corr V n)) :=
  (congrFun (v222_eq V) _).trans ((extractStridedSlice_apply _ _ _ _ (ix2 n (1 : Fin 3)) (fun q => match q with | ⟨0, _⟩ => (Nat.zero_add _).symm | ⟨1, _⟩ => rfl)).trans (v215_n_1_at V n))

theorem v223_n_at (n : Fin 32768) :
    v223 V (ix1 n) = (y1 (gram V) (corr V n)) :=
  (congrFun (v223_eq V) _).trans ((cast_n1 _ _ _).trans (v222_n_0_at V n))

theorem v216_n_1_2_at (n : Fin 32768) :
    v216 V (ix3 n (1 : Fin 3) (2 : Fin 3)) = (w21 (gram V) (corr V n)) :=
  (congrFun (v216_eq V) _).trans ((transpose_apply _ _ _ _ (ix3 n (2 : Fin 3) (1 : Fin 3)) (fun q => match q with | ⟨0, _⟩ => rfl | ⟨1, _⟩ => rfl | ⟨2, _⟩ => rfl)).trans (v176_n_2_1_at V n))

theorem v224_n_0_0_at (n : Fin 32768) :
    v224 V (ix3 n (0 : Fin 1) (0 : Fin 1)) = (w21 (gram V) (corr V n)) :=
  (congrFun (v224_eq V) _).trans ((extractStridedSlice_apply _ _ _ _ (ix3 n (1 : Fin 3) (2 : Fin 3)) (fun q => match q with | ⟨0, _⟩ => (Nat.zero_add _).symm | ⟨1, _⟩ => rfl | ⟨2, _⟩ => rfl)).trans (v216_n_1_2_at V n))

theorem v225_n_at (n : Fin 32768) :
    v225 V (ix1 n) = (w21 (gram V) (corr V n)) :=
  (congrFun (v225_eq V) _).trans ((cast_n11 _ _ _).trans (v224_n_0_0_at V n))

theorem v180_n_2_at (n : Fin 32768) :
    v180 V (ix2 n (2 : Fin 3)) = (BitVec.ofNat 32 n.val) :=
  (congrFun (v180_eq V) _).trans ((broadcastInDim_apply _ _ _ _ (ix2 n (0 : Fin 1)) (fun q => match q with | ⟨0, _⟩ => rfl | ⟨1, _⟩ => rfl)).trans (v179_n_0_at V n))

theorem v181_n_2_0_at (n : Fin 32768) :
    v181 V (ix3 n (2 : Fin 3) (0 : Fin 1)) = (BitVec.ofNat 32 n.val) :=
  (congrFun (v181_eq V) _).trans ((broadcastInDim_apply _ _ _ _ (ix2 n (2 : Fin 3)) (fun q => match q with | ⟨0, _⟩ => rfl | ⟨1, _⟩ => rfl)).trans (v180_n_2_at V n))

theorem v183_n_2_0_at (n : Fin 32768) :
    v183 V (ix3 n (2 : Fin 3) (0 : Fin 2)) = (BitVec.ofNat 32 n.val) :=
  (congrFun (v183_eq V) _).trans ((cat3_left (N := 32768) (p := 1) (q := 1) (r := 2) (m := 3) (x := v181 V) (y := v182 V) _ (n := n) (k := (0 : Fin 2)) (j := (2 : Fin 3)) (0 : Fin 1) rfl).trans (v181_n_2_0_at V n))

theorem v182_n_2_0_at (n : Fin 32768) :
    v182 V (ix3 n (2 : Fin 3) (0 : Fin 1)) = (word (i2 (gram V) (corr V n))) :=
  (congrFun (v182_eq V) _).trans ((broadcastInDim_apply _ _ _ _ (ix2 n (2 : Fin 3)) (fun q => match q with | ⟨0, _⟩ => rfl | ⟨1, _⟩ => rfl)).trans (v178_n_2_at V n))

theorem v183_n_2_1_at (n : Fin 32768) :
    v183 V (ix3 n (2 : Fin 3) (1 : Fin 2)) = (word (i2 (gram V) (corr V n))) :=
  (congrFun (v183_eq V) _).trans ((cat3_right (N := 32768) (p := 1) (q := 1) (r := 2) (m := 3) (x := v181 V) (y := v182 V) _ (n := n) (k := (1 : Fin 2)) (j := (2 : Fin 3)) (0 : Fin 1) rfl).trans (v182_n_2_0_at V n))

theorem v184_n_2_at (n : Fin 32768) :
    v184 V (ix2 n (2 : Fin 3)) = ((corr V n) (i2 (gram V) (corr V n))) :=
  (congrFun (v184_eq V) _).trans (pairs_known _ _ _ (v183_n_2_0_at V n) (v183_n_2_1_at V n) (pick_pixel _) (pick_word _))

theorem v199_n_0_at (n : Fin 32768) :
    v199 V (ix2 n (0 : Fin 1)) = ((corr V n) (i2 (gram V) (corr V n))) :=
  (congrFun (v199_eq V) _).trans ((extractStridedSlice_apply _ _ _ _ (ix2 n (2 : Fin 3)) (fun q => match q with | ⟨0, _⟩ => (Nat.zero_add _).symm | ⟨1, _⟩ => rfl)).trans (v184_n_2_at V n))

theorem v200_n_at (n : Fin 32768) :
    v200 V (ix1 n) = ((corr V n) (i2 (gram V) (corr V n))) :=
  (congrFun (v200_eq V) _).trans ((cast_n1 _ _ _).trans (v199_n_0_at V n))

theorem v201_n_0_0_at (n : Fin 32768) :
    v201 V (ix3 n (0 : Fin 1) (0 : Fin 1)) = (w20 (gram V) (corr V n)) :=
  (congrFun (v201_eq V) _).trans ((extractStridedSlice_apply _ _ _ _ (ix3 n (2 : Fin 3) (0 : Fin 3)) (fun q => match q with | ⟨0, _⟩ => (Nat.zero_add _).symm | ⟨1, _⟩ => rfl | ⟨2, _⟩ => rfl)).trans (v176_n_2_0_at V n))

theorem v202_n_at (n : Fin 32768) :
    v202 V (ix1 n) = (w20 (gram V) (corr V n)) :=
  (congrFun (v202_eq V) _).trans ((cast_n11 _ _ _).trans (v201_n_0_0_at V n))

theorem v203_n_at (n : Fin 32768) :
    v203 V (ix1 n) = ((w20 (gram V) (corr V n)) * (y0 (gram V) (corr V n))) :=
  (congrFun (v203_eq V) _).trans (mul_at (v202_n_at V n) (v189_n_at V n))

theorem v204_n_at (n : Fin 32768) :
    v204 V (ix1 n) = (((corr V n) (i2 (gram V) (corr V n))) - ((w20 (gram V) (corr V n)) * (y0 (gram V) (corr V n)))) :=
  (congrFun (v204_eq V) _).trans (sub_at (v200_n_at V n) (v203_n_at V n))

theorem v205_n_0_0_at (n : Fin 32768) :
    v205 V (ix3 n (0 : Fin 1) (0 : Fin 1)) = (w21 (gram V) (corr V n)) :=
  (congrFun (v205_eq V) _).trans ((extractStridedSlice_apply _ _ _ _ (ix3 n (2 : Fin 3) (1 : Fin 3)) (fun q => match q with | ⟨0, _⟩ => (Nat.zero_add _).symm | ⟨1, _⟩ => rfl | ⟨2, _⟩ => rfl)).trans (v176_n_2_1_at V n))

theorem v206_n_at (n : Fin 32768) :
    v206 V (ix1 n) = (w21 (gram V) (corr V n)) :=
  (congrFun (v206_eq V) _).trans ((cast_n11 _ _ _).trans (v205_n_0_0_at V n))

theorem v207_n_at (n : Fin 32768) :
    v207 V (ix1 n) = ((w21 (gram V) (corr V n)) * (y1 (gram V) (corr V n))) :=
  (congrFun (v207_eq V) _).trans (mul_at (v206_n_at V n) (v198_n_at V n))

theorem v208_n_at (n : Fin 32768) :
    v208 V (ix1 n) = ((((corr V n) (i2 (gram V) (corr V n))) - ((w20 (gram V) (corr V n)) * (y0 (gram V) (corr V n)))) - ((w21 (gram V) (corr V n)) * (y1 (gram V) (corr V n)))) :=
  (congrFun (v208_eq V) _).trans (sub_at (v204_n_at V n) (v207_n_at V n))

theorem v209_n_0_0_at (n : Fin 32768) :
    v209 V (ix3 n (0 : Fin 1) (0 : Fin 1)) = (l2 (gram V) (corr V n)) :=
  (congrFun (v209_eq V) _).trans ((extractStridedSlice_apply _ _ _ _ (ix3 n (2 : Fin 3) (2 : Fin 3)) (fun q => match q with | ⟨0, _⟩ => (Nat.zero_add _).symm | ⟨1, _⟩ => rfl | ⟨2, _⟩ => rfl)).trans (v176_n_2_2_at V n))

theorem v210_n_at (n : Fin 32768) :
    v210 V (ix1 n) = (l2 (gram V) (corr V n)) :=
  (congrFun (v210_eq V) _).trans ((cast_n11 _ _ _).trans (v209_n_0_0_at V n))

theorem v211_n_at (n : Fin 32768) :
    v211 V (ix1 n) = (y2 (gram V) (corr V n)) :=
  (congrFun (v211_eq V) _).trans (div_at (v208_n_at V n) (v210_n_at V n))

theorem v214_n_0_at (n : Fin 32768) :
    v214 V (ix2 n (0 : Fin 1)) = (y2 (gram V) (corr V n)) :=
  (congrFun (v214_eq V) _).trans ((broadcastInDim_apply _ _ _ _ (ix1 n) (fun q => match q with | ⟨0, _⟩ => rfl)).trans (v211_n_at V n))

theorem v215_n_2_at (n : Fin 32768) :
    v215 V (ix2 n (2 : Fin 3)) = (y2 (gram V) (corr V n)) :=
  (congrFun (v215_eq V) _).trans ((columns3_at _ (2 : Fin 3)).trans (v214_n_0_at V n))

theorem v217_n_0_at (n : Fin 32768) :
    v217 V (ix2 n (0 : Fin 1)) = (y2 (gram V) (corr V n)) :=
  (congrFun (v217_eq V) _).trans ((extractStridedSlice_apply _ _ _ _ (ix2 n (2 : Fin 3)) (fun q => match q with | ⟨0, _⟩ => (Nat.zero_add _).symm | ⟨1, _⟩ => rfl)).trans (v215_n_2_at V n))

theorem v218_n_at (n : Fin 32768) :
    v218 V (ix1 n) = (y2 (gram V) (corr V n)) :=
  (congrFun (v218_eq V) _).trans ((cast_n1 _ _ _).trans (v217_n_0_at V n))

theorem v216_n_2_2_at (n : Fin 32768) :
    v216 V (ix3 n (2 : Fin 3) (2 : Fin 3)) = (l2 (gram V) (corr V n)) :=
  (congrFun (v216_eq V) _).trans ((transpose_apply _ _ _ _ (ix3 n (2 : Fin 3) (2 : Fin 3)) (fun q => match q with | ⟨0, _⟩ => rfl | ⟨1, _⟩ => rfl | ⟨2, _⟩ => rfl)).trans (v176_n_2_2_at V n))

theorem v219_n_0_0_at (n : Fin 32768) :
    v219 V (ix3 n (0 : Fin 1) (0 : Fin 1)) = (l2 (gram V) (corr V n)) :=
  (congrFun (v219_eq V) _).trans ((extractStridedSlice_apply _ _ _ _ (ix3 n (2 : Fin 3) (2 : Fin 3)) (fun q => match q with | ⟨0, _⟩ => (Nat.zero_add _).symm | ⟨1, _⟩ => rfl | ⟨2, _⟩ => rfl)).trans (v216_n_2_2_at V n))

theorem v220_n_at (n : Fin 32768) :
    v220 V (ix1 n) = (l2 (gram V) (corr V n)) :=
  (congrFun (v220_eq V) _).trans ((cast_n11 _ _ _).trans (v219_n_0_0_at V n))

theorem v221_n_at (n : Fin 32768) :
    v221 V (ix1 n) = (x22 (gram V) (corr V n)) :=
  (congrFun (v221_eq V) _).trans (div_at (v218_n_at V n) (v220_n_at V n))

theorem v226_n_at (n : Fin 32768) :
    v226 V (ix1 n) = ((w21 (gram V) (corr V n)) * (x22 (gram V) (corr V n))) :=
  (congrFun (v226_eq V) _).trans (mul_at (v225_n_at V n) (v221_n_at V n))

theorem v227_n_at (n : Fin 32768) :
    v227 V (ix1 n) = ((y1 (gram V) (corr V n)) - ((w21 (gram V) (corr V n)) * (x22 (gram V) (corr V n)))) :=
  (congrFun (v227_eq V) _).trans (sub_at (v223_n_at V n) (v226_n_at V n))

theorem v216_n_1_1_at (n : Fin 32768) :
    v216 V (ix3 n (1 : Fin 3) (1 : Fin 3)) = (l1 (gram V) (corr V n)) :=
  (congrFun (v216_eq V) _).trans ((transpose_apply _ _ _ _ (ix3 n (1 : Fin 3) (1 : Fin 3)) (fun q => match q with | ⟨0, _⟩ => rfl | ⟨1, _⟩ => rfl | ⟨2, _⟩ => rfl)).trans (v176_n_1_1_at V n))

theorem v228_n_0_0_at (n : Fin 32768) :
    v228 V (ix3 n (0 : Fin 1) (0 : Fin 1)) = (l1 (gram V) (corr V n)) :=
  (congrFun (v228_eq V) _).trans ((extractStridedSlice_apply _ _ _ _ (ix3 n (1 : Fin 3) (1 : Fin 3)) (fun q => match q with | ⟨0, _⟩ => (Nat.zero_add _).symm | ⟨1, _⟩ => rfl | ⟨2, _⟩ => rfl)).trans (v216_n_1_1_at V n))

theorem v229_n_at (n : Fin 32768) :
    v229 V (ix1 n) = (l1 (gram V) (corr V n)) :=
  (congrFun (v229_eq V) _).trans ((cast_n11 _ _ _).trans (v228_n_0_0_at V n))

theorem v230_n_at (n : Fin 32768) :
    v230 V (ix1 n) = (x21 (gram V) (corr V n)) :=
  (congrFun (v230_eq V) _).trans (div_at (v227_n_at V n) (v229_n_at V n))

theorem v235_n_at (n : Fin 32768) :
    v235 V (ix1 n) = ((w10 (gram V) (corr V n)) * (x21 (gram V) (corr V n))) :=
  (congrFun (v235_eq V) _).trans (mul_at (v234_n_at V n) (v230_n_at V n))

theorem v236_n_at (n : Fin 32768) :
    v236 V (ix1 n) = ((y0 (gram V) (corr V n)) - ((w10 (gram V) (corr V n)) * (x21 (gram V) (corr V n)))) :=
  (congrFun (v236_eq V) _).trans (sub_at (v232_n_at V n) (v235_n_at V n))

theorem v216_n_0_2_at (n : Fin 32768) :
    v216 V (ix3 n (0 : Fin 3) (2 : Fin 3)) = (w20 (gram V) (corr V n)) :=
  (congrFun (v216_eq V) _).trans ((transpose_apply _ _ _ _ (ix3 n (2 : Fin 3) (0 : Fin 3)) (fun q => match q with | ⟨0, _⟩ => rfl | ⟨1, _⟩ => rfl | ⟨2, _⟩ => rfl)).trans (v176_n_2_0_at V n))

theorem v237_n_0_0_at (n : Fin 32768) :
    v237 V (ix3 n (0 : Fin 1) (0 : Fin 1)) = (w20 (gram V) (corr V n)) :=
  (congrFun (v237_eq V) _).trans ((extractStridedSlice_apply _ _ _ _ (ix3 n (0 : Fin 3) (2 : Fin 3)) (fun q => match q with | ⟨0, _⟩ => (Nat.zero_add _).symm | ⟨1, _⟩ => rfl | ⟨2, _⟩ => rfl)).trans (v216_n_0_2_at V n))

theorem v238_n_at (n : Fin 32768) :
    v238 V (ix1 n) = (w20 (gram V) (corr V n)) :=
  (congrFun (v238_eq V) _).trans ((cast_n11 _ _ _).trans (v237_n_0_0_at V n))

theorem v239_n_at (n : Fin 32768) :
    v239 V (ix1 n) = ((w20 (gram V) (corr V n)) * (x22 (gram V) (corr V n))) :=
  (congrFun (v239_eq V) _).trans (mul_at (v238_n_at V n) (v221_n_at V n))

theorem v240_n_at (n : Fin 32768) :
    v240 V (ix1 n) = (x20 (gram V) (corr V n)) :=
  (congrFun (v240_eq V) _).trans (sub_at (v236_n_at V n) (v239_n_at V n))

theorem v216_n_0_0_at (n : Fin 32768) :
    v216 V (ix3 n (0 : Fin 3) (0 : Fin 3)) = 1 :=
  (congrFun (v216_eq V) _).trans ((transpose_apply _ _ _ _ (ix3 n (0 : Fin 3) (0 : Fin 3)) (fun q => match q with | ⟨0, _⟩ => rfl | ⟨1, _⟩ => rfl | ⟨2, _⟩ => rfl)).trans (v176_n_0_0_at V n))

theorem v241_n_0_0_at (n : Fin 32768) :
    v241 V (ix3 n (0 : Fin 1) (0 : Fin 1)) = 1 :=
  (congrFun (v241_eq V) _).trans ((extractStridedSlice_apply _ _ _ _ (ix3 n (0 : Fin 3) (0 : Fin 3)) (fun q => match q with | ⟨0, _⟩ => (Nat.zero_add _).symm | ⟨1, _⟩ => rfl | ⟨2, _⟩ => rfl)).trans (v216_n_0_0_at V n))

theorem v242_n_at (n : Fin 32768) :
    v242 V (ix1 n) = 1 :=
  (congrFun (v242_eq V) _).trans ((cast_n11 _ _ _).trans (v241_n_0_0_at V n))

theorem v243_n_at (n : Fin 32768) :
    v243 V (ix1 n) = (x20 (gram V) (corr V n)) :=
  (congrFun (v243_eq V) _).trans (div_one_at (v240_n_at V n) (v242_n_at V n))

theorem v244_n_0_at (n : Fin 32768) :
    v244 V (ix2 n (0 : Fin 1)) = (x20 (gram V) (corr V n)) :=
  (congrFun (v244_eq V) _).trans ((broadcastInDim_apply _ _ _ _ (ix1 n) (fun q => match q with | ⟨0, _⟩ => rfl)).trans (v243_n_at V n))

theorem v247_n_0_at (n : Fin 32768) :
    v247 V (ix2 n (0 : Fin 3)) = (x20 (gram V) (corr V n)) :=
  (congrFun (v247_eq V) _).trans ((columns3_at _ (0 : Fin 3)).trans (v244_n_0_at V n))

theorem v245_n_0_at (n : Fin 32768) :
    v245 V (ix2 n (0 : Fin 1)) = (x21 (gram V) (corr V n)) :=
  (congrFun (v245_eq V) _).trans ((broadcastInDim_apply _ _ _ _ (ix1 n) (fun q => match q with | ⟨0, _⟩ => rfl)).trans (v230_n_at V n))

theorem v247_n_1_at (n : Fin 32768) :
    v247 V (ix2 n (1 : Fin 3)) = (x21 (gram V) (corr V n)) :=
  (congrFun (v247_eq V) _).trans ((columns3_at _ (1 : Fin 3)).trans (v245_n_0_at V n))

theorem v246_n_0_at (n : Fin 32768) :
    v246 V (ix2 n (0 : Fin 1)) = (x22 (gram V) (corr V n)) :=
  (congrFun (v246_eq V) _).trans ((broadcastInDim_apply _ _ _ _ (ix1 n) (fun q => match q with | ⟨0, _⟩ => rfl)).trans (v221_n_at V n))

theorem v247_n_2_at (n : Fin 32768) :
    v247 V (ix2 n (2 : Fin 3)) = (x22 (gram V) (corr V n)) :=
  (congrFun (v247_eq V) _).trans ((columns3_at _ (2 : Fin 3)).trans (v246_n_0_at V n))

theorem v248_n_0_0_at (n : Fin 32768) :
    v248 V (ix3 n (0 : Fin 3) (0 : Fin 1)) = (word (i0 (gram V) (corr V n))) :=
  (congrFun (v248_eq V) _).trans ((broadcastInDim_apply _ _ _ _ (ix2 n (0 : Fin 3)) (fun q => match q with | ⟨0, _⟩ => rfl | ⟨1, _⟩ => rfl)).trans (v178_n_0_at V n))

theorem v249_n_0_a_at (n : Fin 32768) (a : Fin 256) :
    v249 V (ix3 n (0 : Fin 3) a) = ((gram V) (i0 (gram V) (corr V n)) a) :=
  (congrFun (v249_eq V) _).trans (rows_known _ _ _ (v248_n_0_0_at V n) (pick_word _))

theorem v248_n_1_0_at (n : Fin 32768) :
    v248 V (ix3 n (1 : Fin 3) (0 : Fin 1)) = (word (i1 (gram V) (corr V n))) :=
  (congrFun (v248_eq V) _).trans ((broadcastInDim_apply _ _ _ _ (ix2 n (1 : Fin 3)) (fun q => match q with | ⟨0, _⟩ => rfl | ⟨1, _⟩ => rfl)).trans (v178_n_1_at V n))

theorem v249_n_1_a_at (n : Fin 32768) (a : Fin 256) :
    v249 V (ix3 n (1 : Fin 3) a) = ((gram V) (i1 (gram V) (corr V n)) a) :=
  (congrFun (v249_eq V) _).trans (rows_known _ _ _ (v248_n_1_0_at V n) (pick_word _))

theorem v248_n_2_0_at (n : Fin 32768) :
    v248 V (ix3 n (2 : Fin 3) (0 : Fin 1)) = (word (i2 (gram V) (corr V n))) :=
  (congrFun (v248_eq V) _).trans ((broadcastInDim_apply _ _ _ _ (ix2 n (2 : Fin 3)) (fun q => match q with | ⟨0, _⟩ => rfl | ⟨1, _⟩ => rfl)).trans (v178_n_2_at V n))

theorem v249_n_2_a_at (n : Fin 32768) (a : Fin 256) :
    v249 V (ix3 n (2 : Fin 3) a) = ((gram V) (i2 (gram V) (corr V n)) a) :=
  (congrFun (v249_eq V) _).trans (rows_known _ _ _ (v248_n_2_0_at V n) (pick_word _))

theorem v250_n_a_at (n : Fin 32768) (a : Fin 256) :
    v250 V (ix2 n a) = ((((x20 (gram V) (corr V n)) * ((gram V) (i0 (gram V) (corr V n)) a)) + ((x21 (gram V) (corr V n)) * ((gram V) (i1 (gram V) (corr V n)) a))) + ((x22 (gram V) (corr V n)) * ((gram V) (i2 (gram V) (corr V n)) a))) :=
  (congrFun (v250_eq V) _).trans (rowDot3_at _ (v247_n_0_at V n) (v247_n_1_at V n) (v247_n_2_at V n) (v249_n_0_a_at V n a) (v249_n_1_a_at V n a) (v249_n_2_a_at V n a))

theorem v251_n_a_at (n : Fin 32768) (a : Fin 256) :
    v251 V (ix2 n a) = (h3 (gram V) (corr V n) a) :=
  (congrFun (v251_eq V) _).trans (sub_at rfl (v250_n_a_at V n a))

theorem v135_0_a_at (a : Fin 256) :
    v135 V (ix2 (0 : Fin 1) a) = (word a) :=
  (congrFun (v135_eq V) _).trans ((broadcastInDim_apply _ _ _ _ (ix1 a) (fun q => match q with | ⟨0, _⟩ => rfl)).trans (v17_a_at V a))

theorem v137_n_a_at (n : Fin 32768) (a : Fin 256) :
    v137 V (ix2 n a) = (word a) :=
  (congrFun (v137_eq V) _).trans ((broadcastInDim_apply _ _ _ _ (ix2 (0 : Fin 1) a) (fun q => match q with | ⟨0, _⟩ => rfl | ⟨1, _⟩ => rfl)).trans (v135_0_a_at V a))

theorem v136_n_0_at (n : Fin 32768) :
    v136 V (ix2 n (0 : Fin 1)) = (word (i2 (gram V) (corr V n))) :=
  (congrFun (v136_eq V) _).trans ((broadcastInDim_apply _ _ _ _ (ix1 n) (fun q => match q with | ⟨0, _⟩ => rfl)).trans (v134_n_at V n))

theorem v138_n_a_at (n : Fin 32768) (a : Fin 256) :
    v138 V (ix2 n a) = (word (i2 (gram V) (corr V n))) :=
  (congrFun (v138_eq V) _).trans ((broadcastInDim_apply _ _ _ _ (ix2 n (0 : Fin 1)) (fun q => match q with | ⟨0, _⟩ => rfl | ⟨1, _⟩ => rfl)).trans (v136_n_0_at V n))

theorem v139_n_a_at (n : Fin 32768) (a : Fin 256) :
    v139 V (ix2 n a) = (IntOp.cmpi .eq (word a) (word (i2 (gram V) (corr V n)))) :=
  (congrFun (v139_eq V) _).trans (cmpi_at (v137_n_a_at V n a) (v138_n_a_at V n a))

theorem v140_n_a_at (n : Fin 32768) (a : Fin 256) :
    v140 V (ix2 n a) = (BitVec.ofBool (m3 (gram V) (corr V n) a)) :=
  (congrFun (v140_eq V) _).trans (taken_at (v60_n_a_at V n a) (v139_n_a_at V n a))

theorem v252_n_a_at (n : Fin 32768) (a : Fin 256) :
    v252 V (ix2 n a) = (~~~ (BitVec.ofBool (m3 (gram V) (corr V n) a))) :=
  (congrFun (v252_eq V) _).trans (noti_at (v140_n_a_at V n a))

theorem v253_n_a_at (n : Fin 32768) (a : Fin 256) :
    v253 V (ix2 n a) = (FloatOps.uitofp .f32 (~~~ (BitVec.ofBool (m3 (gram V) (corr V n) a)))) :=
  (congrFun (v253_eq V) _).trans (uitofp_at (v252_n_a_at V n a))

theorem v254_n_a_at (n : Fin 32768) (a : Fin 256) :
    v254 V (ix2 n a) = ((h3 (gram V) (corr V n) a) * (FloatOps.uitofp .f32 (~~~ (BitVec.ofBool (m3 (gram V) (corr V n) a))))) :=
  (congrFun (v254_eq V) _).trans (mul_at (v251_n_a_at V n a) (v253_n_a_at V n a))

theorem v255_n_a_at (n : Fin 32768) (a : Fin 256) :
    v255 V (ix2 n a) = (score (h3 (gram V) (corr V n)) (m3 (gram V) (corr V n)) a) :=
  (congrFun (v255_eq V) _).trans (score_at (F := (h3 (gram V) (corr V n))) (m := (m3 (gram V) (corr V n))) (a := a) (v254_n_a_at V n a))

theorem call3_v0_n_a_at (n : Fin 32768) (a : Fin 256) :
    call3_v0 V (ix2 n a) = (word a) :=
  (congrFun (call3_v0_eq V) _).trans (rfl)

theorem call3_cst_at :
    call3_cst V ix0 = (Ideal.ofBits .f32 0xFF800000#32) :=
  (congrFun (call3_cst_eq V) _).trans (rfl)

theorem call3_c_at :
    call3_c V ix0 = 0#32 :=
  (congrFun (call3_c_eq V) _).trans (rfl)

theorem v256_n_at (n : Fin 32768) :
    v256 V (ix1 n) = (word (i3 (gram V) (corr V n))) :=
  (congrFun (v256_eq V) _).trans ((argmax_at (fun n a => (call3_v0_n_a_at V n a)) (call3_cst_at V) (call3_c_at V) _ _ n).trans (congrArg (fun s => word (first s)) (funext fun a => (v255_n_a_at V n a))))

theorem v263_n_0_at (n : Fin 32768) :
    v263 V (ix2 n (0 : Fin 1)) = (word (i3 (gram V) (corr V n))) :=
  (congrFun (v263_eq V) _).trans ((broadcastInDim_apply _ _ _ _ (ix1 n) (fun q => match q with | ⟨0, _⟩ => rfl)).trans (v256_n_at V n))

theorem v264_n_2_at (n : Fin 32768) :
    v264 V (ix2 n (2 : Fin 3)) = (word (i3 (gram V) (corr V n))) :=
  (congrFun (v264_eq V) _).trans ((broadcastInDim_apply _ _ _ _ (ix2 n (0 : Fin 1)) (fun q => match q with | ⟨0, _⟩ => rfl | ⟨1, _⟩ => rfl)).trans (v263_n_0_at V n))

theorem v266_n_2_0_at (n : Fin 32768) :
    v266 V (ix3 n (2 : Fin 3) (0 : Fin 1)) = (word (i3 (gram V) (corr V n))) :=
  (congrFun (v266_eq V) _).trans ((broadcastInDim_apply _ _ _ _ (ix2 n (2 : Fin 3)) (fun q => match q with | ⟨0, _⟩ => rfl | ⟨1, _⟩ => rfl)).trans (v264_n_2_at V n))

theorem v267_n_2_1_at (n : Fin 32768) :
    v267 V (ix3 n (2 : Fin 3) (1 : Fin 2)) = (word (i3 (gram V) (corr V n))) :=
  (congrFun (v267_eq V) _).trans ((cat3_right (N := 32768) (p := 1) (q := 1) (r := 2) (m := 3) (x := v265 V) (y := v266 V) _ (n := n) (k := (1 : Fin 2)) (j := (2 : Fin 3)) (0 : Fin 1) rfl).trans (v266_n_2_0_at V n))

theorem v268_n_2_at (n : Fin 32768) :
    v268 V (ix2 n (2 : Fin 3)) = ((gram V) (i2 (gram V) (corr V n)) (i3 (gram V) (corr V n))) :=
  (congrFun (v268_eq V) _).trans (pairs_known _ _ _ (v267_n_2_0_at V n) (v267_n_2_1_at V n) (pick_word _) (pick_word _))

theorem v283_n_0_at (n : Fin 32768) :
    v283 V (ix2 n (0 : Fin 1)) = ((gram V) (i2 (gram V) (corr V n)) (i3 (gram V) (corr V n))) :=
  (congrFun (v283_eq V) _).trans ((extractStridedSlice_apply _ _ _ _ (ix2 n (2 : Fin 3)) (fun q => match q with | ⟨0, _⟩ => (Nat.zero_add _).symm | ⟨1, _⟩ => rfl)).trans (v268_n_2_at V n))

theorem v284_n_at (n : Fin 32768) :
    v284 V (ix1 n) = ((gram V) (i2 (gram V) (corr V n)) (i3 (gram V) (corr V n))) :=
  (congrFun (v284_eq V) _).trans ((cast_n1 _ _ _).trans (v283_n_0_at V n))

theorem v285_n_0_0_at (n : Fin 32768) :
    v285 V (ix3 n (0 : Fin 1) (0 : Fin 1)) = (w20 (gram V) (corr V n)) :=
  (congrFun (v285_eq V) _).trans ((extractStridedSlice_apply _ _ _ _ (ix3 n (2 : Fin 3) (0 : Fin 3)) (fun q => match q with | ⟨0, _⟩ => (Nat.zero_add _).symm | ⟨1, _⟩ => rfl | ⟨2, _⟩ => rfl)).trans (v176_n_2_0_at V n))

theorem v286_n_at (n : Fin 32768) :
    v286 V (ix1 n) = (w20 (gram V) (corr V n)) :=
  (congrFun (v286_eq V) _).trans ((cast_n11 _ _ _).trans (v285_n_0_0_at V n))

theorem v265_n_0_0_at (n : Fin 32768) :
    v265 V (ix3 n (0 : Fin 3) (0 : Fin 1)) = (word (i0 (gram V) (corr V n))) :=
  (congrFun (v265_eq V) _).trans ((broadcastInDim_apply _ _ _ _ (ix2 n (0 : Fin 3)) (fun q => match q with | ⟨0, _⟩ => rfl | ⟨1, _⟩ => rfl)).trans (v178_n_0_at V n))

theorem v267_n_0_0_at (n : Fin 32768) :
    v267 V (ix3 n (0 : Fin 3) (0 : Fin 2)) = (word (i0 (gram V) (corr V n))) :=
  (congrFun (v267_eq V) _).trans ((cat3_left (N := 32768) (p := 1) (q := 1) (r := 2) (m := 3) (x := v265 V) (y := v266 V) _ (n := n) (k := (0 : Fin 2)) (j := (0 : Fin 3)) (0 : Fin 1) rfl).trans (v265_n_0_0_at V n))

theorem v264_n_0_at (n : Fin 32768) :
    v264 V (ix2 n (0 : Fin 3)) = (word (i3 (gram V) (corr V n))) :=
  (congrFun (v264_eq V) _).trans ((broadcastInDim_apply _ _ _ _ (ix2 n (0 : Fin 1)) (fun q => match q with | ⟨0, _⟩ => rfl | ⟨1, _⟩ => rfl)).trans (v263_n_0_at V n))

theorem v266_n_0_0_at (n : Fin 32768) :
    v266 V (ix3 n (0 : Fin 3) (0 : Fin 1)) = (word (i3 (gram V) (corr V n))) :=
  (congrFun (v266_eq V) _).trans ((broadcastInDim_apply _ _ _ _ (ix2 n (0 : Fin 3)) (fun q => match q with | ⟨0, _⟩ => rfl | ⟨1, _⟩ => rfl)).trans (v264_n_0_at V n))

theorem v267_n_0_1_at (n : Fin 32768) :
    v267 V (ix3 n (0 : Fin 3) (1 : Fin 2)) = (word (i3 (gram V) (corr V n))) :=
  (congrFun (v267_eq V) _).trans ((cat3_right (N := 32768) (p := 1) (q := 1) (r := 2) (m := 3) (x := v265 V) (y := v266 V) _ (n := n) (k := (1 : Fin 2)) (j := (0 : Fin 3)) (0 : Fin 1) rfl).trans (v266_n_0_0_at V n))

theorem v268_n_0_at (n : Fin 32768) :
    v268 V (ix2 n (0 : Fin 3)) = (w30 (gram V) (corr V n)) :=
  (congrFun (v268_eq V) _).trans (pairs_known _ _ _ (v267_n_0_0_at V n) (v267_n_0_1_at V n) (pick_word _) (pick_word _))

theorem v269_n_0_at (n : Fin 32768) :
    v269 V (ix2 n (0 : Fin 1)) = (w30 (gram V) (corr V n)) :=
  (congrFun (v269_eq V) _).trans ((extractStridedSlice_apply _ _ _ _ (ix2 n (0 : Fin 3)) (fun q => match q with | ⟨0, _⟩ => (Nat.zero_add _).symm | ⟨1, _⟩ => rfl)).trans (v268_n_0_at V n))

theorem v270_n_at (n : Fin 32768) :
    v270 V (ix1 n) = (w30 (gram V) (corr V n)) :=
  (congrFun (v270_eq V) _).trans ((cast_n1 _ _ _).trans (v269_n_0_at V n))

theorem v271_n_0_0_at (n : Fin 32768) :
    v271 V (ix3 n (0 : Fin 1) (0 : Fin 1)) = 1 :=
  (congrFun (v271_eq V) _).trans ((extractStridedSlice_apply _ _ _ _ (ix3 n (0 : Fin 3) (0 : Fin 3)) (fun q => match q with | ⟨0, _⟩ => (Nat.zero_add _).symm | ⟨1, _⟩ => rfl | ⟨2, _⟩ => rfl)).trans (v176_n_0_0_at V n))

theorem v272_n_at (n : Fin 32768) :
    v272 V (ix1 n) = 1 :=
  (congrFun (v272_eq V) _).trans ((cast_n11 _ _ _).trans (v271_n_0_0_at V n))

theorem v273_n_at (n : Fin 32768) :
    v273 V (ix1 n) = (w30 (gram V) (corr V n)) :=
  (congrFun (v273_eq V) _).trans (div_one_at (v270_n_at V n) (v272_n_at V n))

theorem v287_n_at (n : Fin 32768) :
    v287 V (ix1 n) = ((w20 (gram V) (corr V n)) * (w30 (gram V) (corr V n))) :=
  (congrFun (v287_eq V) _).trans (mul_at (v286_n_at V n) (v273_n_at V n))

theorem v288_n_at (n : Fin 32768) :
    v288 V (ix1 n) = (((gram V) (i2 (gram V) (corr V n)) (i3 (gram V) (corr V n))) - ((w20 (gram V) (corr V n)) * (w30 (gram V) (corr V n)))) :=
  (congrFun (v288_eq V) _).trans (sub_at (v284_n_at V n) (v287_n_at V n))

theorem v289_n_0_0_at (n : Fin 32768) :
    v289 V (ix3 n (0 : Fin 1) (0 : Fin 1)) = (w21 (gram V) (corr V n)) :=
  (congrFun (v289_eq V) _).trans ((extractStridedSlice_apply _ _ _ _ (ix3 n (2 : Fin 3) (1 : Fin 3)) (fun q => match q with | ⟨0, _⟩ => (Nat.zero_add _).symm | ⟨1, _⟩ => rfl | ⟨2, _⟩ => rfl)).trans (v176_n_2_1_at V n))

theorem v290_n_at (n : Fin 32768) :
    v290 V (ix1 n) = (w21 (gram V) (corr V n)) :=
  (congrFun (v290_eq V) _).trans ((cast_n11 _ _ _).trans (v289_n_0_0_at V n))

theorem v265_n_1_0_at (n : Fin 32768) :
    v265 V (ix3 n (1 : Fin 3) (0 : Fin 1)) = (word (i1 (gram V) (corr V n))) :=
  (congrFun (v265_eq V) _).trans ((broadcastInDim_apply _ _ _ _ (ix2 n (1 : Fin 3)) (fun q => match q with | ⟨0, _⟩ => rfl | ⟨1, _⟩ => rfl)).trans (v178_n_1_at V n))

theorem v267_n_1_0_at (n : Fin 32768) :
    v267 V (ix3 n (1 : Fin 3) (0 : Fin 2)) = (word (i1 (gram V) (corr V n))) :=
  (congrFun (v267_eq V) _).trans ((cat3_left (N := 32768) (p := 1) (q := 1) (r := 2) (m := 3) (x := v265 V) (y := v266 V) _ (n := n) (k := (0 : Fin 2)) (j := (1 : Fin 3)) (0 : Fin 1) rfl).trans (v265_n_1_0_at V n))

theorem v264_n_1_at (n : Fin 32768) :
    v264 V (ix2 n (1 : Fin 3)) = (word (i3 (gram V) (corr V n))) :=
  (congrFun (v264_eq V) _).trans ((broadcastInDim_apply _ _ _ _ (ix2 n (0 : Fin 1)) (fun q => match q with | ⟨0, _⟩ => rfl | ⟨1, _⟩ => rfl)).trans (v263_n_0_at V n))

theorem v266_n_1_0_at (n : Fin 32768) :
    v266 V (ix3 n (1 : Fin 3) (0 : Fin 1)) = (word (i3 (gram V) (corr V n))) :=
  (congrFun (v266_eq V) _).trans ((broadcastInDim_apply _ _ _ _ (ix2 n (1 : Fin 3)) (fun q => match q with | ⟨0, _⟩ => rfl | ⟨1, _⟩ => rfl)).trans (v264_n_1_at V n))

theorem v267_n_1_1_at (n : Fin 32768) :
    v267 V (ix3 n (1 : Fin 3) (1 : Fin 2)) = (word (i3 (gram V) (corr V n))) :=
  (congrFun (v267_eq V) _).trans ((cat3_right (N := 32768) (p := 1) (q := 1) (r := 2) (m := 3) (x := v265 V) (y := v266 V) _ (n := n) (k := (1 : Fin 2)) (j := (1 : Fin 3)) (0 : Fin 1) rfl).trans (v266_n_1_0_at V n))

theorem v268_n_1_at (n : Fin 32768) :
    v268 V (ix2 n (1 : Fin 3)) = ((gram V) (i1 (gram V) (corr V n)) (i3 (gram V) (corr V n))) :=
  (congrFun (v268_eq V) _).trans (pairs_known _ _ _ (v267_n_1_0_at V n) (v267_n_1_1_at V n) (pick_word _) (pick_word _))

end Cert.Proof.Ref

end
-- ==== Proof.RefAt2.lean ====
/- The reference read at one pixel, part 3 of 3: each array of a step at an index, as the formula of the model. -/
module

public import proofs.«01_k».proof.Proof.RefAt1

@[expose] public section

noncomputable section

namespace Cert.Proof.Ref

open Cert.ReferenceIdeal Cert.ReferenceIdeal.Gen
open Idealize.ShloMosaic hiding ix0 ix1 ix2 ix3 ix4 eq_ix2
open Idealize.ShloMosaic.ValueIdx Idealize.SL.Sem Cert.Proof.M

variable (V : Valuation τ sig (Elt Ideal))

theorem v274_n_0_at (n : Fin 32768) :
    v274 V (ix2 n (0 : Fin 1)) = ((gram V) (i1 (gram V) (corr V n)) (i3 (gram V) (corr V n))) :=
  (congrFun (v274_eq V) _).trans ((extractStridedSlice_apply _ _ _ _ (ix2 n (1 : Fin 3)) (fun q => match q with | ⟨0, _⟩ => (Nat.zero_add _).symm | ⟨1, _⟩ => rfl)).trans (v268_n_1_at V n))

theorem v275_n_at (n : Fin 32768) :
    v275 V (ix1 n) = ((gram V) (i1 (gram V) (corr V n)) (i3 (gram V) (corr V n))) :=
  (congrFun (v275_eq V) _).trans ((cast_n1 _ _ _).trans (v274_n_0_at V n))

theorem v276_n_0_0_at (n : Fin 32768) :
    v276 V (ix3 n (0 : Fin 1) (0 : Fin 1)) = (w10 (gram V) (corr V n)) :=
  (congrFun (v276_eq V) _).trans ((extractStridedSlice_apply _ _ _ _ (ix3 n (1 : Fin 3) (0 : Fin 3)) (fun q => match q with | ⟨0, _⟩ => (Nat.zero_add _).symm | ⟨1, _⟩ => rfl | ⟨2, _⟩ => rfl)).trans (v176_n_1_0_at V n))

theorem v277_n_at (n : Fin 32768) :
    v277 V (ix1 n) = (w10 (gram V) (corr V n)) :=
  (congrFun (v277_eq V) _).trans ((cast_n11 _ _ _).trans (v276_n_0_0_at V n))

theorem v278_n_at (n : Fin 32768) :
    v278 V (ix1 n) = ((w10 (gram V) (corr V n)) * (w30 (gram V) (corr V n))) :=
  (congrFun (v278_eq V) _).trans (mul_at (v277_n_at V n) (v273_n_at V n))

theorem v279_n_at (n : Fin 32768) :
    v279 V (ix1 n) = (((gram V) (i1 (gram V) (corr V n)) (i3 (gram V) (corr V n))) - ((w10 (gram V) (corr V n)) * (w30 (gram V) (corr V n)))) :=
  (congrFun (v279_eq V) _).trans (sub_at (v275_n_at V n) (v278_n_at V n))

theorem v280_n_0_0_at (n : Fin 32768) :
    v280 V (ix3 n (0 : Fin 1) (0 : Fin 1)) = (l1 (gram V) (corr V n)) :=
  (congrFun (v280_eq V) _).trans ((extractStridedSlice_apply _ _ _ _ (ix3 n (1 : Fin 3) (1 : Fin 3)) (fun q => match q with | ⟨0, _⟩ => (Nat.zero_add _).symm | ⟨1, _⟩ => rfl | ⟨2, _⟩ => rfl)).trans (v176_n_1_1_at V n))

theorem v281_n_at (n : Fin 32768) :
    v281 V (ix1 n) = (l1 (gram V) (corr V n)) :=
  (congrFun (v281_eq V) _).trans ((cast_n11 _ _ _).trans (v280_n_0_0_at V n))

theorem v282_n_at (n : Fin 32768) :
    v282 V (ix1 n) = (w31 (gram V) (corr V n)) :=
  (congrFun (v282_eq V) _).trans (div_at (v279_n_at V n) (v281_n_at V n))

theorem v291_n_at (n : Fin 32768) :
    v291 V (ix1 n) = ((w21 (gram V) (corr V n)) * (w31 (gram V) (corr V n))) :=
  (congrFun (v291_eq V) _).trans (mul_at (v290_n_at V n) (v282_n_at V n))

theorem v292_n_at (n : Fin 32768) :
    v292 V (ix1 n) = ((((gram V) (i2 (gram V) (corr V n)) (i3 (gram V) (corr V n))) - ((w20 (gram V) (corr V n)) * (w30 (gram V) (corr V n)))) - ((w21 (gram V) (corr V n)) * (w31 (gram V) (corr V n)))) :=
  (congrFun (v292_eq V) _).trans (sub_at (v288_n_at V n) (v291_n_at V n))

theorem v293_n_0_0_at (n : Fin 32768) :
    v293 V (ix3 n (0 : Fin 1) (0 : Fin 1)) = (l2 (gram V) (corr V n)) :=
  (congrFun (v293_eq V) _).trans ((extractStridedSlice_apply _ _ _ _ (ix3 n (2 : Fin 3) (2 : Fin 3)) (fun q => match q with | ⟨0, _⟩ => (Nat.zero_add _).symm | ⟨1, _⟩ => rfl | ⟨2, _⟩ => rfl)).trans (v176_n_2_2_at V n))

theorem v294_n_at (n : Fin 32768) :
    v294 V (ix1 n) = (l2 (gram V) (corr V n)) :=
  (congrFun (v294_eq V) _).trans ((cast_n11 _ _ _).trans (v293_n_0_0_at V n))

theorem v295_n_at (n : Fin 32768) :
    v295 V (ix1 n) = (w32 (gram V) (corr V n)) :=
  (congrFun (v295_eq V) _).trans (div_at (v292_n_at V n) (v294_n_at V n))

theorem v298_n_0_at (n : Fin 32768) :
    v298 V (ix2 n (0 : Fin 1)) = (w32 (gram V) (corr V n)) :=
  (congrFun (v298_eq V) _).trans ((broadcastInDim_apply _ _ _ _ (ix1 n) (fun q => match q with | ⟨0, _⟩ => rfl)).trans (v295_n_at V n))

theorem v299_n_2_at (n : Fin 32768) :
    v299 V (ix2 n (2 : Fin 3)) = (w32 (gram V) (corr V n)) :=
  (congrFun (v299_eq V) _).trans ((columns3_at _ (2 : Fin 3)).trans (v298_n_0_at V n))

theorem v310_n_2_at (n : Fin 32768) :
    v310 V (ix2 n (2 : Fin 4)) = (w32 (gram V) (corr V n)) :=
  (congrFun (v310_eq V) _).trans ((cat2_left (N := 32768) (p := 3) (q := 1) (r := 4) (x := v299 V) (y := v307 V) _ (n := n) (k := (2 : Fin 4)) (2 : Fin 3) rfl).trans (v299_n_2_at V n))

theorem v311_n_0_2_at (n : Fin 32768) :
    v311 V (ix3 n (0 : Fin 1) (2 : Fin 4)) = (w32 (gram V) (corr V n)) :=
  (congrFun (v311_eq V) _).trans ((broadcastInDim_apply _ _ _ _ (ix2 n (2 : Fin 4)) (fun q => match q with | ⟨0, _⟩ => rfl | ⟨1, _⟩ => rfl)).trans (v310_n_2_at V n))

theorem v312_n_3_2_at (n : Fin 32768) :
    v312 V (ix3 n (3 : Fin 4) (2 : Fin 4)) = (w32 (gram V) (corr V n)) :=
  (congrFun (v312_eq V) _).trans ((catMid_right (N := 32768) (p := 3) (q := 1) (r := 4) (m := 4) (x := v309 V) (y := v311 V) _ (n := n) (k := (3 : Fin 4)) (j := (2 : Fin 4)) (0 : Fin 1) rfl).trans (v311_n_0_2_at V n))

theorem v370_n_2_3_at (n : Fin 32768) :
    v370 V (ix3 n (2 : Fin 4) (3 : Fin 4)) = (w32 (gram V) (corr V n)) :=
  (congrFun (v370_eq V) _).trans ((transpose_apply _ _ _ _ (ix3 n (3 : Fin 4) (2 : Fin 4)) (fun q => match q with | ⟨0, _⟩ => rfl | ⟨1, _⟩ => rfl | ⟨2, _⟩ => rfl)).trans (v312_n_3_2_at V n))

theorem v378_n_0_0_at (n : Fin 32768) :
    v378 V (ix3 n (0 : Fin 1) (0 : Fin 1)) = (w32 (gram V) (corr V n)) :=
  (congrFun (v378_eq V) _).trans ((extractStridedSlice_apply _ _ _ _ (ix3 n (2 : Fin 4) (3 : Fin 4)) (fun q => match q with | ⟨0, _⟩ => (Nat.zero_add _).symm | ⟨1, _⟩ => rfl | ⟨2, _⟩ => rfl)).trans (v370_n_2_3_at V n))

theorem v379_n_at (n : Fin 32768) :
    v379 V (ix1 n) = (w32 (gram V) (corr V n)) :=
  (congrFun (v379_eq V) _).trans ((cast_n11 _ _ _).trans (v378_n_0_0_at V n))

theorem v316_n_3_at (n : Fin 32768) :
    v316 V (ix2 n (3 : Fin 4)) = (BitVec.ofNat 32 n.val) :=
  (congrFun (v316_eq V) _).trans ((broadcastInDim_apply _ _ _ _ (ix2 n (0 : Fin 1)) (fun q => match q with | ⟨0, _⟩ => rfl | ⟨1, _⟩ => rfl)).trans (v315_n_0_at V n))

theorem v317_n_3_0_at (n : Fin 32768) :
    v317 V (ix3 n (3 : Fin 4) (0 : Fin 1)) = (BitVec.ofNat 32 n.val) :=
  (congrFun (v317_eq V) _).trans ((broadcastInDim_apply _ _ _ _ (ix2 n (3 : Fin 4)) (fun q => match q with | ⟨0, _⟩ => rfl | ⟨1, _⟩ => rfl)).trans (v316_n_3_at V n))

theorem v319_n_3_0_at (n : Fin 32768) :
    v319 V (ix3 n (3 : Fin 4) (0 : Fin 2)) = (BitVec.ofNat 32 n.val) :=
  (congrFun (v319_eq V) _).trans ((cat3_left (N := 32768) (p := 1) (q := 1) (r := 2) (m := 4) (x := v317 V) (y := v318 V) _ (n := n) (k := (0 : Fin 2)) (j := (3 : Fin 4)) (0 : Fin 1) rfl).trans (v317_n_3_0_at V n))

theorem v313_n_0_at (n : Fin 32768) :
    v313 V (ix2 n (0 : Fin 1)) = (word (i3 (gram V) (corr V n))) :=
  (congrFun (v313_eq V) _).trans ((broadcastInDim_apply _ _ _ _ (ix1 n) (fun q => match q with | ⟨0, _⟩ => rfl)).trans (v256_n_at V n))

theorem v314_n_3_at (n : Fin 32768) :
    v314 V (ix2 n (3 : Fin 4)) = (word (i3 (gram V) (corr V n))) :=
  (congrFun (v314_eq V) _).trans ((cat2_right (N := 32768) (p := 3) (q := 1) (r := 4) (x := v178 V) (y := v313 V) _ (n := n) (k := (3 : Fin 4)) (0 : Fin 1) rfl).trans (v313_n_0_at V n))

theorem v318_n_3_0_at (n : Fin 32768) :
    v318 V (ix3 n (3 : Fin 4) (0 : Fin 1)) = (word (i3 (gram V) (corr V n))) :=
  (congrFun (v318_eq V) _).trans ((broadcastInDim_apply _ _ _ _ (ix2 n (3 : Fin 4)) (fun q => match q with | ⟨0, _⟩ => rfl | ⟨1, _⟩ => rfl)).trans (v314_n_3_at V n))

theorem v319_n_3_1_at (n : Fin 32768) :
    v319 V (ix3 n (3 : Fin 4) (1 : Fin 2)) = (word (i3 (gram V) (corr V n))) :=
  (congrFun (v319_eq V) _).trans ((cat3_right (N := 32768) (p := 1) (q := 1) (r := 2) (m := 4) (x := v317 V) (y := v318 V) _ (n := n) (k := (1 : Fin 2)) (j := (3 : Fin 4)) (0 : Fin 1) rfl).trans (v318_n_3_0_at V n))

theorem v320_n_3_at (n : Fin 32768) :
    v320 V (ix2 n (3 : Fin 4)) = ((corr V n) (i3 (gram V) (corr V n))) :=
  (congrFun (v320_eq V) _).trans (pairs_known _ _ _ (v319_n_3_0_at V n) (v319_n_3_1_at V n) (pick_pixel _) (pick_word _))

theorem v348_n_0_at (n : Fin 32768) :
    v348 V (ix2 n (0 : Fin 1)) = ((corr V n) (i3 (gram V) (corr V n))) :=
  (congrFun (v348_eq V) _).trans ((extractStridedSlice_apply _ _ _ _ (ix2 n (3 : Fin 4)) (fun q => match q with | ⟨0, _⟩ => (Nat.zero_add _).symm | ⟨1, _⟩ => rfl)).trans (v320_n_3_at V n))

theorem v349_n_at (n : Fin 32768) :
    v349 V (ix1 n) = ((corr V n) (i3 (gram V) (corr V n))) :=
  (congrFun (v349_eq V) _).trans ((cast_n1 _ _ _).trans (v348_n_0_at V n))

theorem v296_n_0_at (n : Fin 32768) :
    v296 V (ix2 n (0 : Fin 1)) = (w30 (gram V) (corr V n)) :=
  (congrFun (v296_eq V) _).trans ((broadcastInDim_apply _ _ _ _ (ix1 n) (fun q => match q with | ⟨0, _⟩ => rfl)).trans (v273_n_at V n))

theorem v299_n_0_at (n : Fin 32768) :
    v299 V (ix2 n (0 : Fin 3)) = (w30 (gram V) (corr V n)) :=
  (congrFun (v299_eq V) _).trans ((columns3_at _ (0 : Fin 3)).trans (v296_n_0_at V n))

theorem v310_n_0_at (n : Fin 32768) :
    v310 V (ix2 n (0 : Fin 4)) = (w30 (gram V) (corr V n)) :=
  (congrFun (v310_eq V) _).trans ((cat2_left (N := 32768) (p := 3) (q := 1) (r := 4) (x := v299 V) (y := v307 V) _ (n := n) (k := (0 : Fin 4)) (0 : Fin 3) rfl).trans (v299_n_0_at V n))

theorem v311_n_0_0_at (n : Fin 32768) :
    v311 V (ix3 n (0 : Fin 1) (0 : Fin 4)) = (w30 (gram V) (corr V n)) :=
  (congrFun (v311_eq V) _).trans ((broadcastInDim_apply _ _ _ _ (ix2 n (0 : Fin 4)) (fun q => match q with | ⟨0, _⟩ => rfl | ⟨1, _⟩ => rfl)).trans (v310_n_0_at V n))

theorem v312_n_3_0_at (n : Fin 32768) :
    v312 V (ix3 n (3 : Fin 4) (0 : Fin 4)) = (w30 (gram V) (corr V n)) :=
  (congrFun (v312_eq V) _).trans ((catMid_right (N := 32768) (p := 3) (q := 1) (r := 4) (m := 4) (x := v309 V) (y := v311 V) _ (n := n) (k := (3 : Fin 4)) (j := (0 : Fin 4)) (0 : Fin 1) rfl).trans (v311_n_0_0_at V n))

theorem v350_n_0_0_at (n : Fin 32768) :
    v350 V (ix3 n (0 : Fin 1) (0 : Fin 1)) = (w30 (gram V) (corr V n)) :=
  (congrFun (v350_eq V) _).trans ((extractStridedSlice_apply _ _ _ _ (ix3 n (3 : Fin 4) (0 : Fin 4)) (fun q => match q with | ⟨0, _⟩ => (Nat.zero_add _).symm | ⟨1, _⟩ => rfl | ⟨2, _⟩ => rfl)).trans (v312_n_3_0_at V n))

theorem v351_n_at (n : Fin 32768) :
    v351 V (ix1 n) = (w30 (gram V) (corr V n)) :=
  (congrFun (v351_eq V) _).trans ((cast_n11 _ _ _).trans (v350_n_0_0_at V n))

theorem v352_n_at (n : Fin 32768) :
    v352 V (ix1 n) = ((w30 (gram V) (corr V n)) * (y0 (gram V) (corr V n))) :=
  (congrFun (v352_eq V) _).trans (mul_at (v351_n_at V n) (v325_n_at V n))

theorem v353_n_at (n : Fin 32768) :
    v353 V (ix1 n) = (((corr V n) (i3 (gram V) (corr V n))) - ((w30 (gram V) (corr V n)) * (y0 (gram V) (corr V n)))) :=
  (congrFun (v353_eq V) _).trans (sub_at (v349_n_at V n) (v352_n_at V n))

theorem v297_n_0_at (n : Fin 32768) :
    v297 V (ix2 n (0 : Fin 1)) = (w31 (gram V) (corr V n)) :=
  (congrFun (v297_eq V) _).trans ((broadcastInDim_apply _ _ _ _ (ix1 n) (fun q => match q with | ⟨0, _⟩ => rfl)).trans (v282_n_at V n))

theorem v299_n_1_at (n : Fin 32768) :
    v299 V (ix2 n (1 : Fin 3)) = (w31 (gram V) (corr V n)) :=
  (congrFun (v299_eq V) _).trans ((columns3_at _ (1 : Fin 3)).trans (v297_n_0_at V n))

theorem v310_n_1_at (n : Fin 32768) :
    v310 V (ix2 n (1 : Fin 4)) = (w31 (gram V) (corr V n)) :=
  (congrFun (v310_eq V) _).trans ((cat2_left (N := 32768) (p := 3) (q := 1) (r := 4) (x := v299 V) (y := v307 V) _ (n := n) (k := (1 : Fin 4)) (1 : Fin 3) rfl).trans (v299_n_1_at V n))

theorem v311_n_0_1_at (n : Fin 32768) :
    v311 V (ix3 n (0 : Fin 1) (1 : Fin 4)) = (w31 (gram V) (corr V n)) :=
  (congrFun (v311_eq V) _).trans ((broadcastInDim_apply _ _ _ _ (ix2 n (1 : Fin 4)) (fun q => match q with | ⟨0, _⟩ => rfl | ⟨1, _⟩ => rfl)).trans (v310_n_1_at V n))

theorem v312_n_3_1_at (n : Fin 32768) :
    v312 V (ix3 n (3 : Fin 4) (1 : Fin 4)) = (w31 (gram V) (corr V n)) :=
  (congrFun (v312_eq V) _).trans ((catMid_right (N := 32768) (p := 3) (q := 1) (r := 4) (m := 4) (x := v309 V) (y := v311 V) _ (n := n) (k := (3 : Fin 4)) (j := (1 : Fin 4)) (0 : Fin 1) rfl).trans (v311_n_0_1_at V n))

theorem v354_n_0_0_at (n : Fin 32768) :
    v354 V (ix3 n (0 : Fin 1) (0 : Fin 1)) = (w31 (gram V) (corr V n)) :=
  (congrFun (v354_eq V) _).trans ((extractStridedSlice_apply _ _ _ _ (ix3 n (3 : Fin 4) (1 : Fin 4)) (fun q => match q with | ⟨0, _⟩ => (Nat.zero_add _).symm | ⟨1, _⟩ => rfl | ⟨2, _⟩ => rfl)).trans (v312_n_3_1_at V n))

theorem v355_n_at (n : Fin 32768) :
    v355 V (ix1 n) = (w31 (gram V) (corr V n)) :=
  (congrFun (v355_eq V) _).trans ((cast_n11 _ _ _).trans (v354_n_0_0_at V n))

theorem v356_n_at (n : Fin 32768) :
    v356 V (ix1 n) = ((w31 (gram V) (corr V n)) * (y1 (gram V) (corr V n))) :=
  (congrFun (v356_eq V) _).trans (mul_at (v355_n_at V n) (v334_n_at V n))

theorem v357_n_at (n : Fin 32768) :
    v357 V (ix1 n) = ((((corr V n) (i3 (gram V) (corr V n))) - ((w30 (gram V) (corr V n)) * (y0 (gram V) (corr V n)))) - ((w31 (gram V) (corr V n)) * (y1 (gram V) (corr V n)))) :=
  (congrFun (v357_eq V) _).trans (sub_at (v353_n_at V n) (v356_n_at V n))

theorem v358_n_0_0_at (n : Fin 32768) :
    v358 V (ix3 n (0 : Fin 1) (0 : Fin 1)) = (w32 (gram V) (corr V n)) :=
  (congrFun (v358_eq V) _).trans ((extractStridedSlice_apply _ _ _ _ (ix3 n (3 : Fin 4) (2 : Fin 4)) (fun q => match q with | ⟨0, _⟩ => (Nat.zero_add _).symm | ⟨1, _⟩ => rfl | ⟨2, _⟩ => rfl)).trans (v312_n_3_2_at V n))

theorem v359_n_at (n : Fin 32768) :
    v359 V (ix1 n) = (w32 (gram V) (corr V n)) :=
  (congrFun (v359_eq V) _).trans ((cast_n11 _ _ _).trans (v358_n_0_0_at V n))

theorem v360_n_at (n : Fin 32768) :
    v360 V (ix1 n) = ((w32 (gram V) (corr V n)) * (y2 (gram V) (corr V n))) :=
  (congrFun (v360_eq V) _).trans (mul_at (v359_n_at V n) (v347_n_at V n))

theorem v361_n_at (n : Fin 32768) :
    v361 V (ix1 n) = (((((corr V n) (i3 (gram V) (corr V n))) - ((w30 (gram V) (corr V n)) * (y0 (gram V) (corr V n)))) - ((w31 (gram V) (corr V n)) * (y1 (gram V) (corr V n)))) - ((w32 (gram V) (corr V n)) * (y2 (gram V) (corr V n)))) :=
  (congrFun (v361_eq V) _).trans (sub_at (v357_n_at V n) (v360_n_at V n))

theorem cst_11_at :
    cst_11 V ix0 = 1 :=
  (congrFun (cst_11_eq V) _).trans (Ideal.ofBits_one_f32)

theorem v303_n_0_at (n : Fin 32768) :
    v303 V (ix2 n (0 : Fin 1)) = 1 :=
  (congrFun (v303_eq V) _).trans ((broadcastInDim_apply _ _ _ _ ix0 (fun q => q.elim0)).trans (cst_11_at V))

theorem cst_10_at :
    cst_10 V ix0 = 0 :=
  (congrFun (cst_10_eq V) _).trans (Ideal.ofBits_zero_f32)

theorem v300_n_0_at (n : Fin 32768) :
    v300 V (ix2 n (0 : Fin 3)) = ((w30 (gram V) (corr V n)) * (w30 (gram V) (corr V n))) :=
  (congrFun (v300_eq V) _).trans (mul_at (v299_n_0_at V n) (v299_n_0_at V n))

theorem v300_n_1_at (n : Fin 32768) :
    v300 V (ix2 n (1 : Fin 3)) = ((w31 (gram V) (corr V n)) * (w31 (gram V) (corr V n))) :=
  (congrFun (v300_eq V) _).trans (mul_at (v299_n_1_at V n) (v299_n_1_at V n))

theorem v300_n_2_at (n : Fin 32768) :
    v300 V (ix2 n (2 : Fin 3)) = ((w32 (gram V) (corr V n)) * (w32 (gram V) (corr V n))) :=
  (congrFun (v300_eq V) _).trans (mul_at (v299_n_2_at V n) (v299_n_2_at V n))

theorem v301_n_at (n : Fin 32768) :
    v301 V (ix1 n) = ((((w30 (gram V) (corr V n)) * (w30 (gram V) (corr V n))) + ((w31 (gram V) (corr V n)) * (w31 (gram V) (corr V n)))) + ((w32 (gram V) (corr V n)) * (w32 (gram V) (corr V n)))) :=
  (congrFun (v301_eq V) _).trans (rowSum3_at (cst_10_at V) _ (v300_n_0_at V n) (v300_n_1_at V n) (v300_n_2_at V n))

theorem v302_n_0_at (n : Fin 32768) :
    v302 V (ix2 n (0 : Fin 1)) = ((((w30 (gram V) (corr V n)) * (w30 (gram V) (corr V n))) + ((w31 (gram V) (corr V n)) * (w31 (gram V) (corr V n)))) + ((w32 (gram V) (corr V n)) * (w32 (gram V) (corr V n)))) :=
  (congrFun (v302_eq V) _).trans ((broadcastInDim_apply _ _ _ _ (ix1 n) (fun q => match q with | ⟨0, _⟩ => rfl)).trans (v301_n_at V n))

theorem v304_n_0_at (n : Fin 32768) :
    v304 V (ix2 n (0 : Fin 1)) = (1 - ((((w30 (gram V) (corr V n)) * (w30 (gram V) (corr V n))) + ((w31 (gram V) (corr V n)) * (w31 (gram V) (corr V n)))) + ((w32 (gram V) (corr V n)) * (w32 (gram V) (corr V n))))) :=
  (congrFun (v304_eq V) _).trans (sub_at (v303_n_0_at V n) (v302_n_0_at V n))

theorem cst_12_at :
    cst_12 V ix0 = (Ideal.ofBits .f32 0x2B8CBCCC#32) :=
  (congrFun (cst_12_eq V) _).trans (rfl)

theorem v305_n_0_at (n : Fin 32768) :
    v305 V (ix2 n (0 : Fin 1)) = (Ideal.ofBits .f32 0x2B8CBCCC#32) :=
  (congrFun (v305_eq V) _).trans ((broadcastInDim_apply _ _ _ _ ix0 (fun q => q.elim0)).trans (cst_12_at V))

theorem v306_n_0_at (n : Fin 32768) :
    v306 V (ix2 n (0 : Fin 1)) = (max (1 - ((((w30 (gram V) (corr V n)) * (w30 (gram V) (corr V n))) + ((w31 (gram V) (corr V n)) * (w31 (gram V) (corr V n)))) + ((w32 (gram V) (corr V n)) * (w32 (gram V) (corr V n))))) (Ideal.ofBits .f32 0x2B8CBCCC#32)) :=
  (congrFun (v306_eq V) _).trans (max_at (v304_n_0_at V n) (v305_n_0_at V n))

theorem v307_n_0_at (n : Fin 32768) :
    v307 V (ix2 n (0 : Fin 1)) = (l3 (gram V) (corr V n)) :=
  (congrFun (v307_eq V) _).trans (sqrt_at (v306_n_0_at V n))

theorem v310_n_3_at (n : Fin 32768) :
    v310 V (ix2 n (3 : Fin 4)) = (l3 (gram V) (corr V n)) :=
  (congrFun (v310_eq V) _).trans ((cat2_right (N := 32768) (p := 3) (q := 1) (r := 4) (x := v299 V) (y := v307 V) _ (n := n) (k := (3 : Fin 4)) (0 : Fin 1) rfl).trans (v307_n_0_at V n))

theorem v311_n_0_3_at (n : Fin 32768) :
    v311 V (ix3 n (0 : Fin 1) (3 : Fin 4)) = (l3 (gram V) (corr V n)) :=
  (congrFun (v311_eq V) _).trans ((broadcastInDim_apply _ _ _ _ (ix2 n (3 : Fin 4)) (fun q => match q with | ⟨0, _⟩ => rfl | ⟨1, _⟩ => rfl)).trans (v310_n_3_at V n))

theorem v312_n_3_3_at (n : Fin 32768) :
    v312 V (ix3 n (3 : Fin 4) (3 : Fin 4)) = (l3 (gram V) (corr V n)) :=
  (congrFun (v312_eq V) _).trans ((catMid_right (N := 32768) (p := 3) (q := 1) (r := 4) (m := 4) (x := v309 V) (y := v311 V) _ (n := n) (k := (3 : Fin 4)) (j := (3 : Fin 4)) (0 : Fin 1) rfl).trans (v311_n_0_3_at V n))

theorem v362_n_0_0_at (n : Fin 32768) :
    v362 V (ix3 n (0 : Fin 1) (0 : Fin 1)) = (l3 (gram V) (corr V n)) :=
  (congrFun (v362_eq V) _).trans ((extractStridedSlice_apply _ _ _ _ (ix3 n (3 : Fin 4) (3 : Fin 4)) (fun q => match q with | ⟨0, _⟩ => (Nat.zero_add _).symm | ⟨1, _⟩ => rfl | ⟨2, _⟩ => rfl)).trans (v312_n_3_3_at V n))

theorem v363_n_at (n : Fin 32768) :
    v363 V (ix1 n) = (l3 (gram V) (corr V n)) :=
  (congrFun (v363_eq V) _).trans ((cast_n11 _ _ _).trans (v362_n_0_0_at V n))

theorem v364_n_at (n : Fin 32768) :
    v364 V (ix1 n) = (y3 (gram V) (corr V n)) :=
  (congrFun (v364_eq V) _).trans (div_at (v361_n_at V n) (v363_n_at V n))

theorem v368_n_0_at (n : Fin 32768) :
    v368 V (ix2 n (0 : Fin 1)) = (y3 (gram V) (corr V n)) :=
  (congrFun (v368_eq V) _).trans ((broadcastInDim_apply _ _ _ _ (ix1 n) (fun q => match q with | ⟨0, _⟩ => rfl)).trans (v364_n_at V n))

theorem v369_n_3_at (n : Fin 32768) :
    v369 V (ix2 n (3 : Fin 4)) = (y3 (gram V) (corr V n)) :=
  (congrFun (v369_eq V) _).trans ((columns4_at _ (3 : Fin 4)).trans (v368_n_0_at V n))

theorem v371_n_0_at (n : Fin 32768) :
    v371 V (ix2 n (0 : Fin 1)) = (y3 (gram V) (corr V n)) :=
  (congrFun (v371_eq V) _).trans ((extractStridedSlice_apply _ _ _ _ (ix2 n (3 : Fin 4)) (fun q => match q with | ⟨0, _⟩ => (Nat.zero_add _).symm | ⟨1, _⟩ => rfl)).trans (v369_n_3_at V n))

theorem v372_n_at (n : Fin 32768) :
    v372 V (ix1 n) = (y3 (gram V) (corr V n)) :=
  (congrFun (v372_eq V) _).trans ((cast_n1 _ _ _).trans (v371_n_0_at V n))

theorem v370_n_3_3_at (n : Fin 32768) :
    v370 V (ix3 n (3 : Fin 4) (3 : Fin 4)) = (l3 (gram V) (corr V n)) :=
  (congrFun (v370_eq V) _).trans ((transpose_apply _ _ _ _ (ix3 n (3 : Fin 4) (3 : Fin 4)) (fun q => match q with | ⟨0, _⟩ => rfl | ⟨1, _⟩ => rfl | ⟨2, _⟩ => rfl)).trans (v312_n_3_3_at V n))

theorem v373_n_0_0_at (n : Fin 32768) :
    v373 V (ix3 n (0 : Fin 1) (0 : Fin 1)) = (l3 (gram V) (corr V n)) :=
  (congrFun (v373_eq V) _).trans ((extractStridedSlice_apply _ _ _ _ (ix3 n (3 : Fin 4) (3 : Fin 4)) (fun q => match q with | ⟨0, _⟩ => (Nat.zero_add _).symm | ⟨1, _⟩ => rfl | ⟨2, _⟩ => rfl)).trans (v370_n_3_3_at V n))

theorem v374_n_at (n : Fin 32768) :
    v374 V (ix1 n) = (l3 (gram V) (corr V n)) :=
  (congrFun (v374_eq V) _).trans ((cast_n11 _ _ _).trans (v373_n_0_0_at V n))

theorem v375_n_at (n : Fin 32768) :
    v375 V (ix1 n) = (x33 (gram V) (corr V n)) :=
  (congrFun (v375_eq V) _).trans (div_at (v372_n_at V n) (v374_n_at V n))

theorem v380_n_at (n : Fin 32768) :
    v380 V (ix1 n) = ((w32 (gram V) (corr V n)) * (x33 (gram V) (corr V n))) :=
  (congrFun (v380_eq V) _).trans (mul_at (v379_n_at V n) (v375_n_at V n))

theorem v381_n_at (n : Fin 32768) :
    v381 V (ix1 n) = ((y2 (gram V) (corr V n)) - ((w32 (gram V) (corr V n)) * (x33 (gram V) (corr V n)))) :=
  (congrFun (v381_eq V) _).trans (sub_at (v377_n_at V n) (v380_n_at V n))

theorem v370_n_2_2_at (n : Fin 32768) :
    v370 V (ix3 n (2 : Fin 4) (2 : Fin 4)) = (l2 (gram V) (corr V n)) :=
  (congrFun (v370_eq V) _).trans ((transpose_apply _ _ _ _ (ix3 n (2 : Fin 4) (2 : Fin 4)) (fun q => match q with | ⟨0, _⟩ => rfl | ⟨1, _⟩ => rfl | ⟨2, _⟩ => rfl)).trans (v312_n_2_2_at V n))

theorem v382_n_0_0_at (n : Fin 32768) :
    v382 V (ix3 n (0 : Fin 1) (0 : Fin 1)) = (l2 (gram V) (corr V n)) :=
  (congrFun (v382_eq V) _).trans ((extractStridedSlice_apply _ _ _ _ (ix3 n (2 : Fin 4) (2 : Fin 4)) (fun q => match q with | ⟨0, _⟩ => (Nat.zero_add _).symm | ⟨1, _⟩ => rfl | ⟨2, _⟩ => rfl)).trans (v370_n_2_2_at V n))

theorem v383_n_at (n : Fin 32768) :
    v383 V (ix1 n) = (l2 (gram V) (corr V n)) :=
  (congrFun (v383_eq V) _).trans ((cast_n11 _ _ _).trans (v382_n_0_0_at V n))

theorem v384_n_at (n : Fin 32768) :
    v384 V (ix1 n) = (x32 (gram V) (corr V n)) :=
  (congrFun (v384_eq V) _).trans (div_at (v381_n_at V n) (v383_n_at V n))

theorem v389_n_at (n : Fin 32768) :
    v389 V (ix1 n) = ((w21 (gram V) (corr V n)) * (x32 (gram V) (corr V n))) :=
  (congrFun (v389_eq V) _).trans (mul_at (v388_n_at V n) (v384_n_at V n))

theorem v390_n_at (n : Fin 32768) :
    v390 V (ix1 n) = ((y1 (gram V) (corr V n)) - ((w21 (gram V) (corr V n)) * (x32 (gram V) (corr V n)))) :=
  (congrFun (v390_eq V) _).trans (sub_at (v386_n_at V n) (v389_n_at V n))

theorem v370_n_1_3_at (n : Fin 32768) :
    v370 V (ix3 n (1 : Fin 4) (3 : Fin 4)) = (w31 (gram V) (corr V n)) :=
  (congrFun (v370_eq V) _).trans ((transpose_apply _ _ _ _ (ix3 n (3 : Fin 4) (1 : Fin 4)) (fun q => match q with | ⟨0, _⟩ => rfl | ⟨1, _⟩ => rfl | ⟨2, _⟩ => rfl)).trans (v312_n_3_1_at V n))

theorem v391_n_0_0_at (n : Fin 32768) :
    v391 V (ix3 n (0 : Fin 1) (0 : Fin 1)) = (w31 (gram V) (corr V n)) :=
  (congrFun (v391_eq V) _).trans ((extractStridedSlice_apply _ _ _ _ (ix3 n (1 : Fin 4) (3 : Fin 4)) (fun q => match q with | ⟨0, _⟩ => (Nat.zero_add _).symm | ⟨1, _⟩ => rfl | ⟨2, _⟩ => rfl)).trans (v370_n_1_3_at V n))

theorem v392_n_at (n : Fin 32768) :
    v392 V (ix1 n) = (w31 (gram V) (corr V n)) :=
  (congrFun (v392_eq V) _).trans ((cast_n11 _ _ _).trans (v391_n_0_0_at V n))

theorem v393_n_at (n : Fin 32768) :
    v393 V (ix1 n) = ((w31 (gram V) (corr V n)) * (x33 (gram V) (corr V n))) :=
  (congrFun (v393_eq V) _).trans (mul_at (v392_n_at V n) (v375_n_at V n))

theorem v394_n_at (n : Fin 32768) :
    v394 V (ix1 n) = (((y1 (gram V) (corr V n)) - ((w21 (gram V) (corr V n)) * (x32 (gram V) (corr V n)))) - ((w31 (gram V) (corr V n)) * (x33 (gram V) (corr V n)))) :=
  (congrFun (v394_eq V) _).trans (sub_at (v390_n_at V n) (v393_n_at V n))

theorem v370_n_1_1_at (n : Fin 32768) :
    v370 V (ix3 n (1 : Fin 4) (1 : Fin 4)) = (l1 (gram V) (corr V n)) :=
  (congrFun (v370_eq V) _).trans ((transpose_apply _ _ _ _ (ix3 n (1 : Fin 4) (1 : Fin 4)) (fun q => match q with | ⟨0, _⟩ => rfl | ⟨1, _⟩ => rfl | ⟨2, _⟩ => rfl)).trans (v312_n_1_1_at V n))

theorem v395_n_0_0_at (n : Fin 32768) :
    v395 V (ix3 n (0 : Fin 1) (0 : Fin 1)) = (l1 (gram V) (corr V n)) :=
  (congrFun (v395_eq V) _).trans ((extractStridedSlice_apply _ _ _ _ (ix3 n (1 : Fin 4) (1 : Fin 4)) (fun q => match q with | ⟨0, _⟩ => (Nat.zero_add _).symm | ⟨1, _⟩ => rfl | ⟨2, _⟩ => rfl)).trans (v370_n_1_1_at V n))

theorem v396_n_at (n : Fin 32768) :
    v396 V (ix1 n) = (l1 (gram V) (corr V n)) :=
  (congrFun (v396_eq V) _).trans ((cast_n11 _ _ _).trans (v395_n_0_0_at V n))

theorem v397_n_at (n : Fin 32768) :
    v397 V (ix1 n) = (x31 (gram V) (corr V n)) :=
  (congrFun (v397_eq V) _).trans (div_at (v394_n_at V n) (v396_n_at V n))

theorem v402_n_at (n : Fin 32768) :
    v402 V (ix1 n) = ((w10 (gram V) (corr V n)) * (x31 (gram V) (corr V n))) :=
  (congrFun (v402_eq V) _).trans (mul_at (v401_n_at V n) (v397_n_at V n))

theorem v403_n_at (n : Fin 32768) :
    v403 V (ix1 n) = ((y0 (gram V) (corr V n)) - ((w10 (gram V) (corr V n)) * (x31 (gram V) (corr V n)))) :=
  (congrFun (v403_eq V) _).trans (sub_at (v399_n_at V n) (v402_n_at V n))

theorem v370_n_0_2_at (n : Fin 32768) :
    v370 V (ix3 n (0 : Fin 4) (2 : Fin 4)) = (w20 (gram V) (corr V n)) :=
  (congrFun (v370_eq V) _).trans ((transpose_apply _ _ _ _ (ix3 n (2 : Fin 4) (0 : Fin 4)) (fun q => match q with | ⟨0, _⟩ => rfl | ⟨1, _⟩ => rfl | ⟨2, _⟩ => rfl)).trans (v312_n_2_0_at V n))

theorem v404_n_0_0_at (n : Fin 32768) :
    v404 V (ix3 n (0 : Fin 1) (0 : Fin 1)) = (w20 (gram V) (corr V n)) :=
  (congrFun (v404_eq V) _).trans ((extractStridedSlice_apply _ _ _ _ (ix3 n (0 : Fin 4) (2 : Fin 4)) (fun q => match q with | ⟨0, _⟩ => (Nat.zero_add _).symm | ⟨1, _⟩ => rfl | ⟨2, _⟩ => rfl)).trans (v370_n_0_2_at V n))

theorem v405_n_at (n : Fin 32768) :
    v405 V (ix1 n) = (w20 (gram V) (corr V n)) :=
  (congrFun (v405_eq V) _).trans ((cast_n11 _ _ _).trans (v404_n_0_0_at V n))

theorem v406_n_at (n : Fin 32768) :
    v406 V (ix1 n) = ((w20 (gram V) (corr V n)) * (x32 (gram V) (corr V n))) :=
  (congrFun (v406_eq V) _).trans (mul_at (v405_n_at V n) (v384_n_at V n))

theorem v407_n_at (n : Fin 32768) :
    v407 V (ix1 n) = (((y0 (gram V) (corr V n)) - ((w10 (gram V) (corr V n)) * (x31 (gram V) (corr V n)))) - ((w20 (gram V) (corr V n)) * (x32 (gram V) (corr V n)))) :=
  (congrFun (v407_eq V) _).trans (sub_at (v403_n_at V n) (v406_n_at V n))

theorem v370_n_0_3_at (n : Fin 32768) :
    v370 V (ix3 n (0 : Fin 4) (3 : Fin 4)) = (w30 (gram V) (corr V n)) :=
  (congrFun (v370_eq V) _).trans ((transpose_apply _ _ _ _ (ix3 n (3 : Fin 4) (0 : Fin 4)) (fun q => match q with | ⟨0, _⟩ => rfl | ⟨1, _⟩ => rfl | ⟨2, _⟩ => rfl)).trans (v312_n_3_0_at V n))

theorem v408_n_0_0_at (n : Fin 32768) :
    v408 V (ix3 n (0 : Fin 1) (0 : Fin 1)) = (w30 (gram V) (corr V n)) :=
  (congrFun (v408_eq V) _).trans ((extractStridedSlice_apply _ _ _ _ (ix3 n (0 : Fin 4) (3 : Fin 4)) (fun q => match q with | ⟨0, _⟩ => (Nat.zero_add _).symm | ⟨1, _⟩ => rfl | ⟨2, _⟩ => rfl)).trans (v370_n_0_3_at V n))

theorem v409_n_at (n : Fin 32768) :
    v409 V (ix1 n) = (w30 (gram V) (corr V n)) :=
  (congrFun (v409_eq V) _).trans ((cast_n11 _ _ _).trans (v408_n_0_0_at V n))

theorem v410_n_at (n : Fin 32768) :
    v410 V (ix1 n) = ((w30 (gram V) (corr V n)) * (x33 (gram V) (corr V n))) :=
  (congrFun (v410_eq V) _).trans (mul_at (v409_n_at V n) (v375_n_at V n))

theorem v411_n_at (n : Fin 32768) :
    v411 V (ix1 n) = (x30 (gram V) (corr V n)) :=
  (congrFun (v411_eq V) _).trans (sub_at (v407_n_at V n) (v410_n_at V n))

theorem v370_n_0_0_at (n : Fin 32768) :
    v370 V (ix3 n (0 : Fin 4) (0 : Fin 4)) = 1 :=
  (congrFun (v370_eq V) _).trans ((transpose_apply _ _ _ _ (ix3 n (0 : Fin 4) (0 : Fin 4)) (fun q => match q with | ⟨0, _⟩ => rfl | ⟨1, _⟩ => rfl | ⟨2, _⟩ => rfl)).trans (v312_n_0_0_at V n))

theorem v412_n_0_0_at (n : Fin 32768) :
    v412 V (ix3 n (0 : Fin 1) (0 : Fin 1)) = 1 :=
  (congrFun (v412_eq V) _).trans ((extractStridedSlice_apply _ _ _ _ (ix3 n (0 : Fin 4) (0 : Fin 4)) (fun q => match q with | ⟨0, _⟩ => (Nat.zero_add _).symm | ⟨1, _⟩ => rfl | ⟨2, _⟩ => rfl)).trans (v370_n_0_0_at V n))

theorem v413_n_at (n : Fin 32768) :
    v413 V (ix1 n) = 1 :=
  (congrFun (v413_eq V) _).trans ((cast_n11 _ _ _).trans (v412_n_0_0_at V n))

theorem v414_n_at (n : Fin 32768) :
    v414 V (ix1 n) = (x30 (gram V) (corr V n)) :=
  (congrFun (v414_eq V) _).trans (div_one_at (v411_n_at V n) (v413_n_at V n))

theorem v415_n_0_at (n : Fin 32768) :
    v415 V (ix2 n (0 : Fin 1)) = (x30 (gram V) (corr V n)) :=
  (congrFun (v415_eq V) _).trans ((broadcastInDim_apply _ _ _ _ (ix1 n) (fun q => match q with | ⟨0, _⟩ => rfl)).trans (v414_n_at V n))

theorem v419_n_0_at (n : Fin 32768) :
    v419 V (ix2 n (0 : Fin 4)) = (x30 (gram V) (corr V n)) :=
  (congrFun (v419_eq V) _).trans ((columns4_at _ (0 : Fin 4)).trans (v415_n_0_at V n))

theorem call5_v2_n_0_at (n : Fin 32768) :
    call5_v2 V (ix2 n (0 : Fin 4)) = (max (Ideal.ofBits .f32 0xC0000000#32) (x30 (gram V) (corr V n))) :=
  (congrFun (call5_v2_eq V) _).trans (max_at (call5_v1_n_0_at V n) (v419_n_0_at V n))

theorem v421_n_0_at (n : Fin 32768) :
    v421 V (ix2 n (0 : Fin 4)) = (min (Ideal.ofBits .f32 0x40000000#32) (max (Ideal.ofBits .f32 0xC0000000#32) (x30 (gram V) (corr V n)))) :=
  (congrFun (v421_eq V) _).trans (min_at (call5_v4_n_0_at V n) (call5_v2_n_0_at V n))

theorem cst_18_at :
    cst_18 V ix0 = (Ideal.ofBits .f32 0x40000000#32) :=
  (congrFun (cst_18_eq V) _).trans (rfl)

theorem v422_n_0_at (n : Fin 32768) :
    v422 V (ix2 n (0 : Fin 4)) = (Ideal.ofBits .f32 0x40000000#32) :=
  (congrFun (v422_eq V) _).trans ((broadcastInDim_apply _ _ _ _ ix0 (fun q => q.elim0)).trans (cst_18_at V))

theorem v423_n_0_at (n : Fin 32768) :
    v423 V (ix2 n (0 : Fin 4)) = ((min (Ideal.ofBits .f32 0x40000000#32) (max (Ideal.ofBits .f32 0xC0000000#32) (x30 (gram V) (corr V n)))) + (Ideal.ofBits .f32 0x40000000#32)) :=
  (congrFun (v423_eq V) _).trans (add_at (v421_n_0_at V n) (v422_n_0_at V n))

theorem cst_19_at :
    cst_19 V ix0 = (Ideal.ofBits .f32 0x40800000#32) :=
  (congrFun (cst_19_eq V) _).trans (rfl)

theorem v424_n_0_at (n : Fin 32768) :
    v424 V (ix2 n (0 : Fin 4)) = (Ideal.ofBits .f32 0x40800000#32) :=
  (congrFun (v424_eq V) _).trans ((broadcastInDim_apply _ _ _ _ ix0 (fun q => q.elim0)).trans (cst_19_at V))

theorem v425_n_0_at (n : Fin 32768) :
    v425 V (ix2 n (0 : Fin 4)) = (Ideal.div ((min (Ideal.ofBits .f32 0x40000000#32) (max (Ideal.ofBits .f32 0xC0000000#32) (x30 (gram V) (corr V n)))) + (Ideal.ofBits .f32 0x40000000#32)) (Ideal.ofBits .f32 0x40800000#32)) :=
  (congrFun (v425_eq V) _).trans (div_at (v423_n_0_at V n) (v424_n_0_at V n))

theorem cst_20_at :
    cst_20 V ix0 = (Ideal.ofBits .f32 0x42000000#32) :=
  (congrFun (cst_20_eq V) _).trans (rfl)

theorem v426_n_0_at (n : Fin 32768) :
    v426 V (ix2 n (0 : Fin 4)) = (Ideal.ofBits .f32 0x42000000#32) :=
  (congrFun (v426_eq V) _).trans ((broadcastInDim_apply _ _ _ _ ix0 (fun q => q.elim0)).trans (cst_20_at V))

theorem v427_n_0_at (n : Fin 32768) :
    v427 V (ix2 n (0 : Fin 4)) = ((Ideal.div ((min (Ideal.ofBits .f32 0x40000000#32) (max (Ideal.ofBits .f32 0xC0000000#32) (x30 (gram V) (corr V n)))) + (Ideal.ofBits .f32 0x40000000#32)) (Ideal.ofBits .f32 0x40800000#32)) * (Ideal.ofBits .f32 0x42000000#32)) :=
  (congrFun (v427_eq V) _).trans (mul_at (v425_n_0_at V n) (v426_n_0_at V n))

theorem v428_n_0_at (n : Fin 32768) :
    v428 V (ix2 n (0 : Fin 4)) = (FloatOps.roundeven (F := Ideal) (φ := .f32) ((Ideal.div ((min (Ideal.ofBits .f32 0x40000000#32) (max (Ideal.ofBits .f32 0xC0000000#32) (x30 (gram V) (corr V n)))) + (Ideal.ofBits .f32 0x40000000#32)) (Ideal.ofBits .f32 0x40800000#32)) * (Ideal.ofBits .f32 0x42000000#32))) :=
  (congrFun (v428_eq V) _).trans (round_at (v427_n_0_at V n))

theorem v429_n_0_at (n : Fin 32768) :
    v429 V (ix2 n (0 : Fin 4)) = (FloatOps.fptosi (F := Ideal) (φ := .f32) 32 (FloatOps.roundeven (F := Ideal) (φ := .f32) ((Ideal.div ((min (Ideal.ofBits .f32 0x40000000#32) (max (Ideal.ofBits .f32 0xC0000000#32) (x30 (gram V) (corr V n)))) + (Ideal.ofBits .f32 0x40000000#32)) (Ideal.ofBits .f32 0x40800000#32)) * (Ideal.ofBits .f32 0x42000000#32)))) :=
  (congrFun (v429_eq V) _).trans (toInt_at (v428_n_0_at V n))

theorem call7_v2_n_0_at (n : Fin 32768) :
    call7_v2 V (ix2 n (0 : Fin 4)) = (IntOp.maxsi 0#32 (FloatOps.fptosi (F := Ideal) (φ := .f32) 32 (FloatOps.roundeven (F := Ideal) (φ := .f32) ((Ideal.div ((min (Ideal.ofBits .f32 0x40000000#32) (max (Ideal.ofBits .f32 0xC0000000#32) (x30 (gram V) (corr V n)))) + (Ideal.ofBits .f32 0x40000000#32)) (Ideal.ofBits .f32 0x40800000#32)) * (Ideal.ofBits .f32 0x42000000#32))))) :=
  (congrFun (call7_v2_eq V) _).trans (maxsi_at (call7_v1_n_0_at V n) (v429_n_0_at V n))

theorem v430_n_0_at (n : Fin 32768) :
    v430 V (ix2 n (0 : Fin 4)) = (bin (x30 (gram V) (corr V n))) :=
  (congrFun (v430_eq V) _).trans (minsi_at (call7_v4_n_0_at V n) (call7_v2_n_0_at V n))

theorem v435_n_0_at (n : Fin 32768) :
    v435 V (ix2 n (0 : Fin 4)) = (IntOp.addi (IntOp.muli (word (i0 (gram V) (corr V n))) 33#32) (bin (x30 (gram V) (corr V n)))) :=
  (congrFun (v435_eq V) _).trans (addi_at (v434_n_0_at V n) (v430_n_0_at V n))

theorem v433_n_1_at (n : Fin 32768) :
    v433 V (ix2 n (1 : Fin 4)) = 33#32 :=
  (congrFun (v433_eq V) _).trans ((broadcastInDim_apply _ _ _ _ ix0 (fun q => q.elim0)).trans (c_23_at V))

theorem v434_n_1_at (n : Fin 32768) :
    v434 V (ix2 n (1 : Fin 4)) = (IntOp.muli (word (i1 (gram V) (corr V n))) 33#32) :=
  (congrFun (v434_eq V) _).trans (muli_at (v314_n_1_at V n) (v433_n_1_at V n))

theorem call7_v4_n_1_at (n : Fin 32768) :
    call7_v4 V (ix2 n (1 : Fin 4)) = 32#32 :=
  (congrFun (call7_v4_eq V) _).trans ((broadcastInDim_apply _ _ _ _ ix0 (fun q => q.elim0)).trans (call7_v3_at V))

theorem call7_v1_n_1_at (n : Fin 32768) :
    call7_v1 V (ix2 n (1 : Fin 4)) = 0#32 :=
  (congrFun (call7_v1_eq V) _).trans ((broadcastInDim_apply _ _ _ _ ix0 (fun q => q.elim0)).trans (call7_v0_at V))

theorem call5_v4_n_1_at (n : Fin 32768) :
    call5_v4 V (ix2 n (1 : Fin 4)) = (Ideal.ofBits .f32 0x40000000#32) :=
  (congrFun (call5_v4_eq V) _).trans ((broadcastInDim_apply _ _ _ _ ix0 (fun q => q.elim0)).trans (call5_v3_at V))

theorem call5_v1_n_1_at (n : Fin 32768) :
    call5_v1 V (ix2 n (1 : Fin 4)) = (Ideal.ofBits .f32 0xC0000000#32) :=
  (congrFun (call5_v1_eq V) _).trans ((broadcastInDim_apply _ _ _ _ ix0 (fun q => q.elim0)).trans (call5_v0_at V))

theorem v416_n_0_at (n : Fin 32768) :
    v416 V (ix2 n (0 : Fin 1)) = (x31 (gram V) (corr V n)) :=
  (congrFun (v416_eq V) _).trans ((broadcastInDim_apply _ _ _ _ (ix1 n) (fun q => match q with | ⟨0, _⟩ => rfl)).trans (v397_n_at V n))

theorem v419_n_1_at (n : Fin 32768) :
    v419 V (ix2 n (1 : Fin 4)) = (x31 (gram V) (corr V n)) :=
  (congrFun (v419_eq V) _).trans ((columns4_at _ (1 : Fin 4)).trans (v416_n_0_at V n))

theorem call5_v2_n_1_at (n : Fin 32768) :
    call5_v2 V (ix2 n (1 : Fin 4)) = (max (Ideal.ofBits .f32 0xC0000000#32) (x31 (gram V) (corr V n))) :=
  (congrFun (call5_v2_eq V) _).trans (max_at (call5_v1_n_1_at V n) (v419_n_1_at V n))

theorem v421_n_1_at (n : Fin 32768) :
    v421 V (ix2 n (1 : Fin 4)) = (min (Ideal.ofBits .f32 0x40000000#32) (max (Ideal.ofBits .f32 0xC0000000#32) (x31 (gram V) (corr V n)))) :=
  (congrFun (v421_eq V) _).trans (min_at (call5_v4_n_1_at V n) (call5_v2_n_1_at V n))

theorem v422_n_1_at (n : Fin 32768) :
    v422 V (ix2 n (1 : Fin 4)) = (Ideal.ofBits .f32 0x40000000#32) :=
  (congrFun (v422_eq V) _).trans ((broadcastInDim_apply _ _ _ _ ix0 (fun q => q.elim0)).trans (cst_18_at V))

theorem v423_n_1_at (n : Fin 32768) :
    v423 V (ix2 n (1 : Fin 4)) = ((min (Ideal.ofBits .f32 0x40000000#32) (max (Ideal.ofBits .f32 0xC0000000#32) (x31 (gram V) (corr V n)))) + (Ideal.ofBits .f32 0x40000000#32)) :=
  (congrFun (v423_eq V) _).trans (add_at (v421_n_1_at V n) (v422_n_1_at V n))

theorem v424_n_1_at (n : Fin 32768) :
    v424 V (ix2 n (1 : Fin 4)) = (Ideal.ofBits .f32 0x40800000#32) :=
  (congrFun (v424_eq V) _).trans ((broadcastInDim_apply _ _ _ _ ix0 (fun q => q.elim0)).trans (cst_19_at V))

theorem v425_n_1_at (n : Fin 32768) :
    v425 V (ix2 n (1 : Fin 4)) = (Ideal.div ((min (Ideal.ofBits .f32 0x40000000#32) (max (Ideal.ofBits .f32 0xC0000000#32) (x31 (gram V) (corr V n)))) + (Ideal.ofBits .f32 0x40000000#32)) (Ideal.ofBits .f32 0x40800000#32)) :=
  (congrFun (v425_eq V) _).trans (div_at (v423_n_1_at V n) (v424_n_1_at V n))

theorem v426_n_1_at (n : Fin 32768) :
    v426 V (ix2 n (1 : Fin 4)) = (Ideal.ofBits .f32 0x42000000#32) :=
  (congrFun (v426_eq V) _).trans ((broadcastInDim_apply _ _ _ _ ix0 (fun q => q.elim0)).trans (cst_20_at V))

theorem v427_n_1_at (n : Fin 32768) :
    v427 V (ix2 n (1 : Fin 4)) = ((Ideal.div ((min (Ideal.ofBits .f32 0x40000000#32) (max (Ideal.ofBits .f32 0xC0000000#32) (x31 (gram V) (corr V n)))) + (Ideal.ofBits .f32 0x40000000#32)) (Ideal.ofBits .f32 0x40800000#32)) * (Ideal.ofBits .f32 0x42000000#32)) :=
  (congrFun (v427_eq V) _).trans (mul_at (v425_n_1_at V n) (v426_n_1_at V n))

theorem v428_n_1_at (n : Fin 32768) :
    v428 V (ix2 n (1 : Fin 4)) = (FloatOps.roundeven (F := Ideal) (φ := .f32) ((Ideal.div ((min (Ideal.ofBits .f32 0x40000000#32) (max (Ideal.ofBits .f32 0xC0000000#32) (x31 (gram V) (corr V n)))) + (Ideal.ofBits .f32 0x40000000#32)) (Ideal.ofBits .f32 0x40800000#32)) * (Ideal.ofBits .f32 0x42000000#32))) :=
  (congrFun (v428_eq V) _).trans (round_at (v427_n_1_at V n))

theorem v429_n_1_at (n : Fin 32768) :
    v429 V (ix2 n (1 : Fin 4)) = (FloatOps.fptosi (F := Ideal) (φ := .f32) 32 (FloatOps.roundeven (F := Ideal) (φ := .f32) ((Ideal.div ((min (Ideal.ofBits .f32 0x40000000#32) (max (Ideal.ofBits .f32 0xC0000000#32) (x31 (gram V) (corr V n)))) + (Ideal.ofBits .f32 0x40000000#32)) (Ideal.ofBits .f32 0x40800000#32)) * (Ideal.ofBits .f32 0x42000000#32)))) :=
  (congrFun (v429_eq V) _).trans (toInt_at (v428_n_1_at V n))

theorem call7_v2_n_1_at (n : Fin 32768) :
    call7_v2 V (ix2 n (1 : Fin 4)) = (IntOp.maxsi 0#32 (FloatOps.fptosi (F := Ideal) (φ := .f32) 32 (FloatOps.roundeven (F := Ideal) (φ := .f32) ((Ideal.div ((min (Ideal.ofBits .f32 0x40000000#32) (max (Ideal.ofBits .f32 0xC0000000#32) (x31 (gram V) (corr V n)))) + (Ideal.ofBits .f32 0x40000000#32)) (Ideal.ofBits .f32 0x40800000#32)) * (Ideal.ofBits .f32 0x42000000#32))))) :=
  (congrFun (call7_v2_eq V) _).trans (maxsi_at (call7_v1_n_1_at V n) (v429_n_1_at V n))

theorem v430_n_1_at (n : Fin 32768) :
    v430 V (ix2 n (1 : Fin 4)) = (bin (x31 (gram V) (corr V n))) :=
  (congrFun (v430_eq V) _).trans (minsi_at (call7_v4_n_1_at V n) (call7_v2_n_1_at V n))

theorem v435_n_1_at (n : Fin 32768) :
    v435 V (ix2 n (1 : Fin 4)) = (IntOp.addi (IntOp.muli (word (i1 (gram V) (corr V n))) 33#32) (bin (x31 (gram V) (corr V n)))) :=
  (congrFun (v435_eq V) _).trans (addi_at (v434_n_1_at V n) (v430_n_1_at V n))

theorem v433_n_2_at (n : Fin 32768) :
    v433 V (ix2 n (2 : Fin 4)) = 33#32 :=
  (congrFun (v433_eq V) _).trans ((broadcastInDim_apply _ _ _ _ ix0 (fun q => q.elim0)).trans (c_23_at V))

theorem v434_n_2_at (n : Fin 32768) :
    v434 V (ix2 n (2 : Fin 4)) = (IntOp.muli (word (i2 (gram V) (corr V n))) 33#32) :=
  (congrFun (v434_eq V) _).trans (muli_at (v314_n_2_at V n) (v433_n_2_at V n))

theorem call7_v4_n_2_at (n : Fin 32768) :
    call7_v4 V (ix2 n (2 : Fin 4)) = 32#32 :=
  (congrFun (call7_v4_eq V) _).trans ((broadcastInDim_apply _ _ _ _ ix0 (fun q => q.elim0)).trans (call7_v3_at V))

theorem call7_v1_n_2_at (n : Fin 32768) :
    call7_v1 V (ix2 n (2 : Fin 4)) = 0#32 :=
  (congrFun (call7_v1_eq V) _).trans ((broadcastInDim_apply _ _ _ _ ix0 (fun q => q.elim0)).trans (call7_v0_at V))

theorem call5_v4_n_2_at (n : Fin 32768) :
    call5_v4 V (ix2 n (2 : Fin 4)) = (Ideal.ofBits .f32 0x40000000#32) :=
  (congrFun (call5_v4_eq V) _).trans ((broadcastInDim_apply _ _ _ _ ix0 (fun q => q.elim0)).trans (call5_v3_at V))

theorem call5_v1_n_2_at (n : Fin 32768) :
    call5_v1 V (ix2 n (2 : Fin 4)) = (Ideal.ofBits .f32 0xC0000000#32) :=
  (congrFun (call5_v1_eq V) _).trans ((broadcastInDim_apply _ _ _ _ ix0 (fun q => q.elim0)).trans (call5_v0_at V))

theorem v417_n_0_at (n : Fin 32768) :
    v417 V (ix2 n (0 : Fin 1)) = (x32 (gram V) (corr V n)) :=
  (congrFun (v417_eq V) _).trans ((broadcastInDim_apply _ _ _ _ (ix1 n) (fun q => match q with | ⟨0, _⟩ => rfl)).trans (v384_n_at V n))

theorem v419_n_2_at (n : Fin 32768) :
    v419 V (ix2 n (2 : Fin 4)) = (x32 (gram V) (corr V n)) :=
  (congrFun (v419_eq V) _).trans ((columns4_at _ (2 : Fin 4)).trans (v417_n_0_at V n))

theorem call5_v2_n_2_at (n : Fin 32768) :
    call5_v2 V (ix2 n (2 : Fin 4)) = (max (Ideal.ofBits .f32 0xC0000000#32) (x32 (gram V) (corr V n))) :=
  (congrFun (call5_v2_eq V) _).trans (max_at (call5_v1_n_2_at V n) (v419_n_2_at V n))

theorem v421_n_2_at (n : Fin 32768) :
    v421 V (ix2 n (2 : Fin 4)) = (min (Ideal.ofBits .f32 0x40000000#32) (max (Ideal.ofBits .f32 0xC0000000#32) (x32 (gram V) (corr V n)))) :=
  (congrFun (v421_eq V) _).trans (min_at (call5_v4_n_2_at V n) (call5_v2_n_2_at V n))

theorem v422_n_2_at (n : Fin 32768) :
    v422 V (ix2 n (2 : Fin 4)) = (Ideal.ofBits .f32 0x40000000#32) :=
  (congrFun (v422_eq V) _).trans ((broadcastInDim_apply _ _ _ _ ix0 (fun q => q.elim0)).trans (cst_18_at V))

theorem v423_n_2_at (n : Fin 32768) :
    v423 V (ix2 n (2 : Fin 4)) = ((min (Ideal.ofBits .f32 0x40000000#32) (max (Ideal.ofBits .f32 0xC0000000#32) (x32 (gram V) (corr V n)))) + (Ideal.ofBits .f32 0x40000000#32)) :=
  (congrFun (v423_eq V) _).trans (add_at (v421_n_2_at V n) (v422_n_2_at V n))

theorem v424_n_2_at (n : Fin 32768) :
    v424 V (ix2 n (2 : Fin 4)) = (Ideal.ofBits .f32 0x40800000#32) :=
  (congrFun (v424_eq V) _).trans ((broadcastInDim_apply _ _ _ _ ix0 (fun q => q.elim0)).trans (cst_19_at V))

theorem v425_n_2_at (n : Fin 32768) :
    v425 V (ix2 n (2 : Fin 4)) = (Ideal.div ((min (Ideal.ofBits .f32 0x40000000#32) (max (Ideal.ofBits .f32 0xC0000000#32) (x32 (gram V) (corr V n)))) + (Ideal.ofBits .f32 0x40000000#32)) (Ideal.ofBits .f32 0x40800000#32)) :=
  (congrFun (v425_eq V) _).trans (div_at (v423_n_2_at V n) (v424_n_2_at V n))

theorem v426_n_2_at (n : Fin 32768) :
    v426 V (ix2 n (2 : Fin 4)) = (Ideal.ofBits .f32 0x42000000#32) :=
  (congrFun (v426_eq V) _).trans ((broadcastInDim_apply _ _ _ _ ix0 (fun q => q.elim0)).trans (cst_20_at V))

theorem v427_n_2_at (n : Fin 32768) :
    v427 V (ix2 n (2 : Fin 4)) = ((Ideal.div ((min (Ideal.ofBits .f32 0x40000000#32) (max (Ideal.ofBits .f32 0xC0000000#32) (x32 (gram V) (corr V n)))) + (Ideal.ofBits .f32 0x40000000#32)) (Ideal.ofBits .f32 0x40800000#32)) * (Ideal.ofBits .f32 0x42000000#32)) :=
  (congrFun (v427_eq V) _).trans (mul_at (v425_n_2_at V n) (v426_n_2_at V n))

theorem v428_n_2_at (n : Fin 32768) :
    v428 V (ix2 n (2 : Fin 4)) = (FloatOps.roundeven (F := Ideal) (φ := .f32) ((Ideal.div ((min (Ideal.ofBits .f32 0x40000000#32) (max (Ideal.ofBits .f32 0xC0000000#32) (x32 (gram V) (corr V n)))) + (Ideal.ofBits .f32 0x40000000#32)) (Ideal.ofBits .f32 0x40800000#32)) * (Ideal.ofBits .f32 0x42000000#32))) :=
  (congrFun (v428_eq V) _).trans (round_at (v427_n_2_at V n))

theorem v429_n_2_at (n : Fin 32768) :
    v429 V (ix2 n (2 : Fin 4)) = (FloatOps.fptosi (F := Ideal) (φ := .f32) 32 (FloatOps.roundeven (F := Ideal) (φ := .f32) ((Ideal.div ((min (Ideal.ofBits .f32 0x40000000#32) (max (Ideal.ofBits .f32 0xC0000000#32) (x32 (gram V) (corr V n)))) + (Ideal.ofBits .f32 0x40000000#32)) (Ideal.ofBits .f32 0x40800000#32)) * (Ideal.ofBits .f32 0x42000000#32)))) :=
  (congrFun (v429_eq V) _).trans (toInt_at (v428_n_2_at V n))

theorem call7_v2_n_2_at (n : Fin 32768) :
    call7_v2 V (ix2 n (2 : Fin 4)) = (IntOp.maxsi 0#32 (FloatOps.fptosi (F := Ideal) (φ := .f32) 32 (FloatOps.roundeven (F := Ideal) (φ := .f32) ((Ideal.div ((min (Ideal.ofBits .f32 0x40000000#32) (max (Ideal.ofBits .f32 0xC0000000#32) (x32 (gram V) (corr V n)))) + (Ideal.ofBits .f32 0x40000000#32)) (Ideal.ofBits .f32 0x40800000#32)) * (Ideal.ofBits .f32 0x42000000#32))))) :=
  (congrFun (call7_v2_eq V) _).trans (maxsi_at (call7_v1_n_2_at V n) (v429_n_2_at V n))

theorem v430_n_2_at (n : Fin 32768) :
    v430 V (ix2 n (2 : Fin 4)) = (bin (x32 (gram V) (corr V n))) :=
  (congrFun (v430_eq V) _).trans (minsi_at (call7_v4_n_2_at V n) (call7_v2_n_2_at V n))

theorem v435_n_2_at (n : Fin 32768) :
    v435 V (ix2 n (2 : Fin 4)) = (IntOp.addi (IntOp.muli (word (i2 (gram V) (corr V n))) 33#32) (bin (x32 (gram V) (corr V n)))) :=
  (congrFun (v435_eq V) _).trans (addi_at (v434_n_2_at V n) (v430_n_2_at V n))

theorem v433_n_3_at (n : Fin 32768) :
    v433 V (ix2 n (3 : Fin 4)) = 33#32 :=
  (congrFun (v433_eq V) _).trans ((broadcastInDim_apply _ _ _ _ ix0 (fun q => q.elim0)).trans (c_23_at V))

theorem v434_n_3_at (n : Fin 32768) :
    v434 V (ix2 n (3 : Fin 4)) = (IntOp.muli (word (i3 (gram V) (corr V n))) 33#32) :=
  (congrFun (v434_eq V) _).trans (muli_at (v314_n_3_at V n) (v433_n_3_at V n))

theorem call7_v4_n_3_at (n : Fin 32768) :
    call7_v4 V (ix2 n (3 : Fin 4)) = 32#32 :=
  (congrFun (call7_v4_eq V) _).trans ((broadcastInDim_apply _ _ _ _ ix0 (fun q => q.elim0)).trans (call7_v3_at V))

theorem call7_v1_n_3_at (n : Fin 32768) :
    call7_v1 V (ix2 n (3 : Fin 4)) = 0#32 :=
  (congrFun (call7_v1_eq V) _).trans ((broadcastInDim_apply _ _ _ _ ix0 (fun q => q.elim0)).trans (call7_v0_at V))

theorem call5_v4_n_3_at (n : Fin 32768) :
    call5_v4 V (ix2 n (3 : Fin 4)) = (Ideal.ofBits .f32 0x40000000#32) :=
  (congrFun (call5_v4_eq V) _).trans ((broadcastInDim_apply _ _ _ _ ix0 (fun q => q.elim0)).trans (call5_v3_at V))

theorem call5_v1_n_3_at (n : Fin 32768) :
    call5_v1 V (ix2 n (3 : Fin 4)) = (Ideal.ofBits .f32 0xC0000000#32) :=
  (congrFun (call5_v1_eq V) _).trans ((broadcastInDim_apply _ _ _ _ ix0 (fun q => q.elim0)).trans (call5_v0_at V))

theorem v418_n_0_at (n : Fin 32768) :
    v418 V (ix2 n (0 : Fin 1)) = (x33 (gram V) (corr V n)) :=
  (congrFun (v418_eq V) _).trans ((broadcastInDim_apply _ _ _ _ (ix1 n) (fun q => match q with | ⟨0, _⟩ => rfl)).trans (v375_n_at V n))

theorem v419_n_3_at (n : Fin 32768) :
    v419 V (ix2 n (3 : Fin 4)) = (x33 (gram V) (corr V n)) :=
  (congrFun (v419_eq V) _).trans ((columns4_at _ (3 : Fin 4)).trans (v418_n_0_at V n))

theorem call5_v2_n_3_at (n : Fin 32768) :
    call5_v2 V (ix2 n (3 : Fin 4)) = (max (Ideal.ofBits .f32 0xC0000000#32) (x33 (gram V) (corr V n))) :=
  (congrFun (call5_v2_eq V) _).trans (max_at (call5_v1_n_3_at V n) (v419_n_3_at V n))

theorem v421_n_3_at (n : Fin 32768) :
    v421 V (ix2 n (3 : Fin 4)) = (min (Ideal.ofBits .f32 0x40000000#32) (max (Ideal.ofBits .f32 0xC0000000#32) (x33 (gram V) (corr V n)))) :=
  (congrFun (v421_eq V) _).trans (min_at (call5_v4_n_3_at V n) (call5_v2_n_3_at V n))

theorem v422_n_3_at (n : Fin 32768) :
    v422 V (ix2 n (3 : Fin 4)) = (Ideal.ofBits .f32 0x40000000#32) :=
  (congrFun (v422_eq V) _).trans ((broadcastInDim_apply _ _ _ _ ix0 (fun q => q.elim0)).trans (cst_18_at V))

theorem v423_n_3_at (n : Fin 32768) :
    v423 V (ix2 n (3 : Fin 4)) = ((min (Ideal.ofBits .f32 0x40000000#32) (max (Ideal.ofBits .f32 0xC0000000#32) (x33 (gram V) (corr V n)))) + (Ideal.ofBits .f32 0x40000000#32)) :=
  (congrFun (v423_eq V) _).trans (add_at (v421_n_3_at V n) (v422_n_3_at V n))

theorem v424_n_3_at (n : Fin 32768) :
    v424 V (ix2 n (3 : Fin 4)) = (Ideal.ofBits .f32 0x40800000#32) :=
  (congrFun (v424_eq V) _).trans ((broadcastInDim_apply _ _ _ _ ix0 (fun q => q.elim0)).trans (cst_19_at V))

theorem v425_n_3_at (n : Fin 32768) :
    v425 V (ix2 n (3 : Fin 4)) = (Ideal.div ((min (Ideal.ofBits .f32 0x40000000#32) (max (Ideal.ofBits .f32 0xC0000000#32) (x33 (gram V) (corr V n)))) + (Ideal.ofBits .f32 0x40000000#32)) (Ideal.ofBits .f32 0x40800000#32)) :=
  (congrFun (v425_eq V) _).trans (div_at (v423_n_3_at V n) (v424_n_3_at V n))

theorem v426_n_3_at (n : Fin 32768) :
    v426 V (ix2 n (3 : Fin 4)) = (Ideal.ofBits .f32 0x42000000#32) :=
  (congrFun (v426_eq V) _).trans ((broadcastInDim_apply _ _ _ _ ix0 (fun q => q.elim0)).trans (cst_20_at V))

theorem v427_n_3_at (n : Fin 32768) :
    v427 V (ix2 n (3 : Fin 4)) = ((Ideal.div ((min (Ideal.ofBits .f32 0x40000000#32) (max (Ideal.ofBits .f32 0xC0000000#32) (x33 (gram V) (corr V n)))) + (Ideal.ofBits .f32 0x40000000#32)) (Ideal.ofBits .f32 0x40800000#32)) * (Ideal.ofBits .f32 0x42000000#32)) :=
  (congrFun (v427_eq V) _).trans (mul_at (v425_n_3_at V n) (v426_n_3_at V n))

theorem v428_n_3_at (n : Fin 32768) :
    v428 V (ix2 n (3 : Fin 4)) = (FloatOps.roundeven (F := Ideal) (φ := .f32) ((Ideal.div ((min (Ideal.ofBits .f32 0x40000000#32) (max (Ideal.ofBits .f32 0xC0000000#32) (x33 (gram V) (corr V n)))) + (Ideal.ofBits .f32 0x40000000#32)) (Ideal.ofBits .f32 0x40800000#32)) * (Ideal.ofBits .f32 0x42000000#32))) :=
  (congrFun (v428_eq V) _).trans (round_at (v427_n_3_at V n))

theorem v429_n_3_at (n : Fin 32768) :
    v429 V (ix2 n (3 : Fin 4)) = (FloatOps.fptosi (F := Ideal) (φ := .f32) 32 (FloatOps.roundeven (F := Ideal) (φ := .f32) ((Ideal.div ((min (Ideal.ofBits .f32 0x40000000#32) (max (Ideal.ofBits .f32 0xC0000000#32) (x33 (gram V) (corr V n)))) + (Ideal.ofBits .f32 0x40000000#32)) (Ideal.ofBits .f32 0x40800000#32)) * (Ideal.ofBits .f32 0x42000000#32)))) :=
  (congrFun (v429_eq V) _).trans (toInt_at (v428_n_3_at V n))

theorem call7_v2_n_3_at (n : Fin 32768) :
    call7_v2 V (ix2 n (3 : Fin 4)) = (IntOp.maxsi 0#32 (FloatOps.fptosi (F := Ideal) (φ := .f32) 32 (FloatOps.roundeven (F := Ideal) (φ := .f32) ((Ideal.div ((min (Ideal.ofBits .f32 0x40000000#32) (max (Ideal.ofBits .f32 0xC0000000#32) (x33 (gram V) (corr V n)))) + (Ideal.ofBits .f32 0x40000000#32)) (Ideal.ofBits .f32 0x40800000#32)) * (Ideal.ofBits .f32 0x42000000#32))))) :=
  (congrFun (call7_v2_eq V) _).trans (maxsi_at (call7_v1_n_3_at V n) (v429_n_3_at V n))

theorem v430_n_3_at (n : Fin 32768) :
    v430 V (ix2 n (3 : Fin 4)) = (bin (x33 (gram V) (corr V n))) :=
  (congrFun (v430_eq V) _).trans (minsi_at (call7_v4_n_3_at V n) (call7_v2_n_3_at V n))

theorem v435_n_3_at (n : Fin 32768) :
    v435 V (ix2 n (3 : Fin 4)) = (IntOp.addi (IntOp.muli (word (i3 (gram V) (corr V n))) 33#32) (bin (x33 (gram V) (corr V n)))) :=
  (congrFun (v435_eq V) _).trans (addi_at (v434_n_3_at V n) (v430_n_3_at V n))

theorem cst_24_at :
    cst_24 V ix0 = 0 :=
  (congrFun (cst_24_eq V) _).trans (Ideal.ofBits_zero_f32)

theorem v438_n_0_0_at (n : Fin 32768) :
    v438 V (ix3 n (0 : Fin 4) (0 : Fin 1)) = (word (i0 (gram V) (corr V n))) :=
  (congrFun (v438_eq V) _).trans ((broadcastInDim_apply _ _ _ _ (ix2 n (0 : Fin 4)) (fun q => match q with | ⟨0, _⟩ => rfl | ⟨1, _⟩ => rfl)).trans (v314_n_0_at V n))

theorem v437_a_c_at (a : Fin 256) (c : Fin 64) :
    v437 V (ix2 a c) = ((dict V) c a) :=
  (congrFun (v437_eq V) _).trans (transpose_apply _ _ _ _ (ix2 c a) (fun q => match q with | ⟨0, _⟩ => rfl | ⟨1, _⟩ => rfl))

theorem v439_n_0_c_at (n : Fin 32768) (c : Fin 64) :
    v439 V (ix3 n (0 : Fin 4) c) = ((dict V) c (i0 (gram V) (corr V n))) :=
  (congrFun (v439_eq V) _).trans ((rows_known _ _ _ (v438_n_0_0_at V n) (pick_word _)).trans (v437_a_c_at V _ _))

theorem v431_n_0_0_at (n : Fin 32768) :
    v431 V (ix3 n (0 : Fin 4) (0 : Fin 1)) = (bin (x30 (gram V) (corr V n))) :=
  (congrFun (v431_eq V) _).trans ((broadcastInDim_apply _ _ _ _ (ix2 n (0 : Fin 4)) (fun q => match q with | ⟨0, _⟩ => rfl | ⟨1, _⟩ => rfl)).trans (v430_n_0_at V n))

theorem v432_n_0_at (n : Fin 32768) :
    v432 V (ix2 n (0 : Fin 4)) = (v420 V (ix1 (pick 33 (bin (x30 (gram V) (corr V n)))))) :=
  (congrFun (v432_eq V) _).trans (table_known _ _ _ (v431_n_0_0_at V n))

theorem v440_n_0_0_at (n : Fin 32768) :
    v440 V (ix3 n (0 : Fin 4) (0 : Fin 1)) = (v420 V (ix1 (pick 33 (bin (x30 (gram V) (corr V n)))))) :=
  (congrFun (v440_eq V) _).trans ((broadcastInDim_apply _ _ _ _ (ix2 n (0 : Fin 4)) (fun q => match q with | ⟨0, _⟩ => rfl | ⟨1, _⟩ => rfl)).trans (v432_n_0_at V n))

theorem v441_n_0_c_at (n : Fin 32768) (c : Fin 64) :
    v441 V (ix3 n (0 : Fin 4) c) = (v420 V (ix1 (pick 33 (bin (x30 (gram V) (corr V n)))))) :=
  (congrFun (v441_eq V) _).trans ((broadcastInDim_apply _ _ _ _ (ix3 n (0 : Fin 4) (0 : Fin 1)) (fun q => match q with | ⟨0, _⟩ => rfl | ⟨1, _⟩ => rfl | ⟨2, _⟩ => rfl)).trans (v440_n_0_0_at V n))

theorem v442_n_0_c_at (n : Fin 32768) (c : Fin 64) :
    v442 V (ix3 n (0 : Fin 4) c) = (((dict V) c (i0 (gram V) (corr V n))) * (v420 V (ix1 (pick 33 (bin (x30 (gram V) (corr V n))))))) :=
  (congrFun (v442_eq V) _).trans (mul_at (v439_n_0_c_at V n c) (v441_n_0_c_at V n c))

theorem v438_n_1_0_at (n : Fin 32768) :
    v438 V (ix3 n (1 : Fin 4) (0 : Fin 1)) = (word (i1 (gram V) (corr V n))) :=
  (congrFun (v438_eq V) _).trans ((broadcastInDim_apply _ _ _ _ (ix2 n (1 : Fin 4)) (fun q => match q with | ⟨0, _⟩ => rfl | ⟨1, _⟩ => rfl)).trans (v314_n_1_at V n))

theorem v439_n_1_c_at (n : Fin 32768) (c : Fin 64) :
    v439 V (ix3 n (1 : Fin 4) c) = ((dict V) c (i1 (gram V) (corr V n))) :=
  (congrFun (v439_eq V) _).trans ((rows_known _ _ _ (v438_n_1_0_at V n) (pick_word _)).trans (v437_a_c_at V _ _))

theorem v431_n_1_0_at (n : Fin 32768) :
    v431 V (ix3 n (1 : Fin 4) (0 : Fin 1)) = (bin (x31 (gram V) (corr V n))) :=
  (congrFun (v431_eq V) _).trans ((broadcastInDim_apply _ _ _ _ (ix2 n (1 : Fin 4)) (fun q => match q with | ⟨0, _⟩ => rfl | ⟨1, _⟩ => rfl)).trans (v430_n_1_at V n))

theorem v432_n_1_at (n : Fin 32768) :
    v432 V (ix2 n (1 : Fin 4)) = (v420 V (ix1 (pick 33 (bin (x31 (gram V) (corr V n)))))) :=
  (congrFun (v432_eq V) _).trans (table_known _ _ _ (v431_n_1_0_at V n))

theorem v440_n_1_0_at (n : Fin 32768) :
    v440 V (ix3 n (1 : Fin 4) (0 : Fin 1)) = (v420 V (ix1 (pick 33 (bin (x31 (gram V) (corr V n)))))) :=
  (congrFun (v440_eq V) _).trans ((broadcastInDim_apply _ _ _ _ (ix2 n (1 : Fin 4)) (fun q => match q with | ⟨0, _⟩ => rfl | ⟨1, _⟩ => rfl)).trans (v432_n_1_at V n))

theorem v441_n_1_c_at (n : Fin 32768) (c : Fin 64) :
    v441 V (ix3 n (1 : Fin 4) c) = (v420 V (ix1 (pick 33 (bin (x31 (gram V) (corr V n)))))) :=
  (congrFun (v441_eq V) _).trans ((broadcastInDim_apply _ _ _ _ (ix3 n (1 : Fin 4) (0 : Fin 1)) (fun q => match q with | ⟨0, _⟩ => rfl | ⟨1, _⟩ => rfl | ⟨2, _⟩ => rfl)).trans (v440_n_1_0_at V n))

theorem v442_n_1_c_at (n : Fin 32768) (c : Fin 64) :
    v442 V (ix3 n (1 : Fin 4) c) = (((dict V) c (i1 (gram V) (corr V n))) * (v420 V (ix1 (pick 33 (bin (x31 (gram V) (corr V n))))))) :=
  (congrFun (v442_eq V) _).trans (mul_at (v439_n_1_c_at V n c) (v441_n_1_c_at V n c))

theorem v438_n_2_0_at (n : Fin 32768) :
    v438 V (ix3 n (2 : Fin 4) (0 : Fin 1)) = (word (i2 (gram V) (corr V n))) :=
  (congrFun (v438_eq V) _).trans ((broadcastInDim_apply _ _ _ _ (ix2 n (2 : Fin 4)) (fun q => match q with | ⟨0, _⟩ => rfl | ⟨1, _⟩ => rfl)).trans (v314_n_2_at V n))

theorem v439_n_2_c_at (n : Fin 32768) (c : Fin 64) :
    v439 V (ix3 n (2 : Fin 4) c) = ((dict V) c (i2 (gram V) (corr V n))) :=
  (congrFun (v439_eq V) _).trans ((rows_known _ _ _ (v438_n_2_0_at V n) (pick_word _)).trans (v437_a_c_at V _ _))

theorem v431_n_2_0_at (n : Fin 32768) :
    v431 V (ix3 n (2 : Fin 4) (0 : Fin 1)) = (bin (x32 (gram V) (corr V n))) :=
  (congrFun (v431_eq V) _).trans ((broadcastInDim_apply _ _ _ _ (ix2 n (2 : Fin 4)) (fun q => match q with | ⟨0, _⟩ => rfl | ⟨1, _⟩ => rfl)).trans (v430_n_2_at V n))

theorem v432_n_2_at (n : Fin 32768) :
    v432 V (ix2 n (2 : Fin 4)) = (v420 V (ix1 (pick 33 (bin (x32 (gram V) (corr V n)))))) :=
  (congrFun (v432_eq V) _).trans (table_known _ _ _ (v431_n_2_0_at V n))

theorem v440_n_2_0_at (n : Fin 32768) :
    v440 V (ix3 n (2 : Fin 4) (0 : Fin 1)) = (v420 V (ix1 (pick 33 (bin (x32 (gram V) (corr V n)))))) :=
  (congrFun (v440_eq V) _).trans ((broadcastInDim_apply _ _ _ _ (ix2 n (2 : Fin 4)) (fun q => match q with | ⟨0, _⟩ => rfl | ⟨1, _⟩ => rfl)).trans (v432_n_2_at V n))

theorem v441_n_2_c_at (n : Fin 32768) (c : Fin 64) :
    v441 V (ix3 n (2 : Fin 4) c) = (v420 V (ix1 (pick 33 (bin (x32 (gram V) (corr V n)))))) :=
  (congrFun (v441_eq V) _).trans ((broadcastInDim_apply _ _ _ _ (ix3 n (2 : Fin 4) (0 : Fin 1)) (fun q => match q with | ⟨0, _⟩ => rfl | ⟨1, _⟩ => rfl | ⟨2, _⟩ => rfl)).trans (v440_n_2_0_at V n))

theorem v442_n_2_c_at (n : Fin 32768) (c : Fin 64) :
    v442 V (ix3 n (2 : Fin 4) c) = (((dict V) c (i2 (gram V) (corr V n))) * (v420 V (ix1 (pick 33 (bin (x32 (gram V) (corr V n))))))) :=
  (congrFun (v442_eq V) _).trans (mul_at (v439_n_2_c_at V n c) (v441_n_2_c_at V n c))

theorem v438_n_3_0_at (n : Fin 32768) :
    v438 V (ix3 n (3 : Fin 4) (0 : Fin 1)) = (word (i3 (gram V) (corr V n))) :=
  (congrFun (v438_eq V) _).trans ((broadcastInDim_apply _ _ _ _ (ix2 n (3 : Fin 4)) (fun q => match q with | ⟨0, _⟩ => rfl | ⟨1, _⟩ => rfl)).trans (v314_n_3_at V n))

theorem v439_n_3_c_at (n : Fin 32768) (c : Fin 64) :
    v439 V (ix3 n (3 : Fin 4) c) = ((dict V) c (i3 (gram V) (corr V n))) :=
  (congrFun (v439_eq V) _).trans ((rows_known _ _ _ (v438_n_3_0_at V n) (pick_word _)).trans (v437_a_c_at V _ _))

theorem v431_n_3_0_at (n : Fin 32768) :
    v431 V (ix3 n (3 : Fin 4) (0 : Fin 1)) = (bin (x33 (gram V) (corr V n))) :=
  (congrFun (v431_eq V) _).trans ((broadcastInDim_apply _ _ _ _ (ix2 n (3 : Fin 4)) (fun q => match q with | ⟨0, _⟩ => rfl | ⟨1, _⟩ => rfl)).trans (v430_n_3_at V n))

theorem v432_n_3_at (n : Fin 32768) :
    v432 V (ix2 n (3 : Fin 4)) = (v420 V (ix1 (pick 33 (bin (x33 (gram V) (corr V n)))))) :=
  (congrFun (v432_eq V) _).trans (table_known _ _ _ (v431_n_3_0_at V n))

theorem v440_n_3_0_at (n : Fin 32768) :
    v440 V (ix3 n (3 : Fin 4) (0 : Fin 1)) = (v420 V (ix1 (pick 33 (bin (x33 (gram V) (corr V n)))))) :=
  (congrFun (v440_eq V) _).trans ((broadcastInDim_apply _ _ _ _ (ix2 n (3 : Fin 4)) (fun q => match q with | ⟨0, _⟩ => rfl | ⟨1, _⟩ => rfl)).trans (v432_n_3_at V n))

theorem v441_n_3_c_at (n : Fin 32768) (c : Fin 64) :
    v441 V (ix3 n (3 : Fin 4) c) = (v420 V (ix1 (pick 33 (bin (x33 (gram V) (corr V n)))))) :=
  (congrFun (v441_eq V) _).trans ((broadcastInDim_apply _ _ _ _ (ix3 n (3 : Fin 4) (0 : Fin 1)) (fun q => match q with | ⟨0, _⟩ => rfl | ⟨1, _⟩ => rfl | ⟨2, _⟩ => rfl)).trans (v440_n_3_0_at V n))

theorem v442_n_3_c_at (n : Fin 32768) (c : Fin 64) :
    v442 V (ix3 n (3 : Fin 4) c) = (((dict V) c (i3 (gram V) (corr V n))) * (v420 V (ix1 (pick 33 (bin (x33 (gram V) (corr V n))))))) :=
  (congrFun (v442_eq V) _).trans (mul_at (v439_n_3_c_at V n c) (v441_n_3_c_at V n c))

theorem v443_n_c_at (n : Fin 32768) (c : Fin 64) :
    v443 V (ix2 n c) = ((((((dict V) c (i0 (gram V) (corr V n))) * (v420 V (ix1 (pick 33 (bin (x30 (gram V) (corr V n))))))) + (((dict V) c (i1 (gram V) (corr V n))) * (v420 V (ix1 (pick 33 (bin (x31 (gram V) (corr V n)))))))) + (((dict V) c (i2 (gram V) (corr V n))) * (v420 V (ix1 (pick 33 (bin (x32 (gram V) (corr V n)))))))) + (((dict V) c (i3 (gram V) (corr V n))) * (v420 V (ix1 (pick 33 (bin (x33 (gram V) (corr V n)))))))) :=
  (congrFun (v443_eq V) _).trans (midSum4_at (cst_24_at V) _ (v442_n_0_c_at V n c) (v442_n_1_c_at V n c) (v442_n_2_c_at V n c) (v442_n_3_c_at V n c))

end Cert.Proof.Ref

end
-- ==== Proof.RefEnd.lean ====
/- The reference's three results as functions of its arguments: the pictures, the loss and the tokens. -/
module

public import proofs.«01_k».proof.Proof.RefAt2
public import proofs.«01_k».proof.Proof.Goal

@[expose] public section

noncomputable section

namespace Cert.Proof.Ref

open Cert.ReferenceIdeal Cert.ReferenceIdeal.Gen
open Idealize.ShloMosaic hiding ix0 ix1 ix2 ix3 ix4 eq_ix2 eq_ix4
open Idealize.ShloMosaic.ValueIdx Idealize.SL.Sem

variable (V : Valuation τ sig (Elt Ideal))

/-- The first argument, by image, channel, row and column. -/
def Z (b : Fin 32) (c : Fin 64) (h w : Fin 32) : EReal := arg0 V (ix4 b c h w)
/-- The second argument, by channel and atom. -/
def D (c : Fin 64) (a : Fin 256) : EReal := arg1 V (ix2 c a)
/-- The channels of pixel `n`. -/
def sig_n (n : Fin 32768) : Fin 64 → EReal := M.pixel (Z V) (pb n) (ph n) (pw n)

/-! ## The normalised atoms, their Gram matrix and the correlations -/

theorem v4_at (a : Fin 256) : v4 V (ix1 a) = ∑ c, D V c a * D V c a :=
  (congrFun (v4_eq V) _).trans ((colSum_at _ (congrFun (cst_eq V) _) _ _ a).trans
    (Finset.sum_congr rfl fun _ _ => (congrFun (v3_eq V) _).trans (mul_at rfl rfl)))

theorem v5_at (a : Fin 256) : v5 V (ix2 (0 : Fin 1) a) = ∑ c, D V c a * D V c a :=
  (congrFun (v5_eq V) _).trans ((broadcastInDim_apply _ _ _ _ (ix1 a) (fun q => match q with | ⟨0, _⟩ => rfl)).trans (v4_at V a))

theorem v7_at (a : Fin 256) : v7 V (ix2 (0 : Fin 1) a) = Ideal.ofBits .f32 0x2EDBE6FF#32 :=
  (congrFun (v7_eq V) _).trans ((broadcastInDim_apply _ _ _ _ ix0 (fun q => q.elim0)).trans (congrFun (cst_0_eq V) _))

theorem v8_at (a : Fin 256) : v8 V (ix2 (0 : Fin 1) a) = M.len (D V) a :=
  (congrFun (v8_eq V) _).trans (max_at ((congrFun (v6_eq V) _).trans (sqrt_at (v5_at V a))) (v7_at V a))

theorem v9_at (c : Fin 64) (a : Fin 256) : v9 V (ix2 c a) = M.len (D V) a :=
  (congrFun (v9_eq V) _).trans ((broadcastInDim_apply _ _ _ _ (ix2 (0 : Fin 1) a)
    (fun q => match q with | ⟨0, _⟩ => rfl | ⟨1, _⟩ => rfl)).trans (v8_at V a))

theorem v10_at (c : Fin 64) (a : Fin 256) : v10 V (ix2 c a) = M.unit (D V) c a :=
  (congrFun (v10_eq V) _).trans (div_at rfl (v9_at V c a))

theorem dict_eq : dict V = M.unit (D V) := funext fun c => funext fun a => v10_at V c a

theorem v11_at (a : Fin 256) (c : Fin 64) : v11 V (ix2 a c) = M.unit (D V) c a :=
  (congrFun (v11_eq V) _).trans ((transpose_apply [1, 0] (v10 V) _ _ (ix2 c a)
    (fun q => match q with | ⟨0, _⟩ => rfl | ⟨1, _⟩ => rfl)).trans (v10_at V c a))

theorem v13_at (a : Fin 256) (c : Fin 64) : v13 V (ix2 a c) = M.unit (D V) c a :=
  (congrFun (v13_eq V) _).trans ((transpose_apply [1, 0] (v10 V) _ _ (ix2 c a)
    (fun q => match q with | ⟨0, _⟩ => rfl | ⟨1, _⟩ => rfl)).trans (v10_at V c a))

theorem v12_at (a b : Fin 256) : v12 V (ix2 a b) = M.gramOf (M.unit (D V)) a b :=
  (congrFun (v12_eq V) _).trans ((StackMember.dotGeneral_plain_apply (m := 256) (k := 64) (n := 256) none (v11 V) (v10 V) a b).trans
    (Finset.sum_congr rfl fun c _ => congrArg₂ (· * ·) (v11_at V a c) (v10_at V c b)))

theorem gram_eq : gram V = M.gramOf (M.unit (D V)) := funext fun a => funext fun b => v12_at V a b

theorem v0_at (b h w : Fin 32) (c : Fin 64) : v0 V (ix4 b h w c) = Z V b c h w :=
  (congrFun (v0_eq V) _).trans (transpose_apply [0, 2, 3, 1] (arg0 V) _ _ (ix4 b c h w)
    (fun q => match q with | ⟨0, _⟩ => rfl | ⟨1, _⟩ => rfl | ⟨2, _⟩ => rfl | ⟨3, _⟩ => rfl))

theorem v2_at (c : Fin 64) (n : Fin 32768) : v2 V (ix2 c n) = sig_n V n c :=
  (congrFun (v2_eq V) _).trans ((transpose_apply [1, 0] (v1 V) _ _ (ix2 n c)
    (fun q => match q with | ⟨0, _⟩ => rfl | ⟨1, _⟩ => rfl)).trans
    ((congrFun (v1_eq V) _).trans ((cast_pixels (v0 V) _ n c).trans (v0_at V _ _ _ c))))

theorem v14_at (a : Fin 256) (n : Fin 32768) : v14 V (ix2 a n) = M.corrOf (M.unit (D V)) (sig_n V n) a :=
  (congrFun (v14_eq V) _).trans ((StackMember.dotGeneral_plain_apply (m := 256) (k := 64) (n := 32768) none (v13 V) (v2 V) a n).trans
    (Finset.sum_congr rfl fun c _ => congrArg₂ (· * ·) (v13_at V a c) (v2_at V c n)))

theorem corr_eq (n : Fin 32768) : corr V n = M.corrOf (M.unit (D V)) (sig_n V n) :=
  funext fun a => (congrFun (v15_eq V) _).trans ((transpose_apply [1, 0] (v14 V) _ _ (ix2 a n)
    (fun q => match q with | ⟨0, _⟩ => rfl | ⟨1, _⟩ => rfl)).trans (v14_at V a n))

/-! ## The table of bin centres -/

theorem call4_v4_at (i : Fin 32) : call4_v4 V (ix1 i) = ((i.val : ℝ) : EReal) := by
  have := i.isLt
  rw [call4_v4_eq]
  show (((BitVec.ofNat 32 i.val).toInt : ℝ) : EReal) = _
  rw [BitVec.toInt_eq_toNat_of_lt (by simp; omega)]
  have e : (BitVec.ofNat 32 i.val).toNat = i.val := by simp; omega
  rw [e]; norm_cast

theorem call4_v6_at (i : Fin 32) : call4_v6 V (ix1 i) = ((i.val / 32 : ℝ) : EReal) := by
  refine (congrFun (call4_v6_eq V) _).trans ((div_at (call4_v4_at V i) ((congrFun (call4_v5_eq V) _).trans
    ((broadcastInDim_apply _ _ _ _ ix0 (fun q => q.elim0)).trans (congrFun (call4_cst_0_eq V) _)))).trans ?_)
  show Ideal.div _ (Ideal.ofBits .f32 0x42000000#32) = _
  rw [M.bits_thirty_two]
  unfold Ideal.div
  rw [if_neg (by norm_cast), ← EReal.coe_inv, ← EReal.coe_mul, div_eq_mul_inv]

theorem call4_v10_at (i : Fin 32) : call4_v10 V (ix1 i) = ((-2 : ℝ) : EReal) :=
  (congrFun (call4_v10_eq V) _).trans ((broadcastInDim_apply _ _ _ _ (ix1 (0 : Fin 1)) (fun q => match q with | ⟨0, _⟩ => rfl)).trans
    ((congrFun (call4_v7_eq V) _).trans ((cast_0 _ _).trans ((congrFun (call4_v0_eq V) _).trans
      ((congrFun (cst_14_eq V) _).trans M.bits_minus_two)))))

theorem call4_v13_at (i : Fin 32) : call4_v13 V (ix1 i) = ((2 : ℝ) : EReal) :=
  (congrFun (call4_v13_eq V) _).trans ((broadcastInDim_apply _ _ _ _ (ix1 (0 : Fin 1)) (fun q => match q with | ⟨0, _⟩ => rfl)).trans
    ((congrFun (call4_v12_eq V) _).trans ((cast_0 _ _).trans ((congrFun (call4_v1_eq V) _).trans
      ((congrFun (cst_15_eq V) _).trans M.bits_two)))))

theorem call4_v9_at (i : Fin 32) : call4_v9 V (ix1 i) = ((1 - i.val / 32 : ℝ) : EReal) := by
  refine (congrFun (call4_v9_eq V) _).trans ((sub_at ((congrFun (call4_v8_eq V) _).trans
    ((broadcastInDim_apply _ _ _ _ ix0 (fun q => q.elim0)).trans ((congrFun (call4_cst_1_eq V) _).trans
      Ideal.ofBits_one_f32))) (call4_v6_at V i)).trans ?_)
  norm_cast

theorem call4_v15_at (i : Fin 32) : call4_v15 V (ix1 i) = ((i.val * (1 / 8) - 2 : ℝ) : EReal) := by
  refine (congrFun (call4_v15_eq V) _).trans ((add_at
    ((congrFun (call4_v11_eq V) _).trans (mul_at (call4_v10_at V i) (call4_v9_at V i)))
    ((congrFun (call4_v14_eq V) _).trans (mul_at (call4_v13_at V i) (call4_v6_at V i)))).trans ?_)
  rw [← EReal.coe_mul, ← EReal.coe_mul, ← EReal.coe_add]
  congr 1; ring

theorem v420_at (i : Fin 33) : v420 V (ix1 i) = ((i.val * (1 / 8) - 2 : ℝ) : EReal) := by
  have hi := i.isLt
  rw [v420_eq]
  by_cases h : i.val < 32
  · exact (concatenate_pair_apply_left _ (call4_v15 V) (call4_v16 V) concatenates_S32_S1_S33_d0 _ rfl (ix1 (⟨i.val, h⟩ : Fin 32))
      (fun q => match q with | ⟨0, _⟩ => rfl)).trans (call4_v15_at V ⟨i.val, h⟩)
  · have e : i.val = 32 := by omega
    refine (concatenate_pair_apply_right _ (call4_v15 V) (call4_v16 V) concatenates_S32_S1_S33_d0 _ rfl rfl (ix1 (0 : Fin 1))
      (fun q hq => match q, hq with | ⟨0, _⟩, hq => absurd rfl hq) (by show 0 + 32 = i.val; omega)).trans ?_
    refine (congrFun (call4_v16_eq V) _).trans ((broadcastInDim_apply _ _ _ _ ix0 (fun q => q.elim0)).trans
      ((congrFun (call4_v1_eq V) _).trans ((congrFun (cst_15_eq V) _).trans (M.bits_two.trans ?_))))
    rw [e]; congr 1; norm_num

theorem bin_range (x : EReal) : 0 ≤ (M.bin x).toInt ∧ (M.bin x).toInt ≤ 32 := by
  unfold M.bin
  generalize FloatOps.fptosi (F := Ideal) (φ := .f32) 32 _ = y
  have h32 : (32#32 : BitVec 32).toInt = 32 := by decide
  have h0 : (0#32 : BitVec 32).toInt = 0 := by decide
  unfold IntOp.minsi IntOp.maxsi
  simp only [BitVec.slt, decide_eq_true_eq]
  split_ifs <;> omega

theorem centre_at (x : EReal) : v420 V (ix1 (pick 33 (M.bin x))) = M.centre x := by
  obtain ⟨h0, h1⟩ := bin_range x
  rw [v420_at, M.centre, M.middle_real]
  have e : ((pick 33 (M.bin x)).val : ℤ) = (M.bin x).toInt := by
    show ((min (M.bin x).toInt.toNat 32 : ℕ) : ℤ) = _
    omega
  have e' : ((pick 33 (M.bin x)).val : ℝ) = ((M.bin x).toInt : ℝ) := by rw [← e]; norm_cast
  rw [e']

/-! ## The results -/

theorem v443_at (n : Fin 32768) (c : Fin 64) : v443 V (ix2 n c) = M.rebuilt (D V) (sig_n V n) c := by
  rw [v443_n_c_at]
  simp only [centre_at, dict_eq, gram_eq, corr_eq]
  rfl

theorem v435_at (n : Fin 32768) (k : Fin 4) : v435 V (ix2 n k) = M.tokens (D V) (sig_n V n) k := by
  unfold M.tokens
  rw [← gram_eq, ← corr_eq]
  match k with
  | 0 => exact v435_n_0_at V n
  | 1 => exact v435_n_1_at V n
  | 2 => exact v435_n_2_at V n
  | 3 => exact v435_n_3_at V n

theorem sig_pix (b h w : Fin 32) : sig_n V (pix b h w) = M.pixel (Z V) b h w := by
  unfold sig_n; rw [pb_pix, ph_pix, pw_pix]

theorem v436_at (b h w : Fin 32) (k : Fin 4) : v436 V (ix4 b h w k) = M.tokens (D V) (M.pixel (Z V) b h w) k := by
  rw [← sig_pix]
  exact (congrFun (v436_eq V) _).trans ((cast_image (v435 V) _ b h w k).trans (v435_at V _ k))

theorem v444_at (b h w : Fin 32) (c : Fin 64) : v444 V (ix4 b h w c) = M.rebuilt (D V) (M.pixel (Z V) b h w) c := by
  rw [← sig_pix]
  exact (congrFun (v444_eq V) _).trans ((cast_image (v443 V) _ b h w c).trans (v443_at V _ c))

theorem v445_at (b : Fin 32) (c : Fin 64) (h w : Fin 32) : v445 V (ix4 b c h w) = M.rebuilt (D V) (M.pixel (Z V) b h w) c :=
  (congrFun (v445_eq V) _).trans ((transpose_apply [0, 3, 1, 2] (v444 V) transposes_S32x32x32x64_S32x64x32x32_0_3_1_2
    (ix4 b c h w) (ix4 b h w c)
    (fun q => match q with | ⟨0, _⟩ => rfl | ⟨1, _⟩ => rfl | ⟨2, _⟩ => rfl | ⟨3, _⟩ => rfl)).trans (v444_at V b h w c))

theorem v457_at (b : Fin 32) (c : Fin 64) (h w : Fin 32) : v457 V (ix4 b c h w) = M.picture (Z V) (D V) b c h w :=
  (congrFun (v457_eq V) _).trans (add_at rfl ((congrFun (v456_eq V) _).trans (sub_at (v445_at V b c h w) rfl)))

/-- A sum over all entries of a picture array, axis by axis. -/
theorem sum_entries (f : S32x64x32x32.Idx → EReal) : ∑ i, f i = ∑ b : Fin 32, ∑ c : Fin 64, ∑ h : Fin 32, ∑ w : Fin 32, f (ix4 b c h w) := by
  have e := Equiv.sum_comp (⟨fun p => ix4 p.1 p.2.1 p.2.2.1 p.2.2.2, fun i => (i 0, i 1, i 2, i 3), fun _ => rfl,
    fun i => (eq_ix4 i).symm⟩ : (Fin 32 × Fin 64 × Fin 32 × Fin 32) ≃ S32x64x32x32.Idx) f
  rw [← e]
  simp only [Fintype.sum_prod_type]
  rfl

theorem total_at {x : FVec Ideal S32x64x32x32 .f32} {v : FVec Ideal S_ .f32} (hv : v ix0 = Ideal.ofBits .f32 0x00000000#32)
    (hx : ∀ b c h w, x (ix4 b c h w) = M.miss (D V) (M.pixel (Z V) b h w) c)
    (hr : S32x64x32x32.ReducesTo [0, 1, 2, 3] S_) (h0 : 0 < S_.numel) : Host.reduceAdd x v hr h0 ix0 = M.missSum (Z V) (D V) := by
  rw [hostReduceAdd_apply, Ideal.hostReduceAdd_total hr (fun b => b.elim0), eq_ix0 (Shape.Idx.first h0), hv, Ideal.ofBits_zero_f32,
    zero_add, sum_entries]
  simp only [hx]
  rfl

theorem v448_at : v448 V ix0 = M.missSum (Z V) (D V) :=
  (congrFun (v448_eq V) _).trans (total_at V (congrFun (cst_25_eq V) _) (fun b c h w => (congrFun (v447_eq V) _).trans
    (mul_at ((congrFun (v446_eq V) _).trans (sub_at (v445_at V b c h w) rfl))
      ((congrFun (v446_eq V) _).trans (sub_at (v445_at V b c h w) rfl)))) _ _)

theorem v452_at : v452 V ix0 = M.missSum (Z V) (D V) :=
  (congrFun (v452_eq V) _).trans (total_at V (congrFun (cst_27_eq V) _) (fun b c h w => (congrFun (v451_eq V) _).trans
    (mul_at ((congrFun (v450_eq V) _).trans (sub_at (v445_at V b c h w) rfl))
      ((congrFun (v450_eq V) _).trans (sub_at (v445_at V b c h w) rfl)))) _ _)

theorem v455_at : v455 V ix0 = M.loss (Z V) (D V) :=
  (congrFun (v455_eq V) _).trans (add_at ((congrFun (v449_eq V) _).trans (div_at (v448_at V) (congrFun (cst_26_eq V) _)))
    ((congrFun (v454_eq V) _).trans (mul_at (congrFun (cst_29_eq V) _)
      ((congrFun (v453_eq V) _).trans (div_at (v452_at V) (congrFun (cst_28_eq V) _))))))

/-- The pictures. -/
theorem pictures_eq : v457 V = fun j => M.picture (Z V) (D V) (j 0) (j 1) (j 2) (j 3) :=
  funext fun j => (congrArg (v457 V) (eq_ix4 j)).trans (v457_at V _ _ _ _)

/-- The loss. -/
theorem loss_eq : v455 V = fun _ => M.loss (Z V) (D V) :=
  funext fun j => (congrArg (v455 V) (eq_ix0 j)).trans (v455_at V)

/-- The tokens. -/
theorem tokens_eq : v436 V = fun j => M.tokens (D V) (M.pixel (Z V) (j 0) (j 1) (j 2)) (j 3) :=
  funext fun j => (congrArg (v436 V) (eq_ix4 j)).trans (v436_at V _ _ _ _)

end Cert.Proof.Ref

end
-- ==== Proof.lean ====
/- The proof of the certificate's claims: the kernel, its reading over the extended reals and the reference all run to the
   end with their arguments kept and every counter at zero; and over the extended reals the kernel and the reference, from
   equal arguments, end with equal pictures, equal losses and equal tokens. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.KerEnd
public import proofs.«01_k».proof.Proof.RefEnd

@[expose] public section

noncomputable section

namespace Cert.Proof

open Idealize.ShloMosaic Idealize.SL.Sem Idealize.ShloMosaic.StableHlo

/-- The kernel runs, keeps its arguments and ends with its counters at zero. -/
theorem frame_p : Cert.quiescent_Kernel := fun m ρ _ => Cert.Kernel.Gen.frame m ρ

/-- So does its reading over the extended reals. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono
    (fun _ h => ⟨fun c => ⟨(h.1 c _).trans (Ref.arg_end (launchContents m c) (by decide)),
      (h.1 c _).trans (Ref.arg_end (launchContents m c) (by decide))⟩, h.2⟩)
    (Ref.run m ρ)

/-- The reference's first argument, entry by entry, from the start of the run. -/
theorem images_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Ref.Z (launchContents m' c) = Ker.Z m c :=
  funext fun b => funext fun ch => funext fun y => funext fun x =>
    congrFun ((Ref.arg_end (launchContents m' c) (a := Cert.ReferenceIdeal.main_arg0) (by decide)).trans h)
      (ValueIdx.ix4 b ch y x)

/-- The reference's second argument, entry by entry, from the start of the run. -/
theorem atoms_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD}
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Ref.D (launchContents m' c) = Ker.D m c :=
  funext fun ch => funext fun a =>
    congrFun ((Ref.arg_end (launchContents m' c) (a := Cert.ReferenceIdeal.main_arg1) (by decide)).trans h) (ValueIdx.ix2 ch a)

/-- From equal arguments the kernel and the reference end with equal results. -/
theorem algebraic : Cert.algebraic_KernelIdeal_ReferenceIdeal := fun m g m' g' _ hm =>
  ⟨fun c j => M.picture (Ker.Z m c) (Ker.D m c) (j 0) (j 1) (j 2) (j 3), fun c _ => M.loss (Ker.Z m c) (Ker.D m c),
    fun c j => M.tokens (Ker.D m c) (M.pixel (Ker.Z m c) (j 0) (j 1) (j 2)) (j 3),
    (θ_run Cert.KernelIdeal.defs _ _).mono
      (fun _ h c => ⟨(h.1 c).1, (h.1 c).2.1, (h.1 c).2.2, (h.2 c).1, (h.2 c).2⟩)
      (θ_run_and (Ker.run m g) (Cert.KernelIdeal.Gen.unchanged m g)),
    (θ_run Cert.ReferenceIdeal.defs _ _).mono
      (fun r h c => by
        have eZ := images_eq (hm c).1
        have eD := atoms_eq (hm c).2
        have p := Ref.pictures_eq (launchContents m' c)
        have l := Ref.loss_eq (launchContents m' c)
        have t := Ref.tokens_eq (launchContents m' c)
        rw [eZ, eD] at p l t
        exact ⟨(h.1 c _).trans p, (h.1 c _).trans l, (h.1 c _).trans t,
          (h.1 c _).trans (Ref.arg_end (launchContents m' c) (by decide)),
          (h.1 c _).trans (Ref.arg_end (launchContents m' c) (by decide))⟩)
      (Ref.run m' g')⟩

/-- All the claims. -/
theorem claim : Cert.Claim :=
  ⟨Cert.Kernel.Gen.facts, Cert.KernelIdeal.Gen.facts, Cert.ReferenceIdeal.Gen.facts, frame_p, frame_pi, frame_ri, trivial, algebraic⟩

end Cert.Proof

end
